-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_NormGate (m : (ℓ : Loc Cert.NormGate.nD Cert.NormGate.τ Cert.NormGate.sig) → Buf (Elt Bits) ℓ) : Prop :=
  True

def Pre_NormGateIdeal (m : (ℓ : Loc Cert.NormGateIdeal.nD Cert.NormGateIdeal.τ Cert.NormGateIdeal.sig) → Buf (Elt Ideal) ℓ) : Prop :=
  True

def Pre_NormGateReferenceIdeal (m : (ℓ : Loc Cert.NormGateReferenceIdeal.nD Cert.NormGateReferenceIdeal.τ Cert.NormGateReferenceIdeal.sig) → Buf (Elt Ideal) ℓ) : Prop :=
  True

def Pre_NormMlp (m : (ℓ : Loc Cert.NormMlp.nD Cert.NormMlp.τ Cert.NormMlp.sig) → Buf (Elt Bits) ℓ) : Prop :=
  True

def Pre_NormMlpIdeal (m : (ℓ : Loc Cert.NormMlpIdeal.nD Cert.NormMlpIdeal.τ Cert.NormMlpIdeal.sig) → Buf (Elt Ideal) ℓ) : Prop :=
  True

def Pre_NormMlpReferenceIdeal (m : (ℓ : Loc Cert.NormMlpReferenceIdeal.nD Cert.NormMlpReferenceIdeal.τ Cert.NormMlpReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5)
      ∧ r.2.mem ((c.tc : Thread Cert.Weights.nD Cert.Weights.τ).loc Cert.Weights.main_arg6) = m ((c.tc : Thread Cert.Weights.nD Cert.Weights.τ).loc Cert.Weights.main_arg6)
      ∧ r.2.mem ((c.tc : Thread Cert.Weights.nD Cert.Weights.τ).loc Cert.Weights.main_arg7) = m ((c.tc : Thread Cert.Weights.nD Cert.Weights.τ).loc Cert.Weights.main_arg7)
      ∧ r.2.mem ((c.tc : Thread Cert.Weights.nD Cert.Weights.τ).loc Cert.Weights.main_arg8) = m ((c.tc : Thread Cert.Weights.nD Cert.Weights.τ).loc Cert.Weights.main_arg8)
      ∧ r.2.mem ((c.tc : Thread Cert.Weights.nD Cert.Weights.τ).loc Cert.Weights.main_arg9) = m ((c.tc : Thread Cert.Weights.nD Cert.Weights.τ).loc Cert.Weights.main_arg9)
      ∧ r.2.mem ((c.tc : Thread Cert.Weights.nD Cert.Weights.τ).loc Cert.Weights.main_arg10) = m ((c.tc : Thread Cert.Weights.nD Cert.Weights.τ).loc Cert.Weights.main_arg10))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
      ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
      ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
      ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8)
      ∧ r.2.mem ((c.tc : Thread Cert.WeightsIdeal.nD Cert.WeightsIdeal.τ).loc Cert.WeightsIdeal.main_arg9) = m ((c.tc : Thread Cert.WeightsIdeal.nD Cert.WeightsIdeal.τ).loc Cert.WeightsIdeal.main_arg9)
      ∧ r.2.mem ((c.tc : Thread Cert.WeightsIdeal.nD Cert.WeightsIdeal.τ).loc Cert.WeightsIdeal.main_arg10) = m ((c.tc : Thread Cert.WeightsIdeal.nD Cert.WeightsIdeal.τ).loc Cert.WeightsIdeal.main_arg10))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1)
      ∧ r.2.mem ((c.tc : Thread Cert.WeightsReferenceIdeal.nD Cert.WeightsReferenceIdeal.τ).loc Cert.WeightsReferenceIdeal.main_arg2) = m ((c.tc : Thread Cert.WeightsReferenceIdeal.nD Cert.WeightsReferenceIdeal.τ).loc Cert.WeightsReferenceIdeal.main_arg2)
      ∧ r.2.mem ((c.tc : Thread Cert.WeightsReferenceIdeal.nD Cert.WeightsReferenceIdeal.τ).loc Cert.WeightsReferenceIdeal.main_arg3) = m ((c.tc : Thread Cert.WeightsReferenceIdeal.nD Cert.WeightsReferenceIdeal.τ).loc Cert.WeightsReferenceIdeal.main_arg3)
      ∧ r.2.mem ((c.tc : Thread Cert.WeightsReferenceIdeal.nD Cert.WeightsReferenceIdeal.τ).loc Cert.WeightsReferenceIdeal.main_arg4) = m ((c.tc : Thread Cert.WeightsReferenceIdeal.nD Cert.WeightsReferenceIdeal.τ).loc Cert.WeightsReferenceIdeal.main_arg4)
      ∧ r.2.mem ((c.tc : Thread Cert.WeightsReferenceIdeal.nD Cert.WeightsReferenceIdeal.τ).loc Cert.WeightsReferenceIdeal.main_arg5) = m ((c.tc : Thread Cert.WeightsReferenceIdeal.nD Cert.WeightsReferenceIdeal.τ).loc Cert.WeightsReferenceIdeal.main_arg5)
      ∧ r.2.mem ((c.tc : Thread Cert.WeightsReferenceIdeal.nD Cert.WeightsReferenceIdeal.τ).loc Cert.WeightsReferenceIdeal.main_arg6) = m ((c.tc : Thread Cert.WeightsReferenceIdeal.nD Cert.WeightsReferenceIdeal.τ).loc Cert.WeightsReferenceIdeal.main_arg6)
      ∧ r.2.mem ((c.tc : Thread Cert.WeightsReferenceIdeal.nD Cert.WeightsReferenceIdeal.τ).loc Cert.WeightsReferenceIdeal.main_arg7) = m ((c.tc : Thread Cert.WeightsReferenceIdeal.nD Cert.WeightsReferenceIdeal.τ).loc Cert.WeightsReferenceIdeal.main_arg7)
      ∧ r.2.mem ((c.tc : Thread Cert.WeightsReferenceIdeal.nD Cert.WeightsReferenceIdeal.τ).loc Cert.WeightsReferenceIdeal.main_arg8) = m ((c.tc : Thread Cert.WeightsReferenceIdeal.nD Cert.WeightsReferenceIdeal.τ).loc Cert.WeightsReferenceIdeal.main_arg8)
      ∧ r.2.mem ((c.tc : Thread Cert.WeightsReferenceIdeal.nD Cert.WeightsReferenceIdeal.τ).loc Cert.WeightsReferenceIdeal.main_arg9) = m ((c.tc : Thread Cert.WeightsReferenceIdeal.nD Cert.WeightsReferenceIdeal.τ).loc Cert.WeightsReferenceIdeal.main_arg9)
      ∧ r.2.mem ((c.tc : Thread Cert.WeightsReferenceIdeal.nD Cert.WeightsReferenceIdeal.τ).loc Cert.WeightsReferenceIdeal.main_arg10) = m ((c.tc : Thread Cert.WeightsReferenceIdeal.nD Cert.WeightsReferenceIdeal.τ).loc Cert.WeightsReferenceIdeal.main_arg10))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3)
      ∧ r.2.mem ((c.tc : Thread Cert.NormInReferenceIdeal.nD Cert.NormInReferenceIdeal.τ).loc Cert.NormInReferenceIdeal.main_arg4) = m ((c.tc : Thread Cert.NormInReferenceIdeal.nD Cert.NormInReferenceIdeal.τ).loc Cert.NormInReferenceIdeal.main_arg4))
      ∧ r.2.sem = fun _ => 0)

def quiescent_NormGate [hNormGate : Cert.NormGate.Facts] : Prop :=
  ∀ (m : (ℓ : Loc Cert.NormGate.nD Cert.NormGate.τ Cert.NormGate.sig) → Buf (Elt Bits) ℓ) (g : Dev Cert.NormGate.nD → PrngReg), Pre_NormGate m →
    θ_run (Cert.NormGate.defs (F := Bits)) (onTc (τ := Cert.NormGate.τ) (Cert.NormGate.main (F := Bits))) ⟨m, fun _ => 0, g⟩ (fun r => (∀ c : Dev Cert.NormGate.nD,
      r.2.mem ((c.tc : Thread Cert.NormGate.nD Cert.NormGate.τ).loc Cert.NormGate.main_arg0) = m ((c.tc : Thread Cert.NormGate.nD Cert.NormGate.τ).loc Cert.NormGate.main_arg0)
      ∧ r.2.mem ((c.tc : Thread Cert.NormGate.nD Cert.NormGate.τ).loc Cert.NormGate.main_arg1) = m ((c.tc : Thread Cert.NormGate.nD Cert.NormGate.τ).loc Cert.NormGate.main_arg1)
      ∧ r.2.mem ((c.tc : Thread Cert.NormGate.nD Cert.NormGate.τ).loc Cert.NormGate.main_arg2) = m ((c.tc : Thread Cert.NormGate.nD Cert.NormGate.τ).loc Cert.NormGate.main_arg2)
      ∧ r.2.mem ((c.tc : Thread Cert.NormGate.nD Cert.NormGate.τ).loc Cert.NormGate.main_arg3) = m ((c.tc : Thread Cert.NormGate.nD Cert.NormGate.τ).loc Cert.NormGate.main_arg3)
      ∧ r.2.mem ((c.tc : Thread Cert.NormGate.nD Cert.NormGate.τ).loc Cert.NormGate.main_arg4) = m ((c.tc : Thread Cert.NormGate.nD Cert.NormGate.τ).loc Cert.NormGate.main_arg4))
      ∧ r.2.sem = fun _ => 0)

def quiescent_NormGateIdeal [hNormGateIdeal : Cert.NormGateIdeal.Facts] : Prop :=
  ∀ (m : (ℓ : Loc Cert.NormGateIdeal.nD Cert.NormGateIdeal.τ Cert.NormGateIdeal.sig) → Buf (Elt Ideal) ℓ) (g : Dev Cert.NormGateIdeal.nD → PrngReg), Pre_NormGateIdeal m →
    θ_run (Cert.NormGateIdeal.defs (F := Ideal)) (onTc (τ := Cert.NormGateIdeal.τ) (Cert.NormGateIdeal.main (F := Ideal))) ⟨m, fun _ => 0, g⟩ (fun r => (∀ c : Dev Cert.NormGateIdeal.nD,
      r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
      ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
      ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
      ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3)
      ∧ r.2.mem ((c.tc : Thread Cert.NormGateIdeal.nD Cert.NormGateIdeal.τ).loc Cert.NormGateIdeal.main_arg4) = m ((c.tc : Thread Cert.NormGateIdeal.nD Cert.NormGateIdeal.τ).loc Cert.NormGateIdeal.main_arg4))
      ∧ r.2.sem = fun _ => 0)

def quiescent_NormGateReferenceIdeal [hNormGateReferenceIdeal : Cert.NormGateReferenceIdeal.Facts] : Prop :=
  ∀ (m : (ℓ : Loc Cert.NormGateReferenceIdeal.nD Cert.NormGateReferenceIdeal.τ Cert.NormGateReferenceIdeal.sig) → Buf (Elt Ideal) ℓ) (g : Dev Cert.NormGateReferenceIdeal.nD → PrngReg), Pre_NormGateReferenceIdeal m →
    θ_run (Cert.NormGateReferenceIdeal.defs (F := Ideal)) (onTc (τ := Cert.NormGateReferenceIdeal.τ) (Cert.NormGateReferenceIdeal.main (F := Ideal))) ⟨m, fun _ => 0, g⟩ (fun r => (∀ c : Dev Cert.NormGateReferenceIdeal.nD,
      r.2.mem ((c.tc : Thread Cert.NormGateReferenceIdeal.nD Cert.NormGateReferenceIdeal.τ).loc Cert.NormGateReferenceIdeal.main_arg0) = m ((c.tc : Thread Cert.NormGateReferenceIdeal.nD Cert.NormGateReferenceIdeal.τ).loc Cert.NormGateReferenceIdeal.main_arg0)
      ∧ r.2.mem ((c.tc : Thread Cert.NormGateReferenceIdeal.nD Cert.NormGateReferenceIdeal.τ).loc Cert.NormGateReferenceIdeal.main_arg1) = m ((c.tc : Thread Cert.NormGateReferenceIdeal.nD Cert.NormGateReferenceIdeal.τ).loc Cert.NormGateReferenceIdeal.main_arg1)
      ∧ r.2.mem ((c.tc : Thread Cert.NormGateReferenceIdeal.nD Cert.NormGateReferenceIdeal.τ).loc Cert.NormGateReferenceIdeal.main_arg2) = m ((c.tc : Thread Cert.NormGateReferenceIdeal.nD Cert.NormGateReferenceIdeal.τ).loc Cert.NormGateReferenceIdeal.main_arg2)
      ∧ r.2.mem ((c.tc : Thread Cert.NormGateReferenceIdeal.nD Cert.NormGateReferenceIdeal.τ).loc Cert.NormGateReferenceIdeal.main_arg3) = m ((c.tc : Thread Cert.NormGateReferenceIdeal.nD Cert.NormGateReferenceIdeal.τ).loc Cert.NormGateReferenceIdeal.main_arg3)
      ∧ r.2.mem ((c.tc : Thread Cert.NormGateReferenceIdeal.nD Cert.NormGateReferenceIdeal.τ).loc Cert.NormGateReferenceIdeal.main_arg4) = m ((c.tc : Thread Cert.NormGateReferenceIdeal.nD Cert.NormGateReferenceIdeal.τ).loc Cert.NormGateReferenceIdeal.main_arg4))
      ∧ r.2.sem = fun _ => 0)

def quiescent_NormMlp [hNormMlp : Cert.NormMlp.Facts] : Prop :=
  ∀ (m : (ℓ : Loc Cert.NormMlp.nD Cert.NormMlp.τ Cert.NormMlp.sig) → Buf (Elt Bits) ℓ) (g : Dev Cert.NormMlp.nD → PrngReg), Pre_NormMlp m →
    θ_run (Cert.NormMlp.defs (F := Bits)) (onTc (τ := Cert.NormMlp.τ) (Cert.NormMlp.main (F := Bits))) ⟨m, fun _ => 0, g⟩ (fun r => (∀ c : Dev Cert.NormMlp.nD,
      r.2.mem ((c.tc : Thread Cert.NormMlp.nD Cert.NormMlp.τ).loc Cert.NormMlp.main_arg0) = m ((c.tc : Thread Cert.NormMlp.nD Cert.NormMlp.τ).loc Cert.NormMlp.main_arg0)
      ∧ r.2.mem ((c.tc : Thread Cert.NormMlp.nD Cert.NormMlp.τ).loc Cert.NormMlp.main_arg1) = m ((c.tc : Thread Cert.NormMlp.nD Cert.NormMlp.τ).loc Cert.NormMlp.main_arg1)
      ∧ r.2.mem ((c.tc : Thread Cert.NormMlp.nD Cert.NormMlp.τ).loc Cert.NormMlp.main_arg2) = m ((c.tc : Thread Cert.NormMlp.nD Cert.NormMlp.τ).loc Cert.NormMlp.main_arg2)
      ∧ r.2.mem ((c.tc : Thread Cert.NormMlp.nD Cert.NormMlp.τ).loc Cert.NormMlp.main_arg3) = m ((c.tc : Thread Cert.NormMlp.nD Cert.NormMlp.τ).loc Cert.NormMlp.main_arg3))
      ∧ r.2.sem = fun _ => 0)

def quiescent_NormMlpIdeal [hNormMlpIdeal : Cert.NormMlpIdeal.Facts] : Prop :=
  ∀ (m : (ℓ : Loc Cert.NormMlpIdeal.nD Cert.NormMlpIdeal.τ Cert.NormMlpIdeal.sig) → Buf (Elt Ideal) ℓ) (g : Dev Cert.NormMlpIdeal.nD → PrngReg), Pre_NormMlpIdeal m →
    θ_run (Cert.NormMlpIdeal.defs (F := Ideal)) (onTc (τ := Cert.NormMlpIdeal.τ) (Cert.NormMlpIdeal.main (F := Ideal))) ⟨m, fun _ => 0, g⟩ (fun r => (∀ c : Dev Cert.NormMlpIdeal.nD,
      r.2.mem ((c.tc : Thread Cert.NormMlpIdeal.nD Cert.NormMlpIdeal.τ).loc Cert.NormMlpIdeal.main_arg0) = m ((c.tc : Thread Cert.NormMlpIdeal.nD Cert.NormMlpIdeal.τ).loc Cert.NormMlpIdeal.main_arg0)
      ∧ r.2.mem ((c.tc : Thread Cert.NormMlpIdeal.nD Cert.NormMlpIdeal.τ).loc Cert.NormMlpIdeal.main_arg1) = m ((c.tc : Thread Cert.NormMlpIdeal.nD Cert.NormMlpIdeal.τ).loc Cert.NormMlpIdeal.main_arg1)
      ∧ r.2.mem ((c.tc : Thread Cert.NormMlpIdeal.nD Cert.NormMlpIdeal.τ).loc Cert.NormMlpIdeal.main_arg2) = m ((c.tc : Thread Cert.NormMlpIdeal.nD Cert.NormMlpIdeal.τ).loc Cert.NormMlpIdeal.main_arg2)
      ∧ r.2.mem ((c.tc : Thread Cert.NormMlpIdeal.nD Cert.NormMlpIdeal.τ).loc Cert.NormMlpIdeal.main_arg3) = m ((c.tc : Thread Cert.NormMlpIdeal.nD Cert.NormMlpIdeal.τ).loc Cert.NormMlpIdeal.main_arg3))
      ∧ r.2.sem = fun _ => 0)

def quiescent_NormMlpReferenceIdeal [hNormMlpReferenceIdeal : Cert.NormMlpReferenceIdeal.Facts] : Prop :=
  ∀ (m : (ℓ : Loc Cert.NormMlpReferenceIdeal.nD Cert.NormMlpReferenceIdeal.τ Cert.NormMlpReferenceIdeal.sig) → Buf (Elt Ideal) ℓ) (g : Dev Cert.NormMlpReferenceIdeal.nD → PrngReg), Pre_NormMlpReferenceIdeal m →
    θ_run (Cert.NormMlpReferenceIdeal.defs (F := Ideal)) (onTc (τ := Cert.NormMlpReferenceIdeal.τ) (Cert.NormMlpReferenceIdeal.main (F := Ideal))) ⟨m, fun _ => 0, g⟩ (fun r => (∀ c : Dev Cert.NormMlpReferenceIdeal.nD,
      r.2.mem ((c.tc : Thread Cert.NormMlpReferenceIdeal.nD Cert.NormMlpReferenceIdeal.τ).loc Cert.NormMlpReferenceIdeal.main_arg0) = m ((c.tc : Thread Cert.NormMlpReferenceIdeal.nD Cert.NormMlpReferenceIdeal.τ).loc Cert.NormMlpReferenceIdeal.main_arg0)
      ∧ r.2.mem ((c.tc : Thread Cert.NormMlpReferenceIdeal.nD Cert.NormMlpReferenceIdeal.τ).loc Cert.NormMlpReferenceIdeal.main_arg1) = m ((c.tc : Thread Cert.NormMlpReferenceIdeal.nD Cert.NormMlpReferenceIdeal.τ).loc Cert.NormMlpReferenceIdeal.main_arg1)
      ∧ r.2.mem ((c.tc : Thread Cert.NormMlpReferenceIdeal.nD Cert.NormMlpReferenceIdeal.τ).loc Cert.NormMlpReferenceIdeal.main_arg2) = m ((c.tc : Thread Cert.NormMlpReferenceIdeal.nD Cert.NormMlpReferenceIdeal.τ).loc Cert.NormMlpReferenceIdeal.main_arg2)
      ∧ r.2.mem ((c.tc : Thread Cert.NormMlpReferenceIdeal.nD Cert.NormMlpReferenceIdeal.τ).loc Cert.NormMlpReferenceIdeal.main_arg3) = m ((c.tc : Thread Cert.NormMlpReferenceIdeal.nD Cert.NormMlpReferenceIdeal.τ).loc Cert.NormMlpReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11)
      ∧ r.2.mem ((c.tc : Thread Cert.Adam.nD Cert.Adam.τ).loc Cert.Adam.main_arg12) = m ((c.tc : Thread Cert.Adam.nD Cert.Adam.τ).loc Cert.Adam.main_arg12)
      ∧ r.2.mem ((c.tc : Thread Cert.Adam.nD Cert.Adam.τ).loc Cert.Adam.main_arg13) = m ((c.tc : Thread Cert.Adam.nD Cert.Adam.τ).loc Cert.Adam.main_arg13)
      ∧ r.2.mem ((c.tc : Thread Cert.Adam.nD Cert.Adam.τ).loc Cert.Adam.main_arg14) = m ((c.tc : Thread Cert.Adam.nD Cert.Adam.τ).loc Cert.Adam.main_arg14)
      ∧ r.2.mem ((c.tc : Thread Cert.Adam.nD Cert.Adam.τ).loc Cert.Adam.main_arg15) = m ((c.tc : Thread Cert.Adam.nD Cert.Adam.τ).loc Cert.Adam.main_arg15)
      ∧ r.2.mem ((c.tc : Thread Cert.Adam.nD Cert.Adam.τ).loc Cert.Adam.main_arg16) = m ((c.tc : Thread Cert.Adam.nD Cert.Adam.τ).loc Cert.Adam.main_arg16)
      ∧ r.2.mem ((c.tc : Thread Cert.Adam.nD Cert.Adam.τ).loc Cert.Adam.main_arg17) = m ((c.tc : Thread Cert.Adam.nD Cert.Adam.τ).loc Cert.Adam.main_arg17)
      ∧ r.2.mem ((c.tc : Thread Cert.Adam.nD Cert.Adam.τ).loc Cert.Adam.main_arg18) = m ((c.tc : Thread Cert.Adam.nD Cert.Adam.τ).loc Cert.Adam.main_arg18)
      ∧ r.2.mem ((c.tc : Thread Cert.Adam.nD Cert.Adam.τ).loc Cert.Adam.main_arg19) = m ((c.tc : Thread Cert.Adam.nD Cert.Adam.τ).loc Cert.Adam.main_arg19)
      ∧ r.2.mem ((c.tc : Thread Cert.Adam.nD Cert.Adam.τ).loc Cert.Adam.main_arg20) = m ((c.tc : Thread Cert.Adam.nD Cert.Adam.τ).loc Cert.Adam.main_arg20)
      ∧ r.2.mem ((c.tc : Thread Cert.Adam.nD Cert.Adam.τ).loc Cert.Adam.main_arg21) = m ((c.tc : Thread Cert.Adam.nD Cert.Adam.τ).loc Cert.Adam.main_arg21)
      ∧ r.2.mem ((c.tc : Thread Cert.Adam.nD Cert.Adam.τ).loc Cert.Adam.main_arg22) = m ((c.tc : Thread Cert.Adam.nD Cert.Adam.τ).loc Cert.Adam.main_arg22)
      ∧ r.2.mem ((c.tc : Thread Cert.Adam.nD Cert.Adam.τ).loc Cert.Adam.main_arg23) = m ((c.tc : Thread Cert.Adam.nD Cert.Adam.τ).loc Cert.Adam.main_arg23)
      ∧ r.2.mem ((c.tc : Thread Cert.Adam.nD Cert.Adam.τ).loc Cert.Adam.main_arg24) = m ((c.tc : Thread Cert.Adam.nD Cert.Adam.τ).loc Cert.Adam.main_arg24)
      ∧ r.2.mem ((c.tc : Thread Cert.Adam.nD Cert.Adam.τ).loc Cert.Adam.main_arg25) = m ((c.tc : Thread Cert.Adam.nD Cert.Adam.τ).loc Cert.Adam.main_arg25)
      ∧ r.2.mem ((c.tc : Thread Cert.Adam.nD Cert.Adam.τ).loc Cert.Adam.main_arg26) = m ((c.tc : Thread Cert.Adam.nD Cert.Adam.τ).loc Cert.Adam.main_arg26)
      ∧ r.2.mem ((c.tc : Thread Cert.Adam.nD Cert.Adam.τ).loc Cert.Adam.main_arg27) = m ((c.tc : Thread Cert.Adam.nD Cert.Adam.τ).loc Cert.Adam.main_arg27))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
      ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
      ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
      ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
      ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
      ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
      ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
      ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
      ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
      ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
      ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
      ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
      ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
      ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
      ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
      ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
      ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5)
      ∧ r.2.mem ((c.tc : Thread Cert.AdamReferenceIdeal.nD Cert.AdamReferenceIdeal.τ).loc Cert.AdamReferenceIdeal.main_arg6) = m ((c.tc : Thread Cert.AdamReferenceIdeal.nD Cert.AdamReferenceIdeal.τ).loc Cert.AdamReferenceIdeal.main_arg6)
      ∧ r.2.mem ((c.tc : Thread Cert.AdamReferenceIdeal.nD Cert.AdamReferenceIdeal.τ).loc Cert.AdamReferenceIdeal.main_arg7) = m ((c.tc : Thread Cert.AdamReferenceIdeal.nD Cert.AdamReferenceIdeal.τ).loc Cert.AdamReferenceIdeal.main_arg7)
      ∧ r.2.mem ((c.tc : Thread Cert.AdamReferenceIdeal.nD Cert.AdamReferenceIdeal.τ).loc Cert.AdamReferenceIdeal.main_arg8) = m ((c.tc : Thread Cert.AdamReferenceIdeal.nD Cert.AdamReferenceIdeal.τ).loc Cert.AdamReferenceIdeal.main_arg8)
      ∧ r.2.mem ((c.tc : Thread Cert.AdamReferenceIdeal.nD Cert.AdamReferenceIdeal.τ).loc Cert.AdamReferenceIdeal.main_arg9) = m ((c.tc : Thread Cert.AdamReferenceIdeal.nD Cert.AdamReferenceIdeal.τ).loc Cert.AdamReferenceIdeal.main_arg9)
      ∧ r.2.mem ((c.tc : Thread Cert.AdamReferenceIdeal.nD Cert.AdamReferenceIdeal.τ).loc Cert.AdamReferenceIdeal.main_arg10) = m ((c.tc : Thread Cert.AdamReferenceIdeal.nD Cert.AdamReferenceIdeal.τ).loc Cert.AdamReferenceIdeal.main_arg10)
      ∧ r.2.mem ((c.tc : Thread Cert.AdamReferenceIdeal.nD Cert.AdamReferenceIdeal.τ).loc Cert.AdamReferenceIdeal.main_arg11) = m ((c.tc : Thread Cert.AdamReferenceIdeal.nD Cert.AdamReferenceIdeal.τ).loc Cert.AdamReferenceIdeal.main_arg11)
      ∧ r.2.mem ((c.tc : Thread Cert.AdamReferenceIdeal.nD Cert.AdamReferenceIdeal.τ).loc Cert.AdamReferenceIdeal.main_arg12) = m ((c.tc : Thread Cert.AdamReferenceIdeal.nD Cert.AdamReferenceIdeal.τ).loc Cert.AdamReferenceIdeal.main_arg12)
      ∧ r.2.mem ((c.tc : Thread Cert.AdamReferenceIdeal.nD Cert.AdamReferenceIdeal.τ).loc Cert.AdamReferenceIdeal.main_arg13) = m ((c.tc : Thread Cert.AdamReferenceIdeal.nD Cert.AdamReferenceIdeal.τ).loc Cert.AdamReferenceIdeal.main_arg13)
      ∧ r.2.mem ((c.tc : Thread Cert.AdamReferenceIdeal.nD Cert.AdamReferenceIdeal.τ).loc Cert.AdamReferenceIdeal.main_arg14) = m ((c.tc : Thread Cert.AdamReferenceIdeal.nD Cert.AdamReferenceIdeal.τ).loc Cert.AdamReferenceIdeal.main_arg14)
      ∧ r.2.mem ((c.tc : Thread Cert.AdamReferenceIdeal.nD Cert.AdamReferenceIdeal.τ).loc Cert.AdamReferenceIdeal.main_arg15) = m ((c.tc : Thread Cert.AdamReferenceIdeal.nD Cert.AdamReferenceIdeal.τ).loc Cert.AdamReferenceIdeal.main_arg15)
      ∧ r.2.mem ((c.tc : Thread Cert.AdamReferenceIdeal.nD Cert.AdamReferenceIdeal.τ).loc Cert.AdamReferenceIdeal.main_arg16) = m ((c.tc : Thread Cert.AdamReferenceIdeal.nD Cert.AdamReferenceIdeal.τ).loc Cert.AdamReferenceIdeal.main_arg16)
      ∧ r.2.mem ((c.tc : Thread Cert.AdamReferenceIdeal.nD Cert.AdamReferenceIdeal.τ).loc Cert.AdamReferenceIdeal.main_arg17) = m ((c.tc : Thread Cert.AdamReferenceIdeal.nD Cert.AdamReferenceIdeal.τ).loc Cert.AdamReferenceIdeal.main_arg17)
      ∧ r.2.mem ((c.tc : Thread Cert.AdamReferenceIdeal.nD Cert.AdamReferenceIdeal.τ).loc Cert.AdamReferenceIdeal.main_arg18) = m ((c.tc : Thread Cert.AdamReferenceIdeal.nD Cert.AdamReferenceIdeal.τ).loc Cert.AdamReferenceIdeal.main_arg18)
      ∧ r.2.mem ((c.tc : Thread Cert.AdamReferenceIdeal.nD Cert.AdamReferenceIdeal.τ).loc Cert.AdamReferenceIdeal.main_arg19) = m ((c.tc : Thread Cert.AdamReferenceIdeal.nD Cert.AdamReferenceIdeal.τ).loc Cert.AdamReferenceIdeal.main_arg19)
      ∧ r.2.mem ((c.tc : Thread Cert.AdamReferenceIdeal.nD Cert.AdamReferenceIdeal.τ).loc Cert.AdamReferenceIdeal.main_arg20) = m ((c.tc : Thread Cert.AdamReferenceIdeal.nD Cert.AdamReferenceIdeal.τ).loc Cert.AdamReferenceIdeal.main_arg20)
      ∧ r.2.mem ((c.tc : Thread Cert.AdamReferenceIdeal.nD Cert.AdamReferenceIdeal.τ).loc Cert.AdamReferenceIdeal.main_arg21) = m ((c.tc : Thread Cert.AdamReferenceIdeal.nD Cert.AdamReferenceIdeal.τ).loc Cert.AdamReferenceIdeal.main_arg21)
      ∧ r.2.mem ((c.tc : Thread Cert.AdamReferenceIdeal.nD Cert.AdamReferenceIdeal.τ).loc Cert.AdamReferenceIdeal.main_arg22) = m ((c.tc : Thread Cert.AdamReferenceIdeal.nD Cert.AdamReferenceIdeal.τ).loc Cert.AdamReferenceIdeal.main_arg22)
      ∧ r.2.mem ((c.tc : Thread Cert.AdamReferenceIdeal.nD Cert.AdamReferenceIdeal.τ).loc Cert.AdamReferenceIdeal.main_arg23) = m ((c.tc : Thread Cert.AdamReferenceIdeal.nD Cert.AdamReferenceIdeal.τ).loc Cert.AdamReferenceIdeal.main_arg23)
      ∧ r.2.mem ((c.tc : Thread Cert.AdamReferenceIdeal.nD Cert.AdamReferenceIdeal.τ).loc Cert.AdamReferenceIdeal.main_arg24) = m ((c.tc : Thread Cert.AdamReferenceIdeal.nD Cert.AdamReferenceIdeal.τ).loc Cert.AdamReferenceIdeal.main_arg24)
      ∧ r.2.mem ((c.tc : Thread Cert.AdamReferenceIdeal.nD Cert.AdamReferenceIdeal.τ).loc Cert.AdamReferenceIdeal.main_arg25) = m ((c.tc : Thread Cert.AdamReferenceIdeal.nD Cert.AdamReferenceIdeal.τ).loc Cert.AdamReferenceIdeal.main_arg25)
      ∧ r.2.mem ((c.tc : Thread Cert.AdamReferenceIdeal.nD Cert.AdamReferenceIdeal.τ).loc Cert.AdamReferenceIdeal.main_arg26) = m ((c.tc : Thread Cert.AdamReferenceIdeal.nD Cert.AdamReferenceIdeal.τ).loc Cert.AdamReferenceIdeal.main_arg26)
      ∧ r.2.mem ((c.tc : Thread Cert.AdamReferenceIdeal.nD Cert.AdamReferenceIdeal.τ).loc Cert.AdamReferenceIdeal.main_arg27) = m ((c.tc : Thread Cert.AdamReferenceIdeal.nD Cert.AdamReferenceIdeal.τ).loc Cert.AdamReferenceIdeal.main_arg27))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v1_1)) (v4 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v0_0) i = v0 c i)
          ∧ (∀ i : (⟨3, ![8, 4096, 1]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v0_1) i = v1 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v1_0) i = v2 c i)
          ∧ (∀ i : (⟨2, ![256, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.KernelIdeal.nD Cert.KernelIdeal.τ).loc Cert.KernelIdeal.main_v1_1) i = v3 c i)
          ∧ (∀ i : (⟨2, ![256, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2 i = 1#1 → r.2.mem ((c.tc : Thread Cert.KernelIdeal.nD Cert.KernelIdeal.τ).loc Cert.KernelIdeal.main_v1_2) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v71) i = v0 c i)
          ∧ (∀ i : (⟨3, ![8, 4096, 1]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v90) i = v1 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_v73) i = v2 c i)
          ∧ (∀ i : (⟨2, ![256, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.ReferenceIdeal.nD Cert.ReferenceIdeal.τ).loc Cert.ReferenceIdeal.main_v75) i = v3 c i)
          ∧ (∀ i : (⟨2, ![256, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2 i = 1#1 → r.2.mem ((c.tc : Thread Cert.ReferenceIdeal.nD Cert.ReferenceIdeal.τ).loc Cert.ReferenceIdeal.main_v77) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v1)) (v1 : (c : Dev Cert.MlpIdeal.nD) → Buf (Elt Ideal) ((c.tc : Thread Cert.MlpIdeal.nD Cert.MlpIdeal.τ).loc Cert.MlpIdeal.main_v2)) (v2 : (c : Dev Cert.MlpIdeal.nD) → Buf (Elt Ideal) ((c.tc : Thread Cert.MlpIdeal.nD Cert.MlpIdeal.τ).loc Cert.MlpIdeal.main_v4)) (v3 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1) = v0 c
          ∧ r.2.mem ((c.tc : Thread Cert.MlpIdeal.nD Cert.MlpIdeal.τ).loc Cert.MlpIdeal.main_v2) = v1 c
          ∧ r.2.mem ((c.tc : Thread Cert.MlpIdeal.nD Cert.MlpIdeal.τ).loc Cert.MlpIdeal.main_v4) = v2 c
          ∧ r.2.mem ((c.tc : Thread Cert.MlpIdeal.nD Cert.MlpIdeal.τ).loc Cert.MlpIdeal.main_v5) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v12) = v0 c
          ∧ r.2.mem ((c.tc : Thread Cert.MlpReferenceIdeal.nD Cert.MlpReferenceIdeal.τ).loc Cert.MlpReferenceIdeal.main_v23) = v1 c
          ∧ r.2.mem ((c.tc : Thread Cert.MlpReferenceIdeal.nD Cert.MlpReferenceIdeal.τ).loc Cert.MlpReferenceIdeal.main_v24) = v2 c
          ∧ r.2.mem ((c.tc : Thread Cert.MlpReferenceIdeal.nD Cert.MlpReferenceIdeal.τ).loc Cert.MlpReferenceIdeal.main_v25) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v1)) (v3 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v1) = v2 c
          ∧ r.2.mem ((c.tc : Thread Cert.OutIdeal.nD Cert.OutIdeal.τ).loc Cert.OutIdeal.main_v2) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v20) = v1 c
          ∧ r.2.mem ((c.tc : Thread Cert.OutReferenceIdeal.nD Cert.OutReferenceIdeal.τ).loc Cert.OutReferenceIdeal.main_v21) = v2 c
          ∧ r.2.mem ((c.tc : Thread Cert.OutReferenceIdeal.nD Cert.OutReferenceIdeal.τ).loc Cert.OutReferenceIdeal.main_v22) = v3 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m' ((c.tc : Thread Cert.WeightsReferenceIdeal.nD Cert.WeightsReferenceIdeal.τ).loc Cert.WeightsReferenceIdeal.main_arg0) = m ((c.tc : Thread Cert.WeightsIdeal.nD Cert.WeightsIdeal.τ).loc Cert.WeightsIdeal.main_arg0)
      ∧ m' ((c.tc : Thread Cert.WeightsReferenceIdeal.nD Cert.WeightsReferenceIdeal.τ).loc Cert.WeightsReferenceIdeal.main_arg1) = m ((c.tc : Thread Cert.WeightsIdeal.nD Cert.WeightsIdeal.τ).loc Cert.WeightsIdeal.main_arg1)
      ∧ m' ((c.tc : Thread Cert.WeightsReferenceIdeal.nD Cert.WeightsReferenceIdeal.τ).loc Cert.WeightsReferenceIdeal.main_arg2) = m ((c.tc : Thread Cert.WeightsIdeal.nD Cert.WeightsIdeal.τ).loc Cert.WeightsIdeal.main_arg2)
      ∧ m' ((c.tc : Thread Cert.WeightsReferenceIdeal.nD Cert.WeightsReferenceIdeal.τ).loc Cert.WeightsReferenceIdeal.main_arg3) = m ((c.tc : Thread Cert.WeightsIdeal.nD Cert.WeightsIdeal.τ).loc Cert.WeightsIdeal.main_arg3)
      ∧ m' ((c.tc : Thread Cert.WeightsReferenceIdeal.nD Cert.WeightsReferenceIdeal.τ).loc Cert.WeightsReferenceIdeal.main_arg4) = m ((c.tc : Thread Cert.WeightsIdeal.nD Cert.WeightsIdeal.τ).loc Cert.WeightsIdeal.main_arg4)
      ∧ m' ((c.tc : Thread Cert.WeightsReferenceIdeal.nD Cert.WeightsReferenceIdeal.τ).loc Cert.WeightsReferenceIdeal.main_arg5) = m ((c.tc : Thread Cert.WeightsIdeal.nD Cert.WeightsIdeal.τ).loc Cert.WeightsIdeal.main_arg5)
      ∧ m' ((c.tc : Thread Cert.WeightsReferenceIdeal.nD Cert.WeightsReferenceIdeal.τ).loc Cert.WeightsReferenceIdeal.main_arg6) = m ((c.tc : Thread Cert.WeightsIdeal.nD Cert.WeightsIdeal.τ).loc Cert.WeightsIdeal.main_arg6)
      ∧ m' ((c.tc : Thread Cert.WeightsReferenceIdeal.nD Cert.WeightsReferenceIdeal.τ).loc Cert.WeightsReferenceIdeal.main_arg7) = m ((c.tc : Thread Cert.WeightsIdeal.nD Cert.WeightsIdeal.τ).loc Cert.WeightsIdeal.main_arg7)
      ∧ m' ((c.tc : Thread Cert.WeightsReferenceIdeal.nD Cert.WeightsReferenceIdeal.τ).loc Cert.WeightsReferenceIdeal.main_arg8) = m ((c.tc : Thread Cert.WeightsIdeal.nD Cert.WeightsIdeal.τ).loc Cert.WeightsIdeal.main_arg8)
      ∧ m' ((c.tc : Thread Cert.WeightsReferenceIdeal.nD Cert.WeightsReferenceIdeal.τ).loc Cert.WeightsReferenceIdeal.main_arg9) = m ((c.tc : Thread Cert.WeightsIdeal.nD Cert.WeightsIdeal.τ).loc Cert.WeightsIdeal.main_arg9)
      ∧ m' ((c.tc : Thread Cert.WeightsReferenceIdeal.nD Cert.WeightsReferenceIdeal.τ).loc Cert.WeightsReferenceIdeal.main_arg10) = m ((c.tc : Thread Cert.WeightsIdeal.nD Cert.WeightsIdeal.τ).loc Cert.WeightsIdeal.main_arg10)) →
    ∃ (v0 : (c : Dev Cert.WeightsIdeal.nD) → Buf (Elt Ideal) ((c.tc : Thread Cert.WeightsIdeal.nD Cert.WeightsIdeal.τ).loc Cert.WeightsIdeal.main_v1)) (v1 : (c : Dev Cert.WeightsIdeal.nD) → Buf (Elt Ideal) ((c.tc : Thread Cert.WeightsIdeal.nD Cert.WeightsIdeal.τ).loc Cert.WeightsIdeal.main_v2)) (v2 : (c : Dev Cert.WeightsIdeal.nD) → Buf (Elt Ideal) ((c.tc : Thread Cert.WeightsIdeal.nD Cert.WeightsIdeal.τ).loc Cert.WeightsIdeal.main_v3)) (v3 : (c : Dev Cert.WeightsIdeal.nD) → Buf (Elt Ideal) ((c.tc : Thread Cert.WeightsIdeal.nD Cert.WeightsIdeal.τ).loc Cert.WeightsIdeal.main_v4)) (v4 : (c : Dev Cert.WeightsIdeal.nD) → Buf (Elt Ideal) ((c.tc : Thread Cert.WeightsIdeal.nD Cert.WeightsIdeal.τ).loc Cert.WeightsIdeal.main_v5)) (v5 : (c : Dev Cert.WeightsIdeal.nD) → Buf (Elt Ideal) ((c.tc : Thread Cert.WeightsIdeal.nD Cert.WeightsIdeal.τ).loc Cert.WeightsIdeal.main_v6)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1) = v0 c
          ∧ r.2.mem ((c.tc : Thread Cert.WeightsIdeal.nD Cert.WeightsIdeal.τ).loc Cert.WeightsIdeal.main_v2) = v1 c
          ∧ r.2.mem ((c.tc : Thread Cert.WeightsIdeal.nD Cert.WeightsIdeal.τ).loc Cert.WeightsIdeal.main_v3) = v2 c
          ∧ r.2.mem ((c.tc : Thread Cert.WeightsIdeal.nD Cert.WeightsIdeal.τ).loc Cert.WeightsIdeal.main_v4) = v3 c
          ∧ r.2.mem ((c.tc : Thread Cert.WeightsIdeal.nD Cert.WeightsIdeal.τ).loc Cert.WeightsIdeal.main_v5) = v4 c
          ∧ r.2.mem ((c.tc : Thread Cert.WeightsIdeal.nD Cert.WeightsIdeal.τ).loc Cert.WeightsIdeal.main_v6) = v5 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
          ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
          ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
          ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8)
          ∧ r.2.mem ((c.tc : Thread Cert.WeightsIdeal.nD Cert.WeightsIdeal.τ).loc Cert.WeightsIdeal.main_arg9) = m ((c.tc : Thread Cert.WeightsIdeal.nD Cert.WeightsIdeal.τ).loc Cert.WeightsIdeal.main_arg9)
          ∧ r.2.mem ((c.tc : Thread Cert.WeightsIdeal.nD Cert.WeightsIdeal.τ).loc Cert.WeightsIdeal.main_arg10) = m ((c.tc : Thread Cert.WeightsIdeal.nD Cert.WeightsIdeal.τ).loc Cert.WeightsIdeal.main_arg10))
      ∧ θ_run (Cert.WeightsReferenceIdeal.defs (F := Ideal)) (onTc (τ := Cert.WeightsReferenceIdeal.τ) (Cert.WeightsReferenceIdeal.main (F := Ideal))) ⟨m', fun _ => 0, g'⟩ (fun r => ∀ c : Dev Cert.WeightsReferenceIdeal.nD,
          r.2.mem ((c.tc : Thread Cert.WeightsReferenceIdeal.nD Cert.WeightsReferenceIdeal.τ).loc Cert.WeightsReferenceIdeal.main_v1) = v0 c
          ∧ r.2.mem ((c.tc : Thread Cert.WeightsReferenceIdeal.nD Cert.WeightsReferenceIdeal.τ).loc Cert.WeightsReferenceIdeal.main_v39) = v1 c
          ∧ r.2.mem ((c.tc : Thread Cert.WeightsReferenceIdeal.nD Cert.WeightsReferenceIdeal.τ).loc Cert.WeightsReferenceIdeal.main_v40) = v2 c
          ∧ r.2.mem ((c.tc : Thread Cert.WeightsReferenceIdeal.nD Cert.WeightsReferenceIdeal.τ).loc Cert.WeightsReferenceIdeal.main_v41) = v3 c
          ∧ r.2.mem ((c.tc : Thread Cert.WeightsReferenceIdeal.nD Cert.WeightsReferenceIdeal.τ).loc Cert.WeightsReferenceIdeal.main_v42) = v4 c
          ∧ r.2.mem ((c.tc : Thread Cert.WeightsReferenceIdeal.nD Cert.WeightsReferenceIdeal.τ).loc Cert.WeightsReferenceIdeal.main_v43) = v5 c
          ∧ r.2.mem ((c.tc : Thread Cert.WeightsReferenceIdeal.nD Cert.WeightsReferenceIdeal.τ).loc Cert.WeightsReferenceIdeal.main_arg0) = m' ((c.tc : Thread Cert.WeightsReferenceIdeal.nD Cert.WeightsReferenceIdeal.τ).loc Cert.WeightsReferenceIdeal.main_arg0)
          ∧ r.2.mem ((c.tc : Thread Cert.WeightsReferenceIdeal.nD Cert.WeightsReferenceIdeal.τ).loc Cert.WeightsReferenceIdeal.main_arg1) = m' ((c.tc : Thread Cert.WeightsReferenceIdeal.nD Cert.WeightsReferenceIdeal.τ).loc Cert.WeightsReferenceIdeal.main_arg1)
          ∧ r.2.mem ((c.tc : Thread Cert.WeightsReferenceIdeal.nD Cert.WeightsReferenceIdeal.τ).loc Cert.WeightsReferenceIdeal.main_arg2) = m' ((c.tc : Thread Cert.WeightsReferenceIdeal.nD Cert.WeightsReferenceIdeal.τ).loc Cert.WeightsReferenceIdeal.main_arg2)
          ∧ r.2.mem ((c.tc : Thread Cert.WeightsReferenceIdeal.nD Cert.WeightsReferenceIdeal.τ).loc Cert.WeightsReferenceIdeal.main_arg3) = m' ((c.tc : Thread Cert.WeightsReferenceIdeal.nD Cert.WeightsReferenceIdeal.τ).loc Cert.WeightsReferenceIdeal.main_arg3)
          ∧ r.2.mem ((c.tc : Thread Cert.WeightsReferenceIdeal.nD Cert.WeightsReferenceIdeal.τ).loc Cert.WeightsReferenceIdeal.main_arg4) = m' ((c.tc : Thread Cert.WeightsReferenceIdeal.nD Cert.WeightsReferenceIdeal.τ).loc Cert.WeightsReferenceIdeal.main_arg4)
          ∧ r.2.mem ((c.tc : Thread Cert.WeightsReferenceIdeal.nD Cert.WeightsReferenceIdeal.τ).loc Cert.WeightsReferenceIdeal.main_arg5) = m' ((c.tc : Thread Cert.WeightsReferenceIdeal.nD Cert.WeightsReferenceIdeal.τ).loc Cert.WeightsReferenceIdeal.main_arg5)
          ∧ r.2.mem ((c.tc : Thread Cert.WeightsReferenceIdeal.nD Cert.WeightsReferenceIdeal.τ).loc Cert.WeightsReferenceIdeal.main_arg6) = m' ((c.tc : Thread Cert.WeightsReferenceIdeal.nD Cert.WeightsReferenceIdeal.τ).loc Cert.WeightsReferenceIdeal.main_arg6)
          ∧ r.2.mem ((c.tc : Thread Cert.WeightsReferenceIdeal.nD Cert.WeightsReferenceIdeal.τ).loc Cert.WeightsReferenceIdeal.main_arg7) = m' ((c.tc : Thread Cert.WeightsReferenceIdeal.nD Cert.WeightsReferenceIdeal.τ).loc Cert.WeightsReferenceIdeal.main_arg7)
          ∧ r.2.mem ((c.tc : Thread Cert.WeightsReferenceIdeal.nD Cert.WeightsReferenceIdeal.τ).loc Cert.WeightsReferenceIdeal.main_arg8) = m' ((c.tc : Thread Cert.WeightsReferenceIdeal.nD Cert.WeightsReferenceIdeal.τ).loc Cert.WeightsReferenceIdeal.main_arg8)
          ∧ r.2.mem ((c.tc : Thread Cert.WeightsReferenceIdeal.nD Cert.WeightsReferenceIdeal.τ).loc Cert.WeightsReferenceIdeal.main_arg9) = m' ((c.tc : Thread Cert.WeightsReferenceIdeal.nD Cert.WeightsReferenceIdeal.τ).loc Cert.WeightsReferenceIdeal.main_arg9)
          ∧ r.2.mem ((c.tc : Thread Cert.WeightsReferenceIdeal.nD Cert.WeightsReferenceIdeal.τ).loc Cert.WeightsReferenceIdeal.main_arg10) = m' ((c.tc : Thread Cert.WeightsReferenceIdeal.nD Cert.WeightsReferenceIdeal.τ).loc Cert.WeightsReferenceIdeal.main_arg10))

def preserves_NormIn_NormInIdeal : Prop :=
  True

def algebraic_NormInIdeal_NormInReferenceIdeal [hNormInIdeal : Cert.NormInIdeal.Facts] [hNormInReferenceIdeal : Cert.NormInReferenceIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)
      ∧ m' ((c.tc : Thread Cert.NormInReferenceIdeal.nD Cert.NormInReferenceIdeal.τ).loc Cert.NormInReferenceIdeal.main_arg2) = m ((c.tc : Thread Cert.NormInIdeal.nD Cert.NormInIdeal.τ).loc Cert.NormInIdeal.main_arg2)
      ∧ m' ((c.tc : Thread Cert.NormInReferenceIdeal.nD Cert.NormInReferenceIdeal.τ).loc Cert.NormInReferenceIdeal.main_arg3) = m ((c.tc : Thread Cert.NormInIdeal.nD Cert.NormInIdeal.τ).loc Cert.NormInIdeal.main_arg3)
      ∧ m' ((c.tc : Thread Cert.NormInReferenceIdeal.nD Cert.NormInReferenceIdeal.τ).loc Cert.NormInReferenceIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v2)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v2) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v38) = v0 c
          ∧ r.2.mem ((c.tc : Thread Cert.NormInReferenceIdeal.nD Cert.NormInReferenceIdeal.τ).loc Cert.NormInReferenceIdeal.main_v21) = v1 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2)
          ∧ r.2.mem ((c.tc : Thread Cert.NormInReferenceIdeal.nD Cert.NormInReferenceIdeal.τ).loc Cert.NormInReferenceIdeal.main_arg3) = m' ((c.tc : Thread Cert.NormInReferenceIdeal.nD Cert.NormInReferenceIdeal.τ).loc Cert.NormInReferenceIdeal.main_arg3)
          ∧ r.2.mem ((c.tc : Thread Cert.NormInReferenceIdeal.nD Cert.NormInReferenceIdeal.τ).loc Cert.NormInReferenceIdeal.main_arg4) = m' ((c.tc : Thread Cert.NormInReferenceIdeal.nD Cert.NormInReferenceIdeal.τ).loc Cert.NormInReferenceIdeal.main_arg4))

def preserves_NormGate_NormGateIdeal : Prop :=
  True

def algebraic_NormGateIdeal_NormGateReferenceIdeal [hNormGateIdeal : Cert.NormGateIdeal.Facts] [hNormGateReferenceIdeal : Cert.NormGateReferenceIdeal.Facts] : Prop :=
  ∀ (m : (ℓ : Loc Cert.NormGateIdeal.nD Cert.NormGateIdeal.τ Cert.NormGateIdeal.sig) → Buf (Elt Ideal) ℓ) (g : Dev Cert.NormGateIdeal.nD → PrngReg)
    (m' : (ℓ : Loc Cert.NormGateReferenceIdeal.nD Cert.NormGateReferenceIdeal.τ Cert.NormGateReferenceIdeal.sig) → Buf (Elt Ideal) ℓ) (g' : Dev Cert.NormGateReferenceIdeal.nD → PrngReg), Pre_NormGateIdeal m →
    (∀ c : Dev Cert.NormGateIdeal.nD,
      m' ((c.tc : Thread Cert.NormGateReferenceIdeal.nD Cert.NormGateReferenceIdeal.τ).loc Cert.NormGateReferenceIdeal.main_arg0) = m ((c.tc : Thread Cert.NormGateIdeal.nD Cert.NormGateIdeal.τ).loc Cert.NormGateIdeal.main_arg0)
      ∧ m' ((c.tc : Thread Cert.NormGateReferenceIdeal.nD Cert.NormGateReferenceIdeal.τ).loc Cert.NormGateReferenceIdeal.main_arg1) = m ((c.tc : Thread Cert.NormGateIdeal.nD Cert.NormGateIdeal.τ).loc Cert.NormGateIdeal.main_arg1)
      ∧ m' ((c.tc : Thread Cert.NormGateReferenceIdeal.nD Cert.NormGateReferenceIdeal.τ).loc Cert.NormGateReferenceIdeal.main_arg2) = m ((c.tc : Thread Cert.NormGateIdeal.nD Cert.NormGateIdeal.τ).loc Cert.NormGateIdeal.main_arg2)
      ∧ m' ((c.tc : Thread Cert.NormGateReferenceIdeal.nD Cert.NormGateReferenceIdeal.τ).loc Cert.NormGateReferenceIdeal.main_arg3) = m ((c.tc : Thread Cert.NormGateIdeal.nD Cert.NormGateIdeal.τ).loc Cert.NormGateIdeal.main_arg3)
      ∧ m' ((c.tc : Thread Cert.NormGateReferenceIdeal.nD Cert.NormGateReferenceIdeal.τ).loc Cert.NormGateReferenceIdeal.main_arg4) = m ((c.tc : Thread Cert.NormGateIdeal.nD Cert.NormGateIdeal.τ).loc Cert.NormGateIdeal.main_arg4)) →
    ∃ (v0 : (c : Dev Cert.NormGateIdeal.nD) → Buf (Elt Ideal) ((c.tc : Thread Cert.NormGateIdeal.nD Cert.NormGateIdeal.τ).loc Cert.NormGateIdeal.main_v0_0)) (v1 : (c : Dev Cert.NormGateIdeal.nD) → Buf (Elt Ideal) ((c.tc : Thread Cert.NormGateIdeal.nD Cert.NormGateIdeal.τ).loc Cert.NormGateIdeal.main_v0_1)) (v2 : (c : Dev Cert.NormGateIdeal.nD) → Buf (Elt Ideal) ((c.tc : Thread Cert.NormGateIdeal.nD Cert.NormGateIdeal.τ).loc Cert.NormGateIdeal.main_v2)),
      θ_run (Cert.NormGateIdeal.defs (F := Ideal)) (onTc (τ := Cert.NormGateIdeal.τ) (Cert.NormGateIdeal.main (F := Ideal))) ⟨m, fun _ => 0, g⟩ (fun r => ∀ c : Dev Cert.NormGateIdeal.nD,
          r.2.mem ((c.tc : Thread Cert.NormGateIdeal.nD Cert.NormGateIdeal.τ).loc Cert.NormGateIdeal.main_v0_0) = v0 c
          ∧ r.2.mem ((c.tc : Thread Cert.NormGateIdeal.nD Cert.NormGateIdeal.τ).loc Cert.NormGateIdeal.main_v0_1) = v1 c
          ∧ r.2.mem ((c.tc : Thread Cert.NormGateIdeal.nD Cert.NormGateIdeal.τ).loc Cert.NormGateIdeal.main_v2) = v2 c
          ∧ r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
          ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
          ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
          ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3)
          ∧ r.2.mem ((c.tc : Thread Cert.NormGateIdeal.nD Cert.NormGateIdeal.τ).loc Cert.NormGateIdeal.main_arg4) = m ((c.tc : Thread Cert.NormGateIdeal.nD Cert.NormGateIdeal.τ).loc Cert.NormGateIdeal.main_arg4))
      ∧ θ_run (Cert.NormGateReferenceIdeal.defs (F := Ideal)) (onTc (τ := Cert.NormGateReferenceIdeal.τ) (Cert.NormGateReferenceIdeal.main (F := Ideal))) ⟨m', fun _ => 0, g'⟩ (fun r => ∀ c : Dev Cert.NormGateReferenceIdeal.nD,
          r.2.mem ((c.tc : Thread Cert.NormGateReferenceIdeal.nD Cert.NormGateReferenceIdeal.τ).loc Cert.NormGateReferenceIdeal.main_v38) = v0 c
          ∧ r.2.mem ((c.tc : Thread Cert.NormGateReferenceIdeal.nD Cert.NormGateReferenceIdeal.τ).loc Cert.NormGateReferenceIdeal.main_v39) = v1 c
          ∧ r.2.mem ((c.tc : Thread Cert.NormGateReferenceIdeal.nD Cert.NormGateReferenceIdeal.τ).loc Cert.NormGateReferenceIdeal.main_v21) = v2 c
          ∧ r.2.mem ((c.tc : Thread Cert.NormGateReferenceIdeal.nD Cert.NormGateReferenceIdeal.τ).loc Cert.NormGateReferenceIdeal.main_arg0) = m' ((c.tc : Thread Cert.NormGateReferenceIdeal.nD Cert.NormGateReferenceIdeal.τ).loc Cert.NormGateReferenceIdeal.main_arg0)
          ∧ r.2.mem ((c.tc : Thread Cert.NormGateReferenceIdeal.nD Cert.NormGateReferenceIdeal.τ).loc Cert.NormGateReferenceIdeal.main_arg1) = m' ((c.tc : Thread Cert.NormGateReferenceIdeal.nD Cert.NormGateReferenceIdeal.τ).loc Cert.NormGateReferenceIdeal.main_arg1)
          ∧ r.2.mem ((c.tc : Thread Cert.NormGateReferenceIdeal.nD Cert.NormGateReferenceIdeal.τ).loc Cert.NormGateReferenceIdeal.main_arg2) = m' ((c.tc : Thread Cert.NormGateReferenceIdeal.nD Cert.NormGateReferenceIdeal.τ).loc Cert.NormGateReferenceIdeal.main_arg2)
          ∧ r.2.mem ((c.tc : Thread Cert.NormGateReferenceIdeal.nD Cert.NormGateReferenceIdeal.τ).loc Cert.NormGateReferenceIdeal.main_arg3) = m' ((c.tc : Thread Cert.NormGateReferenceIdeal.nD Cert.NormGateReferenceIdeal.τ).loc Cert.NormGateReferenceIdeal.main_arg3)
          ∧ r.2.mem ((c.tc : Thread Cert.NormGateReferenceIdeal.nD Cert.NormGateReferenceIdeal.τ).loc Cert.NormGateReferenceIdeal.main_arg4) = m' ((c.tc : Thread Cert.NormGateReferenceIdeal.nD Cert.NormGateReferenceIdeal.τ).loc Cert.NormGateReferenceIdeal.main_arg4))

def preserves_NormMlp_NormMlpIdeal : Prop :=
  True

def algebraic_NormMlpIdeal_NormMlpReferenceIdeal [hNormMlpIdeal : Cert.NormMlpIdeal.Facts] [hNormMlpReferenceIdeal : Cert.NormMlpReferenceIdeal.Facts] : Prop :=
  ∀ (m : (ℓ : Loc Cert.NormMlpIdeal.nD Cert.NormMlpIdeal.τ Cert.NormMlpIdeal.sig) → Buf (Elt Ideal) ℓ) (g : Dev Cert.NormMlpIdeal.nD → PrngReg)
    (m' : (ℓ : Loc Cert.NormMlpReferenceIdeal.nD Cert.NormMlpReferenceIdeal.τ Cert.NormMlpReferenceIdeal.sig) → Buf (Elt Ideal) ℓ) (g' : Dev Cert.NormMlpReferenceIdeal.nD → PrngReg), Pre_NormMlpIdeal m →
    (∀ c : Dev Cert.NormMlpIdeal.nD,
      m' ((c.tc : Thread Cert.NormMlpReferenceIdeal.nD Cert.NormMlpReferenceIdeal.τ).loc Cert.NormMlpReferenceIdeal.main_arg0) = m ((c.tc : Thread Cert.NormMlpIdeal.nD Cert.NormMlpIdeal.τ).loc Cert.NormMlpIdeal.main_arg0)
      ∧ m' ((c.tc : Thread Cert.NormMlpReferenceIdeal.nD Cert.NormMlpReferenceIdeal.τ).loc Cert.NormMlpReferenceIdeal.main_arg1) = m ((c.tc : Thread Cert.NormMlpIdeal.nD Cert.NormMlpIdeal.τ).loc Cert.NormMlpIdeal.main_arg1)
      ∧ m' ((c.tc : Thread Cert.NormMlpReferenceIdeal.nD Cert.NormMlpReferenceIdeal.τ).loc Cert.NormMlpReferenceIdeal.main_arg2) = m ((c.tc : Thread Cert.NormMlpIdeal.nD Cert.NormMlpIdeal.τ).loc Cert.NormMlpIdeal.main_arg2)
      ∧ m' ((c.tc : Thread Cert.NormMlpReferenceIdeal.nD Cert.NormMlpReferenceIdeal.τ).loc Cert.NormMlpReferenceIdeal.main_arg3) = m ((c.tc : Thread Cert.NormMlpIdeal.nD Cert.NormMlpIdeal.τ).loc Cert.NormMlpIdeal.main_arg3)) →
    ∃ (v0 : (c : Dev Cert.NormMlpIdeal.nD) → Buf (Elt Ideal) ((c.tc : Thread Cert.NormMlpIdeal.nD Cert.NormMlpIdeal.τ).loc Cert.NormMlpIdeal.main_v0_0)) (v1 : (c : Dev Cert.NormMlpIdeal.nD) → Buf (Elt Ideal) ((c.tc : Thread Cert.NormMlpIdeal.nD Cert.NormMlpIdeal.τ).loc Cert.NormMlpIdeal.main_v0_1)) (v2 : (c : Dev Cert.NormMlpIdeal.nD) → Buf (Elt Ideal) ((c.tc : Thread Cert.NormMlpIdeal.nD Cert.NormMlpIdeal.τ).loc Cert.NormMlpIdeal.main_v2)),
      θ_run (Cert.NormMlpIdeal.defs (F := Ideal)) (onTc (τ := Cert.NormMlpIdeal.τ) (Cert.NormMlpIdeal.main (F := Ideal))) ⟨m, fun _ => 0, g⟩ (fun r => ∀ c : Dev Cert.NormMlpIdeal.nD,
          r.2.mem ((c.tc : Thread Cert.NormMlpIdeal.nD Cert.NormMlpIdeal.τ).loc Cert.NormMlpIdeal.main_v0_0) = v0 c
          ∧ r.2.mem ((c.tc : Thread Cert.NormMlpIdeal.nD Cert.NormMlpIdeal.τ).loc Cert.NormMlpIdeal.main_v0_1) = v1 c
          ∧ r.2.mem ((c.tc : Thread Cert.NormMlpIdeal.nD Cert.NormMlpIdeal.τ).loc Cert.NormMlpIdeal.main_v2) = v2 c
          ∧ r.2.mem ((c.tc : Thread Cert.NormMlpIdeal.nD Cert.NormMlpIdeal.τ).loc Cert.NormMlpIdeal.main_arg0) = m ((c.tc : Thread Cert.NormMlpIdeal.nD Cert.NormMlpIdeal.τ).loc Cert.NormMlpIdeal.main_arg0)
          ∧ r.2.mem ((c.tc : Thread Cert.NormMlpIdeal.nD Cert.NormMlpIdeal.τ).loc Cert.NormMlpIdeal.main_arg1) = m ((c.tc : Thread Cert.NormMlpIdeal.nD Cert.NormMlpIdeal.τ).loc Cert.NormMlpIdeal.main_arg1)
          ∧ r.2.mem ((c.tc : Thread Cert.NormMlpIdeal.nD Cert.NormMlpIdeal.τ).loc Cert.NormMlpIdeal.main_arg2) = m ((c.tc : Thread Cert.NormMlpIdeal.nD Cert.NormMlpIdeal.τ).loc Cert.NormMlpIdeal.main_arg2)
          ∧ r.2.mem ((c.tc : Thread Cert.NormMlpIdeal.nD Cert.NormMlpIdeal.τ).loc Cert.NormMlpIdeal.main_arg3) = m ((c.tc : Thread Cert.NormMlpIdeal.nD Cert.NormMlpIdeal.τ).loc Cert.NormMlpIdeal.main_arg3))
      ∧ θ_run (Cert.NormMlpReferenceIdeal.defs (F := Ideal)) (onTc (τ := Cert.NormMlpReferenceIdeal.τ) (Cert.NormMlpReferenceIdeal.main (F := Ideal))) ⟨m', fun _ => 0, g'⟩ (fun r => ∀ c : Dev Cert.NormMlpReferenceIdeal.nD,
          r.2.mem ((c.tc : Thread Cert.NormMlpReferenceIdeal.nD Cert.NormMlpReferenceIdeal.τ).loc Cert.NormMlpReferenceIdeal.main_v35) = v0 c
          ∧ r.2.mem ((c.tc : Thread Cert.NormMlpReferenceIdeal.nD Cert.NormMlpReferenceIdeal.τ).loc Cert.NormMlpReferenceIdeal.main_v36) = v1 c
          ∧ r.2.mem ((c.tc : Thread Cert.NormMlpReferenceIdeal.nD Cert.NormMlpReferenceIdeal.τ).loc Cert.NormMlpReferenceIdeal.main_v18) = v2 c
          ∧ r.2.mem ((c.tc : Thread Cert.NormMlpReferenceIdeal.nD Cert.NormMlpReferenceIdeal.τ).loc Cert.NormMlpReferenceIdeal.main_arg0) = m' ((c.tc : Thread Cert.NormMlpReferenceIdeal.nD Cert.NormMlpReferenceIdeal.τ).loc Cert.NormMlpReferenceIdeal.main_arg0)
          ∧ r.2.mem ((c.tc : Thread Cert.NormMlpReferenceIdeal.nD Cert.NormMlpReferenceIdeal.τ).loc Cert.NormMlpReferenceIdeal.main_arg1) = m' ((c.tc : Thread Cert.NormMlpReferenceIdeal.nD Cert.NormMlpReferenceIdeal.τ).loc Cert.NormMlpReferenceIdeal.main_arg1)
          ∧ r.2.mem ((c.tc : Thread Cert.NormMlpReferenceIdeal.nD Cert.NormMlpReferenceIdeal.τ).loc Cert.NormMlpReferenceIdeal.main_arg2) = m' ((c.tc : Thread Cert.NormMlpReferenceIdeal.nD Cert.NormMlpReferenceIdeal.τ).loc Cert.NormMlpReferenceIdeal.main_arg2)
          ∧ r.2.mem ((c.tc : Thread Cert.NormMlpReferenceIdeal.nD Cert.NormMlpReferenceIdeal.τ).loc Cert.NormMlpReferenceIdeal.main_arg3) = m' ((c.tc : Thread Cert.NormMlpReferenceIdeal.nD Cert.NormMlpReferenceIdeal.τ).loc Cert.NormMlpReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v97) = v0 c
          ∧ r.2.mem ((c.tc : Thread Cert.InProjReferenceIdeal.nD Cert.InProjReferenceIdeal.τ).loc Cert.InProjReferenceIdeal.main_v100) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)
      ∧ m' ((c.tc : Thread Cert.AdamReferenceIdeal.nD Cert.AdamReferenceIdeal.τ).loc Cert.AdamReferenceIdeal.main_arg4) = m ((c.tc : Thread Cert.AdamIdeal.nD Cert.AdamIdeal.τ).loc Cert.AdamIdeal.main_arg4)
      ∧ m' ((c.tc : Thread Cert.AdamReferenceIdeal.nD Cert.AdamReferenceIdeal.τ).loc Cert.AdamReferenceIdeal.main_arg5) = m ((c.tc : Thread Cert.AdamIdeal.nD Cert.AdamIdeal.τ).loc Cert.AdamIdeal.main_arg5)
      ∧ m' ((c.tc : Thread Cert.AdamReferenceIdeal.nD Cert.AdamReferenceIdeal.τ).loc Cert.AdamReferenceIdeal.main_arg6) = m ((c.tc : Thread Cert.AdamIdeal.nD Cert.AdamIdeal.τ).loc Cert.AdamIdeal.main_arg6)
      ∧ m' ((c.tc : Thread Cert.AdamReferenceIdeal.nD Cert.AdamReferenceIdeal.τ).loc Cert.AdamReferenceIdeal.main_arg7) = m ((c.tc : Thread Cert.AdamIdeal.nD Cert.AdamIdeal.τ).loc Cert.AdamIdeal.main_arg7)
      ∧ m' ((c.tc : Thread Cert.AdamReferenceIdeal.nD Cert.AdamReferenceIdeal.τ).loc Cert.AdamReferenceIdeal.main_arg8) = m ((c.tc : Thread Cert.AdamIdeal.nD Cert.AdamIdeal.τ).loc Cert.AdamIdeal.main_arg8)
      ∧ m' ((c.tc : Thread Cert.AdamReferenceIdeal.nD Cert.AdamReferenceIdeal.τ).loc Cert.AdamReferenceIdeal.main_arg9) = m ((c.tc : Thread Cert.AdamIdeal.nD Cert.AdamIdeal.τ).loc Cert.AdamIdeal.main_arg9)
      ∧ m' ((c.tc : Thread Cert.AdamReferenceIdeal.nD Cert.AdamReferenceIdeal.τ).loc Cert.AdamReferenceIdeal.main_arg10) = m ((c.tc : Thread Cert.AdamIdeal.nD Cert.AdamIdeal.τ).loc Cert.AdamIdeal.main_arg10)
      ∧ m' ((c.tc : Thread Cert.AdamReferenceIdeal.nD Cert.AdamReferenceIdeal.τ).loc Cert.AdamReferenceIdeal.main_arg11) = m ((c.tc : Thread Cert.AdamIdeal.nD Cert.AdamIdeal.τ).loc Cert.AdamIdeal.main_arg11)
      ∧ m' ((c.tc : Thread Cert.AdamReferenceIdeal.nD Cert.AdamReferenceIdeal.τ).loc Cert.AdamReferenceIdeal.main_arg12) = m ((c.tc : Thread Cert.AdamIdeal.nD Cert.AdamIdeal.τ).loc Cert.AdamIdeal.main_arg12)
      ∧ m' ((c.tc : Thread Cert.AdamReferenceIdeal.nD Cert.AdamReferenceIdeal.τ).loc Cert.AdamReferenceIdeal.main_arg13) = m ((c.tc : Thread Cert.AdamIdeal.nD Cert.AdamIdeal.τ).loc Cert.AdamIdeal.main_arg13)
      ∧ m' ((c.tc : Thread Cert.AdamReferenceIdeal.nD Cert.AdamReferenceIdeal.τ).loc Cert.AdamReferenceIdeal.main_arg14) = m ((c.tc : Thread Cert.AdamIdeal.nD Cert.AdamIdeal.τ).loc Cert.AdamIdeal.main_arg14)
      ∧ m' ((c.tc : Thread Cert.AdamReferenceIdeal.nD Cert.AdamReferenceIdeal.τ).loc Cert.AdamReferenceIdeal.main_arg15) = m ((c.tc : Thread Cert.AdamIdeal.nD Cert.AdamIdeal.τ).loc Cert.AdamIdeal.main_arg15)
      ∧ m' ((c.tc : Thread Cert.AdamReferenceIdeal.nD Cert.AdamReferenceIdeal.τ).loc Cert.AdamReferenceIdeal.main_arg16) = m ((c.tc : Thread Cert.AdamIdeal.nD Cert.AdamIdeal.τ).loc Cert.AdamIdeal.main_arg16)
      ∧ m' ((c.tc : Thread Cert.AdamReferenceIdeal.nD Cert.AdamReferenceIdeal.τ).loc Cert.AdamReferenceIdeal.main_arg17) = m ((c.tc : Thread Cert.AdamIdeal.nD Cert.AdamIdeal.τ).loc Cert.AdamIdeal.main_arg17)
      ∧ m' ((c.tc : Thread Cert.AdamReferenceIdeal.nD Cert.AdamReferenceIdeal.τ).loc Cert.AdamReferenceIdeal.main_arg18) = m ((c.tc : Thread Cert.AdamIdeal.nD Cert.AdamIdeal.τ).loc Cert.AdamIdeal.main_arg18)
      ∧ m' ((c.tc : Thread Cert.AdamReferenceIdeal.nD Cert.AdamReferenceIdeal.τ).loc Cert.AdamReferenceIdeal.main_arg19) = m ((c.tc : Thread Cert.AdamIdeal.nD Cert.AdamIdeal.τ).loc Cert.AdamIdeal.main_arg19)
      ∧ m' ((c.tc : Thread Cert.AdamReferenceIdeal.nD Cert.AdamReferenceIdeal.τ).loc Cert.AdamReferenceIdeal.main_arg20) = m ((c.tc : Thread Cert.AdamIdeal.nD Cert.AdamIdeal.τ).loc Cert.AdamIdeal.main_arg20)
      ∧ m' ((c.tc : Thread Cert.AdamReferenceIdeal.nD Cert.AdamReferenceIdeal.τ).loc Cert.AdamReferenceIdeal.main_arg21) = m ((c.tc : Thread Cert.AdamIdeal.nD Cert.AdamIdeal.τ).loc Cert.AdamIdeal.main_arg21)
      ∧ m' ((c.tc : Thread Cert.AdamReferenceIdeal.nD Cert.AdamReferenceIdeal.τ).loc Cert.AdamReferenceIdeal.main_arg22) = m ((c.tc : Thread Cert.AdamIdeal.nD Cert.AdamIdeal.τ).loc Cert.AdamIdeal.main_arg22)
      ∧ m' ((c.tc : Thread Cert.AdamReferenceIdeal.nD Cert.AdamReferenceIdeal.τ).loc Cert.AdamReferenceIdeal.main_arg23) = m ((c.tc : Thread Cert.AdamIdeal.nD Cert.AdamIdeal.τ).loc Cert.AdamIdeal.main_arg23)
      ∧ m' ((c.tc : Thread Cert.AdamReferenceIdeal.nD Cert.AdamReferenceIdeal.τ).loc Cert.AdamReferenceIdeal.main_arg24) = m ((c.tc : Thread Cert.AdamIdeal.nD Cert.AdamIdeal.τ).loc Cert.AdamIdeal.main_arg24)
      ∧ m' ((c.tc : Thread Cert.AdamReferenceIdeal.nD Cert.AdamReferenceIdeal.τ).loc Cert.AdamReferenceIdeal.main_arg25) = m ((c.tc : Thread Cert.AdamIdeal.nD Cert.AdamIdeal.τ).loc Cert.AdamIdeal.main_arg25)
      ∧ m' ((c.tc : Thread Cert.AdamReferenceIdeal.nD Cert.AdamReferenceIdeal.τ).loc Cert.AdamReferenceIdeal.main_arg26) = m ((c.tc : Thread Cert.AdamIdeal.nD Cert.AdamIdeal.τ).loc Cert.AdamIdeal.main_arg26)
      ∧ m' ((c.tc : Thread Cert.AdamReferenceIdeal.nD Cert.AdamReferenceIdeal.τ).loc Cert.AdamReferenceIdeal.main_arg27) = m ((c.tc : Thread Cert.AdamIdeal.nD Cert.AdamIdeal.τ).loc Cert.AdamIdeal.main_arg27)) →
    ∃ (v0 : (c : Dev Cert.AdamIdeal.nD) → Buf (Elt Ideal) ((c.tc : Thread Cert.AdamIdeal.nD Cert.AdamIdeal.τ).loc Cert.AdamIdeal.main_v22)) (v1 : (c : Dev Cert.AdamIdeal.nD) → Buf (Elt Ideal) ((c.tc : Thread Cert.AdamIdeal.nD Cert.AdamIdeal.τ).loc Cert.AdamIdeal.main_v28)) (v2 : (c : Dev Cert.AdamIdeal.nD) → Buf (Elt Ideal) ((c.tc : Thread Cert.AdamIdeal.nD Cert.AdamIdeal.τ).loc Cert.AdamIdeal.main_v29)) (v3 : (c : Dev Cert.AdamIdeal.nD) → Buf (Elt Ideal) ((c.tc : Thread Cert.AdamIdeal.nD Cert.AdamIdeal.τ).loc Cert.AdamIdeal.main_v34)) (v4 : (c : Dev Cert.AdamIdeal.nD) → Buf (Elt Ideal) ((c.tc : Thread Cert.AdamIdeal.nD Cert.AdamIdeal.τ).loc Cert.AdamIdeal.main_v23)) (v5 : (c : Dev Cert.AdamIdeal.nD) → Buf (Elt Ideal) ((c.tc : Thread Cert.AdamIdeal.nD Cert.AdamIdeal.τ).loc Cert.AdamIdeal.main_v24)) (v6 : (c : Dev Cert.AdamIdeal.nD) → Buf (Elt Ideal) ((c.tc : Thread Cert.AdamIdeal.nD Cert.AdamIdeal.τ).loc Cert.AdamIdeal.main_v25)) (v7 : (c : Dev Cert.AdamIdeal.nD) → Buf (Elt Ideal) ((c.tc : Thread Cert.AdamIdeal.nD Cert.AdamIdeal.τ).loc Cert.AdamIdeal.main_v33)) (v8 : (c : Dev Cert.AdamIdeal.nD) → Buf (Elt Ideal) ((c.tc : Thread Cert.AdamIdeal.nD Cert.AdamIdeal.τ).loc Cert.AdamIdeal.main_v27)) (v9 : (c : Dev Cert.AdamIdeal.nD) → Buf (Elt Ideal) ((c.tc : Thread Cert.AdamIdeal.nD Cert.AdamIdeal.τ).loc Cert.AdamIdeal.main_v37)) (v10 : (c : Dev Cert.AdamIdeal.nD) → Buf (Elt Ideal) ((c.tc : Thread Cert.AdamIdeal.nD Cert.AdamIdeal.τ).loc Cert.AdamIdeal.main_v43)) (v11 : (c : Dev Cert.AdamIdeal.nD) → Buf (Elt Ideal) ((c.tc : Thread Cert.AdamIdeal.nD Cert.AdamIdeal.τ).loc Cert.AdamIdeal.main_v44)) (v12 : (c : Dev Cert.AdamIdeal.nD) → Buf (Elt Ideal) ((c.tc : Thread Cert.AdamIdeal.nD Cert.AdamIdeal.τ).loc Cert.AdamIdeal.main_v49)) (v13 : (c : Dev Cert.AdamIdeal.nD) → Buf (Elt Ideal) ((c.tc : Thread Cert.AdamIdeal.nD Cert.AdamIdeal.τ).loc Cert.AdamIdeal.main_v38)) (v14 : (c : Dev Cert.AdamIdeal.nD) → Buf (Elt Ideal) ((c.tc : Thread Cert.AdamIdeal.nD Cert.AdamIdeal.τ).loc Cert.AdamIdeal.main_v39)) (v15 : (c : Dev Cert.AdamIdeal.nD) → Buf (Elt Ideal) ((c.tc : Thread Cert.AdamIdeal.nD Cert.AdamIdeal.τ).loc Cert.AdamIdeal.main_v40)) (v16 : (c : Dev Cert.AdamIdeal.nD) → Buf (Elt Ideal) ((c.tc : Thread Cert.AdamIdeal.nD Cert.AdamIdeal.τ).loc Cert.AdamIdeal.main_v48)) (v17 : (c : Dev Cert.AdamIdeal.nD) → Buf (Elt Ideal) ((c.tc : Thread Cert.AdamIdeal.nD Cert.AdamIdeal.τ).loc Cert.AdamIdeal.main_v42)) (v18 : (c : Dev Cert.AdamIdeal.nD) → Buf (Elt Ideal) ((c.tc : Thread Cert.AdamIdeal.nD Cert.AdamIdeal.τ).loc Cert.AdamIdeal.main_v52)) (v19 : (c : Dev Cert.AdamIdeal.nD) → Buf (Elt Ideal) ((c.tc : Thread Cert.AdamIdeal.nD Cert.AdamIdeal.τ).loc Cert.AdamIdeal.main_v58)) (v20 : (c : Dev Cert.AdamIdeal.nD) → Buf (Elt Ideal) ((c.tc : Thread Cert.AdamIdeal.nD Cert.AdamIdeal.τ).loc Cert.AdamIdeal.main_v59)) (v21 : (c : Dev Cert.AdamIdeal.nD) → Buf (Elt Ideal) ((c.tc : Thread Cert.AdamIdeal.nD Cert.AdamIdeal.τ).loc Cert.AdamIdeal.main_v64)) (v22 : (c : Dev Cert.AdamIdeal.nD) → Buf (Elt Ideal) ((c.tc : Thread Cert.AdamIdeal.nD Cert.AdamIdeal.τ).loc Cert.AdamIdeal.main_v53)) (v23 : (c : Dev Cert.AdamIdeal.nD) → Buf (Elt Ideal) ((c.tc : Thread Cert.AdamIdeal.nD Cert.AdamIdeal.τ).loc Cert.AdamIdeal.main_v54)) (v24 : (c : Dev Cert.AdamIdeal.nD) → Buf (Elt Ideal) ((c.tc : Thread Cert.AdamIdeal.nD Cert.AdamIdeal.τ).loc Cert.AdamIdeal.main_v55)) (v25 : (c : Dev Cert.AdamIdeal.nD) → Buf (Elt Ideal) ((c.tc : Thread Cert.AdamIdeal.nD Cert.AdamIdeal.τ).loc Cert.AdamIdeal.main_v63)) (v26 : (c : Dev Cert.AdamIdeal.nD) → Buf (Elt Ideal) ((c.tc : Thread Cert.AdamIdeal.nD Cert.AdamIdeal.τ).loc Cert.AdamIdeal.main_v57)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v22) = v0 c
          ∧ r.2.mem ((c.tc : Thread Cert.AdamIdeal.nD Cert.AdamIdeal.τ).loc Cert.AdamIdeal.main_v28) = v1 c
          ∧ r.2.mem ((c.tc : Thread Cert.AdamIdeal.nD Cert.AdamIdeal.τ).loc Cert.AdamIdeal.main_v29) = v2 c
          ∧ r.2.mem ((c.tc : Thread Cert.AdamIdeal.nD Cert.AdamIdeal.τ).loc Cert.AdamIdeal.main_v34) = v3 c
          ∧ r.2.mem ((c.tc : Thread Cert.AdamIdeal.nD Cert.AdamIdeal.τ).loc Cert.AdamIdeal.main_v23) = v4 c
          ∧ r.2.mem ((c.tc : Thread Cert.AdamIdeal.nD Cert.AdamIdeal.τ).loc Cert.AdamIdeal.main_v24) = v5 c
          ∧ r.2.mem ((c.tc : Thread Cert.AdamIdeal.nD Cert.AdamIdeal.τ).loc Cert.AdamIdeal.main_v25) = v6 c
          ∧ r.2.mem ((c.tc : Thread Cert.AdamIdeal.nD Cert.AdamIdeal.τ).loc Cert.AdamIdeal.main_v33) = v7 c
          ∧ r.2.mem ((c.tc : Thread Cert.AdamIdeal.nD Cert.AdamIdeal.τ).loc Cert.AdamIdeal.main_v27) = v8 c
          ∧ r.2.mem ((c.tc : Thread Cert.AdamIdeal.nD Cert.AdamIdeal.τ).loc Cert.AdamIdeal.main_v37) = v9 c
          ∧ r.2.mem ((c.tc : Thread Cert.AdamIdeal.nD Cert.AdamIdeal.τ).loc Cert.AdamIdeal.main_v43) = v10 c
          ∧ r.2.mem ((c.tc : Thread Cert.AdamIdeal.nD Cert.AdamIdeal.τ).loc Cert.AdamIdeal.main_v44) = v11 c
          ∧ r.2.mem ((c.tc : Thread Cert.AdamIdeal.nD Cert.AdamIdeal.τ).loc Cert.AdamIdeal.main_v49) = v12 c
          ∧ r.2.mem ((c.tc : Thread Cert.AdamIdeal.nD Cert.AdamIdeal.τ).loc Cert.AdamIdeal.main_v38) = v13 c
          ∧ r.2.mem ((c.tc : Thread Cert.AdamIdeal.nD Cert.AdamIdeal.τ).loc Cert.AdamIdeal.main_v39) = v14 c
          ∧ r.2.mem ((c.tc : Thread Cert.AdamIdeal.nD Cert.AdamIdeal.τ).loc Cert.AdamIdeal.main_v40) = v15 c
          ∧ r.2.mem ((c.tc : Thread Cert.AdamIdeal.nD Cert.AdamIdeal.τ).loc Cert.AdamIdeal.main_v48) = v16 c
          ∧ r.2.mem ((c.tc : Thread Cert.AdamIdeal.nD Cert.AdamIdeal.τ).loc Cert.AdamIdeal.main_v42) = v17 c
          ∧ r.2.mem ((c.tc : Thread Cert.AdamIdeal.nD Cert.AdamIdeal.τ).loc Cert.AdamIdeal.main_v52) = v18 c
          ∧ r.2.mem ((c.tc : Thread Cert.AdamIdeal.nD Cert.AdamIdeal.τ).loc Cert.AdamIdeal.main_v58) = v19 c
          ∧ r.2.mem ((c.tc : Thread Cert.AdamIdeal.nD Cert.AdamIdeal.τ).loc Cert.AdamIdeal.main_v59) = v20 c
          ∧ r.2.mem ((c.tc : Thread Cert.AdamIdeal.nD Cert.AdamIdeal.τ).loc Cert.AdamIdeal.main_v64) = v21 c
          ∧ r.2.mem ((c.tc : Thread Cert.AdamIdeal.nD Cert.AdamIdeal.τ).loc Cert.AdamIdeal.main_v53) = v22 c
          ∧ r.2.mem ((c.tc : Thread Cert.AdamIdeal.nD Cert.AdamIdeal.τ).loc Cert.AdamIdeal.main_v54) = v23 c
          ∧ r.2.mem ((c.tc : Thread Cert.AdamIdeal.nD Cert.AdamIdeal.τ).loc Cert.AdamIdeal.main_v55) = v24 c
          ∧ r.2.mem ((c.tc : Thread Cert.AdamIdeal.nD Cert.AdamIdeal.τ).loc Cert.AdamIdeal.main_v63) = v25 c
          ∧ r.2.mem ((c.tc : Thread Cert.AdamIdeal.nD Cert.AdamIdeal.τ).loc Cert.AdamIdeal.main_v57) = v26 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
          ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
          ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
          ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
          ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
          ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
          ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
          ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
          ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
          ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
          ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
          ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
          ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
          ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
          ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
          ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
          ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v36) = v0 c
          ∧ r.2.mem ((c.tc : Thread Cert.AdamReferenceIdeal.nD Cert.AdamReferenceIdeal.τ).loc Cert.AdamReferenceIdeal.main_v60) = v1 c
          ∧ r.2.mem ((c.tc : Thread Cert.AdamReferenceIdeal.nD Cert.AdamReferenceIdeal.τ).loc Cert.AdamReferenceIdeal.main_v84) = v2 c
          ∧ r.2.mem ((c.tc : Thread Cert.AdamReferenceIdeal.nD Cert.AdamReferenceIdeal.τ).loc Cert.AdamReferenceIdeal.main_v108) = v3 c
          ∧ r.2.mem ((c.tc : Thread Cert.AdamReferenceIdeal.nD Cert.AdamReferenceIdeal.τ).loc Cert.AdamReferenceIdeal.main_v132) = v4 c
          ∧ r.2.mem ((c.tc : Thread Cert.AdamReferenceIdeal.nD Cert.AdamReferenceIdeal.τ).loc Cert.AdamReferenceIdeal.main_v156) = v5 c
          ∧ r.2.mem ((c.tc : Thread Cert.AdamReferenceIdeal.nD Cert.AdamReferenceIdeal.τ).loc Cert.AdamReferenceIdeal.main_v180) = v6 c
          ∧ r.2.mem ((c.tc : Thread Cert.AdamReferenceIdeal.nD Cert.AdamReferenceIdeal.τ).loc Cert.AdamReferenceIdeal.main_v204) = v7 c
          ∧ r.2.mem ((c.tc : Thread Cert.AdamReferenceIdeal.nD Cert.AdamReferenceIdeal.τ).loc Cert.AdamReferenceIdeal.main_v228) = v8 c
          ∧ r.2.mem ((c.tc : Thread Cert.AdamReferenceIdeal.nD Cert.AdamReferenceIdeal.τ).loc Cert.AdamReferenceIdeal.main_v17) = v9 c
          ∧ r.2.mem ((c.tc : Thread Cert.AdamReferenceIdeal.nD Cert.AdamReferenceIdeal.τ).loc Cert.AdamReferenceIdeal.main_v41) = v10 c
          ∧ r.2.mem ((c.tc : Thread Cert.AdamReferenceIdeal.nD Cert.AdamReferenceIdeal.τ).loc Cert.AdamReferenceIdeal.main_v65) = v11 c
          ∧ r.2.mem ((c.tc : Thread Cert.AdamReferenceIdeal.nD Cert.AdamReferenceIdeal.τ).loc Cert.AdamReferenceIdeal.main_v89) = v12 c
          ∧ r.2.mem ((c.tc : Thread Cert.AdamReferenceIdeal.nD Cert.AdamReferenceIdeal.τ).loc Cert.AdamReferenceIdeal.main_v113) = v13 c
          ∧ r.2.mem ((c.tc : Thread Cert.AdamReferenceIdeal.nD Cert.AdamReferenceIdeal.τ).loc Cert.AdamReferenceIdeal.main_v137) = v14 c
          ∧ r.2.mem ((c.tc : Thread Cert.AdamReferenceIdeal.nD Cert.AdamReferenceIdeal.τ).loc Cert.AdamReferenceIdeal.main_v161) = v15 c
          ∧ r.2.mem ((c.tc : Thread Cert.AdamReferenceIdeal.nD Cert.AdamReferenceIdeal.τ).loc Cert.AdamReferenceIdeal.main_v185) = v16 c
          ∧ r.2.mem ((c.tc : Thread Cert.AdamReferenceIdeal.nD Cert.AdamReferenceIdeal.τ).loc Cert.AdamReferenceIdeal.main_v209) = v17 c
          ∧ r.2.mem ((c.tc : Thread Cert.AdamReferenceIdeal.nD Cert.AdamReferenceIdeal.τ).loc Cert.AdamReferenceIdeal.main_v23) = v18 c
          ∧ r.2.mem ((c.tc : Thread Cert.AdamReferenceIdeal.nD Cert.AdamReferenceIdeal.τ).loc Cert.AdamReferenceIdeal.main_v47) = v19 c
          ∧ r.2.mem ((c.tc : Thread Cert.AdamReferenceIdeal.nD Cert.AdamReferenceIdeal.τ).loc Cert.AdamReferenceIdeal.main_v71) = v20 c
          ∧ r.2.mem ((c.tc : Thread Cert.AdamReferenceIdeal.nD Cert.AdamReferenceIdeal.τ).loc Cert.AdamReferenceIdeal.main_v95) = v21 c
          ∧ r.2.mem ((c.tc : Thread Cert.AdamReferenceIdeal.nD Cert.AdamReferenceIdeal.τ).loc Cert.AdamReferenceIdeal.main_v119) = v22 c
          ∧ r.2.mem ((c.tc : Thread Cert.AdamReferenceIdeal.nD Cert.AdamReferenceIdeal.τ).loc Cert.AdamReferenceIdeal.main_v143) = v23 c
          ∧ r.2.mem ((c.tc : Thread Cert.AdamReferenceIdeal.nD Cert.AdamReferenceIdeal.τ).loc Cert.AdamReferenceIdeal.main_v167) = v24 c
          ∧ r.2.mem ((c.tc : Thread Cert.AdamReferenceIdeal.nD Cert.AdamReferenceIdeal.τ).loc Cert.AdamReferenceIdeal.main_v191) = v25 c
          ∧ r.2.mem ((c.tc : Thread Cert.AdamReferenceIdeal.nD Cert.AdamReferenceIdeal.τ).loc Cert.AdamReferenceIdeal.main_v215) = v26 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5)
          ∧ r.2.mem ((c.tc : Thread Cert.AdamReferenceIdeal.nD Cert.AdamReferenceIdeal.τ).loc Cert.AdamReferenceIdeal.main_arg6) = m' ((c.tc : Thread Cert.AdamReferenceIdeal.nD Cert.AdamReferenceIdeal.τ).loc Cert.AdamReferenceIdeal.main_arg6)
          ∧ r.2.mem ((c.tc : Thread Cert.AdamReferenceIdeal.nD Cert.AdamReferenceIdeal.τ).loc Cert.AdamReferenceIdeal.main_arg7) = m' ((c.tc : Thread Cert.AdamReferenceIdeal.nD Cert.AdamReferenceIdeal.τ).loc Cert.AdamReferenceIdeal.main_arg7)
          ∧ r.2.mem ((c.tc : Thread Cert.AdamReferenceIdeal.nD Cert.AdamReferenceIdeal.τ).loc Cert.AdamReferenceIdeal.main_arg8) = m' ((c.tc : Thread Cert.AdamReferenceIdeal.nD Cert.AdamReferenceIdeal.τ).loc Cert.AdamReferenceIdeal.main_arg8)
          ∧ r.2.mem ((c.tc : Thread Cert.AdamReferenceIdeal.nD Cert.AdamReferenceIdeal.τ).loc Cert.AdamReferenceIdeal.main_arg9) = m' ((c.tc : Thread Cert.AdamReferenceIdeal.nD Cert.AdamReferenceIdeal.τ).loc Cert.AdamReferenceIdeal.main_arg9)
          ∧ r.2.mem ((c.tc : Thread Cert.AdamReferenceIdeal.nD Cert.AdamReferenceIdeal.τ).loc Cert.AdamReferenceIdeal.main_arg10) = m' ((c.tc : Thread Cert.AdamReferenceIdeal.nD Cert.AdamReferenceIdeal.τ).loc Cert.AdamReferenceIdeal.main_arg10)
          ∧ r.2.mem ((c.tc : Thread Cert.AdamReferenceIdeal.nD Cert.AdamReferenceIdeal.τ).loc Cert.AdamReferenceIdeal.main_arg11) = m' ((c.tc : Thread Cert.AdamReferenceIdeal.nD Cert.AdamReferenceIdeal.τ).loc Cert.AdamReferenceIdeal.main_arg11)
          ∧ r.2.mem ((c.tc : Thread Cert.AdamReferenceIdeal.nD Cert.AdamReferenceIdeal.τ).loc Cert.AdamReferenceIdeal.main_arg12) = m' ((c.tc : Thread Cert.AdamReferenceIdeal.nD Cert.AdamReferenceIdeal.τ).loc Cert.AdamReferenceIdeal.main_arg12)
          ∧ r.2.mem ((c.tc : Thread Cert.AdamReferenceIdeal.nD Cert.AdamReferenceIdeal.τ).loc Cert.AdamReferenceIdeal.main_arg13) = m' ((c.tc : Thread Cert.AdamReferenceIdeal.nD Cert.AdamReferenceIdeal.τ).loc Cert.AdamReferenceIdeal.main_arg13)
          ∧ r.2.mem ((c.tc : Thread Cert.AdamReferenceIdeal.nD Cert.AdamReferenceIdeal.τ).loc Cert.AdamReferenceIdeal.main_arg14) = m' ((c.tc : Thread Cert.AdamReferenceIdeal.nD Cert.AdamReferenceIdeal.τ).loc Cert.AdamReferenceIdeal.main_arg14)
          ∧ r.2.mem ((c.tc : Thread Cert.AdamReferenceIdeal.nD Cert.AdamReferenceIdeal.τ).loc Cert.AdamReferenceIdeal.main_arg15) = m' ((c.tc : Thread Cert.AdamReferenceIdeal.nD Cert.AdamReferenceIdeal.τ).loc Cert.AdamReferenceIdeal.main_arg15)
          ∧ r.2.mem ((c.tc : Thread Cert.AdamReferenceIdeal.nD Cert.AdamReferenceIdeal.τ).loc Cert.AdamReferenceIdeal.main_arg16) = m' ((c.tc : Thread Cert.AdamReferenceIdeal.nD Cert.AdamReferenceIdeal.τ).loc Cert.AdamReferenceIdeal.main_arg16)
          ∧ r.2.mem ((c.tc : Thread Cert.AdamReferenceIdeal.nD Cert.AdamReferenceIdeal.τ).loc Cert.AdamReferenceIdeal.main_arg17) = m' ((c.tc : Thread Cert.AdamReferenceIdeal.nD Cert.AdamReferenceIdeal.τ).loc Cert.AdamReferenceIdeal.main_arg17)
          ∧ r.2.mem ((c.tc : Thread Cert.AdamReferenceIdeal.nD Cert.AdamReferenceIdeal.τ).loc Cert.AdamReferenceIdeal.main_arg18) = m' ((c.tc : Thread Cert.AdamReferenceIdeal.nD Cert.AdamReferenceIdeal.τ).loc Cert.AdamReferenceIdeal.main_arg18)
          ∧ r.2.mem ((c.tc : Thread Cert.AdamReferenceIdeal.nD Cert.AdamReferenceIdeal.τ).loc Cert.AdamReferenceIdeal.main_arg19) = m' ((c.tc : Thread Cert.AdamReferenceIdeal.nD Cert.AdamReferenceIdeal.τ).loc Cert.AdamReferenceIdeal.main_arg19)
          ∧ r.2.mem ((c.tc : Thread Cert.AdamReferenceIdeal.nD Cert.AdamReferenceIdeal.τ).loc Cert.AdamReferenceIdeal.main_arg20) = m' ((c.tc : Thread Cert.AdamReferenceIdeal.nD Cert.AdamReferenceIdeal.τ).loc Cert.AdamReferenceIdeal.main_arg20)
          ∧ r.2.mem ((c.tc : Thread Cert.AdamReferenceIdeal.nD Cert.AdamReferenceIdeal.τ).loc Cert.AdamReferenceIdeal.main_arg21) = m' ((c.tc : Thread Cert.AdamReferenceIdeal.nD Cert.AdamReferenceIdeal.τ).loc Cert.AdamReferenceIdeal.main_arg21)
          ∧ r.2.mem ((c.tc : Thread Cert.AdamReferenceIdeal.nD Cert.AdamReferenceIdeal.τ).loc Cert.AdamReferenceIdeal.main_arg22) = m' ((c.tc : Thread Cert.AdamReferenceIdeal.nD Cert.AdamReferenceIdeal.τ).loc Cert.AdamReferenceIdeal.main_arg22)
          ∧ r.2.mem ((c.tc : Thread Cert.AdamReferenceIdeal.nD Cert.AdamReferenceIdeal.τ).loc Cert.AdamReferenceIdeal.main_arg23) = m' ((c.tc : Thread Cert.AdamReferenceIdeal.nD Cert.AdamReferenceIdeal.τ).loc Cert.AdamReferenceIdeal.main_arg23)
          ∧ r.2.mem ((c.tc : Thread Cert.AdamReferenceIdeal.nD Cert.AdamReferenceIdeal.τ).loc Cert.AdamReferenceIdeal.main_arg24) = m' ((c.tc : Thread Cert.AdamReferenceIdeal.nD Cert.AdamReferenceIdeal.τ).loc Cert.AdamReferenceIdeal.main_arg24)
          ∧ r.2.mem ((c.tc : Thread Cert.AdamReferenceIdeal.nD Cert.AdamReferenceIdeal.τ).loc Cert.AdamReferenceIdeal.main_arg25) = m' ((c.tc : Thread Cert.AdamReferenceIdeal.nD Cert.AdamReferenceIdeal.τ).loc Cert.AdamReferenceIdeal.main_arg25)
          ∧ r.2.mem ((c.tc : Thread Cert.AdamReferenceIdeal.nD Cert.AdamReferenceIdeal.τ).loc Cert.AdamReferenceIdeal.main_arg26) = m' ((c.tc : Thread Cert.AdamReferenceIdeal.nD Cert.AdamReferenceIdeal.τ).loc Cert.AdamReferenceIdeal.main_arg26)
          ∧ r.2.mem ((c.tc : Thread Cert.AdamReferenceIdeal.nD Cert.AdamReferenceIdeal.τ).loc Cert.AdamReferenceIdeal.main_arg27) = m' ((c.tc : Thread Cert.AdamReferenceIdeal.nD Cert.AdamReferenceIdeal.τ).loc Cert.AdamReferenceIdeal.main_arg27))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hOut : Cert.Out.Facts) (hOutIdeal : Cert.OutIdeal.Facts) (hOutReferenceIdeal : Cert.OutReferenceIdeal.Facts) (hWeights : Cert.Weights.Facts) (hWeightsIdeal : Cert.WeightsIdeal.Facts) (hWeightsReferenceIdeal : Cert.WeightsReferenceIdeal.Facts) (hNormIn : Cert.NormIn.Facts) (hNormInIdeal : Cert.NormInIdeal.Facts) (hNormInReferenceIdeal : Cert.NormInReferenceIdeal.Facts) (hNormGate : Cert.NormGate.Facts) (hNormGateIdeal : Cert.NormGateIdeal.Facts) (hNormGateReferenceIdeal : Cert.NormGateReferenceIdeal.Facts) (hNormMlp : Cert.NormMlp.Facts) (hNormMlpIdeal : Cert.NormMlpIdeal.Facts) (hNormMlpReferenceIdeal : Cert.NormMlpReferenceIdeal.Facts) (hInProj : Cert.InProj.Facts) (hInProjIdeal : Cert.InProjIdeal.Facts) (hInProjReferenceIdeal : Cert.InProjReferenceIdeal.Facts) (hAdam : Cert.Adam.Facts) (hAdamIdeal : Cert.AdamIdeal.Facts) (hAdamReferenceIdeal : Cert.AdamReferenceIdeal.Facts) (hPre_finite : Cert.Pre_finite.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Out (hOut := hOut)
    ∧ quiescent_OutIdeal (hOutIdeal := hOutIdeal)
    ∧ quiescent_OutReferenceIdeal (hOutReferenceIdeal := hOutReferenceIdeal)
    ∧ quiescent_Weights (hWeights := hWeights)
    ∧ quiescent_WeightsIdeal (hWeightsIdeal := hWeightsIdeal)
    ∧ quiescent_WeightsReferenceIdeal (hWeightsReferenceIdeal := hWeightsReferenceIdeal)
    ∧ quiescent_NormIn (hNormIn := hNormIn)
    ∧ quiescent_NormInIdeal (hNormInIdeal := hNormInIdeal)
    ∧ quiescent_NormInReferenceIdeal (hNormInReferenceIdeal := hNormInReferenceIdeal)
    ∧ quiescent_NormGate (hNormGate := hNormGate)
    ∧ quiescent_NormGateIdeal (hNormGateIdeal := hNormGateIdeal)
    ∧ quiescent_NormGateReferenceIdeal (hNormGateReferenceIdeal := hNormGateReferenceIdeal)
    ∧ quiescent_NormMlp (hNormMlp := hNormMlp)
    ∧ quiescent_NormMlpIdeal (hNormMlpIdeal := hNormMlpIdeal)
    ∧ quiescent_NormMlpReferenceIdeal (hNormMlpReferenceIdeal := hNormMlpReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Mlp_MlpIdeal
    ∧ algebraic_MlpIdeal_MlpReferenceIdeal (hMlpIdeal := hMlpIdeal) (hMlpReferenceIdeal := hMlpReferenceIdeal)
    ∧ preserves_Out_OutIdeal
    ∧ algebraic_OutIdeal_OutReferenceIdeal (hOutIdeal := hOutIdeal) (hOutReferenceIdeal := hOutReferenceIdeal)
    ∧ preserves_Weights_WeightsIdeal
    ∧ algebraic_WeightsIdeal_WeightsReferenceIdeal (hWeightsIdeal := hWeightsIdeal) (hWeightsReferenceIdeal := hWeightsReferenceIdeal)
    ∧ preserves_NormIn_NormInIdeal
    ∧ algebraic_NormInIdeal_NormInReferenceIdeal (hNormInIdeal := hNormInIdeal) (hNormInReferenceIdeal := hNormInReferenceIdeal)
    ∧ preserves_NormGate_NormGateIdeal
    ∧ algebraic_NormGateIdeal_NormGateReferenceIdeal (hNormGateIdeal := hNormGateIdeal) (hNormGateReferenceIdeal := hNormGateReferenceIdeal)
    ∧ preserves_NormMlp_NormMlpIdeal
    ∧ algebraic_NormMlpIdeal_NormMlpReferenceIdeal (hNormMlpIdeal := hNormMlpIdeal) (hNormMlpReferenceIdeal := hNormMlpReferenceIdeal)
    ∧ preserves_InProj_InProjIdeal
    ∧ algebraic_InProjIdeal_InProjReferenceIdeal (hInProjIdeal := hInProjIdeal) (hInProjReferenceIdeal := hInProjReferenceIdeal)
    ∧ preserves_Adam_AdamIdeal
    ∧ algebraic_AdamIdeal_AdamReferenceIdeal (hAdamIdeal := hAdamIdeal) (hAdamReferenceIdeal := hAdamReferenceIdeal)
-- ==== On_written.lean ====
abbrev S4096x3072 : Shape := ⟨2, ![4096, 3072]⟩
abbrev S4096x2048 : Shape := ⟨2, ![4096, 2048]⟩
abbrev S_ : Shape := ⟨0, ![]⟩
abbrev S8x4096x1 : Shape := ⟨3, ![8, 4096, 1]⟩
abbrev S4096x1024 : Shape := ⟨2, ![4096, 1024]⟩
abbrev S256x4096 : Shape := ⟨2, ![256, 4096]⟩

class Facts : Prop where
  bcast_S_S4096x2048 : S_.BroadcastsInDim S4096x2048 (![] : Fin 0 → Fin S4096x2048.rank)
  bcast_S_S8x4096x1 : S_.BroadcastsInDim S8x4096x1 (![] : Fin 0 → Fin S8x4096x1.rank)
  bcast_S_S4096x1024 : S_.BroadcastsInDim S4096x1024 (![] : Fin 0 → Fin S4096x1024.rank)
  bcast_S_S256x4096 : S_.BroadcastsInDim S256x4096 (![] : Fin 0 → Fin S256x4096.rank)

variable [Facts]

def fn {F : FTy → Type} [FloatOps F] (main_arg0 : FVec F S4096x3072 .bf16) (main_arg1 : FVec F S4096x2048 .bf16) : IVec S4096x2048 1 × IVec S8x4096x1 1 × IVec S4096x1024 1 × IVec S256x4096 1 × IVec S256x4096 1 :=
  let main_v0 : IVec S4096x2048 32 := iotaInDim S4096x2048 32 1
  let main_c : IVec S_ 32 := constantI S_ 32 1024#32
  let main_v1 : IVec S4096x2048 32 := broadcastInDim S4096x2048 ![] bcast_S_S4096x2048 main_c
  let main_v2 : IVec S4096x2048 1 := cmpi .slt main_v0 main_v1
  let main_c_0 : IVec S_ 1 := constantI S_ 1 1#1
  let main_v3 : IVec S8x4096x1 1 := broadcastInDim S8x4096x1 ![] bcast_S_S8x4096x1 main_c_0
  let main_c_1 : IVec S_ 1 := constantI S_ 1 1#1
  let main_v4 : IVec S4096x1024 1 := broadcastInDim S4096x1024 ![] bcast_S_S4096x1024 main_c_1
  let main_c_2 : IVec S_ 1 := constantI S_ 1 1#1
  let main_v5 : IVec S256x4096 1 := broadcastInDim S256x4096 ![] bcast_S_S256x4096 main_c_2
  let main_c_3 : IVec S_ 1 := constantI S_ 1 1#1
  let main_v6 : IVec S256x4096 1 := broadcastInDim S256x4096 ![] bcast_S_S256x4096 main_c_3
  (main_v2, main_v3, main_v4, main_v5, main_v6)
-- ==== Pre_finite.lean ====
abbrev S4096x3072 : Shape := ⟨2, ![4096, 3072]⟩
abbrev S4096x2048 : Shape := ⟨2, ![4096, 2048]⟩
abbrev S4096x1536 : Shape := ⟨2, ![4096, 1536]⟩
abbrev S_ : Shape := ⟨0, ![]⟩
abbrev S4096x1024 : Shape := ⟨2, ![4096, 1024]⟩

class Facts : Prop where
  slices_S4096x3072_S4096x1536_0_0 : S4096x3072.Slices ![0, 0] S4096x1536
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  slices_S4096x2048_S4096x1024_0_0 : S4096x2048.Slices ![0, 0] S4096x1024
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x3072 .bf16) (main_arg1 : FVec F S4096x2048 .bf16) : IVec S_ 1 :=
  let main_v0 : FVec F S4096x1536 .bf16 := (extractStridedSlice S4096x1536 ![0, 0] · slices_S4096x3072_S4096x1536_0_0) main_arg0
  let main_v1 : FVec F S4096x1536 .f32 := (extf .f32 · bitsLt_bf16_f32) main_v0
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  let main_c : IVec S_ 1 := constantI S_ 1 1#1
  let main_v5 : IVec S_ 1 := (fun x v => Host.reduce IntOp.andi x v reducesTo_S4096x1536_S_d0_1 h_S_) main_v4 main_c
  let main_v6 : FVec F S4096x1024 .bf16 := (extractStridedSlice S4096x1024 ![0, 0] · slices_S4096x2048_S4096x1024_0_0) main_arg1
  let main_v7 : FVec F S4096x1024 .f32 := (extf .f32 · bitsLt_bf16_f32) main_v6
  let main_v8 : FVec F S4096x1024 .f32 := Host.absf main_v7
  let main_cst_0 : FVec F S_ .f32 := constant S_ .f32 0x7F800000#32
  let main_v9 : FVec F S4096x1024 .f32 := broadcastInDim S4096x1024 ![] bcast_S_S4096x1024 main_cst_0
  let main_v10 : IVec S4096x1024 1 := cmpf .olt main_v8 main_v9
  let main_c_1 : IVec S_ 1 := constantI S_ 1 1#1
  let main_v11 : IVec S_ 1 := (fun x v => Host.reduce IntOp.andi x v reducesTo_S4096x1024_S_d0_1 h_S_) main_v10 main_c_1
  let main_v12 : IVec S_ 1 := andi main_v5 main_v11
  main_v12
-- ==== Kernel.lean ====
abbrev S4096x3072 : Shape := ⟨2, ![4096, 3072]⟩
abbrev S4096x2048 : Shape := ⟨2, ![4096, 2048]⟩
abbrev S8x4096x1 : Shape := ⟨3, ![8, 4096, 1]⟩
abbrev S2048x128 : Shape := ⟨2, ![2048, 128]⟩
abbrev S4096x128 : Shape := ⟨2, ![4096, 128]⟩
abbrev S1x2048x1 : Shape := ⟨3, ![1, 2048, 1]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S4096x1024 : Shape := ⟨2, ![4096, 1024]⟩
abbrev S256x4096 : Shape := ⟨2, ![256, 4096]⟩
abbrev S128x4096 : Shape := ⟨2, ![128, 4096]⟩
abbrev S128x512 : Shape := ⟨2, ![128, 512]⟩
abbrev S512x512 : Shape := ⟨2, ![512, 512]⟩

abbrev nBuf : Space → Nat
  | .hbm => 7
  | .vmem => 28
  | .smem => 0
  | _ => 0

abbrev bufTy : (tb : Table) → Fin (tcTables nBuf tb) → BufTy
  | .hbm, ⟨0, _⟩ => ⟨S4096x3072, .bf16⟩
  | .hbm, ⟨1, _⟩ => ⟨S4096x2048, .bf16⟩
  | .hbm, ⟨2, _⟩ => ⟨S4096x2048, .bf16⟩
  | .hbm, ⟨3, _⟩ => ⟨S8x4096x1, .f32⟩
  | .hbm, ⟨4, _⟩ => ⟨S4096x1024, .f32⟩
  | .hbm, ⟨5, _⟩ => ⟨S256x4096, .f32⟩
  | .hbm, ⟨6, _⟩ => ⟨S256x4096, .f32⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S2048x128, .bf16⟩
  | .local _ .vmem, ⟨11, _⟩ => ⟨S2048x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x2048x1, .f32⟩
  | .local _ .vmem, ⟨21, _⟩ => ⟨S1x2048x1, .f32⟩
  | .local _ .vmem, ⟨22, _⟩ => ⟨S2048x128, .f32⟩
  | .local _ .vmem, ⟨23, _⟩ => ⟨S2048x128, .f32⟩
  | .local _ .vmem, ⟨24, _⟩ => ⟨S128x4096, .f32⟩
  | .local _ .vmem, ⟨25, _⟩ => ⟨S128x4096, .f32⟩
  | .local _ .vmem, ⟨26, _⟩ => ⟨S128x4096, .f32⟩
  | .local _ .vmem, ⟨27, _⟩ => ⟨S128x4096, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨3, ![2, 4, 2], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S128x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S4096x3072 : Shape := ⟨2, ![4096, 3072]⟩
abbrev S4096x2048 : Shape := ⟨2, ![4096, 2048]⟩
abbrev S4096x1024 : Shape := ⟨2, ![4096, 1024]⟩
abbrev S4096x2x4x128 : Shape := ⟨4, ![4096, 2, 4, 128]⟩
abbrev S2x4x4096x128 : Shape := ⟨4, ![2, 4, 4096, 128]⟩
abbrev S4096x256 : Shape := ⟨2, ![4096, 256]⟩
abbrev S4096x2x128 : Shape := ⟨3, ![4096, 2, 128]⟩
abbrev S2x4096x128 : Shape := ⟨3, ![2, 4096, 128]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x128x4096 : Shape := ⟨3, ![2, 128, 4096]⟩
abbrev S256x4096 : Shape := ⟨2, ![256, 4096]⟩
abbrev S8x4096x1 : Shape := ⟨3, ![8, 4096, 1]⟩

abbrev nBuf : Space → Nat
  | .hbm => 111
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x2048, .bf16⟩
  | .hbm, ⟨2, _⟩ => ⟨S4096x1024, .bf16⟩
  | .hbm, ⟨3, _⟩ => ⟨S4096x1024, .f32⟩
  | .hbm, ⟨4, _⟩ => ⟨S4096x2x4x128, .f32⟩
  | .hbm, ⟨5, _⟩ => ⟨S2x4x4096x128, .f32⟩
  | .hbm, ⟨6, _⟩ => ⟨S4096x256, .bf16⟩
  | .hbm, ⟨7, _⟩ => ⟨S4096x256, .f32⟩
  | .hbm, ⟨8, _⟩ => ⟨S4096x2x128, .f32⟩
  | .hbm, ⟨9, _⟩ => ⟨S2x4096x128, .f32⟩
  | .hbm, ⟨10, _⟩ => ⟨S4096x256, .bf16⟩
  | .hbm, ⟨11, _⟩ => ⟨S4096x256, .f32⟩
  | .hbm, ⟨12, _⟩ => ⟨S4096x2x128, .f32⟩
  | .hbm, ⟨13, _⟩ => ⟨S2x4096x128, .f32⟩
  | .hbm, ⟨14, _⟩ => ⟨S4096x1024, .bf16⟩
  | .hbm, ⟨15, _⟩ => ⟨S4096x1024, .f32⟩
  | .hbm, ⟨16, _⟩ => ⟨S4096x2x4x128, .f32⟩
  | .hbm, ⟨17, _⟩ => ⟨S2x4x4096x128, .f32⟩
  | .hbm, ⟨18, _⟩ => ⟨S2x4x4096x4096, .f32⟩
  | .hbm, ⟨19, _⟩ => ⟨S_, .f32⟩
  | .hbm, ⟨20, _⟩ => ⟨S2x4x4096x4096, .f32⟩
  | .hbm, ⟨21, _⟩ => ⟨S2x4x4096x4096, .f32⟩
  | .hbm, ⟨22, _⟩ => ⟨S_, .f32⟩
  | .hbm, ⟨23, _⟩ => ⟨S2x4x4096, .f32⟩
  | .hbm, ⟨24, _⟩ => ⟨S2x4x4096x1, .f32⟩
  | .hbm, ⟨25, _⟩ => ⟨S2x4x4096x4096, .f32⟩
  | .hbm, ⟨26, _⟩ => ⟨S2x4x4096x4096, .i1⟩
  | .hbm, ⟨27, _⟩ => ⟨S2x4x4096x4096, .f32⟩
  | .hbm, ⟨28, _⟩ => ⟨S_, .f32⟩
  | .hbm, ⟨29, _⟩ => ⟨S2x4x4096, .f32⟩
  | .hbm, ⟨30, _⟩ => ⟨S_, .f32⟩
  | .hbm, ⟨31, _⟩ => ⟨S2x4x4096, .f32⟩
  | .hbm, ⟨32, _⟩ => ⟨S2x4x4096, .f32⟩
  | .hbm, ⟨33, _⟩ => ⟨S_, .f32⟩
  | .hbm, ⟨34, _⟩ => ⟨S2x4x4096, .f32⟩
  | .hbm, ⟨35, _⟩ => ⟨S2x4x4096, .i1⟩
  | .hbm, ⟨36, _⟩ => ⟨S_, .f32⟩
  | .hbm, ⟨37, _⟩ => ⟨S2x4x4096, .f32⟩
  | .hbm, ⟨38, _⟩ => ⟨S2x4x4096, .i1⟩
  | .hbm, ⟨39, _⟩ => ⟨S_, .f32⟩
  | .hbm, ⟨40, _⟩ => ⟨S2x4x4096, .f32⟩
  | .hbm, ⟨41, _⟩ => ⟨S_, .f32⟩
  | .hbm, ⟨42, _⟩ => ⟨S2x4x4096, .f32⟩
  | .hbm, ⟨43, _⟩ => ⟨S_, .f32⟩
  | .hbm, ⟨44, _⟩ => ⟨S2x4x4096, .f32⟩
  | .hbm, ⟨45, _⟩ => ⟨S2x4x4096, .f32⟩
  | .hbm, ⟨46, _⟩ => ⟨S2x4x4096, .f32⟩
  | .hbm, ⟨47, _⟩ => ⟨S2x4x4096x1, .f32⟩
  | .hbm, ⟨48, _⟩ => ⟨S2x4x4096x4096, .f32⟩
  | .hbm, ⟨49, _⟩ => ⟨S2x4x4096x4096, .f32⟩
  | .hbm, ⟨50, _⟩ => ⟨S2x4x4096x4096, .f32⟩
  | .hbm, ⟨51, _⟩ => ⟨S_, .f32⟩
  | .hbm, ⟨52, _⟩ => ⟨S2x4x4096, .f32⟩
  | .hbm, ⟨53, _⟩ => ⟨S2x4x4096x1, .f32⟩
  | .hbm, ⟨54, _⟩ => ⟨S2x4x4096x4096, .f32⟩
  | .hbm, ⟨55, _⟩ => ⟨S2x4x4096x4096, .f32⟩
  | .hbm, ⟨56, _⟩ => ⟨S2x4x4096x1, .f32⟩
  | .hbm, ⟨57, _⟩ => ⟨S_, .f32⟩
  | .hbm, ⟨58, _⟩ => ⟨S2x4x4096x1, .f32⟩
  | .hbm, ⟨59, _⟩ => ⟨S2x4x4096x1, .f32⟩
  | .hbm, ⟨60, _⟩ => ⟨S2x4x4096x128, .f32⟩
  | .hbm, ⟨61, _⟩ => ⟨S2x128x4096, .f32⟩
  | .hbm, ⟨62, _⟩ => ⟨S2x4096x128, .f32⟩
  | .hbm, ⟨63, _⟩ => ⟨S2x4x4096x4096, .f32⟩
  | .hbm, ⟨64, _⟩ => ⟨S2x4x4096x4096, .f32⟩
  | .hbm, ⟨65, _⟩ => ⟨S2x4x4096x4096, .f32⟩
  | .hbm, ⟨66, _⟩ => ⟨S2x4x4096x4096, .f32⟩
  | .hbm, ⟨67, _⟩ => ⟨S_, .f32⟩
  | .hbm, ⟨68, _⟩ => ⟨S2x4x4096, .f32⟩
  | .hbm, ⟨69, _⟩ => ⟨S2x4x4096x1, .f32⟩
  | .hbm, ⟨70, _⟩ => ⟨S2x4x4096x1, .f32⟩
  | .hbm, ⟨71, _⟩ => ⟨S2x4x4096x4096, .f32⟩
  | .hbm, ⟨72, _⟩ => ⟨S2x4x4096x4096, .f32⟩
  | .hbm, ⟨73, _⟩ => ⟨S_, .f32⟩
  | .hbm, ⟨74, _⟩ => ⟨S2x4x4096, .f32⟩
  | .hbm, ⟨75, _⟩ => ⟨S2x4x4096x4096, .f32⟩
  | .hbm, ⟨76, _⟩ => ⟨S2x4x4096x4096, .f32⟩
  | .hbm, ⟨77, _⟩ => ⟨S2x4x4096x4096, .f32⟩
  | .hbm, ⟨78, _⟩ => ⟨S_, .f32⟩
  | .hbm, ⟨79, _⟩ => ⟨S2x4x4096x4096, .f32⟩
  | .hbm, ⟨80, _⟩ => ⟨S2x4x4096x4096, .f32⟩
  | .hbm, ⟨81, _⟩ => ⟨S2x4096x128, .f32⟩
  | .hbm, ⟨82, _⟩ => ⟨S2x4x4096x128, .f32⟩
  | .hbm, ⟨83, _⟩ => ⟨S4096x2x4x128, .f32⟩
  | .hbm, ⟨84, _⟩ => ⟨S4096x1024, .f32⟩
  | .hbm, ⟨85, _⟩ => ⟨S4096x1024, .bf16⟩
  | .hbm, ⟨86, _⟩ => ⟨S_, .bf16⟩
  | .hbm, ⟨87, _⟩ => ⟨S4096x1024, .bf16⟩
  | .hbm, ⟨88, _⟩ => ⟨S4096x2048, .bf16⟩
  | .hbm, ⟨89, _⟩ => ⟨S4096x2x4x128, .f32⟩
  | .hbm, ⟨90, _⟩ => ⟨S4096x1024, .f32⟩
  | .hbm, ⟨91, _⟩ => ⟨S2x128x4096, .f32⟩
  | .hbm, ⟨92, _⟩ => ⟨S256x4096, .f32⟩
  | .hbm, ⟨93, _⟩ => ⟨S2x128x4096, .f32⟩
  | .hbm, ⟨94, _⟩ => ⟨S256x4096, .f32⟩
  | .hbm, ⟨95, _⟩ => ⟨S2x4x4096x4096, .f32⟩
  | .hbm, ⟨96, _⟩ => ⟨S_, .f32⟩
  | .hbm, ⟨97, _⟩ => ⟨S2x4x4096x4096, .f32⟩
  | .hbm, ⟨98, _⟩ => ⟨S2x4x4096x4096, .f32⟩
  | .hbm, ⟨99, _⟩ => ⟨S_, .f32⟩
  | .hbm, ⟨100, _⟩ => ⟨S2x4x4096, .f32⟩
  | .hbm, ⟨101, _⟩ => ⟨S2x4x4096x1, .f32⟩
  | .hbm, ⟨102, _⟩ => ⟨S2x4x4096x4096, .f32⟩
  | .hbm, ⟨103, _⟩ => ⟨S2x4x4096x4096, .f32⟩
  | .hbm, ⟨104, _⟩ => ⟨S2x4x4096x4096, .f32⟩
  | .hbm, ⟨105, _⟩ => ⟨S_, .f32⟩
  | .hbm, ⟨106, _⟩ => ⟨S2x4x4096, .f32⟩
  | .hbm, ⟨107, _⟩ => ⟨S2x4x4096x1, .f32⟩
  | .hbm, ⟨108, _⟩ => ⟨S2x4x4096x1, .f32⟩
  | .hbm, ⟨109, _⟩ => ⟨S2x4x4096x1, .f32⟩
  | .hbm, ⟨110, _⟩ => ⟨S8x4096x1, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_9 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_10 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_11 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_12 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_13 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_14 : Ref sig .tc := ⟨.hbm, 96, rfl⟩
abbrev main_v79 : Ref sig .tc := ⟨.hbm, 97, rfl⟩
abbrev main_v80 : Ref sig .tc := ⟨.hbm, 98, rfl⟩
abbrev main_cst_15 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_16 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩

abbrev nD : Nat := 1
abbrev τ : Topo := Topo.v7x

variable {F : FTy → Type} [FloatOps F]
-- ==== Mlp.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S2048x2048 : Shape := ⟨2, ![2048, 2048]⟩
abbrev S8x128 : Shape := ⟨2, ![8, 128]⟩
abbrev S1024x8192 : Shape := ⟨2, ![1024, 8192]⟩
abbrev S8192x512 : Shape := ⟨2, ![8192, 512]⟩
abbrev S1024x512 : Shape := ⟨2, ![1024, 512]⟩
abbrev S4096x1024 : Shape := ⟨2, ![4096, 1024]⟩
abbrev S1024x1024 : Shape := ⟨2, ![1024, 1024]⟩
abbrev S512x8192 : Shape := ⟨2, ![512, 8192]⟩

abbrev nBuf : Space → Nat
  | .hbm => 12
  | .vmem => 48
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x8192, .bf16⟩
  | .hbm, ⟨3, _⟩ => ⟨S8192x2048, .bf16⟩
  | .hbm, ⟨4, _⟩ => ⟨S4096x2048, .bf16⟩
  | .hbm, ⟨5, _⟩ => ⟨S4096x8192, .bf16⟩
  | .hbm, ⟨6, _⟩ => ⟨S4096x8192, .bf16⟩
  | .hbm, ⟨7, _⟩ => ⟨S4096x2048, .f32⟩
  | .hbm, ⟨8, _⟩ => ⟨S8192x2048, .bf16⟩
  | .hbm, ⟨9, _⟩ => ⟨S4096x8192, .bf16⟩
  | .hbm, ⟨10, _⟩ => ⟨S2048x8192, .bf16⟩
  | .hbm, ⟨11, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S8x128, .f32⟩
  | .local _ .vmem, ⟨9, _⟩ => ⟨S1024x8192, .bf16⟩
  | .local _ .vmem, ⟨10, _⟩ => ⟨S1024x8192, .bf16⟩
  | .local _ .vmem, ⟨11, _⟩ => ⟨S8192x512, .bf16⟩
  | .local _ .vmem, ⟨12, _⟩ => ⟨S8192x512, .bf16⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S8x128, .f32⟩
  | .local _ .vmem, ⟨18, _⟩ => ⟨S4096x1024, .bf16⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .bf16⟩
  | .local _ .vmem, ⟨23, _⟩ => ⟨S1024x1024, .bf16⟩
  | .local _ .vmem, ⟨24, _⟩ => ⟨S8x128, .f32⟩
  | .local _ .vmem, ⟨25, _⟩ => ⟨S1024x2048, .bf16⟩
  | .local _ .vmem, ⟨26, _⟩ => ⟨S1024x2048, .bf16⟩
  | .local _ .vmem, ⟨27, _⟩ => ⟨S2048x2048, .bf16⟩
  | .local _ .vmem, ⟨28, _⟩ => ⟨S2048x2048, .bf16⟩
  | .local _ .vmem, ⟨29, _⟩ => ⟨S1024x2048, .bf16⟩
  | .local _ .vmem, ⟨30, _⟩ => ⟨S1024x2048, .bf16⟩
  | .local _ .vmem, ⟨31, _⟩ => ⟨S1024x2048, .bf16⟩
  | .local _ .vmem, ⟨32, _⟩ => ⟨S1024x2048, .bf16⟩
  | .local _ .vmem, ⟨33, _⟩ => ⟨S8x128, .f32⟩
  | .local _ .vmem, ⟨34, _⟩ => ⟨S4096x1024, .bf16⟩
  | .local _ .vmem, ⟨35, _⟩ => ⟨S4096x1024, .bf16⟩
  | .local _ .vmem, ⟨36, _⟩ => ⟨S4096x1024, .bf16⟩
  | .local _ .vmem, ⟨37, _⟩ => ⟨S4096x1024, .bf16⟩
  | .local _ .vmem, ⟨38, _⟩ => ⟨S1024x1024, .bf16⟩
  | .local _ .vmem, ⟨39, _⟩ => ⟨S1024x1024, .bf16⟩
  | .local _ .vmem, ⟨40, _⟩ => ⟨S8x128, .f32⟩
  | .local _ .vmem, ⟨41, _⟩ => ⟨S1024x8192, .bf16⟩
  | .local _ .vmem, ⟨42, _⟩ => ⟨S1024x8192, .bf16⟩
  | .local _ .vmem, ⟨43, _⟩ => ⟨S512x8192, .bf16⟩
  | .local _ .vmem, ⟨44, _⟩ => ⟨S512x8192, .bf16⟩
  | .local _ .vmem, ⟨45, _⟩ => ⟨S1024x512, .bf16⟩
  | .local _ .vmem, ⟨46, _⟩ => ⟨S1024x512, .bf16⟩
  | .local _ .vmem, ⟨47, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_scratch0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S8192x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x8192 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x8192 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== MlpReferenceIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x8192, .bf16⟩
  | .hbm, ⟨3, _⟩ => ⟨S8192x2048, .bf16⟩
  | .hbm, ⟨4, _⟩ => ⟨S4096x2048, .bf16⟩
  | .hbm, ⟨5, _⟩ => ⟨S4096x2048, .f32⟩
  | .hbm, ⟨6, _⟩ => ⟨S2048x8192, .f32⟩
  | .hbm, ⟨7, _⟩ => ⟨S8192x2048, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .i1⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S2048x8192, .f32⟩
  | .hbm, ⟨25, _⟩ => ⟨S8192x2048, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S4096x8192, .f32⟩
  | .hbm, ⟨30, _⟩ => ⟨S4096x8192, .f32⟩
  | .hbm, ⟨31, _⟩ => ⟨S8192x2048, .f32⟩
  | .hbm, ⟨32, _⟩ => ⟨S2048x8192, .f32⟩
  | .hbm, ⟨33, _⟩ => ⟨S4096x2048, .f32⟩
  | .hbm, ⟨34, _⟩ => ⟨S8192x2048, .bf16⟩
  | .hbm, ⟨35, _⟩ => ⟨S2048x8192, .bf16⟩
  | .hbm, ⟨36, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S8x128 : Shape := ⟨2, ![8, 128]⟩
abbrev S512 : Shape := ⟨1, ![512]⟩
abbrev S512x1 : Shape := ⟨2, ![512, 1]⟩
abbrev S4096x1024 : Shape := ⟨2, ![4096, 1024]⟩
abbrev S1024x1024 : Shape := ⟨2, ![1024, 1024]⟩
abbrev S1024x2048 : Shape := ⟨2, ![1024, 2048]⟩

abbrev nBuf : Space → Nat
  | .hbm => 9
  | .vmem => 25
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S4096x2048, .f32⟩
  | .hbm, ⟨6, _⟩ => ⟨S4096x2048, .bf16⟩
  | .hbm, ⟨7, _⟩ => ⟨S2048x2048, .bf16⟩
  | .hbm, ⟨8, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S8x128, .f32⟩
  | .local _ .vmem, ⟨11, _⟩ => ⟨S4096x1024, .bf16⟩
  | .local _ .vmem, ⟨12, _⟩ => ⟨S4096x1024, .bf16⟩
  | .local _ .vmem, ⟨13, _⟩ => ⟨S4096x1024, .bf16⟩
  | .local _ .vmem, ⟨14, _⟩ => ⟨S4096x1024, .bf16⟩
  | .local _ .vmem, ⟨15, _⟩ => ⟨S1024x1024, .bf16⟩
  | .local _ .vmem, ⟨16, _⟩ => ⟨S1024x1024, .bf16⟩
  | .local _ .vmem, ⟨17, _⟩ => ⟨S8x128, .f32⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S1024x2048, .bf16⟩
  | .local _ .vmem, ⟨22, _⟩ => ⟨S1024x1024, .bf16⟩
  | .local _ .vmem, ⟨23, _⟩ => ⟨S1024x1024, .bf16⟩
  | .local _ .vmem, ⟨24, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== OutReferenceIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S2048x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | .hbm, ⟨29, _⟩ => ⟨S2048x2048, .bf16⟩
  | .hbm, ⟨30, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Weights.lean ====
abbrev S4096x2048 : Shape := ⟨2, ![4096, 2048]⟩
abbrev S1x2048 : Shape := ⟨2, ![1, 2048]⟩
abbrev S2048x3072 : Shape := ⟨2, ![2048, 3072]⟩
abbrev S4096x3072 : Shape := ⟨2, ![4096, 3072]⟩
abbrev S4096x256 : Shape := ⟨2, ![4096, 256]⟩
abbrev S256x2048 : Shape := ⟨2, ![256, 2048]⟩
abbrev S2048x2048 : Shape := ⟨2, ![2048, 2048]⟩
abbrev S1024x256 : Shape := ⟨2, ![1024, 256]⟩
abbrev S256x1024 : Shape := ⟨2, ![256, 1024]⟩
abbrev S1024x1024 : Shape := ⟨2, ![1024, 1024]⟩
abbrev S8x128 : Shape := ⟨2, ![8, 128]⟩
abbrev S4096x512 : Shape := ⟨2, ![4096, 512]⟩
abbrev S256x512 : Shape := ⟨2, ![256, 512]⟩
abbrev S512x2048 : Shape := ⟨2, ![512, 2048]⟩
abbrev S512 : Shape := ⟨1, ![512]⟩
abbrev S512x1 : Shape := ⟨2, ![512, 1]⟩
abbrev S4096x1024 : Shape := ⟨2, ![4096, 1024]⟩

abbrev nBuf : Space → Nat
  | .hbm => 18
  | .vmem => 37
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x3072, .bf16⟩
  | .hbm, ⟨3, _⟩ => ⟨S4096x3072, .bf16⟩
  | .hbm, ⟨4, _⟩ => ⟨S4096x256, .f32⟩
  | .hbm, ⟨5, _⟩ => ⟨S256x2048, .bf16⟩
  | .hbm, ⟨6, _⟩ => ⟨S4096x2048, .bf16⟩
  | .hbm, ⟨7, _⟩ => ⟨S4096x2048, .f32⟩
  | .hbm, ⟨8, _⟩ => ⟨S1x2048, .f32⟩
  | .hbm, ⟨9, _⟩ => ⟨S2048x2048, .bf16⟩
  | .hbm, ⟨10, _⟩ => ⟨S4096x2048, .bf16⟩
  | .hbm, ⟨11, _⟩ => ⟨S4096x256, .bf16⟩
  | .hbm, ⟨12, _⟩ => ⟨S4096x2048, .f32⟩
  | .hbm, ⟨13, _⟩ => ⟨S256x2048, .bf16⟩
  | .hbm, ⟨14, _⟩ => ⟨S4096x2048, .bf16⟩
  | .hbm, ⟨15, _⟩ => ⟨S2048x3072, .bf16⟩
  | .hbm, ⟨16, _⟩ => ⟨S4096x2048, .bf16⟩
  | .hbm, ⟨17, _⟩ => ⟨S2048x2048, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | .local _ .vmem, ⟨7, _⟩ => ⟨S4096x256, .bf16⟩
  | .local _ .vmem, ⟨8, _⟩ => ⟨S4096x512, .bf16⟩
  | .local _ .vmem, ⟨9, _⟩ => ⟨S4096x512, .bf16⟩
  | .local _ .vmem, ⟨10, _⟩ => ⟨S256x512, .bf16⟩
  | .local _ .vmem, ⟨11, _⟩ => ⟨S256x512, .bf16⟩
  | .local _ .vmem, ⟨12, _⟩ => ⟨S8x128, .f32⟩
  | .local _ .vmem, ⟨13, _⟩ => ⟨S512x2048, .f32⟩
  | .local _ .vmem, ⟨14, _⟩ => ⟨S512x2048, .f32⟩
  | .local _ .vmem, ⟨15, _⟩ => ⟨S1x2048, .f32⟩
  | .local _ .vmem, ⟨16, _⟩ => ⟨S512x2048, .bf16⟩
  | .local _ .vmem, ⟨17, _⟩ => ⟨S512x2048, .bf16⟩
  | .local _ .vmem, ⟨18, _⟩ => ⟨S4096x1024, .bf16⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .bf16⟩
  | .local _ .vmem, ⟨23, _⟩ => ⟨S1024x1024, .bf16⟩
  | .local _ .vmem, ⟨24, _⟩ => ⟨S8x128, .f32⟩
  | .local _ .vmem, ⟨25, _⟩ => ⟨S512x2048, .f32⟩
  | .local _ .vmem, ⟨26, _⟩ => ⟨S512x2048, .f32⟩
  | .local _ .vmem, ⟨27, _⟩ => ⟨S1x2048, .f32⟩
  | .local _ .vmem, ⟨28, _⟩ => ⟨S512x2048, .bf16⟩
  | .local _ .vmem, ⟨29, _⟩ => ⟨S512x2048, .bf16⟩
  | .local _ .vmem, ⟨30, _⟩ => ⟨S4096x1024, .bf16⟩
  | .local _ .vmem, ⟨31, _⟩ => ⟨S4096x1024, .bf16⟩
  | .local _ .vmem, ⟨32, _⟩ => ⟨S4096x1024, .bf16⟩
  | .local _ .vmem, ⟨33, _⟩ => ⟨S4096x1024, .bf16⟩
  | .local _ .vmem, ⟨34, _⟩ => ⟨S1024x1024, .bf16⟩
  | .local _ .vmem, ⟨35, _⟩ => ⟨S1024x1024, .bf16⟩
  | .local _ .vmem, ⟨36, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S4096x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![2, 3, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== WeightsReferenceIdeal.lean ====
abbrev S4096x2048 : Shape := ⟨2, ![4096, 2048]⟩
abbrev S1x2048 : Shape := ⟨2, ![1, 2048]⟩
abbrev S2048x3072 : Shape := ⟨2, ![2048, 3072]⟩
abbrev S4096x3072 : Shape := ⟨2, ![4096, 3072]⟩
abbrev S4096x256 : Shape := ⟨2, ![4096, 256]⟩
abbrev S256x2048 : Shape := ⟨2, ![256, 2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩
abbrev S2048x256 : Shape := ⟨2, ![2048, 256]⟩
abbrev S3072x2048 : Shape := ⟨2, ![3072, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x3072, .bf16⟩
  | .hbm, ⟨3, _⟩ => ⟨S4096x3072, .bf16⟩
  | .hbm, ⟨4, _⟩ => ⟨S4096x256, .f32⟩
  | .hbm, ⟨5, _⟩ => ⟨S256x2048, .bf16⟩
  | .hbm, ⟨6, _⟩ => ⟨S4096x2048, .bf16⟩
  | .hbm, ⟨7, _⟩ => ⟨S4096x2048, .f32⟩
  | .hbm, ⟨8, _⟩ => ⟨S1x2048, .f32⟩
  | .hbm, ⟨9, _⟩ => ⟨S2048x2048, .bf16⟩
  | .hbm, ⟨10, _⟩ => ⟨S4096x2048, .bf16⟩
  | .hbm, ⟨11, _⟩ => ⟨S256x2048, .f32⟩
  | .hbm, ⟨12, _⟩ => ⟨S4096x2048, .f32⟩
  | .hbm, ⟨13, _⟩ => ⟨S2048x3072, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x3072, .f32⟩
  | .hbm, ⟨30, _⟩ => ⟨S2048x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S2048x256, .f32⟩
  | .hbm, ⟨49, _⟩ => ⟨S256x2048, .f32⟩
  | .hbm, ⟨50, _⟩ => ⟨S4096x3072, .f32⟩
  | .hbm, ⟨51, _⟩ => ⟨S3072x2048, .f32⟩
  | .hbm, ⟨52, _⟩ => ⟨S2048x3072, .f32⟩
  | .hbm, ⟨53, _⟩ => ⟨S4096x2048, .f32⟩
  | .hbm, ⟨54, _⟩ => ⟨S2048x2048, .f32⟩
  | .hbm, ⟨55, _⟩ => ⟨S2048x2048, .f32⟩
  | .hbm, ⟨56, _⟩ => ⟨S256x2048, .bf16⟩
  | .hbm, ⟨57, _⟩ => ⟨S4096x2048, .bf16⟩
  | .hbm, ⟨58, _⟩ => ⟨S2048x3072, .bf16⟩
  | .hbm, ⟨59, _⟩ => ⟨S4096x2048, .bf16⟩
  | .hbm, ⟨60, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== NormIn.lean ====
abbrev S4096x2048 : Shape := ⟨2, ![4096, 2048]⟩
abbrev S1x2048 : Shape := ⟨2, ![1, 2048]⟩
abbrev S2048x3072 : Shape := ⟨2, ![2048, 3072]⟩
abbrev S4096x3072 : Shape := ⟨2, ![4096, 3072]⟩
abbrev S8x2048 : Shape := ⟨2, ![8, 2048]⟩
abbrev S512x3072 : Shape := ⟨2, ![512, 3072]⟩
abbrev S512x2048 : Shape := ⟨2, ![512, 2048]⟩
abbrev S8x128 : Shape := ⟨2, ![8, 128]⟩
abbrev S512 : Shape := ⟨1, ![512]⟩
abbrev S512x1 : Shape := ⟨2, ![512, 1]⟩
abbrev S64x8x2048 : Shape := ⟨3, ![64, 8, 2048]⟩
abbrev S_ : Shape := ⟨0, ![]⟩
abbrev S2048 : Shape := ⟨1, ![2048]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x3072, .bf16⟩
  | .hbm, ⟨3, _⟩ => ⟨S4096x3072, .bf16⟩
  | .hbm, ⟨4, _⟩ => ⟨S4096x2048, .f32⟩
  | .hbm, ⟨5, _⟩ => ⟨S4096x2048, .f32⟩
  | .hbm, ⟨6, _⟩ => ⟨S8x2048, .f32⟩
  | .hbm, ⟨7, _⟩ => ⟨S_, .f32⟩
  | .hbm, ⟨8, _⟩ => ⟨S2048, .f32⟩
  | .hbm, ⟨9, _⟩ => ⟨S1x2048, .f32⟩
  | .local _ .vmem, ⟨0, _⟩ => ⟨S512x3072, .bf16⟩
  | .local _ .vmem, ⟨1, _⟩ => ⟨S512x3072, .bf16⟩
  | .local _ .vmem, ⟨2, _⟩ => ⟨S2048x3072, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S8x2048, .f32⟩
  | .local _ .vmem, ⟨11, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_17 : BitVec 32 := 0#32
  let v35 : BitVec 1 := Scalar.cmpi .ne v34 c0_i32_17
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== NormInReferenceIdeal.lean ====
abbrev S4096x2048 : Shape := ⟨2, ![4096, 2048]⟩
abbrev S1x2048 : Shape := ⟨2, ![1, 2048]⟩
abbrev S2048x3072 : Shape := ⟨2, ![2048, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x3072, .bf16⟩
  | .hbm, ⟨3, _⟩ => ⟨S4096x3072, .bf16⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S2048x3072, .f32⟩
  | .hbm, ⟨25, _⟩ => ⟨S4096x3072, .f32⟩
  | .hbm, ⟨26, _⟩ => ⟨S4096x3072, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormGate.lean ====
abbrev S4096x2048 : Shape := ⟨2, ![4096, 2048]⟩
abbrev S1x2048 : Shape := ⟨2, ![1, 2048]⟩
abbrev S2048x2048 : Shape := ⟨2, ![2048, 2048]⟩
abbrev S8x2048 : Shape := ⟨2, ![8, 2048]⟩
abbrev S512x2048 : Shape := ⟨2, ![512, 2048]⟩
abbrev S8x128 : Shape := ⟨2, ![8, 128]⟩
abbrev S512 : Shape := ⟨1, ![512]⟩
abbrev S512x1 : Shape := ⟨2, ![512, 1]⟩
abbrev S64x8x2048 : Shape := ⟨3, ![64, 8, 2048]⟩
abbrev S_ : Shape := ⟨0, ![]⟩
abbrev S2048 : Shape := ⟨1, ![2048]⟩

abbrev nBuf : Space → Nat
  | .hbm => 11
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .bf16⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S8x2048, .f32⟩
  | .hbm, ⟨8, _⟩ => ⟨S_, .f32⟩
  | .hbm, ⟨9, _⟩ => ⟨S2048, .f32⟩
  | .hbm, ⟨10, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S8x2048, .f32⟩
  | .local _ .vmem, ⟨13, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== NormGateReferenceIdeal.lean ====
abbrev S4096x2048 : Shape := ⟨2, ![4096, 2048]⟩
abbrev S1x2048 : Shape := ⟨2, ![1, 2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .bf16⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S2048x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormMlp.lean ====
abbrev S4096x2048 : Shape := ⟨2, ![4096, 2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩
abbrev S64x8x2048 : Shape := ⟨3, ![64, 8, 2048]⟩
abbrev S_ : Shape := ⟨0, ![]⟩
abbrev S2048 : Shape := ⟨1, ![2048]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S8x2048, .f32⟩
  | .hbm, ⟨7, _⟩ => ⟨S_, .f32⟩
  | .hbm, ⟨8, _⟩ => ⟨S2048, .f32⟩
  | .hbm, ⟨9, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32 : BitVec 32 := 0#32
  let v34 : BitVec 1 := Scalar.cmpi .eq arg0 c0_i32
  let v_true : BitVec 1 := 1#1
  let v37 : BitVec 1 := Scalar.xori v34 v_true
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormMlpReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== InProj.lean ====
abbrev S4096x2048 : Shape := ⟨2, ![4096, 2048]⟩
abbrev S2048x3072 : Shape := ⟨2, ![2048, 3072]⟩
abbrev S4096x32 : Shape := ⟨2, ![4096, 32]⟩
abbrev S1x128 : Shape := ⟨2, ![1, 128]⟩
abbrev S4096x128 : Shape := ⟨2, ![4096, 128]⟩
abbrev S4096x1280 : Shape := ⟨2, ![4096, 1280]⟩
abbrev S4096x3072 : Shape := ⟨2, ![4096, 3072]⟩
abbrev S512x2048 : Shape := ⟨2, ![512, 2048]⟩
abbrev S512x128 : Shape := ⟨2, ![512, 128]⟩
abbrev S512x1280 : Shape := ⟨2, ![512, 1280]⟩
abbrev S512x3072 : Shape := ⟨2, ![512, 3072]⟩
abbrev S8x128 : Shape := ⟨2, ![8, 128]⟩
abbrev S512 : Shape := ⟨1, ![512]⟩
abbrev S512x1 : Shape := ⟨2, ![512, 1]⟩
abbrev S512x1792 : Shape := ⟨2, ![512, 1792]⟩

abbrev nBuf : Space → Nat
  | .hbm => 14
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x32, .f32⟩
  | .hbm, ⟨3, _⟩ => ⟨S4096x32, .f32⟩
  | .hbm, ⟨4, _⟩ => ⟨S4096x32, .f32⟩
  | .hbm, ⟨5, _⟩ => ⟨S4096x32, .f32⟩
  | .hbm, ⟨6, _⟩ => ⟨S1x128, .f32⟩
  | .hbm, ⟨7, _⟩ => ⟨S1x128, .f32⟩
  | .hbm, ⟨8, _⟩ => ⟨S4096x128, .f32⟩
  | .hbm, ⟨9, _⟩ => ⟨S4096x32, .f32⟩
  | .hbm, ⟨10, _⟩ => ⟨S4096x32, .f32⟩
  | .hbm, ⟨11, _⟩ => ⟨S4096x128, .f32⟩
  | .hbm, ⟨12, _⟩ => ⟨S4096x1280, .f32⟩
  | .hbm, ⟨13, _⟩ => ⟨S4096x3072, .bf16⟩
  | .local _ .vmem, ⟨0, _⟩ => ⟨S512x2048, .bf16⟩
  | .local _ .vmem, ⟨1, _⟩ => ⟨S512x2048, .bf16⟩
  | .local _ .vmem, ⟨2, _⟩ => ⟨S2048x3072, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | .local _ .vmem, ⟨8, _⟩ => ⟨S1x128, .f32⟩
  | .local _ .vmem, ⟨9, _⟩ => ⟨S512x1280, .f32⟩
  | .local _ .vmem, ⟨10, _⟩ => ⟨S512x1280, .f32⟩
  | .local _ .vmem, ⟨11, _⟩ => ⟨S512x3072, .bf16⟩
  | .local _ .vmem, ⟨12, _⟩ => ⟨S512x3072, .bf16⟩
  | .local _ .vmem, ⟨13, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== InProjReferenceIdeal.lean ====
abbrev S4096x2048 : Shape := ⟨2, ![4096, 2048]⟩
abbrev S2048x3072 : Shape := ⟨2, ![2048, 3072]⟩
abbrev S4096x32 : Shape := ⟨2, ![4096, 32]⟩
abbrev S1x128 : Shape := ⟨2, ![1, 128]⟩
abbrev S4096x3072 : Shape := ⟨2, ![4096, 3072]⟩
abbrev S4096x1x32 : Shape := ⟨3, ![4096, 1, 32]⟩
abbrev S4096x1024 : Shape := ⟨2, ![4096, 1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S4096x8x64 : Shape := ⟨3, ![4096, 8, 64]⟩
abbrev S4096x8x32 : Shape := ⟨3, ![4096, 8, 32]⟩
abbrev S4096x256 : Shape := ⟨2, ![4096, 256]⟩
abbrev S4096x2x128 : Shape := ⟨3, ![4096, 2, 128]⟩
abbrev S4096x2 : Shape := ⟨2, ![4096, 2]⟩
abbrev S4096x2x1 : Shape := ⟨3, ![4096, 2, 1]⟩
abbrev S4096x2x64 : Shape := ⟨3, ![4096, 2, 64]⟩
abbrev S4096x2x32 : Shape := ⟨3, ![4096, 2, 32]⟩
abbrev S4096x1280 : Shape := ⟨2, ![4096, 1280]⟩
abbrev S4096x1792 : Shape := ⟨2, ![4096, 1792]⟩

abbrev nBuf : Space → Nat
  | .hbm => 115
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x32, .f32⟩
  | .hbm, ⟨3, _⟩ => ⟨S4096x32, .f32⟩
  | .hbm, ⟨4, _⟩ => ⟨S4096x32, .f32⟩
  | .hbm, ⟨5, _⟩ => ⟨S4096x32, .f32⟩
  | .hbm, ⟨6, _⟩ => ⟨S1x128, .f32⟩
  | .hbm, ⟨7, _⟩ => ⟨S1x128, .f32⟩
  | .hbm, ⟨8, _⟩ => ⟨S4096x2048, .f32⟩
  | .hbm, ⟨9, _⟩ => ⟨S2048x3072, .f32⟩
  | .hbm, ⟨10, _⟩ => ⟨S4096x3072, .f32⟩
  | .hbm, ⟨11, _⟩ => ⟨S4096x1x32, .f32⟩
  | .hbm, ⟨12, _⟩ => ⟨S4096x1x32, .f32⟩
  | .hbm, ⟨13, _⟩ => ⟨S4096x1x32, .f32⟩
  | .hbm, ⟨14, _⟩ => ⟨S4096x1x32, .f32⟩
  | .hbm, ⟨15, _⟩ => ⟨S4096x1024, .f32⟩
  | .hbm, ⟨16, _⟩ => ⟨S4096x8x128, .f32⟩
  | .hbm, ⟨17, _⟩ => ⟨S4096x8x128, .f32⟩
  | .hbm, ⟨18, _⟩ => ⟨S_, .f32⟩
  | .hbm, ⟨19, _⟩ => ⟨S4096x8, .f32⟩
  | .hbm, ⟨20, _⟩ => ⟨S4096x8x1, .f32⟩
  | .hbm, ⟨21, _⟩ => ⟨S_, .f32⟩
  | .hbm, ⟨22, _⟩ => ⟨S4096x8x1, .f32⟩
  | .hbm, ⟨23, _⟩ => ⟨S4096x8x1, .f32⟩
  | .hbm, ⟨24, _⟩ => ⟨S_, .f32⟩
  | .hbm, ⟨25, _⟩ => ⟨S4096x8x1, .f32⟩
  | .hbm, ⟨26, _⟩ => ⟨S4096x8x1, .f32⟩
  | .hbm, ⟨27, _⟩ => ⟨S4096x8x1, .f32⟩
  | .hbm, ⟨28, _⟩ => ⟨S4096x8x128, .f32⟩
  | .hbm, ⟨29, _⟩ => ⟨S4096x8x128, .f32⟩
  | .hbm, ⟨30, _⟩ => ⟨S1x1x128, .f32⟩
  | .hbm, ⟨31, _⟩ => ⟨S4096x8x128, .f32⟩
  | .hbm, ⟨32, _⟩ => ⟨S4096x8x128, .f32⟩
  | .hbm, ⟨33, _⟩ => ⟨S4096x8x64, .f32⟩
  | .hbm, ⟨34, _⟩ => ⟨S4096x8x32, .f32⟩
  | .hbm, ⟨35, _⟩ => ⟨S4096x8x32, .f32⟩
  | .hbm, ⟨36, _⟩ => ⟨S4096x8x32, .f32⟩
  | .hbm, ⟨37, _⟩ => ⟨S4096x8x32, .f32⟩
  | .hbm, ⟨38, _⟩ => ⟨S4096x8x32, .f32⟩
  | .hbm, ⟨39, _⟩ => ⟨S4096x8x32, .f32⟩
  | .hbm, ⟨40, _⟩ => ⟨S4096x8x32, .f32⟩
  | .hbm, ⟨41, _⟩ => ⟨S4096x8x32, .f32⟩
  | .hbm, ⟨42, _⟩ => ⟨S4096x8x32, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x64, .f32⟩
  | .hbm, ⟨47, _⟩ => ⟨S4096x8x64, .f32⟩
  | .hbm, ⟨48, _⟩ => ⟨S4096x8x32, .f32⟩
  | .hbm, ⟨49, _⟩ => ⟨S4096x8x32, .f32⟩
  | .hbm, ⟨50, _⟩ => ⟨S4096x8x32, .f32⟩
  | .hbm, ⟨51, _⟩ => ⟨S4096x8x32, .f32⟩
  | .hbm, ⟨52, _⟩ => ⟨S4096x8x32, .f32⟩
  | .hbm, ⟨53, _⟩ => ⟨S4096x8x32, .f32⟩
  | .hbm, ⟨54, _⟩ => ⟨S4096x8x32, .f32⟩
  | .hbm, ⟨55, _⟩ => ⟨S4096x8x32, .f32⟩
  | .hbm, ⟨56, _⟩ => ⟨S4096x8x32, .f32⟩
  | .hbm, ⟨57, _⟩ => ⟨S4096x8x32, .f32⟩
  | .hbm, ⟨58, _⟩ => ⟨S4096x8x32, .f32⟩
  | .hbm, ⟨59, _⟩ => ⟨S4096x8x32, .f32⟩
  | .hbm, ⟨60, _⟩ => ⟨S4096x8x64, .f32⟩
  | .hbm, ⟨61, _⟩ => ⟨S4096x8x128, .f32⟩
  | .hbm, ⟨62, _⟩ => ⟨S4096x1024, .f32⟩
  | .hbm, ⟨63, _⟩ => ⟨S4096x256, .f32⟩
  | .hbm, ⟨64, _⟩ => ⟨S4096x2x128, .f32⟩
  | .hbm, ⟨65, _⟩ => ⟨S4096x2x128, .f32⟩
  | .hbm, ⟨66, _⟩ => ⟨S_, .f32⟩
  | .hbm, ⟨67, _⟩ => ⟨S4096x2, .f32⟩
  | .hbm, ⟨68, _⟩ => ⟨S4096x2x1, .f32⟩
  | .hbm, ⟨69, _⟩ => ⟨S_, .f32⟩
  | .hbm, ⟨70, _⟩ => ⟨S4096x2x1, .f32⟩
  | .hbm, ⟨71, _⟩ => ⟨S4096x2x1, .f32⟩
  | .hbm, ⟨72, _⟩ => ⟨S_, .f32⟩
  | .hbm, ⟨73, _⟩ => ⟨S4096x2x1, .f32⟩
  | .hbm, ⟨74, _⟩ => ⟨S4096x2x1, .f32⟩
  | .hbm, ⟨75, _⟩ => ⟨S4096x2x1, .f32⟩
  | .hbm, ⟨76, _⟩ => ⟨S4096x2x128, .f32⟩
  | .hbm, ⟨77, _⟩ => ⟨S4096x2x128, .f32⟩
  | .hbm, ⟨78, _⟩ => ⟨S1x1x128, .f32⟩
  | .hbm, ⟨79, _⟩ => ⟨S4096x2x128, .f32⟩
  | .hbm, ⟨80, _⟩ => ⟨S4096x2x128, .f32⟩
  | .hbm, ⟨81, _⟩ => ⟨S4096x2x64, .f32⟩
  | .hbm, ⟨82, _⟩ => ⟨S4096x2x32, .f32⟩
  | .hbm, ⟨83, _⟩ => ⟨S4096x2x32, .f32⟩
  | .hbm, ⟨84, _⟩ => ⟨S4096x2x32, .f32⟩
  | .hbm, ⟨85, _⟩ => ⟨S4096x2x32, .f32⟩
  | .hbm, ⟨86, _⟩ => ⟨S4096x2x32, .f32⟩
  | .hbm, ⟨87, _⟩ => ⟨S4096x2x32, .f32⟩
  | .hbm, ⟨88, _⟩ => ⟨S4096x2x32, .f32⟩
  | .hbm, ⟨89, _⟩ => ⟨S4096x2x32, .f32⟩
  | .hbm, ⟨90, _⟩ => ⟨S4096x2x32, .f32⟩
  | .hbm, ⟨91, _⟩ => ⟨S4096x2x32, .f32⟩
  | .hbm, ⟨92, _⟩ => ⟨S4096x2x32, .f32⟩
  | .hbm, ⟨93, _⟩ => ⟨S4096x2x32, .f32⟩
  | .hbm, ⟨94, _⟩ => ⟨S4096x2x64, .f32⟩
  | .hbm, ⟨95, _⟩ => ⟨S4096x2x64, .f32⟩
  | .hbm, ⟨96, _⟩ => ⟨S4096x2x32, .f32⟩
  | .hbm, ⟨97, _⟩ => ⟨S4096x2x32, .f32⟩
  | .hbm, ⟨98, _⟩ => ⟨S4096x2x32, .f32⟩
  | .hbm, ⟨99, _⟩ => ⟨S4096x2x32, .f32⟩
  | .hbm, ⟨100, _⟩ => ⟨S4096x2x32, .f32⟩
  | .hbm, ⟨101, _⟩ => ⟨S4096x2x32, .f32⟩
  | .hbm, ⟨102, _⟩ => ⟨S4096x2x32, .f32⟩
  | .hbm, ⟨103, _⟩ => ⟨S4096x2x32, .f32⟩
  | .hbm, ⟨104, _⟩ => ⟨S4096x2x32, .f32⟩
  | .hbm, ⟨105, _⟩ => ⟨S4096x2x32, .f32⟩
  | .hbm, ⟨106, _⟩ => ⟨S4096x2x32, .f32⟩
  | .hbm, ⟨107, _⟩ => ⟨S4096x2x32, .f32⟩
  | .hbm, ⟨108, _⟩ => ⟨S4096x2x64, .f32⟩
  | .hbm, ⟨109, _⟩ => ⟨S4096x2x128, .f32⟩
  | .hbm, ⟨110, _⟩ => ⟨S4096x256, .f32⟩
  | .hbm, ⟨111, _⟩ => ⟨S4096x1280, .f32⟩
  | .hbm, ⟨112, _⟩ => ⟨S4096x1792, .f32⟩
  | .hbm, ⟨113, _⟩ => ⟨S4096x3072, .f32⟩
  | .hbm, ⟨114, _⟩ => ⟨S4096x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_2 : Ref sig .tc := ⟨.hbm, 66, rfl⟩
abbrev main_v55 : Ref sig .tc := ⟨.hbm, 67, rfl⟩
abbrev main_v56 : Ref sig .tc := ⟨.hbm, 68, rfl⟩
abbrev main_cst_3 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩

abbrev nD : Nat := 1
abbrev τ : Topo := Topo.v7x

variable {F : FTy → Type} [FloatOps F]
-- ==== Adam.lean ====
abbrev S1x11776 : Shape := ⟨2, ![1, 11776]⟩
abbrev S1x2048 : Shape := ⟨2, ![1, 2048]⟩
abbrev S1x128 : Shape := ⟨2, ![1, 128]⟩
abbrev S1x8 : Shape := ⟨2, ![1, 8]⟩
abbrev S32x8 : Shape := ⟨2, ![32, 8]⟩
abbrev S2048 : Shape := ⟨1, ![2048]⟩
abbrev S8x32 : Shape := ⟨2, ![8, 32]⟩
abbrev S_ : Shape := ⟨0, ![]⟩
abbrev S8x128 : Shape := ⟨2, ![8, 128]⟩
abbrev S1x1024 : Shape := ⟨2, ![1, 1024]⟩
abbrev S1x1 : Shape := ⟨2, ![1, 1]⟩

abbrev nBuf : Space → Nat
  | .hbm => 112
  | .vmem => 7
  | .smem => 0
  | _ => 0

abbrev bufTy : (tb : Table) → Fin (tcTables nBuf tb) → BufTy
  | .hbm, ⟨0, _⟩ => ⟨S1x11776, .f32⟩
  | .hbm, ⟨1, _⟩ => ⟨S1x2048, .f32⟩
  | .hbm, ⟨2, _⟩ => ⟨S1x128, .f32⟩
  | .hbm, ⟨3, _⟩ => ⟨S1x128, .f32⟩
  | .hbm, ⟨4, _⟩ => ⟨S1x8, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S32x8, .f32⟩
  | .hbm, ⟨9, _⟩ => ⟨S2048, .f32⟩
  | .hbm, ⟨10, _⟩ => ⟨S1x2048, .f32⟩
  | .hbm, ⟨11, _⟩ => ⟨S1x128, .f32⟩
  | .hbm, ⟨12, _⟩ => ⟨S1x128, .f32⟩
  | .hbm, ⟨13, _⟩ => ⟨S1x8, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S32x8, .f32⟩
  | .hbm, ⟨18, _⟩ => ⟨S2048, .f32⟩
  | .hbm, ⟨19, _⟩ => ⟨S1x2048, .f32⟩
  | .hbm, ⟨20, _⟩ => ⟨S1x128, .f32⟩
  | .hbm, ⟨21, _⟩ => ⟨S1x128, .f32⟩
  | .hbm, ⟨22, _⟩ => ⟨S1x8, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S32x8, .f32⟩
  | .hbm, ⟨27, _⟩ => ⟨S2048, .f32⟩
  | .hbm, ⟨28, _⟩ => ⟨S8x32, .f32⟩
  | .hbm, ⟨29, _⟩ => ⟨S_, .i32⟩
  | .hbm, ⟨30, _⟩ => ⟨S_, .f32⟩
  | .hbm, ⟨31, _⟩ => ⟨S8x128, .f32⟩
  | .hbm, ⟨32, _⟩ => ⟨S1x1024, .f32⟩
  | .hbm, ⟨33, _⟩ => ⟨S1x2048, .f32⟩
  | .hbm, ⟨34, _⟩ => ⟨S_, .i32⟩
  | .hbm, ⟨35, _⟩ => ⟨S_, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x11776, .f32⟩
  | .hbm, ⟨40, _⟩ => ⟨S8x32, .f32⟩
  | .hbm, ⟨41, _⟩ => ⟨S_, .i32⟩
  | .hbm, ⟨42, _⟩ => ⟨S_, .f32⟩
  | .hbm, ⟨43, _⟩ => ⟨S8x128, .f32⟩
  | .hbm, ⟨44, _⟩ => ⟨S1x1024, .f32⟩
  | .hbm, ⟨45, _⟩ => ⟨S1x2048, .f32⟩
  | .hbm, ⟨46, _⟩ => ⟨S_, .i32⟩
  | .hbm, ⟨47, _⟩ => ⟨S_, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x11776, .f32⟩
  | .hbm, ⟨52, _⟩ => ⟨S8x32, .f32⟩
  | .hbm, ⟨53, _⟩ => ⟨S_, .i32⟩
  | .hbm, ⟨54, _⟩ => ⟨S_, .f32⟩
  | .hbm, ⟨55, _⟩ => ⟨S8x128, .f32⟩
  | .hbm, ⟨56, _⟩ => ⟨S1x1024, .f32⟩
  | .hbm, ⟨57, _⟩ => ⟨S1x2048, .f32⟩
  | .hbm, ⟨58, _⟩ => ⟨S_, .i32⟩
  | .hbm, ⟨59, _⟩ => ⟨S_, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x11776, .f32⟩
  | .hbm, ⟨64, _⟩ => ⟨S1x11776, .f32⟩
  | .hbm, ⟨65, _⟩ => ⟨S1x11776, .f32⟩
  | .hbm, ⟨66, _⟩ => ⟨S1x11776, .f32⟩
  | .hbm, ⟨67, _⟩ => ⟨S1x2048, .f32⟩
  | .hbm, ⟨68, _⟩ => ⟨S1x2048, .f32⟩
  | .hbm, ⟨69, _⟩ => ⟨S1x2048, .f32⟩
  | .hbm, ⟨70, _⟩ => ⟨S1x2048, .f32⟩
  | .hbm, ⟨71, _⟩ => ⟨S1x2048, .f32⟩
  | .hbm, ⟨72, _⟩ => ⟨S2048, .f32⟩
  | .hbm, ⟨73, _⟩ => ⟨S1x128, .f32⟩
  | .hbm, ⟨74, _⟩ => ⟨S1x128, .f32⟩
  | .hbm, ⟨75, _⟩ => ⟨S1x1024, .f32⟩
  | .hbm, ⟨76, _⟩ => ⟨S8x128, .f32⟩
  | .hbm, ⟨77, _⟩ => ⟨S8x32, .f32⟩
  | .hbm, ⟨78, _⟩ => ⟨S32x8, .f32⟩
  | .hbm, ⟨79, _⟩ => ⟨S1x8, .f32⟩
  | .hbm, ⟨80, _⟩ => ⟨S1x1, .f32⟩
  | .hbm, ⟨81, _⟩ => ⟨S_, .f32⟩
  | .hbm, ⟨82, _⟩ => ⟨S1x2048, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S1x2048, .f32⟩
  | .hbm, ⟨87, _⟩ => ⟨S2048, .f32⟩
  | .hbm, ⟨88, _⟩ => ⟨S1x128, .f32⟩
  | .hbm, ⟨89, _⟩ => ⟨S1x128, .f32⟩
  | .hbm, ⟨90, _⟩ => ⟨S1x1024, .f32⟩
  | .hbm, ⟨91, _⟩ => ⟨S8x128, .f32⟩
  | .hbm, ⟨92, _⟩ => ⟨S8x32, .f32⟩
  | .hbm, ⟨93, _⟩ => ⟨S32x8, .f32⟩
  | .hbm, ⟨94, _⟩ => ⟨S1x8, .f32⟩
  | .hbm, ⟨95, _⟩ => ⟨S1x1, .f32⟩
  | .hbm, ⟨96, _⟩ => ⟨S_, .f32⟩
  | .hbm, ⟨97, _⟩ => ⟨S1x2048, .f32⟩
  | .hbm, ⟨98, _⟩ => ⟨S1x2048, .f32⟩
  | .hbm, ⟨99, _⟩ => ⟨S1x2048, .f32⟩
  | .hbm, ⟨100, _⟩ => ⟨S1x2048, .f32⟩
  | .hbm, ⟨101, _⟩ => ⟨S1x2048, .f32⟩
  | .hbm, ⟨102, _⟩ => ⟨S2048, .f32⟩
  | .hbm, ⟨103, _⟩ => ⟨S1x128, .f32⟩
  | .hbm, ⟨104, _⟩ => ⟨S1x128, .f32⟩
  | .hbm, ⟨105, _⟩ => ⟨S1x1024, .f32⟩
  | .hbm, ⟨106, _⟩ => ⟨S8x128, .f32⟩
  | .hbm, ⟨107, _⟩ => ⟨S8x32, .f32⟩
  | .hbm, ⟨108, _⟩ => ⟨S32x8, .f32⟩
  | .hbm, ⟨109, _⟩ => ⟨S1x8, .f32⟩
  | .hbm, ⟨110, _⟩ => ⟨S1x1, .f32⟩
  | .hbm, ⟨111, _⟩ => ⟨S_, .f32⟩
  | .local _ .vmem, ⟨0, _⟩ => ⟨S1x11776, .f32⟩
  | .local _ .vmem, ⟨1, _⟩ => ⟨S1x11776, .f32⟩
  | .local _ .vmem, ⟨2, _⟩ => ⟨S1x11776, .f32⟩
  | .local _ .vmem, ⟨3, _⟩ => ⟨S1x11776, .f32⟩
  | .local _ .vmem, ⟨4, _⟩ => ⟨S1x11776, .f32⟩
  | .local _ .vmem, ⟨5, _⟩ => ⟨S1x11776, .f32⟩
  | .local _ .vmem, ⟨6, _⟩ => ⟨S1x11776, .f32⟩
  | _, _ => ⟨S1x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_c : Ref sig .tc := ⟨.hbm, 29, rfl⟩
abbrev main_call0_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_call1_v0 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_c_1 : Ref sig .tc := ⟨.hbm, 41, rfl⟩
abbrev main_call2_v0 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_c_2 : Ref sig .tc := ⟨.hbm, 46, rfl⟩
abbrev main_call3_v0 : Ref sig .tc := ⟨.hbm, 47, rfl⟩
abbrev main_v11 : Ref sig .tc := ⟨.hbm, 48, rfl⟩
abbrev main_cst_3 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_c_4 : Ref sig .tc := ⟨.hbm, 53, rfl⟩
abbrev main_call4_v0 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_5 : Ref sig .tc := ⟨.hbm, 58, rfl⟩
abbrev main_call5_v0 : Ref sig .tc := ⟨.hbm, 59, rfl⟩
abbrev main_v18 : Ref sig .tc := ⟨.hbm, 60, rfl⟩
abbrev main_cst_6 : Ref sig .tc := ⟨.hbm, 61, rfl⟩
abbrev main_v19 : Ref sig .tc := ⟨.hbm, 62, rfl⟩
abbrev main_v20 : Ref sig .tc := ⟨.hbm, 63, rfl⟩
abbrev main_v21_0 : Ref sig .tc := ⟨.hbm, 64, rfl⟩
abbrev main_v21_1 : Ref sig .tc := ⟨.hbm, 65, rfl⟩
abbrev main_v21_2 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x11776 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x11776 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x11776 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x11776 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x11776 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x11776 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x11776 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamReferenceIdeal.lean ====
abbrev S1x11776 : Shape := ⟨2, ![1, 11776]⟩
abbrev S1x2048 : Shape := ⟨2, ![1, 2048]⟩
abbrev S1x128 : Shape := ⟨2, ![1, 128]⟩
abbrev S1x8 : Shape := ⟨2, ![1, 8]⟩
abbrev S32x8 : Shape := ⟨2, ![32, 8]⟩
abbrev S2048 : Shape := ⟨1, ![2048]⟩
abbrev S1x1024 : Shape := ⟨2, ![1, 1024]⟩
abbrev S8x128 : Shape := ⟨2, ![8, 128]⟩
abbrev S8x32 : Shape := ⟨2, ![8, 32]⟩
abbrev S_ : Shape := ⟨0, ![]⟩

abbrev nBuf : Space → Nat
  | .hbm => 338
  | .vmem => 0
  | .smem => 0
  | _ => 0

abbrev hbmTy0_0 (i : Nat) : BufTy := match i % 128 with
  | 0 => ⟨S1x11776, .f32⟩
  | 1 => ⟨S1x2048, .f32⟩
  | 2 => ⟨S1x128, .f32⟩
  | 3 => ⟨S1x128, .f32⟩
  | 4 => ⟨S1x8, .f32⟩
  | 5 => ⟨S1x2048, .f32⟩
  | 6 => ⟨S1x2048, .f32⟩
  | 7 => ⟨S1x2048, .f32⟩
  | 8 => ⟨S32x8, .f32⟩
  | 9 => ⟨S2048, .f32⟩
  | 10 => ⟨S1x2048, .f32⟩
  | 11 => ⟨S1x128, .f32⟩
  | 12 => ⟨S1x128, .f32⟩
  | 13 => ⟨S1x8, .f32⟩
  | 14 => ⟨S1x2048, .f32⟩
  | 15 => ⟨S1x2048, .f32⟩
  | 16 => ⟨S1x2048, .f32⟩
  | 17 => ⟨S32x8, .f32⟩
  | 18 => ⟨S2048, .f32⟩
  | 19 => ⟨S1x2048, .f32⟩
  | 20 => ⟨S1x128, .f32⟩
  | 21 => ⟨S1x128, .f32⟩
  | 22 => ⟨S1x8, .f32⟩
  | 23 => ⟨S1x2048, .f32⟩
  | 24 => ⟨S1x2048, .f32⟩
  | 25 => ⟨S1x2048, .f32⟩
  | 26 => ⟨S32x8, .f32⟩
  | 27 => ⟨S2048, .f32⟩
  | 28 => ⟨S1x2048, .f32⟩
  | 29 => ⟨S1x2048, .f32⟩
  | 30 => ⟨S1x2048, .f32⟩
  | 31 => ⟨S1x2048, .f32⟩
  | 32 => ⟨S1x2048, .f32⟩
  | 33 => ⟨S2048, .f32⟩
  | 34 => ⟨S1x128, .f32⟩
  | 35 => ⟨S1x128, .f32⟩
  | 36 => ⟨S1x1024, .f32⟩
  | 37 => ⟨S8x128, .f32⟩
  | 38 => ⟨S8x32, .f32⟩
  | 39 => ⟨S32x8, .f32⟩
  | 40 => ⟨S1x8, .f32⟩
  | 41 => ⟨S_, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S1x2048, .f32⟩
  | 48 => ⟨S_, .f32⟩
  | 49 => ⟨S1x2048, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S1x2048, .f32⟩
  | 56 => ⟨S_, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S1x2048, .f32⟩
  | 63 => ⟨S_, .f32⟩
  | 64 => ⟨S1x2048, .f32⟩
  | 65 => ⟨S1x2048, .f32⟩
  | 66 => ⟨S1x2048, .f32⟩
  | 67 => ⟨S_, .f32⟩
  | 68 => ⟨S1x2048, .f32⟩
  | 69 => ⟨S1x2048, .f32⟩
  | 70 => ⟨S1x2048, .f32⟩
  | 71 => ⟨S_, .f32⟩
  | 72 => ⟨S1x2048, .f32⟩
  | 73 => ⟨S1x2048, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S_, .f32⟩
  | 119 => ⟨S1x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S1x11776, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S1x128, .f32⟩
  | 9 => ⟨S_, .f32⟩
  | 10 => ⟨S1x128, .f32⟩
  | 11 => ⟨S1x128, .f32⟩
  | 12 => ⟨S_, .f32⟩
  | 13 => ⟨S1x8, .f32⟩
  | 14 => ⟨S1x8, .f32⟩
  | 15 => ⟨S_, .f32⟩
  | 16 => ⟨S1x8, .f32⟩
  | 17 => ⟨S1x8, .f32⟩
  | 18 => ⟨S1x8, .f32⟩
  | 19 => ⟨S_, .f32⟩
  | 20 => ⟨S1x8, .f32⟩
  | 21 => ⟨S1x8, .f32⟩
  | 22 => ⟨S1x8, .f32⟩
  | 23 => ⟨S_, .f32⟩
  | 24 => ⟨S1x8, .f32⟩
  | 25 => ⟨S1x8, .f32⟩
  | 26 => ⟨S1x8, .f32⟩
  | 27 => ⟨S_, .f32⟩
  | 28 => ⟨S1x8, .f32⟩
  | 29 => ⟨S1x8, .f32⟩
  | 30 => ⟨S_, .f32⟩
  | 31 => ⟨S1x8, .f32⟩
  | 32 => ⟨S1x8, .f32⟩
  | 33 => ⟨S1x8, .f32⟩
  | 34 => ⟨S_, .f32⟩
  | 35 => ⟨S1x8, .f32⟩
  | 36 => ⟨S1x8, .f32⟩
  | 37 => ⟨S1x8, .f32⟩
  | 38 => ⟨S_, .f32⟩
  | 39 => ⟨S1x8, .f32⟩
  | 40 => ⟨S1x8, .f32⟩
  | 41 => ⟨S1x8, .f32⟩
  | 42 => ⟨S_, .f32⟩
  | 43 => ⟨S1x8, .f32⟩
  | 44 => ⟨S1x8, .f32⟩
  | 45 => ⟨S_, .f32⟩
  | 46 => ⟨S1x2048, .f32⟩
  | 47 => ⟨S1x2048, .f32⟩
  | 48 => ⟨S_, .f32⟩
  | 49 => ⟨S1x2048, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S1x2048, .f32⟩
  | 56 => ⟨S_, .f32⟩
  | 57 => ⟨S1x2048, .f32⟩
  | 58 => ⟨S1x2048, .f32⟩
  | 59 => ⟨S1x2048, .f32⟩
  | 60 => ⟨S_, .f32⟩
  | 61 => ⟨S1x2048, .f32⟩
  | 62 => ⟨S1x2048, .f32⟩
  | 63 => ⟨S_, .f32⟩
  | 64 => ⟨S1x2048, .f32⟩
  | 65 => ⟨S1x2048, .f32⟩
  | 66 => ⟨S1x2048, .f32⟩
  | 67 => ⟨S_, .f32⟩
  | 68 => ⟨S1x2048, .f32⟩
  | 69 => ⟨S1x2048, .f32⟩
  | 70 => ⟨S1x2048, .f32⟩
  | 71 => ⟨S_, .f32⟩
  | 72 => ⟨S1x2048, .f32⟩
  | 73 => ⟨S1x2048, .f32⟩
  | 74 => ⟨S1x2048, .f32⟩
  | 75 => ⟨S_, .f32⟩
  | 76 => ⟨S1x2048, .f32⟩
  | 77 => ⟨S1x2048, .f32⟩
  | 78 => ⟨S_, .f32⟩
  | 79 => ⟨S1x2048, .f32⟩
  | 80 => ⟨S1x2048, .f32⟩
  | 81 => ⟨S_, .f32⟩
  | 82 => ⟨S1x2048, .f32⟩
  | 83 => ⟨S1x2048, .f32⟩
  | 84 => ⟨S1x2048, .f32⟩
  | 85 => ⟨S_, .f32⟩
  | 86 => ⟨S1x2048, .f32⟩
  | 87 => ⟨S1x2048, .f32⟩
  | 88 => ⟨S1x2048, .f32⟩
  | 89 => ⟨S_, .f32⟩
  | 90 => ⟨S1x2048, .f32⟩
  | 91 => ⟨S1x2048, .f32⟩
  | 92 => ⟨S1x2048, .f32⟩
  | 93 => ⟨S_, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S1x2048, .f32⟩
  | 100 => ⟨S_, .f32⟩
  | 101 => ⟨S1x2048, .f32⟩
  | 102 => ⟨S1x2048, .f32⟩
  | 103 => ⟨S1x2048, .f32⟩
  | 104 => ⟨S_, .f32⟩
  | 105 => ⟨S1x2048, .f32⟩
  | 106 => ⟨S1x2048, .f32⟩
  | 107 => ⟨S1x2048, .f32⟩
  | 108 => ⟨S_, .f32⟩
  | 109 => ⟨S1x2048, .f32⟩
  | 110 => ⟨S1x2048, .f32⟩
  | 111 => ⟨S_, .f32⟩
  | 112 => ⟨S1x2048, .f32⟩
  | 113 => ⟨S1x2048, .f32⟩
  | 114 => ⟨S_, .f32⟩
  | 115 => ⟨S1x2048, .f32⟩
  | 116 => ⟨S1x2048, .f32⟩
  | 117 => ⟨S1x2048, .f32⟩
  | 118 => ⟨S_, .f32⟩
  | 119 => ⟨S1x2048, .f32⟩
  | 120 => ⟨S1x2048, .f32⟩
  | 121 => ⟨S1x2048, .f32⟩
  | 122 => ⟨S_, .f32⟩
  | 123 => ⟨S1x2048, .f32⟩
  | 124 => ⟨S1x2048, .f32⟩
  | 125 => ⟨S1x2048, .f32⟩
  | 126 => ⟨S_, .f32⟩
  | 127 => ⟨S1x2048, .f32⟩
  | _ => ⟨S1x11776, .f32⟩

abbrev hbmTy0_2 (i : Nat) : BufTy := match i % 128 with
  | 0 => ⟨S1x2048, .f32⟩
  | 1 => ⟨S_, .f32⟩
  | 2 => ⟨S1x2048, .f32⟩
  | 3 => ⟨S1x2048, .f32⟩
  | 4 => ⟨S1x2048, .f32⟩
  | 5 => ⟨S_, .f32⟩
  | 6 => ⟨S1x2048, .f32⟩
  | 7 => ⟨S1x2048, .f32⟩
  | 8 => ⟨S1x2048, .f32⟩
  | 9 => ⟨S_, .f32⟩
  | 10 => ⟨S1x2048, .f32⟩
  | 11 => ⟨S1x2048, .f32⟩
  | 12 => ⟨S1x2048, .f32⟩
  | 13 => ⟨S_, .f32⟩
  | 14 => ⟨S1x2048, .f32⟩
  | 15 => ⟨S1x2048, .f32⟩
  | 16 => ⟨S_, .f32⟩
  | 17 => ⟨S32x8, .f32⟩
  | 18 => ⟨S32x8, .f32⟩
  | 19 => ⟨S_, .f32⟩
  | 20 => ⟨S32x8, .f32⟩
  | 21 => ⟨S32x8, .f32⟩
  | 22 => ⟨S32x8, .f32⟩
  | 23 => ⟨S_, .f32⟩
  | 24 => ⟨S32x8, .f32⟩
  | 25 => ⟨S32x8, .f32⟩
  | 26 => ⟨S32x8, .f32⟩
  | 27 => ⟨S_, .f32⟩
  | 28 => ⟨S32x8, .f32⟩
  | 29 => ⟨S32x8, .f32⟩
  | 30 => ⟨S32x8, .f32⟩
  | 31 => ⟨S_, .f32⟩
  | 32 => ⟨S32x8, .f32⟩
  | 33 => ⟨S32x8, .f32⟩
  | 34 => ⟨S_, .f32⟩
  | 35 => ⟨S32x8, .f32⟩
  | 36 => ⟨S32x8, .f32⟩
  | 37 => ⟨S32x8, .f32⟩
  | 38 => ⟨S_, .f32⟩
  | 39 => ⟨S32x8, .f32⟩
  | 40 => ⟨S32x8, .f32⟩
  | 41 => ⟨S32x8, .f32⟩
  | 42 => ⟨S_, .f32⟩
  | 43 => ⟨S32x8, .f32⟩
  | 44 => ⟨S32x8, .f32⟩
  | 45 => ⟨S32x8, .f32⟩
  | 46 => ⟨S_, .f32⟩
  | 47 => ⟨S32x8, .f32⟩
  | 48 => ⟨S32x8, .f32⟩
  | 49 => ⟨S_, .f32⟩
  | 50 => ⟨S2048, .f32⟩
  | 51 => ⟨S2048, .f32⟩
  | 52 => ⟨S_, .f32⟩
  | 53 => ⟨S2048, .f32⟩
  | 54 => ⟨S2048, .f32⟩
  | 55 => ⟨S2048, .f32⟩
  | 56 => ⟨S_, .f32⟩
  | 57 => ⟨S2048, .f32⟩
  | 58 => ⟨S2048, .f32⟩
  | 59 => ⟨S2048, .f32⟩
  | 60 => ⟨S_, .f32⟩
  | 61 => ⟨S2048, .f32⟩
  | 62 => ⟨S2048, .f32⟩
  | 63 => ⟨S2048, .f32⟩
  | 64 => ⟨S_, .f32⟩
  | 65 => ⟨S2048, .f32⟩
  | 66 => ⟨S2048, .f32⟩
  | 67 => ⟨S_, .f32⟩
  | 68 => ⟨S2048, .f32⟩
  | 69 => ⟨S2048, .f32⟩
  | 70 => ⟨S2048, .f32⟩
  | 71 => ⟨S_, .f32⟩
  | 72 => ⟨S2048, .f32⟩
  | 73 => ⟨S2048, .f32⟩
  | 74 => ⟨S2048, .f32⟩
  | 75 => ⟨S_, .f32⟩
  | 76 => ⟨S2048, .f32⟩
  | 77 => ⟨S2048, .f32⟩
  | 78 => ⟨S2048, .f32⟩
  | 79 => ⟨S_, .f32⟩
  | 80 => ⟨S2048, .f32⟩
  | 81 => ⟨S2048, .f32⟩
  | _ => ⟨S1x11776, .f32⟩

abbrev hbmTy (i : Nat) : BufTy := match i / 128 with
  | 0 => hbmTy0_0 i
  | 1 => hbmTy0_1 i
  | 2 => hbmTy0_2 i
  | _ => ⟨S1x11776, .f32⟩

abbrev bufTy : (tb : Table) → Fin (tcTables nBuf tb) → BufTy
  | .hbm, ⟨i, _⟩ => hbmTy i
  | _, _ => ⟨S1x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst : Ref sig .tc := ⟨.hbm, 41, rfl⟩
abbrev main_v13 : Ref sig .tc := ⟨.hbm, 42, rfl⟩
abbrev main_v14 : Ref sig .tc := ⟨.hbm, 43, rfl⟩
abbrev main_cst_0 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_1 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_v36 : Ref sig .tc := ⟨.hbm, 73, rfl⟩
abbrev main_cst_8 : Ref sig .tc := ⟨.hbm, 74, rfl⟩
abbrev main_v37 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_11 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_12 : Ref sig .tc := ⟨.hbm, 89, rfl⟩
abbrev main_v48 : Ref sig .tc := ⟨.hbm, 90, rfl⟩
abbrev main_v49 : Ref sig .tc := ⟨.hbm, 91, rfl⟩
abbrev main_cst_13 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_14 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_15 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_16 : Ref sig .tc := ⟨.hbm, 104, rfl⟩
abbrev main_v59 : Ref sig .tc := ⟨.hbm, 105, rfl⟩
abbrev main_v60 : Ref sig .tc := ⟨.hbm, 106, rfl⟩
abbrev main_cst_17 : Ref sig .tc := ⟨.hbm, 107, rfl⟩
abbrev main_v61 : Ref sig .tc := ⟨.hbm, 108, rfl⟩
abbrev main_v62 : Ref sig .tc := ⟨.hbm, 109, rfl⟩
abbrev main_cst_18 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_19 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_20 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_21 : Ref sig .tc := ⟨.hbm, 122, rfl⟩
abbrev main_v72 : Ref sig .tc := ⟨.hbm, 123, rfl⟩
abbrev main_v73 : Ref sig .tc := ⟨.hbm, 124, rfl⟩
abbrev main_cst_22 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_23 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_24 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_25 : Ref sig .tc := ⟨.hbm, 137, rfl⟩
abbrev main_v83 : Ref sig .tc := ⟨.hbm, 138, rfl⟩
abbrev main_v84 : Ref sig .tc := ⟨.hbm, 139, rfl⟩
abbrev main_cst_26 : Ref sig .tc := ⟨.hbm, 140, rfl⟩
abbrev main_v85 : Ref sig .tc := ⟨.hbm, 141, rfl⟩
abbrev main_v86 : Ref sig .tc := ⟨.hbm, 142, rfl⟩
abbrev main_cst_27 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_28 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_29 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_30 : Ref sig .tc := ⟨.hbm, 155, rfl⟩
abbrev main_v96 : Ref sig .tc := ⟨.hbm, 156, rfl⟩
abbrev main_v97 : Ref sig .tc := ⟨.hbm, 157, rfl⟩
abbrev main_cst_31 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_32 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_cst_33 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_cst_34 : Ref sig .tc := ⟨.hbm, 170, rfl⟩
abbrev main_v107 : Ref sig .tc := ⟨.hbm, 171, rfl⟩
abbrev main_v108 : Ref sig .tc := ⟨.hbm, 172, rfl⟩
abbrev main_cst_35 : Ref sig .tc := ⟨.hbm, 173, rfl⟩
abbrev main_v109 : Ref sig .tc := ⟨.hbm, 174, rfl⟩
abbrev main_v110 : Ref sig .tc := ⟨.hbm, 175, rfl⟩
abbrev main_cst_36 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_cst_37 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_38 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_cst_39 : Ref sig .tc := ⟨.hbm, 188, rfl⟩
abbrev main_v120 : Ref sig .tc := ⟨.hbm, 189, rfl⟩
abbrev main_v121 : Ref sig .tc := ⟨.hbm, 190, rfl⟩
abbrev main_cst_40 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_cst_41 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_cst_42 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_43 : Ref sig .tc := ⟨.hbm, 203, rfl⟩
abbrev main_v131 : Ref sig .tc := ⟨.hbm, 204, rfl⟩
abbrev main_v132 : Ref sig .tc := ⟨.hbm, 205, rfl⟩
abbrev main_cst_44 : Ref sig .tc := ⟨.hbm, 206, rfl⟩
abbrev main_v133 : Ref sig .tc := ⟨.hbm, 207, rfl⟩
abbrev main_v134 : Ref sig .tc := ⟨.hbm, 208, rfl⟩
abbrev main_cst_45 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_cst_46 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_cst_47 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_cst_48 : Ref sig .tc := ⟨.hbm, 221, rfl⟩
abbrev main_v144 : Ref sig .tc := ⟨.hbm, 222, rfl⟩
abbrev main_v145 : Ref sig .tc := ⟨.hbm, 223, rfl⟩
abbrev main_cst_49 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_cst_50 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_cst_51 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_cst_52 : Ref sig .tc := ⟨.hbm, 236, rfl⟩
abbrev main_v155 : Ref sig .tc := ⟨.hbm, 237, rfl⟩
abbrev main_v156 : Ref sig .tc := ⟨.hbm, 238, rfl⟩
abbrev main_cst_53 : Ref sig .tc := ⟨.hbm, 239, rfl⟩
abbrev main_v157 : Ref sig .tc := ⟨.hbm, 240, rfl⟩
abbrev main_v158 : Ref sig .tc := ⟨.hbm, 241, rfl⟩
abbrev main_cst_54 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_cst_55 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_cst_56 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_cst_57 : Ref sig .tc := ⟨.hbm, 254, rfl⟩
abbrev main_v168 : Ref sig .tc := ⟨.hbm, 255, rfl⟩
abbrev main_v169 : Ref sig .tc := ⟨.hbm, 256, rfl⟩
abbrev main_cst_58 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_cst_59 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_cst_60 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_cst_61 : Ref sig .tc := ⟨.hbm, 269, rfl⟩
abbrev main_v179 : Ref sig .tc := ⟨.hbm, 270, rfl⟩
abbrev main_v180 : Ref sig .tc := ⟨.hbm, 271, rfl⟩
abbrev main_cst_62 : Ref sig .tc := ⟨.hbm, 272, rfl⟩
abbrev main_v181 : Ref sig .tc := ⟨.hbm, 273, rfl⟩
abbrev main_v182 : Ref sig .tc := ⟨.hbm, 274, rfl⟩
abbrev main_cst_63 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_cst_64 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_cst_65 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_cst_66 : Ref sig .tc := ⟨.hbm, 287, rfl⟩
abbrev main_v192 : Ref sig .tc := ⟨.hbm, 288, rfl⟩
abbrev main_v193 : Ref sig .tc := ⟨.hbm, 289, rfl⟩
abbrev main_cst_67 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_cst_68 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_cst_69 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_cst_70 : Ref sig .tc := ⟨.hbm, 302, rfl⟩
abbrev main_v203 : Ref sig .tc := ⟨.hbm, 303, rfl⟩
abbrev main_v204 : Ref sig .tc := ⟨.hbm, 304, rfl⟩
abbrev main_cst_71 : Ref sig .tc := ⟨.hbm, 305, rfl⟩
abbrev main_v205 : Ref sig .tc := ⟨.hbm, 306, rfl⟩
abbrev main_v206 : Ref sig .tc := ⟨.hbm, 307, rfl⟩
abbrev main_cst_72 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_cst_73 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_cst_74 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_cst_75 : Ref sig .tc := ⟨.hbm, 320, rfl⟩
abbrev main_v216 : Ref sig .tc := ⟨.hbm, 321, rfl⟩
abbrev main_v217 : Ref sig .tc := ⟨.hbm, 322, rfl⟩
abbrev main_cst_76 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_cst_77 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_cst_78 : Ref sig .tc := ⟨.hbm, 331, rfl⟩
abbrev main_v224 : Ref sig .tc := ⟨.hbm, 332, rfl⟩
abbrev main_v225 : Ref sig .tc := ⟨.hbm, 333, rfl⟩
abbrev main_v226 : Ref sig .tc := ⟨.hbm, 334, rfl⟩
abbrev main_cst_79 : Ref sig .tc := ⟨.hbm, 335, rfl⟩
abbrev main_v227 : Ref sig .tc := ⟨.hbm, 336, rfl⟩
abbrev main_v228 : Ref sig .tc := ⟨.hbm, 337, rfl⟩

abbrev nD : Nat := 1
abbrev τ : Topo := Topo.v7x

variable {F : FTy → Type} [FloatOps F]
-- ==== Proof.FwdPieces.lean ====
/- The forward body's stores: each of the four row groups gets the same expression of its queries and of the two key
   chunks. -/
module

public import proofs.«01_k».proof.Proof.Gen.KernelIdeal.Frame

@[expose] public section

set_option maxRecDepth 65536

noncomputable section

open Idealize.ShloMosaic Cert.KernelIdeal Cert.KernelIdeal.Gen

namespace Cert.AttnFwd

variable {F : FTy → Type} [FloatOps F] [Named F]

section
variable (q : Vec F S512x128 .bf16) (k v k' v' : Vec F S2048x128 .bf16)

/-- The running maximum after the first key chunk. -/
abbrev max1 : Vec F S512x1 .f32 := k0_pay7 q k
/-- The running maximum after both key chunks. -/
abbrev max2 : Vec F S512x1 .f32 := k0_pay27 q (max1 q k) k'
/-- The sum of the exponentials after both chunks. -/
abbrev sum2 : Vec F S512x1 .f32 := k0_pay31 q (max1 q k) (k0_pay10 q k) k'
/-- The weighted values after both chunks. -/
abbrev acc2 : Vec F S512x128 .f32 := k0_pay32 (k0_pay9 q k v) (k0_pay29 q (max1 q k) k' v') (k0_pay30 q (max1 q k) k')
/-- What is stored of the attention's result. -/
abbrev blockO : Vec F S512x128 .bf16 := k0_pay51 (sum2 q k k') (acc2 q k v k' v')
/-- What is stored of the log-sum-exp. -/
abbrev blockL : Vec F S1x512x1 .f32 := k0_pay52 (max2 q k k') (sum2 q k k')
end

variable (x0 : Vec F S2048x128 .bf16) (x1 x2 : Vec F S4096x128 .bf16)

theorem out0_3_eq : out0_3 x0 x1 x2 = View.canon [
    ⟨r0_3, blockO (View.ld x0 r0_3) (View.ld x1 r0_4) (View.ld x2 r0_4) (View.ld x1 r0_5) (View.ld x2 r0_5)⟩,
    ⟨r0_2, blockO (View.ld x0 r0_2) (View.ld x1 r0_4) (View.ld x2 r0_4) (View.ld x1 r0_5) (View.ld x2 r0_5)⟩,
    ⟨r0_1, blockO (View.ld x0 r0_1) (View.ld x1 r0_4) (View.ld x2 r0_4) (View.ld x1 r0_5) (View.ld x2 r0_5)⟩,
    ⟨r0_0, blockO (View.ld x0 r0_0) (View.ld x1 r0_4) (View.ld x2 r0_4) (View.ld x1 r0_5) (View.ld x2 r0_5)⟩] := rfl

theorem out0_4_eq : out0_4 x0 x1 x2 = View.canon [
    ⟨r0_9, blockL (View.ld x0 r0_3) (View.ld x1 r0_4) (View.ld x1 r0_5)⟩,
    ⟨r0_8, blockL (View.ld x0 r0_2) (View.ld x1 r0_4) (View.ld x1 r0_5)⟩,
    ⟨r0_7, blockL (View.ld x0 r0_1) (View.ld x1 r0_4) (View.ld x1 r0_5)⟩,
    ⟨r0_6, blockL (View.ld x0 r0_0) (View.ld x1 r0_4) (View.ld x1 r0_5)⟩] := rfl

end Cert.AttnFwd
end
end
-- ==== Proof.RealOps.lean ====
/- The operations of the two attention kernels on arrays of real numbers: an array of the extended reals whose
   entries are real numbers goes through each operation to one whose entries are the expected real numbers. -/
module

public import Idealize.ShloMosaic.Lib.MatmulPlain
public import Idealize.ShloMosaic.Lib.ValueIdx
public import Idealize.ShloMosaic.Lib.Pipeline.Value
public import Idealize.ShloMosaic.PureOps.IdealRules

@[expose] public section

noncomputable section

open Idealize.ShloMosaic Idealize.ShloMosaic.ValueIdx
open scoped BigOperators

namespace Cert.RealOps

/-- A finite sum of real numbers is the same in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of the maximum from minus infinity over real numbers, at least one, is a real number. -/
theorem fold_max_real {ι : Type*} [Fintype ι] [Nonempty ι] (f : ι → ℝ) :
    ∃ M : ℝ, (Finset.univ : Finset ι).fold max (⊥ : EReal) (fun i => (f i : EReal)) = (M : EReal) := by
  have h1 : (Finset.univ : Finset ι).fold max (⊥ : EReal) (fun i => (f i : EReal)) < ⊤ :=
    (Finset.fold_max_lt _).mpr ⟨bot_lt_top, fun x _ => EReal.coe_lt_top _⟩
  have h2 : ⊥ < (Finset.univ : Finset ι).fold max (⊥ : EReal) (fun i => (f i : EReal)) :=
    (Finset.lt_fold_max _).mpr (.inr ⟨Classical.arbitrary ι, Finset.mem_univ _, EReal.bot_lt_coe _⟩)
  exact ⟨_, (EReal.coe_toReal h1.ne h2.ne').symm⟩

/-- The attention's scale, the single-precision number nearest the inverse square root of 128. -/
abbrev sc : ℝ := 11863283 / 134217728

/-- The word of the scale. -/
theorem bits_scale : Ideal.ofBits .f32 0x3DB504F3#32 = ((sc : ℝ) : EReal) := by
  simp [Ideal.ofBits, Ideal.ieee, -EReal.coe_mul]; norm_num
/-- The word of minus infinity. -/
theorem bits_neg_inf : Ideal.ofBits .f32 0xFF800000#32 = ⊥ := by
  simp [Ideal.ofBits, Ideal.ieee]
/-- The word of plus infinity. -/
theorem bits_inf : Ideal.ofBits .f32 0x7F800000#32 = ⊤ := by
  simp [Ideal.ofBits, Ideal.ieee]
/-- The word of one. -/
theorem bits_one : Ideal.ofBits .f32 0x3F800000#32 = ((1 : ℝ) : EReal) := by
  simp [Ideal.ofBits, Ideal.ieee, -EReal.coe_mul]; norm_num

/-- Two to the power of `x / log 2` is the exponential. -/
theorem exp2_mul_inv_log (x : ℝ) : Ideal.exp2 ((x * (Real.log 2)⁻¹ : ℝ) : EReal) = ((Real.exp x : ℝ) : EReal) := by
  rw [Ideal.exp2_coe]
  congr 1
  show (2 : ℝ) ^ (x * (Real.log 2)⁻¹) = _
  rw [Real.rpow_def_of_pos (by norm_num)]
  congr 1
  have : Real.log 2 ≠ 0 := (Real.log_pos (by norm_num)).ne'
  field_simp

variable {m n k : ℕ} {φ ψ : FTy}

/-- A matrix of extended reals that holds the real numbers `X`. -/
def IsR (x : FVec Ideal ⟨2, ![m, n]⟩ φ) (X : Fin m → Fin n → ℝ) : Prop :=
  ∀ i j, x (ix2 i j) = ((X i j : ℝ) : EReal)

/-- A column of extended reals that holds the real numbers `X`. -/
abbrev IsC (x : FVec Ideal ⟨2, ![m, 1]⟩ φ) (X : Fin m → ℝ) : Prop := IsR x (fun i _ => X i)

section
variable {x y : FVec Ideal ⟨2, ![m, n]⟩ φ} {X Y : Fin m → Fin n → ℝ}

/-- The same numbers under an equal description. -/
theorem IsR.congr (h : IsR x X) (e : ∀ i j, X i j = Y i j) : IsR x Y := fun i j => by rw [h i j, e i j]
/-- Addition. -/
theorem IsR.add (hx : IsR x X) (hy : IsR y Y) : IsR (addf x y) (fun i j => X i j + Y i j) := fun i j => by
  rw [addf_apply, hx i j, hy i j, EReal.coe_add]
/-- Subtraction. -/
theorem IsR.sub (hx : IsR x X) (hy : IsR y Y) : IsR (subf x y) (fun i j => X i j - Y i j) := fun i j => by
  rw [subf_apply, hx i j, hy i j, EReal.coe_sub]
/-- Multiplication. -/
theorem IsR.mul (hx : IsR x X) (hy : IsR y Y) : IsR (mulf x y) (fun i j => X i j * Y i j) := fun i j => by
  rw [mulf_apply, hx i j, hy i j, EReal.coe_mul]
/-- Division by numbers that are not zero. -/
theorem IsR.div (hx : IsR x X) (hy : IsR y Y) (h0 : ∀ i j, Y i j ≠ 0) : IsR (divf x y) (fun i j => X i j / Y i j) :=
  fun i j => by
  rw [divf_apply, hx i j, hy i j, Ideal.div_coe (h0 i j), ← EReal.coe_mul, mul_one_div]
/-- The greater of the two. -/
theorem IsR.greater (hx : IsR x X) (hy : IsR y Y) : IsR (maximumf x y) (fun i j => max (X i j) (Y i j)) := fun i j => by
  rw [maximumf_apply, hx i j, hy i j]
  show _ = ((max (X i j) (Y i j) : ℝ) : EReal)
  rcases le_total (X i j) (Y i j) with h | h
  · rw [max_eq_right h, max_eq_right (EReal.coe_le_coe_iff.mpr h)]
  · rw [max_eq_left h, max_eq_left (EReal.coe_le_coe_iff.mpr h)]
/-- A change to a narrower format. -/
theorem IsR.trunc (hx : IsR x X) (h : ψ.bits < φ.bits) : IsR (truncf ψ x h) X := fun i j => hx i j
/-- A change to a wider format. -/
theorem IsR.ext (hx : IsR x X) (h : φ.bits < ψ.bits) : IsR (extf ψ x h) X := fun i j => hx i j
/-- Two to the power of the numbers divided by the logarithm of two. -/
theorem IsR.exp2 {Z : Fin m → Fin n → ℝ} {x : FVec Ideal ⟨2, ![m, n]⟩ φ} (hx : IsR x X)
    (e : ∀ i j, X i j = Z i j * (Real.log 2)⁻¹) :
    IsR (exp2 x) (fun i j => Real.exp (Z i j)) := fun i j => by
  show Ideal.exp2 (x (ix2 i j)) = _
  rw [hx i j, e i j, exp2_mul_inv_log]
/-- The logarithm of positive numbers. -/
theorem IsR.log {x : FVec Ideal ⟨2, ![m, n]⟩ φ} (hx : IsR x X) (h0 : ∀ i j, 0 < X i j) :
    IsR (log x) (fun i j => Real.log (X i j)) := fun i j => by
  show Ideal.log (x (ix2 i j)) = _
  rw [hx i j, Ideal.log_coe, if_neg (not_le.mpr (h0 i j))]
/-- A constant everywhere. -/
theorem IsR.const {c : EReal} {C : ℝ} (h : c = (C : EReal)) :
    IsR (φ := φ) (broadcast (⟨2, ![m, n]⟩ : Shape) c) (fun _ _ => C) := fun _ _ => h
/-- A transposition. -/
theorem IsR.transpose (hx : IsR x X) (h : (⟨2, ![m, n]⟩ : Shape).Transposes [1, 0] ⟨2, ![n, m]⟩) :
    IsR (φ := φ) (transpose (⟨2, ![n, m]⟩ : Shape) [1, 0] x h) (fun j i => X i j) := fun j i => by
  rw [transpose_apply [1, 0] x h (ix2 j i) (ix2 i j) (fun b => by match b with | ⟨0, _⟩ => rfl | ⟨1, _⟩ => rfl)]
  exact hx i j
/-- A reshape to the same shape. -/
theorem IsR.cast (hx : IsR x X) (h : (⟨2, ![m, n]⟩ : Shape).ShapeCasts ⟨2, ![m, n]⟩) :
    IsR (φ := φ) (shapeCast (⟨2, ![m, n]⟩ : Shape) x h) X := fun i j => by
  rw [shapeCast_apply x h (ix2 i j) (ix2 i j) rfl]
  exact hx i j
/-- A column repeated along the rows. -/
theorem IsC.spread {c : FVec Ideal ⟨2, ![m, 1]⟩ φ} {C : Fin m → ℝ} (hc : IsC c C)
    (h : (⟨2, ![m, 1]⟩ : Shape).Broadcasts ⟨2, ![m, n]⟩) (hm : m ≠ 1) :
    IsR (φ := φ) (broadcastTo (⟨2, ![m, n]⟩ : Shape) c h) (fun i _ => C i) := fun i j => by
  rw [broadcastTo_apply c h (ix2 i j) (ix2 i 0) (fun a => by
    match a with
    | ⟨0, _⟩ => exact (if_neg (show ¬ m = 1 from hm)).symm
    | ⟨1, _⟩ => rfl)]
  exact hc i 0
end

/-- A product of two matrices, the second transposed. -/
theorem IsR.matmul_nt {a : FVec Ideal ⟨2, ![m, k]⟩ φ} {b : FVec Ideal ⟨2, ![n, k]⟩ ψ} {A : Fin m → Fin k → ℝ}
    {B : Fin n → Fin k → ℝ} (ha : IsR a A) (hb : IsR b B) :
    IsR (FloatOps.matmul (DotDims.transposedRhs m k n) none a b (constant _ .f32 0x00000000#32))
      (fun i j => ∑ l, A i l * B j l) := fun i j => by
  rw [Ideal.matmul_transposedRhs_apply, constant_apply, Ideal.ofBits_zero_f32, zero_add, coe_sum]
  exact Finset.sum_congr rfl fun l _ => by rw [ha i l, hb j l, EReal.coe_mul]

/-- A product of two matrices. -/
theorem IsR.matmul_nn {a : FVec Ideal ⟨2, ![m, k]⟩ φ} {b : FVec Ideal ⟨2, ![k, n]⟩ ψ} {A : Fin m → Fin k → ℝ}
    {B : Fin k → Fin n → ℝ} (ha : IsR a A) (hb : IsR b B) :
    IsR (FloatOps.matmul (DotDims.plain m k n) none a b (constant _ .f32 0x00000000#32))
      (fun i j => ∑ l, A i l * B l j) := fun i j => by
  rw [Ideal.matmul_plain_apply, constant_apply, Ideal.ofBits_zero_f32, zero_add, coe_sum]
  exact Finset.sum_congr rfl fun l _ => by rw [ha i l, hb l j, EReal.coe_mul]

/-- The column a vector is reshaped to. -/
theorem column_apply (v : FVec Ideal ⟨1, ![m]⟩ φ) (h : (⟨1, ![m]⟩ : Shape).ShapeCasts ⟨2, ![m, 1]⟩) (i : Fin m)
    (j : Fin 1) : (shapeCast (⟨2, ![m, 1]⟩ : Shape) v h : FVec Ideal _ φ) (ix2 i j) = v (ix1 i) :=
  shapeCast_apply v h _ _ (by
    rw [Shape.rowMajor_val_one, Shape.rowMajor_val_two]
    show i.val = i.val * 1 + j.val
    omega)

/-- The index a sum over the rows' entries reads. -/
theorem lift_row (h : (⟨2, ![m, n]⟩ : Shape).Reduces [1] ⟨1, ![m]⟩) (i : Fin m) (l : Fin n) :
    h.lift (ix1 i) l = ix2 i l := by
  funext a
  match a with
  | ⟨0, _⟩ => rfl
  | ⟨1, _⟩ => rfl

/-- The sums of the rows, as a column. -/
theorem IsR.row_sum {x : FVec Ideal ⟨2, ![m, n]⟩ φ} {X : Fin m → Fin n → ℝ} (hx : IsR x X) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![m, 1]⟩) :
    IsC (φ := φ) (shapeCast (⟨2, ![m, 1]⟩ : Shape) (multiReduction .add [1] (⟨1, ![m]⟩ : Shape) x acc h hφ hacc) hc)
      (fun i => ∑ l, X i l) := fun i j => by
  rw [column_apply, Ideal.multiReduction_add_single, coe_sum]
  exact Finset.sum_congr rfl fun l _ => (congrArg x (lift_row h i l)).trans (hx i l)

/-- The greatest entries of the rows, as a column, are real numbers. -/
theorem IsR.row_max {x : FVec Ideal ⟨2, ![m, n]⟩ .f32} {X : Fin m → Fin n → ℝ} (hx : IsR x X) (hn : 0 < n)
    (h : (⟨2, ![m, n]⟩ : Shape).Reduces [1] ⟨1, ![m]⟩) (hφ : FKind.Formats .f32)
    (hacc : 0xFF800000#32 = FKind.maximumf.neutral .f32 hφ)
    (hc : (⟨1, ![m]⟩ : Shape).ShapeCasts ⟨2, ![m, 1]⟩) :
    ∃ M : Fin m → ℝ, IsC (φ := .f32) (shapeCast (⟨2, ![m, 1]⟩ : Shape)
      (multiReduction .maximumf [1] (⟨1, ![m]⟩ : Shape) x 0xFF800000#32 h hφ hacc) hc) M := by
  haveI : Nonempty (Fin n) := ⟨⟨0, hn⟩⟩
  choose M hM using fun i => fold_max_real (fun l => X i l)
  refine ⟨M, fun i j => ?_⟩
  rw [column_apply, Ideal.multiReduction_maximumf_single, ← hM i]
  show Finset.fold max (Ideal.ofBits .f32 0xFF800000#32) _ _ = _
  rw [bits_neg_inf]
  exact Finset.fold_congr fun l _ => (congrArg x (lift_row h i l)).trans (hx i l)

end Cert.RealOps
end
end
-- ==== Proof.FwdBlock.lean ====
/- What one row group of the forward attention kernel computes: the softmax-weighted values and the logarithm of the sum
   of the exponentials, of the real numbers its blocks hold. -/
module

public import proofs.«01_k».proof.Proof.FwdPieces
public import proofs.«01_k».proof.Proof.RealOps

@[expose] public section

set_option maxRecDepth 16384

noncomputable section

open Idealize.ShloMosaic Idealize.ShloMosaic.ValueIdx Cert.KernelIdeal Cert.KernelIdeal.Gen Cert.RealOps
open scoped BigOperators

namespace Cert.AttnFwd

/-- The named scale over the logarithm of two. -/
theorem named_scale : Named.named (F := Ideal) (φ := .f32) κ "scale_log2e" 0x3E0293EE#32 = ((sc * (Real.log 2)⁻¹ : ℝ) : EReal) :=
  IdealRules.named_const.ideal_named_scalar κ "scale_log2e" (φ := .f32) 0x3E0293EE#32 _ rfl
/-- The named inverse of the logarithm of two. -/
theorem named_log2e : Named.named (F := Ideal) (φ := .f32) κ "log2e" 0x3FB8AA3B#32 = (((Real.log 2)⁻¹ : ℝ) : EReal) :=
  IdealRules.named_const.ideal_named_scalar κ "log2e" (φ := .f32) 0x3FB8AA3B#32 _ rfl

variable {q : Vec Ideal S512x128 .bf16} {k v k' v' : Vec Ideal S2048x128 .bf16}
  {Q : Fin 512 → Fin 128 → ℝ} {K V K' V' : Fin 2048 → Fin 128 → ℝ}

/-- The exponential of the scaled score of a query and a key. -/
abbrev wt (a b : Fin 128 → ℝ) : ℝ := Real.exp ((∑ d, a d * b d) * sc)

section
variable (hq : IsR (φ := .bf16) q Q) (hk : IsR (φ := .bf16) k K) (hv : IsR (φ := .bf16) v V)
  (hk' : IsR (φ := .bf16) k' K') (hv' : IsR (φ := .bf16) v' V')
include hq hk

/-- The scores of a chunk. -/
theorem score_r : IsR (φ := .f32) (k0_pay6 q k) (fun i s => ∑ d, Q i d * K s d) := IsR.matmul_nt hq hk

/-- The scores of the other chunk. -/
theorem score2_r : IsR (φ := .f32) (k0_pay26 q k) (fun i s => ∑ d, Q i d * K s d) := IsR.matmul_nt hq hk

/-- The first chunk's maxima are real numbers. -/
theorem max1_r : ∃ M : Fin 512 → ℝ, IsC (φ := .f32) (max1 q k) M :=
  (score_r hq hk).row_max (by norm_num) reduces_S512x2048_S512 (.inl rfl) rfl shapeCasts_S512_S512x1

variable {M : Fin 512 → ℝ} (hM : IsC (φ := .f32) (max1 q k) M)
include hM

/-- The first chunk's exponentials. -/
theorem p1_r : IsR (φ := .f32) (k0_pay8 q k) (fun i s => Real.exp ((∑ d, Q i d * K s d) * sc - M i * sc)) :=
  (((score_r hq hk).sub (IsC.spread hM broadcasts_S512x1_S512x2048 (by norm_num))).mul (IsR.const named_scale)).exp2
    (fun i j => by ring)

/-- The first chunk's sums. -/
theorem l1_r : IsC (φ := .f32) (k0_pay10 q k) (fun i => ∑ s, Real.exp ((∑ d, Q i d * K s d) * sc - M i * sc)) :=
  (p1_r hq hk hM).row_sum _ reduces_S512x2048_S512 (.inl rfl) rfl shapeCasts_S512_S512x1

include hv in
/-- The first chunk's weighted values. -/
theorem pv1_r : IsR (φ := .f32) (k0_pay9 q k v) (fun i d => ∑ s, Real.exp ((∑ d, Q i d * K s d) * sc - M i * sc) * V s d) :=
  ((p1_r hq hk hM).trunc bitsLt_bf16_f32).matmul_nn hv

include hk'

/-- The maxima after both chunks are real numbers. -/
theorem max2_r : ∃ M2 : Fin 512 → ℝ, IsC (φ := .f32) (max2 q k k') M2 := by
  obtain ⟨N, hN⟩ := (score2_r hq hk').row_max (by norm_num) reduces_S512x2048_S512 (.inl rfl) rfl shapeCasts_S512_S512x1
  exact ⟨fun i => max (M i) (N i), hM.greater hN⟩

variable {M2 : Fin 512 → ℝ} (hM2 : IsC (φ := .f32) (max2 q k k') M2)
include hM2

/-- The factor that brings the first chunk to the second's maximum. -/
theorem alpha_r : IsC (φ := .f32) (k0_pay30 q (max1 q k) k') (fun i => Real.exp (M i * sc - M2 i * sc)) :=
  ((hM.sub hM2).mul (IsR.const named_scale)).exp2 (fun i j => by ring)

/-- The second chunk's exponentials. -/
theorem p2_r : IsR (φ := .f32) (k0_pay28 q (max1 q k) k') (fun i s => Real.exp ((∑ d, Q i d * K' s d) * sc - M2 i * sc)) :=
  (((score2_r hq hk').sub (IsC.spread hM2 broadcasts_S512x1_S512x2048 (by norm_num))).mul (IsR.const named_scale)).exp2
    (fun i j => by ring)

/-- The sums after both chunks: the sum of all the exponentials, brought to the maximum. -/
theorem sum2_r : IsC (φ := .f32) (sum2 q k k')
    (fun i => Real.exp (-(M2 i * sc)) * (∑ s, wt (Q i) (K s) + ∑ s, wt (Q i) (K' s))) :=
  (((alpha_r hq hk hk' hM hM2).mul (l1_r hq hk hM)).add
    ((p2_r hq hk hk' hM hM2).row_sum _ reduces_S512x2048_S512 (.inl rfl) rfl shapeCasts_S512_S512x1)).congr fun i _ => by
    beta_reduce
    rw [Finset.mul_sum, mul_add, Finset.mul_sum, Finset.mul_sum]
    congr 1 <;> refine Finset.sum_congr rfl fun s _ => ?_
    · rw [← Real.exp_add, ← Real.exp_add]; congr 1; ring
    · rw [← Real.exp_add]; congr 1; ring

include hv hv'
/-- The weighted values after both chunks, brought to the maximum. -/
theorem acc2_r : IsR (φ := .f32) (acc2 q k v k' v')
    (fun i d => Real.exp (-(M2 i * sc)) * (∑ s, wt (Q i) (K s) * V s d + ∑ s, wt (Q i) (K' s) * V' s d)) :=
  (((IsC.spread (alpha_r hq hk hk' hM hM2) broadcasts_S512x1_S512x128 (by norm_num)).mul (pv1_r hq hk hv hM)).add
    (((p2_r hq hk hk' hM hM2).trunc bitsLt_bf16_f32).matmul_nn hv')).congr fun i d => by
    beta_reduce
    rw [Finset.mul_sum, mul_add, Finset.mul_sum, Finset.mul_sum]
    congr 1 <;> refine Finset.sum_congr rfl fun s _ => ?_
    · rw [← mul_assoc, ← mul_assoc, ← Real.exp_add, ← Real.exp_add]; congr 2; ring
    · rw [← mul_assoc, ← Real.exp_add]; congr 2; ring
end

/-- A sum of exponentials over both chunks is positive. -/
theorem norm_pos (a : Fin 128 → ℝ) : 0 < ∑ s, wt a (K s) + ∑ s, wt a (K' s) :=
  add_pos (Finset.sum_pos (fun _ _ => Real.exp_pos _) ⟨0, Finset.mem_univ _⟩)
    (Finset.sum_pos (fun _ _ => Real.exp_pos _) ⟨0, Finset.mem_univ _⟩)

/-- The block stored of the attention's result. -/
theorem blockO_r (hq : IsR (φ := .bf16) q Q) (hk : IsR (φ := .bf16) k K) (hv : IsR (φ := .bf16) v V)
    (hk' : IsR (φ := .bf16) k' K') (hv' : IsR (φ := .bf16) v' V') : IsR (φ := .bf16) (blockO q k v k' v')
    (fun i d => (∑ s, wt (Q i) (K s) * V s d + ∑ s, wt (Q i) (K' s) * V' s d)
      / (∑ s, wt (Q i) (K s) + ∑ s, wt (Q i) (K' s))) := by
  obtain ⟨M, hM⟩ := max1_r hq hk
  obtain ⟨M2, hM2⟩ := max2_r hq hk hk' hM
  refine (((acc2_r hq hk hv hk' hv' hM hM2).div (IsC.spread (sum2_r hq hk hk' hM hM2) broadcasts_S512x1_S512x128 (by norm_num))
    (fun i _ => (mul_pos (Real.exp_pos _) (norm_pos _)).ne')).trunc bitsLt_bf16_f32).congr fun i d => ?_
  exact mul_div_mul_left _ _ (Real.exp_pos _).ne'

/-- The block stored of the logarithm of the sum of the exponentials. -/
theorem blockL_r (hq : IsR (φ := .bf16) q Q) (hk : IsR (φ := .bf16) k K) (hk' : IsR (φ := .bf16) k' K') (i : Fin 512) :
    (blockL q k k' : Vec Ideal S1x512x1 .f32) (ix3 0 i 0)
      = ((Real.log (∑ s, wt (Q i) (K s) + ∑ s, wt (Q i) (K' s)) : ℝ) : EReal) := by
  obtain ⟨M, hM⟩ := max1_r hq hk
  obtain ⟨M2, hM2⟩ := max2_r hq hk hk' hM
  have hl := (sum2_r hq hk hk' hM hM2).log fun i _ => mul_pos (Real.exp_pos _) (norm_pos (Q i))
  have hs : IsC (φ := .f32) (broadcast S512x1 (Scalar.ofBits (F := Ideal) .f32 0x3DB504F3#32)) (fun _ => sc) :=
    fun _ _ => bits_scale
  have h : IsC (φ := .f32) (addf (mulf (max2 q k k') (broadcast S512x1 (Scalar.ofBits (F := Ideal) .f32 0x3DB504F3#32)))
      (log (sum2 q k k'))) (fun i => M2 i * sc + Real.log (Real.exp (-(M2 i * sc)) * (∑ s, wt (Q i) (K s) + ∑ s, wt (Q i) (K' s)))) :=
    (IsR.mul hM2 hs).add hl
  have e : (blockL q k k' : Vec Ideal S1x512x1 .f32) = shapeCast S1x512x1 (addf (mulf (max2 q k k')
      (broadcast S512x1 (Scalar.ofBits (F := Ideal) .f32 0x3DB504F3#32))) (log (sum2 q k k'))) shapeCasts_S512x1_S1x512x1 := rfl
  rw [e, shapeCast_apply _ shapeCasts_S512x1_S1x512x1 (ix3 0 i 0) (ix2 i 0) (by
    rw [Shape.rowMajor_val_two, Shape.rowMajor_val_three]
    show i.val * 1 + 0 = (0 * 512 + i.val) * 1 + 0
    omega), h i 0]
  beta_reduce
  rw [Real.log_mul (Real.exp_pos _).ne' (norm_pos _).ne', Real.log_exp]
  congr 1; ring

end Cert.AttnFwd
end
end
-- ==== Proof.BwdPieces.lean ====
/- The gradient body's two accumulator windows as one recursion over its 32 updates (8 key slabs by 4 row groups). -/
module

public import proofs.«01_k».proof.Proof.Gen.KernelIdeal.Frame

@[expose] public section

set_option maxRecDepth 65536

noncomputable section

open Idealize.ShloMosaic Cert.KernelIdeal Cert.KernelIdeal.Gen

namespace Cert.AttnBwd

variable {F : FTy → Type} [FloatOps F] [Named F]

theorem inb_row (h : Fin 4) : ∀ a, (![512 * h.val, 0] : Fin 2 → ℕ) a + S512x128.size a ≤ S2048x128.size a := by
  revert h; decide
theorem inb_key (j : Fin 8) : ∀ a, (![512 * j.val, 0] : Fin 2 → ℕ) a + S512x128.size a ≤ S4096x128.size a := by
  revert j; decide
theorem inb_lse (h : Fin 4) : ∀ a, (![0, 512 * h.val, 0] : Fin 3 → ℕ) a + S1x512x1.size a ≤ S1x2048x1.size a := by
  revert h; decide
theorem inb_slab (j : Fin 8) : ∀ a, (![0, 512 * j.val] : Fin 2 → ℕ) a + S128x512.size a ≤ S128x4096.size a := by
  revert j; decide
theorem inb_all : ∀ a, (![0, 0] : Fin 2 → ℕ) a + S128x4096.size a ≤ S128x4096.size a := by decide

/-- The 512 key columns of slab `j` of an accumulator window. -/
abbrev slab (j : Fin 8) : Rect S128x4096 := Rect.unit ![0, 512 * j.val] S128x512.size (inb_slab j)

/-- Rows of row group `h`. -/
abbrev rowRect (h : Fin 4) : Rect S2048x128 := Rect.unit ![512 * h.val, 0] S512x128.size (inb_row h)
/-- Rows of key chunk `j`. -/
abbrev keyRect (j : Fin 8) : Rect S4096x128 := Rect.unit ![512 * j.val, 0] S512x128.size (inb_key j)
/-- Rows of row group `h` of the log-sum-exp window. -/
abbrev lseRect (h : Fin 4) : Rect S1x2048x1 := Rect.unit ![0, 512 * h.val, 0] S1x512x1.size (inb_lse h)

/-- Row group `h` of a 2048-row window, as the body loads it. -/
abbrev ldRow (m : Memref sig .tc .vmem S2048x128 .bf16) (hm : m.IsWhole) (x : Vec F S2048x128 .bf16) (h : Fin 4) :
    Vec F S512x128 .bf16 :=
  View.readAt (Elt F) m.view (rowRect h).toLoadRect (hm.unread x)

/-- Key chunk `j` of a 4096-row window, as the body loads it. -/
abbrev ldKey (m : Memref sig .tc .vmem S4096x128 .bf16) (hm : m.IsWhole) (x : Vec F S4096x128 .bf16) (j : Fin 8) :
    Vec F S512x128 .bf16 :=
  View.readAt (Elt F) m.view (keyRect j).toLoadRect (hm.unread x)

/-- Row group `h` of the log-sum-exp window, as the body loads it. -/
abbrev ldLse (m : Memref sig .tc .vmem S1x2048x1 .f32) (hm : m.IsWhole) (x : Vec F S1x2048x1 .f32) (h : Fin 4) :
    Vec F S1x512x1 .f32 :=
  View.readAt (Elt F) m.view (lseRect h).toLoadRect (hm.unread x)

/-- The row group of update `n`. -/
abbrev grp (n : ℕ) : Fin 4 := ⟨n % 4, Nat.mod_lt _ (by decide)⟩
/-- The key slab of update `n`. -/
abbrev chk (n : ℕ) : Fin 8 := ⟨n / 4 % 8, Nat.mod_lt _ (by decide)⟩

section
variable (Q DO O : Fin 4 → Vec F S512x128 .bf16) (L : Fin 4 → Vec F S1x512x1 .f32) (K V : Fin 8 → Vec F S512x128 .bf16)

/-- One update of the `dkᵀ` window's slab: its old contents and the new row group's part. -/
abbrev updK (h : Fin 4) (j : Fin 8) (old : Vec F S128x512 .f32) : Vec F S128x512 .f32 :=
  k1_pay23 (Q h) (DO h) (k1_pay3 (DO h) (O h)) (k1_pay4 (Q h)) (k1_pay6 (L h)) (K j) (V j) old

/-- One update of the `dvᵀ` window's slab. -/
abbrev updV (h : Fin 4) (j : Fin 8) (old : Vec F S128x512 .f32) : Vec F S128x512 .f32 :=
  k1_pay22 (Q h) (k1_pay5 (DO h)) (k1_pay6 (L h)) (K j) old

/-- One row group's part of `dq` from one key chunk. -/
abbrev partQ (h : Fin 4) (j : Fin 8) : Vec F S512x128 .f32 :=
  k1_pay21 (Q h) (DO h) (k1_pay3 (DO h) (O h)) (k1_pay6 (L h)) (K j) (V j)

/-- `dq` of a row group, accumulated over the key chunks up to `n`. -/
def accQ (h : Fin 4) : ℕ → Vec F S512x128 .f32
  | 0 => partQ Q DO O L K V h 0
  | n + 1 => addf (accQ h n) (partQ Q DO O L K V h ⟨(n + 1) % 8, Nat.mod_lt _ (by decide)⟩)

/-- The window's stores after `n` updates that begin with a zero fill, the last one first. -/
def listA (m : Memref sig .tc .vmem S128x4096 .f32) (z : Vec F S128x4096 .f32)
    (upd : Fin 4 → Fin 8 → Vec F S128x512 .f32 → Vec F S128x512 .f32) : ℕ → List (View.Piece (Elt F) S128x4096 .f32)
  | 0 => [⟨Rect.unit ![0, 0] S128x4096.size inb_all, z⟩]
  | n + 1 => ⟨slab (chk n), upd (grp n) (chk n) (m.view.readCov (listA m z upd n) (slab (chk n)).toLoadRect)⟩ :: listA m z upd n

/-- The window's stores after `n` updates over earlier contents `x`, the last one first. -/
def listB (m : Memref sig .tc .vmem S128x4096 .f32) (hm : m.IsWhole) (x : Vec F S128x4096 .f32)
    (upd : Fin 4 → Fin 8 → Vec F S128x512 .f32 → Vec F S128x512 .f32) : ℕ → List (View.Piece (Elt F) S128x4096 .f32)
  | 0 => []
  | n + 1 => ⟨slab (chk n), upd (grp n) (chk n)
      (if n % 4 = 0 then View.readAt (Elt F) m.view (slab (chk n)).toLoadRect (hm.unread x)
        else m.view.readCov (listB m hm x upd n) (slab (chk n)).toLoadRect)⟩ :: listB m hm x upd n
end

section
variable (c : Dev nD) (i : grid1.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x1 .f32) (harg8 : arg8.IsWhole) (arg9 : Memref sig .tc .vmem S2048x128 .f32) (harg9 : arg9.IsWhole) (arg10 : Memref sig .tc .vmem S128x4096 .f32) (harg10 : arg10.IsWhole) (arg11 : Memref sig .tc .vmem S128x4096 .f32) (harg11 : arg11.IsWhole)
    (x0 : Vec F S2048x128 .bf16) (x1 : Vec F S4096x128 .bf16) (x2 : Vec F S4096x128 .bf16) (x3 : Vec F S2048x128 .bf16) (x4 : Vec F S2048x128 .bf16) (x5 : Vec F S1x2048x1 .f32)

/-- In the first point of a key head the `dkᵀ` window is filled with zeros and updated 32 times. -/
theorem listA_dk (hc0 : cond1_0 i) : (kernelRun1_A c i arg3 harg3 arg4 harg4 arg5 harg5 arg6 harg6 arg7 harg7 arg8 harg8 arg9 harg9 arg10 harg10 arg11 harg11 hc0 x0 x1 x2 x3 x4 x5).2.1
    = listA arg10 k1_pay1 (updK (ldRow arg3 harg3 x0) (ldRow arg7 harg7 x4) (ldRow arg6 harg6 x3) (ldLse arg8 harg8 x5) (ldKey arg4 harg4 x1) (ldKey arg5 harg5 x2)) 32 := rfl
/-- Likewise the `dvᵀ` window. -/
theorem listA_dv (hc0 : cond1_0 i) : (kernelRun1_A c i arg3 harg3 arg4 harg4 arg5 harg5 arg6 harg6 arg7 harg7 arg8 harg8 arg9 harg9 arg10 harg10 arg11 harg11 hc0 x0 x1 x2 x3 x4 x5).2.2.1
    = listA arg11 k1_pay2 (updV (ldRow arg3 harg3 x0) (ldRow arg7 harg7 x4) (ldLse arg8 harg8 x5) (ldKey arg4 harg4 x1)) 32 := rfl
/-- Elsewhere the `dkᵀ` window is updated 32 times over what it held. -/
theorem listB_dk (hc0 : ¬cond1_0 i) (xo7 xo8 : Vec F S128x4096 .f32) : (kernelRun1_B c i arg3 harg3 arg4 harg4 arg5 harg5 arg6 harg6 arg7 harg7 arg8 harg8 arg9 harg9 arg10 harg10 arg11 harg11 hc0 x0 x1 x2 x3 x4 x5 xo7 xo8).2.1
    = listB arg10 harg10 xo7 (updK (ldRow arg3 harg3 x0) (ldRow arg7 harg7 x4) (ldRow arg6 harg6 x3) (ldLse arg8 harg8 x5) (ldKey arg4 harg4 x1) (ldKey arg5 harg5 x2)) 32 := rfl
/-- Likewise the `dvᵀ` window. -/
theorem listB_dv (hc0 : ¬cond1_0 i) (xo7 xo8 : Vec F S128x4096 .f32) : (kernelRun1_B c i arg3 harg3 arg4 harg4 arg5 harg5 arg6 harg6 arg7 harg7 arg8 harg8 arg9 harg9 arg10 harg10 arg11 harg11 hc0 x0 x1 x2 x3 x4 x5 xo7 xo8).2.2.1
    = listB arg11 harg11 xo8 (updV (ldRow arg3 harg3 x0) (ldRow arg7 harg7 x4) (ldLse arg8 harg8 x5) (ldKey arg4 harg4 x1)) 32 := rfl
/-- The stores of `dq`, one to each row group. -/
def listQ (q : Fin 4 → Vec F S512x128 .f32) : List (View.Piece (Elt F) S2048x128 .f32) :=
  [⟨rowRect 3, q 3⟩, ⟨rowRect 2, q 2⟩, ⟨rowRect 1, q 1⟩, ⟨rowRect 0, q 0⟩]
theorem listA_dq (hc0 : cond1_0 i) : (kernelRun1_A c i arg3 harg3 arg4 harg4 arg5 harg5 arg6 harg6 arg7 harg7 arg8 harg8 arg9 harg9 arg10 harg10 arg11 harg11 hc0 x0 x1 x2 x3 x4 x5).1
    = listQ (fun h => accQ (ldRow arg3 harg3 x0) (ldRow arg7 harg7 x4) (ldRow arg6 harg6 x3) (ldLse arg8 harg8 x5) (ldKey arg4 harg4 x1) (ldKey arg5 harg5 x2) h 7) := rfl
theorem listB_dq (hc0 : ¬cond1_0 i) (xo7 xo8 : Vec F S128x4096 .f32) : (kernelRun1_B c i arg3 harg3 arg4 harg4 arg5 harg5 arg6 harg6 arg7 harg7 arg8 harg8 arg9 harg9 arg10 harg10 arg11 harg11 hc0 x0 x1 x2 x3 x4 x5 xo7 xo8).1
    = listQ (fun h => accQ (ldRow arg3 harg3 x0) (ldRow arg7 harg7 x4) (ldRow arg6 harg6 x3) (ldLse arg8 harg8 x5) (ldKey arg4 harg4 x1) (ldKey arg5 harg5 x2) h 7) := rfl
end
end Cert.AttnBwd
end
end
-- ==== Proof.BwdBlock.lean ====
/- What one row group and one key chunk of the gradient kernel compute, of the real numbers the blocks hold: the
   probabilities, the gradient of the scores, and the contributions to the gradients of queries, keys and values. -/
module

public import proofs.«01_k».proof.Proof.BwdPieces
public import proofs.«01_k».proof.Proof.FwdBlock

@[expose] public section

set_option maxRecDepth 16384

noncomputable section

open Idealize.ShloMosaic Idealize.ShloMosaic.ValueIdx Cert.KernelIdeal Cert.KernelIdeal.Gen Cert.RealOps
open scoped BigOperators

namespace Cert.AttnBwd

/-- The probability of a key for a query whose log-sum-exp is `l`. -/
abbrev pr (a b : Fin 128 → ℝ) (l : ℝ) : ℝ := Real.exp ((∑ d, a d * b d) * sc - l)
/-- The gradient of the scaled score: the probability times the difference of the two inner products, scaled. -/
abbrev gs (a b g c o : Fin 128 → ℝ) (l : ℝ) : ℝ := pr a b l * (∑ d, g d * c d - ∑ d, g d * o d) * sc

variable {q g o k v : Vec Ideal S512x128 .bf16} {l : Vec Ideal S1x512x1 .f32}
  {Q G O K V : Fin 512 → Fin 128 → ℝ} {L : Fin 512 → ℝ}

/-- The inner products of the cotangents with the results. -/
theorem delta_r (hg : IsR (φ := .bf16) g G) (ho : IsR (φ := .bf16) o O) :
    IsC (φ := .f32) (k1_pay3 g o) (fun i => ∑ d, G i d * O i d) :=
  ((hg.ext bitsLt_bf16_f32).mul ((ho.cast shapeCasts_S512x128_S512x128).ext bitsLt_bf16_f32)).row_sum _
    reduces_S512x128_S512 (.inl rfl) rfl shapeCasts_S512_S512x1

/-- The log-sum-exp over the logarithm of two. -/
theorem lse2_r (hl : ∀ i, l (ix3 0 i 0) = ((L i : ℝ) : EReal)) :
    IsC (φ := .f32) (k1_pay6 l) (fun i => L i * (Real.log 2)⁻¹) := by
  have h0 : IsC (φ := .f32) (shapeCast S512x1 l shapeCasts_S1x512x1_S512x1 : FVec Ideal S512x1 .f32) L := fun i j => by
    obtain rfl : j = 0 := Subsingleton.elim _ _
    rw [shapeCast_apply l shapeCasts_S1x512x1_S512x1 (ix2 i 0) (ix3 0 i 0) (by
      rw [Shape.rowMajor_val_two, Shape.rowMajor_val_three]
      show (0 * 512 + i.val) * 1 + 0 = i.val * 1 + 0
      omega)]
    exact hl i
  have h1 : IsC (φ := .f32) (broadcast S512x1 (Named.named (F := Ideal) (φ := .f32) κ "log2e" 0x3FB8AA3B#32)) (fun _ => (Real.log 2)⁻¹) :=
    fun _ _ => AttnFwd.named_log2e
  exact IsR.mul h0 h1

variable {dl l2 : FVec Ideal S512x1 .f32} {D : Fin 512 → ℝ}

section
variable (hq : IsR (φ := .bf16) q Q) (hk : IsR (φ := .bf16) k K) (hl2 : IsC (φ := .f32) l2 (fun i => L i * (Real.log 2)⁻¹))
include hq hk hl2

/-- The probabilities. -/
theorem prob_r : IsR (φ := .f32) (k1_pay19 q l2 k) (fun i s => pr (Q i) (K s) (L i)) :=
  (((IsR.matmul_nt hq hk).mul (IsR.const AttnFwd.named_scale)).sub
    (IsC.spread hl2 broadcasts_S512x1_S512x512 (by norm_num))).exp2 (fun i j => by ring)

/-- The contribution to the gradient of the values, added to what was there. -/
theorem updV_r (hg : IsR (φ := .bf16) g G) (old : Vec Ideal S128x512 .f32) (d : Fin 128) (s : Fin 512) :
    (k1_pay22 q (k1_pay5 g) l2 k old : Vec Ideal S128x512 .f32) (ix2 d s)
      = old (ix2 d s) + ((∑ i, G i d * pr (Q i) (K s) (L i) : ℝ) : EReal) := by
  have h : IsR (φ := .f32) _ _ := (hg.transpose transposes_S512x128_p1_0_S128x512).matmul_nn
    ((prob_r hq hk hl2).trunc bitsLt_bf16_f32)
  have e := h d s
  refine Eq.trans (congrArg₂ (· + ·) ?_ e) rfl
  exact shapeCast_apply old shapeCasts_S128x512_S128x512 (ix2 d s) (ix2 d s) rfl

variable (hg : IsR (φ := .bf16) g G) (hv : IsR (φ := .bf16) v V) (hd : IsC (φ := .f32) dl (fun i => ∑ d, G i d * O i d))
include hg hv hd

/-- The gradients of the scores. -/
theorem dscore_r : IsR (φ := .bf16) (k1_pay20 q g dl l2 k v) (fun i s => gs (Q i) (K s) (G i) (V s) (O i) (L i)) :=
  ((((prob_r hq hk hl2).mul ((IsR.matmul_nt hg hv).sub (IsC.spread hd broadcasts_S512x1_S512x512 (by norm_num)))).mul
    (IsR.const bits_scale))).trunc bitsLt_bf16_f32

/-- The contribution to the gradient of the queries. -/
theorem partQ_r : IsR (φ := .f32) (k1_pay21 q g dl l2 k v)
    (fun i d => ∑ s, gs (Q i) (K s) (G i) (V s) (O i) (L i) * K s d) :=
  (dscore_r hq hk hl2 hg hv hd).matmul_nn hk

/-- The contribution to the gradient of the keys, added to what was there. -/
theorem updK_r (old : Vec Ideal S128x512 .f32) (d : Fin 128) (s : Fin 512) :
    (k1_pay23 q g dl (k1_pay4 q) l2 k v old : Vec Ideal S128x512 .f32) (ix2 d s)
      = old (ix2 d s) + ((∑ i, Q i d * gs (Q i) (K s) (G i) (V s) (O i) (L i) : ℝ) : EReal) := by
  have h : IsR (φ := .f32) _ _ := (hq.transpose transposes_S512x128_p1_0_S128x512).matmul_nn
    (dscore_r hq hk hl2 hg hv hd)
  have e := h d s
  refine Eq.trans (congrArg₂ (· + ·) ?_ e) rfl
  exact shapeCast_apply old shapeCasts_S128x512_S128x512 (ix2 d s) (ix2 d s) rfl
end

end Cert.AttnBwd
end
end
-- ==== Proof.BwdLists.lean ====
/- The gradient body's accumulator windows after their updates: each entry is what was there and the sum of the four row
   groups' contributions; and the blocks of the gradient of the queries. -/
module

public import proofs.«01_k».proof.Proof.BwdBlock

@[expose] public section

set_option maxRecDepth 16384

noncomputable section

open Idealize.ShloMosaic Idealize.ShloMosaic.ValueIdx Cert.KernelIdeal Cert.KernelIdeal.Gen Cert.RealOps
open scoped BigOperators

namespace Cert.AttnBwd

/-- A position of a range cut into `a` pieces of `b`. -/
theorem sum_cut {M : Type*} [AddCommMonoid M] (a b n : ℕ) (hn : n = a * b) (f : Fin n → M)
    (e : Fin a → Fin b → Fin n) (he : ∀ i j, (e i j).val = b * i.val + j.val) :
    ∑ x, f x = ∑ i, ∑ j, f (e i j) := by
  subst hn
  rw [← Fintype.sum_prod_type', ← Equiv.sum_comp finProdFinEquiv]
  refine Finset.sum_congr rfl fun p _ => congrArg f (Fin.ext ?_)
  rw [he, finProdFinEquiv_apply_val]
  omega

/-- Row `i` of group `h` of 2048 rows. -/
def row (h : Fin 4) (i : Fin 512) : Fin 2048 := ⟨512 * h.val + i.val, by omega⟩
/-- Key `s` of chunk `j` of 4096 keys. -/
def key (j : Fin 8) (s : Fin 512) : Fin 4096 := ⟨512 * j.val + s.val, by omega⟩

/-- A sum over the 2048 rows by groups. -/
theorem sum_row {M : Type*} [AddCommMonoid M] (f : Fin 2048 → M) : ∑ x, f x = ∑ h, ∑ i, f (row h i) :=
  sum_cut 4 512 2048 rfl f row fun _ _ => rfl
/-- A sum over the 4096 keys by chunks. -/
theorem sum_key {M : Type*} [AddCommMonoid M] (f : Fin 4096 → M) : ∑ x, f x = ∑ j, ∑ s, f (key j s) :=
  sum_cut 8 512 4096 rfl f key fun _ _ => rfl
/-- Every key is one of a chunk. -/
theorem exists_key (s : Fin 4096) : ∃ j s', s = key j s' :=
  ⟨⟨s.val / 512, by omega⟩, ⟨s.val % 512, Nat.mod_lt _ (by norm_num)⟩, Fin.ext (Nat.div_add_mod s.val 512).symm⟩
/-- Every row is one of a group. -/
theorem exists_row (s : Fin 2048) : ∃ j s', s = row j s' :=
  ⟨⟨s.val / 512, by omega⟩, ⟨s.val % 512, Nat.mod_lt _ (by norm_num)⟩, Fin.ext (Nat.div_add_mod s.val 512).symm⟩

/-- An entry of a slab in the window. -/
theorem slab_emb (j : Fin 8) (d : Fin 128) (s : Fin 512) : (slab j).emb (ix2 d s) = ix2 d (key j s) := by
  funext a
  apply Fin.ext
  match a with
  | ⟨0, _⟩ => show 0 + 1 * d.val = d.val; omega
  | ⟨1, _⟩ => show 512 * j.val + 1 * s.val = 512 * j.val + s.val; omega

/-- An entry of another slab is not in this one. -/
theorem not_mem_slab (j j' : Fin 8) (hj : j ≠ j') (d : Fin 128) (s : Fin 512) : ix2 d (key j' s) ∉ (slab j).set := by
  intro hm
  have h := (Rect.mem_set_unit.mp hm ⟨1, by decide⟩)
  have h1 : 512 * j.val ≤ 512 * j'.val + s.val := h.1
  have h2 : 512 * j'.val + s.val < 512 * j.val + 512 := h.2
  have := s.isLt
  exact hj (Fin.ext (by omega))

/-- A row group in its window. -/
theorem row_emb (h : Fin 4) (i : Fin 512) (d : Fin 128) : (rowRect h).emb (ix2 i d) = ix2 (row h i) d := by
  funext a
  apply Fin.ext
  match a with
  | ⟨0, _⟩ => show 512 * h.val + 1 * i.val = 512 * h.val + i.val; omega
  | ⟨1, _⟩ => show 0 + 1 * d.val = d.val; omega

/-- A row of another group is not in this one. -/
theorem not_mem_row (h h' : Fin 4) (hj : h ≠ h') (i : Fin 512) (d : Fin 128) : ix2 (row h' i) d ∉ (rowRect h).set := by
  intro hm
  have e := (Rect.mem_set_unit.mp hm ⟨0, by decide⟩)
  have h1 : 512 * h.val ≤ 512 * h'.val + i.val := e.1
  have h2 : 512 * h'.val + i.val < 512 * h.val + 512 := e.2
  have := i.isLt
  exact hj (Fin.ext (by omega))

/-- The partial sum over the groups done so far gains the next one. -/
theorem sum_step (C : Fin 4 → EReal) (j : ℕ) (n : ℕ) (hn : n / 4 = j) :
    (∑ h : Fin 4, if 4 * j + h.val < n + 1 then C h else 0)
      = (∑ h : Fin 4, if 4 * j + h.val < n then C h else 0) + C ⟨n % 4, Nat.mod_lt _ (by decide)⟩ := by
  obtain ⟨r, hr, rfl⟩ : ∃ r, r < 4 ∧ n = 4 * j + r := ⟨n % 4, Nat.mod_lt _ (by decide), by omega⟩
  have e : (⟨(4 * j + r) % 4, Nat.mod_lt _ (by decide)⟩ : Fin 4) = ⟨r, hr⟩ := Fin.ext (by show (4 * j + r) % 4 = r; omega)
  rw [e, Fin.sum_univ_four, Fin.sum_univ_four]
  interval_cases r <;> simp <;> rfl

/-- Nothing changes at the entries of another slab. -/
theorem sum_same (C : Fin 4 → EReal) (j : ℕ) (n : ℕ) (hn : n / 4 ≠ j) :
    (∑ h : Fin 4, if 4 * j + h.val < n + 1 then C h else 0) = ∑ h : Fin 4, if 4 * j + h.val < n then C h else 0 :=
  Finset.sum_congr rfl fun h _ => by
    by_cases e : 4 * j + h.val < n
    · rw [if_pos e, if_pos (by omega)]
    · rw [if_neg e, if_neg (by have := h.isLt; omega)]

section
variable {upd : Fin 4 → Fin 8 → Vec Ideal S128x512 .f32 → Vec Ideal S128x512 .f32}
  {C : Fin 4 → Fin 8 → Fin 128 → Fin 512 → EReal}
  (hupd : ∀ h j (old : Vec Ideal S128x512 .f32) d s, upd h j old (ix2 d s) = old (ix2 d s) + C h j d s)
  (m : Memref sig .tc .vmem S128x4096 .f32)
include hupd

/-- The window filled with `z`, after `n` updates. -/
theorem canon_listA (z : Vec Ideal S128x4096 .f32) (n : ℕ) (hn : n ≤ 32) (j : Fin 8) (d : Fin 128) (s : Fin 512) :
    View.canon (listA m z upd n) (ix2 d (key j s))
      = z (ix2 d (key j s)) + ∑ h : Fin 4, if 4 * j.val + h.val < n then C h j d s else 0 := by
  induction n with
  | zero =>
    rw [Finset.sum_eq_zero (fun h _ => if_neg (by omega)), add_zero, listA, View.canon_unit_zero (by funext a; match a with | ⟨0, _⟩ => rfl | ⟨1, _⟩ => rfl)]
  | succ n ih =>
    have ih := ih (by omega)
    by_cases hc : chk n = j
    · have hj : n / 4 = j.val := by
        have := congrArg Fin.val hc
        have h8 : n / 4 % 8 = j.val := this
        omega
      rw [sum_step (fun h => C h j d s) j.val n hj, ← add_assoc, ← ih]
      show View.canon (⟨slab (chk n), upd (grp n) (chk n) _⟩ :: listA m z upd n) _ = _
      rw [View.readCov_eq_canon', hc]
      rw [← slab_emb, View.canon_cons_emb, hupd]
      rfl
    · have hj : n / 4 ≠ j.val := fun e => hc (Fin.ext (by show n / 4 % 8 = j.val; omega))
      rw [sum_same (fun h => C h j d s) j.val n hj, ← ih]
      exact View.canon_cons_of_not_mem _ _ (not_mem_slab _ _ hc d s)

/-- The window over earlier contents `x`, after `n` updates, at an entry already updated. -/
theorem canon_listB (hm : m.IsWhole) (x : Vec Ideal S128x4096 .f32) (n : ℕ) (hn : n ≤ 32) (j : Fin 8) (d : Fin 128)
    (s : Fin 512) (hj4 : 4 * j.val < n) :
    View.canon (listB m hm x upd n) (ix2 d (key j s))
      = x (ix2 d (key j s)) + ∑ h : Fin 4, if 4 * j.val + h.val < n then C h j d s else 0 := by
  induction n with
  | zero => omega
  | succ n ih =>
    by_cases hc : chk n = j
    · have hj : n / 4 = j.val := by
        have := congrArg Fin.val hc
        have h8 : n / 4 % 8 = j.val := this
        omega
      rw [sum_step (fun h => C h j d s) j.val n hj, ← add_assoc]
      show View.canon (⟨slab (chk n), upd (grp n) (chk n) _⟩ :: listB m hm x upd n) _ = _
      by_cases h0 : n % 4 = 0
      · rw [if_pos h0, Finset.sum_eq_zero (fun h _ => if_neg (by omega)), add_zero, hc,
          ← slab_emb, View.canon_cons_emb, hupd]
        rw [View.readAt_apply, hm.read_unread]
        rfl
      · rw [if_neg h0, ← ih (by omega) (by omega), View.readCov_eq_canon', hc]
        rw [← slab_emb, View.canon_cons_emb, hupd]
        rfl
    · have hj : n / 4 ≠ j.val := fun e => hc (Fin.ext (by show n / 4 % 8 = j.val; omega))
      rw [sum_same (fun h => C h j d s) j.val n hj, ← ih (by omega) (by omega)]
      exact View.canon_cons_of_not_mem _ _ (not_mem_slab _ _ hc d s)
end

/-- The window filled with `z`, after all its updates. -/
theorem canon_listA_all {upd : Fin 4 → Fin 8 → Vec Ideal S128x512 .f32 → Vec Ideal S128x512 .f32}
    {C : Fin 128 → Fin 2048 → Fin 4096 → ℝ}
    (hupd : ∀ h j (old : Vec Ideal S128x512 .f32) d s, upd h j old (ix2 d s) = old (ix2 d s) + ((∑ i, C d (row h i) (key j s) : ℝ) : EReal))
    (m : Memref sig .tc .vmem S128x4096 .f32) (z : Vec Ideal S128x4096 .f32) (d : Fin 128) (s : Fin 4096) :
    View.canon (listA m z upd 32) (ix2 d s) = z (ix2 d s) + ((∑ i, C d i s : ℝ) : EReal) := by
  obtain ⟨j, s, rfl⟩ := exists_key s
  rw [canon_listA hupd m z 32 le_rfl, sum_row, coe_sum]
  exact congrArg _ (Finset.sum_congr rfl fun h _ => if_pos (by omega))

/-- The window over earlier contents, after all its updates. -/
theorem canon_listB_all {upd : Fin 4 → Fin 8 → Vec Ideal S128x512 .f32 → Vec Ideal S128x512 .f32}
    {C : Fin 128 → Fin 2048 → Fin 4096 → ℝ}
    (hupd : ∀ h j (old : Vec Ideal S128x512 .f32) d s, upd h j old (ix2 d s) = old (ix2 d s) + ((∑ i, C d (row h i) (key j s) : ℝ) : EReal))
    (m : Memref sig .tc .vmem S128x4096 .f32) (hm : m.IsWhole) (x : Vec Ideal S128x4096 .f32) (d : Fin 128) (s : Fin 4096) :
    View.canon (listB m hm x upd 32) (ix2 d s) = x (ix2 d s) + ((∑ i, C d i s : ℝ) : EReal) := by
  obtain ⟨j, s, rfl⟩ := exists_key s
  rw [canon_listB hupd m hm x 32 le_rfl _ _ _ (by omega), sum_row, coe_sum]
  exact congrArg _ (Finset.sum_congr rfl fun h _ => if_pos (by omega))

/-- The last store of a row group, read back in it. -/
theorem canon_row_hit (h : Fin 4) (q : Vec Ideal S512x128 .f32) (T : List (View.Piece (Elt Ideal) S2048x128 .f32)) (i : Fin 512)
    (d : Fin 128) : View.canon (⟨rowRect h, q⟩ :: T) (ix2 (row h i) d) = q (ix2 i d) := by
  rw [← row_emb]; exact View.canon_cons_emb (rowRect h) q T (ix2 i d)
/-- The last store of another row group, passed over. -/
theorem canon_row_miss (h h' : Fin 4) (hh : h ≠ h') (q : Vec Ideal S512x128 .f32) (T : List (View.Piece (Elt Ideal) S2048x128 .f32))
    (i : Fin 512) (d : Fin 128) :
    View.canon (⟨rowRect h, q⟩ :: T) (ix2 (row h' i) d) = View.canon T (ix2 (row h' i) d) :=
  View.canon_cons_of_not_mem _ _ (not_mem_row h h' hh i d)

/-- The stores of the row groups, read back. -/
theorem canon_listQ (q : Fin 4 → Vec Ideal S512x128 .f32) (h : Fin 4) (i : Fin 512) (d : Fin 128) :
    View.canon (listQ q) (ix2 (row h i) d) = q h (ix2 i d) := by
  unfold listQ
  by_cases h3 : 3 = h
  · rw [← h3]; exact canon_row_hit 3 (q 3) _ i d
  refine (canon_row_miss 3 h h3 (q 3) _ i d).trans ?_
  by_cases h2 : 2 = h
  · rw [← h2]; exact canon_row_hit 2 (q 2) _ i d
  refine (canon_row_miss 2 h h2 (q 2) _ i d).trans ?_
  by_cases h1 : 1 = h
  · rw [← h1]; exact canon_row_hit 1 (q 1) _ i d
  refine (canon_row_miss 1 h h1 (q 1) _ i d).trans ?_
  obtain rfl : h = 0 := by
    have := h.isLt
    have a3 : h.val ≠ 3 := fun e => h3 (Fin.ext e.symm)
    have a2 : h.val ≠ 2 := fun e => h2 (Fin.ext e.symm)
    have a1 : h.val ≠ 1 := fun e => h1 (Fin.ext e.symm)
    exact Fin.ext (by show h.val = 0; omega)
  exact canon_row_hit 0 (q 0) _ i d

/-- A row group's gradient of the queries, accumulated over the key chunks. -/
theorem accQ_r {Q DO O : Fin 4 → Vec Ideal S512x128 .bf16} {L : Fin 4 → Vec Ideal S1x512x1 .f32}
    {K V : Fin 8 → Vec Ideal S512x128 .bf16} {X : Fin 512 → Fin 128 → Fin 4096 → ℝ} (h : Fin 4)
    (hp : ∀ j, IsR (φ := .f32) (partQ Q DO O L K V h j) (fun i d => ∑ s, X i d (key j s))) :
    IsR (φ := .f32) (accQ Q DO O L K V h 7) (fun i d => ∑ s, X i d s) := by
  have e : ∀ n, IsR (φ := .f32) (accQ Q DO O L K V h n)
      (fun i d => ∑ j ∈ Finset.range (n + 1), ∑ s, X i d (key ⟨j % 8, Nat.mod_lt _ (by decide)⟩ s)) := fun n => by
    induction n with
    | zero => exact (hp 0).congr fun i d => by rw [Finset.sum_range_one]; rfl
    | succ n ih => exact (ih.add (hp _)).congr fun i d => by rw [Finset.sum_range_succ _ (n + 1)]
  exact (e 7).congr fun i d => by
    rw [sum_key, Finset.sum_range]
    exact Finset.sum_congr rfl fun j _ => Finset.sum_congr rfl fun s _ =>
      congrArg (fun j => X i d (key j s)) (Fin.ext (Nat.mod_eq_of_lt j.isLt))

end Cert.AttnBwd
end
end
-- ==== Proof.FwdPoint.lean ====
/- What one grid point of the attention kernel leaves in its output windows, of the real numbers its input windows hold. -/
module

public import proofs.«01_k».proof.Proof.FwdBlock
public import proofs.«01_k».proof.Proof.BwdLists

@[expose] public section

set_option maxRecDepth 16384

noncomputable section

open Idealize.ShloMosaic Idealize.ShloMosaic.ValueIdx Cert.KernelIdeal Cert.KernelIdeal.Gen Cert.RealOps
open Cert.AttnBwd (row rowRect row_emb not_mem_row exists_row sum_cut)
open scoped BigOperators

namespace Cert.AttnFwd

/-- A row group of a window of real numbers. -/
theorem ld_row_r {x : Vec Ideal S2048x128 .bf16} {X : Fin 2048 → Fin 128 → ℝ} (hx : IsR (φ := .bf16) x X) (h : Fin 4) :
    IsR (φ := .bf16) (View.ld x (rowRect h)) (fun i d => X (row h i) d) := fun i d => by
  rw [← hx (row h i) d]
  exact congrArg x (row_emb h i d)

/-- Key `s` of half `j`. -/
def half (j : Fin 2) (s : Fin 2048) : Fin 4096 := ⟨2048 * j.val + s.val, by omega⟩

/-- A sum over the keys, half by half. -/
theorem sum_half (f : Fin 4096 → ℝ) : (∑ s, f s) = ∑ s, f (half 0 s) + ∑ s, f (half 1 s) := by
  rw [sum_cut 2 2048 4096 rfl f (fun j s => half j s) (fun j s => rfl), Fin.sum_univ_two]

/-- The first half of a window of real numbers. -/
theorem ld_lo_r {x : Vec Ideal S4096x128 .bf16} {X : Fin 4096 → Fin 128 → ℝ} (hx : IsR (φ := .bf16) x X) :
    IsR (φ := .bf16) (View.ld x r0_4) (fun i d => X (half 0 i) d) := fun i d => by
  rw [← hx (half 0 i) d]
  refine congrArg x (funext fun a => Fin.ext ?_)
  match a with
  | ⟨0, _⟩ => show 0 + 1 * i.val = 2048 * 0 + i.val; omega
  | ⟨1, _⟩ => show 0 + 1 * d.val = d.val; omega

/-- The second half of a window of real numbers. -/
theorem ld_hi_r {x : Vec Ideal S4096x128 .bf16} {X : Fin 4096 → Fin 128 → ℝ} (hx : IsR (φ := .bf16) x X) :
    IsR (φ := .bf16) (View.ld x r0_5) (fun i d => X (half 1 i) d) := fun i d => by
  rw [← hx (half 1 i) d]
  refine congrArg x (funext fun a => Fin.ext ?_)
  match a with
  | ⟨0, _⟩ => show 2048 + 1 * i.val = 2048 * 1 + i.val; omega
  | ⟨1, _⟩ => show 0 + 1 * d.val = d.val; omega

/-- The last store of a row group, read back in it. -/
theorem canon_row_hit (h : Fin 4) (q : Vec Ideal S512x128 .bf16) (T : List (View.Piece (Elt Ideal) S2048x128 .bf16)) (i : Fin 512)
    (d : Fin 128) : View.canon (⟨rowRect h, q⟩ :: T) (ix2 (row h i) d) = q (ix2 i d) := by
  rw [← row_emb]; exact View.canon_cons_emb (rowRect h) q T (ix2 i d)
/-- The last store of another row group, passed over. -/
theorem canon_row_miss (h h' : Fin 4) (hh : h ≠ h') (q : Vec Ideal S512x128 .bf16) (T : List (View.Piece (Elt Ideal) S2048x128 .bf16))
    (i : Fin 512) (d : Fin 128) :
    View.canon (⟨rowRect h, q⟩ :: T) (ix2 (row h' i) d) = View.canon T (ix2 (row h' i) d) :=
  View.canon_cons_of_not_mem _ _ (not_mem_row h h' hh i d)

/-- Four stores, one for each row group, the last one first. -/
def listO (q : Fin 4 → Vec Ideal S512x128 .bf16) : List (View.Piece (Elt Ideal) S2048x128 .bf16) :=
  [⟨rowRect 3, q 3⟩, ⟨rowRect 2, q 2⟩, ⟨rowRect 1, q 1⟩, ⟨rowRect 0, q 0⟩]

/-- A row group that is none of the last three is the first. -/
theorem group_zero {h : Fin 4} (h3 : ¬3 = h) (h2 : ¬2 = h) (h1 : ¬1 = h) : h = 0 := by
  have := h.isLt
  have a3 : h.val ≠ 3 := fun e => h3 (Fin.ext e.symm)
  have a2 : h.val ≠ 2 := fun e => h2 (Fin.ext e.symm)
  have a1 : h.val ≠ 1 := fun e => h1 (Fin.ext e.symm)
  exact Fin.ext (by show h.val = 0; omega)

/-- The stores of the row groups, read back. -/
theorem canon_listO (q : Fin 4 → Vec Ideal S512x128 .bf16) (h : Fin 4) (i : Fin 512) (d : Fin 128) :
    View.canon (listO q) (ix2 (row h i) d) = q h (ix2 i d) := by
  unfold listO
  by_cases h3 : 3 = h
  · rw [← h3]; exact canon_row_hit 3 (q 3) _ i d
  refine (canon_row_miss 3 h h3 (q 3) _ i d).trans ?_
  by_cases h2 : 2 = h
  · rw [← h2]; exact canon_row_hit 2 (q 2) _ i d
  refine (canon_row_miss 2 h h2 (q 2) _ i d).trans ?_
  by_cases h1 : 1 = h
  · rw [← h1]; exact canon_row_hit 1 (q 1) _ i d
  refine (canon_row_miss 1 h h1 (q 1) _ i d).trans ?_
  obtain rfl := group_zero h3 h2 h1
  exact canon_row_hit 0 (q 0) _ i d

/-- A row group of a column window is within it. -/
theorem inb_col (h : Fin 4) : ∀ a, (![0, 512 * h.val, 0] : Fin 3 → ℕ) a + S1x512x1.size a ≤ S1x2048x1.size a := by
  intro a
  match a with
  | ⟨0, _⟩ => exact le_refl 1
  | ⟨1, _⟩ => show 512 * h.val + 512 ≤ 2048; omega
  | ⟨2, _⟩ => exact le_refl 1
/-- A row group of the log-sum-exp's window. -/
abbrev colRect (h : Fin 4) : Rect S1x2048x1 := Rect.unit ![0, 512 * h.val, 0] S1x512x1.size (inb_col h)
/-- Where an entry of a row group lies in the window. -/
theorem col_emb (h : Fin 4) (i : Fin 512) : (colRect h).emb (ix3 0 i 0) = ix3 0 (row h i) 0 := by
  funext a
  apply Fin.ext
  match a with
  | ⟨0, _⟩ => rfl
  | ⟨1, _⟩ => show 512 * h.val + 1 * i.val = 512 * h.val + i.val; omega
  | ⟨2, _⟩ => rfl
/-- An entry of one row group is not in another. -/
theorem not_mem_col (h h' : Fin 4) (hh : h ≠ h') (i : Fin 512) : ix3 0 (row h' i) 0 ∉ (colRect h).set := by
  intro hm
  have e := (Rect.mem_set_unit.mp hm ⟨1, by decide⟩)
  have h1 : 512 * h.val ≤ 512 * h'.val + i.val := e.1
  have h2 : 512 * h'.val + i.val < 512 * h.val + 512 := e.2
  have := i.isLt
  exact hh (Fin.ext (by omega))

/-- Four stores of the log-sum-exp, one for each row group. -/
def listL (q : Fin 4 → Vec Ideal S1x512x1 .f32) : List (View.Piece (Elt Ideal) S1x2048x1 .f32) :=
  [⟨colRect 3, q 3⟩, ⟨colRect 2, q 2⟩, ⟨colRect 1, q 1⟩, ⟨colRect 0, q 0⟩]

/-- The last store of a row group, read back in it. -/
theorem canon_col_hit (h : Fin 4) (q : Vec Ideal S1x512x1 .f32) (T : List (View.Piece (Elt Ideal) S1x2048x1 .f32)) (i : Fin 512) :
    View.canon (⟨colRect h, q⟩ :: T) (ix3 0 (row h i) 0) = q (ix3 0 i 0) := by
  rw [← col_emb]; exact View.canon_cons_emb (colRect h) q T (ix3 0 i 0)
/-- The last store of another row group, passed over. -/
theorem canon_col_miss (h h' : Fin 4) (hh : h ≠ h') (q : Vec Ideal S1x512x1 .f32) (T : List (View.Piece (Elt Ideal) S1x2048x1 .f32))
    (i : Fin 512) : View.canon (⟨colRect h, q⟩ :: T) (ix3 0 (row h' i) 0) = View.canon T (ix3 0 (row h' i) 0) :=
  View.canon_cons_of_not_mem _ _ (not_mem_col h h' hh i)

/-- The stores of the log-sum-exp, read back. -/
theorem canon_listL (q : Fin 4 → Vec Ideal S1x512x1 .f32) (h : Fin 4) (i : Fin 512) :
    View.canon (listL q) (ix3 0 (row h i) 0) = q h (ix3 0 i 0) := by
  unfold listL
  by_cases h3 : 3 = h
  · rw [← h3]; exact canon_col_hit 3 (q 3) _ i
  refine (canon_col_miss 3 h h3 (q 3) _ i).trans ?_
  by_cases h2 : 2 = h
  · rw [← h2]; exact canon_col_hit 2 (q 2) _ i
  refine (canon_col_miss 2 h h2 (q 2) _ i).trans ?_
  by_cases h1 : 1 = h
  · rw [← h1]; exact canon_col_hit 1 (q 1) _ i
  refine (canon_col_miss 1 h h1 (q 1) _ i).trans ?_
  obtain rfl := group_zero h3 h2 h1
  exact canon_col_hit 0 (q 0) _ i

section
variable (x0 : Vec Ideal S2048x128 .bf16) (x1 x2 : Vec Ideal S4096x128 .bf16)
/-- The stores of the attention's result are those of the four row groups. -/
theorem out0_3_list : out0_3 x0 x1 x2 = View.canon (listO fun h =>
    blockO (View.ld x0 (rowRect h)) (View.ld x1 r0_4) (View.ld x2 r0_4) (View.ld x1 r0_5) (View.ld x2 r0_5)) := by
  rw [out0_3_eq]; rfl
/-- The stores of the log-sum-exp are those of the four row groups. -/
theorem out0_4_list : out0_4 x0 x1 x2 = View.canon (listL fun h =>
    blockL (View.ld x0 (rowRect h)) (View.ld x1 r0_4) (View.ld x1 r0_5)) := by
  rw [out0_4_eq]; rfl
end

/-- A row's sum of exponentials. -/
def zz (q : Fin 128 → ℝ) (K : Fin 4096 → Fin 128 → ℝ) : ℝ := ∑ s, wt q (K s)
/-- A row's attention. -/
def atn (q : Fin 128 → ℝ) (K V : Fin 4096 → Fin 128 → ℝ) (d : Fin 128) : ℝ := (∑ s, wt q (K s) * V s d) / zz q K

section
variable {x0 : Vec Ideal S2048x128 .bf16} {x1 x2 : Vec Ideal S4096x128 .bf16}
  {Q : Fin 2048 → Fin 128 → ℝ} {K V : Fin 4096 → Fin 128 → ℝ}

/-- The attention's window after a grid point. -/
theorem out0_3_r (hq : IsR (φ := .bf16) x0 Q) (hk : IsR (φ := .bf16) x1 K) (hv : IsR (φ := .bf16) x2 V) :
    IsR (φ := .bf16) (out0_3 x0 x1 x2) (fun i d => atn (Q i) K V d) := fun i d => by
  obtain ⟨h, i, rfl⟩ := exists_row i
  rw [out0_3_list, canon_listO]
  refine (blockO_r (ld_row_r hq h) (ld_lo_r hk) (ld_lo_r hv) (ld_hi_r hk) (ld_hi_r hv) i d).trans ?_
  beta_reduce
  unfold atn zz
  rw [sum_half, sum_half]

/-- The log-sum-exp's window after a grid point. -/
theorem out0_4_r (hq : IsR (φ := .bf16) x0 Q) (hk : IsR (φ := .bf16) x1 K) (i : Fin 2048) :
    out0_4 x0 x1 x2 (ix3 0 i 0) = ((Real.log (zz (Q i) K) : ℝ) : EReal) := by
  obtain ⟨h, i, rfl⟩ := exists_row i
  rw [out0_4_list, canon_listL]
  refine (blockL_r (ld_row_r hq h) (ld_lo_r hk) (ld_hi_r hk) i).trans ?_
  unfold zz
  rw [sum_half]
end

end Cert.AttnFwd
end
end
-- ==== Proof.BwdPoint.lean ====
/- What one grid point of the gradient kernel leaves in its output windows, of the real numbers its input windows hold. -/
module

public import proofs.«01_k».proof.Proof.BwdLists

@[expose] public section

set_option maxRecDepth 16384

noncomputable section

open Idealize.ShloMosaic Idealize.ShloMosaic.ValueIdx Cert.KernelIdeal Cert.KernelIdeal.Gen Cert.RealOps
open scoped BigOperators

namespace Cert.AttnBwd

/-- A row group of a window of real numbers. -/
theorem ldRow_r {x : Vec Ideal S2048x128 .bf16} {X : Fin 2048 → Fin 128 → ℝ} (hx : IsR (φ := .bf16) x X)
    (m : Memref sig .tc .vmem S2048x128 .bf16) (hm : m.IsWhole) (h : Fin 4) :
    IsR (φ := .bf16) (ldRow m hm x h) (fun i d => X (row h i) d) := fun i d => by
  show View.readAt (Elt Ideal) m.view (rowRect h).toLoadRect (hm.unread x) (ix2 i d) = _
  rw [View.readAt_apply, hm.read_unread, ← hx (row h i) d]
  exact congrArg x (row_emb h i d)

/-- A key in its window. -/
theorem key_emb (j : Fin 8) (s : Fin 512) (d : Fin 128) : (keyRect j).emb (ix2 s d) = ix2 (key j s) d := by
  funext a
  apply Fin.ext
  match a with
  | ⟨0, _⟩ => show 512 * j.val + 1 * s.val = 512 * j.val + s.val; omega
  | ⟨1, _⟩ => show 0 + 1 * d.val = d.val; omega

/-- A key chunk of a window of real numbers. -/
theorem ldKey_r {x : Vec Ideal S4096x128 .bf16} {X : Fin 4096 → Fin 128 → ℝ} (hx : IsR (φ := .bf16) x X)
    (m : Memref sig .tc .vmem S4096x128 .bf16) (hm : m.IsWhole) (j : Fin 8) :
    IsR (φ := .bf16) (ldKey m hm x j) (fun s d => X (key j s) d) := fun s d => by
  show View.readAt (Elt Ideal) m.view (keyRect j).toLoadRect (hm.unread x) (ix2 s d) = _
  rw [View.readAt_apply, hm.read_unread, ← hx (key j s) d]
  exact congrArg x (key_emb j s d)

/-- A row group of a window of the log-sum-exp. -/
theorem ldLse_r {x : Vec Ideal S1x2048x1 .f32} {X : Fin 2048 → ℝ} (hx : ∀ i, x (ix3 0 i 0) = ((X i : ℝ) : EReal))
    (m : Memref sig .tc .vmem S1x2048x1 .f32) (hm : m.IsWhole) (h : Fin 4) (i : Fin 512) :
    ldLse m hm x h (ix3 0 i 0) = ((X (row h i) : ℝ) : EReal) := by
  show View.readAt (Elt Ideal) m.view (lseRect h).toLoadRect (hm.unread x) (ix3 0 i 0) = _
  rw [View.readAt_apply, hm.read_unread, ← hx (row h i)]
  refine congrArg x (funext fun a => Fin.ext ?_)
  match a with
  | ⟨0, _⟩ => rfl
  | ⟨1, _⟩ => show 512 * h.val + 1 * i.val = 512 * h.val + i.val; omega
  | ⟨2, _⟩ => rfl

section
variable (Q G O : Fin 2048 → Fin 128 → ℝ) (L : Fin 2048 → ℝ) (K V : Fin 4096 → Fin 128 → ℝ)

/-- The gradient of the queries of a block of rows. -/
def dQ (i : Fin 2048) (d : Fin 128) : ℝ := ∑ s, gs (Q i) (K s) (G i) (V s) (O i) (L i) * K s d
/-- A block of rows' contribution to the gradient of the keys, transposed. -/
def dK (d : Fin 128) (s : Fin 4096) : ℝ := ∑ i, Q i d * gs (Q i) (K s) (G i) (V s) (O i) (L i)
/-- A block of rows' contribution to the gradient of the values, transposed. -/
def dV (d : Fin 128) (s : Fin 4096) : ℝ := ∑ i, G i d * pr (Q i) (K s) (L i)
end

/-- The fill of the accumulators is zero. -/
theorem fillK (y : S128x4096.Idx) : (k1_pay1 (F := Ideal) : Vec Ideal S128x4096 .f32) y = 0 := Ideal.ofBits_zero_f32
/-- Likewise the other's. -/
theorem fillV (y : S128x4096.Idx) : (k1_pay2 (F := Ideal) : Vec Ideal S128x4096 .f32) y = 0 := Ideal.ofBits_zero_f32

section
variable (c : Dev nD) (i : grid1.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x1 .f32) (harg8 : arg8.IsWhole) (arg9 : Memref sig .tc .vmem S2048x128 .f32) (harg9 : arg9.IsWhole) (arg10 : Memref sig .tc .vmem S128x4096 .f32) (harg10 : arg10.IsWhole) (arg11 : Memref sig .tc .vmem S128x4096 .f32) (harg11 : arg11.IsWhole)
  {x0 : Vec Ideal S2048x128 .bf16} {x1 x2 : Vec Ideal S4096x128 .bf16} {x3 x4 : Vec Ideal S2048x128 .bf16} {x5 : Vec Ideal S1x2048x1 .f32}
  {Q G O : Fin 2048 → Fin 128 → ℝ} {L : Fin 2048 → ℝ} {K V : Fin 4096 → Fin 128 → ℝ}
  (hq : IsR (φ := .bf16) x0 Q) (hk : IsR (φ := .bf16) x1 K) (hv : IsR (φ := .bf16) x2 V) (ho : IsR (φ := .bf16) x3 O)
  (hg : IsR (φ := .bf16) x4 G) (hl : ∀ i, x5 (ix3 0 i 0) = ((L i : ℝ) : EReal))
include hq hk hv ho hg hl

/-- The gradient of the queries, row group by row group. -/
theorem listQ_r : IsR (φ := .f32) (View.canon (listQ (fun h => accQ (ldRow arg3 harg3 x0) (ldRow arg7 harg7 x4)
      (ldRow arg6 harg6 x3) (ldLse arg8 harg8 x5) (ldKey arg4 harg4 x1) (ldKey arg5 harg5 x2) h 7)) : Vec Ideal S2048x128 .f32)
    (dQ Q G O L K V) := fun i d => by
  obtain ⟨h, i, rfl⟩ := exists_row i
  rw [canon_listQ]
  exact accQ_r (X := fun i d s => gs (Q (row h i)) (K s) (G (row h i)) (V s) (O (row h i)) (L (row h i)) * K s d) h
    (fun j => partQ_r (ldRow_r hq arg3 harg3 h) (ldKey_r hk arg4 harg4 j) (lse2_r (fun i => ldLse_r hl arg8 harg8 h i))
      (ldRow_r hg arg7 harg7 h) (ldKey_r hv arg5 harg5 j) (delta_r (ldRow_r hg arg7 harg7 h) (ldRow_r ho arg6 harg6 h))) i d

/-- The gradient of the queries at a first point of a key head. -/
theorem outA_6_r (hc0 : cond1_0 i) : IsR (φ := .f32) (out1_A_6 c i arg3 harg3 arg4 harg4 arg5 harg5 arg6 harg6 arg7 harg7 arg8 harg8 arg9 harg9 arg10 harg10 arg11 harg11 hc0 x0 x1 x2 x3 x4 x5) (dQ Q G O L K V) := by
  unfold out1_A_6
  rw [View.read_writes_junk_eq_canon, listA_dq]
  exact listQ_r arg3 harg3 arg4 harg4 arg5 harg5 arg6 harg6 arg7 harg7 arg8 harg8 hq hk hv ho hg hl

/-- The gradient of the queries at another point. -/
theorem outB_6_r (hc0 : ¬cond1_0 i) (y7 y8 : Vec Ideal S128x4096 .f32) :
    IsR (φ := .f32) (out1_B_6 c i arg3 harg3 arg4 harg4 arg5 harg5 arg6 harg6 arg7 harg7 arg8 harg8 arg9 harg9 arg10 harg10 arg11 harg11 hc0 x0 x1 x2 x3 x4 x5 y7 y8) (dQ Q G O L K V) := by
  unfold out1_B_6
  rw [View.read_writes_junk_eq_canon, listB_dq]
  exact listQ_r arg3 harg3 arg4 harg4 arg5 harg5 arg6 harg6 arg7 harg7 arg8 harg8 hq hk hv ho hg hl

/-- One update of the gradient of the keys. -/
theorem updK_at (h : Fin 4) (j : Fin 8) (old : Vec Ideal S128x512 .f32) (d : Fin 128) (s : Fin 512) :
    updK (ldRow arg3 harg3 x0) (ldRow arg7 harg7 x4) (ldRow arg6 harg6 x3) (ldLse arg8 harg8 x5) (ldKey arg4 harg4 x1)
        (ldKey arg5 harg5 x2) h j old (ix2 d s)
      = old (ix2 d s) + ((∑ i, Q (row h i) d * gs (Q (row h i)) (K (key j s)) (G (row h i)) (V (key j s)) (O (row h i)) (L (row h i)) : ℝ) : EReal) :=
  updK_r (ldRow_r hq arg3 harg3 h) (ldKey_r hk arg4 harg4 j) (lse2_r (fun i => ldLse_r hl arg8 harg8 h i))
    (ldRow_r hg arg7 harg7 h) (ldKey_r hv arg5 harg5 j) (delta_r (ldRow_r hg arg7 harg7 h) (ldRow_r ho arg6 harg6 h)) old d s

omit hv ho in
/-- One update of the gradient of the values. -/
theorem updV_at (h : Fin 4) (j : Fin 8) (old : Vec Ideal S128x512 .f32) (d : Fin 128) (s : Fin 512) :
    updV (ldRow arg3 harg3 x0) (ldRow arg7 harg7 x4) (ldLse arg8 harg8 x5) (ldKey arg4 harg4 x1) h j old (ix2 d s)
      = old (ix2 d s) + ((∑ i, G (row h i) d * pr (Q (row h i)) (K (key j s)) (L (row h i)) : ℝ) : EReal) :=
  updV_r (ldRow_r hq arg3 harg3 h) (ldKey_r hk arg4 harg4 j) (lse2_r (fun i => ldLse_r hl arg8 harg8 h i))
    (ldRow_r hg arg7 harg7 h) old d s

/-- The gradient of the keys after a first point of a key head. -/
theorem outA_7_r (hc0 : cond1_0 i) (d : Fin 128) (s : Fin 4096) :
    out1_A_7 c i arg3 harg3 arg4 harg4 arg5 harg5 arg6 harg6 arg7 harg7 arg8 harg8 arg9 harg9 arg10 harg10 arg11 harg11 hc0 x0 x1 x2 x3 x4 x5 (ix2 d s) = ((dK Q G O L K V d s : ℝ) : EReal) := by
  unfold out1_A_7
  rw [View.read_writes_junk_eq_canon, listA_dk]
  have e := canon_listA_all (C := fun d i s => Q i d * gs (Q i) (K s) (G i) (V s) (O i) (L i))
    (updK_at arg3 harg3 arg4 harg4 arg5 harg5 arg6 harg6 arg7 harg7 arg8 harg8 hq hk hv ho hg hl) arg10 (k1_pay1 (F := Ideal)) d s
  rw [fillK, zero_add] at e
  exact e

/-- The gradient of the values after a first point of a key head. -/
theorem outA_8_r (hc0 : cond1_0 i) (d : Fin 128) (s : Fin 4096) :
    out1_A_8 c i arg3 harg3 arg4 harg4 arg5 harg5 arg6 harg6 arg7 harg7 arg8 harg8 arg9 harg9 arg10 harg10 arg11 harg11 hc0 x0 x1 x2 x3 x4 x5 (ix2 d s) = ((dV Q G L K d s : ℝ) : EReal) := by
  unfold out1_A_8
  rw [View.read_writes_junk_eq_canon, listA_dv]
  have e := canon_listA_all (C := fun d i s => G i d * pr (Q i) (K s) (L i))
    (updV_at arg3 harg3 arg4 harg4 arg7 harg7 arg8 harg8 hq hk hg hl) arg11 (k1_pay2 (F := Ideal)) d s
  rw [fillV, zero_add] at e
  exact e

/-- The gradient of the keys after another point: what was there and this block's contribution. -/
theorem outB_7_r (hc0 : ¬cond1_0 i) (y7 y8 : Vec Ideal S128x4096 .f32) (d : Fin 128) (s : Fin 4096) :
    out1_B_7 c i arg3 harg3 arg4 harg4 arg5 harg5 arg6 harg6 arg7 harg7 arg8 harg8 arg9 harg9 arg10 harg10 arg11 harg11 hc0 x0 x1 x2 x3 x4 x5 y7 y8 (ix2 d s) = y7 (ix2 d s) + ((dK Q G O L K V d s : ℝ) : EReal) := by
  unfold out1_B_7
  rw [View.read_writes_junk_eq_canon, listB_dk]
  exact canon_listB_all (C := fun d i s => Q i d * gs (Q i) (K s) (G i) (V s) (O i) (L i))
    (updK_at arg3 harg3 arg4 harg4 arg5 harg5 arg6 harg6 arg7 harg7 arg8 harg8 hq hk hv ho hg hl) arg10 harg10 y7 d s

/-- The gradient of the values after another point. -/
theorem outB_8_r (hc0 : ¬cond1_0 i) (y7 y8 : Vec Ideal S128x4096 .f32) (d : Fin 128) (s : Fin 4096) :
    out1_B_8 c i arg3 harg3 arg4 harg4 arg5 harg5 arg6 harg6 arg7 harg7 arg8 harg8 arg9 harg9 arg10 harg10 arg11 harg11 hc0 x0 x1 x2 x3 x4 x5 y7 y8 (ix2 d s) = y8 (ix2 d s) + ((dV Q G L K d s : ℝ) : EReal) := by
  unfold out1_B_8
  rw [View.read_writes_junk_eq_canon, listB_dv]
  exact canon_listB_all (C := fun d i s => G i d * pr (Q i) (K s) (L i))
    (updV_at arg3 harg3 arg4 harg4 arg7 harg7 arg8 harg8 hq hk hg hl) arg11 harg11 y8 d s
end

end Cert.AttnBwd
end
end
-- ==== Proof.Spec.lean ====
/- The attention of grouped queries and its gradients over the real numbers: eight query heads, two key heads, 4096 rows. -/
module

public import proofs.«01_k».proof.Proof.FwdPoint
public import proofs.«01_k».proof.Proof.BwdPoint

@[expose] public section

set_option maxRecDepth 16384

noncomputable section

open Idealize.ShloMosaic Idealize.ShloMosaic.ValueIdx Cert.KernelIdeal Cert.KernelIdeal.Gen Cert.RealOps
open Cert.AttnFwd (atn zz wt half)
open Cert.AttnBwd (gs pr)
open scoped BigOperators

namespace Cert.Spec

/-- Column `d` of block `b`, of 128 columns each. -/
def col {n : ℕ} (b : ℕ) (d : Fin 128) (hb : 128 * b + 128 ≤ n) : Fin n := ⟨128 * b + d.val, by omega⟩

/-- The first `n` columns of an array hold the real numbers `X`. -/
def OnCols {N : ℕ} (n : ℕ) (x : FVec Ideal ⟨2, ![4096, N]⟩ .bf16) (X : Fin 4096 → Fin N → ℝ) : Prop :=
  ∀ (i : Fin 4096) (j : Fin N), j.val < n → x (ix2 i j) = ((X i j : ℝ) : EReal)

/-- The query head `g` of key head `k`. -/
def hd (k : Fin 2) (g : Fin 4) : Fin 8 := ⟨4 * k.val + g.val, by omega⟩
/-- The key head of a query head. -/
def kv (h : Fin 8) : Fin 2 := ⟨h.val / 4, by omega⟩

/-- The key head of one of its query heads. -/
theorem kv_hd (k : Fin 2) (g : Fin 4) : kv (hd k g) = k := Fin.ext (by show (4 * k.val + g.val) / 4 = k.val; omega)

section
variable (X : Fin 4096 → Fin 3072 → ℝ) (Y : Fin 4096 → Fin 2048 → ℝ)

/-- The queries of a head. -/
def qh (h : Fin 8) (i : Fin 4096) (d : Fin 128) : ℝ := X i (col h.val d (by omega))
/-- The keys of a key head. -/
def kh (k : Fin 2) (i : Fin 4096) (d : Fin 128) : ℝ := X i (col (8 + k.val) d (by omega))
/-- The values of a key head. -/
def vh (k : Fin 2) (i : Fin 4096) (d : Fin 128) : ℝ := X i (col (10 + k.val) d (by omega))
/-- The cotangents of a head. -/
def ch (h : Fin 8) (i : Fin 4096) (d : Fin 128) : ℝ := Y i (col h.val d (by omega))

/-- The attention of a head. -/
def oS (h : Fin 8) (i : Fin 4096) (d : Fin 128) : ℝ := atn (qh X h i) (kh X (kv h)) (vh X (kv h)) d
/-- Its log-sum-exp. -/
def lS (h : Fin 8) (i : Fin 4096) : ℝ := Real.log (zz (qh X h i) (kh X (kv h)))
/-- The probability of key `s` for row `i`. -/
def pS (h : Fin 8) (i s : Fin 4096) : ℝ := pr (qh X h i) (kh X (kv h) s) (lS X h i)
/-- The gradient of the score of row `i` and key `s`. -/
def gS (h : Fin 8) (i s : Fin 4096) : ℝ :=
  gs (qh X h i) (kh X (kv h) s) (ch Y h i) (vh X (kv h) s) (oS X h i) (lS X h i)
/-- The gradient of the queries of a head. -/
def dqS (h : Fin 8) (i : Fin 4096) (d : Fin 128) : ℝ := ∑ s, gS X Y h i s * kh X (kv h) s d
/-- The gradient of the keys of a key head. -/
def dkS (k : Fin 2) (d : Fin 128) (s : Fin 4096) : ℝ := ∑ g, ∑ i, qh X (hd k g) i d * gS X Y (hd k g) i s
/-- The gradient of the values of a key head. -/
def dvS (k : Fin 2) (d : Fin 128) (s : Fin 4096) : ℝ := ∑ g, ∑ i, ch Y (hd k g) i d * pS X (hd k g) i s

end

/-- The head of a column below 1024. -/
def headOf (j : ℕ) (hj : j < 1024) : Fin 8 := ⟨j / 128, by omega⟩
/-- The key head of a row below 256. -/
def kvOf (j : ℕ) (hj : j < 256) : Fin 2 := ⟨j / 128, by omega⟩
/-- A column within its block. -/
def within (j : ℕ) : Fin 128 := ⟨j % 128, by omega⟩

/-- The head, the key head and the place of a column of a block. -/
theorem headOf_col (h : Fin 8) (d : Fin 128) (hj) : headOf (128 * h.val + d.val) hj = h :=
  Fin.ext (by show (128 * h.val + d.val) / 128 = h.val; omega)
theorem kvOf_col (k : Fin 2) (d : Fin 128) (hj) : kvOf (128 * k.val + d.val) hj = k :=
  Fin.ext (by show (128 * k.val + d.val) / 128 = k.val; omega)
theorem within_col (h : ℕ) (d : Fin 128) : within (128 * h + d.val) = d :=
  Fin.ext (by show (128 * h + d.val) % 128 = d.val; omega)

section
variable (X : Fin 4096 → Fin 3072 → ℝ) (Y : Fin 4096 → Fin 2048 → ℝ)

/-- The attention as an array: head by head, 128 columns each; the columns from 1024 on are not the attention's. -/
def AO : Vec Ideal S4096x2048 .bf16 := fun y =>
  ((if h : (y 1).val < 1024 then oS X (headOf (y 1).val h) (y 0) (within (y 1).val) else 0 : ℝ) : EReal)
/-- The log-sum-exp as an array. -/
def AL : Vec Ideal S8x4096x1 .f32 := fun y => ((lS X (y 0) (y 1) : ℝ) : EReal)
/-- The gradient of the queries as an array. -/
def AQ : Vec Ideal S4096x1024 .f32 := fun y => ((dqS X Y (headOf (y 1).val (y 1).isLt) (y 0) (within (y 1).val) : ℝ) : EReal)
/-- The gradient of the keys as an array, transposed. -/
def AK : Vec Ideal S256x4096 .f32 := fun y => ((dkS X Y (kvOf (y 0).val (y 0).isLt) (within (y 0).val) (y 1) : ℝ) : EReal)
/-- The gradient of the values as an array, transposed. -/
def AV : Vec Ideal S256x4096 .f32 := fun y => ((dvS X Y (kvOf (y 0).val (y 0).isLt) (within (y 0).val) (y 1) : ℝ) : EReal)

/-- The arrays at a column (or row) of a block. -/
theorem AO_at (h : Fin 8) (i : Fin 4096) (d : Fin 128) (hb) : AO X (ix2 i (col h.val d hb)) = ((oS X h i d : ℝ) : EReal) := by
  have hj : 128 * h.val + d.val < 1024 := by omega
  show ((if h' : 128 * h.val + d.val < 1024 then oS X (headOf (128 * h.val + d.val) h') i (within (128 * h.val + d.val)) else 0 : ℝ) : EReal) = _
  rw [dif_pos hj, headOf_col, within_col]
theorem AQ_at (h : Fin 8) (i : Fin 4096) (d : Fin 128) (hb) : AQ X Y (ix2 i (col h.val d hb)) = ((dqS X Y h i d : ℝ) : EReal) := by
  have hj : 128 * h.val + d.val < 1024 := by omega
  show ((dqS X Y (headOf (128 * h.val + d.val) hj) i (within (128 * h.val + d.val)) : ℝ) : EReal) = _
  rw [headOf_col, within_col]
theorem AK_at (k : Fin 2) (d : Fin 128) (s : Fin 4096) (hb) : AK X Y (ix2 (col k.val d hb) s) = ((dkS X Y k d s : ℝ) : EReal) := by
  have hj : 128 * k.val + d.val < 256 := by omega
  show ((dkS X Y (kvOf (128 * k.val + d.val) hj) (within (128 * k.val + d.val)) s : ℝ) : EReal) = _
  rw [kvOf_col, within_col]
theorem AV_at (k : Fin 2) (d : Fin 128) (s : Fin 4096) (hb) : AV X Y (ix2 (col k.val d hb) s) = ((dvS X Y k d s : ℝ) : EReal) := by
  have hj : 128 * k.val + d.val < 256 := by omega
  show ((dvS X Y (kvOf (128 * k.val + d.val) hj) (within (128 * k.val + d.val)) s : ℝ) : EReal) = _
  rw [kvOf_col, within_col]

end

/-- A sum over the 4096 rows of a head, half by half, and over the four heads: eight terms in grid order. -/
theorem sum_points (f : Fin 4 → Fin 4096 → ℝ) :
    (∑ g, ∑ i, f g i) = ∑ n ∈ Finset.range 8, ∑ i, f ⟨n / 2 % 4, by omega⟩ (half ⟨n % 2, by omega⟩ i) := by
  simp only [AttnFwd.sum_half, Finset.sum_range_succ, Finset.sum_range_zero, Fin.sum_univ_four, zero_add]
  simp only [← add_assoc]
  rfl

end Cert.Spec
end
end
-- ==== Proof.FwdArray.lean ====
/- What the attention kernel's result arrays hold after its grid. -/
module

public import proofs.«01_k».proof.Proof.Spec

@[expose] public section

set_option maxRecDepth 16384

noncomputable section

open Idealize.ShloMosaic Idealize.ShloMosaic.TcCoe Idealize.ShloMosaic.ValueIdx Cert.KernelIdeal Cert.KernelIdeal.Gen Cert.RealOps Cert.Spec
open Idealize.ShloMosaic.Pipeline (Dat Cfg Window)
open Cert.AttnFwd (half)
open scoped BigOperators

namespace Cert.AttnFwd

/-- The query head of grid point `t`. -/
def headAt (t : Fin 16) : Fin 8 := ⟨t.val / 2, by omega⟩
/-- The half of the rows of grid point `t`. -/
def halfAt (t : Fin 16) : Fin 2 := ⟨t.val % 2, by omega⟩
/-- The key head of grid point `t`. -/
def kvAt (t : Fin 16) : Fin 2 := ⟨t.val / 8, by omega⟩

theorem kv_headAt (t : Fin 16) : kv (headAt t) = kvAt t := Fin.ext (by show t.val / 2 / 4 = t.val / 8; omega)

/-- The point as one of sixteen. -/
def pt0 (t : Fin cfg0.N) : Fin 16 := ⟨t.val, lt_of_lt_of_eq t.isLt (show cfg0.N = 16 from N_0)⟩

/-- The block index of each window at each grid point. -/
theorem index0_0 : ∀ t : Fin cfg0.N, win0_0.index t (0 : Fin 2) = t.val % 2 ∧ win0_0.index t (1 : Fin 2) = t.val / 2 :=
  (by decide +kernel : ∀ t : Fin grid0.N, _)
theorem index0_1 : ∀ t : Fin cfg0.N, win0_1.index t (0 : Fin 2) = 0 ∧ win0_1.index t (1 : Fin 2) = 8 + t.val / 8 :=
  (by decide +kernel : ∀ t : Fin grid0.N, _)
theorem index0_2 : ∀ t : Fin cfg0.N, win0_2.index t (0 : Fin 2) = 0 ∧ win0_2.index t (1 : Fin 2) = 10 + t.val / 8 :=
  (by decide +kernel : ∀ t : Fin grid0.N, _)
theorem index0_3 : ∀ t : Fin cfg0.N, win0_3.index t (0 : Fin 2) = t.val % 2 ∧ win0_3.index t (1 : Fin 2) = t.val / 2 :=
  (by decide +kernel : ∀ t : Fin grid0.N, _)
theorem index0_4 : ∀ t : Fin cfg0.N, win0_4.index t (0 : Fin 3) = t.val / 2 ∧ win0_4.index t (1 : Fin 3) = t.val % 2
    ∧ win0_4.index t (2 : Fin 3) = 0 :=
  (by decide +kernel : ∀ t : Fin grid0.N, _)

/-- Where an entry of each window's block lies in its array. -/
theorem emb0_0 (t : Fin cfg0.N) (i : Fin 2048) (d : Fin 128) : ((cfg0.win 0).blk t).view.emb (ix2 i d)
    = (ix2 (half (halfAt (pt0 t)) i) (col (headAt (pt0 t)).val d (by have := (headAt (pt0 t)).isLt; omega)) : S4096x3072.Idx) := by
  obtain ⟨e0, e1⟩ := index0_0 t
  funext a; apply Fin.ext
  match a with
  | ⟨0, _⟩ => show win0_0.index t (0 : Fin 2) * 2048 + 1 * i.val = 2048 * (t.val % 2) + i.val; omega
  | ⟨1, _⟩ => show win0_0.index t (1 : Fin 2) * 128 + 1 * d.val = 128 * (t.val / 2) + d.val; omega

theorem emb0_1 (t : Fin cfg0.N) (i : Fin 4096) (d : Fin 128) : ((cfg0.win 1).blk t).view.emb (ix2 i d)
    = (ix2 i (col (8 + (kvAt (pt0 t)).val) d (by have := (kvAt (pt0 t)).isLt; omega)) : S4096x3072.Idx) := by
  obtain ⟨e0, e1⟩ := index0_1 t
  funext a; apply Fin.ext
  match a with
  | ⟨0, _⟩ => show win0_1.index t (0 : Fin 2) * 4096 + 1 * i.val = i.val; omega
  | ⟨1, _⟩ => show win0_1.index t (1 : Fin 2) * 128 + 1 * d.val = 128 * (8 + t.val / 8) + d.val; omega

theorem emb0_2 (t : Fin cfg0.N) (i : Fin 4096) (d : Fin 128) : ((cfg0.win 2).blk t).view.emb (ix2 i d)
    = (ix2 i (col (10 + (kvAt (pt0 t)).val) d (by have := (kvAt (pt0 t)).isLt; omega)) : S4096x3072.Idx) := by
  obtain ⟨e0, e1⟩ := index0_2 t
  funext a; apply Fin.ext
  match a with
  | ⟨0, _⟩ => show win0_2.index t (0 : Fin 2) * 4096 + 1 * i.val = i.val; omega
  | ⟨1, _⟩ => show win0_2.index t (1 : Fin 2) * 128 + 1 * d.val = 128 * (10 + t.val / 8) + d.val; omega

theorem emb0_3 (t : Fin cfg0.N) (i : Fin 2048) (d : Fin 128) : ((cfg0.win 3).blk t).view.emb (ix2 i d)
    = (ix2 (half (halfAt (pt0 t)) i) (col (headAt (pt0 t)).val d (by have := (headAt (pt0 t)).isLt; omega)) : S4096x2048.Idx) := by
  obtain ⟨e0, e1⟩ := index0_3 t
  funext a; apply Fin.ext
  match a with
  | ⟨0, _⟩ => show win0_3.index t (0 : Fin 2) * 2048 + 1 * i.val = 2048 * (t.val % 2) + i.val; omega
  | ⟨1, _⟩ => show win0_3.index t (1 : Fin 2) * 128 + 1 * d.val = 128 * (t.val / 2) + d.val; omega

theorem emb0_4 (t : Fin cfg0.N) (i : Fin 2048) : ((cfg0.win 4).blk t).view.emb (ix3 0 i 0)
    = (ix3 (headAt (pt0 t)) (half (halfAt (pt0 t)) i) 0 : S8x4096x1.Idx) := by
  obtain ⟨e0, e1, e2⟩ := index0_4 t
  funext a; apply Fin.ext
  match a with
  | ⟨0, _⟩ => show win0_4.index t (0 : Fin 3) * 1 + 1 * 0 = t.val / 2; omega
  | ⟨1, _⟩ => show win0_4.index t (1 : Fin 3) * 2048 + 1 * i.val = 2048 * (t.val % 2) + i.val; omega
  | ⟨2, _⟩ => show win0_4.index t (2 : Fin 3) * 1 + 1 * 0 = 0; omega

section
variable (V : (c : Dev nD) → (b : Ref sig .tc) → Buf (Elt Ideal) ((c : Thread nD τ).loc b)) (c : Dev nD)
  {X : Fin 4096 → Fin 3072 → ℝ} (hX : OnCols 1536 (V c main_arg0 : FVec Ideal S4096x3072 .bf16) X)
include hX

/-- The queries' block. -/
theorem iblk0_0_r (t : Fin cfg0.N) : IsR (φ := .bf16) (iblk0 V c 0 t : FVec Ideal S2048x128 .bf16)
    (fun i d => qh X (headAt (pt0 t)) (half (halfAt (pt0 t)) i) d) := fun i d => by
  show (V c main_arg0 : FVec Ideal S4096x3072 .bf16) (((cfg0.win 0).blk t).view.emb (ix2 i d)) = _
  rw [emb0_0]
  exact hX _ _ (by have hN : cfg0.N = 16 := N_0; have := t.isLt; show 128 * (t.val / 2) + d.val < 1536; omega)
/-- The keys' block. -/
theorem iblk0_1_r (t : Fin cfg0.N) : IsR (φ := .bf16) (iblk0 V c 1 t : FVec Ideal S4096x128 .bf16)
    (kh X (kvAt (pt0 t))) := fun i d => by
  show (V c main_arg0 : FVec Ideal S4096x3072 .bf16) (((cfg0.win 1).blk t).view.emb (ix2 i d)) = _
  rw [emb0_1]
  exact hX _ _ (by have hN : cfg0.N = 16 := N_0; have := t.isLt; show 128 * (8 + t.val / 8) + d.val < 1536; omega)
/-- The values' block. -/
theorem iblk0_2_r (t : Fin cfg0.N) : IsR (φ := .bf16) (iblk0 V c 2 t : FVec Ideal S4096x128 .bf16)
    (vh X (kvAt (pt0 t))) := fun i d => by
  show (V c main_arg0 : FVec Ideal S4096x3072 .bf16) (((cfg0.win 2).blk t).view.emb (ix2 i d)) = _
  rw [emb0_2]
  exact hX _ _ (by have hN : cfg0.N = 16 := N_0; have := t.isLt; show 128 * (10 + t.val / 8) + d.val < 1536; omega)

/-- What a point writes back of the attention is its block of the array. -/
theorem flushed0_3 (t : Fin cfg0.N) : (dat0 V c).flushed 3 t = ((cfg0.win 3).blk t).view.read (Elt Ideal) (AO X) := by
  show (cfg0.win 3).cut (grid0.coords t) ((dat0 V c).after 3 t) = _
  rw [after0_3]
  funext y
  obtain ⟨i, d, rfl⟩ : ∃ (i : Fin 2048) (d : Fin 128), y = (ix2 i d : S2048x128.Idx) := ⟨y 0, y 1, eq_ix2 y⟩
  show (out0_3 (iblk0 V c 0 t) (iblk0 V c 1 t) (iblk0 V c 2 t) : FVec Ideal S2048x128 .bf16) (ix2 i d)
    = AO X (((cfg0.win 3).blk t).view.emb (ix2 i d))
  rw [emb0_3, AO_at, out0_3_r (iblk0_0_r V c hX t) (iblk0_1_r V c hX t) (iblk0_2_r V c hX t) i d]
  unfold oS
  rw [kv_headAt]

/-- What a point writes back of the log-sum-exp. -/
theorem flushed0_4 (t : Fin cfg0.N) : (dat0 V c).flushed 4 t = ((cfg0.win 4).blk t).view.read (Elt Ideal) (AL X) := by
  show (cfg0.win 4).cut (grid0.coords t) ((dat0 V c).after 4 t) = _
  rw [after0_4]
  funext y
  obtain ⟨z, i, z', rfl⟩ : ∃ (z : Fin 1) (i : Fin 2048) (z' : Fin 1), y = (ix3 z i z' : S1x2048x1.Idx) := ⟨y 0, y 1, y 2, eq_ix3 y⟩
  obtain rfl : z = 0 := Subsingleton.elim _ _
  obtain rfl : z' = 0 := Subsingleton.elim _ _
  show (out0_4 (iblk0 V c 0 t) (iblk0 V c 1 t) (iblk0 V c 2 t) : FVec Ideal S1x2048x1 .f32) (ix3 0 i 0)
    = AL X (((cfg0.win 4).blk t).view.emb (ix3 0 i 0))
  rw [emb0_4, out0_4_r (iblk0_0_r V c hX t) (iblk0_1_r V c hX t) i]
  show _ = ((lS X (headAt (pt0 t)) (half (halfAt (pt0 t)) i) : ℝ) : EReal)
  unfold lS
  rw [kv_headAt]

/-- The attention's array at a column of a head. -/
theorem final0_3 (h : Fin 8) (i : Fin 4096) (d : Fin 128) (hb) :
    ((dat0 V c).arrAt 3 cfg0.N : FVec Ideal S4096x2048 .bf16) (ix2 i (col h.val d hb)) = ((oS X h i d : ℝ) : EReal) := by
  have hN : cfg0.N = 16 := N_0
  have ht : 2 * h.val + i.val / 2048 < cfg0.N := by omega
  rw [← AO_at X h i d hb]
  refine (dat0 V c).arrAt_apply_of_mem 3 (AO X) (fun t _ => flushed0_3 V c hX t) cfg0.N ⟨2 * h.val + i.val / 2048, ht⟩
    (ix2 i (col h.val d hb) : S4096x2048.Idx) ht (flush0_3 _) ?_
  have hm := ((cfg0.win 3).blk ⟨2 * h.val + i.val / 2048, ht⟩).view.emb_mem_set (ix2 (⟨i.val % 2048, by omega⟩ : Fin 2048) d)
  rw [emb0_3] at hm
  have e : (ix2 i (col h.val d hb) : S4096x2048.Idx) = ix2 (half (halfAt (pt0 ⟨2 * h.val + i.val / 2048, ht⟩)) (⟨i.val % 2048, by omega⟩ : Fin 2048))
      (col (headAt (pt0 ⟨2 * h.val + i.val / 2048, ht⟩)).val d (by have := (headAt (pt0 ⟨2 * h.val + i.val / 2048, ht⟩)).isLt; omega)) := by
    funext a; apply Fin.ext
    match a with
    | ⟨0, _⟩ => show i.val = 2048 * ((2 * h.val + i.val / 2048) % 2) + i.val % 2048; omega
    | ⟨1, _⟩ => show 128 * h.val + d.val = 128 * ((2 * h.val + i.val / 2048) / 2) + d.val; omega
  rw [e]; exact hm

/-- The log-sum-exp's array. -/
theorem final0_4 : ((dat0 V c).arrAt 4 cfg0.N : FVec Ideal S8x4096x1 .f32) = AL X := by
  have hN : cfg0.N = 16 := N_0
  refine (dat0 V c).arrAt_eq_of_cover 4 (AL X) (fun t _ => flushed0_4 V c hX t) fun y => ?_
  obtain ⟨h, i, z, rfl⟩ : ∃ (h : Fin 8) (i : Fin 4096) (z : Fin 1), y = (ix3 h i z : S8x4096x1.Idx) := ⟨y 0, y 1, y 2, eq_ix3 y⟩
  obtain rfl : z = 0 := Subsingleton.elim _ _
  have ht : 2 * h.val + i.val / 2048 < cfg0.N := by omega
  refine ⟨⟨2 * h.val + i.val / 2048, ht⟩, flush0_4 _, ?_⟩
  have hm := ((cfg0.win 4).blk ⟨2 * h.val + i.val / 2048, ht⟩).view.emb_mem_set (ix3 0 (⟨i.val % 2048, by omega⟩ : Fin 2048) 0)
  rw [emb0_4] at hm
  have e : (ix3 h i 0 : S8x4096x1.Idx) = ix3 (headAt (pt0 ⟨2 * h.val + i.val / 2048, ht⟩))
      (half (halfAt (pt0 ⟨2 * h.val + i.val / 2048, ht⟩)) (⟨i.val % 2048, by omega⟩ : Fin 2048)) 0 := by
    funext a; apply Fin.ext
    match a with
    | ⟨0, _⟩ => show h.val = (2 * h.val + i.val / 2048) / 2; omega
    | ⟨1, _⟩ => show i.val = 2048 * ((2 * h.val + i.val / 2048) % 2) + i.val % 2048; omega
    | ⟨2, _⟩ => rfl
  rw [e]; exact hm
end

end Cert.AttnFwd
end
end
-- ==== Proof.BwdArray.lean ====
/- What the gradient kernel's result arrays hold after its grid. -/
module

public import proofs.«01_k».proof.Proof.FwdArray

@[expose] public section

set_option maxRecDepth 16384
set_option maxHeartbeats 2000000

noncomputable section

open Idealize.ShloMosaic Idealize.ShloMosaic.TcCoe Idealize.ShloMosaic.ValueIdx Cert.KernelIdeal Cert.KernelIdeal.Gen Cert.RealOps Cert.Spec
open Idealize.ShloMosaic.Pipeline (Dat Cfg Window)
open Cert.AttnFwd (half headAt halfAt kvAt kv_headAt)
open scoped BigOperators

namespace Cert.AttnBwd

/-- The point as one of sixteen. -/
def pt1 (t : Fin cfg1.N) : Fin 16 := ⟨t.val, lt_of_lt_of_eq t.isLt (show cfg1.N = 16 from N_1)⟩

/-- The block index of each window at each grid point. -/
theorem index1_0 : ∀ t : Fin cfg1.N, win1_0.index t (0 : Fin 2) = t.val % 2 ∧ win1_0.index t (1 : Fin 2) = t.val / 2 :=
  (by decide +kernel : ∀ t : Fin grid1.N, _)
theorem index1_1 : ∀ t : Fin cfg1.N, win1_1.index t (0 : Fin 2) = 0 ∧ win1_1.index t (1 : Fin 2) = 8 + t.val / 8 :=
  (by decide +kernel : ∀ t : Fin grid1.N, _)
theorem index1_2 : ∀ t : Fin cfg1.N, win1_2.index t (0 : Fin 2) = 0 ∧ win1_2.index t (1 : Fin 2) = 10 + t.val / 8 :=
  (by decide +kernel : ∀ t : Fin grid1.N, _)
theorem index1_3 : ∀ t : Fin cfg1.N, win1_3.index t (0 : Fin 2) = t.val % 2 ∧ win1_3.index t (1 : Fin 2) = t.val / 2 :=
  (by decide +kernel : ∀ t : Fin grid1.N, _)
theorem index1_4 : ∀ t : Fin cfg1.N, win1_4.index t (0 : Fin 2) = t.val % 2 ∧ win1_4.index t (1 : Fin 2) = t.val / 2 :=
  (by decide +kernel : ∀ t : Fin grid1.N, _)
theorem index1_5 : ∀ t : Fin cfg1.N, win1_5.index t (0 : Fin 3) = t.val / 2 ∧ win1_5.index t (1 : Fin 3) = t.val % 2 ∧ win1_5.index t (2 : Fin 3) = 0 :=
  (by decide +kernel : ∀ t : Fin grid1.N, _)
theorem index1_6 : ∀ t : Fin cfg1.N, win1_6.index t (0 : Fin 2) = t.val % 2 ∧ win1_6.index t (1 : Fin 2) = t.val / 2 :=
  (by decide +kernel : ∀ t : Fin grid1.N, _)
theorem index1_7 : ∀ t : Fin cfg1.N, win1_7.index t (0 : Fin 2) = t.val / 8 ∧ win1_7.index t (1 : Fin 2) = 0 :=
  (by decide +kernel : ∀ t : Fin grid1.N, _)
theorem index1_8 : ∀ t : Fin cfg1.N, win1_8.index t (0 : Fin 2) = t.val / 8 ∧ win1_8.index t (1 : Fin 2) = 0 :=
  (by decide +kernel : ∀ t : Fin grid1.N, _)

/-- Where an entry of each window's block lies in its array. -/
theorem emb1_0 (t : Fin cfg1.N) (i : Fin 2048) (d : Fin 128) : ((cfg1.win 0).blk t).view.emb (ix2 i d)
    = (ix2 (half (halfAt (pt1 t)) i) (col (headAt (pt1 t)).val d (by have := (headAt (pt1 t)).isLt; omega)) : S4096x3072.Idx) := by
  obtain ⟨e0, e1⟩ := index1_0 t
  funext a; apply Fin.ext
  match a with
  | ⟨0, _⟩ => show win1_0.index t (0 : Fin 2) * 2048 + 1 * i.val = 2048 * (t.val % 2) + i.val; omega
  | ⟨1, _⟩ => show win1_0.index t (1 : Fin 2) * 128 + 1 * d.val = 128 * (t.val / 2) + d.val; omega

theorem emb1_1 (t : Fin cfg1.N) (i : Fin 4096) (d : Fin 128) : ((cfg1.win 1).blk t).view.emb (ix2 i d)
    = (ix2 i (col (8 + (kvAt (pt1 t)).val) d (by have := (kvAt (pt1 t)).isLt; omega)) : S4096x3072.Idx) := by
  obtain ⟨e0, e1⟩ := index1_1 t
  funext a; apply Fin.ext
  match a with
  | ⟨0, _⟩ => show win1_1.index t (0 : Fin 2) * 4096 + 1 * i.val = i.val; omega
  | ⟨1, _⟩ => show win1_1.index t (1 : Fin 2) * 128 + 1 * d.val = 128 * (8 + t.val / 8) + d.val; omega

theorem emb1_2 (t : Fin cfg1.N) (i : Fin 4096) (d : Fin 128) : ((cfg1.win 2).blk t).view.emb (ix2 i d)
    = (ix2 i (col (10 + (kvAt (pt1 t)).val) d (by have := (kvAt (pt1 t)).isLt; omega)) : S4096x3072.Idx) := by
  obtain ⟨e0, e1⟩ := index1_2 t
  funext a; apply Fin.ext
  match a with
  | ⟨0, _⟩ => show win1_2.index t (0 : Fin 2) * 4096 + 1 * i.val = i.val; omega
  | ⟨1, _⟩ => show win1_2.index t (1 : Fin 2) * 128 + 1 * d.val = 128 * (10 + t.val / 8) + d.val; omega

theorem emb1_3 (t : Fin cfg1.N) (i : Fin 2048) (d : Fin 128) : ((cfg1.win 3).blk t).view.emb (ix2 i d)
    = (ix2 (half (halfAt (pt1 t)) i) (col (headAt (pt1 t)).val d (by have := (headAt (pt1 t)).isLt; omega)) : S4096x2048.Idx) := by
  obtain ⟨e0, e1⟩ := index1_3 t
  funext a; apply Fin.ext
  match a with
  | ⟨0, _⟩ => show win1_3.index t (0 : Fin 2) * 2048 + 1 * i.val = 2048 * (t.val % 2) + i.val; omega
  | ⟨1, _⟩ => show win1_3.index t (1 : Fin 2) * 128 + 1 * d.val = 128 * (t.val / 2) + d.val; omega

theorem emb1_4 (t : Fin cfg1.N) (i : Fin 2048) (d : Fin 128) : ((cfg1.win 4).blk t).view.emb (ix2 i d)
    = (ix2 (half (halfAt (pt1 t)) i) (col (headAt (pt1 t)).val d (by have := (headAt (pt1 t)).isLt; omega)) : S4096x2048.Idx) := by
  obtain ⟨e0, e1⟩ := index1_4 t
  funext a; apply Fin.ext
  match a with
  | ⟨0, _⟩ => show win1_4.index t (0 : Fin 2) * 2048 + 1 * i.val = 2048 * (t.val % 2) + i.val; omega
  | ⟨1, _⟩ => show win1_4.index t (1 : Fin 2) * 128 + 1 * d.val = 128 * (t.val / 2) + d.val; omega

theorem emb1_5 (t : Fin cfg1.N) (i : Fin 2048) : ((cfg1.win 5).blk t).view.emb (ix3 0 i 0)
    = (ix3 (headAt (pt1 t)) (half (halfAt (pt1 t)) i) 0 : S8x4096x1.Idx) := by
  obtain ⟨e0, e1, e2⟩ := index1_5 t
  funext a; apply Fin.ext
  match a with
  | ⟨0, _⟩ => show win1_5.index t (0 : Fin 3) * 1 + 1 * 0 = t.val / 2; omega
  | ⟨1, _⟩ => show win1_5.index t (1 : Fin 3) * 2048 + 1 * i.val = 2048 * (t.val % 2) + i.val; omega
  | ⟨2, _⟩ => show win1_5.index t (2 : Fin 3) * 1 + 1 * 0 = 0; omega

theorem emb1_6 (t : Fin cfg1.N) (i : Fin 2048) (d : Fin 128) : ((cfg1.win 6).blk t).view.emb (ix2 i d)
    = (ix2 (half (halfAt (pt1 t)) i) (col (headAt (pt1 t)).val d (by have := (headAt (pt1 t)).isLt; omega)) : S4096x1024.Idx) := by
  obtain ⟨e0, e1⟩ := index1_6 t
  funext a; apply Fin.ext
  match a with
  | ⟨0, _⟩ => show win1_6.index t (0 : Fin 2) * 2048 + 1 * i.val = 2048 * (t.val % 2) + i.val; omega
  | ⟨1, _⟩ => show win1_6.index t (1 : Fin 2) * 128 + 1 * d.val = 128 * (t.val / 2) + d.val; omega

theorem emb1_7 (t : Fin cfg1.N) (d : Fin 128) (s : Fin 4096) : ((cfg1.win 7).blk t).view.emb (ix2 d s)
    = (ix2 (col (kvAt (pt1 t)).val d (by have := (kvAt (pt1 t)).isLt; omega)) s : S256x4096.Idx) := by
  obtain ⟨e0, e1⟩ := index1_7 t
  funext a; apply Fin.ext
  match a with
  | ⟨0, _⟩ => show win1_7.index t (0 : Fin 2) * 128 + 1 * d.val = 128 * (t.val / 8) + d.val; omega
  | ⟨1, _⟩ => show win1_7.index t (1 : Fin 2) * 4096 + 1 * s.val = s.val; omega

theorem emb1_8 (t : Fin cfg1.N) (d : Fin 128) (s : Fin 4096) : ((cfg1.win 8).blk t).view.emb (ix2 d s)
    = (ix2 (col (kvAt (pt1 t)).val d (by have := (kvAt (pt1 t)).isLt; omega)) s : S256x4096.Idx) := by
  obtain ⟨e0, e1⟩ := index1_8 t
  funext a; apply Fin.ext
  match a with
  | ⟨0, _⟩ => show win1_8.index t (0 : Fin 2) * 128 + 1 * d.val = 128 * (t.val / 8) + d.val; omega
  | ⟨1, _⟩ => show win1_8.index t (1 : Fin 2) * 4096 + 1 * s.val = s.val; omega

section
variable (X : Fin 4096 → Fin 3072 → ℝ) (Y : Fin 4096 → Fin 2048 → ℝ) (t : Fin 16)
/-- The queries of grid point `t`. -/
def bQ (i : Fin 2048) (d : Fin 128) : ℝ := qh X (headAt t) (half (halfAt t) i) d
/-- Its cotangents. -/
def bG (i : Fin 2048) (d : Fin 128) : ℝ := ch Y (headAt t) (half (halfAt t) i) d
/-- Its rows of the attention. -/
def bO (i : Fin 2048) (d : Fin 128) : ℝ := oS X (headAt t) (half (halfAt t) i) d
/-- Its rows of the log-sum-exp. -/
def bL (i : Fin 2048) : ℝ := lS X (headAt t) (half (halfAt t) i)
/-- What it adds to the gradient of the keys. -/
def ptK (d : Fin 128) (s : Fin 4096) : ℝ :=
  dK (bQ X t) (bG Y t) (bO X t) (bL X t) (kh X (kvAt t)) (vh X (kvAt t)) d s
/-- What it adds to the gradient of the values. -/
def ptV (d : Fin 128) (s : Fin 4096) : ℝ := dV (bQ X t) (bG Y t) (bL X t) (kh X (kvAt t)) d s
end

/-- Point `n` of key head `k`. -/
def ptOf (k n : ℕ) : Fin 16 := ⟨(8 * k + n) % 16, by omega⟩

section
variable (V : (c : Dev nD) → (b : Ref sig .tc) → Buf (Elt Ideal) ((c : Thread nD τ).loc b)) (c : Dev nD)
  {X : Fin 4096 → Fin 3072 → ℝ} {Y : Fin 4096 → Fin 2048 → ℝ}
  (hX : OnCols 1536 (V c main_arg0 : FVec Ideal S4096x3072 .bf16) X)
  (hY : OnCols 1024 (V c main_arg1 : FVec Ideal S4096x2048 .bf16) Y)
  (hO : ∀ (h : Fin 8) (i : Fin 4096) (d : Fin 128) (hb), (V c main_v0_0 : FVec Ideal S4096x2048 .bf16) (ix2 i (col h.val d hb)) = ((oS X h i d : ℝ) : EReal))
  (hL : (V c main_v0_1 : FVec Ideal S8x4096x1 .f32) = AL X)
include hX hY hO hL

omit hY hO hL in
/-- The queries' block. -/
theorem iblk1_0_r (t : Fin cfg1.N) : IsR (φ := .bf16) (iblk1 V c 0 t : FVec Ideal S2048x128 .bf16)
    (bQ X (pt1 t)) := fun i d => by
  show (V c main_arg0 : FVec Ideal S4096x3072 .bf16) (((cfg1.win 0).blk t).view.emb (ix2 i d)) = _
  rw [emb1_0]
  exact hX _ _ (by have hN : cfg1.N = 16 := N_1; have := t.isLt; show 128 * (t.val / 2) + d.val < 1536; omega)
omit hY hO hL in
/-- The keys' block. -/
theorem iblk1_1_r (t : Fin cfg1.N) : IsR (φ := .bf16) (iblk1 V c 1 t : FVec Ideal S4096x128 .bf16)
    (kh X (kvAt (pt1 t))) := fun i d => by
  show (V c main_arg0 : FVec Ideal S4096x3072 .bf16) (((cfg1.win 1).blk t).view.emb (ix2 i d)) = _
  rw [emb1_1]
  exact hX _ _ (by have hN : cfg1.N = 16 := N_1; have := t.isLt; show 128 * (8 + t.val / 8) + d.val < 1536; omega)
omit hY hO hL in
/-- The values' block. -/
theorem iblk1_2_r (t : Fin cfg1.N) : IsR (φ := .bf16) (iblk1 V c 2 t : FVec Ideal S4096x128 .bf16)
    (vh X (kvAt (pt1 t))) := fun i d => by
  show (V c main_arg0 : FVec Ideal S4096x3072 .bf16) (((cfg1.win 2).blk t).view.emb (ix2 i d)) = _
  rw [emb1_2]
  exact hX _ _ (by have hN : cfg1.N = 16 := N_1; have := t.isLt; show 128 * (10 + t.val / 8) + d.val < 1536; omega)
omit hX hY hL in
/-- The attention's block. -/
theorem iblk1_3_r (t : Fin cfg1.N) : IsR (φ := .bf16) (iblk1 V c 3 t : FVec Ideal S2048x128 .bf16)
    (bO X (pt1 t)) := fun i d => by
  show (V c main_v0_0 : FVec Ideal S4096x2048 .bf16) (((cfg1.win 3).blk t).view.emb (ix2 i d)) = _
  rw [emb1_3]; exact hO _ _ _ _
omit hX hO hL in
/-- The cotangents' block. -/
theorem iblk1_4_r (t : Fin cfg1.N) : IsR (φ := .bf16) (iblk1 V c 4 t : FVec Ideal S2048x128 .bf16)
    (bG Y (pt1 t)) := fun i d => by
  show (V c main_arg1 : FVec Ideal S4096x2048 .bf16) (((cfg1.win 4).blk t).view.emb (ix2 i d)) = _
  rw [emb1_4]
  exact hY _ _ (by have hN : cfg1.N = 16 := N_1; have := t.isLt; show 128 * (t.val / 2) + d.val < 1024; omega)

omit hX hY hO in
/-- The log-sum-exp's block. -/
theorem iblk1_5_r (t : Fin cfg1.N) (i : Fin 2048) :
    (iblk1 V c 5 t : FVec Ideal S1x2048x1 .f32) (ix3 0 i 0) = ((bL X (pt1 t) i : ℝ) : EReal) := by
  show (V c main_v0_1 : FVec Ideal S8x4096x1 .f32) (((cfg1.win 5).blk t).view.emb (ix3 0 i 0)) = _
  rw [emb1_5, hL]; rfl

/-- The gradient of the queries at a point. -/
theorem outs_dq (t : Fin cfg1.N) : IsR (φ := .f32) ((outsAt1 V c t.val t.isLt).1 : FVec Ideal S2048x128 .f32)
    (dQ (bQ X (pt1 t)) (bG Y (pt1 t)) (bO X (pt1 t)) (bL X (pt1 t)) (kh X (kvAt (pt1 t))) (vh X (kvAt (pt1 t)))) := by
  by_cases h0 : t.val % 8 = 0
  · rw [outsAt1_A V c t h0]
    exact outA_6_r c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1_0_r V c hX t) (iblk1_1_r V c hX t) (iblk1_2_r V c hX t) (iblk1_3_r V c hO t) (iblk1_4_r V c hY t) (iblk1_5_r V c hL t) ((hcond1_0 t).mpr h0)
  · rw [outsAt1_B V c t h0]
    have hB : ¬cond1_0 (grid1.coords t) := fun h => h0 ((hcond1_0 t).mp h)
    have h := outB_6_r c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1_0_r V c hX t) (iblk1_1_r V c hX t) (iblk1_2_r V c hX t) (iblk1_3_r V c hO t) (iblk1_4_r V c hY t) (iblk1_5_r V c hL t) hB (outsAt1 V c (t.val - 1) (Nat.lt_of_le_of_lt (Nat.sub_le _ _) t.isLt)).2.1 (outsAt1 V c (t.val - 1) (Nat.lt_of_le_of_lt (Nat.sub_le _ _) t.isLt)).2.2
    exact h

/-- The gradient of the keys after a first point of a key head. -/
theorem outs_dk_A (t : Fin cfg1.N) (h0 : t.val % 8 = 0) (d : Fin 128) (s : Fin 4096) :
    ((outsAt1 V c t.val t.isLt).2.1 : FVec Ideal S128x4096 .f32) (ix2 d s) = ((ptK X Y (pt1 t) d s : ℝ) : EReal) := by
  rw [outsAt1_A V c t h0]
  have hA : cond1_0 (grid1.coords t) := (hcond1_0 t).mpr h0
  have h := outA_7_r c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1_0_r V c hX t) (iblk1_1_r V c hX t) (iblk1_2_r V c hX t) (iblk1_3_r V c hO t) (iblk1_4_r V c hY t) (iblk1_5_r V c hL t) hA d s
  unfold ptK
  exact h

/-- The gradient of the keys after another point: what the point before left and this one's contribution. -/
theorem outs_dk_B (t : Fin cfg1.N) (h0 : ¬t.val % 8 = 0) (d : Fin 128) (s : Fin 4096) :
    ((outsAt1 V c t.val t.isLt).2.1 : FVec Ideal S128x4096 .f32) (ix2 d s)
      = ((outsAt1 V c (t.val - 1) (Nat.lt_of_le_of_lt (Nat.sub_le _ _) t.isLt)).2.1 : FVec Ideal S128x4096 .f32) (ix2 d s)
        + ((ptK X Y (pt1 t) d s : ℝ) : EReal) := by
  rw [outsAt1_B V c t h0]
  have hB : ¬cond1_0 (grid1.coords t) := fun h => h0 ((hcond1_0 t).mp h)
  have h := outB_7_r c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1_0_r V c hX t) (iblk1_1_r V c hX t) (iblk1_2_r V c hX t) (iblk1_3_r V c hO t) (iblk1_4_r V c hY t) (iblk1_5_r V c hL t) hB (outsAt1 V c (t.val - 1) (Nat.lt_of_le_of_lt (Nat.sub_le _ _) t.isLt)).2.1 (outsAt1 V c (t.val - 1) (Nat.lt_of_le_of_lt (Nat.sub_le _ _) t.isLt)).2.2 d s
  unfold ptK
  exact h

/-- The gradient of the keys after a point: the contributions of its key head's points so far. -/
theorem outs_dk (n : ℕ) : ∀ (hn : n < cfg1.N) (d : Fin 128) (s : Fin 4096),
    ((outsAt1 V c n hn).2.1 : FVec Ideal S128x4096 .f32) (ix2 d s)
      = ((∑ j ∈ Finset.range (n % 8 + 1), ptK X Y (ptOf (n / 8) j) d s : ℝ) : EReal) := by
  induction n using Nat.strong_induction_on with
  | _ n ih =>
    intro hn d s
    have hN : cfg1.N = 16 := N_1
    have e : pt1 ⟨n, hn⟩ = ptOf (n / 8) (n % 8) := Fin.ext (by show n = (8 * (n / 8) + n % 8) % 16; omega)
    by_cases h0 : n % 8 = 0
    · rw [outs_dk_A V c hX hY hO hL ⟨n, hn⟩ h0 d s, e, h0, Finset.sum_range_one]
    · rw [outs_dk_B V c hX hY hO hL ⟨n, hn⟩ h0 d s, ih (n - 1) (by omega), e, ← EReal.coe_add,
        show (n - 1) % 8 + 1 = n % 8 by omega, show (n - 1) / 8 = n / 8 by omega,
        ← Finset.sum_range_succ (fun j => ptK X Y (ptOf (n / 8) j) d s)]

/-- The gradient of the values after a first point of a key head. -/
theorem outs_dv_A (t : Fin cfg1.N) (h0 : t.val % 8 = 0) (d : Fin 128) (s : Fin 4096) :
    ((outsAt1 V c t.val t.isLt).2.2 : FVec Ideal S128x4096 .f32) (ix2 d s) = ((ptV X Y (pt1 t) d s : ℝ) : EReal) := by
  rw [outsAt1_A V c t h0]
  have hA : cond1_0 (grid1.coords t) := (hcond1_0 t).mpr h0
  have h := outA_8_r c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1_0_r V c hX t) (iblk1_1_r V c hX t) (iblk1_2_r V c hX t) (iblk1_3_r V c hO t) (iblk1_4_r V c hY t) (iblk1_5_r V c hL t) hA d s
  unfold ptV
  exact h

/-- The gradient of the values after another point: what the point before left and this one's contribution. -/
theorem outs_dv_B (t : Fin cfg1.N) (h0 : ¬t.val % 8 = 0) (d : Fin 128) (s : Fin 4096) :
    ((outsAt1 V c t.val t.isLt).2.2 : FVec Ideal S128x4096 .f32) (ix2 d s)
      = ((outsAt1 V c (t.val - 1) (Nat.lt_of_le_of_lt (Nat.sub_le _ _) t.isLt)).2.2 : FVec Ideal S128x4096 .f32) (ix2 d s)
        + ((ptV X Y (pt1 t) d s : ℝ) : EReal) := by
  rw [outsAt1_B V c t h0]
  have hB : ¬cond1_0 (grid1.coords t) := fun h => h0 ((hcond1_0 t).mp h)
  have h := outB_8_r c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1_0_r V c hX t) (iblk1_1_r V c hX t) (iblk1_2_r V c hX t) (iblk1_3_r V c hO t) (iblk1_4_r V c hY t) (iblk1_5_r V c hL t) hB (outsAt1 V c (t.val - 1) (Nat.lt_of_le_of_lt (Nat.sub_le _ _) t.isLt)).2.1 (outsAt1 V c (t.val - 1) (Nat.lt_of_le_of_lt (Nat.sub_le _ _) t.isLt)).2.2 d s
  unfold ptV
  exact h

/-- The gradient of the values after a point: the contributions of its key head's points so far. -/
theorem outs_dv (n : ℕ) : ∀ (hn : n < cfg1.N) (d : Fin 128) (s : Fin 4096),
    ((outsAt1 V c n hn).2.2 : FVec Ideal S128x4096 .f32) (ix2 d s)
      = ((∑ j ∈ Finset.range (n % 8 + 1), ptV X Y (ptOf (n / 8) j) d s : ℝ) : EReal) := by
  induction n using Nat.strong_induction_on with
  | _ n ih =>
    intro hn d s
    have hN : cfg1.N = 16 := N_1
    have e : pt1 ⟨n, hn⟩ = ptOf (n / 8) (n % 8) := Fin.ext (by show n = (8 * (n / 8) + n % 8) % 16; omega)
    by_cases h0 : n % 8 = 0
    · rw [outs_dv_A V c hX hY hO hL ⟨n, hn⟩ h0 d s, e, h0, Finset.sum_range_one]
    · rw [outs_dv_B V c hX hY hO hL ⟨n, hn⟩ h0 d s, ih (n - 1) (by omega), e, ← EReal.coe_add,
        show (n - 1) % 8 + 1 = n % 8 by omega, show (n - 1) / 8 = n / 8 by omega,
        ← Finset.sum_range_succ (fun j => ptV X Y (ptOf (n / 8) j) d s)]

omit hX hY hO hL in
/-- The eight points of a key head add up to the gradient of its keys. -/
theorem sum_ptK (k : Fin 2) (d : Fin 128) (s : Fin 4096) :
    (∑ j ∈ Finset.range 8, ptK X Y (ptOf k.val j) d s) = dkS X Y k d s := by
  unfold dkS
  rw [sum_points (fun g i => qh X (hd k g) i d * gS X Y (hd k g) i s)]
  refine Finset.sum_congr rfl fun j hj => ?_
  have hj' := Finset.mem_range.mp hj
  have eh : headAt (ptOf k.val j) = hd k ⟨j / 2 % 4, by omega⟩ :=
    Fin.ext (by show (8 * k.val + j) % 16 / 2 = 4 * k.val + j / 2 % 4; omega)
  have er : halfAt (ptOf k.val j) = ⟨j % 2, by omega⟩ := Fin.ext (by show (8 * k.val + j) % 16 % 2 = j % 2; omega)
  have ek : kvAt (ptOf k.val j) = k := Fin.ext (by show (8 * k.val + j) % 16 / 8 = k.val; omega)
  unfold ptK dK gS
  refine Finset.sum_congr rfl fun i _ => ?_
  rw [kv_hd, ek, ← eh, ← er]
  rfl

omit hX hY hO hL in
/-- The eight points of a key head add up to the gradient of its values. -/
theorem sum_ptV (k : Fin 2) (d : Fin 128) (s : Fin 4096) :
    (∑ j ∈ Finset.range 8, ptV X Y (ptOf k.val j) d s) = dvS X Y k d s := by
  unfold dvS
  rw [sum_points (fun g i => ch Y (hd k g) i d * pS X (hd k g) i s)]
  refine Finset.sum_congr rfl fun j hj => ?_
  have hj' := Finset.mem_range.mp hj
  have eh : headAt (ptOf k.val j) = hd k ⟨j / 2 % 4, by omega⟩ :=
    Fin.ext (by show (8 * k.val + j) % 16 / 2 = 4 * k.val + j / 2 % 4; omega)
  have er : halfAt (ptOf k.val j) = ⟨j % 2, by omega⟩ := Fin.ext (by show (8 * k.val + j) % 16 % 2 = j % 2; omega)
  have ek : kvAt (ptOf k.val j) = k := Fin.ext (by show (8 * k.val + j) % 16 / 8 = k.val; omega)
  unfold ptV dV pS
  refine Finset.sum_congr rfl fun i _ => ?_
  rw [kv_hd, ek, ← eh, ← er]
  rfl

/-- What a point writes back of the gradient of the queries. -/
theorem flushed1_6 (t : Fin cfg1.N) : (dat1 V c).flushed 6 t = ((cfg1.win 6).blk t).view.read (Elt Ideal) (AQ X Y) := by
  show (cfg1.win 6).cut (grid1.coords t) ((dat1 V c).after 6 t) = _
  rw [after1_6]
  funext y
  obtain ⟨i, d, rfl⟩ : ∃ (i : Fin 2048) (d : Fin 128), y = (ix2 i d : S2048x128.Idx) := ⟨y 0, y 1, eq_ix2 y⟩
  show ((outsAt1 V c t.val t.isLt).1 : FVec Ideal S2048x128 .f32) (ix2 i d) = AQ X Y (((cfg1.win 6).blk t).view.emb (ix2 i d))
  rw [emb1_6, AQ_at, outs_dq V c hX hY hO hL t i d]
  unfold dQ dqS gS
  rw [kv_headAt]
  rfl

/-- What a last point of a key head writes back of the gradient of the keys. -/
theorem flushed1_7 (t : Fin cfg1.N) (hf : (cfg1.win 7).flush t = true) :
    (dat1 V c).flushed 7 t = ((cfg1.win 7).blk t).view.read (Elt Ideal) (AK X Y) := by
  have h7 := (flush1_7 t).mp hf
  show (cfg1.win 7).cut (grid1.coords t) ((dat1 V c).after 7 t) = _
  rw [after1_7]
  funext y
  obtain ⟨d, s, rfl⟩ : ∃ (d : Fin 128) (s : Fin 4096), y = (ix2 d s : S128x4096.Idx) := ⟨y 0, y 1, eq_ix2 y⟩
  show ((outsAt1 V c t.val t.isLt).2.1 : FVec Ideal S128x4096 .f32) (ix2 d s) = AK X Y (((cfg1.win 7).blk t).view.emb (ix2 d s))
  rw [emb1_7, AK_at, outs_dk V c hX hY hO hL, h7, ← sum_ptK]
  rfl

/-- What a last point of a key head writes back of the gradient of the values. -/
theorem flushed1_8 (t : Fin cfg1.N) (hf : (cfg1.win 8).flush t = true) :
    (dat1 V c).flushed 8 t = ((cfg1.win 8).blk t).view.read (Elt Ideal) (AV X Y) := by
  have h7 := (flush1_8 t).mp hf
  show (cfg1.win 8).cut (grid1.coords t) ((dat1 V c).after 8 t) = _
  rw [after1_8]
  funext y
  obtain ⟨d, s, rfl⟩ : ∃ (d : Fin 128) (s : Fin 4096), y = (ix2 d s : S128x4096.Idx) := ⟨y 0, y 1, eq_ix2 y⟩
  show ((outsAt1 V c t.val t.isLt).2.2 : FVec Ideal S128x4096 .f32) (ix2 d s) = AV X Y (((cfg1.win 8).blk t).view.emb (ix2 d s))
  rw [emb1_8, AV_at, outs_dv V c hX hY hO hL, h7, ← sum_ptV]
  rfl

/-- The gradient of the queries. -/
theorem final1_6 : ((dat1 V c).arrAt 6 cfg1.N : FVec Ideal S4096x1024 .f32) = AQ X Y := by
  have hN : cfg1.N = 16 := N_1
  refine (dat1 V c).arrAt_eq_of_cover 6 (AQ X Y) (fun t _ => flushed1_6 V c hX hY hO hL t) fun y => ?_
  obtain ⟨i, j, rfl⟩ : ∃ (i : Fin 4096) (j : Fin 1024), y = (ix2 i j : S4096x1024.Idx) := ⟨y 0, y 1, eq_ix2 y⟩
  have ht : 2 * (j.val / 128) + i.val / 2048 < cfg1.N := by omega
  refine ⟨⟨2 * (j.val / 128) + i.val / 2048, ht⟩, flush1_6 _, ?_⟩
  have hm := ((cfg1.win 6).blk ⟨2 * (j.val / 128) + i.val / 2048, ht⟩).view.emb_mem_set
    (ix2 (⟨i.val % 2048, by omega⟩ : Fin 2048) (⟨j.val % 128, by omega⟩ : Fin 128))
  rw [emb1_6] at hm
  have e : (ix2 i j : S4096x1024.Idx) = ix2 (half (halfAt (pt1 ⟨2 * (j.val / 128) + i.val / 2048, ht⟩)) (⟨i.val % 2048, by omega⟩ : Fin 2048))
      (col (headAt (pt1 ⟨2 * (j.val / 128) + i.val / 2048, ht⟩)).val (⟨j.val % 128, by omega⟩ : Fin 128)
        (by have := (headAt (pt1 ⟨2 * (j.val / 128) + i.val / 2048, ht⟩)).isLt; omega)) := by
    funext a; apply Fin.ext
    match a with
    | ⟨0, _⟩ => show i.val = 2048 * ((2 * (j.val / 128) + i.val / 2048) % 2) + i.val % 2048; omega
    | ⟨1, _⟩ => show j.val = 128 * ((2 * (j.val / 128) + i.val / 2048) / 2) + j.val % 128; omega
  rw [e]; exact hm

/-- The gradient of the keys. -/
theorem final1_7 : ((dat1 V c).arrAt 7 cfg1.N : FVec Ideal S256x4096 .f32) = AK X Y := by
  have hN : cfg1.N = 16 := N_1
  refine (dat1 V c).arrAt_eq_of_cover 7 (AK X Y) (fun t hf => flushed1_7 V c hX hY hO hL t hf) fun y => ?_
  obtain ⟨j, s, rfl⟩ : ∃ (j : Fin 256) (s : Fin 4096), y = (ix2 j s : S256x4096.Idx) := ⟨y 0, y 1, eq_ix2 y⟩
  have ht : 8 * (j.val / 128) + 7 < cfg1.N := by omega
  refine ⟨⟨8 * (j.val / 128) + 7, ht⟩, (flush1_7 _).mpr (by dsimp only; omega), ?_⟩
  have hm := ((cfg1.win 7).blk ⟨8 * (j.val / 128) + 7, ht⟩).view.emb_mem_set (ix2 (⟨j.val % 128, by omega⟩ : Fin 128) s)
  rw [emb1_7] at hm
  have e : (ix2 j s : S256x4096.Idx) = ix2 (col (kvAt (pt1 ⟨8 * (j.val / 128) + 7, ht⟩)).val (⟨j.val % 128, by omega⟩ : Fin 128)
        (by have := (kvAt (pt1 ⟨8 * (j.val / 128) + 7, ht⟩)).isLt; omega)) s := by
    funext a; apply Fin.ext
    match a with
    | ⟨0, _⟩ => show j.val = 128 * ((8 * (j.val / 128) + 7) / 8) + j.val % 128; omega
    | ⟨1, _⟩ => rfl
  rw [e]; exact hm

/-- The gradient of the values. -/
theorem final1_8 : ((dat1 V c).arrAt 8 cfg1.N : FVec Ideal S256x4096 .f32) = AV X Y := by
  have hN : cfg1.N = 16 := N_1
  refine (dat1 V c).arrAt_eq_of_cover 8 (AV X Y) (fun t hf => flushed1_8 V c hX hY hO hL t hf) fun y => ?_
  obtain ⟨j, s, rfl⟩ : ∃ (j : Fin 256) (s : Fin 4096), y = (ix2 j s : S256x4096.Idx) := ⟨y 0, y 1, eq_ix2 y⟩
  have ht : 8 * (j.val / 128) + 7 < cfg1.N := by omega
  refine ⟨⟨8 * (j.val / 128) + 7, ht⟩, (flush1_8 _).mpr (by dsimp only; omega), ?_⟩
  have hm := ((cfg1.win 8).blk ⟨8 * (j.val / 128) + 7, ht⟩).view.emb_mem_set (ix2 (⟨j.val % 128, by omega⟩ : Fin 128) s)
  rw [emb1_8] at hm
  have e : (ix2 j s : S256x4096.Idx) = ix2 (col (kvAt (pt1 ⟨8 * (j.val / 128) + 7, ht⟩)).val (⟨j.val % 128, by omega⟩ : Fin 128)
        (by have := (kvAt (pt1 ⟨8 * (j.val / 128) + 7, ht⟩)).isLt; omega)) s := by
    funext a; apply Fin.ext
    match a with
    | ⟨0, _⟩ => show j.val = 128 * ((8 * (j.val / 128) + 7) / 8) + j.val % 128; omega
    | ⟨1, _⟩ => rfl
  rw [e]; exact hm
end

end Cert.AttnBwd
end
end
-- ==== Proof.Run.lean ====
/- The run of the kernel: what its five result arrays hold at the end, of the real numbers its arguments hold. -/
module

public import proofs.«01_k».proof.Proof.BwdArray

@[expose] public section

set_option maxRecDepth 16384

noncomputable section

namespace Cert.RunValue

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.RealOps Cert.Spec

section
variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every fair execution ends, and every buffer of the program then holds what the two calls leave in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)
end

section
variable (m : (ℓ : Loc nD τ sig) → Buf (Elt Ideal) ℓ) (ρ : Dev nD → PrngReg) (c : Dev nD)
  {X : Fin 4096 → Fin 3072 → ℝ} {Y : Fin 4096 → Fin 2048 → ℝ}
  (hX : OnCols 1536 (m ((c : Thread nD τ).loc main_arg0) : FVec Ideal S4096x3072 .bf16) X)
  (hY : OnCols 1024 (m ((c : Thread nD τ).loc main_arg1) : FVec Ideal S4096x2048 .bf16) Y)

/-- The attention's array is left alone by the second call. -/
theorem W2_o : W2 m ρ c main_v0_0 = (dat0 (V0 m ρ) c).arrAt 3 cfg0.N :=
  (W2_of m ρ c main_v0_0 (by decide)).trans (W1_arr m ρ c 3)
/-- The log-sum-exp's array is left alone by the second call. -/
theorem W2_l : W2 m ρ c main_v0_1 = (dat0 (V0 m ρ) c).arrAt 4 cfg0.N :=
  (W2_of m ρ c main_v0_1 (by decide)).trans (W1_arr m ρ c 4)

include hX in
/-- The attention at the end. -/
theorem end_o (h : Fin 8) (i : Fin 4096) (d : Fin 128) (hb) :
    (W2 m ρ c main_v0_0 : FVec Ideal S4096x2048 .bf16) (ix2 i (col h.val d hb)) = ((oS X h i d : ℝ) : EReal) :=
  (congrFun (W2_o m ρ c) _).trans (AttnFwd.final0_3 (V0 m ρ) c hX h i d hb)
include hX in
/-- The log-sum-exp at the end. -/
theorem end_l : (W2 m ρ c main_v0_1 : FVec Ideal S8x4096x1 .f32) = AL X :=
  (W2_l m ρ c).trans (AttnFwd.final0_4 (V0 m ρ) c hX)

/-- What the second call finds: the first argument, -/
theorem mid_0 : V1 m ρ c main_arg0 = m ((c : Thread nD τ).loc main_arg0) := W1_args m ρ c main_arg0 (by decide)
/-- the second, -/
theorem mid_1 : V1 m ρ c main_arg1 = m ((c : Thread nD τ).loc main_arg1) := W1_args m ρ c main_arg1 (by decide)
include hX in
/-- the attention -/
theorem mid_o (h : Fin 8) (i : Fin 4096) (d : Fin 128) (hb) :
    (V1 m ρ c main_v0_0 : FVec Ideal S4096x2048 .bf16) (ix2 i (col h.val d hb)) = ((oS X h i d : ℝ) : EReal) :=
  (congrFun (W1_arr m ρ c 3) _).trans (AttnFwd.final0_3 (V0 m ρ) c hX h i d hb)
include hX in
/-- and the log-sum-exp. -/
theorem mid_l : (V1 m ρ c main_v0_1 : FVec Ideal S8x4096x1 .f32) = AL X :=
  (W1_arr m ρ c 4).trans (AttnFwd.final0_4 (V0 m ρ) c hX)

include hX hY
/-- The gradient of the queries at the end. -/
theorem end_q : (W2 m ρ c main_v1_0 : FVec Ideal S4096x1024 .f32) = AQ X Y :=
  (W2_arr m ρ c 6).trans (AttnBwd.final1_6 (V1 m ρ) c ((mid_0 m ρ c) ▸ hX) ((mid_1 m ρ c) ▸ hY) (mid_o m ρ c hX) (mid_l m ρ c hX))
/-- The gradient of the keys at the end. -/
theorem end_k : (W2 m ρ c main_v1_1 : FVec Ideal S256x4096 .f32) = AK X Y :=
  (W2_arr m ρ c 7).trans (AttnBwd.final1_7 (V1 m ρ) c ((mid_0 m ρ c) ▸ hX) ((mid_1 m ρ c) ▸ hY) (mid_o m ρ c hX) (mid_l m ρ c hX))
/-- The gradient of the values at the end. -/
theorem end_v : (W2 m ρ c main_v1_2 : FVec Ideal S256x4096 .f32) = AV X Y :=
  (W2_arr m ρ c 8).trans (AttnBwd.final1_8 (V1 m ρ) c ((mid_0 m ρ c) ▸ hX) ((mid_1 m ρ c) ▸ hY) (mid_o m ρ c hX) (mid_l m ρ c hX))
end

/-- Every fair execution ends with the five results at what they should hold, and the arguments unchanged. -/
theorem run_value (m : (ℓ : Loc nD τ sig) → Buf (Elt Ideal) ℓ) (ρ : Dev nD → PrngReg)
    (X : Dev nD → Fin 4096 → Fin 3072 → ℝ) (Y : Dev nD → Fin 4096 → Fin 2048 → ℝ)
    (hX : ∀ c : Dev nD, OnCols 1536 (m ((c : Thread nD τ).loc main_arg0) : FVec Ideal S4096x3072 .bf16) (X c))
    (hY : ∀ c : Dev nD, OnCols 1024 (m ((c : Thread nD τ).loc main_arg1) : FVec Ideal S4096x2048 .bf16) (Y c)) :
    θ_run defs (onTc (τ := τ) (main (F := Ideal))) ⟨m, fun _ => 0, ρ⟩ (fun r => ∀ c : Dev nD,
      (∀ (h : Fin 8) (i : Fin 4096) (d : Fin 128) (hb), (r.2.mem ((c : Thread nD τ).loc main_v0_0) : FVec Ideal S4096x2048 .bf16)
          (ix2 i (col h.val d hb)) = ((oS (X c) h i d : ℝ) : EReal))
      ∧ r.2.mem ((c : Thread nD τ).loc main_v0_1) = AL (X c)
      ∧ r.2.mem ((c : Thread nD τ).loc main_v1_0) = AQ (X c) (Y c)
      ∧ r.2.mem ((c : Thread nD τ).loc main_v1_1) = AK (X c) (Y c)
      ∧ r.2.mem ((c : Thread nD τ).loc main_v1_2) = AV (X c) (Y c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
    ⟨fun hh i d hb => (congrFun (h c _ (mem_uc main_v0_0 (by decide))) _).trans (end_o m ρ c (hX c) hh i d hb),
      (h c _ (mem_uc main_v0_1 (by decide))).trans (end_l m ρ c (hX c)),
      (h c _ (mem_uc main_v1_0 (by decide))).trans (end_q m ρ c (hX c) (hY c)),
      (h c _ (mem_uc main_v1_1 (by decide))).trans (end_k m ρ c (hX c) (hY c)),
      (h c _ (mem_uc main_v1_2 (by decide))).trans (end_v m ρ c (hX c) (hY c)),
      (h c _ (mem_uc main_arg0 (by decide))).trans (W2_main_arg0 m ρ c),
      (h c _ (mem_uc main_arg1 (by decide))).trans (W2_main_arg1 m ρ c)⟩)
    (run_all m ρ)

end Cert.RunValue
end
end
-- ==== Proof.RefReal.lean ====
/- What the reference computes, over the real numbers, before its results are laid out: the scores and their greatest, the
   probabilities, the attention, and the gradients of the scores, the queries, the keys and the values. -/
module

public import proofs.«01_k».proof.Proof.Spec
public import proofs.«01_k».proof.Proof.Gen.ReferenceIdeal.Read
public import Idealize.ShloMosaic.Lib.TwoAxisContraction

@[expose] public section

set_option maxRecDepth 16384

noncomputable section

open Idealize.ShloMosaic Idealize.ShloMosaic.ValueIdx Cert.RealOps Cert.Spec
open Cert.ReferenceIdeal Cert.ReferenceIdeal.Gen Cert.ReferenceIdeal.Read
open Cert.AttnFwd (atn zz wt)
open Cert.AttnBwd (gs pr)
open scoped BigOperators

namespace Cert.RefReal

/-- The score of row `i` and key `s` in the head `g` of key head `k`. -/
def sR (X : Fin 4096 → Fin 3072 → ℝ) (k : Fin 2) (g : Fin 4) (i s : Fin 4096) : ℝ :=
  (∑ d, qh X (hd k g) i d * kh X k s d) * sc

/-- The exponential of the scores less `M`. -/
def eR (X : Fin 4096 → Fin 3072 → ℝ) (M : ℝ) (k : Fin 2) (g : Fin 4) (i s : Fin 4096) : ℝ := Real.exp (sR X k g i s - M)

/-- Its sum over the keys. -/
def lR (X : Fin 4096 → Fin 3072 → ℝ) (M : ℝ) (k : Fin 2) (g : Fin 4) (i : Fin 4096) : ℝ := ∑ s, eR X M k g i s

section
variable (X : Fin 4096 → Fin 3072 → ℝ) (Y : Fin 4096 → Fin 2048 → ℝ) (M : ℝ) (k : Fin 2) (g : Fin 4) (i s : Fin 4096)

/-- The sum of exponentials is positive. -/
theorem zz_pos : 0 < zz (qh X (hd k g) i) (kh X k) :=
  Finset.sum_pos (fun _ _ => Real.exp_pos _) ⟨0, Finset.mem_univ _⟩

/-- The sum of the shifted exponentials is the sum of the exponentials, shifted. -/
theorem lR_eq : lR X M k g i = zz (qh X (hd k g) i) (kh X k) * Real.exp (-M) := by
  unfold lR zz
  rw [Finset.sum_mul]
  refine Finset.sum_congr rfl fun t _ => ?_
  unfold eR sR wt
  rw [sub_eq_add_neg, Real.exp_add]

/-- It is positive. -/
theorem lR_pos : 0 < lR X M k g i := by rw [lR_eq]; exact mul_pos (zz_pos X k g i) (Real.exp_pos _)

/-- The shift leaves the log-sum-exp. -/
theorem log_lR : M + Real.log (lR X M k g i) = lS X (hd k g) i := by
  unfold lS
  rw [lR_eq, Real.log_mul (zz_pos X k g i).ne' (Real.exp_pos _).ne', Real.log_exp, kv_hd]
  ring

/-- The probability as a quotient. -/
theorem pS_quot : pS X (hd k g) i s = wt (qh X (hd k g) i) (kh X k s) / zz (qh X (hd k g) i) (kh X k) := by
  unfold pS lS pr
  rw [kv_hd, Real.exp_sub, Real.exp_log (zz_pos X k g i)]

/-- The shifted exponentials are the probabilities times their sum. -/
theorem eR_eq : eR X M k g i s = pS X (hd k g) i s * lR X M k g i := by
  rw [pS_quot, lR_eq, div_mul_eq_mul_div, mul_comm (zz _ _) (Real.exp _), ← mul_assoc, mul_div_assoc,
    div_self (zz_pos X k g i).ne', mul_one]
  unfold eR sR wt
  rw [sub_eq_add_neg, Real.exp_add]

/-- The quotient of the shifted exponentials by their sum is the probability. -/
theorem eR_div : eR X M k g i s / lR X M k g i = pS X (hd k g) i s := by
  rw [eR_eq, mul_div_assoc, div_self (lR_pos X M k g i).ne', mul_one]

/-- The attention is the sum of the values by the probabilities. -/
theorem sum_pS (d : Fin 128) : (∑ t, pS X (hd k g) i t * vh X k t d) = oS X (hd k g) i d := by
  unfold oS atn
  rw [kv_hd, Finset.sum_div]
  refine Finset.sum_congr rfl fun t _ => ?_
  rw [pS_quot, div_mul_eq_mul_div]

/-- The gradient of a probability. -/
def dP : ℝ := ∑ d, ch Y (hd k g) i d * vh X k s d

/-- The probabilities by their gradients sum to the attention by its cotangents. -/
theorem sum_dP : (∑ t, dP X Y k g i t * pS X (hd k g) i t) = ∑ d, ch Y (hd k g) i d * oS X (hd k g) i d := by
  simp only [← sum_pS, dP, Finset.sum_mul, Finset.mul_sum]
  rw [Finset.sum_comm]
  refine Finset.sum_congr rfl fun d _ => Finset.sum_congr rfl fun t _ => ?_
  ring

/-- The gradient of a score, as the reference arrives at it. -/
theorem gS_eq : (dP X Y k g i s / lR X M k g i
      + -(∑ t, dP X Y k g i t * (1 / (lR X M k g i * lR X M k g i)) * eR X M k g i t)) * eR X M k g i s * sc
    = gS X Y (hd k g) i s := by
  have hl := (lR_pos X M k g i).ne'
  have e1 : (∑ t, dP X Y k g i t * (1 / (lR X M k g i * lR X M k g i)) * eR X M k g i t)
      = (∑ d, ch Y (hd k g) i d * oS X (hd k g) i d) / lR X M k g i := by
    rw [← sum_dP, Finset.sum_div]
    refine Finset.sum_congr rfl fun t _ => ?_
    rw [eR_eq X M k g i t]
    field_simp
  rw [e1, eR_eq X M k g i s]
  unfold gS gs
  rw [kv_hd]
  rw [show pr (qh X (hd k g) i) (kh X k s) (lS X (hd k g) i) = pS X (hd k g) i s from by unfold pS; rw [kv_hd],
    show (∑ d, ch Y (hd k g) i d * vh X k s d) = dP X Y k g i s from rfl]
  field_simp
  ring

end

/-- The greatest of real numbers along the last axis is a real number. -/
theorem max_real (h : S2x4x4096x4096.ReducesTo [3] S2x4x4096) (x : FVec Ideal S2x4x4096x4096 .f32) (w : FVec Ideal S_ .f32)
    (hw : w (Shape.Idx.first h_S_) = ⊥) (hx : ∀ y, ∃ r : ℝ, x y = (r : EReal)) (j : S2x4x4096.Idx) :
    ∃ r : ℝ, Host.reduce (FloatOps.maximumf (F := Ideal) (φ := .f32)) x w h h_S_ j = (r : EReal) := by
  have e : Host.reduce (FloatOps.maximumf (F := Ideal) (φ := .f32)) x w h h_S_ j
      = (Finset.univ.filter fun y => h.drop y = j).fold max (⊥ : EReal) x := by
    rw [← hw]
    exact Host.reduce_eq_fold (max : EReal → EReal → EReal) x w h h_S_ j
  have h1 : (Finset.univ.filter fun y => h.drop y = j).fold max (⊥ : EReal) x < ⊤ :=
    (Finset.fold_max_lt _).mpr ⟨bot_lt_top, fun y _ => by obtain ⟨r, hr⟩ := hx y; rw [hr]; exact EReal.coe_lt_top _⟩
  have h2 : ⊥ < (Finset.univ.filter fun y => h.drop y = j).fold max (⊥ : EReal) x := by
    refine (Finset.lt_fold_max _).mpr (.inr ⟨ix4 (j 0) (j 1) (j 2) (0 : Fin 4096), ?_, ?_⟩)
    · refine Finset.mem_filter.mpr ⟨Finset.mem_univ _, ?_⟩
      funext a; apply Fin.ext; match a with | ⟨0, _⟩ => rfl | ⟨1, _⟩ => rfl | ⟨2, _⟩ => rfl
    · obtain ⟨r, hr⟩ := hx (ix4 (j 0) (j 1) (j 2) (0 : Fin 4096)); rw [hr]; exact EReal.bot_lt_coe _
  rw [e]
  exact ⟨_, (EReal.coe_toReal h1.ne h2.ne').symm⟩

section
variable (x0 : FVec Ideal S4096x3072 .bf16) (x1 : FVec Ideal S4096x2048 .bf16)
  (X : Fin 4096 → Fin 3072 → ℝ) (Y : Fin 4096 → Fin 2048 → ℝ)

section
include X
variable (hX : OnCols 1536 x0 X)
include hX

/-- The queries. -/
theorem v3_r (k : Fin 2) (g : Fin 4) (i : Fin 4096) (d : Fin 128) : val_main_v3 (F := Ideal) x0 (ix4 k g i d) = ((qh X (hd k g) i d : ℝ) : EReal) := by
  rw [val_main_v3_apply, val_main_v2_apply, val_main_v1_apply, Ideal.extf_def, val_main_v0_apply,
    show idx_main_v0 (idx_main_v2 (idx_main_v3 (ix4 k g i d))) = ix2 i (col (4 * k.val + g.val) d (by omega)) from by
      funext a; apply Fin.ext
      match a with
      | ⟨0, _⟩ => show (((i.val * 2 + k.val) * 4 + g.val) * 128 + d.val) / 1024 = i.val; omega
      | ⟨1, _⟩ => show (((i.val * 2 + k.val) * 4 + g.val) * 128 + d.val) % 1024 = 128 * (4 * k.val + g.val) + d.val; omega]
  exact hX i _ (by show 128 * (4 * k.val + g.val) + d.val < 1536; omega)

/-- The keys. -/
theorem v7_r (k : Fin 2) (i : Fin 4096) (d : Fin 128) : val_main_v7 (F := Ideal) x0 (ix3 k i d) = ((kh X k i d : ℝ) : EReal) := by
  rw [val_main_v7_apply, val_main_v6_apply, val_main_v5_apply, Ideal.extf_def, val_main_v4_apply,
    show idx_main_v4 (idx_main_v6 (idx_main_v7 (ix3 k i d))) = ix2 i (col (8 + k.val) d (by omega)) from by
      funext a; apply Fin.ext
      match a with
      | ⟨0, _⟩ => show ((i.val * 2 + k.val) * 128 + d.val) / 256 = i.val; omega
      | ⟨1, _⟩ => show 1024 + ((i.val * 2 + k.val) * 128 + d.val) % 256 = 128 * (8 + k.val) + d.val; omega]
  exact hX i _ (by show 128 * (8 + k.val) + d.val < 1536; omega)

/-- The values. -/
theorem v11_r (k : Fin 2) (i : Fin 4096) (d : Fin 128) : val_main_v11 (F := Ideal) x0 (ix3 k i d) = ((vh X k i d : ℝ) : EReal) := by
  rw [val_main_v11_apply, val_main_v10_apply, val_main_v9_apply, Ideal.extf_def, val_main_v8_apply,
    show idx_main_v8 (idx_main_v10 (idx_main_v11 (ix3 k i d))) = ix2 i (col (10 + k.val) d (by omega)) from by
      funext a; apply Fin.ext
      match a with
      | ⟨0, _⟩ => show ((i.val * 2 + k.val) * 128 + d.val) / 256 = i.val; omega
      | ⟨1, _⟩ => show 1280 + ((i.val * 2 + k.val) * 128 + d.val) % 256 = 128 * (10 + k.val) + d.val; omega]
  exact hX i _ (by show 128 * (10 + k.val) + d.val < 1536; omega)

/-- The scores. -/
theorem v18_r (k : Fin 2) (g : Fin 4) (i s : Fin 4096) :
    val_main_v18 (F := Ideal) x0 (ix4 k g i s) = ((sR X k g i s : ℝ) : EReal) := by
  rw [val_main_v18_apply, Ideal.mulf_def, val_main_v17_apply, val_main_cst_apply, show val_main_v16 (F := Ideal) x0 (ix4 k g i s) = ((∑ d, qh X (hd k g) i d * kh X k s d : ℝ) : EReal) from by
      rw [val_main_v16_apply, coe_sum]
      refine Finset.sum_congr rfl fun d _ => ?_
      rw [show lidx_main_v16 (ix4 k g i s) d = ix4 k g i d from by
          funext a; match a with | ⟨0, _⟩ => rfl | ⟨1, _⟩ => rfl | ⟨2, _⟩ => rfl | ⟨3, _⟩ => rfl,
        show ridx_main_v16 (ix4 k g i s) d = ix3 k s d from by
          funext a; match a with | ⟨0, _⟩ => rfl | ⟨1, _⟩ => rfl | ⟨2, _⟩ => rfl,
        v3_r x0 X hX, v7_r x0 X hX, EReal.coe_mul]]
  show _ * Ideal.ofBits .f32 0x3DB504F3#32 = _
  rw [bits_scale, ← EReal.coe_mul]
  rfl

/-- The scores, computed again. -/
theorem v80_r (k : Fin 2) (g : Fin 4) (i s : Fin 4096) :
    val_main_v80 (F := Ideal) x0 (ix4 k g i s) = ((sR X k g i s : ℝ) : EReal) := by
  rw [val_main_v80_apply, Ideal.mulf_def, val_main_v79_apply, val_main_cst_14_apply, show val_main_v78 (F := Ideal) x0 (ix4 k g i s) = ((∑ d, qh X (hd k g) i d * kh X k s d : ℝ) : EReal) from by
      rw [val_main_v78_apply, coe_sum]
      refine Finset.sum_congr rfl fun d _ => ?_
      rw [show lidx_main_v78 (ix4 k g i s) d = ix4 k g i d from by
          funext a; match a with | ⟨0, _⟩ => rfl | ⟨1, _⟩ => rfl | ⟨2, _⟩ => rfl | ⟨3, _⟩ => rfl,
        show ridx_main_v78 (ix4 k g i s) d = ix3 k s d from by
          funext a; match a with | ⟨0, _⟩ => rfl | ⟨1, _⟩ => rfl | ⟨2, _⟩ => rfl,
        v3_r x0 X hX, v7_r x0 X hX, EReal.coe_mul]]
  show _ * Ideal.ofBits .f32 0x3DB504F3#32 = _
  rw [bits_scale, ← EReal.coe_mul]
  rfl

/-- The greatest scores are real numbers. -/
theorem max_r : ∃ M : Fin 2 → Fin 4 → Fin 4096 → ℝ, ∀ k g i, val_main_v19 (F := Ideal) x0 (ix3 k g i) = ((M k g i : ℝ) : EReal) := by
  have h : ∀ k g i, ∃ r : ℝ, val_main_v19 (F := Ideal) x0 (ix3 k g i) = (r : EReal) := fun k g i => by
    unfold val_main_v19
    exact max_real reducesTo_S2x4x4096x4096_S2x4x4096_d3 (val_main_v18 (F := Ideal) x0) (val_main_cst_0 (F := Ideal)) bits_neg_inf (fun y => by
      rw [eq_ix4 y]; exact ⟨_, v18_r x0 X hX _ _ _ _⟩) _
  choose M hM using h
  exact ⟨M, hM⟩

/-- The greatest scores are real numbers. -/
theorem max_r' : ∃ M : Fin 2 → Fin 4 → Fin 4096 → ℝ, ∀ k g i, val_main_v81 (F := Ideal) x0 (ix3 k g i) = ((M k g i : ℝ) : EReal) := by
  have h : ∀ k g i, ∃ r : ℝ, val_main_v81 (F := Ideal) x0 (ix3 k g i) = (r : EReal) := fun k g i => by
    unfold val_main_v81
    exact max_real reducesTo_S2x4x4096x4096_S2x4x4096_d3 (val_main_v80 (F := Ideal) x0) (val_main_cst_15 (F := Ideal)) bits_neg_inf (fun y => by
      rw [eq_ix4 y]; exact ⟨_, v80_r x0 X hX _ _ _ _⟩) _
  choose M hM using h
  exact ⟨M, hM⟩

variable (M : Fin 2 → Fin 4 → Fin 4096 → ℝ)

section
variable (hM : ∀ k g i, val_main_v19 (F := Ideal) x0 (ix3 k g i) = ((M k g i : ℝ) : EReal))
include hM

/-- The greatest score. -/
theorem v26_r (k : Fin 2) (g : Fin 4) (i : Fin 4096) :
    val_main_v26 (F := Ideal) x0 (ix3 k g i) = ((M k g i : ℝ) : EReal) := by
  rw [val_main_v26_apply, Ideal.maximumf_def, val_main_v25_apply, val_main_cst_2_apply, hM k g i]
  show max (Ideal.ofBits .f32 0xFF800000#32) _ = _
  rw [bits_neg_inf]
  exact max_eq_right bot_le

/-- The shifted exponentials. -/
theorem v39_r (k : Fin 2) (g : Fin 4) (i s : Fin 4096) :
    val_main_v39 (F := Ideal) x0 (ix4 k g i s) = ((eR X (M k g i) k g i s : ℝ) : EReal) := by
  rw [val_main_v39_apply, Ideal.hostUnary_exp_def, val_main_v38_apply, Ideal.subf_def, v18_r x0 X hX k g i s,
    val_main_v37_apply, show idx_main_v37 (ix4 k g i s) = ix4 k g i 0 from by
      funext a; match a with | ⟨0, _⟩ => rfl | ⟨1, _⟩ => rfl | ⟨2, _⟩ => rfl | ⟨3, _⟩ => rfl,
    val_main_v36_apply, show idx_main_v36 (ix4 k g i 0) = ix3 k g i from by
      funext a; match a with | ⟨0, _⟩ => rfl | ⟨1, _⟩ => rfl | ⟨2, _⟩ => rfl,
    v26_r x0 X hX M hM k g i, ← EReal.coe_sub, Ideal.exp_coe]
  rfl

/-- Their sum. -/
theorem v40_r (k : Fin 2) (g : Fin 4) (i : Fin 4096) :
    val_main_v40 (F := Ideal) x0 (ix3 k g i) = ((lR X (M k g i) k g i : ℝ) : EReal) := by
  rw [val_main_v40_apply, val_main_cst_8_apply, show FloatOps.ofBits (F := Ideal) .f32 0x00000000#32 = 0 from Ideal.ofBits_zero_f32, zero_add]
  unfold lR
  rw [coe_sum]
  refine Finset.sum_congr rfl fun s _ => ?_
  rw [show idx_main_v40 (ix3 k g i) s = ix4 k g i s from by
      funext a; match a with | ⟨0, _⟩ => rfl | ⟨1, _⟩ => rfl | ⟨2, _⟩ => rfl | ⟨3, _⟩ => rfl]
  exact v39_r x0 X hX M hM k g i s

/-- Their sum, with an axis of one. -/
theorem v41_r (k : Fin 2) (g : Fin 4) (i : Fin 4096) :
    val_main_v41 (F := Ideal) x0 (ix4 k g i 0) = ((lR X (M k g i) k g i : ℝ) : EReal) := by
  rw [val_main_v41_apply, show idx_main_v41 (ix4 k g i 0) = ix3 k g i from by
      funext a; match a with | ⟨0, _⟩ => rfl | ⟨1, _⟩ => rfl | ⟨2, _⟩ => rfl]
  exact v40_r x0 X hX M hM k g i

/-- The probabilities. -/
theorem v43_r (k : Fin 2) (g : Fin 4) (i s : Fin 4096) :
    val_main_v43 (F := Ideal) x0 (ix4 k g i s) = ((pS X (hd k g) i s : ℝ) : EReal) := by
  rw [val_main_v43_apply, Ideal.hostDivf_def, v39_r x0 X hX M hM k g i s, val_main_v42_apply,
    show idx_main_v42 (ix4 k g i s) = ix4 k g i 0 from by
      funext a; match a with | ⟨0, _⟩ => rfl | ⟨1, _⟩ => rfl | ⟨2, _⟩ => rfl | ⟨3, _⟩ => rfl,
    v41_r x0 X hX M hM k g i, Ideal.div_coe (lR_pos X (M k g i) k g i).ne', ← EReal.coe_mul, mul_one_div, eR_div]

/-- The attention. -/
theorem v47_r (k : Fin 2) (g : Fin 4) (i : Fin 4096) (d : Fin 128) :
    val_main_v47 (F := Ideal) x0 (ix4 k g i d) = ((oS X (hd k g) i d : ℝ) : EReal) := by
  rw [← sum_pS]
  rw [val_main_v47_apply, coe_sum]
  refine Finset.sum_congr rfl fun s _ => ?_
  rw [show lidx_main_v47 (ix4 k g i d) s = ix4 k g i s from by
      funext a; match a with | ⟨0, _⟩ => rfl | ⟨1, _⟩ => rfl | ⟨2, _⟩ => rfl | ⟨3, _⟩ => rfl,
    show ridx_main_v47 (ix4 k g i d) s = ix3 k s d from by
      funext a; match a with | ⟨0, _⟩ => rfl | ⟨1, _⟩ => rfl | ⟨2, _⟩ => rfl,
    v43_r x0 X hX M hM k g i s, v11_r x0 X hX k s d, EReal.coe_mul]

/-- One over the square of the sum. -/
theorem v46_r (k : Fin 2) (g : Fin 4) (i : Fin 4096) :
    val_main_v46 (F := Ideal) x0 (ix4 k g i 0) = ((1 / (lR X (M k g i) k g i * lR X (M k g i) k g i) : ℝ) : EReal) := by
  rw [val_main_v46_apply, Ideal.hostDivf_def, val_main_v44_apply, Ideal.mulf_def, v41_r x0 X hX M hM k g i, ← EReal.coe_mul,
    Ideal.div_coe (mul_pos (lR_pos X (M k g i) k g i) (lR_pos X (M k g i) k g i)).ne', val_main_v45_apply, val_main_cst_9_apply]
  show Ideal.ofBits .f32 0x3F800000#32 * _ = _
  rw [bits_one, ← EReal.coe_mul, one_mul]

section
variable (hY : OnCols 1024 x1 Y)
include hY

omit hX hM in
/-- The cotangents. -/
theorem v15_r (k : Fin 2) (g : Fin 4) (i : Fin 4096) (d : Fin 128) : val_main_v15 (F := Ideal) x1 (ix4 k g i d) = ((ch Y (hd k g) i d : ℝ) : EReal) := by
  rw [val_main_v15_apply, val_main_v14_apply, val_main_v13_apply, Ideal.extf_def, val_main_v12_apply,
    show idx_main_v12 (idx_main_v14 (idx_main_v15 (ix4 k g i d))) = ix2 i (col (4 * k.val + g.val) d (by omega)) from by
      funext a; apply Fin.ext
      match a with
      | ⟨0, _⟩ => show (((i.val * 2 + k.val) * 4 + g.val) * 128 + d.val) / 1024 = i.val; omega
      | ⟨1, _⟩ => show (((i.val * 2 + k.val) * 4 + g.val) * 128 + d.val) % 1024 = 128 * (4 * k.val + g.val) + d.val; omega]
  exact hY i _ (by show 128 * (4 * k.val + g.val) + d.val < 1024; omega)

omit hM in
/-- The gradients of the probabilities. -/
theorem v50_r (k : Fin 2) (g : Fin 4) (i s : Fin 4096) :
    val_main_v50 (F := Ideal) x0 x1 (ix4 k g i s) = ((dP X Y k g i s : ℝ) : EReal) := by
  unfold dP
  rw [val_main_v50_apply, coe_sum]
  refine Finset.sum_congr rfl fun d _ => ?_
  rw [show lidx_main_v50 (ix4 k g i s) d = ix4 k g i d from by
      funext a; match a with | ⟨0, _⟩ => rfl | ⟨1, _⟩ => rfl | ⟨2, _⟩ => rfl | ⟨3, _⟩ => rfl,
    show ridx_main_v50 (ix4 k g i s) d = ix3 k s d from by
      funext a; match a with | ⟨0, _⟩ => rfl | ⟨1, _⟩ => rfl | ⟨2, _⟩ => rfl,
    v15_r x1 X Y hY, v11_r x0 X hX k s d, EReal.coe_mul]

/-- The gradient of the sum, but for its sign. -/
theorem v54_r (k : Fin 2) (g : Fin 4) (i : Fin 4096) :
    val_main_v54 (F := Ideal) x0 x1 (ix3 k g i) = ((∑ t, dP X Y k g i t * (1 / (lR X (M k g i) k g i * lR X (M k g i) k g i)) * eR X (M k g i) k g i t : ℝ) : EReal) := by
  rw [val_main_v54_apply, val_main_cst_10_apply, show FloatOps.ofBits (F := Ideal) .f32 0x00000000#32 = 0 from Ideal.ofBits_zero_f32, zero_add, coe_sum]
  refine Finset.sum_congr rfl fun s _ => ?_
  rw [show idx_main_v54 (ix3 k g i) s = ix4 k g i s from by
      funext a; match a with | ⟨0, _⟩ => rfl | ⟨1, _⟩ => rfl | ⟨2, _⟩ => rfl | ⟨3, _⟩ => rfl,
    val_main_v53_apply, Ideal.mulf_def, val_main_v52_apply, Ideal.mulf_def, v50_r x0 x1 X Y hX hY k g i s,
    val_main_v51_apply, show idx_main_v51 (ix4 k g i s) = ix4 k g i 0 from by
      funext a; match a with | ⟨0, _⟩ => rfl | ⟨1, _⟩ => rfl | ⟨2, _⟩ => rfl | ⟨3, _⟩ => rfl,
    v46_r x0 X hX M hM k g i, v39_r x0 X hX M hM k g i s, ← EReal.coe_mul, ← EReal.coe_mul]

/-- The gradient of the sum. -/
theorem v59_r (k : Fin 2) (g : Fin 4) (i : Fin 4096) :
    val_main_v59 (F := Ideal) x0 x1 (ix3 k g i) = ((-(∑ t, dP X Y k g i t * (1 / (lR X (M k g i) k g i * lR X (M k g i) k g i)) * eR X (M k g i) k g i t) : ℝ) : EReal) := by
  rw [val_main_v59_apply, val_main_cst_11_apply, show FloatOps.ofBits (F := Ideal) .f32 0x00000000#32 = 0 from Ideal.ofBits_zero_f32, zero_add,
    Fin.sum_univ_one, show idx_main_v59 (ix3 k g i) 0 = ix4 k g i 0 from by
      funext a; match a with | ⟨0, _⟩ => rfl | ⟨1, _⟩ => rfl | ⟨2, _⟩ => rfl | ⟨3, _⟩ => rfl, val_main_v56_apply, val_main_v55_apply,
    show idx_main_v55 (ix4 k g i 0) = ix3 k g i from by
      funext a; apply Fin.ext
      match a with
      | ⟨0, _⟩ => show (((k.val * 4 + g.val) * 4096 + i.val) * 1 + 0) / 16384 = k.val; omega
      | ⟨1, _⟩ => show (((k.val * 4 + g.val) * 4096 + i.val) * 1 + 0) / 4096 % 4 = g.val; omega
      | ⟨2, _⟩ => show (((k.val * 4 + g.val) * 4096 + i.val) * 1 + 0) % 4096 = i.val; omega,
    v54_r x0 x1 X Y hX M hM hY k g i]
  exact (EReal.coe_neg _).symm

/-- The gradients of the scores. -/
theorem v64_r (k : Fin 2) (g : Fin 4) (i s : Fin 4096) :
    val_main_v64 (F := Ideal) x0 x1 (ix4 k g i s) = ((gS X Y (hd k g) i s : ℝ) : EReal) := by
  rw [val_main_v64_apply, Ideal.mulf_def, val_main_v62_apply, Ideal.mulf_def, val_main_v61_apply, Ideal.addf_def, val_main_v58_apply,
    Ideal.hostDivf_def, v50_r x0 x1 X Y hX hY k g i s, val_main_v57_apply,
    show idx_main_v57 (ix4 k g i s) = ix4 k g i 0 from by
      funext a; match a with | ⟨0, _⟩ => rfl | ⟨1, _⟩ => rfl | ⟨2, _⟩ => rfl | ⟨3, _⟩ => rfl,
    v41_r x0 X hX M hM k g i, Ideal.div_coe (lR_pos X (M k g i) k g i).ne', ← EReal.coe_mul, mul_one_div, val_main_v60_apply,
    show idx_main_v60 (ix4 k g i s) = ix3 k g i from by
      funext a; match a with | ⟨0, _⟩ => rfl | ⟨1, _⟩ => rfl | ⟨2, _⟩ => rfl,
    v59_r x0 x1 X Y hX M hM hY k g i, ← EReal.coe_add, v39_r x0 X hX M hM k g i s, ← EReal.coe_mul, val_main_v63_apply, val_main_cst_12_apply]
  show _ * Ideal.ofBits .f32 0x3DB504F3#32 = _
  rw [bits_scale, ← EReal.coe_mul, gS_eq]

/-- The gradients of the queries. -/
theorem v66_r (k : Fin 2) (g : Fin 4) (i : Fin 4096) (d : Fin 128) :
    val_main_v66 (F := Ideal) x0 x1 (ix4 k g i d) = ((dqS X Y (hd k g) i d : ℝ) : EReal) := by
  unfold dqS
  rw [kv_hd]
  rw [val_main_v66_apply, coe_sum]
  refine Finset.sum_congr rfl fun s _ => ?_
  rw [show lidx_main_v66 (ix4 k g i d) s = ix4 k g i s from by
      funext a; match a with | ⟨0, _⟩ => rfl | ⟨1, _⟩ => rfl | ⟨2, _⟩ => rfl | ⟨3, _⟩ => rfl,
    show ridx_main_v66 (ix4 k g i d) s = ix3 k s d from by
      funext a; match a with | ⟨0, _⟩ => rfl | ⟨1, _⟩ => rfl | ⟨2, _⟩ => rfl,
    v64_r x0 x1 X Y hX M hM hY k g i s, v7_r x0 X hX k s d, EReal.coe_mul]

/-- The gradients of the values. -/
theorem v48_r (k : Fin 2) (d : Fin 128) (s : Fin 4096) :
    val_main_v48 (F := Ideal) x0 x1 (ix3 k d s) = ((dvS X Y k d s : ℝ) : EReal) := by
  let D := dot_S2x4x4096x128_S2x4x4096x4096_S2x128x4096_12_12_3_3_0_0
  have hr : D.contr.rank = 2 := rfl
  have c0 : D.contr.size ⟨0, by rw [hr]; omega⟩ = 4 := rfl
  have c1 : D.contr.size ⟨1, by rw [hr]; omega⟩ = 4096 := rfl
  unfold val_main_v48 Host.dotGeneral dvS
  rw [Ideal.dotGeneral_apply, sum_contr2 D 4 4096 hr c0 c1, coe_sum]
  refine Finset.sum_congr rfl fun g _ => ?_
  rw [coe_sum]
  refine Finset.sum_congr rfl fun i _ => ?_
  have h0 := contrEquiv2_symm_val0 D 4 4096 hr c0 c1 (g, i)
  have h1 := contrEquiv2_symm_val1 D 4 4096 hr c0 c1 (g, i)
  have el : D.lhsIdx (ix3 k d s) ((contrEquiv2 D 4 4096 hr c0 c1).symm (g, i)) = ix4 k g i d := by
    funext a; apply Fin.ext
    match a with
    | ⟨0, _⟩ => rfl
    | ⟨1, _⟩ => exact h0
    | ⟨2, _⟩ => exact h1
    | ⟨3, _⟩ => rfl
  have er : D.rhsIdx (ix3 k d s) ((contrEquiv2 D 4 4096 hr c0 c1).symm (g, i)) = ix4 k g i s := by
    funext a; apply Fin.ext
    match a with
    | ⟨0, _⟩ => rfl
    | ⟨1, _⟩ => exact h0
    | ⟨2, _⟩ => exact h1
    | ⟨3, _⟩ => rfl
  rw [el, er, v15_r x1 X Y hY k g i d, v43_r x0 X hX M hM k g i s, ← EReal.coe_mul]

/-- The gradients of the keys. -/
theorem v65_r (k : Fin 2) (s : Fin 4096) (d : Fin 128) :
    val_main_v65 (F := Ideal) x0 x1 (ix3 k s d) = ((dkS X Y k d s : ℝ) : EReal) := by
  let D := dot_S2x4x4096x4096_S2x4x4096x128_S2x4096x128_12_12_3_3_0_0
  have hr : D.contr.rank = 2 := rfl
  have c0 : D.contr.size ⟨0, by rw [hr]; omega⟩ = 4 := rfl
  have c1 : D.contr.size ⟨1, by rw [hr]; omega⟩ = 4096 := rfl
  unfold val_main_v65 Host.dotGeneral dkS
  rw [Ideal.dotGeneral_apply, sum_contr2 D 4 4096 hr c0 c1, coe_sum]
  refine Finset.sum_congr rfl fun g _ => ?_
  rw [coe_sum]
  refine Finset.sum_congr rfl fun i _ => ?_
  have h0 := contrEquiv2_symm_val0 D 4 4096 hr c0 c1 (g, i)
  have h1 := contrEquiv2_symm_val1 D 4 4096 hr c0 c1 (g, i)
  have el : D.lhsIdx (ix3 k s d) ((contrEquiv2 D 4 4096 hr c0 c1).symm (g, i)) = ix4 k g i s := by
    funext a; apply Fin.ext
    match a with
    | ⟨0, _⟩ => rfl
    | ⟨1, _⟩ => exact h0
    | ⟨2, _⟩ => exact h1
    | ⟨3, _⟩ => rfl
  have er : D.rhsIdx (ix3 k s d) ((contrEquiv2 D 4 4096 hr c0 c1).symm (g, i)) = ix4 k g i d := by
    funext a; apply Fin.ext
    match a with
    | ⟨0, _⟩ => rfl
    | ⟨1, _⟩ => exact h0
    | ⟨2, _⟩ => exact h1
    | ⟨3, _⟩ => rfl
  rw [el, er, v64_r x0 x1 X Y hX M hM hY k g i s, v3_r x0 X hX k g i d, ← EReal.coe_mul, mul_comm]

end

end

section
variable (hM' : ∀ k g i, val_main_v81 (F := Ideal) x0 (ix3 k g i) = ((M k g i : ℝ) : EReal))
include hM'

/-- The shifted exponentials, computed again. -/
theorem v85_r (k : Fin 2) (g : Fin 4) (i s : Fin 4096) :
    val_main_v85 (F := Ideal) x0 (ix4 k g i s) = ((eR X (M k g i) k g i s : ℝ) : EReal) := by
  rw [val_main_v85_apply, Ideal.hostUnary_exp_def, val_main_v84_apply, Ideal.subf_def, v80_r x0 X hX k g i s,
    val_main_v83_apply, show idx_main_v83 (ix4 k g i s) = ix4 k g i 0 from by
      funext a; match a with | ⟨0, _⟩ => rfl | ⟨1, _⟩ => rfl | ⟨2, _⟩ => rfl | ⟨3, _⟩ => rfl,
    val_main_v82_apply, show idx_main_v82 (ix4 k g i 0) = ix3 k g i from by
      funext a; match a with | ⟨0, _⟩ => rfl | ⟨1, _⟩ => rfl | ⟨2, _⟩ => rfl,
    hM' k g i, ← EReal.coe_sub, Ideal.exp_coe]
  rfl

/-- Their sum. -/
theorem v86_r (k : Fin 2) (g : Fin 4) (i : Fin 4096) :
    val_main_v86 (F := Ideal) x0 (ix3 k g i) = ((lR X (M k g i) k g i : ℝ) : EReal) := by
  rw [val_main_v86_apply, val_main_cst_16_apply, show FloatOps.ofBits (F := Ideal) .f32 0x00000000#32 = 0 from Ideal.ofBits_zero_f32, zero_add]
  unfold lR
  rw [coe_sum]
  refine Finset.sum_congr rfl fun s _ => ?_
  rw [show idx_main_v86 (ix3 k g i) s = ix4 k g i s from by
      funext a; match a with | ⟨0, _⟩ => rfl | ⟨1, _⟩ => rfl | ⟨2, _⟩ => rfl | ⟨3, _⟩ => rfl]
  exact v85_r x0 X hX M hM' k g i s

/-- The log-sum-exp. -/
theorem v89_r (k : Fin 2) (g : Fin 4) (i : Fin 4096) :
    val_main_v89 (F := Ideal) x0 (ix4 k g i 0) = ((lS X (hd k g) i : ℝ) : EReal) := by
  rw [val_main_v89_apply, Ideal.addf_def, val_main_v82_apply, show idx_main_v82 (ix4 k g i 0) = ix3 k g i from by
      funext a; match a with | ⟨0, _⟩ => rfl | ⟨1, _⟩ => rfl | ⟨2, _⟩ => rfl,
    hM' k g i, val_main_v88_apply, Ideal.hostUnary_log_def, val_main_v87_apply, show idx_main_v87 (ix4 k g i 0) = ix3 k g i from by
      funext a; match a with | ⟨0, _⟩ => rfl | ⟨1, _⟩ => rfl | ⟨2, _⟩ => rfl,
    v86_r x0 X hX M hM' k g i, Ideal.log_coe, if_neg (not_le.mpr (lR_pos X (M k g i) k g i)), ← EReal.coe_add, log_lR]

end

end

end

end Cert.RefReal
end
end
-- ==== Proof.RefOut.lean ====
/- The five results of the reference: laid out, they hold the attention, its log-sum-exp and its gradients. -/
module

public import proofs.«01_k».proof.Proof.RefReal

@[expose] public section

set_option maxRecDepth 16384

noncomputable section

open Idealize.ShloMosaic Idealize.ShloMosaic.ValueIdx Cert.RealOps Cert.Spec
open Cert.ReferenceIdeal Cert.ReferenceIdeal.Gen Cert.ReferenceIdeal.Read
open scoped BigOperators

namespace Cert.RefReal

/-- The place of a head among the heads of its key head. -/
def gr (h : Fin 8) : Fin 4 := ⟨h.val % 4, by omega⟩

/-- A head by its key head and its place. -/
theorem hd_gr (h : Fin 8) : hd (kv h) (gr h) = h := Fin.ext (by show 4 * (h.val / 4) + h.val % 4 = h.val; omega)

section
variable (x0 : FVec Ideal S4096x3072 .bf16) (x1 : FVec Ideal S4096x2048 .bf16)
  (X : Fin 4096 → Fin 3072 → ℝ) (Y : Fin 4096 → Fin 2048 → ℝ)
  (hX : OnCols 1536 x0 X) (hY : OnCols 1024 x1 Y)
include hX

/-- The first 1024 columns of the first result hold the attention. -/
theorem out_o (h : Fin 8) (i : Fin 4096) (d : Fin 128) (hb : 128 * h.val + 128 ≤ 2048) :
    val_main_v71 (F := Ideal) x0 (ix2 i (col h.val d hb)) = ((oS X h i d : ℝ) : EReal) := by
  obtain ⟨M, hM⟩ := max_r x0 X hX
  unfold val_main_v71
  rw [concatenate_pair_apply_left 1 (val_main_v69 (F := Ideal) x0) (val_main_v70 (F := Ideal))
    concatenates_S4096x1024_S4096x1024_S4096x2048_d1 (ix2 i (col h.val d hb)) rfl
    (ix2 i (col h.val d (by omega) : Fin 1024)) (fun b => by match b with | ⟨0, _⟩ => rfl | ⟨1, _⟩ => rfl),
    val_main_v69_apply, Ideal.truncf_def, val_main_v68_apply, val_main_v67_apply,
    show idx_main_v67 (idx_main_v68 (ix2 i (col h.val d (by omega) : Fin 1024))) = ix4 (kv h) (gr h) i d from by
      funext a; apply Fin.ext
      match a with
      | ⟨0, _⟩ => show (i.val * 1024 + (128 * h.val + d.val)) / 512 % 2 = h.val / 4; omega
      | ⟨1, _⟩ => show (i.val * 1024 + (128 * h.val + d.val)) / 128 % 4 = h.val % 4; omega
      | ⟨2, _⟩ => show (i.val * 1024 + (128 * h.val + d.val)) / 1024 = i.val; omega
      | ⟨3, _⟩ => show (i.val * 1024 + (128 * h.val + d.val)) % 128 = d.val; omega,
    v47_r x0 X hX M hM (kv h) (gr h) i d, hd_gr]

/-- The second result holds the log-sum-exp. -/
theorem out_l : val_main_v90 (F := Ideal) x0 = AL X := by
  obtain ⟨M, hM⟩ := max_r' x0 X hX
  funext y
  obtain ⟨h, i, z, rfl⟩ : ∃ (h : Fin 8) (i : Fin 4096) (z : Fin 1), y = ix3 h i z := ⟨_, _, _, eq_ix3 y⟩
  obtain rfl : z = 0 := Subsingleton.elim _ _
  rw [val_main_v90_apply,
    show idx_main_v90 (ix3 h i 0) = ix4 (kv h) (gr h) i 0 from by
      funext a; apply Fin.ext
      match a with
      | ⟨0, _⟩ => show ((h.val * 4096 + i.val) * 1 + 0) / 16384 = h.val / 4; omega
      | ⟨1, _⟩ => show ((h.val * 4096 + i.val) * 1 + 0) / 4096 % 4 = h.val % 4; omega
      | ⟨2, _⟩ => show ((h.val * 4096 + i.val) * 1 + 0) / 1 % 4096 = i.val; omega
      | ⟨3, _⟩ => rfl,
    v89_r x0 X hX M hM (kv h) (gr h) i, hd_gr]
  rfl

include hY

/-- The third result holds the gradient of the queries. -/
theorem out_q : val_main_v73 (F := Ideal) x0 x1 = AQ X Y := by
  obtain ⟨M, hM⟩ := max_r x0 X hX
  funext y
  obtain ⟨i, j, rfl⟩ : ∃ (i : Fin 4096) (j : Fin 1024), y = ix2 i j := ⟨_, _, eq_ix2 y⟩
  rw [val_main_v73_apply, val_main_v72_apply,
    show idx_main_v72 (idx_main_v73 (ix2 i j)) = ix4 (kv (headOf j.val j.isLt)) (gr (headOf j.val j.isLt)) i (within j.val) from by
      funext a; apply Fin.ext
      match a with
      | ⟨0, _⟩ => show (i.val * 1024 + j.val) / 512 % 2 = j.val / 128 / 4; omega
      | ⟨1, _⟩ => show (i.val * 1024 + j.val) / 128 % 4 = j.val / 128 % 4; omega
      | ⟨2, _⟩ => show (i.val * 1024 + j.val) / 1024 = i.val; omega
      | ⟨3, _⟩ => show (i.val * 1024 + j.val) % 128 = j.val % 128; omega,
    v66_r x0 x1 X Y hX M hM hY, hd_gr]
  rfl

/-- The fourth result holds the gradient of the keys. -/
theorem out_k : val_main_v75 (F := Ideal) x0 x1 = AK X Y := by
  obtain ⟨M, hM⟩ := max_r x0 X hX
  funext y
  obtain ⟨r, s, rfl⟩ : ∃ (r : Fin 256) (s : Fin 4096), y = ix2 r s := ⟨_, _, eq_ix2 y⟩
  rw [val_main_v75_apply, val_main_v74_apply,
    show idx_main_v74 (idx_main_v75 (ix2 r s)) = ix3 (kvOf r.val r.isLt) s (within r.val) from by
      funext a; apply Fin.ext
      match a with
      | ⟨0, _⟩ => show (r.val * 4096 + s.val) / 524288 = r.val / 128; omega
      | ⟨1, _⟩ => show (r.val * 4096 + s.val) % 4096 = s.val; omega
      | ⟨2, _⟩ => show (r.val * 4096 + s.val) / 4096 % 128 = r.val % 128; omega,
    v65_r x0 x1 X Y hX M hM hY]
  rfl

/-- The fifth result holds the gradient of the values. -/
theorem out_v : val_main_v77 (F := Ideal) x0 x1 = AV X Y := by
  obtain ⟨M, hM⟩ := max_r x0 X hX
  funext y
  obtain ⟨r, s, rfl⟩ : ∃ (r : Fin 256) (s : Fin 4096), y = ix2 r s := ⟨_, _, eq_ix2 y⟩
  rw [val_main_v77_apply, val_main_v76_apply, val_main_v49_apply,
    show idx_main_v49 (idx_main_v76 (idx_main_v77 (ix2 r s))) = ix3 (kvOf r.val r.isLt) (within r.val) s from by
      funext a; apply Fin.ext
      match a with
      | ⟨0, _⟩ => show (r.val * 4096 + s.val) / 524288 = r.val / 128; omega
      | ⟨1, _⟩ => show (r.val * 4096 + s.val) / 4096 % 128 = r.val % 128; omega
      | ⟨2, _⟩ => show (r.val * 4096 + s.val) % 4096 = s.val; omega,
    v48_r x0 x1 X Y hX M hM hY]
  rfl

end

end Cert.RefReal
end
end
-- ==== Proof.Domain.lean ====
/- Where the claim speaks: the side conditions of its two predicates, what the precondition says of the arguments (the columns
   that the attention reads hold real numbers), and which elements the mask selects. -/
module

public import proofs.«01_k».proof.Proof.Spec
public import proofs.«01_k».proof.Pre_finite
public import proofs.«01_k».proof.On_written
public import Idealize.ShloMosaic.Lib.ReduceAll
public import Idealize.ShloMosaic.Lib.WordCmp

@[expose] public section

set_option maxRecDepth 16384

noncomputable section

open Idealize.ShloMosaic Idealize.ShloMosaic.ValueIdx Cert.RealOps Cert.Spec

namespace Cert.Domain

/-- The side conditions of the precondition. -/
theorem facts_pre : Cert.Pre_finite.Facts where
  slices_S4096x3072_S4096x1536_0_0 := by decide
  bitsLt_bf16_f32 := by decide
  bcast_S_S4096x1536 := by decide
  reducesTo_S4096x1536_S_d0_1 := by decide
  h_S_ := by decide
  slices_S4096x2048_S4096x1024_0_0 := by decide
  bcast_S_S4096x1024 := by decide
  reducesTo_S4096x1024_S_d0_1 := by decide

/-- The side conditions of the mask. -/
theorem facts_on : Cert.On_written.Facts where
  bcast_S_S4096x2048 := by decide
  bcast_S_S8x4096x1 := by decide
  bcast_S_S4096x1024 := by decide
  bcast_S_S256x4096 := by decide

/-- A number whose absolute value is below plus infinity is real. -/
theorem real_of_lt (x : EReal) (h : Ideal.cmp .olt (max x (-x)) ⊤ = 1#1) : x = ((x.toReal : ℝ) : EReal) := by
  have h' : max x (-x) < ⊤ := by
    by_contra hn
    rw [show Ideal.cmp .olt (max x (-x)) ⊤ = BitVec.ofBool (decide (max x (-x) < ⊤)) from rfl, decide_eq_false hn] at h
    exact absurd h (by decide)
  have h1 : x ≠ ⊤ := fun e => by rw [e] at h'; simp at h'
  have h2 : x ≠ ⊥ := fun e => by rw [e] at h'; simp at h'
  exact (EReal.coe_toReal h1 h2).symm

section
attribute [local instance] facts_pre facts_on
variable (a0 : FVec Ideal ⟨2, ![4096, 3072]⟩ .bf16) (a1 : FVec Ideal ⟨2, ![4096, 2048]⟩ .bf16)

/-- The precondition: the columns that the attention reads hold real numbers. -/
theorem cols_of_pre (h : Cert.Pre_finite.fn (F := Ideal) a0 a1 = fun _ => 1#1) :
    OnCols 1536 a0 (fun i j => (a0 (ix2 i j)).toReal) ∧ OnCols 1024 a1 (fun i j => (a1 (ix2 i j)).toReal) := by
  have e := congrFun h ix0
  unfold Cert.Pre_finite.fn at e
  obtain ⟨e0, e1⟩ := IntOp.andi_eq_one.1 (show IntOp.andi _ _ = 1#1 from e)
  constructor
  · intro i j hj
    have := Host.reduce_andi_all _ _ _ _ _ e0 (ix2 i (⟨j.val, hj⟩ : Fin 1536))
    refine real_of_lt _ ?_
    rw [← bits_inf]
    rw [← extractStridedSlice_apply ![0, 0] a0 Cert.Pre_finite.Facts.slices_S4096x3072_S4096x1536_0_0 (ix2 i (⟨j.val, hj⟩ : Fin 1536)) (ix2 i j)
      (fun a => by match a with | ⟨0, _⟩ => exact (Nat.zero_add _).symm | ⟨1, _⟩ => exact (Nat.zero_add _).symm)]
    exact this
  · intro i j hj
    have := Host.reduce_andi_all _ _ _ _ _ e1 (ix2 i (⟨j.val, hj⟩ : Fin 1024))
    refine real_of_lt _ ?_
    rw [← bits_inf]
    rw [← extractStridedSlice_apply ![0, 0] a1 Cert.Pre_finite.Facts.slices_S4096x2048_S4096x1024_0_0 (ix2 i (⟨j.val, hj⟩ : Fin 1024)) (ix2 i j)
      (fun a => by match a with | ⟨0, _⟩ => exact (Nat.zero_add _).symm | ⟨1, _⟩ => exact (Nat.zero_add _).symm)]
    exact this

/-- The mask of the attention selects its first 1024 columns. -/
theorem col_of_mask (i : Fin 4096) (j : Fin 2048) (h : (Cert.On_written.fn (F := Ideal) a0 a1).1 (ix2 i j) = 1#1) : j.val < 1024 := by
  unfold Cert.On_written.fn at h
  have h' : IntOp.cmpi .slt (BitVec.ofNat 32 j.val) 1024#32 = 1#1 := h
  have h2 := IntOp.cmpi_slt.1 h'
  have e1 : (BitVec.ofNat 32 j.val).toInt = j.val := by
    rw [BitVec.toInt_ofNat']
    have := j.isLt
    simp [Int.bmod]; omega
  rw [e1] at h2
  have : (1024#32 : BitVec 32).toInt = 1024 := by decide
  omega
end

end Cert.Domain
end
end
-- ==== Proof.Equation.lean ====
/- The equation of the attention: the kernel and the reference, from the same arguments, end with the same five results. -/
module

public import proofs.«01_k».proof.Defs
public import proofs.«01_k».proof.Proof.Run
public import proofs.«01_k».proof.Proof.RefOut
public import proofs.«01_k».proof.Proof.Domain

@[expose] public section

set_option maxRecDepth 16384

noncomputable section

open Idealize.ShloMosaic Idealize.ShloMosaic.TcCoe Idealize.ShloMosaic.ValueIdx Idealize.SL.Sem Cert.RealOps Cert.Spec

namespace Cert.Equation

attribute [local instance] Cert.Domain.facts_pre Cert.Domain.facts_on

/-- The real numbers in the first argument of device `c`. -/
def XR (m : (ℓ : Loc Cert.KernelIdeal.nD Cert.KernelIdeal.τ Cert.KernelIdeal.sig) → Buf (Elt Ideal) ℓ) (c : Dev Cert.KernelIdeal.nD) :
    Fin 4096 → Fin 3072 → ℝ := fun i j =>
  ((m ((c.tc : Thread Cert.KernelIdeal.nD Cert.KernelIdeal.τ).loc Cert.KernelIdeal.main_arg0) : FVec Ideal ⟨2, ![4096, 3072]⟩ .bf16) (ix2 i j) : EReal).toReal
/-- The real numbers in the second argument of device `c`. -/
def YR (m : (ℓ : Loc Cert.KernelIdeal.nD Cert.KernelIdeal.τ Cert.KernelIdeal.sig) → Buf (Elt Ideal) ℓ) (c : Dev Cert.KernelIdeal.nD) :
    Fin 4096 → Fin 2048 → ℝ := fun i j =>
  ((m ((c.tc : Thread Cert.KernelIdeal.nD Cert.KernelIdeal.τ).loc Cert.KernelIdeal.main_arg1) : FVec Ideal ⟨2, ![4096, 2048]⟩ .bf16) (ix2 i j) : EReal).toReal

/-- An array that holds the attention agrees with the named array wherever the mask selects. -/
theorem on_mask (a0 : FVec Ideal ⟨2, ![4096, 3072]⟩ .bf16) (a1 : FVec Ideal ⟨2, ![4096, 2048]⟩ .bf16)
    (X : Fin 4096 → Fin 3072 → ℝ) (w : FVec Ideal ⟨2, ![4096, 2048]⟩ .bf16)
    (hw : ∀ (h : Fin 8) (i : Fin 4096) (d : Fin 128) (hb), w (ix2 i (col h.val d hb)) = ((oS X h i d : ℝ) : EReal))
    (y : (⟨2, ![4096, 2048]⟩ : Shape).Idx) (hy : (Cert.On_written.fn (F := Ideal) a0 a1).1 y = 1#1) : w y = AO X y := by
  obtain ⟨i, j, rfl⟩ : ∃ (i : Fin 4096) (j : Fin 2048), y = ix2 i j := ⟨_, _, eq_ix2 y⟩
  have hj := Cert.Domain.col_of_mask a0 a1 i j hy
  have e : j = col (headOf j.val hj).val (within j.val) (by show 128 * (j.val / 128) + 128 ≤ 2048; omega) :=
    Fin.ext (by show j.val = 128 * (j.val / 128) + j.val % 128; omega)
  rw [e, hw, AO_at]

/-- The value claim. -/
theorem algebraic : Cert.algebraic_KernelIdeal_ReferenceIdeal_on_written_pre_finite := by
  intro m g m' g' hp hm
  have hc := fun c => Cert.Domain.cols_of_pre _ _ (hp c)
  refine ⟨fun c => AO (XR m c), fun c => AL (XR m c), fun c => AQ (XR m c) (YR m c), fun c => AK (XR m c) (YR m c),
    fun c => AV (XR m c) (YR m c), ?_, ?_⟩
  · refine (θ_run Cert.KernelIdeal.defs _ _).mono (fun r h c => ?_)
      (Cert.RunValue.run_value m g (XR m) (YR m) (fun c => (hc c).1) (fun c => (hc c).2))
    obtain ⟨h0, h1, h2, h3, h4, h5, h6⟩ := h c
    exact ⟨fun y hy => on_mask _ _ (XR m c) _ h0 y hy, fun y _ => congrFun h1 y, fun y _ => congrFun h2 y,
      fun y _ => congrFun h3 y, fun y _ => congrFun h4 y, h5, h6⟩
  · refine (θ_run Cert.ReferenceIdeal.defs _ _).mono (fun r h c => ?_) (Cert.ReferenceIdeal.Value.run (F := Ideal) m' g')
    obtain ⟨h0, h1, h2, h3, h4, h5, h6⟩ := h c
    rw [Cert.ReferenceIdeal.Read.val_main_v71_eq, (hm c).1] at h0
    rw [Cert.ReferenceIdeal.Read.val_main_v90_eq, (hm c).1, Cert.RefReal.out_l _ (XR m c) (hc c).1] at h1
    rw [Cert.ReferenceIdeal.Read.val_main_v73_eq, (hm c).1, (hm c).2, Cert.RefReal.out_q _ _ (XR m c) (YR m c) (hc c).1 (hc c).2] at h2
    rw [Cert.ReferenceIdeal.Read.val_main_v75_eq, (hm c).1, (hm c).2, Cert.RefReal.out_k _ _ (XR m c) (YR m c) (hc c).1 (hc c).2] at h3
    rw [Cert.ReferenceIdeal.Read.val_main_v77_eq, (hm c).1, (hm c).2, Cert.RefReal.out_v _ _ (XR m c) (YR m c) (hc c).1 (hc c).2] at h4
    refine ⟨fun y hy => ?_, fun y _ => congrFun h1 y, fun y _ => congrFun h2 y, fun y _ => congrFun h3 y, fun y _ => congrFun h4 y, h5, h6⟩
    rw [h0]
    exact on_mask _ _ (XR m c) _ (fun hh i d hb => Cert.RefReal.out_o _ (XR m c) (hc c).1 hh i d hb) y hy

end Cert.Equation
end
end
-- ==== Proof.MatSpec.lean ====
/- Products of matrices of extended reals: the three layouts a product comes in, a block of one, and how a kernel's
   product and a whole-block load and store read. -/
module

public import Idealize.ShloMosaic.Lib.ValueIdx
public import Idealize.ShloMosaic.Lib.MatmulPlain
public import Idealize.ShloMosaic.Lib.Pipeline.FrameBody
public import Idealize.ShloMosaic.Lib.Pipeline.ValueKit.Basic

@[expose] public section

set_option maxRecDepth 16384

noncomputable section

open Idealize.ShloMosaic Idealize.ShloMosaic.ValueIdx
open scoped BigOperators

namespace Cert.MatSpec

/-- A matrix of extended reals. -/
abbrev Mat (m n : ℕ) := (⟨2, ![m, n]⟩ : Shape).Idx → EReal

section
variable {m k n M N : ℕ}

/-- The product of two matrices. -/
def nn (A : Mat m k) (B : Mat k n) : Mat m n := fun y => ∑ l : Fin k, A (ix2 (y 0 : Fin m) l) * B (ix2 l (y 1 : Fin n))
/-- The product with the second matrix transposed. -/
def nt (A : Mat m k) (B : Mat n k) : Mat m n := fun y => ∑ l : Fin k, A (ix2 (y 0 : Fin m) l) * B (ix2 (y 1 : Fin n) l)
/-- The product with the first matrix transposed. -/
def tn (A : Mat k m) (B : Mat k n) : Mat m n := fun y => ∑ l : Fin k, A (ix2 l (y 0 : Fin m)) * B (ix2 l (y 1 : Fin n))

/-- A block of a product is the product of the blocks. -/
theorem nn_block {A : Mat M k} {B : Mat k N} {a : Mat m k} {b : Mat k n} {r : Fin m → Fin M} {s : Fin n → Fin N}
    (ha : ∀ i l, a (ix2 i l) = A (ix2 (r i) l)) (hb : ∀ l j, b (ix2 l j) = B (ix2 l (s j))) (i : Fin m) (j : Fin n) :
    nn a b (ix2 i j) = nn A B (ix2 (r i) (s j)) :=
  Finset.sum_congr rfl fun l _ => congrArg₂ (· * ·) (ha i l) (hb l j)
/-- Likewise with the second matrix transposed. -/
theorem nt_block {A : Mat M k} {B : Mat N k} {a : Mat m k} {b : Mat n k} {r : Fin m → Fin M} {s : Fin n → Fin N}
    (ha : ∀ i l, a (ix2 i l) = A (ix2 (r i) l)) (hb : ∀ j l, b (ix2 j l) = B (ix2 (s j) l)) (i : Fin m) (j : Fin n) :
    nt a b (ix2 i j) = nt A B (ix2 (r i) (s j)) :=
  Finset.sum_congr rfl fun l _ => congrArg₂ (· * ·) (ha i l) (hb j l)
/-- Likewise with the first matrix transposed. -/
theorem tn_block {A : Mat k M} {B : Mat k N} {a : Mat k m} {b : Mat k n} {r : Fin m → Fin M} {s : Fin n → Fin N}
    (ha : ∀ l i, a (ix2 l i) = A (ix2 l (r i))) (hb : ∀ l j, b (ix2 l j) = B (ix2 l (s j))) (i : Fin m) (j : Fin n) :
    tn a b (ix2 i j) = tn A B (ix2 (r i) (s j)) :=
  Finset.sum_congr rfl fun l _ => congrArg₂ (· * ·) (ha l i) (hb l j)

/-- The layout of a product whose first matrix is transposed. -/
def tnDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : ([1, 0] : List (Fin 2)).Perm (List.finRange 2)),
    (by decide : ([1, 0] : List (Fin 2)).Perm (List.finRange 2)), rfl, Nat.two_pos, fun b => by fin_cases b <;> rfl⟩

variable {φ ψ : FTy}

/-- A kernel's product onto zero. -/
theorem matmul_nn (a : FVec Ideal ⟨2, ![m, k]⟩ φ) (b : FVec Ideal ⟨2, ![k, n]⟩ ψ) :
    FloatOps.matmul (DotDims.plain m k n) none a b (constant _ .f32 0x00000000#32) = nn a b := by
  funext y
  obtain ⟨i, j, rfl⟩ : ∃ (i : Fin m) (j : Fin n), y = ix2 i j := ⟨y 0, y 1, eq_ix2 y⟩
  rw [Ideal.matmul_plain_apply, constant_apply, Ideal.ofBits_zero_f32, zero_add]
  rfl
/-- Likewise with the second matrix transposed. -/
theorem matmul_nt (a : FVec Ideal ⟨2, ![m, k]⟩ φ) (b : FVec Ideal ⟨2, ![n, k]⟩ ψ) :
    FloatOps.matmul (DotDims.transposedRhs m k n) none a b (constant _ .f32 0x00000000#32) = nt a b := by
  funext y
  obtain ⟨i, j, rfl⟩ : ∃ (i : Fin m) (j : Fin n), y = ix2 i j := ⟨y 0, y 1, eq_ix2 y⟩
  rw [Ideal.matmul_transposedRhs_apply, constant_apply, Ideal.ofBits_zero_f32, zero_add]
  rfl
/-- Likewise with the first matrix transposed. -/
theorem matmul_tn (a : FVec Ideal ⟨2, ![k, m]⟩ φ) (b : FVec Ideal ⟨2, ![k, n]⟩ ψ) :
    FloatOps.matmul (tnDims m k n) none a b (constant _ .f32 0x00000000#32) = tn a b := by
  funext y
  obtain ⟨i, j, rfl⟩ : ∃ (i : Fin m) (j : Fin n), y = ix2 i j := ⟨y 0, y 1, eq_ix2 y⟩
  rw [Ideal.matmul_apply, constant_apply, Ideal.ofBits_zero_f32, zero_add,
    ← Equiv.sum_comp (contrEquiv1 (tnDims m k n) k rfl rfl).symm]
  refine Finset.sum_congr rfl fun l _ => ?_
  have hk := contrEquiv1_symm_val (tnDims m k n) k rfl rfl l
  have el : (tnDims m k n).lhsIdx (ix2 i j) ((contrEquiv1 (tnDims m k n) k rfl rfl).symm l) = ix2 l i := by
    funext a; apply Fin.ext
    match a with
    | ⟨0, _⟩ => exact hk
    | ⟨1, _⟩ => rfl
  have er : (tnDims m k n).rhsIdx (ix2 i j) ((contrEquiv1 (tnDims m k n) k rfl rfl).symm l) = ix2 l j := by
    funext a; apply Fin.ext
    match a with
    | ⟨0, _⟩ => exact hk
    | ⟨1, _⟩ => rfl
  rw [el, er]
  rfl
end

/-- The word of the number two, whatever number it is. -/
abbrev two : EReal := Ideal.ofBits .f32 0x40000000#32

/-- Three equal arguments give equal values. -/
theorem congrArg3 {α β γ δ : Sort*} (f : α → β → γ → δ) {a a' : α} {b b' : β} {c c' : γ} (h : a = a') (h' : b = b') (h'' : c = c') :
    f a b c = f a' b' c' := by rw [h, h', h'']

/-- A load of a whole block reads the block. -/
theorem readAt_whole {sig : RefSig} {F : FTy → Type} {S : Shape} {e : EltTy} (m : Memref sig .tc .vmem S e) (hm : m.IsWhole)
    (x : S.Idx → Elt F e) {off : Fin S.rank → Nat} (inb : ∀ a, off a + S.size a ≤ S.size a) (h : ∀ a, off a = 0) :
    View.readAt (Elt F) m.view (Rect.unit off S.size inb).toLoadRect (hm.unread x) = x := by
  funext y
  rw [View.readAt_apply, hm.read_unread]
  refine congrArg x (funext fun a => Fin.ext ?_)
  show off a + 1 * (y a).val = (y a).val
  rw [h a]; omega

end Cert.MatSpec
end
end
-- ==== Proof.MlpSpec.lean ====
/- The layer and its gradients, of matrices of extended reals. -/
module

public import proofs.«01_k».proof.Proof.MatSpec

@[expose] public section

set_option maxRecDepth 16384

noncomputable section

open Idealize.ShloMosaic Idealize.ShloMosaic.ValueIdx Cert.MatSpec

namespace Cert.MlpSpec

section
variable (X H : Mat 4096 2048) (U : Mat 2048 8192) (D : Mat 8192 2048) (T : Mat 4096 2048)

/-- The first product. -/
def act : Mat 4096 8192 := nn X U
/-- The square of its positive part. -/
def sq : Mat 4096 8192 := fun y => max (act X U y) 0 * max (act X U y) 0
/-- The layer's result: the second product and the residual. -/
def res : Mat 4096 2048 := fun y => nn (sq X U) D y + H y
/-- The gradient of the second weight. -/
def gradD : Mat 8192 2048 := tn (sq X U) T
/-- The gradient of the first product. -/
def gradAct : Mat 4096 8192 := fun y => nt T D y * (two * max (act X U y) 0)
/-- The gradient of the first weight. -/
def gradU : Mat 2048 8192 := tn X (gradAct X U D T)
/-- The gradient of the layer's input. -/
def gradX : Mat 4096 2048 := nt (gradAct X U D T) U

/-- Where the first product is not positive the gradient is the zero that the choice by its sign gives. -/
theorem gradAct_select (y : (⟨2, ![4096, 8192]⟩ : Shape).Idx) :
    gradAct X U D T y = if 0 < act X U y then nt T D y * (two * max (act X U y) 0) else 0 := by
  unfold gradAct
  split
  · rfl
  · rename_i h
    rw [max_eq_right (not_lt.mp h), mul_zero, mul_zero]
end

end Cert.MlpSpec
end
end
-- ==== Proof.MlpUp.lean ====
/- The first product of the layer and the square of its positive part: what the two result arrays hold after the call. -/
module

public import proofs.«01_k».proof.Proof.MatSpec
public import proofs.«01_k».proof.Proof.Gen.MlpIdeal.Frame

@[expose] public section

set_option maxRecDepth 16384

noncomputable section

open Idealize.ShloMosaic Idealize.ShloMosaic.TcCoe Idealize.ShloMosaic.ValueIdx Cert.MlpIdeal Cert.MlpIdeal.Gen Cert.MatSpec
open scoped BigOperators

namespace Cert.MlpUp

/-- The product of two blocks. -/
theorem pay_2 (a : Vec Ideal S1024x2048 .bf16) (b : Vec Ideal S2048x2048 .bf16) (i : Fin 1024) (j : Fin 2048) :
    (k0_pay2 a b : FVec Ideal S1024x2048 .bf16) (ix2 i j) = (nn a b (ix2 i j) : EReal) := by
  exact congrFun (matmul_nn (φ := .bf16) (ψ := .bf16) a b) (ix2 i j)

/-- The square of its positive part. -/
theorem pay_3 (a : Vec Ideal S1024x2048 .bf16) (b : Vec Ideal S2048x2048 .bf16) (i : Fin 1024) (j : Fin 2048) :
    (k0_pay3 a b : FVec Ideal S1024x2048 .bf16) (ix2 i j) = max (nn a b (ix2 i j) : EReal) 0 * max (nn a b (ix2 i j) : EReal) 0 := by
  have h : (FloatOps.matmul (DotDims.plain 1024 2048 2048) none a b (constant _ .f32 0x00000000#32) : FVec Ideal S1024x2048 .f32) (ix2 i j)
      = nn a b (ix2 i j) := congrFun (matmul_nn (φ := .bf16) (ψ := .bf16) a b) (ix2 i j)
  show max ((FloatOps.matmul (DotDims.plain 1024 2048 2048) none a b (constant _ .f32 0x00000000#32) : FVec Ideal S1024x2048 .f32) (ix2 i j)) (Ideal.ofBits .f32 0x00000000#32)
    * max ((FloatOps.matmul (DotDims.plain 1024 2048 2048) none a b (constant _ .f32 0x00000000#32) : FVec Ideal S1024x2048 .f32) (ix2 i j)) (Ideal.ofBits .f32 0x00000000#32) = _
  rw [h, Ideal.ofBits_zero_f32]

/-- What a grid point leaves in output window 2. -/
theorem out_2 (c : Dev nD) (i : grid0.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S8x128 .f32) (harg7 : arg7.IsWhole) (x0 : Vec Ideal S1024x2048 .bf16) (x1 : Vec Ideal S2048x2048 .bf16) :
    out0_A_2 (F := Ideal) c i arg3 harg3 arg4 harg4 arg5 harg5 arg6 harg6 arg7 harg7 x0 x1 = k0_pay2 x0 x1 := by
  unfold out0_A_2
  rw [View.read_writes_junk_eq_canon]
  exact (View.canon_cons_unit_lit (by decide) _ [] (by decide)).trans
    (congrArg₂ _ (readAt_whole arg3 harg3 x0 (by decide) (by decide)) (readAt_whole arg4 harg4 x1 (by decide) (by decide)))

/-- What a grid point leaves in output window 3. -/
theorem out_3 (c : Dev nD) (i : grid0.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S8x128 .f32) (harg7 : arg7.IsWhole) (x0 : Vec Ideal S1024x2048 .bf16) (x1 : Vec Ideal S2048x2048 .bf16) :
    out0_A_3 (F := Ideal) c i arg3 harg3 arg4 harg4 arg5 harg5 arg6 harg6 arg7 harg7 x0 x1 = k0_pay3 x0 x1 := by
  unfold out0_A_3
  rw [View.read_writes_junk_eq_canon]
  exact (View.canon_cons_unit_lit (by decide) _ [] (by decide)).trans
    (congrArg₂ _ (readAt_whole arg3 harg3 x0 (by decide) (by decide)) (readAt_whole arg4 harg4 x1 (by decide) (by decide)))

/-- The row of the array that a row of the block of grid point `t` is. -/
def row (t : Fin cfg0.N) (i : Fin 1024) : Fin 4096 := ⟨1024 * (t.val / 4) + i.val, by
  have h : t.val < 16 := lt_of_lt_of_eq t.isLt (show cfg0.N = 16 from N_0); omega⟩
/-- The column of the array that a column of the block of grid point `t` is. -/
def col (t : Fin cfg0.N) (j : Fin 2048) : Fin 8192 := ⟨2048 * (t.val % 4) + j.val, by
  have h : t.val % 4 < 4 := Nat.mod_lt _ (by decide); omega⟩

/-! The block index of each window at each grid point. -/
/-- Window 0's. -/
theorem index_0 : ∀ t : Fin cfg0.N, win0_0.index t (0 : Fin 2) = t.val / 4 ∧ win0_0.index t (1 : Fin 2) = 0 :=
  (by decide +kernel : ∀ t : Fin grid0.N, _)
/-- Window 1's. -/
theorem index_1 : ∀ t : Fin cfg0.N, win0_1.index t (0 : Fin 2) = 0 ∧ win0_1.index t (1 : Fin 2) = t.val % 4 :=
  (by decide +kernel : ∀ t : Fin grid0.N, _)
/-- Window 2's. -/
theorem index_2 : ∀ t : Fin cfg0.N, win0_2.index t (0 : Fin 2) = t.val / 4 ∧ win0_2.index t (1 : Fin 2) = t.val % 4 :=
  (by decide +kernel : ∀ t : Fin grid0.N, _)
/-- Window 3's. -/
theorem index_3 : ∀ t : Fin cfg0.N, win0_3.index t (0 : Fin 2) = t.val / 4 ∧ win0_3.index t (1 : Fin 2) = t.val % 4 :=
  (by decide +kernel : ∀ t : Fin grid0.N, _)

/-! Where an entry of each window's block lies in its array. -/
/-- Window 0's. -/
theorem emb_0 (t : Fin cfg0.N) (i : Fin 1024) (j : Fin 2048) : ((cfg0.win 0).blk t).view.emb (ix2 i j)
    = (ix2 (row t i) j : S4096x2048.Idx) := by
  obtain ⟨e0, e1⟩ := index_0 t
  funext a; apply Fin.ext
  match a with
  | ⟨0, _⟩ => show win0_0.index t (0 : Fin 2) * 1024 + 1 * i.val = 1024 * (t.val / 4) + i.val; omega
  | ⟨1, _⟩ => show win0_0.index t (1 : Fin 2) * 2048 + 1 * j.val = j.val; omega
/-- Window 1's. -/
theorem emb_1 (t : Fin cfg0.N) (i : Fin 2048) (j : Fin 2048) : ((cfg0.win 1).blk t).view.emb (ix2 i j)
    = (ix2 i (col t j) : S2048x8192.Idx) := by
  obtain ⟨e0, e1⟩ := index_1 t
  funext a; apply Fin.ext
  match a with
  | ⟨0, _⟩ => show win0_1.index t (0 : Fin 2) * 2048 + 1 * i.val = i.val; omega
  | ⟨1, _⟩ => show win0_1.index t (1 : Fin 2) * 2048 + 1 * j.val = 2048 * (t.val % 4) + j.val; omega
/-- Window 2's. -/
theorem emb_2 (t : Fin cfg0.N) (i : Fin 1024) (j : Fin 2048) : ((cfg0.win 2).blk t).view.emb (ix2 i j)
    = (ix2 (row t i) (col t j) : S4096x8192.Idx) := by
  obtain ⟨e0, e1⟩ := index_2 t
  funext a; apply Fin.ext
  match a with
  | ⟨0, _⟩ => show win0_2.index t (0 : Fin 2) * 1024 + 1 * i.val = 1024 * (t.val / 4) + i.val; omega
  | ⟨1, _⟩ => show win0_2.index t (1 : Fin 2) * 2048 + 1 * j.val = 2048 * (t.val % 4) + j.val; omega
/-- Window 3's. -/
theorem emb_3 (t : Fin cfg0.N) (i : Fin 1024) (j : Fin 2048) : ((cfg0.win 3).blk t).view.emb (ix2 i j)
    = (ix2 (row t i) (col t j) : S4096x8192.Idx) := by
  obtain ⟨e0, e1⟩ := index_3 t
  funext a; apply Fin.ext
  match a with
  | ⟨0, _⟩ => show win0_3.index t (0 : Fin 2) * 1024 + 1 * i.val = 1024 * (t.val / 4) + i.val; omega
  | ⟨1, _⟩ => show win0_3.index t (1 : Fin 2) * 2048 + 1 * j.val = 2048 * (t.val % 4) + j.val; omega

section
variable (V : (c : Dev nD) → (b : Ref sig .tc) → Buf (Elt Ideal) ((c : Thread nD τ).loc b)) (c : Dev nD)

/-- The products of the two arrays the call reads. -/
abbrev prodAB : Mat 4096 8192 := nn (V c main_arg0 : Mat 4096 2048) (V c main_arg2 : Mat 2048 8192)

/-- The product of a point's blocks is its block of the product of the arrays. -/
theorem prod_block (t : Fin cfg0.N) (i : Fin 1024) (j : Fin 2048) :
    nn (iblk0 V c 0 t : Mat 1024 2048) (iblk0 V c 1 t : Mat 2048 2048) (ix2 i j) = prodAB V c (ix2 (row t i) (col t j)) :=
  nn_block (A := (V c main_arg0 : Mat 4096 2048)) (B := (V c main_arg2 : Mat 2048 8192)) (r := row t) (s := col t)
    (fun i l => congrArg (V c main_arg0 : Mat 4096 2048) (emb_0 t i l)) (fun l j => congrArg (V c main_arg2 : Mat 2048 8192) (emb_1 t l j)) i j

/-- The array of output 2 after the call. -/
def arr_2 : Mat 4096 8192 := prodAB V c

/-- What a point writes back to output 2 is its block of that array. -/
theorem flushed_2 (t : Fin cfg0.N) : (dat0 V c).flushed 2 t = ((cfg0.win 2).blk t).view.read (Elt Ideal) (arr_2 V c) := by
  show (cfg0.win 2).cut (grid0.coords t) ((dat0 V c).after 2 t) = _
  rw [after0_2]
  unfold outsAt0
  try dsimp only
  rw [out_2]
  funext y
  obtain ⟨i, j, rfl⟩ : ∃ (i : Fin 1024) (j : Fin 2048), y = (ix2 i j : S1024x2048.Idx) := ⟨y 0, y 1, eq_ix2 y⟩
  show (k0_pay2 (iblk0 V c 0 t) (iblk0 V c 1 t) : FVec Ideal S1024x2048 .bf16) (ix2 i j) = arr_2 V c (((cfg0.win 2).blk t).view.emb (ix2 i j))
  rw [emb_2, pay_2, prod_block]
  skip
  rfl

/-- After the call output 2 holds it. -/
theorem final_2 : ((dat0 V c).arrAt 2 cfg0.N : FVec Ideal S4096x8192 .bf16) = arr_2 V c := by
  have hN : cfg0.N = 16 := N_0
  refine (dat0 V c).arrAt_eq_of_cover 2 (arr_2 V c) (fun t _ => flushed_2 V c t) fun y => ?_
  obtain ⟨r, s, rfl⟩ : ∃ (r : Fin 4096) (s : Fin 8192), y = (ix2 r s : S4096x8192.Idx) := ⟨y 0, y 1, eq_ix2 y⟩
  have ht : 4 * (r.val / 1024) + s.val / 2048 < cfg0.N := by omega
  refine ⟨⟨4 * (r.val / 1024) + s.val / 2048, ht⟩, flush0_2 _, ?_⟩
  have hm := ((cfg0.win 2).blk ⟨4 * (r.val / 1024) + s.val / 2048, ht⟩).view.emb_mem_set
    (ix2 (⟨r.val % 1024, by omega⟩ : Fin 1024) (⟨s.val % 2048, by omega⟩ : Fin 2048))
  rw [emb_2] at hm
  have e : (ix2 r s : S4096x8192.Idx) = ix2 (row ⟨4 * (r.val / 1024) + s.val / 2048, ht⟩ (⟨r.val % 1024, by omega⟩ : Fin 1024))
      (col ⟨4 * (r.val / 1024) + s.val / 2048, ht⟩ (⟨s.val % 2048, by omega⟩ : Fin 2048)) := by
    funext a; apply Fin.ext
    match a with
    | ⟨0, _⟩ => show r.val = 1024 * ((4 * (r.val / 1024) + s.val / 2048) / 4) + r.val % 1024; omega
    | ⟨1, _⟩ => show s.val = 2048 * ((4 * (r.val / 1024) + s.val / 2048) % 4) + s.val % 2048; omega
  rw [e]; exact hm

/-- The array of output 3 after the call. -/
def arr_3 : Mat 4096 8192 := fun y => max (prodAB V c y) 0 * max (prodAB V c y) 0

/-- What a point writes back to output 3 is its block of that array. -/
theorem flushed_3 (t : Fin cfg0.N) : (dat0 V c).flushed 3 t = ((cfg0.win 3).blk t).view.read (Elt Ideal) (arr_3 V c) := by
  show (cfg0.win 3).cut (grid0.coords t) ((dat0 V c).after 3 t) = _
  rw [after0_3]
  unfold outsAt0
  try dsimp only
  rw [out_3]
  funext y
  obtain ⟨i, j, rfl⟩ : ∃ (i : Fin 1024) (j : Fin 2048), y = (ix2 i j : S1024x2048.Idx) := ⟨y 0, y 1, eq_ix2 y⟩
  show (k0_pay3 (iblk0 V c 0 t) (iblk0 V c 1 t) : FVec Ideal S1024x2048 .bf16) (ix2 i j) = arr_3 V c (((cfg0.win 3).blk t).view.emb (ix2 i j))
  rw [emb_3, pay_3, prod_block]
  skip
  rfl

/-- After the call output 3 holds it. -/
theorem final_3 : ((dat0 V c).arrAt 3 cfg0.N : FVec Ideal S4096x8192 .bf16) = arr_3 V c := by
  have hN : cfg0.N = 16 := N_0
  refine (dat0 V c).arrAt_eq_of_cover 3 (arr_3 V c) (fun t _ => flushed_3 V c t) fun y => ?_
  obtain ⟨r, s, rfl⟩ : ∃ (r : Fin 4096) (s : Fin 8192), y = (ix2 r s : S4096x8192.Idx) := ⟨y 0, y 1, eq_ix2 y⟩
  have ht : 4 * (r.val / 1024) + s.val / 2048 < cfg0.N := by omega
  refine ⟨⟨4 * (r.val / 1024) + s.val / 2048, ht⟩, flush0_3 _, ?_⟩
  have hm := ((cfg0.win 3).blk ⟨4 * (r.val / 1024) + s.val / 2048, ht⟩).view.emb_mem_set
    (ix2 (⟨r.val % 1024, by omega⟩ : Fin 1024) (⟨s.val % 2048, by omega⟩ : Fin 2048))
  rw [emb_3] at hm
  have e : (ix2 r s : S4096x8192.Idx) = ix2 (row ⟨4 * (r.val / 1024) + s.val / 2048, ht⟩ (⟨r.val % 1024, by omega⟩ : Fin 1024))
      (col ⟨4 * (r.val / 1024) + s.val / 2048, ht⟩ (⟨s.val % 2048, by omega⟩ : Fin 2048)) := by
    funext a; apply Fin.ext
    match a with
    | ⟨0, _⟩ => show r.val = 1024 * ((4 * (r.val / 1024) + s.val / 2048) / 4) + r.val % 1024; omega
    | ⟨1, _⟩ => show s.val = 2048 * ((4 * (r.val / 1024) + s.val / 2048) % 4) + s.val % 2048; omega
  rw [e]; exact hm

end

end Cert.MlpUp
end
end
-- ==== Proof.MlpDown.lean ====
/- The second product of the layer and the residual: what the result array holds after the call. -/
module

public import proofs.«01_k».proof.Proof.MatSpec
public import proofs.«01_k».proof.Proof.Gen.MlpIdeal.Frame

@[expose] public section

set_option maxRecDepth 16384

noncomputable section

open Idealize.ShloMosaic Idealize.ShloMosaic.TcCoe Idealize.ShloMosaic.ValueIdx Cert.MlpIdeal Cert.MlpIdeal.Gen Cert.MatSpec
open scoped BigOperators

namespace Cert.MlpDown

/-- The product of two blocks and what is added to it. -/
theorem pay_3 (a : Vec Ideal S1024x8192 .bf16) (b : Vec Ideal S8192x512 .bf16) (e : Vec Ideal S1024x512 .f32) (i : Fin 1024) (j : Fin 512) :
    (k1_pay1 a b e : FVec Ideal S1024x512 .f32) (ix2 i j) = (nn a b (ix2 i j) : EReal) + (e (ix2 i j) : EReal) := by
  have h : (FloatOps.matmul (DotDims.plain 1024 8192 512) none a b (constant _ .f32 0x00000000#32) : FVec Ideal S1024x512 .f32) (ix2 i j)
      = nn a b (ix2 i j) := congrFun (matmul_nn (φ := .bf16) (ψ := .bf16) a b) (ix2 i j)
  unfold k1_pay1
  rw [shapeCast_self]
  rw [← h]; rfl

/-- What a grid point leaves in output window 3. -/
theorem out_3 (c : Dev nD) (i : grid1.Coords) (arg3 : Memref sig .tc .vmem S1024x8192 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S8x128 .f32) (harg7 : arg7.IsWhole) (x0 : Vec Ideal S1024x8192 .bf16) (x1 : Vec Ideal S8192x512 .bf16) (x2 : Vec Ideal S1024x512 .f32) :
    out1_A_3 (F := Ideal) c i arg3 harg3 arg4 harg4 arg5 harg5 arg6 harg6 arg7 harg7 x0 x1 x2 = k1_pay1 x0 x1 x2 := by
  unfold out1_A_3
  rw [View.read_writes_junk_eq_canon]
  exact (View.canon_cons_unit_lit (by decide) _ [] (by decide)).trans
    (congrArg3 _ (readAt_whole arg3 harg3 x0 (by decide) (by decide)) (readAt_whole arg4 harg4 x1 (by decide) (by decide)) (readAt_whole arg5 harg5 x2 (by decide) (by decide)))

/-- The row of the array that a row of the block of grid point `t` is. -/
def row (t : Fin cfg1.N) (i : Fin 1024) : Fin 4096 := ⟨1024 * (t.val / 4) + i.val, by
  have h : t.val < 16 := lt_of_lt_of_eq t.isLt (show cfg1.N = 16 from N_1); omega⟩
/-- The column of the array that a column of the block of grid point `t` is. -/
def col (t : Fin cfg1.N) (j : Fin 512) : Fin 2048 := ⟨512 * (t.val % 4) + j.val, by
  have h : t.val % 4 < 4 := Nat.mod_lt _ (by decide); omega⟩

/-! The block index of each window at each grid point. -/
/-- Window 0's. -/
theorem index_0 : ∀ t : Fin cfg1.N, win1_0.index t (0 : Fin 2) = t.val / 4 ∧ win1_0.index t (1 : Fin 2) = 0 :=
  (by decide +kernel : ∀ t : Fin grid1.N, _)
/-- Window 1's. -/
theorem index_1 : ∀ t : Fin cfg1.N, win1_1.index t (0 : Fin 2) = 0 ∧ win1_1.index t (1 : Fin 2) = t.val % 4 :=
  (by decide +kernel : ∀ t : Fin grid1.N, _)
/-- Window 2's. -/
theorem index_2 : ∀ t : Fin cfg1.N, win1_2.index t (0 : Fin 2) = t.val / 4 ∧ win1_2.index t (1 : Fin 2) = t.val % 4 :=
  (by decide +kernel : ∀ t : Fin grid1.N, _)
/-- Window 3's. -/
theorem index_3 : ∀ t : Fin cfg1.N, win1_3.index t (0 : Fin 2) = t.val / 4 ∧ win1_3.index t (1 : Fin 2) = t.val % 4 :=
  (by decide +kernel : ∀ t : Fin grid1.N, _)

/-! Where an entry of each window's block lies in its array. -/
/-- Window 0's. -/
theorem emb_0 (t : Fin cfg1.N) (i : Fin 1024) (j : Fin 8192) : ((cfg1.win 0).blk t).view.emb (ix2 i j)
    = (ix2 (row t i) j : S4096x8192.Idx) := by
  obtain ⟨e0, e1⟩ := index_0 t
  funext a; apply Fin.ext
  match a with
  | ⟨0, _⟩ => show win1_0.index t (0 : Fin 2) * 1024 + 1 * i.val = 1024 * (t.val / 4) + i.val; omega
  | ⟨1, _⟩ => show win1_0.index t (1 : Fin 2) * 8192 + 1 * j.val = j.val; omega
/-- Window 1's. -/
theorem emb_1 (t : Fin cfg1.N) (i : Fin 8192) (j : Fin 512) : ((cfg1.win 1).blk t).view.emb (ix2 i j)
    = (ix2 i (col t j) : S8192x2048.Idx) := by
  obtain ⟨e0, e1⟩ := index_1 t
  funext a; apply Fin.ext
  match a with
  | ⟨0, _⟩ => show win1_1.index t (0 : Fin 2) * 8192 + 1 * i.val = i.val; omega
  | ⟨1, _⟩ => show win1_1.index t (1 : Fin 2) * 512 + 1 * j.val = 512 * (t.val % 4) + j.val; omega
/-- Window 2's. -/
theorem emb_2 (t : Fin cfg1.N) (i : Fin 1024) (j : Fin 512) : ((cfg1.win 2).blk t).view.emb (ix2 i j)
    = (ix2 (row t i) (col t j) : S4096x2048.Idx) := by
  obtain ⟨e0, e1⟩ := index_2 t
  funext a; apply Fin.ext
  match a with
  | ⟨0, _⟩ => show win1_2.index t (0 : Fin 2) * 1024 + 1 * i.val = 1024 * (t.val / 4) + i.val; omega
  | ⟨1, _⟩ => show win1_2.index t (1 : Fin 2) * 512 + 1 * j.val = 512 * (t.val % 4) + j.val; omega
/-- Window 3's. -/
theorem emb_3 (t : Fin cfg1.N) (i : Fin 1024) (j : Fin 512) : ((cfg1.win 3).blk t).view.emb (ix2 i j)
    = (ix2 (row t i) (col t j) : S4096x2048.Idx) := by
  obtain ⟨e0, e1⟩ := index_3 t
  funext a; apply Fin.ext
  match a with
  | ⟨0, _⟩ => show win1_3.index t (0 : Fin 2) * 1024 + 1 * i.val = 1024 * (t.val / 4) + i.val; omega
  | ⟨1, _⟩ => show win1_3.index t (1 : Fin 2) * 512 + 1 * j.val = 512 * (t.val % 4) + j.val; omega

section
variable (V : (c : Dev nD) → (b : Ref sig .tc) → Buf (Elt Ideal) ((c : Thread nD τ).loc b)) (c : Dev nD)

/-- The products of the two arrays the call reads. -/
abbrev prodAB : Mat 4096 2048 := nn (V c main_v0_1 : Mat 4096 8192) (V c main_arg3 : Mat 8192 2048)

/-- The product of a point's blocks is its block of the product of the arrays. -/
theorem prod_block (t : Fin cfg1.N) (i : Fin 1024) (j : Fin 512) :
    nn (iblk1 V c 0 t : Mat 1024 8192) (iblk1 V c 1 t : Mat 8192 512) (ix2 i j) = prodAB V c (ix2 (row t i) (col t j)) :=
  nn_block (A := (V c main_v0_1 : Mat 4096 8192)) (B := (V c main_arg3 : Mat 8192 2048)) (r := row t) (s := col t)
    (fun i l => congrArg (V c main_v0_1 : Mat 4096 8192) (emb_0 t i l)) (fun l j => congrArg (V c main_arg3 : Mat 8192 2048) (emb_1 t l j)) i j

/-- The third array the call reads. -/
abbrev extraE : Mat 4096 2048 := V c main_arg1

/-- The array of output 3 after the call. -/
def arr_3 : Mat 4096 2048 := fun y => (prodAB V c y) + (extraE V c y)

/-- What a point writes back to output 3 is its block of that array. -/
theorem flushed_3 (t : Fin cfg1.N) : (dat1 V c).flushed 3 t = ((cfg1.win 3).blk t).view.read (Elt Ideal) (arr_3 V c) := by
  show (cfg1.win 3).cut (grid1.coords t) ((dat1 V c).after 3 t) = _
  rw [after1_3]
  unfold outsAt1
  try dsimp only
  rw [out_3]
  funext y
  obtain ⟨i, j, rfl⟩ : ∃ (i : Fin 1024) (j : Fin 512), y = (ix2 i j : S1024x512.Idx) := ⟨y 0, y 1, eq_ix2 y⟩
  show (k1_pay1 (iblk1 V c 0 t) (iblk1 V c 1 t) (iblk1 V c 2 t) : FVec Ideal S1024x512 .f32) (ix2 i j) = arr_3 V c (((cfg1.win 3).blk t).view.emb (ix2 i j))
  rw [emb_3, pay_3, prod_block]
  rw [show (iblk1 V c 2 t : Mat 1024 512) (ix2 i j) = (V c main_arg1 : Mat 4096 2048) (ix2 (row t i) (col t j)) from congrArg (V c main_arg1 : Mat 4096 2048) (emb_2 t i j)]
  rfl

/-- After the call output 3 holds it. -/
theorem final_3 : ((dat1 V c).arrAt 3 cfg1.N : FVec Ideal S4096x2048 .f32) = arr_3 V c := by
  have hN : cfg1.N = 16 := N_1
  refine (dat1 V c).arrAt_eq_of_cover 3 (arr_3 V c) (fun t _ => flushed_3 V c t) fun y => ?_
  obtain ⟨r, s, rfl⟩ : ∃ (r : Fin 4096) (s : Fin 2048), y = (ix2 r s : S4096x2048.Idx) := ⟨y 0, y 1, eq_ix2 y⟩
  have ht : 4 * (r.val / 1024) + s.val / 512 < cfg1.N := by omega
  refine ⟨⟨4 * (r.val / 1024) + s.val / 512, ht⟩, flush1_3 _, ?_⟩
  have hm := ((cfg1.win 3).blk ⟨4 * (r.val / 1024) + s.val / 512, ht⟩).view.emb_mem_set
    (ix2 (⟨r.val % 1024, by omega⟩ : Fin 1024) (⟨s.val % 512, by omega⟩ : Fin 512))
  rw [emb_3] at hm
  have e : (ix2 r s : S4096x2048.Idx) = ix2 (row ⟨4 * (r.val / 1024) + s.val / 512, ht⟩ (⟨r.val % 1024, by omega⟩ : Fin 1024))
      (col ⟨4 * (r.val / 1024) + s.val / 512, ht⟩ (⟨s.val % 512, by omega⟩ : Fin 512)) := by
    funext a; apply Fin.ext
    match a with
    | ⟨0, _⟩ => show r.val = 1024 * ((4 * (r.val / 1024) + s.val / 512) / 4) + r.val % 1024; omega
    | ⟨1, _⟩ => show s.val = 512 * ((4 * (r.val / 1024) + s.val / 512) % 4) + s.val % 512; omega
  rw [e]; exact hm

end

end Cert.MlpDown
end
end
-- ==== Proof.MlpGradDown.lean ====
/- The gradient of the second weight: what the result array holds after the call. -/
module

public import proofs.«01_k».proof.Proof.MatSpec
public import proofs.«01_k».proof.Proof.Gen.MlpIdeal.Frame

@[expose] public section

set_option maxRecDepth 16384

noncomputable section

open Idealize.ShloMosaic Idealize.ShloMosaic.TcCoe Idealize.ShloMosaic.ValueIdx Cert.MlpIdeal Cert.MlpIdeal.Gen Cert.MatSpec
open scoped BigOperators

namespace Cert.MlpGradDown

/-- The product of two blocks. -/
theorem pay_2 (a : Vec Ideal S4096x1024 .bf16) (b : Vec Ideal S4096x1024 .bf16) (i : Fin 1024) (j : Fin 1024) :
    (k2_pay1 a b : FVec Ideal S1024x1024 .bf16) (ix2 i j) = (tn a b (ix2 i j) : EReal) := by
  unfold k2_pay1
  rw [shapeCast_self]
  exact congrFun (matmul_tn (φ := .bf16) (ψ := .bf16) a b) (ix2 i j)

/-- What a grid point leaves in output window 2. -/
theorem out_2 (c : Dev nD) (i : grid2.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S8x128 .f32) (harg6 : arg6.IsWhole) (x0 : Vec Ideal S4096x1024 .bf16) (x1 : Vec Ideal S4096x1024 .bf16) :
    out2_A_2 (F := Ideal) c i arg3 harg3 arg4 harg4 arg5 harg5 arg6 harg6 x0 x1 = k2_pay1 x0 x1 := by
  unfold out2_A_2
  rw [View.read_writes_junk_eq_canon]
  exact (View.canon_cons_unit_lit (by decide) _ [] (by decide)).trans
    (congrArg₂ _ (readAt_whole arg3 harg3 x0 (by decide) (by decide)) (readAt_whole arg4 harg4 x1 (by decide) (by decide)))

/-- The row of the array that a row of the block of grid point `t` is. -/
def row (t : Fin cfg2.N) (i : Fin 1024) : Fin 8192 := ⟨1024 * (t.val / 2) + i.val, by
  have h : t.val < 16 := lt_of_lt_of_eq t.isLt (show cfg2.N = 16 from N_2); omega⟩
/-- The column of the array that a column of the block of grid point `t` is. -/
def col (t : Fin cfg2.N) (j : Fin 1024) : Fin 2048 := ⟨1024 * (t.val % 2) + j.val, by
  have h : t.val % 2 < 2 := Nat.mod_lt _ (by decide); omega⟩

/-! The block index of each window at each grid point. -/
/-- Window 0's. -/
theorem index_0 : ∀ t : Fin cfg2.N, win2_0.index t (0 : Fin 2) = 0 ∧ win2_0.index t (1 : Fin 2) = t.val / 2 :=
  (by decide +kernel : ∀ t : Fin grid2.N, _)
/-- Window 1's. -/
theorem index_1 : ∀ t : Fin cfg2.N, win2_1.index t (0 : Fin 2) = 0 ∧ win2_1.index t (1 : Fin 2) = t.val % 2 :=
  (by decide +kernel : ∀ t : Fin grid2.N, _)
/-- Window 2's. -/
theorem index_2 : ∀ t : Fin cfg2.N, win2_2.index t (0 : Fin 2) = t.val / 2 ∧ win2_2.index t (1 : Fin 2) = t.val % 2 :=
  (by decide +kernel : ∀ t : Fin grid2.N, _)

/-! Where an entry of each window's block lies in its array. -/
/-- Window 0's. -/
theorem emb_0 (t : Fin cfg2.N) (i : Fin 4096) (j : Fin 1024) : ((cfg2.win 0).blk t).view.emb (ix2 i j)
    = (ix2 i (row t j) : S4096x8192.Idx) := by
  obtain ⟨e0, e1⟩ := index_0 t
  funext a; apply Fin.ext
  match a with
  | ⟨0, _⟩ => show win2_0.index t (0 : Fin 2) * 4096 + 1 * i.val = i.val; omega
  | ⟨1, _⟩ => show win2_0.index t (1 : Fin 2) * 1024 + 1 * j.val = 1024 * (t.val / 2) + j.val; omega
/-- Window 1's. -/
theorem emb_1 (t : Fin cfg2.N) (i : Fin 4096) (j : Fin 1024) : ((cfg2.win 1).blk t).view.emb (ix2 i j)
    = (ix2 i (col t j) : S4096x2048.Idx) := by
  obtain ⟨e0, e1⟩ := index_1 t
  funext a; apply Fin.ext
  match a with
  | ⟨0, _⟩ => show win2_1.index t (0 : Fin 2) * 4096 + 1 * i.val = i.val; omega
  | ⟨1, _⟩ => show win2_1.index t (1 : Fin 2) * 1024 + 1 * j.val = 1024 * (t.val % 2) + j.val; omega
/-- Window 2's. -/
theorem emb_2 (t : Fin cfg2.N) (i : Fin 1024) (j : Fin 1024) : ((cfg2.win 2).blk t).view.emb (ix2 i j)
    = (ix2 (row t i) (col t j) : S8192x2048.Idx) := by
  obtain ⟨e0, e1⟩ := index_2 t
  funext a; apply Fin.ext
  match a with
  | ⟨0, _⟩ => show win2_2.index t (0 : Fin 2) * 1024 + 1 * i.val = 1024 * (t.val / 2) + i.val; omega
  | ⟨1, _⟩ => show win2_2.index t (1 : Fin 2) * 1024 + 1 * j.val = 1024 * (t.val % 2) + j.val; omega

section
variable (V : (c : Dev nD) → (b : Ref sig .tc) → Buf (Elt Ideal) ((c : Thread nD τ).loc b)) (c : Dev nD)

/-- The products of the two arrays the call reads. -/
abbrev prodAB : Mat 8192 2048 := tn (V c main_v0_1 : Mat 4096 8192) (V c main_arg4 : Mat 4096 2048)

/-- The product of a point's blocks is its block of the product of the arrays. -/
theorem prod_block (t : Fin cfg2.N) (i : Fin 1024) (j : Fin 1024) :
    tn (iblk2 V c 0 t : Mat 4096 1024) (iblk2 V c 1 t : Mat 4096 1024) (ix2 i j) = prodAB V c (ix2 (row t i) (col t j)) :=
  tn_block (A := (V c main_v0_1 : Mat 4096 8192)) (B := (V c main_arg4 : Mat 4096 2048)) (r := row t) (s := col t)
    (fun i l => congrArg (V c main_v0_1 : Mat 4096 8192) (emb_0 t i l)) (fun l j => congrArg (V c main_arg4 : Mat 4096 2048) (emb_1 t l j)) i j

/-- The array of output 2 after the call. -/
def arr_2 : Mat 8192 2048 := prodAB V c

/-- What a point writes back to output 2 is its block of that array. -/
theorem flushed_2 (t : Fin cfg2.N) : (dat2 V c).flushed 2 t = ((cfg2.win 2).blk t).view.read (Elt Ideal) (arr_2 V c) := by
  show (cfg2.win 2).cut (grid2.coords t) ((dat2 V c).after 2 t) = _
  rw [after2_2]
  unfold outsAt2
  try dsimp only
  rw [out_2]
  funext y
  obtain ⟨i, j, rfl⟩ : ∃ (i : Fin 1024) (j : Fin 1024), y = (ix2 i j : S1024x1024.Idx) := ⟨y 0, y 1, eq_ix2 y⟩
  show (k2_pay1 (iblk2 V c 0 t) (iblk2 V c 1 t) : FVec Ideal S1024x1024 .bf16) (ix2 i j) = arr_2 V c (((cfg2.win 2).blk t).view.emb (ix2 i j))
  rw [emb_2, pay_2, prod_block]
  skip
  rfl

/-- After the call output 2 holds it. -/
theorem final_2 : ((dat2 V c).arrAt 2 cfg2.N : FVec Ideal S8192x2048 .bf16) = arr_2 V c := by
  have hN : cfg2.N = 16 := N_2
  refine (dat2 V c).arrAt_eq_of_cover 2 (arr_2 V c) (fun t _ => flushed_2 V c t) fun y => ?_
  obtain ⟨r, s, rfl⟩ : ∃ (r : Fin 8192) (s : Fin 2048), y = (ix2 r s : S8192x2048.Idx) := ⟨y 0, y 1, eq_ix2 y⟩
  have ht : 2 * (r.val / 1024) + s.val / 1024 < cfg2.N := by omega
  refine ⟨⟨2 * (r.val / 1024) + s.val / 1024, ht⟩, flush2_2 _, ?_⟩
  have hm := ((cfg2.win 2).blk ⟨2 * (r.val / 1024) + s.val / 1024, ht⟩).view.emb_mem_set
    (ix2 (⟨r.val % 1024, by omega⟩ : Fin 1024) (⟨s.val % 1024, by omega⟩ : Fin 1024))
  rw [emb_2] at hm
  have e : (ix2 r s : S8192x2048.Idx) = ix2 (row ⟨2 * (r.val / 1024) + s.val / 1024, ht⟩ (⟨r.val % 1024, by omega⟩ : Fin 1024))
      (col ⟨2 * (r.val / 1024) + s.val / 1024, ht⟩ (⟨s.val % 1024, by omega⟩ : Fin 1024)) := by
    funext a; apply Fin.ext
    match a with
    | ⟨0, _⟩ => show r.val = 1024 * ((2 * (r.val / 1024) + s.val / 1024) / 2) + r.val % 1024; omega
    | ⟨1, _⟩ => show s.val = 1024 * ((2 * (r.val / 1024) + s.val / 1024) % 2) + s.val % 1024; omega
  rw [e]; exact hm

end

end Cert.MlpGradDown
end
end
-- ==== Proof.MlpAct.lean ====
/- The gradient of the activation: what the result array holds after the call. -/
module

public import proofs.«01_k».proof.Proof.MatSpec
public import proofs.«01_k».proof.Proof.Gen.MlpIdeal.Frame

@[expose] public section

set_option maxRecDepth 16384

noncomputable section

open Idealize.ShloMosaic Idealize.ShloMosaic.TcCoe Idealize.ShloMosaic.ValueIdx Cert.MlpIdeal Cert.MlpIdeal.Gen Cert.MatSpec
open scoped BigOperators

namespace Cert.MlpAct

/-- The product of two blocks by twice the positive part of the activation. -/
theorem pay_3 (a : Vec Ideal S1024x2048 .bf16) (b : Vec Ideal S2048x2048 .bf16) (e : Vec Ideal S1024x2048 .bf16) (i : Fin 1024) (j : Fin 2048) :
    (k3_pay1 a b e : FVec Ideal S1024x2048 .bf16) (ix2 i j) = (nt a b (ix2 i j) : EReal) * (two * max (e (ix2 i j) : EReal) 0) := by
  have h : (FloatOps.matmul (DotDims.transposedRhs 1024 2048 2048) none a b (constant _ .f32 0x00000000#32) : FVec Ideal S1024x2048 .f32) (ix2 i j)
      = nt a b (ix2 i j) := congrFun (matmul_nt (φ := .bf16) (ψ := .bf16) a b) (ix2 i j)
  unfold k3_pay1
  rw [shapeCast_self]
  show (FloatOps.matmul (DotDims.transposedRhs 1024 2048 2048) none a b (constant _ .f32 0x00000000#32) : FVec Ideal S1024x2048 .f32) (ix2 i j)
    * (two * max (e (ix2 i j)) (Ideal.ofBits .f32 0x00000000#32)) = _
  rw [h, Ideal.ofBits_zero_f32]

/-- What a grid point leaves in output window 3. -/
theorem out_3 (c : Dev nD) (i : grid3.Coords) (arg3 : Memref sig .tc .vmem S1024x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S8x128 .f32) (harg7 : arg7.IsWhole) (x0 : Vec Ideal S1024x2048 .bf16) (x1 : Vec Ideal S2048x2048 .bf16) (x2 : Vec Ideal S1024x2048 .bf16) :
    out3_A_3 (F := Ideal) c i arg3 harg3 arg4 harg4 arg5 harg5 arg6 harg6 arg7 harg7 x0 x1 x2 = k3_pay1 x0 x1 x2 := by
  unfold out3_A_3
  rw [View.read_writes_junk_eq_canon]
  exact (View.canon_cons_unit_lit (by decide) _ [] (by decide)).trans
    (congrArg3 _ (readAt_whole arg3 harg3 x0 (by decide) (by decide)) (readAt_whole arg4 harg4 x1 (by decide) (by decide)) (readAt_whole arg5 harg5 x2 (by decide) (by decide)))

/-- The row of the array that a row of the block of grid point `t` is. -/
def row (t : Fin cfg3.N) (i : Fin 1024) : Fin 4096 := ⟨1024 * (t.val / 4) + i.val, by
  have h : t.val < 16 := lt_of_lt_of_eq t.isLt (show cfg3.N = 16 from N_3); omega⟩
/-- The column of the array that a column of the block of grid point `t` is. -/
def col (t : Fin cfg3.N) (j : Fin 2048) : Fin 8192 := ⟨2048 * (t.val % 4) + j.val, by
  have h : t.val % 4 < 4 := Nat.mod_lt _ (by decide); omega⟩

/-! The block index of each window at each grid point. -/
/-- Window 0's. -/
theorem index_0 : ∀ t : Fin cfg3.N, win3_0.index t (0 : Fin 2) = t.val / 4 ∧ win3_0.index t (1 : Fin 2) = 0 :=
  (by decide +kernel : ∀ t : Fin grid3.N, _)
/-- Window 1's. -/
theorem index_1 : ∀ t : Fin cfg3.N, win3_1.index t (0 : Fin 2) = t.val % 4 ∧ win3_1.index t (1 : Fin 2) = 0 :=
  (by decide +kernel : ∀ t : Fin grid3.N, _)
/-- Window 2's. -/
theorem index_2 : ∀ t : Fin cfg3.N, win3_2.index t (0 : Fin 2) = t.val / 4 ∧ win3_2.index t (1 : Fin 2) = t.val % 4 :=
  (by decide +kernel : ∀ t : Fin grid3.N, _)
/-- Window 3's. -/
theorem index_3 : ∀ t : Fin cfg3.N, win3_3.index t (0 : Fin 2) = t.val / 4 ∧ win3_3.index t (1 : Fin 2) = t.val % 4 :=
  (by decide +kernel : ∀ t : Fin grid3.N, _)

/-! Where an entry of each window's block lies in its array. -/
/-- Window 0's. -/
theorem emb_0 (t : Fin cfg3.N) (i : Fin 1024) (j : Fin 2048) : ((cfg3.win 0).blk t).view.emb (ix2 i j)
    = (ix2 (row t i) j : S4096x2048.Idx) := by
  obtain ⟨e0, e1⟩ := index_0 t
  funext a; apply Fin.ext
  match a with
  | ⟨0, _⟩ => show win3_0.index t (0 : Fin 2) * 1024 + 1 * i.val = 1024 * (t.val / 4) + i.val; omega
  | ⟨1, _⟩ => show win3_0.index t (1 : Fin 2) * 2048 + 1 * j.val = j.val; omega
/-- Window 1's. -/
theorem emb_1 (t : Fin cfg3.N) (i : Fin 2048) (j : Fin 2048) : ((cfg3.win 1).blk t).view.emb (ix2 i j)
    = (ix2 (col t i) j : S8192x2048.Idx) := by
  obtain ⟨e0, e1⟩ := index_1 t
  funext a; apply Fin.ext
  match a with
  | ⟨0, _⟩ => show win3_1.index t (0 : Fin 2) * 2048 + 1 * i.val = 2048 * (t.val % 4) + i.val; omega
  | ⟨1, _⟩ => show win3_1.index t (1 : Fin 2) * 2048 + 1 * j.val = j.val; omega
/-- Window 2's. -/
theorem emb_2 (t : Fin cfg3.N) (i : Fin 1024) (j : Fin 2048) : ((cfg3.win 2).blk t).view.emb (ix2 i j)
    = (ix2 (row t i) (col t j) : S4096x8192.Idx) := by
  obtain ⟨e0, e1⟩ := index_2 t
  funext a; apply Fin.ext
  match a with
  | ⟨0, _⟩ => show win3_2.index t (0 : Fin 2) * 1024 + 1 * i.val = 1024 * (t.val / 4) + i.val; omega
  | ⟨1, _⟩ => show win3_2.index t (1 : Fin 2) * 2048 + 1 * j.val = 2048 * (t.val % 4) + j.val; omega
/-- Window 3's. -/
theorem emb_3 (t : Fin cfg3.N) (i : Fin 1024) (j : Fin 2048) : ((cfg3.win 3).blk t).view.emb (ix2 i j)
    = (ix2 (row t i) (col t j) : S4096x8192.Idx) := by
  obtain ⟨e0, e1⟩ := index_3 t
  funext a; apply Fin.ext
  match a with
  | ⟨0, _⟩ => show win3_3.index t (0 : Fin 2) * 1024 + 1 * i.val = 1024 * (t.val / 4) + i.val; omega
  | ⟨1, _⟩ => show win3_3.index t (1 : Fin 2) * 2048 + 1 * j.val = 2048 * (t.val % 4) + j.val; omega

section
variable (V : (c : Dev nD) → (b : Ref sig .tc) → Buf (Elt Ideal) ((c : Thread nD τ).loc b)) (c : Dev nD)

/-- The products of the two arrays the call reads. -/
abbrev prodAB : Mat 4096 8192 := nt (V c main_arg4 : Mat 4096 2048) (V c main_arg3 : Mat 8192 2048)

/-- The product of a point's blocks is its block of the product of the arrays. -/
theorem prod_block (t : Fin cfg3.N) (i : Fin 1024) (j : Fin 2048) :
    nt (iblk3 V c 0 t : Mat 1024 2048) (iblk3 V c 1 t : Mat 2048 2048) (ix2 i j) = prodAB V c (ix2 (row t i) (col t j)) :=
  nt_block (A := (V c main_arg4 : Mat 4096 2048)) (B := (V c main_arg3 : Mat 8192 2048)) (r := row t) (s := col t)
    (fun i l => congrArg (V c main_arg4 : Mat 4096 2048) (emb_0 t i l)) (fun l j => congrArg (V c main_arg3 : Mat 8192 2048) (emb_1 t l j)) i j

/-- The third array the call reads. -/
abbrev extraE : Mat 4096 8192 := V c main_v0_0

/-- The array of output 3 after the call. -/
def arr_3 : Mat 4096 8192 := fun y => (prodAB V c y) * (two * max (extraE V c y) 0)

/-- What a point writes back to output 3 is its block of that array. -/
theorem flushed_3 (t : Fin cfg3.N) : (dat3 V c).flushed 3 t = ((cfg3.win 3).blk t).view.read (Elt Ideal) (arr_3 V c) := by
  show (cfg3.win 3).cut (grid3.coords t) ((dat3 V c).after 3 t) = _
  rw [after3_3]
  unfold outsAt3
  try dsimp only
  rw [out_3]
  funext y
  obtain ⟨i, j, rfl⟩ : ∃ (i : Fin 1024) (j : Fin 2048), y = (ix2 i j : S1024x2048.Idx) := ⟨y 0, y 1, eq_ix2 y⟩
  show (k3_pay1 (iblk3 V c 0 t) (iblk3 V c 1 t) (iblk3 V c 2 t) : FVec Ideal S1024x2048 .bf16) (ix2 i j) = arr_3 V c (((cfg3.win 3).blk t).view.emb (ix2 i j))
  rw [emb_3, pay_3, prod_block]
  rw [show (iblk3 V c 2 t : Mat 1024 2048) (ix2 i j) = (V c main_v0_0 : Mat 4096 8192) (ix2 (row t i) (col t j)) from congrArg (V c main_v0_0 : Mat 4096 8192) (emb_2 t i j)]
  rfl

/-- After the call output 3 holds it. -/
theorem final_3 : ((dat3 V c).arrAt 3 cfg3.N : FVec Ideal S4096x8192 .bf16) = arr_3 V c := by
  have hN : cfg3.N = 16 := N_3
  refine (dat3 V c).arrAt_eq_of_cover 3 (arr_3 V c) (fun t _ => flushed_3 V c t) fun y => ?_
  obtain ⟨r, s, rfl⟩ : ∃ (r : Fin 4096) (s : Fin 8192), y = (ix2 r s : S4096x8192.Idx) := ⟨y 0, y 1, eq_ix2 y⟩
  have ht : 4 * (r.val / 1024) + s.val / 2048 < cfg3.N := by omega
  refine ⟨⟨4 * (r.val / 1024) + s.val / 2048, ht⟩, flush3_3 _, ?_⟩
  have hm := ((cfg3.win 3).blk ⟨4 * (r.val / 1024) + s.val / 2048, ht⟩).view.emb_mem_set
    (ix2 (⟨r.val % 1024, by omega⟩ : Fin 1024) (⟨s.val % 2048, by omega⟩ : Fin 2048))
  rw [emb_3] at hm
  have e : (ix2 r s : S4096x8192.Idx) = ix2 (row ⟨4 * (r.val / 1024) + s.val / 2048, ht⟩ (⟨r.val % 1024, by omega⟩ : Fin 1024))
      (col ⟨4 * (r.val / 1024) + s.val / 2048, ht⟩ (⟨s.val % 2048, by omega⟩ : Fin 2048)) := by
    funext a; apply Fin.ext
    match a with
    | ⟨0, _⟩ => show r.val = 1024 * ((4 * (r.val / 1024) + s.val / 2048) / 4) + r.val % 1024; omega
    | ⟨1, _⟩ => show s.val = 2048 * ((4 * (r.val / 1024) + s.val / 2048) % 4) + s.val % 2048; omega
  rw [e]; exact hm

end

end Cert.MlpAct
end
end
-- ==== Proof.MlpGradUp.lean ====
/- The gradient of the first weight: what the result array holds after the call. -/
module

public import proofs.«01_k».proof.Proof.MatSpec
public import proofs.«01_k».proof.Proof.Gen.MlpIdeal.Frame

@[expose] public section

set_option maxRecDepth 16384

noncomputable section

open Idealize.ShloMosaic Idealize.ShloMosaic.TcCoe Idealize.ShloMosaic.ValueIdx Cert.MlpIdeal Cert.MlpIdeal.Gen Cert.MatSpec
open scoped BigOperators

namespace Cert.MlpGradUp

/-- The product of two blocks. -/
theorem pay_2 (a : Vec Ideal S4096x1024 .bf16) (b : Vec Ideal S4096x1024 .bf16) (i : Fin 1024) (j : Fin 1024) :
    (k4_pay1 a b : FVec Ideal S1024x1024 .bf16) (ix2 i j) = (tn a b (ix2 i j) : EReal) := by
  unfold k4_pay1
  rw [shapeCast_self]
  exact congrFun (matmul_tn (φ := .bf16) (ψ := .bf16) a b) (ix2 i j)

/-- What a grid point leaves in output window 2. -/
theorem out_2 (c : Dev nD) (i : grid4.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S8x128 .f32) (harg6 : arg6.IsWhole) (x0 : Vec Ideal S4096x1024 .bf16) (x1 : Vec Ideal S4096x1024 .bf16) :
    out4_A_2 (F := Ideal) c i arg3 harg3 arg4 harg4 arg5 harg5 arg6 harg6 x0 x1 = k4_pay1 x0 x1 := by
  unfold out4_A_2
  rw [View.read_writes_junk_eq_canon]
  exact (View.canon_cons_unit_lit (by decide) _ [] (by decide)).trans
    (congrArg₂ _ (readAt_whole arg3 harg3 x0 (by decide) (by decide)) (readAt_whole arg4 harg4 x1 (by decide) (by decide)))

/-- The row of the array that a row of the block of grid point `t` is. -/
def row (t : Fin cfg4.N) (i : Fin 1024) : Fin 2048 := ⟨1024 * (t.val / 8) + i.val, by
  have h : t.val < 16 := lt_of_lt_of_eq t.isLt (show cfg4.N = 16 from N_4); omega⟩
/-- The column of the array that a column of the block of grid point `t` is. -/
def col (t : Fin cfg4.N) (j : Fin 1024) : Fin 8192 := ⟨1024 * (t.val % 8) + j.val, by
  have h : t.val % 8 < 8 := Nat.mod_lt _ (by decide); omega⟩

/-! The block index of each window at each grid point. -/
/-- Window 0's. -/
theorem index_0 : ∀ t : Fin cfg4.N, win4_0.index t (0 : Fin 2) = 0 ∧ win4_0.index t (1 : Fin 2) = t.val / 8 :=
  (by decide +kernel : ∀ t : Fin grid4.N, _)
/-- Window 1's. -/
theorem index_1 : ∀ t : Fin cfg4.N, win4_1.index t (0 : Fin 2) = 0 ∧ win4_1.index t (1 : Fin 2) = t.val % 8 :=
  (by decide +kernel : ∀ t : Fin grid4.N, _)
/-- Window 2's. -/
theorem index_2 : ∀ t : Fin cfg4.N, win4_2.index t (0 : Fin 2) = t.val / 8 ∧ win4_2.index t (1 : Fin 2) = t.val % 8 :=
  (by decide +kernel : ∀ t : Fin grid4.N, _)

/-! Where an entry of each window's block lies in its array. -/
/-- Window 0's. -/
theorem emb_0 (t : Fin cfg4.N) (i : Fin 4096) (j : Fin 1024) : ((cfg4.win 0).blk t).view.emb (ix2 i j)
    = (ix2 i (row t j) : S4096x2048.Idx) := by
  obtain ⟨e0, e1⟩ := index_0 t
  funext a; apply Fin.ext
  match a with
  | ⟨0, _⟩ => show win4_0.index t (0 : Fin 2) * 4096 + 1 * i.val = i.val; omega
  | ⟨1, _⟩ => show win4_0.index t (1 : Fin 2) * 1024 + 1 * j.val = 1024 * (t.val / 8) + j.val; omega
/-- Window 1's. -/
theorem emb_1 (t : Fin cfg4.N) (i : Fin 4096) (j : Fin 1024) : ((cfg4.win 1).blk t).view.emb (ix2 i j)
    = (ix2 i (col t j) : S4096x8192.Idx) := by
  obtain ⟨e0, e1⟩ := index_1 t
  funext a; apply Fin.ext
  match a with
  | ⟨0, _⟩ => show win4_1.index t (0 : Fin 2) * 4096 + 1 * i.val = i.val; omega
  | ⟨1, _⟩ => show win4_1.index t (1 : Fin 2) * 1024 + 1 * j.val = 1024 * (t.val % 8) + j.val; omega
/-- Window 2's. -/
theorem emb_2 (t : Fin cfg4.N) (i : Fin 1024) (j : Fin 1024) : ((cfg4.win 2).blk t).view.emb (ix2 i j)
    = (ix2 (row t i) (col t j) : S2048x8192.Idx) := by
  obtain ⟨e0, e1⟩ := index_2 t
  funext a; apply Fin.ext
  match a with
  | ⟨0, _⟩ => show win4_2.index t (0 : Fin 2) * 1024 + 1 * i.val = 1024 * (t.val / 8) + i.val; omega
  | ⟨1, _⟩ => show win4_2.index t (1 : Fin 2) * 1024 + 1 * j.val = 1024 * (t.val % 8) + j.val; omega

section
variable (V : (c : Dev nD) → (b : Ref sig .tc) → Buf (Elt Ideal) ((c : Thread nD τ).loc b)) (c : Dev nD)

/-- The products of the two arrays the call reads. -/
abbrev prodAB : Mat 2048 8192 := tn (V c main_arg0 : Mat 4096 2048) (V c main_v3 : Mat 4096 8192)

/-- The product of a point's blocks is its block of the product of the arrays. -/
theorem prod_block (t : Fin cfg4.N) (i : Fin 1024) (j : Fin 1024) :
    tn (iblk4 V c 0 t : Mat 4096 1024) (iblk4 V c 1 t : Mat 4096 1024) (ix2 i j) = prodAB V c (ix2 (row t i) (col t j)) :=
  tn_block (A := (V c main_arg0 : Mat 4096 2048)) (B := (V c main_v3 : Mat 4096 8192)) (r := row t) (s := col t)
    (fun i l => congrArg (V c main_arg0 : Mat 4096 2048) (emb_0 t i l)) (fun l j => congrArg (V c main_v3 : Mat 4096 8192) (emb_1 t l j)) i j

/-- The array of output 2 after the call. -/
def arr_2 : Mat 2048 8192 := prodAB V c

/-- What a point writes back to output 2 is its block of that array. -/
theorem flushed_2 (t : Fin cfg4.N) : (dat4 V c).flushed 2 t = ((cfg4.win 2).blk t).view.read (Elt Ideal) (arr_2 V c) := by
  show (cfg4.win 2).cut (grid4.coords t) ((dat4 V c).after 2 t) = _
  rw [after4_2]
  unfold outsAt4
  try dsimp only
  rw [out_2]
  funext y
  obtain ⟨i, j, rfl⟩ : ∃ (i : Fin 1024) (j : Fin 1024), y = (ix2 i j : S1024x1024.Idx) := ⟨y 0, y 1, eq_ix2 y⟩
  show (k4_pay1 (iblk4 V c 0 t) (iblk4 V c 1 t) : FVec Ideal S1024x1024 .bf16) (ix2 i j) = arr_2 V c (((cfg4.win 2).blk t).view.emb (ix2 i j))
  rw [emb_2, pay_2, prod_block]
  skip
  rfl

/-- After the call output 2 holds it. -/
theorem final_2 : ((dat4 V c).arrAt 2 cfg4.N : FVec Ideal S2048x8192 .bf16) = arr_2 V c := by
  have hN : cfg4.N = 16 := N_4
  refine (dat4 V c).arrAt_eq_of_cover 2 (arr_2 V c) (fun t _ => flushed_2 V c t) fun y => ?_
  obtain ⟨r, s, rfl⟩ : ∃ (r : Fin 2048) (s : Fin 8192), y = (ix2 r s : S2048x8192.Idx) := ⟨y 0, y 1, eq_ix2 y⟩
  have ht : 8 * (r.val / 1024) + s.val / 1024 < cfg4.N := by omega
  refine ⟨⟨8 * (r.val / 1024) + s.val / 1024, ht⟩, flush4_2 _, ?_⟩
  have hm := ((cfg4.win 2).blk ⟨8 * (r.val / 1024) + s.val / 1024, ht⟩).view.emb_mem_set
    (ix2 (⟨r.val % 1024, by omega⟩ : Fin 1024) (⟨s.val % 1024, by omega⟩ : Fin 1024))
  rw [emb_2] at hm
  have e : (ix2 r s : S2048x8192.Idx) = ix2 (row ⟨8 * (r.val / 1024) + s.val / 1024, ht⟩ (⟨r.val % 1024, by omega⟩ : Fin 1024))
      (col ⟨8 * (r.val / 1024) + s.val / 1024, ht⟩ (⟨s.val % 1024, by omega⟩ : Fin 1024)) := by
    funext a; apply Fin.ext
    match a with
    | ⟨0, _⟩ => show r.val = 1024 * ((8 * (r.val / 1024) + s.val / 1024) / 8) + r.val % 1024; omega
    | ⟨1, _⟩ => show s.val = 1024 * ((8 * (r.val / 1024) + s.val / 1024) % 8) + s.val % 1024; omega
  rw [e]; exact hm

end

end Cert.MlpGradUp
end
end
-- ==== Proof.MlpIn.lean ====
/- The gradient of the layer's input: what the result array holds after the call. -/
module

public import proofs.«01_k».proof.Proof.MatSpec
public import proofs.«01_k».proof.Proof.Gen.MlpIdeal.Frame

@[expose] public section

set_option maxRecDepth 16384

noncomputable section

open Idealize.ShloMosaic Idealize.ShloMosaic.TcCoe Idealize.ShloMosaic.ValueIdx Cert.MlpIdeal Cert.MlpIdeal.Gen Cert.MatSpec
open scoped BigOperators

namespace Cert.MlpIn

/-- The product of two blocks. -/
theorem pay_2 (a : Vec Ideal S1024x8192 .bf16) (b : Vec Ideal S512x8192 .bf16) (i : Fin 1024) (j : Fin 512) :
    (k5_pay1 a b : FVec Ideal S1024x512 .bf16) (ix2 i j) = (nt a b (ix2 i j) : EReal) := by
  unfold k5_pay1
  rw [shapeCast_self]
  exact congrFun (matmul_nt (φ := .bf16) (ψ := .bf16) a b) (ix2 i j)

/-- What a grid point leaves in output window 2. -/
theorem out_2 (c : Dev nD) (i : grid5.Coords) (arg3 : Memref sig .tc .vmem S1024x8192 .bf16) (harg3 : arg3.IsWhole) (arg4 : Memref sig .tc .vmem S512x8192 .bf16) (harg4 : arg4.IsWhole) (arg5 : Memref sig .tc .vmem S1024x512 .bf16) (harg5 : arg5.IsWhole) (arg6 : Memref sig .tc .vmem S8x128 .f32) (harg6 : arg6.IsWhole) (x0 : Vec Ideal S1024x8192 .bf16) (x1 : Vec Ideal S512x8192 .bf16) :
    out5_A_2 (F := Ideal) c i arg3 harg3 arg4 harg4 arg5 harg5 arg6 harg6 x0 x1 = k5_pay1 x0 x1 := by
  unfold out5_A_2
  rw [View.read_writes_junk_eq_canon]
  exact (View.canon_cons_unit_lit (by decide) _ [] (by decide)).trans
    (congrArg₂ _ (readAt_whole arg3 harg3 x0 (by decide) (by decide)) (readAt_whole arg4 harg4 x1 (by decide) (by decide)))

/-- The row of the array that a row of the block of grid point `t` is. -/
def row (t : Fin cfg5.N) (i : Fin 1024) : Fin 4096 := ⟨1024 * (t.val / 4) + i.val, by
  have h : t.val < 16 := lt_of_lt_of_eq t.isLt (show cfg5.N = 16 from N_5); omega⟩
/-- The column of the array that a column of the block of grid point `t` is. -/
def col (t : Fin cfg5.N) (j : Fin 512) : Fin 2048 := ⟨512 * (t.val % 4) + j.val, by
  have h : t.val % 4 < 4 := Nat.mod_lt _ (by decide); omega⟩

/-! The block index of each window at each grid point. -/
/-- Window 0's. -/
theorem index_0 : ∀ t : Fin cfg5.N, win5_0.index t (0 : Fin 2) = t.val / 4 ∧ win5_0.index t (1 : Fin 2) = 0 :=
  (by decide +kernel : ∀ t : Fin grid5.N, _)
/-- Window 1's. -/
theorem index_1 : ∀ t : Fin cfg5.N, win5_1.index t (0 : Fin 2) = t.val % 4 ∧ win5_1.index t (1 : Fin 2) = 0 :=
  (by decide +kernel : ∀ t : Fin grid5.N, _)
/-- Window 2's. -/
theorem index_2 : ∀ t : Fin cfg5.N, win5_2.index t (0 : Fin 2) = t.val / 4 ∧ win5_2.index t (1 : Fin 2) = t.val % 4 :=
  (by decide +kernel : ∀ t : Fin grid5.N, _)

/-! Where an entry of each window's block lies in its array. -/
/-- Window 0's. -/
theorem emb_0 (t : Fin cfg5.N) (i : Fin 1024) (j : Fin 8192) : ((cfg5.win 0).blk t).view.emb (ix2 i j)
    = (ix2 (row t i) j : S4096x8192.Idx) := by
  obtain ⟨e0, e1⟩ := index_0 t
  funext a; apply Fin.ext
  match a with
  | ⟨0, _⟩ => show win5_0.index t (0 : Fin 2) * 1024 + 1 * i.val = 1024 * (t.val / 4) + i.val; omega
  | ⟨1, _⟩ => show win5_0.index t (1 : Fin 2) * 8192 + 1 * j.val = j.val; omega
/-- Window 1's. -/
theorem emb_1 (t : Fin cfg5.N) (i : Fin 512) (j : Fin 8192) : ((cfg5.win 1).blk t).view.emb (ix2 i j)
    = (ix2 (col t i) j : S2048x8192.Idx) := by
  obtain ⟨e0, e1⟩ := index_1 t
  funext a; apply Fin.ext
  match a with
  | ⟨0, _⟩ => show win5_1.index t (0 : Fin 2) * 512 + 1 * i.val = 512 * (t.val % 4) + i.val; omega
  | ⟨1, _⟩ => show win5_1.index t (1 : Fin 2) * 8192 + 1 * j.val = j.val; omega
/-- Window 2's. -/
theorem emb_2 (t : Fin cfg5.N) (i : Fin 1024) (j : Fin 512) : ((cfg5.win 2).blk t).view.emb (ix2 i j)
    = (ix2 (row t i) (col t j) : S4096x2048.Idx) := by
  obtain ⟨e0, e1⟩ := index_2 t
  funext a; apply Fin.ext
  match a with
  | ⟨0, _⟩ => show win5_2.index t (0 : Fin 2) * 1024 + 1 * i.val = 1024 * (t.val / 4) + i.val; omega
  | ⟨1, _⟩ => show win5_2.index t (1 : Fin 2) * 512 + 1 * j.val = 512 * (t.val % 4) + j.val; omega

section
variable (V : (c : Dev nD) → (b : Ref sig .tc) → Buf (Elt Ideal) ((c : Thread nD τ).loc b)) (c : Dev nD)

/-- The products of the two arrays the call reads. -/
abbrev prodAB : Mat 4096 2048 := nt (V c main_v3 : Mat 4096 8192) (V c main_arg2 : Mat 2048 8192)

/-- The product of a point's blocks is its block of the product of the arrays. -/
theorem prod_block (t : Fin cfg5.N) (i : Fin 1024) (j : Fin 512) :
    nt (iblk5 V c 0 t : Mat 1024 8192) (iblk5 V c 1 t : Mat 512 8192) (ix2 i j) = prodAB V c (ix2 (row t i) (col t j)) :=
  nt_block (A := (V c main_v3 : Mat 4096 8192)) (B := (V c main_arg2 : Mat 2048 8192)) (r := row t) (s := col t)
    (fun i l => congrArg (V c main_v3 : Mat 4096 8192) (emb_0 t i l)) (fun l j => congrArg (V c main_arg2 : Mat 2048 8192) (emb_1 t l j)) i j

/-- The array of output 2 after the call. -/
def arr_2 : Mat 4096 2048 := prodAB V c

/-- What a point writes back to output 2 is its block of that array. -/
theorem flushed_2 (t : Fin cfg5.N) : (dat5 V c).flushed 2 t = ((cfg5.win 2).blk t).view.read (Elt Ideal) (arr_2 V c) := by
  show (cfg5.win 2).cut (grid5.coords t) ((dat5 V c).after 2 t) = _
  rw [after5_2]
  unfold outsAt5
  try dsimp only
  rw [out_2]
  funext y
  obtain ⟨i, j, rfl⟩ : ∃ (i : Fin 1024) (j : Fin 512), y = (ix2 i j : S1024x512.Idx) := ⟨y 0, y 1, eq_ix2 y⟩
  show (k5_pay1 (iblk5 V c 0 t) (iblk5 V c 1 t) : FVec Ideal S1024x512 .bf16) (ix2 i j) = arr_2 V c (((cfg5.win 2).blk t).view.emb (ix2 i j))
  rw [emb_2, pay_2, prod_block]
  skip
  rfl

/-- After the call output 2 holds it. -/
theorem final_2 : ((dat5 V c).arrAt 2 cfg5.N : FVec Ideal S4096x2048 .bf16) = arr_2 V c := by
  have hN : cfg5.N = 16 := N_5
  refine (dat5 V c).arrAt_eq_of_cover 2 (arr_2 V c) (fun t _ => flushed_2 V c t) fun y => ?_
  obtain ⟨r, s, rfl⟩ : ∃ (r : Fin 4096) (s : Fin 2048), y = (ix2 r s : S4096x2048.Idx) := ⟨y 0, y 1, eq_ix2 y⟩
  have ht : 4 * (r.val / 1024) + s.val / 512 < cfg5.N := by omega
  refine ⟨⟨4 * (r.val / 1024) + s.val / 512, ht⟩, flush5_2 _, ?_⟩
  have hm := ((cfg5.win 2).blk ⟨4 * (r.val / 1024) + s.val / 512, ht⟩).view.emb_mem_set
    (ix2 (⟨r.val % 1024, by omega⟩ : Fin 1024) (⟨s.val % 512, by omega⟩ : Fin 512))
  rw [emb_2] at hm
  have e : (ix2 r s : S4096x2048.Idx) = ix2 (row ⟨4 * (r.val / 1024) + s.val / 512, ht⟩ (⟨r.val % 1024, by omega⟩ : Fin 1024))
      (col ⟨4 * (r.val / 1024) + s.val / 512, ht⟩ (⟨s.val % 512, by omega⟩ : Fin 512)) := by
    funext a; apply Fin.ext
    match a with
    | ⟨0, _⟩ => show r.val = 1024 * ((4 * (r.val / 1024) + s.val / 512) / 4) + r.val % 1024; omega
    | ⟨1, _⟩ => show s.val = 512 * ((4 * (r.val / 1024) + s.val / 512) % 4) + s.val % 512; omega
  rw [e]; exact hm

end

end Cert.MlpIn
end
end
-- ==== Proof.MlpRun.lean ====
/- The run of the layer's six calls: what the result arrays hold at the end. -/
module

public import proofs.«01_k».proof.Proof.MlpSpec
public import proofs.«01_k».proof.Proof.MlpUp
public import proofs.«01_k».proof.Proof.MlpDown
public import proofs.«01_k».proof.Proof.MlpGradDown
public import proofs.«01_k».proof.Proof.MlpAct
public import proofs.«01_k».proof.Proof.MlpGradUp
public import proofs.«01_k».proof.Proof.MlpIn

@[expose] public section

set_option maxRecDepth 16384

noncomputable section

namespace Cert.MlpRun

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MlpIdeal Cert.MlpIdeal.Gen Cert.MatSpec Cert.MlpSpec

section
variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every fair execution ends, and every buffer of the program then holds what the six calls leave in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)
end

section
variable (m : (ℓ : Loc nD τ sig) → Buf (Elt Ideal) ℓ) (ρ : Dev nD → PrngReg) (c : Dev nD)

/-- The layer's input. -/
abbrev aX : Mat 4096 2048 := m ((c : Thread nD τ).loc main_arg0)
/-- The residual. -/
abbrev aH : Mat 4096 2048 := m ((c : Thread nD τ).loc main_arg1)
/-- The first weight. -/
abbrev aU : Mat 2048 8192 := m ((c : Thread nD τ).loc main_arg2)
/-- The second weight. -/
abbrev aD : Mat 8192 2048 := m ((c : Thread nD τ).loc main_arg3)
/-- The gradient that comes in. -/
abbrev aT : Mat 4096 2048 := m ((c : Thread nD τ).loc main_arg4)

/-- The first product after the first call. -/
theorem at1_act : (W1 m ρ c main_v0_0 : Mat 4096 8192) = act (aX m c) (aU m c) :=
  (W1_arr m ρ c 2).trans (MlpUp.final_2 (V0 m ρ) c)
/-- The square of its positive part after the first call. -/
theorem at1_sq : (W1 m ρ c main_v0_1 : Mat 4096 8192) = sq (aX m c) (aU m c) :=
  (W1_arr m ρ c 3).trans (MlpUp.final_3 (V0 m ρ) c)

/-- The layer's result after the second call. -/
theorem at2_res : (W2 m ρ c main_v1 : Mat 4096 2048) = res (aX m c) (aH m c) (aU m c) (aD m c) := by
  refine (W2_arr m ρ c 3).trans ((MlpDown.final_3 (V1 m ρ) c).trans ?_)
  funext y
  show nn (W1 m ρ c main_v0_1 : Mat 4096 8192) (W1 m ρ c main_arg3 : Mat 8192 2048) y + (W1 m ρ c main_arg1 : Mat 4096 2048) y = _
  rw [at1_sq, W1_args m ρ c main_arg3 (by decide), W1_args m ρ c main_arg1 (by decide)]; rfl
/-- The square is left alone by the second call, -/
theorem at2_sq : (W2 m ρ c main_v0_1 : Mat 4096 8192) = sq (aX m c) (aU m c) :=
  (W2_of m ρ c main_v0_1 (by decide)).trans (at1_sq m ρ c)
/-- and the first product by the second and the third. -/
theorem at3_act : (W3 m ρ c main_v0_0 : Mat 4096 8192) = act (aX m c) (aU m c) :=
  (W3_of m ρ c main_v0_0 (by decide)).trans ((W2_of m ρ c main_v0_0 (by decide)).trans (at1_act m ρ c))

/-- The gradient of the second weight after the third call. -/
theorem at3_gradD : (W3 m ρ c main_v2 : Mat 8192 2048) = gradD (aX m c) (aU m c) (aT m c) := by
  refine (W3_arr m ρ c 2).trans ((MlpGradDown.final_2 (V2 m ρ) c).trans ?_)
  show tn (W2 m ρ c main_v0_1 : Mat 4096 8192) (W2 m ρ c main_arg4 : Mat 4096 2048) = _
  rw [at2_sq, W2_args m ρ c main_arg4 (by decide)]; rfl

/-- The gradient of the first product after the fourth call. -/
theorem at4_gradAct : (W4 m ρ c main_v3 : Mat 4096 8192) = gradAct (aX m c) (aU m c) (aD m c) (aT m c) := by
  refine (W4_arr m ρ c 3).trans ((MlpAct.final_3 (V3 m ρ) c).trans ?_)
  funext y
  show nt (W3 m ρ c main_arg4 : Mat 4096 2048) (W3 m ρ c main_arg3 : Mat 8192 2048) y * (two * max (α := EReal) ((W3 m ρ c main_v0_0 : Mat 4096 8192) y) 0) = _
  rw [at3_act, W3_args m ρ c main_arg3 (by decide), W3_args m ρ c main_arg4 (by decide)]; rfl

/-- The gradient of the first weight after the fifth call. -/
theorem at5_gradU : (W5 m ρ c main_v4 : Mat 2048 8192) = gradU (aX m c) (aU m c) (aD m c) (aT m c) := by
  refine (W5_arr m ρ c 2).trans ((MlpGradUp.final_2 (V4 m ρ) c).trans ?_)
  show tn (W4 m ρ c main_arg0 : Mat 4096 2048) (W4 m ρ c main_v3 : Mat 4096 8192) = _
  rw [at4_gradAct, W4_args m ρ c main_arg0 (by decide)]; rfl

/-- The gradient of the layer's input after the sixth call. -/
theorem at6_gradX : (W6 m ρ c main_v5 : Mat 4096 2048) = gradX (aX m c) (aU m c) (aD m c) (aT m c) := by
  refine (W6_arr m ρ c 2).trans ((MlpIn.final_2 (V5 m ρ) c).trans ?_)
  show nt (W5 m ρ c main_v3 : Mat 4096 8192) (W5 m ρ c main_arg2 : Mat 2048 8192) = _
  rw [show (W5 m ρ c main_v3 : Mat 4096 8192) = _ from (W5_of m ρ c main_v3 (by decide)).trans (at4_gradAct m ρ c), W5_args m ρ c main_arg2 (by decide)]; rfl

/-- The layer's result at the end. -/
theorem end_res : (W6 m ρ c main_v1 : Mat 4096 2048) = res (aX m c) (aH m c) (aU m c) (aD m c) :=
  (W6_of m ρ c main_v1 (by decide)).trans ((W5_of m ρ c main_v1 (by decide)).trans ((W4_of m ρ c main_v1 (by decide)).trans
    ((W3_of m ρ c main_v1 (by decide)).trans (at2_res m ρ c))))
/-- The gradient of the second weight at the end. -/
theorem end_gradD : (W6 m ρ c main_v2 : Mat 8192 2048) = gradD (aX m c) (aU m c) (aT m c) :=
  (W6_of m ρ c main_v2 (by decide)).trans ((W5_of m ρ c main_v2 (by decide)).trans ((W4_of m ρ c main_v2 (by decide)).trans (at3_gradD m ρ c)))
/-- The gradient of the first weight at the end. -/
theorem end_gradU : (W6 m ρ c main_v4 : Mat 2048 8192) = gradU (aX m c) (aU m c) (aD m c) (aT m c) :=
  (W6_of m ρ c main_v4 (by decide)).trans (at5_gradU m ρ c)
end

/-- Every fair execution ends with the four results at what they should hold, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v1) = res (aX m c) (aH m c) (aU m c) (aD m c)
      ∧ r.2.mem ((c : Thread nD τ).loc main_v2) = gradD (aX m c) (aU m c) (aT m c)
      ∧ r.2.mem ((c : Thread nD τ).loc main_v4) = gradU (aX m c) (aU m c) (aD m c) (aT m c)
      ∧ r.2.mem ((c : Thread nD τ).loc main_v5) = gradX (aX m c) (aU m c) (aD m c) (aT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c =>
    ⟨(h c _ (mem_uc main_v1 (by decide))).trans (end_res m ρ c),
      (h c _ (mem_uc main_v2 (by decide))).trans (end_gradD m ρ c),
      (h c _ (mem_uc main_v4 (by decide))).trans (end_gradU m ρ c),
      (h c _ (mem_uc main_v5 (by decide))).trans (at6_gradX m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c)⟩)
    (run_all m ρ)

end Cert.MlpRun
end
end
-- ==== Proof.MlpRef.lean ====
/- What the layer's reference computes. -/
module

public import proofs.«01_k».proof.Proof.MlpSpec
public import proofs.«01_k».proof.Proof.Gen.MlpReferenceIdeal.Read

@[expose] public section

set_option maxRecDepth 16384

noncomputable section

open Idealize.ShloMosaic Idealize.ShloMosaic.ValueIdx Cert.MatSpec Cert.MlpSpec
open Cert.MlpReferenceIdeal Cert.MlpReferenceIdeal.Read
open scoped BigOperators

namespace Cert.MlpRef

section
variable (X : FVec Ideal S4096x2048 .bf16) (H : FVec Ideal S4096x2048 .f32) (U : FVec Ideal S2048x8192 .bf16)
  (D : FVec Ideal S8192x2048 .bf16) (T : FVec Ideal S4096x2048 .bf16)

/-- The first product. -/
theorem v3_eq (r : Fin 4096) (s : Fin 8192) :
    (val_main_v3 (F := Ideal) X U : FVec Ideal S4096x8192 .f32) (ix2 r s) = act X U (ix2 r s) := by
  rw [val_main_v3_apply]
  show _ = nn X U (ix2 r s)
  refine Finset.sum_congr (M := EReal) rfl fun l _ => ?_
  have e1 : lidx_main_v3 (ix2 r s) l = ix2 r l := by funext a; match a with | ⟨0, _⟩ => rfl | ⟨1, _⟩ => rfl
  have e2 : ridx_main_v3 (ix2 r s) l = ix2 l s := by funext a; match a with | ⟨0, _⟩ => rfl | ⟨1, _⟩ => rfl
  rw [e1, e2]; rfl

/-- Its positive part. -/
theorem v4_eq (r : Fin 4096) (s : Fin 8192) :
    (val_main_v4 (F := Ideal) X U : FVec Ideal S4096x8192 .f32) (ix2 r s) = max (act X U (ix2 r s)) 0 := by
  rw [val_main_v4_apply, v3_eq]
  show max (act X U (ix2 r s)) (Ideal.ofBits .f32 0x00000000#32) = _
  rw [Ideal.ofBits_zero_f32]

/-- The square of that. -/
theorem v8_eq (r : Fin 4096) (s : Fin 8192) :
    (val_main_v8 (F := Ideal) X U : FVec Ideal S4096x8192 .f32) (ix2 r s) = sq X U (ix2 r s) := by
  rw [val_main_v8_apply, v4_eq]; rfl

/-- The layer's result. -/
theorem out_h : (val_main_v12 (F := Ideal) X H U D : FVec Ideal S4096x2048 .f32) = res X H U D := by
  funext y
  obtain ⟨r, s, rfl⟩ : ∃ (r : Fin 4096) (s : Fin 2048), y = (ix2 r s : S4096x2048.Idx) := ⟨y 0, y 1, eq_ix2 y⟩
  rw [val_main_v12_apply, val_main_v11_apply]
  have h : (∑ k : Fin 8192, (val_main_v8 (F := Ideal) X U) (lidx_main_v11 (ix2 r s) k) * (val_main_v2 (F := Ideal) D) (ridx_main_v11 (ix2 r s) k) : EReal)
      = nn (sq X U) D (ix2 r s) := by
    refine Finset.sum_congr (M := EReal) rfl fun l _ => ?_
    have e1 : lidx_main_v11 (ix2 r s) l = ix2 r l := by funext a; match a with | ⟨0, _⟩ => rfl | ⟨1, _⟩ => rfl
    have e2 : ridx_main_v11 (ix2 r s) l = ix2 l s := by funext a; match a with | ⟨0, _⟩ => rfl | ⟨1, _⟩ => rfl
    rw [e1, e2, v8_eq]; rfl
  rw [h]
  exact add_comm (H (ix2 r s) : EReal) (nn (sq X U) D (ix2 r s))

/-- The gradient of the second weight. -/
theorem out_d : (val_main_v23 (F := Ideal) X U T : FVec Ideal S8192x2048 .bf16) = gradD X U T := by
  funext y
  obtain ⟨r, s, rfl⟩ : ∃ (r : Fin 8192) (s : Fin 2048), y = (ix2 r s : S8192x2048.Idx) := ⟨y 0, y 1, eq_ix2 y⟩
  rw [val_main_v23_apply, Ideal.truncf_def, val_main_v15_apply]
  have e0 : idx_main_v15 (ix2 r s) = ix2 s r := by funext a; match a with | ⟨0, _⟩ => rfl | ⟨1, _⟩ => rfl
  rw [e0, val_main_v14_apply]
  show _ = tn (sq X U) T (ix2 r s)
  refine Finset.sum_congr (M := EReal) rfl fun l _ => ?_
  have e1 : lidx_main_v14 (ix2 s r) l = ix2 l s := by funext a; match a with | ⟨0, _⟩ => rfl | ⟨1, _⟩ => rfl
  have e2 : ridx_main_v14 (ix2 s r) l = ix2 l r := by funext a; match a with | ⟨0, _⟩ => rfl | ⟨1, _⟩ => rfl
  rw [e1, e2, v8_eq]
  exact mul_comm (T (ix2 l s) : EReal) (sq X U (ix2 l r))

/-- The gradient of the first product. -/
theorem v19_eq (r : Fin 4096) (s : Fin 8192) :
    (val_main_v19 (F := Ideal) X U D T : FVec Ideal S4096x8192 .f32) (ix2 r s) = gradAct X U D T (ix2 r s) := by
  have h16 : (val_main_v16 (F := Ideal) D T : FVec Ideal S4096x8192 .f32) (ix2 r s) = nt T D (ix2 r s) := by
    rw [val_main_v16_apply]
    refine Finset.sum_congr (M := EReal) rfl fun l _ => ?_
    have e1 : lidx_main_v16 (ix2 r s) l = ix2 r l := by funext a; match a with | ⟨0, _⟩ => rfl | ⟨1, _⟩ => rfl
    have e2 : ridx_main_v16 (ix2 r s) l = ix2 s l := by funext a; match a with | ⟨0, _⟩ => rfl | ⟨1, _⟩ => rfl
    rw [e1, e2]; rfl
  have h17 : (val_main_v17 (F := Ideal) X U D T : FVec Ideal S4096x8192 .f32) (ix2 r s)
      = nt T D (ix2 r s) * (two * max (act X U (ix2 r s)) 0) := by
    rw [val_main_v17_apply, val_main_v10_apply, h16, v4_eq]; rfl
  have h6 : val_main_v6 (F := Ideal) X U (ix2 r s) = Ideal.cmp .ogt (act X U (ix2 r s)) 0 := by
    rw [val_main_v6_apply, v3_eq]
    show Ideal.cmp .ogt (act X U (ix2 r s)) (Ideal.ofBits .f32 0x00000000#32) = _
    rw [Ideal.ofBits_zero_f32]
  have h18 : (val_main_v18 (F := Ideal) : FVec Ideal S4096x8192 .f32) (ix2 r s) = (0 : EReal) := Ideal.ofBits_zero_f32
  rw [val_main_v19_apply, h17, h6, h18, gradAct_select]
  simp only [Scalar.select, Ideal.cmp]
  by_cases hp : 0 < act X U (ix2 r s) <;> simp [hp]

/-- The gradient of the first weight. -/
theorem out_u : (val_main_v24 (F := Ideal) X U D T : FVec Ideal S2048x8192 .bf16) = gradU X U D T := by
  funext y
  obtain ⟨r, s, rfl⟩ : ∃ (r : Fin 2048) (s : Fin 8192), y = (ix2 r s : S2048x8192.Idx) := ⟨y 0, y 1, eq_ix2 y⟩
  rw [val_main_v24_apply, Ideal.truncf_def, val_main_v21_apply]
  have e0 : idx_main_v21 (ix2 r s) = ix2 s r := by funext a; match a with | ⟨0, _⟩ => rfl | ⟨1, _⟩ => rfl
  rw [e0, val_main_v20_apply]
  show _ = tn X (gradAct X U D T) (ix2 r s)
  refine Finset.sum_congr (M := EReal) rfl fun l _ => ?_
  have e1 : lidx_main_v20 (ix2 s r) l = ix2 l s := by funext a; match a with | ⟨0, _⟩ => rfl | ⟨1, _⟩ => rfl
  have e2 : ridx_main_v20 (ix2 s r) l = ix2 l r := by funext a; match a with | ⟨0, _⟩ => rfl | ⟨1, _⟩ => rfl
  rw [e1, e2, v19_eq]
  exact mul_comm (gradAct X U D T (ix2 l s)) (X (ix2 l r) : EReal)

/-- The gradient of the layer's input. -/
theorem out_x : (val_main_v25 (F := Ideal) X U D T : FVec Ideal S4096x2048 .bf16) = gradX X U D T := by
  funext y
  obtain ⟨r, s, rfl⟩ : ∃ (r : Fin 4096) (s : Fin 2048), y = (ix2 r s : S4096x2048.Idx) := ⟨y 0, y 1, eq_ix2 y⟩
  rw [val_main_v25_apply, Ideal.truncf_def, val_main_v22_apply]
  show _ = nt (gradAct X U D T) U (ix2 r s)
  refine Finset.sum_congr (M := EReal) rfl fun l _ => ?_
  have e1 : lidx_main_v22 (ix2 r s) l = ix2 r l := by funext a; match a with | ⟨0, _⟩ => rfl | ⟨1, _⟩ => rfl
  have e2 : ridx_main_v22 (ix2 r s) l = ix2 s l := by funext a; match a with | ⟨0, _⟩ => rfl | ⟨1, _⟩ => rfl
  rw [e1, e2, v19_eq]; rfl
end

end Cert.MlpRef
end
end
-- ==== Proof.MlpEquation.lean ====
/- The value claim of the layer: the six calls and the reference leave the same four arrays. -/
module

public import proofs.«01_k».proof.Defs
public import proofs.«01_k».proof.Proof.MlpRun
public import proofs.«01_k».proof.Proof.MlpRef

@[expose] public section

set_option maxRecDepth 16384

noncomputable section

open Idealize.ShloMosaic Idealize.ShloMosaic.ValueIdx Idealize.SL.Sem Cert.MatSpec Cert.MlpSpec Cert.MlpRun

namespace Cert.MlpEquation

/-- The value claim. -/
theorem algebraic : Cert.algebraic_MlpIdeal_MlpReferenceIdeal := by
  intro m g m' g' _ hm
  refine ⟨fun c => res (aX m c) (aH m c) (aU m c) (aD m c), fun c => gradD (aX m c) (aU m c) (aT m c),
    fun c => gradU (aX m c) (aU m c) (aD m c) (aT m c), fun c => gradX (aX m c) (aU m c) (aD m c) (aT m c), run_value m g, ?_⟩
  refine (θ_run Cert.MlpReferenceIdeal.defs _ _).mono (fun r h c => ?_) (Cert.MlpReferenceIdeal.Value.run (F := Ideal) m' g')
  obtain ⟨h0, h1, h2, h3, h4⟩ := h c
  obtain ⟨e0, e1, e2, e3, e4⟩ := hm c
  rw [Cert.MlpReferenceIdeal.Read.val_main_v12_eq, e0, e1, e2, e3, Cert.MlpRef.out_h] at h0
  rw [Cert.MlpReferenceIdeal.Read.val_main_v23_eq, e0, e2, e4, Cert.MlpRef.out_d] at h1
  rw [Cert.MlpReferenceIdeal.Read.val_main_v24_eq, e0, e2, e3, e4, Cert.MlpRef.out_u] at h2
  rw [Cert.MlpReferenceIdeal.Read.val_main_v25_eq, e0, e2, e3, e4, Cert.MlpRef.out_x] at h3
  exact ⟨h0, h1, h2, h3, h4⟩

end Cert.MlpEquation
end
end
-- ==== Proof.NormSpec.lean ====
/- The root-mean-square norm of the rows of a matrix of extended reals, and how a kernel's lines compute it. -/
module

public import proofs.«01_k».proof.Proof.MatSpec
public import proofs.«01_k».proof.Proof.RealOps

@[expose] public section

set_option maxRecDepth 16384

noncomputable section

open Idealize.ShloMosaic Idealize.ShloMosaic.ValueIdx Cert.MatSpec Cert.RealOps
open scoped BigOperators

namespace Cert.NormSpec

/-- The number of entries of a row, as the program writes it. -/
abbrev cols : EReal := Ideal.ofBits .f32 0x45000000#32
/-- What is added to the mean square of a row, as the program writes it. -/
abbrev eps : EReal := Ideal.ofBits .f32 0x358637BD#32

section
variable {m n M : ℕ}

/-- The mean of a row. -/
def mean (w : Fin n → EReal) : EReal := Ideal.div (∑ l, w l) cols
/-- The factor the norm multiplies a row by: the inverse root of its mean square. -/
def scale (X : Mat m n) (r : Fin m) : EReal := Ideal.rsqrt (mean (fun l => X (ix2 r l) * X (ix2 r l)) + eps)
/-- The norm of the rows of a matrix, times the gain of each column. -/
def norm (X : Mat m n) (g : Mat 1 n) : Mat m n := fun y => X y * scale X (y 0 : Fin m) * g (ix2 (0 : Fin 1) (y 1 : Fin n))

/-- The factor of a row of a block is that of the row of the matrix. -/
theorem scale_block {X : Mat M n} {x : Mat m n} {r : Fin m → Fin M} (h : ∀ i l, x (ix2 i l) = X (ix2 (r i) l)) (i : Fin m) :
    scale x i = scale X (r i) := by
  have e : (fun l => x (ix2 i l) * x (ix2 i l)) = fun l => X (ix2 (r i) l) * X (ix2 (r i) l) := funext fun l => by rw [h]
  unfold scale
  rw [e]
/-- A block of rows of the norm is the norm of the block. -/
theorem norm_block {X : Mat M n} {x : Mat m n} {g g' : Mat 1 n} {r : Fin m → Fin M} (h : ∀ i l, x (ix2 i l) = X (ix2 (r i) l))
    (hg : ∀ l, g' (ix2 0 l) = g (ix2 0 l)) (i : Fin m) (j : Fin n) : norm x g' (ix2 i j) = norm X g (ix2 (r i) j) := by
  show x (ix2 i j) * scale x i * g' (ix2 0 j) = X (ix2 (r i) j) * scale X (r i) * g (ix2 0 j)
  rw [scale_block h, h, hg]

variable (hr : (⟨2, ![m, n]⟩ : Shape).Reduces [1] ⟨1, ![m]⟩) (hφ : FKind.Formats .f32) (ha : 0x00000000#32 = FKind.add.neutral .f32 hφ)
  (hc : (⟨1, ![m]⟩ : Shape).ShapeCasts ⟨2, ![m, 1]⟩)

/-- A kernel's mean of the rows. -/
abbrev meanLines (v : FVec Ideal ⟨2, ![m, n]⟩ .f32) : FVec Ideal ⟨2, ![m, 1]⟩ .f32 :=
  divf (shapeCast ⟨2, ![m, 1]⟩ (multiReduction .add [1] ⟨1, ![m]⟩ v 0x00000000#32 hr hφ ha) hc)
    (broadcast ⟨2, ![m, 1]⟩ (Scalar.ofBits (F := Ideal) .f32 0x45000000#32))
/-- A kernel's factor of the rows. -/
abbrev scaleLines (x : FVec Ideal ⟨2, ![m, n]⟩ .f32) : FVec Ideal ⟨2, ![m, 1]⟩ .f32 :=
  rsqrt (addf (meanLines hr hφ ha hc (mulf x x)) (broadcast ⟨2, ![m, 1]⟩ (Scalar.ofBits (F := Ideal) .f32 0x358637BD#32)))

/-- It is the mean. -/
theorem meanLines_apply (v : FVec Ideal ⟨2, ![m, n]⟩ .f32) (i : Fin m) (j : Fin 1) :
    meanLines hr hφ ha hc v (ix2 i j) = mean fun l => (v (ix2 i l) : EReal) := by
  show Ideal.div ((shapeCast ⟨2, ![m, 1]⟩ (multiReduction .add [1] ⟨1, ![m]⟩ v 0x00000000#32 hr hφ ha) hc : FVec Ideal _ .f32) (ix2 i j)) cols = _
  rw [column_apply, Ideal.multiReduction_add_single]
  exact congrArg (fun s => Ideal.div s cols) (Finset.sum_congr (M := EReal) rfl fun l _ => congrArg v (lift_row hr i l))
/-- It is the factor. -/
theorem scaleLines_apply (x : FVec Ideal ⟨2, ![m, n]⟩ .f32) (i : Fin m) (j : Fin 1) :
    scaleLines hr hφ ha hc x (ix2 i j) = scale (x : Mat m n) i := by
  show Ideal.rsqrt ((meanLines hr hφ ha hc (mulf x x) (ix2 i j) : EReal) + eps) = _
  rw [meanLines_apply]
  rfl

/-- A column spread along the rows. -/
theorem spread_apply (c : FVec Ideal ⟨2, ![m, 1]⟩ .f32) (h : (⟨2, ![m, 1]⟩ : Shape).Broadcasts ⟨2, ![m, n]⟩) (hm : m ≠ 1) (i : Fin m) (j : Fin n) :
    (broadcastTo (⟨2, ![m, n]⟩ : Shape) c h : FVec Ideal _ .f32) (ix2 i j) = c (ix2 i 0) :=
  broadcastTo_apply c h (ix2 i j) (ix2 i 0) (fun a => by
    match a with
    | ⟨0, _⟩ => exact (if_neg (show ¬ m = 1 from hm)).symm
    | ⟨1, _⟩ => rfl)
/-- A row spread along the columns. -/
theorem spreadRow_apply (g : FVec Ideal ⟨2, ![1, n]⟩ .f32) (h : (⟨2, ![1, n]⟩ : Shape).Broadcasts ⟨2, ![m, n]⟩) (hn : n ≠ 1) (i : Fin m) (j : Fin n) :
    (broadcastTo (⟨2, ![m, n]⟩ : Shape) g h : FVec Ideal _ .f32) (ix2 i j) = g (ix2 0 j) :=
  broadcastTo_apply g h (ix2 i j) (ix2 0 j) (fun a => by
    match a with
    | ⟨0, _⟩ => rfl
    | ⟨1, _⟩ => exact (if_neg (show ¬ n = 1 from hn)).symm)

/-- A kernel's norm is the norm. -/
theorem normLines_apply (x : FVec Ideal ⟨2, ![m, n]⟩ .f32) (g : FVec Ideal ⟨2, ![1, n]⟩ .f32) (hs : (⟨2, ![m, 1]⟩ : Shape).Broadcasts ⟨2, ![m, n]⟩)
    (hg : (⟨2, ![1, n]⟩ : Shape).Broadcasts ⟨2, ![m, n]⟩) (hm : m ≠ 1) (hn : n ≠ 1) (i : Fin m) (j : Fin n) :
    (mulf (mulf x (broadcastTo (⟨2, ![m, n]⟩ : Shape) (scaleLines hr hφ ha hc x) hs)) (broadcastTo (⟨2, ![m, n]⟩ : Shape) g hg) : FVec Ideal _ .f32) (ix2 i j)
      = norm (x : Mat m n) (g : Mat 1 n) (ix2 i j) := by
  show (x (ix2 i j) : EReal) * (broadcastTo (⟨2, ![m, n]⟩ : Shape) (scaleLines hr hφ ha hc x) hs : FVec Ideal _ .f32) (ix2 i j)
    * (broadcastTo (⟨2, ![m, n]⟩ : Shape) g hg : FVec Ideal _ .f32) (ix2 i j) = _
  rw [spread_apply _ _ hm, spreadRow_apply _ _ hn, scaleLines_apply]
  rfl
end

end Cert.NormSpec
end
end
-- ==== Proof.OutSpec.lean ====
/- What the calls around the output projection compute, as plain sums. -/
module

public import proofs.«01_k».proof.Proof.NormSpec

@[expose] public section

noncomputable section

open Idealize.ShloMosaic Idealize.ShloMosaic.ValueIdx Cert.MatSpec Cert.NormSpec

namespace Cert.OutSpec
variable (O : Mat 4096 2048) (W : Mat 2048 2048) (X : Mat 4096 2048) (g : Mat 1 2048) (T : Mat 4096 2048)

/-- The stream after the attention: the projected heads and the residual. -/
def resid : Mat 4096 2048 := fun y => nn O W y + X y
/-- The layer's input: its norm. -/
def mlpIn : Mat 4096 2048 := norm (resid O W X) g
/-- The gradient of the output weight. -/
def gradW : Mat 2048 2048 := tn O T
/-- The gradient of the heads' outputs. -/
def gradO : Mat 4096 2048 := nt T W

end Cert.OutSpec
end
end
-- ==== Proof.OutProj.lean ====
/- The output projection, the residual and the norm before the layer: what the two result arrays hold after the call. -/
module

public import proofs.«01_k».proof.Proof.NormSpec
public import proofs.«01_k».proof.Proof.Gen.OutIdeal.Frame

@[expose] public section

set_option maxRecDepth 16384

noncomputable section

open Idealize.ShloMosaic Idealize.ShloMosaic.TcCoe Idealize.ShloMosaic.ValueIdx Cert.OutIdeal Cert.OutIdeal.Gen Cert.MatSpec Cert.NormSpec
open scoped BigOperators

namespace Cert.OutProj

/-- The product of two blocks and the residual. -/
theorem pay_4 (a : Vec Ideal S512x2048 .bf16) (b : Vec Ideal S2048x2048 .bf16) (e : Vec Ideal S512x2048 .f32) (i : Fin 512) (j : Fin 2048) :
    (k0_pay1 a b e : FVec Ideal S512x2048 .f32) (ix2 i j) = (nn a b (ix2 i j) : EReal) + (e (ix2 i j) : EReal) := by
  have h : (FloatOps.matmul (DotDims.plain 512 2048 2048) none a b (constant _ .f32 0x00000000#32) : FVec Ideal S512x2048 .f32) (ix2 i j)
      = nn a b (ix2 i j) := congrFun (matmul_nn (φ := .bf16) (ψ := .bf16) a b) (ix2 i j)
  unfold k0_pay1
  rw [← h]; rfl
/-- The norm of that. -/
theorem pay_5 (a : Vec Ideal S512x2048 .bf16) (b : Vec Ideal S2048x2048 .bf16) (e : Vec Ideal S512x2048 .f32) (g : Vec Ideal S1x2048 .f32)
    (i : Fin 512) (j : Fin 2048) :
    (k0_pay2 a b e g : FVec Ideal S512x2048 .bf16) (ix2 i j) = norm (k0_pay1 a b e : Mat 512 2048) (g : Mat 1 2048) (ix2 i j) :=
  normLines_apply reduces_S512x2048_S512 (.inl rfl) rfl shapeCasts_S512_S512x1 (k0_pay1 a b e) g broadcasts_S512x1_S512x2048
    broadcasts_S1x2048_S512x2048 (by norm_num) (by norm_num) i j

/-- What a grid point leaves in output window 4. -/
theorem out_4 (c : Dev nD) (i : grid0.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S8x128 .f32) (harg9 : arg9.IsWhole)
    (x0 : Vec Ideal S512x2048 .bf16) (x1 : Vec Ideal S2048x2048 .bf16) (x2 : Vec Ideal S512x2048 .f32) (x3 : Vec Ideal S1x2048 .f32) : out0_A_4 (F := Ideal) c i arg3 harg3 arg4 harg4 arg5 harg5 arg6 harg6 arg7 harg7 arg8 harg8 arg9 harg9 x0 x1 x2 x3 = k0_pay1 x0 x1 x2 := by
  unfold out0_A_4
  rw [View.read_writes_junk_eq_canon]
  exact (View.canon_cons_unit_lit (by decide) _ [] (by decide)).trans
    (congrArg3 _ (readAt_whole arg3 harg3 x0 (by decide) (by decide)) (readAt_whole arg4 harg4 x1 (by decide) (by decide)) (readAt_whole arg5 harg5 x2 (by decide) (by decide)))
/-- What a grid point leaves in output window 5. -/
theorem out_5 (c : Dev nD) (i : grid0.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S8x128 .f32) (harg9 : arg9.IsWhole)
    (x0 : Vec Ideal S512x2048 .bf16) (x1 : Vec Ideal S2048x2048 .bf16) (x2 : Vec Ideal S512x2048 .f32) (x3 : Vec Ideal S1x2048 .f32) : out0_A_5 (F := Ideal) c i arg3 harg3 arg4 harg4 arg5 harg5 arg6 harg6 arg7 harg7 arg8 harg8 arg9 harg9 x0 x1 x2 x3 = k0_pay2 x0 x1 x2 x3 := by
  unfold out0_A_5
  rw [View.read_writes_junk_eq_canon]
  refine (View.canon_cons_unit_lit (by decide) _ [] (by decide)).trans ?_
  rw [(readAt_whole arg3 harg3 x0 (by decide) (by decide)), (readAt_whole arg4 harg4 x1 (by decide) (by decide)), (readAt_whole arg5 harg5 x2 (by decide) (by decide)), (readAt_whole arg6 harg6 x3 (by decide) (by decide))]

/-- The row of the array that a row of the block of grid point `t` is. -/
def row (t : Fin cfg0.N) (i : Fin 512) : Fin 4096 := ⟨512 * t.val + i.val, by
  have h : t.val < 8 := lt_of_lt_of_eq t.isLt (show cfg0.N = 8 from N_0); omega⟩

/-- Where window 0's block lies at each grid point. -/
theorem index_0 : ∀ t : Fin cfg0.N, win0_0.index t (0 : Fin 2) = t.val ∧ win0_0.index t (1 : Fin 2) = 0 :=
  (by decide +kernel : ∀ t : Fin grid0.N, _)
/-- Where an entry of window 0's block lies in its array. -/
theorem emb_0 (t : Fin cfg0.N) (i : Fin 512) (j : Fin 2048) : ((cfg0.win 0).blk t).view.emb (ix2 i j)
    = (ix2 (row t i) j : S4096x2048.Idx) := by
  obtain ⟨e0, e1⟩ := index_0 t
  funext a; apply Fin.ext
  match a with
  | ⟨0, _⟩ => show win0_0.index t (0 : Fin 2) * 512 + 1 * i.val = 512 * t.val + i.val; omega
  | ⟨1, _⟩ => show win0_0.index t (1 : Fin 2) * 2048 + 1 * j.val = j.val; omega

/-- Where window 1's block lies at each grid point. -/
theorem index_1 : ∀ t : Fin cfg0.N, win0_1.index t (0 : Fin 2) = 0 ∧ win0_1.index t (1 : Fin 2) = 0 :=
  (by decide +kernel : ∀ t : Fin grid0.N, _)
/-- Where an entry of window 1's block lies in its array. -/
theorem emb_1 (t : Fin cfg0.N) (i : Fin 2048) (j : Fin 2048) : ((cfg0.win 1).blk t).view.emb (ix2 i j)
    = (ix2 i j : S2048x2048.Idx) := by
  obtain ⟨e0, e1⟩ := index_1 t
  funext a; apply Fin.ext
  match a with
  | ⟨0, _⟩ => show win0_1.index t (0 : Fin 2) * 2048 + 1 * i.val = i.val; omega
  | ⟨1, _⟩ => show win0_1.index t (1 : Fin 2) * 2048 + 1 * j.val = j.val; omega

/-- Where window 2's block lies at each grid point. -/
theorem index_2 : ∀ t : Fin cfg0.N, win0_2.index t (0 : Fin 2) = t.val ∧ win0_2.index t (1 : Fin 2) = 0 :=
  (by decide +kernel : ∀ t : Fin grid0.N, _)
/-- Where an entry of window 2's block lies in its array. -/
theorem emb_2 (t : Fin cfg0.N) (i : Fin 512) (j : Fin 2048) : ((cfg0.win 2).blk t).view.emb (ix2 i j)
    = (ix2 (row t i) j : S4096x2048.Idx) := by
  obtain ⟨e0, e1⟩ := index_2 t
  funext a; apply Fin.ext
  match a with
  | ⟨0, _⟩ => show win0_2.index t (0 : Fin 2) * 512 + 1 * i.val = 512 * t.val + i.val; omega
  | ⟨1, _⟩ => show win0_2.index t (1 : Fin 2) * 2048 + 1 * j.val = j.val; omega

/-- Where window 3's block lies at each grid point. -/
theorem index_3 : ∀ t : Fin cfg0.N, win0_3.index t (0 : Fin 2) = 0 ∧ win0_3.index t (1 : Fin 2) = 0 :=
  (by decide +kernel : ∀ t : Fin grid0.N, _)
/-- Where an entry of window 3's block lies in its array. -/
theorem emb_3 (t : Fin cfg0.N) (i : Fin 1) (j : Fin 2048) : ((cfg0.win 3).blk t).view.emb (ix2 i j)
    = (ix2 i j : S1x2048.Idx) := by
  obtain ⟨e0, e1⟩ := index_3 t
  funext a; apply Fin.ext
  match a with
  | ⟨0, _⟩ => show win0_3.index t (0 : Fin 2) * 1 + 1 * i.val = i.val; omega
  | ⟨1, _⟩ => show win0_3.index t (1 : Fin 2) * 2048 + 1 * j.val = j.val; omega

/-- Where window 4's block lies at each grid point. -/
theorem index_4 : ∀ t : Fin cfg0.N, win0_4.index t (0 : Fin 2) = t.val ∧ win0_4.index t (1 : Fin 2) = 0 :=
  (by decide +kernel : ∀ t : Fin grid0.N, _)
/-- Where an entry of window 4's block lies in its array. -/
theorem emb_4 (t : Fin cfg0.N) (i : Fin 512) (j : Fin 2048) : ((cfg0.win 4).blk t).view.emb (ix2 i j)
    = (ix2 (row t i) j : S4096x2048.Idx) := by
  obtain ⟨e0, e1⟩ := index_4 t
  funext a; apply Fin.ext
  match a with
  | ⟨0, _⟩ => show win0_4.index t (0 : Fin 2) * 512 + 1 * i.val = 512 * t.val + i.val; omega
  | ⟨1, _⟩ => show win0_4.index t (1 : Fin 2) * 2048 + 1 * j.val = j.val; omega

/-- Where window 5's block lies at each grid point. -/
theorem index_5 : ∀ t : Fin cfg0.N, win0_5.index t (0 : Fin 2) = t.val ∧ win0_5.index t (1 : Fin 2) = 0 :=
  (by decide +kernel : ∀ t : Fin grid0.N, _)
/-- Where an entry of window 5's block lies in its array. -/
theorem emb_5 (t : Fin cfg0.N) (i : Fin 512) (j : Fin 2048) : ((cfg0.win 5).blk t).view.emb (ix2 i j)
    = (ix2 (row t i) j : S4096x2048.Idx) := by
  obtain ⟨e0, e1⟩ := index_5 t
  funext a; apply Fin.ext
  match a with
  | ⟨0, _⟩ => show win0_5.index t (0 : Fin 2) * 512 + 1 * i.val = 512 * t.val + i.val; omega
  | ⟨1, _⟩ => show win0_5.index t (1 : Fin 2) * 2048 + 1 * j.val = j.val; omega

section
variable (V : (c : Dev nD) → (b : Ref sig .tc) → Buf (Elt Ideal) ((c : Thread nD τ).loc b)) (c : Dev nD)

/-- The products of the two arrays the call reads. -/
abbrev prodAB : Mat 4096 2048 := nn (V c main_arg0 : Mat 4096 2048) (V c main_arg1 : Mat 2048 2048)
/-- The residual. -/
abbrev extraE : Mat 4096 2048 := V c main_arg2

/-- The product of a point's blocks is its block of the product of the arrays. -/
theorem prod_block (t : Fin cfg0.N) (i : Fin 512) (j : Fin 2048) :
    nn (iblk0 V c 0 t : Mat 512 2048) (iblk0 V c 1 t : Mat 2048 2048) (ix2 i j) = prodAB V c (ix2 (row t i) j) :=
  nn_block (A := (V c main_arg0 : Mat 4096 2048)) (B := (V c main_arg1 : Mat 2048 2048)) (r := row t) (s := fun j => j)
    (fun i l => congrArg (V c main_arg0 : Mat 4096 2048) (emb_0 t i l)) (fun l j => by have h := congrArg (V c main_arg1 : Mat 2048 2048) (emb_1 t l j); exact h) i j

/-- The first array after the call. -/
def arr_4 : Mat 4096 2048 := fun y => prodAB V c y + extraE V c y
/-- The second array after the call. -/
def arr_5 : Mat 4096 2048 := norm (arr_4 V c) (V c main_arg3 : Mat 1 2048)

/-- A point computes its block of the first array. -/
theorem block_4 (t : Fin cfg0.N) (i : Fin 512) (j : Fin 2048) :
    (k0_pay1 (iblk0 V c 0 t) (iblk0 V c 1 t) (iblk0 V c 2 t) : FVec Ideal S512x2048 .f32) (ix2 i j) = arr_4 V c (ix2 (row t i) j) := by
  rw [pay_4, prod_block]
  rw [show (iblk0 V c 2 t : Mat 512 2048) (ix2 i j) = extraE V c (ix2 (row t i) j) from congrArg (extraE V c) (emb_2 t i j)]
  rfl

/-- What a point writes back to the first output is its block of that array. -/
theorem flushed_4 (t : Fin cfg0.N) : (dat0 V c).flushed 4 t = ((cfg0.win 4).blk t).view.read (Elt Ideal) (arr_4 V c) := by
  show (cfg0.win 4).cut (grid0.coords t) ((dat0 V c).after 4 t) = _
  rw [after0_4]
  unfold outsAt0
  dsimp only
  rw [out_4]
  funext y
  obtain ⟨i, j, rfl⟩ : ∃ (i : Fin 512) (j : Fin 2048), y = (ix2 i j : S512x2048.Idx) := ⟨y 0, y 1, eq_ix2 y⟩
  show (k0_pay1 (iblk0 V c 0 t) (iblk0 V c 1 t) (iblk0 V c 2 t) : FVec Ideal S512x2048 .f32) (ix2 i j) = arr_4 V c (((cfg0.win 4).blk t).view.emb (ix2 i j))
  rw [emb_4, block_4]

/-- What a point writes back to the second output is its block of that array. -/
theorem flushed_5 (t : Fin cfg0.N) : (dat0 V c).flushed 5 t = ((cfg0.win 5).blk t).view.read (Elt Ideal) (arr_5 V c) := by
  show (cfg0.win 5).cut (grid0.coords t) ((dat0 V c).after 5 t) = _
  rw [after0_5]
  unfold outsAt0
  dsimp only
  rw [out_5]
  funext y
  obtain ⟨i, j, rfl⟩ : ∃ (i : Fin 512) (j : Fin 2048), y = (ix2 i j : S512x2048.Idx) := ⟨y 0, y 1, eq_ix2 y⟩
  show (k0_pay2 (iblk0 V c 0 t) (iblk0 V c 1 t) (iblk0 V c 2 t) (iblk0 V c 3 t) : FVec Ideal S512x2048 .bf16) (ix2 i j)
    = arr_5 V c (((cfg0.win 5).blk t).view.emb (ix2 i j))
  rw [emb_5, pay_5]
  exact norm_block (X := arr_4 V c) (g := (V c main_arg3 : Mat 1 2048)) (r := row t)
    (block_4 V c t) (fun l => by have h := congrArg (V c main_arg3 : Mat 1 2048) (emb_3 t 0 l); exact h) i j

/-- After the call output 4 holds it. -/
theorem final_4 : ((dat0 V c).arrAt 4 cfg0.N : FVec Ideal S4096x2048 .f32) = arr_4 V c := by
  have hN : cfg0.N = 8 := N_0
  refine (dat0 V c).arrAt_eq_of_cover 4 (arr_4 V c) (fun t _ => flushed_4 V c t) fun y => ?_
  obtain ⟨r, s, rfl⟩ : ∃ (r : Fin 4096) (s : Fin 2048), y = (ix2 r s : S4096x2048.Idx) := ⟨y 0, y 1, eq_ix2 y⟩
  have ht : r.val / 512 < cfg0.N := by omega
  refine ⟨⟨r.val / 512, ht⟩, flush0_4 _, ?_⟩
  have hm := ((cfg0.win 4).blk ⟨r.val / 512, ht⟩).view.emb_mem_set (ix2 (⟨r.val % 512, by omega⟩ : Fin 512) s)
  rw [emb_4] at hm
  have e : (ix2 r s : S4096x2048.Idx) = ix2 (row ⟨r.val / 512, ht⟩ (⟨r.val % 512, by omega⟩ : Fin 512)) s := by
    funext a; apply Fin.ext
    match a with
    | ⟨0, _⟩ => show r.val = 512 * (r.val / 512) + r.val % 512; omega
    | ⟨1, _⟩ => rfl
  rw [e]; exact hm

/-- After the call output 5 holds it. -/
theorem final_5 : ((dat0 V c).arrAt 5 cfg0.N : FVec Ideal S4096x2048 .bf16) = arr_5 V c := by
  have hN : cfg0.N = 8 := N_0
  refine (dat0 V c).arrAt_eq_of_cover 5 (arr_5 V c) (fun t _ => flushed_5 V c t) fun y => ?_
  obtain ⟨r, s, rfl⟩ : ∃ (r : Fin 4096) (s : Fin 2048), y = (ix2 r s : S4096x2048.Idx) := ⟨y 0, y 1, eq_ix2 y⟩
  have ht : r.val / 512 < cfg0.N := by omega
  refine ⟨⟨r.val / 512, ht⟩, flush0_5 _, ?_⟩
  have hm := ((cfg0.win 5).blk ⟨r.val / 512, ht⟩).view.emb_mem_set (ix2 (⟨r.val % 512, by omega⟩ : Fin 512) s)
  rw [emb_5] at hm
  have e : (ix2 r s : S4096x2048.Idx) = ix2 (row ⟨r.val / 512, ht⟩ (⟨r.val % 512, by omega⟩ : Fin 512)) s := by
    funext a; apply Fin.ext
    match a with
    | ⟨0, _⟩ => show r.val = 512 * (r.val / 512) + r.val % 512; omega
    | ⟨1, _⟩ => rfl
  rw [e]; exact hm

end

end Cert.OutProj
end
end
-- ==== Proof.OutGradW.lean ====
/- The gradient of the output weight: what the result array holds after the call. -/
module

public import proofs.«01_k».proof.Proof.MatSpec
public import proofs.«01_k».proof.Proof.Gen.OutIdeal.Frame

@[expose] public section

set_option maxRecDepth 16384

noncomputable section

open Idealize.ShloMosaic Idealize.ShloMosaic.TcCoe Idealize.ShloMosaic.ValueIdx Cert.OutIdeal Cert.OutIdeal.Gen Cert.MatSpec
open scoped BigOperators

namespace Cert.OutGradW

/-- The product of two blocks. -/
theorem pay_2 (a : Vec Ideal S4096x1024 .bf16) (b : Vec Ideal S4096x1024 .bf16) (i : Fin 1024) (j : Fin 1024) :
    (k1_pay1 a b : FVec Ideal S1024x1024 .bf16) (ix2 i j) = (tn a b (ix2 i j) : EReal) := by
  unfold k1_pay1
  exact congrFun (matmul_tn (φ := .bf16) (ψ := .bf16) a b) (ix2 i j)

/-- What a grid point leaves in output window 2. -/
theorem out_2 (c : Dev nD) (i : grid1.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S8x128 .f32) (harg6 : arg6.IsWhole) (x0 : Vec Ideal S4096x1024 .bf16) (x1 : Vec Ideal S4096x1024 .bf16) :
    out1_A_2 (F := Ideal) c i arg3 harg3 arg4 harg4 arg5 harg5 arg6 harg6 x0 x1 = k1_pay1 x0 x1 := by
  unfold out1_A_2
  rw [View.read_writes_junk_eq_canon]
  exact (View.canon_cons_unit_lit (by decide) _ [] (by decide)).trans
    (congrArg₂ _ (readAt_whole arg3 harg3 x0 (by decide) (by decide)) (readAt_whole arg4 harg4 x1 (by decide) (by decide)))

/-- The row of the array that a row of the block of grid point `t` is. -/
def row (t : Fin cfg1.N) (i : Fin 1024) : Fin 2048 := ⟨1024 * (t.val / 2) + i.val, by
  have h : t.val < 4 := lt_of_lt_of_eq t.isLt (show cfg1.N = 4 from N_1); omega⟩
/-- The column of the array that a column of the block of grid point `t` is. -/
def col (t : Fin cfg1.N) (j : Fin 1024) : Fin 2048 := ⟨1024 * (t.val % 2) + j.val, by
  have h : t.val % 2 < 2 := Nat.mod_lt _ (by decide); omega⟩

/-! The block index of each window at each grid point. -/
/-- Window 0's. -/
theorem index_0 : ∀ t : Fin cfg1.N, win1_0.index t (0 : Fin 2) = 0 ∧ win1_0.index t (1 : Fin 2) = t.val / 2 :=
  (by decide +kernel : ∀ t : Fin grid1.N, _)
/-- Window 1's. -/
theorem index_1 : ∀ t : Fin cfg1.N, win1_1.index t (0 : Fin 2) = 0 ∧ win1_1.index t (1 : Fin 2) = t.val % 2 :=
  (by decide +kernel : ∀ t : Fin grid1.N, _)
/-- Window 2's. -/
theorem index_2 : ∀ t : Fin cfg1.N, win1_2.index t (0 : Fin 2) = t.val / 2 ∧ win1_2.index t (1 : Fin 2) = t.val % 2 :=
  (by decide +kernel : ∀ t : Fin grid1.N, _)

/-! Where an entry of each window's block lies in its array. -/
/-- Window 0's. -/
theorem emb_0 (t : Fin cfg1.N) (i : Fin 4096) (j : Fin 1024) : ((cfg1.win 0).blk t).view.emb (ix2 i j)
    = (ix2 i (row t j) : S4096x2048.Idx) := by
  obtain ⟨e0, e1⟩ := index_0 t
  funext a; apply Fin.ext
  match a with
  | ⟨0, _⟩ => show win1_0.index t (0 : Fin 2) * 4096 + 1 * i.val = i.val; omega
  | ⟨1, _⟩ => show win1_0.index t (1 : Fin 2) * 1024 + 1 * j.val = 1024 * (t.val / 2) + j.val; omega
/-- Window 1's. -/
theorem emb_1 (t : Fin cfg1.N) (i : Fin 4096) (j : Fin 1024) : ((cfg1.win 1).blk t).view.emb (ix2 i j)
    = (ix2 i (col t j) : S4096x2048.Idx) := by
  obtain ⟨e0, e1⟩ := index_1 t
  funext a; apply Fin.ext
  match a with
  | ⟨0, _⟩ => show win1_1.index t (0 : Fin 2) * 4096 + 1 * i.val = i.val; omega
  | ⟨1, _⟩ => show win1_1.index t (1 : Fin 2) * 1024 + 1 * j.val = 1024 * (t.val % 2) + j.val; omega
/-- Window 2's. -/
theorem emb_2 (t : Fin cfg1.N) (i : Fin 1024) (j : Fin 1024) : ((cfg1.win 2).blk t).view.emb (ix2 i j)
    = (ix2 (row t i) (col t j) : S2048x2048.Idx) := by
  obtain ⟨e0, e1⟩ := index_2 t
  funext a; apply Fin.ext
  match a with
  | ⟨0, _⟩ => show win1_2.index t (0 : Fin 2) * 1024 + 1 * i.val = 1024 * (t.val / 2) + i.val; omega
  | ⟨1, _⟩ => show win1_2.index t (1 : Fin 2) * 1024 + 1 * j.val = 1024 * (t.val % 2) + j.val; omega

section
variable (V : (c : Dev nD) → (b : Ref sig .tc) → Buf (Elt Ideal) ((c : Thread nD τ).loc b)) (c : Dev nD)

/-- The products of the two arrays the call reads. -/
abbrev prodAB : Mat 2048 2048 := tn (V c main_arg0 : Mat 4096 2048) (V c main_arg4 : Mat 4096 2048)

/-- The product of a point's blocks is its block of the product of the arrays. -/
theorem prod_block (t : Fin cfg1.N) (i : Fin 1024) (j : Fin 1024) :
    tn (iblk1 V c 0 t : Mat 4096 1024) (iblk1 V c 1 t : Mat 4096 1024) (ix2 i j) = prodAB V c (ix2 (row t i) (col t j)) :=
  tn_block (A := (V c main_arg0 : Mat 4096 2048)) (B := (V c main_arg4 : Mat 4096 2048)) (r := row t) (s := col t)
    (fun i l => congrArg (V c main_arg0 : Mat 4096 2048) (emb_0 t i l)) (fun l j => congrArg (V c main_arg4 : Mat 4096 2048) (emb_1 t l j)) i j

/-- The array of output 2 after the call. -/
def arr_2 : Mat 2048 2048 := prodAB V c

/-- What a point writes back to output 2 is its block of that array. -/
theorem flushed_2 (t : Fin cfg1.N) : (dat1 V c).flushed 2 t = ((cfg1.win 2).blk t).view.read (Elt Ideal) (arr_2 V c) := by
  show (cfg1.win 2).cut (grid1.coords t) ((dat1 V c).after 2 t) = _
  rw [after1_2]
  unfold outsAt1
  try dsimp only
  rw [out_2]
  funext y
  obtain ⟨i, j, rfl⟩ : ∃ (i : Fin 1024) (j : Fin 1024), y = (ix2 i j : S1024x1024.Idx) := ⟨y 0, y 1, eq_ix2 y⟩
  show (k1_pay1 (iblk1 V c 0 t) (iblk1 V c 1 t) : FVec Ideal S1024x1024 .bf16) (ix2 i j) = arr_2 V c (((cfg1.win 2).blk t).view.emb (ix2 i j))
  rw [emb_2, pay_2, prod_block]
  skip
  rfl

/-- After the call output 2 holds it. -/
theorem final_2 : ((dat1 V c).arrAt 2 cfg1.N : FVec Ideal S2048x2048 .bf16) = arr_2 V c := by
  have hN : cfg1.N = 4 := N_1
  refine (dat1 V c).arrAt_eq_of_cover 2 (arr_2 V c) (fun t _ => flushed_2 V c t) fun y => ?_
  obtain ⟨r, s, rfl⟩ : ∃ (r : Fin 2048) (s : Fin 2048), y = (ix2 r s : S2048x2048.Idx) := ⟨y 0, y 1, eq_ix2 y⟩
  have ht : 2 * (r.val / 1024) + s.val / 1024 < cfg1.N := by omega
  refine ⟨⟨2 * (r.val / 1024) + s.val / 1024, ht⟩, flush1_2 _, ?_⟩
  have hm := ((cfg1.win 2).blk ⟨2 * (r.val / 1024) + s.val / 1024, ht⟩).view.emb_mem_set
    (ix2 (⟨r.val % 1024, by omega⟩ : Fin 1024) (⟨s.val % 1024, by omega⟩ : Fin 1024))
  rw [emb_2] at hm
  have e : (ix2 r s : S2048x2048.Idx) = ix2 (row ⟨2 * (r.val / 1024) + s.val / 1024, ht⟩ (⟨r.val % 1024, by omega⟩ : Fin 1024))
      (col ⟨2 * (r.val / 1024) + s.val / 1024, ht⟩ (⟨s.val % 1024, by omega⟩ : Fin 1024)) := by
    funext a; apply Fin.ext
    match a with
    | ⟨0, _⟩ => show r.val = 1024 * ((2 * (r.val / 1024) + s.val / 1024) / 2) + r.val % 1024; omega
    | ⟨1, _⟩ => show s.val = 1024 * ((2 * (r.val / 1024) + s.val / 1024) % 2) + s.val % 1024; omega
  rw [e]; exact hm

end

end Cert.OutGradW
end
end
-- ==== Proof.OutGradO.lean ====
/- The gradient of the heads' outputs: what the result array holds after the call. -/
module

public import proofs.«01_k».proof.Proof.MatSpec
public import proofs.«01_k».proof.Proof.Gen.OutIdeal.Frame

@[expose] public section

set_option maxRecDepth 16384

noncomputable section

open Idealize.ShloMosaic Idealize.ShloMosaic.TcCoe Idealize.ShloMosaic.ValueIdx Cert.OutIdeal Cert.OutIdeal.Gen Cert.MatSpec
open scoped BigOperators

namespace Cert.OutGradO

/-- The product of two blocks. -/
theorem pay_2 (a : Vec Ideal S1024x2048 .bf16) (b : Vec Ideal S1024x2048 .bf16) (i : Fin 1024) (j : Fin 1024) :
    (k2_pay1 a b : FVec Ideal S1024x1024 .bf16) (ix2 i j) = (nt a b (ix2 i j) : EReal) := by
  unfold k2_pay1
  exact congrFun (matmul_nt (φ := .bf16) (ψ := .bf16) a b) (ix2 i j)

/-- What a grid point leaves in output window 2. -/
theorem out_2 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S8x128 .f32) (harg6 : arg6.IsWhole) (x0 : Vec Ideal S1024x2048 .bf16) (x1 : Vec Ideal S1024x2048 .bf16) :
    out2_A_2 (F := Ideal) c i arg3 harg3 arg4 harg4 arg5 harg5 arg6 harg6 x0 x1 = k2_pay1 x0 x1 := by
  unfold out2_A_2
  rw [View.read_writes_junk_eq_canon]
  exact (View.canon_cons_unit_lit (by decide) _ [] (by decide)).trans
    (congrArg₂ _ (readAt_whole arg3 harg3 x0 (by decide) (by decide)) (readAt_whole arg4 harg4 x1 (by decide) (by decide)))

/-- The row of the array that a row of the block of grid point `t` is. -/
def row (t : Fin cfg2.N) (i : Fin 1024) : Fin 4096 := ⟨1024 * (t.val / 2) + i.val, by
  have h : t.val < 8 := lt_of_lt_of_eq t.isLt (show cfg2.N = 8 from N_2); omega⟩
/-- The column of the array that a column of the block of grid point `t` is. -/
def col (t : Fin cfg2.N) (j : Fin 1024) : Fin 2048 := ⟨1024 * (t.val % 2) + j.val, by
  have h : t.val % 2 < 2 := Nat.mod_lt _ (by decide); omega⟩

/-! The block index of each window at each grid point. -/
/-- Window 0's. -/
theorem index_0 : ∀ t : Fin cfg2.N, win2_0.index t (0 : Fin 2) = t.val / 2 ∧ win2_0.index t (1 : Fin 2) = 0 :=
  (by decide +kernel : ∀ t : Fin grid2.N, _)
/-- Window 1's. -/
theorem index_1 : ∀ t : Fin cfg2.N, win2_1.index t (0 : Fin 2) = t.val % 2 ∧ win2_1.index t (1 : Fin 2) = 0 :=
  (by decide +kernel : ∀ t : Fin grid2.N, _)
/-- Window 2's. -/
theorem index_2 : ∀ t : Fin cfg2.N, win2_2.index t (0 : Fin 2) = t.val / 2 ∧ win2_2.index t (1 : Fin 2) = t.val % 2 :=
  (by decide +kernel : ∀ t : Fin grid2.N, _)

/-! Where an entry of each window's block lies in its array. -/
/-- Window 0's. -/
theorem emb_0 (t : Fin cfg2.N) (i : Fin 1024) (j : Fin 2048) : ((cfg2.win 0).blk t).view.emb (ix2 i j)
    = (ix2 (row t i) j : S4096x2048.Idx) := by
  obtain ⟨e0, e1⟩ := index_0 t
  funext a; apply Fin.ext
  match a with
  | ⟨0, _⟩ => show win2_0.index t (0 : Fin 2) * 1024 + 1 * i.val = 1024 * (t.val / 2) + i.val; omega
  | ⟨1, _⟩ => show win2_0.index t (1 : Fin 2) * 2048 + 1 * j.val = j.val; omega
/-- Window 1's. -/
theorem emb_1 (t : Fin cfg2.N) (i : Fin 1024) (j : Fin 2048) : ((cfg2.win 1).blk t).view.emb (ix2 i j)
    = (ix2 (col t i) j : S2048x2048.Idx) := by
  obtain ⟨e0, e1⟩ := index_1 t
  funext a; apply Fin.ext
  match a with
  | ⟨0, _⟩ => show win2_1.index t (0 : Fin 2) * 1024 + 1 * i.val = 1024 * (t.val % 2) + i.val; omega
  | ⟨1, _⟩ => show win2_1.index t (1 : Fin 2) * 2048 + 1 * j.val = j.val; omega
/-- Window 2's. -/
theorem emb_2 (t : Fin cfg2.N) (i : Fin 1024) (j : Fin 1024) : ((cfg2.win 2).blk t).view.emb (ix2 i j)
    = (ix2 (row t i) (col t j) : S4096x2048.Idx) := by
  obtain ⟨e0, e1⟩ := index_2 t
  funext a; apply Fin.ext
  match a with
  | ⟨0, _⟩ => show win2_2.index t (0 : Fin 2) * 1024 + 1 * i.val = 1024 * (t.val / 2) + i.val; omega
  | ⟨1, _⟩ => show win2_2.index t (1 : Fin 2) * 1024 + 1 * j.val = 1024 * (t.val % 2) + j.val; omega

section
variable (V : (c : Dev nD) → (b : Ref sig .tc) → Buf (Elt Ideal) ((c : Thread nD τ).loc b)) (c : Dev nD)

/-- The products of the two arrays the call reads. -/
abbrev prodAB : Mat 4096 2048 := nt (V c main_arg4 : Mat 4096 2048) (V c main_arg1 : Mat 2048 2048)

/-- The product of a point's blocks is its block of the product of the arrays. -/
theorem prod_block (t : Fin cfg2.N) (i : Fin 1024) (j : Fin 1024) :
    nt (iblk2 V c 0 t : Mat 1024 2048) (iblk2 V c 1 t : Mat 1024 2048) (ix2 i j) = prodAB V c (ix2 (row t i) (col t j)) :=
  nt_block (A := (V c main_arg4 : Mat 4096 2048)) (B := (V c main_arg1 : Mat 2048 2048)) (r := row t) (s := col t)
    (fun i l => congrArg (V c main_arg4 : Mat 4096 2048) (emb_0 t i l)) (fun l j => congrArg (V c main_arg1 : Mat 2048 2048) (emb_1 t l j)) i j

/-- The array of output 2 after the call. -/
def arr_2 : Mat 4096 2048 := prodAB V c

/-- What a point writes back to output 2 is its block of that array. -/
theorem flushed_2 (t : Fin cfg2.N) : (dat2 V c).flushed 2 t = ((cfg2.win 2).blk t).view.read (Elt Ideal) (arr_2 V c) := by
  show (cfg2.win 2).cut (grid2.coords t) ((dat2 V c).after 2 t) = _
  rw [after2_2]
  unfold outsAt2
  try dsimp only
  rw [out_2]
  funext y
  obtain ⟨i, j, rfl⟩ : ∃ (i : Fin 1024) (j : Fin 1024), y = (ix2 i j : S1024x1024.Idx) := ⟨y 0, y 1, eq_ix2 y⟩
  show (k2_pay1 (iblk2 V c 0 t) (iblk2 V c 1 t) : FVec Ideal S1024x1024 .bf16) (ix2 i j) = arr_2 V c (((cfg2.win 2).blk t).view.emb (ix2 i j))
  rw [emb_2, pay_2, prod_block]
  skip
  rfl

/-- After the call output 2 holds it. -/
theorem final_2 : ((dat2 V c).arrAt 2 cfg2.N : FVec Ideal S4096x2048 .bf16) = arr_2 V c := by
  have hN : cfg2.N = 8 := N_2
  refine (dat2 V c).arrAt_eq_of_cover 2 (arr_2 V c) (fun t _ => flushed_2 V c t) fun y => ?_
  obtain ⟨r, s, rfl⟩ : ∃ (r : Fin 4096) (s : Fin 2048), y = (ix2 r s : S4096x2048.Idx) := ⟨y 0, y 1, eq_ix2 y⟩
  have ht : 2 * (r.val / 1024) + s.val / 1024 < cfg2.N := by omega
  refine ⟨⟨2 * (r.val / 1024) + s.val / 1024, ht⟩, flush2_2 _, ?_⟩
  have hm := ((cfg2.win 2).blk ⟨2 * (r.val / 1024) + s.val / 1024, ht⟩).view.emb_mem_set
    (ix2 (⟨r.val % 1024, by omega⟩ : Fin 1024) (⟨s.val % 1024, by omega⟩ : Fin 1024))
  rw [emb_2] at hm
  have e : (ix2 r s : S4096x2048.Idx) = ix2 (row ⟨2 * (r.val / 1024) + s.val / 1024, ht⟩ (⟨r.val % 1024, by omega⟩ : Fin 1024))
      (col ⟨2 * (r.val / 1024) + s.val / 1024, ht⟩ (⟨s.val % 1024, by omega⟩ : Fin 1024)) := by
    funext a; apply Fin.ext
    match a with
    | ⟨0, _⟩ => show r.val = 1024 * ((2 * (r.val / 1024) + s.val / 1024) / 2) + r.val % 1024; omega
    | ⟨1, _⟩ => show s.val = 1024 * ((2 * (r.val / 1024) + s.val / 1024) % 2) + s.val % 1024; omega
  rw [e]; exact hm

end

end Cert.OutGradO
end
end
-- ==== Proof.OutRun.lean ====
/- The run of the calls around the output projection: what the result arrays hold at the end. -/
module

public import proofs.«01_k».proof.Proof.OutSpec
public import proofs.«01_k».proof.Proof.OutProj
public import proofs.«01_k».proof.Proof.OutGradW
public import proofs.«01_k».proof.Proof.OutGradO

@[expose] public section

set_option maxRecDepth 16384

noncomputable section

namespace Cert.OutRun

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OutIdeal Cert.OutIdeal.Gen Cert.MatSpec Cert.NormSpec Cert.OutSpec

section
variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every fair execution ends, and every buffer of the program then holds what the three calls leave in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)
end

section
variable (m : (ℓ : Loc nD τ sig) → Buf (Elt Ideal) ℓ) (ρ : Dev nD → PrngReg) (c : Dev nD)

/-- The heads' outputs. -/
abbrev aO : Mat 4096 2048 := m ((c : Thread nD τ).loc main_arg0)
/-- The output weight. -/
abbrev aW : Mat 2048 2048 := m ((c : Thread nD τ).loc main_arg1)
/-- The residual. -/
abbrev aX : Mat 4096 2048 := m ((c : Thread nD τ).loc main_arg2)
/-- The gain of the norm. -/
abbrev aG : Mat 1 2048 := m ((c : Thread nD τ).loc main_arg3)
/-- The gradient that comes in. -/
abbrev aT : Mat 4096 2048 := m ((c : Thread nD τ).loc main_arg4)

/-- The stream after the first call. -/
theorem at1_h : (W1 m ρ c main_v0_0 : Mat 4096 2048) = resid (aO m c) (aW m c) (aX m c) :=
  (W1_arr m ρ c 4).trans (OutProj.final_4 (V0 m ρ) c)
/-- The layer's input after the first call. -/
theorem at1_m : (W1 m ρ c main_v0_1 : Mat 4096 2048) = mlpIn (aO m c) (aW m c) (aX m c) (aG m c) :=
  (W1_arr m ρ c 5).trans (OutProj.final_5 (V0 m ρ) c)
/-- The gradient of the weight after the second call. -/
theorem at2_w : (W2 m ρ c main_v1 : Mat 2048 2048) = gradW (aO m c) (aT m c) := by
  refine (W2_arr m ρ c 2).trans ((OutGradW.final_2 (V1 m ρ) c).trans ?_)
  show tn (W1 m ρ c main_arg0 : Mat 4096 2048) (W1 m ρ c main_arg4 : Mat 4096 2048) = _
  rw [W1_args m ρ c main_arg0 (by decide), W1_args m ρ c main_arg4 (by decide)]; rfl
/-- The gradient of the heads' outputs after the third call. -/
theorem at3_o : (W3 m ρ c main_v2 : Mat 4096 2048) = gradO (aW m c) (aT m c) := by
  refine (W3_arr m ρ c 2).trans ((OutGradO.final_2 (V2 m ρ) c).trans ?_)
  show nt (W2 m ρ c main_arg4 : Mat 4096 2048) (W2 m ρ c main_arg1 : Mat 2048 2048) = _
  rw [W2_args m ρ c main_arg4 (by decide), W2_args m ρ c main_arg1 (by decide)]; rfl
/-- It is left alone by the later calls. -/
theorem end_h : (W3 m ρ c main_v0_0 : Mat 4096 2048) = resid (aO m c) (aW m c) (aX m c) :=
  (W3_of m ρ c main_v0_0 (by decide)).trans ((W2_of m ρ c main_v0_0 (by decide)).trans (at1_h m ρ c))
/-- It is left alone by the later calls. -/
theorem end_m : (W3 m ρ c main_v0_1 : Mat 4096 2048) = mlpIn (aO m c) (aW m c) (aX m c) (aG m c) :=
  (W3_of m ρ c main_v0_1 (by decide)).trans ((W2_of m ρ c main_v0_1 (by decide)).trans (at1_m m ρ c))
/-- It is left alone by the later calls. -/
theorem end_w : (W3 m ρ c main_v1 : Mat 2048 2048) = gradW (aO m c) (aT m c) :=
  (W3_of m ρ c main_v1 (by decide)).trans (at2_w m ρ c)
end

/-- Every fair execution ends with the results at what they should hold, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v0_0) = resid (aO m c) (aW m c) (aX m c)
      ∧ r.2.mem ((c : Thread nD τ).loc main_v0_1) = mlpIn (aO m c) (aW m c) (aX m c) (aG m c)
      ∧ r.2.mem ((c : Thread nD τ).loc main_v1) = gradW (aO m c) (aT m c)
      ∧ r.2.mem ((c : Thread nD τ).loc main_v2) = gradO (aW m c) (aT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c =>
    ⟨(h c _ (mem_uc main_v0_0 (by decide))).trans (end_h m ρ c),
      (h c _ (mem_uc main_v0_1 (by decide))).trans (end_m m ρ c),
      (h c _ (mem_uc main_v1 (by decide))).trans (end_w m ρ c),
      (h c _ (mem_uc main_v2 (by decide))).trans (at3_o m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c)⟩)
    (run_all m ρ)

end Cert.OutRun
end
end
-- ==== Proof.OutRef.lean ====
/- What the reference of the calls around the output projection computes. -/
module

public import proofs.«01_k».proof.Proof.OutSpec
public import proofs.«01_k».proof.Proof.Gen.OutReferenceIdeal.Read

@[expose] public section

set_option maxRecDepth 16384

noncomputable section

open Idealize.ShloMosaic Idealize.ShloMosaic.ValueIdx Cert.MatSpec Cert.NormSpec Cert.OutSpec
open Cert.OutReferenceIdeal Cert.OutReferenceIdeal.Read
open scoped BigOperators

namespace Cert.OutRef

section
variable (O : FVec Ideal S4096x2048 .bf16) (W : FVec Ideal S2048x2048 .bf16) (X : FVec Ideal S4096x2048 .f32) (G : FVec Ideal S1x2048 .f32)
  (T : FVec Ideal S4096x2048 .bf16)

/-- The stream after the attention. -/
theorem v3_eq (r : Fin 4096) (s : Fin 2048) :
    (val_main_v3 (F := Ideal) O W X : FVec Ideal S4096x2048 .f32) (ix2 r s) = resid O W X (ix2 r s) := by
  have h : (val_main_v2 (F := Ideal) O W : FVec Ideal S4096x2048 .f32) (ix2 r s) = nn O W (ix2 r s) := by
    rw [val_main_v2_apply]
    refine Finset.sum_congr (M := EReal) rfl fun l _ => ?_
    have e1 : lidx_main_v2 (ix2 r s) l = ix2 r l := by funext a; match a with | ⟨0, _⟩ => rfl | ⟨1, _⟩ => rfl
    have e2 : ridx_main_v2 (ix2 r s) l = ix2 l s := by funext a; match a with | ⟨0, _⟩ => rfl | ⟨1, _⟩ => rfl
    rw [e1, e2]; rfl
  rw [val_main_v3_apply, h]
  exact add_comm (X (ix2 r s) : EReal) (nn O W (ix2 r s))
/-- All of it. -/
theorem out_h : (val_main_v3 (F := Ideal) O W X : FVec Ideal S4096x2048 .f32) = resid O W X := by
  funext y
  obtain ⟨r, s, rfl⟩ : ∃ (r : Fin 4096) (s : Fin 2048), y = (ix2 r s : S4096x2048.Idx) := ⟨y 0, y 1, eq_ix2 y⟩
  exact v3_eq O W X r s

/-- The norm before the layer: the factor of a row. -/
theorem v15_eq (r : Fin 4096) (j : Fin 1) : (val_main_v15 (F := Ideal) O W X : FVec Ideal S4096x1 .f32) (ix2 r j) = scale (resid O W X) r := by
  rw [val_main_v15_apply, val_main_v14_apply, val_main_v12_apply, val_main_v10_apply, val_main_v9_apply, val_main_v11_apply, val_main_v13_apply]
  show Ideal.rsqrt (Ideal.div (Ideal.ofBits .f32 0x00000000#32 + ∑ k : Fin 2048, (val_main_v8 (F := Ideal) O W X (idx_main_v9 (idx_main_v10 (ix2 r j)) k) : EReal)) cols + eps) = _
  rw [Ideal.ofBits_zero_f32, zero_add]
  refine congrArg (fun s => Ideal.rsqrt (Ideal.div s cols + eps)) (Finset.sum_congr (M := EReal) rfl fun l _ => ?_)
  have e : idx_main_v9 (idx_main_v10 (ix2 r j)) l = ix2 r l := by funext a; match a with | ⟨0, _⟩ => rfl | ⟨1, _⟩ => rfl
  rw [e, val_main_v8_apply]
  rw [v3_eq]; rfl
/-- The norm before the layer: the norm. -/
theorem v19_eq (r : Fin 4096) (s : Fin 2048) : (val_main_v19 (F := Ideal) O W X G : FVec Ideal S4096x2048 .f32) (ix2 r s) = norm (resid O W X) G (ix2 r s) := by
  rw [val_main_v19_apply, val_main_v17_apply, val_main_v16_apply, val_main_v18_apply]
  have e1 : idx_main_v16 (ix2 r s) = ix2 r (0 : Fin 1) := by funext a; match a with | ⟨0, _⟩ => rfl | ⟨1, _⟩ => rfl
  have e2 : idx_main_v18 (ix2 r s) = ix2 (0 : Fin 1) s := by funext a; match a with | ⟨0, _⟩ => rfl | ⟨1, _⟩ => rfl
  rw [e1, e2, v15_eq]
  rw [v3_eq]; rfl

/-- The layer's input. -/
theorem out_m : (val_main_v20 (F := Ideal) O W X G : FVec Ideal S4096x2048 .bf16) = mlpIn O W X G := by
  funext y
  obtain ⟨r, s, rfl⟩ : ∃ (r : Fin 4096) (s : Fin 2048), y = (ix2 r s : S4096x2048.Idx) := ⟨y 0, y 1, eq_ix2 y⟩
  rw [val_main_v20_apply, Ideal.truncf_def]
  exact v19_eq O W X G r s

/-- The gradient of the output weight. -/
theorem out_w : (val_main_v21 (F := Ideal) O T : FVec Ideal (⟨2, ![2048, 2048]⟩ : Shape) .bf16) = gradW O T := by
  funext y
  obtain ⟨r, s, rfl⟩ : ∃ (r : Fin 2048) (s : Fin 2048), y = (ix2 r s : (⟨2, ![2048, 2048]⟩ : Shape).Idx) := ⟨y 0, y 1, eq_ix2 y⟩
  rw [val_main_v21_apply, Ideal.truncf_def, val_main_v6_apply]
  have e0 : idx_main_v6 (ix2 r s) = ix2 s r := by funext a; match a with | ⟨0, _⟩ => rfl | ⟨1, _⟩ => rfl
  rw [e0, val_main_v5_apply]
  show _ = tn (O) (T) (ix2 r s)
  refine Finset.sum_congr (M := EReal) rfl fun l _ => ?_
  have e1 : lidx_main_v5 (ix2 s r) l = ix2 l s := by funext a; match a with | ⟨0, _⟩ => rfl | ⟨1, _⟩ => rfl
  have e2 : ridx_main_v5 (ix2 s r) l = ix2 l r := by funext a; match a with | ⟨0, _⟩ => rfl | ⟨1, _⟩ => rfl
  rw [e1, e2]
  exact mul_comm ((T : Mat _ _) (ix2 l s) : EReal) ((O : Mat _ _) (ix2 l r) : EReal)

/-- The gradient of the heads' outputs. -/
theorem out_o : (val_main_v22 (F := Ideal) W T : FVec Ideal S4096x2048 .bf16) = gradO W T := by
  funext y
  obtain ⟨r, s, rfl⟩ : ∃ (r : Fin 4096) (s : Fin 2048), y = (ix2 r s : S4096x2048.Idx) := ⟨y 0, y 1, eq_ix2 y⟩
  rw [val_main_v22_apply, Ideal.truncf_def, val_main_v7_apply]
  show _ = nt T W (ix2 r s)
  refine Finset.sum_congr (M := EReal) rfl fun l _ => ?_
  have e1 : lidx_main_v7 (ix2 r s) l = ix2 r l := by funext a; match a with | ⟨0, _⟩ => rfl | ⟨1, _⟩ => rfl
  have e2 : ridx_main_v7 (ix2 r s) l = ix2 s l := by funext a; match a with | ⟨0, _⟩ => rfl | ⟨1, _⟩ => rfl
  rw [e1, e2]; rfl
end

end Cert.OutRef
end
end
-- ==== Proof.OutEquation.lean ====
/- The value claim of the calls around the output projection: they and the reference leave the same four arrays. -/
module

public import proofs.«01_k».proof.Defs
public import proofs.«01_k».proof.Proof.OutRun
public import proofs.«01_k».proof.Proof.OutRef

@[expose] public section

set_option maxRecDepth 16384

noncomputable section

open Idealize.ShloMosaic Idealize.ShloMosaic.ValueIdx Idealize.SL.Sem Cert.MatSpec Cert.NormSpec Cert.OutSpec Cert.OutRun

namespace Cert.OutEquation

/-- The value claim. -/
theorem algebraic : Cert.algebraic_OutIdeal_OutReferenceIdeal := by
  intro m g m' g' _ hm
  refine ⟨fun c => resid (aO m c) (aW m c) (aX m c),
    fun c => mlpIn (aO m c) (aW m c) (aX m c) (aG m c),
    fun c => gradW (aO m c) (aT m c),
    fun c => gradO (aW m c) (aT m c), run_value m g, ?_⟩
  refine (θ_run Cert.OutReferenceIdeal.defs _ _).mono (fun r h c => ?_) (Cert.OutReferenceIdeal.Value.run (F := Ideal) m' g')
  obtain ⟨h0, h1, h2, h3, h4⟩ := h c
  obtain ⟨e0, e1, e2, e3, e4⟩ := hm c
  rw [Cert.OutReferenceIdeal.Read.val_main_v3_eq, e0, e1, e2, Cert.OutRef.out_h] at h0
  rw [Cert.OutReferenceIdeal.Read.val_main_v20_eq, e0, e1, e2, e3, Cert.OutRef.out_m] at h1
  rw [Cert.OutReferenceIdeal.Read.val_main_v21_eq, e0, e4, Cert.OutRef.out_w] at h2
  rw [Cert.OutReferenceIdeal.Read.val_main_v22_eq, e1, e4, Cert.OutRef.out_o] at h3
  exact ⟨h0, h1, h2, h3, h4⟩

end Cert.OutEquation
end
end
-- ==== Proof.PleProj.lean ====
/- The product of the embeddings and their weight: what the result array holds after the call. -/
module

public import proofs.«01_k».proof.Proof.MatSpec
public import proofs.«01_k».proof.Proof.Gen.WeightsIdeal.Frame

@[expose] public section

set_option maxRecDepth 16384

noncomputable section

open Idealize.ShloMosaic Idealize.ShloMosaic.TcCoe Idealize.ShloMosaic.ValueIdx Cert.WeightsIdeal Cert.WeightsIdeal.Gen Cert.MatSpec
open scoped BigOperators

namespace Cert.PleProj

/-- The product of two blocks. -/
theorem pay_2 (a : Vec Ideal S1024x256 .bf16) (b : Vec Ideal S256x1024 .bf16) (i : Fin 1024) (j : Fin 1024) :
    (k0_pay1 a b : FVec Ideal S1024x1024 .f32) (ix2 i j) = (nn a b (ix2 i j) : EReal) := by
  unfold k0_pay1
  rw [shapeCast_self]
  exact congrFun (matmul_nn (φ := .bf16) (ψ := .bf16) a b) (ix2 i j)

/-- What a grid point leaves in output window 2. -/
theorem out_2 (c : Dev nD) (i : grid0.Coords) (arg3 : Memref sig .tc .vmem S1024x256 .bf16) (harg3 : arg3.IsWhole) (arg4 : Memref sig .tc .vmem S256x1024 .bf16) (harg4 : arg4.IsWhole) (arg5 : Memref sig .tc .vmem S1024x1024 .f32) (harg5 : arg5.IsWhole) (arg6 : Memref sig .tc .vmem S8x128 .f32) (harg6 : arg6.IsWhole) (x0 : Vec Ideal S1024x256 .bf16) (x1 : Vec Ideal S256x1024 .bf16) :
    out0_A_2 (F := Ideal) c i arg3 harg3 arg4 harg4 arg5 harg5 arg6 harg6 x0 x1 = k0_pay1 x0 x1 := by
  unfold out0_A_2
  rw [View.read_writes_junk_eq_canon]
  exact (View.canon_cons_unit_lit (by decide) _ [] (by decide)).trans
    (congrArg₂ _ (readAt_whole arg3 harg3 x0 (by decide) (by decide)) (readAt_whole arg4 harg4 x1 (by decide) (by decide)))

/-- The row of the array that a row of the block of grid point `t` is. -/
def row (t : Fin cfg0.N) (i : Fin 1024) : Fin 4096 := ⟨1024 * (t.val / 2) + i.val, by
  have h : t.val < 8 := lt_of_lt_of_eq t.isLt (show cfg0.N = 8 from N_0); omega⟩
/-- The column of the array that a column of the block of grid point `t` is. -/
def col (t : Fin cfg0.N) (j : Fin 1024) : Fin 2048 := ⟨1024 * (t.val % 2) + j.val, by
  have h : t.val % 2 < 2 := Nat.mod_lt _ (by decide); omega⟩

/-! The block index of each window at each grid point. -/
/-- Window 0's. -/
theorem index_0 : ∀ t : Fin cfg0.N, win0_0.index t (0 : Fin 2) = t.val / 2 ∧ win0_0.index t (1 : Fin 2) = 0 :=
  (by decide +kernel : ∀ t : Fin grid0.N, _)
/-- Window 1's. -/
theorem index_1 : ∀ t : Fin cfg0.N, win0_1.index t (0 : Fin 2) = 0 ∧ win0_1.index t (1 : Fin 2) = t.val % 2 :=
  (by decide +kernel : ∀ t : Fin grid0.N, _)
/-- Window 2's. -/
theorem index_2 : ∀ t : Fin cfg0.N, win0_2.index t (0 : Fin 2) = t.val / 2 ∧ win0_2.index t (1 : Fin 2) = t.val % 2 :=
  (by decide +kernel : ∀ t : Fin grid0.N, _)

/-! Where an entry of each window's block lies in its array. -/
/-- Window 0's. -/
theorem emb_0 (t : Fin cfg0.N) (i : Fin 1024) (j : Fin 256) : ((cfg0.win 0).blk t).view.emb (ix2 i j)
    = (ix2 (row t i) j : S4096x256.Idx) := by
  obtain ⟨e0, e1⟩ := index_0 t
  funext a; apply Fin.ext
  match a with
  | ⟨0, _⟩ => show win0_0.index t (0 : Fin 2) * 1024 + 1 * i.val = 1024 * (t.val / 2) + i.val; omega
  | ⟨1, _⟩ => show win0_0.index t (1 : Fin 2) * 256 + 1 * j.val = j.val; omega
/-- Window 1's. -/
theorem emb_1 (t : Fin cfg0.N) (i : Fin 256) (j : Fin 1024) : ((cfg0.win 1).blk t).view.emb (ix2 i j)
    = (ix2 i (col t j) : S256x2048.Idx) := by
  obtain ⟨e0, e1⟩ := index_1 t
  funext a; apply Fin.ext
  match a with
  | ⟨0, _⟩ => show win0_1.index t (0 : Fin 2) * 256 + 1 * i.val = i.val; omega
  | ⟨1, _⟩ => show win0_1.index t (1 : Fin 2) * 1024 + 1 * j.val = 1024 * (t.val % 2) + j.val; omega
/-- Window 2's. -/
theorem emb_2 (t : Fin cfg0.N) (i : Fin 1024) (j : Fin 1024) : ((cfg0.win 2).blk t).view.emb (ix2 i j)
    = (ix2 (row t i) (col t j) : S4096x2048.Idx) := by
  obtain ⟨e0, e1⟩ := index_2 t
  funext a; apply Fin.ext
  match a with
  | ⟨0, _⟩ => show win0_2.index t (0 : Fin 2) * 1024 + 1 * i.val = 1024 * (t.val / 2) + i.val; omega
  | ⟨1, _⟩ => show win0_2.index t (1 : Fin 2) * 1024 + 1 * j.val = 1024 * (t.val % 2) + j.val; omega

section
variable (V : (c : Dev nD) → (b : Ref sig .tc) → Buf (Elt Ideal) ((c : Thread nD τ).loc b)) (c : Dev nD)

/-- The products of the two arrays the call reads. -/
abbrev prodAB : Mat 4096 2048 := nn (V c main_v0 : Mat 4096 256) (V c main_arg5 : Mat 256 2048)

/-- The product of a point's blocks is its block of the product of the arrays. -/
theorem prod_block (t : Fin cfg0.N) (i : Fin 1024) (j : Fin 1024) :
    nn (iblk0 V c 0 t : Mat 1024 256) (iblk0 V c 1 t : Mat 256 1024) (ix2 i j) = prodAB V c (ix2 (row t i) (col t j)) :=
  nn_block (A := (V c main_v0 : Mat 4096 256)) (B := (V c main_arg5 : Mat 256 2048)) (r := row t) (s := col t)
    (fun i l => congrArg (V c main_v0 : Mat 4096 256) (emb_0 t i l)) (fun l j => congrArg (V c main_arg5 : Mat 256 2048) (emb_1 t l j)) i j

/-- The array of output 2 after the call. -/
def arr_2 : Mat 4096 2048 := prodAB V c

/-- What a point writes back to output 2 is its block of that array. -/
theorem flushed_2 (t : Fin cfg0.N) : (dat0 V c).flushed 2 t = ((cfg0.win 2).blk t).view.read (Elt Ideal) (arr_2 V c) := by
  show (cfg0.win 2).cut (grid0.coords t) ((dat0 V c).after 2 t) = _
  rw [after0_2]
  unfold outsAt0
  try dsimp only
  rw [out_2]
  funext y
  obtain ⟨i, j, rfl⟩ : ∃ (i : Fin 1024) (j : Fin 1024), y = (ix2 i j : S1024x1024.Idx) := ⟨y 0, y 1, eq_ix2 y⟩
  show (k0_pay1 (iblk0 V c 0 t) (iblk0 V c 1 t) : FVec Ideal S1024x1024 .f32) (ix2 i j) = arr_2 V c (((cfg0.win 2).blk t).view.emb (ix2 i j))
  rw [emb_2, pay_2, prod_block]
  skip
  rfl

/-- After the call output 2 holds it. -/
theorem final_2 : ((dat0 V c).arrAt 2 cfg0.N : FVec Ideal S4096x2048 .f32) = arr_2 V c := by
  have hN : cfg0.N = 8 := N_0
  refine (dat0 V c).arrAt_eq_of_cover 2 (arr_2 V c) (fun t _ => flushed_2 V c t) fun y => ?_
  obtain ⟨r, s, rfl⟩ : ∃ (r : Fin 4096) (s : Fin 2048), y = (ix2 r s : S4096x2048.Idx) := ⟨y 0, y 1, eq_ix2 y⟩
  have ht : 2 * (r.val / 1024) + s.val / 1024 < cfg0.N := by omega
  refine ⟨⟨2 * (r.val / 1024) + s.val / 1024, ht⟩, flush0_2 _, ?_⟩
  have hm := ((cfg0.win 2).blk ⟨2 * (r.val / 1024) + s.val / 1024, ht⟩).view.emb_mem_set
    (ix2 (⟨r.val % 1024, by omega⟩ : Fin 1024) (⟨s.val % 1024, by omega⟩ : Fin 1024))
  rw [emb_2] at hm
  have e : (ix2 r s : S4096x2048.Idx) = ix2 (row ⟨2 * (r.val / 1024) + s.val / 1024, ht⟩ (⟨r.val % 1024, by omega⟩ : Fin 1024))
      (col ⟨2 * (r.val / 1024) + s.val / 1024, ht⟩ (⟨s.val % 1024, by omega⟩ : Fin 1024)) := by
    funext a; apply Fin.ext
    match a with
    | ⟨0, _⟩ => show r.val = 1024 * ((2 * (r.val / 1024) + s.val / 1024) / 2) + r.val % 1024; omega
    | ⟨1, _⟩ => show s.val = 1024 * ((2 * (r.val / 1024) + s.val / 1024) % 2) + s.val % 1024; omega
  rw [e]; exact hm

end

end Cert.PleProj
end
end
-- ==== Proof.PleGradW.lean ====
/- The gradient of the embeddings' weight: what the result array holds after the call. -/
module

public import proofs.«01_k».proof.Proof.MatSpec
public import proofs.«01_k».proof.Proof.Gen.WeightsIdeal.Frame

@[expose] public section

set_option maxRecDepth 16384

noncomputable section

open Idealize.ShloMosaic Idealize.ShloMosaic.TcCoe Idealize.ShloMosaic.ValueIdx Cert.WeightsIdeal Cert.WeightsIdeal.Gen Cert.MatSpec
open scoped BigOperators

namespace Cert.PleGradW

/-- The product of two blocks. -/
theorem pay_2 (a : Vec Ideal S4096x256 .bf16) (b : Vec Ideal S4096x512 .bf16) (i : Fin 256) (j : Fin 512) :
    (k1_pay1 a b : FVec Ideal S256x512 .bf16) (ix2 i j) = (tn a b (ix2 i j) : EReal) := by
  unfold k1_pay1
  rw [shapeCast_self]
  exact congrFun (matmul_tn (φ := .bf16) (ψ := .bf16) a b) (ix2 i j)

/-- What a grid point leaves in output window 2. -/
theorem out_2 (c : Dev nD) (i : grid1.Coords) (arg3 : Memref sig .tc .vmem S4096x256 .bf16) (harg3 : arg3.IsWhole) (arg4 : Memref sig .tc .vmem S4096x512 .bf16) (harg4 : arg4.IsWhole) (arg5 : Memref sig .tc .vmem S256x512 .bf16) (harg5 : arg5.IsWhole) (arg6 : Memref sig .tc .vmem S8x128 .f32) (harg6 : arg6.IsWhole) (x0 : Vec Ideal S4096x256 .bf16) (x1 : Vec Ideal S4096x512 .bf16) :
    out1_A_2 (F := Ideal) c i arg3 harg3 arg4 harg4 arg5 harg5 arg6 harg6 x0 x1 = k1_pay1 x0 x1 := by
  unfold out1_A_2
  rw [View.read_writes_junk_eq_canon]
  exact (View.canon_cons_unit_lit (by decide) _ [] (by decide)).trans
    (congrArg₂ _ (readAt_whole arg3 harg3 x0 (by decide) (by decide)) (readAt_whole arg4 harg4 x1 (by decide) (by decide)))

/-- The row of the array that a row of the block of grid point `t` is. -/
def row (t : Fin cfg1.N) (i : Fin 256) : Fin 256 := ⟨256 * (t.val / 4) + i.val, by
  have h : t.val < 4 := lt_of_lt_of_eq t.isLt (show cfg1.N = 4 from N_1); omega⟩
/-- The column of the array that a column of the block of grid point `t` is. -/
def col (t : Fin cfg1.N) (j : Fin 512) : Fin 2048 := ⟨512 * (t.val % 4) + j.val, by
  have h : t.val % 4 < 4 := Nat.mod_lt _ (by decide); omega⟩

/-! The block index of each window at each grid point. -/
/-- Window 0's. -/
theorem index_0 : ∀ t : Fin cfg1.N, win1_0.index t (0 : Fin 2) = 0 ∧ win1_0.index t (1 : Fin 2) = t.val / 4 :=
  (by decide +kernel : ∀ t : Fin grid1.N, _)
/-- Window 1's. -/
theorem index_1 : ∀ t : Fin cfg1.N, win1_1.index t (0 : Fin 2) = 0 ∧ win1_1.index t (1 : Fin 2) = t.val % 4 :=
  (by decide +kernel : ∀ t : Fin grid1.N, _)
/-- Window 2's. -/
theorem index_2 : ∀ t : Fin cfg1.N, win1_2.index t (0 : Fin 2) = t.val / 4 ∧ win1_2.index t (1 : Fin 2) = t.val % 4 :=
  (by decide +kernel : ∀ t : Fin grid1.N, _)

/-! Where an entry of each window's block lies in its array. -/
/-- Window 0's. -/
theorem emb_0 (t : Fin cfg1.N) (i : Fin 4096) (j : Fin 256) : ((cfg1.win 0).blk t).view.emb (ix2 i j)
    = (ix2 i (row t j) : S4096x256.Idx) := by
  obtain ⟨e0, e1⟩ := index_0 t
  funext a; apply Fin.ext
  match a with
  | ⟨0, _⟩ => show win1_0.index t (0 : Fin 2) * 4096 + 1 * i.val = i.val; omega
  | ⟨1, _⟩ => show win1_0.index t (1 : Fin 2) * 256 + 1 * j.val = 256 * (t.val / 4) + j.val; omega
/-- Window 1's. -/
theorem emb_1 (t : Fin cfg1.N) (i : Fin 4096) (j : Fin 512) : ((cfg1.win 1).blk t).view.emb (ix2 i j)
    = (ix2 i (col t j) : S4096x2048.Idx) := by
  obtain ⟨e0, e1⟩ := index_1 t
  funext a; apply Fin.ext
  match a with
  | ⟨0, _⟩ => show win1_1.index t (0 : Fin 2) * 4096 + 1 * i.val = i.val; omega
  | ⟨1, _⟩ => show win1_1.index t (1 : Fin 2) * 512 + 1 * j.val = 512 * (t.val % 4) + j.val; omega
/-- Window 2's. -/
theorem emb_2 (t : Fin cfg1.N) (i : Fin 256) (j : Fin 512) : ((cfg1.win 2).blk t).view.emb (ix2 i j)
    = (ix2 (row t i) (col t j) : S256x2048.Idx) := by
  obtain ⟨e0, e1⟩ := index_2 t
  funext a; apply Fin.ext
  match a with
  | ⟨0, _⟩ => show win1_2.index t (0 : Fin 2) * 256 + 1 * i.val = 256 * (t.val / 4) + i.val; omega
  | ⟨1, _⟩ => show win1_2.index t (1 : Fin 2) * 512 + 1 * j.val = 512 * (t.val % 4) + j.val; omega

section
variable (V : (c : Dev nD) → (b : Ref sig .tc) → Buf (Elt Ideal) ((c : Thread nD τ).loc b)) (c : Dev nD)

/-- The products of the two arrays the call reads. -/
abbrev prodAB : Mat 256 2048 := tn (V c main_v0 : Mat 4096 256) (V c main_arg6 : Mat 4096 2048)

/-- The product of a point's blocks is its block of the product of the arrays. -/
theorem prod_block (t : Fin cfg1.N) (i : Fin 256) (j : Fin 512) :
    tn (iblk1 V c 0 t : Mat 4096 256) (iblk1 V c 1 t : Mat 4096 512) (ix2 i j) = prodAB V c (ix2 (row t i) (col t j)) :=
  tn_block (A := (V c main_v0 : Mat 4096 256)) (B := (V c main_arg6 : Mat 4096 2048)) (r := row t) (s := col t)
    (fun i l => by have h := congrArg (V c main_v0 : Mat 4096 256) (emb_0 t i l); exact h) (fun l j => congrArg (V c main_arg6 : Mat 4096 2048) (emb_1 t l j)) i j

/-- The array of output 2 after the call. -/
def arr_2 : Mat 256 2048 := prodAB V c

/-- What a point writes back to output 2 is its block of that array. -/
theorem flushed_2 (t : Fin cfg1.N) : (dat1 V c).flushed 2 t = ((cfg1.win 2).blk t).view.read (Elt Ideal) (arr_2 V c) := by
  show (cfg1.win 2).cut (grid1.coords t) ((dat1 V c).after 2 t) = _
  rw [after1_2]
  unfold outsAt1
  try dsimp only
  rw [out_2]
  funext y
  obtain ⟨i, j, rfl⟩ : ∃ (i : Fin 256) (j : Fin 512), y = (ix2 i j : S256x512.Idx) := ⟨y 0, y 1, eq_ix2 y⟩
  show (k1_pay1 (iblk1 V c 0 t) (iblk1 V c 1 t) : FVec Ideal S256x512 .bf16) (ix2 i j) = arr_2 V c (((cfg1.win 2).blk t).view.emb (ix2 i j))
  rw [emb_2, pay_2, prod_block]
  skip
  rfl

/-- After the call output 2 holds it. -/
theorem final_2 : ((dat1 V c).arrAt 2 cfg1.N : FVec Ideal S256x2048 .bf16) = arr_2 V c := by
  have hN : cfg1.N = 4 := N_1
  refine (dat1 V c).arrAt_eq_of_cover 2 (arr_2 V c) (fun t _ => flushed_2 V c t) fun y => ?_
  obtain ⟨r, s, rfl⟩ : ∃ (r : Fin 256) (s : Fin 2048), y = (ix2 r s : S256x2048.Idx) := ⟨y 0, y 1, eq_ix2 y⟩
  have ht : 4 * (r.val / 256) + s.val / 512 < cfg1.N := by omega
  refine ⟨⟨4 * (r.val / 256) + s.val / 512, ht⟩, flush1_2 _, ?_⟩
  have hm := ((cfg1.win 2).blk ⟨4 * (r.val / 256) + s.val / 512, ht⟩).view.emb_mem_set
    (ix2 (⟨r.val % 256, by omega⟩ : Fin 256) (⟨s.val % 512, by omega⟩ : Fin 512))
  rw [emb_2] at hm
  have e : (ix2 r s : S256x2048.Idx) = ix2 (row ⟨4 * (r.val / 256) + s.val / 512, ht⟩ (⟨r.val % 256, by omega⟩ : Fin 256))
      (col ⟨4 * (r.val / 256) + s.val / 512, ht⟩ (⟨s.val % 512, by omega⟩ : Fin 512)) := by
    funext a; apply Fin.ext
    match a with
    | ⟨0, _⟩ => show r.val = 256 * ((4 * (r.val / 256) + s.val / 512) / 4) + r.val % 256; omega
    | ⟨1, _⟩ => show s.val = 512 * ((4 * (r.val / 256) + s.val / 512) % 4) + s.val % 512; omega
  rw [e]; exact hm

end

end Cert.PleGradW
end
end
-- ==== Proof.NormAttn.lean ====
/- The norm before the attention: what the result array holds after the call. -/
module

public import proofs.«01_k».proof.Proof.NormSpec
public import proofs.«01_k».proof.Proof.Gen.WeightsIdeal.Frame

@[expose] public section

set_option maxRecDepth 16384

noncomputable section

open Idealize.ShloMosaic Idealize.ShloMosaic.TcCoe Idealize.ShloMosaic.ValueIdx Cert.WeightsIdeal Cert.WeightsIdeal.Gen Cert.MatSpec Cert.NormSpec
open scoped BigOperators

namespace Cert.NormAttn

/-- What a grid point computes of its blocks. -/
theorem pay (x : Vec Ideal S512x2048 .f32) (g : Vec Ideal S1x2048 .f32) (i : Fin 512) (j : Fin 2048) :
    (k2_pay1 x g : FVec Ideal S512x2048 .bf16) (ix2 i j) = norm (x : Mat 512 2048) (g : Mat 1 2048) (ix2 i j) :=
  normLines_apply reduces_S512x2048_S512 (.inl rfl) rfl shapeCasts_S512_S512x1 x g broadcasts_S512x1_S512x2048 broadcasts_S1x2048_S512x2048
    (by norm_num) (by norm_num) i j

/-- What a grid point leaves in the output window. -/
theorem out (x0 : Vec Ideal S512x2048 .f32) (x1 : Vec Ideal S1x2048 .f32) : out2_2 (F := Ideal) x0 x1 = k2_pay1 x0 x1 := by
  unfold out2_2
  exact (View.canon_cons_unit_lit (by decide) _ [] (by decide)).trans
    (congrArg₂ _ (View.ld_unit_lit (by decide) x0 (by decide)) (View.ld_unit_lit (by decide) x1 (by decide)))

/-- The row of the array that a row of the block of grid point `t` is. -/
def row (t : Fin cfg2.N) (i : Fin 512) : Fin 4096 := ⟨512 * t.val + i.val, by
  have h : t.val < 8 := lt_of_lt_of_eq t.isLt (show cfg2.N = 8 from N_2); omega⟩

/-- Where window 0's block lies at each grid point. -/
theorem index_0 : ∀ t : Fin cfg2.N, win2_0.index t (0 : Fin 2) = t.val ∧ win2_0.index t (1 : Fin 2) = 0 :=
  (by decide +kernel : ∀ t : Fin grid2.N, _)
/-- Where an entry of window 0's block lies in its array. -/
theorem emb_0 (t : Fin cfg2.N) (i : Fin 512) (j : Fin 2048) : ((cfg2.win 0).blk t).view.emb (ix2 i j)
    = (ix2 (row t i) j : S4096x2048.Idx) := by
  obtain ⟨e0, e1⟩ := index_0 t
  funext a; apply Fin.ext
  match a with
  | ⟨0, _⟩ => show win2_0.index t (0 : Fin 2) * 512 + 1 * i.val = 512 * t.val + i.val; omega
  | ⟨1, _⟩ => show win2_0.index t (1 : Fin 2) * 2048 + 1 * j.val = j.val; omega

/-- Where window 1's block lies at each grid point. -/
theorem index_1 : ∀ t : Fin cfg2.N, win2_1.index t (0 : Fin 2) = 0 ∧ win2_1.index t (1 : Fin 2) = 0 :=
  (by decide +kernel : ∀ t : Fin grid2.N, _)
/-- Where an entry of window 1's block lies in its array. -/
theorem emb_1 (t : Fin cfg2.N) (i : Fin 1) (j : Fin 2048) : ((cfg2.win 1).blk t).view.emb (ix2 i j)
    = (ix2 i j : S1x2048.Idx) := by
  obtain ⟨e0, e1⟩ := index_1 t
  funext a; apply Fin.ext
  match a with
  | ⟨0, _⟩ => show win2_1.index t (0 : Fin 2) * 1 + 1 * i.val = i.val; omega
  | ⟨1, _⟩ => show win2_1.index t (1 : Fin 2) * 2048 + 1 * j.val = j.val; omega

/-- Where window 2's block lies at each grid point. -/
theorem index_2 : ∀ t : Fin cfg2.N, win2_2.index t (0 : Fin 2) = t.val ∧ win2_2.index t (1 : Fin 2) = 0 :=
  (by decide +kernel : ∀ t : Fin grid2.N, _)
/-- Where an entry of window 2's block lies in its array. -/
theorem emb_2 (t : Fin cfg2.N) (i : Fin 512) (j : Fin 2048) : ((cfg2.win 2).blk t).view.emb (ix2 i j)
    = (ix2 (row t i) j : S4096x2048.Idx) := by
  obtain ⟨e0, e1⟩ := index_2 t
  funext a; apply Fin.ext
  match a with
  | ⟨0, _⟩ => show win2_2.index t (0 : Fin 2) * 512 + 1 * i.val = 512 * t.val + i.val; omega
  | ⟨1, _⟩ => show win2_2.index t (1 : Fin 2) * 2048 + 1 * j.val = j.val; omega

section
variable (V : (c : Dev nD) → (b : Ref sig .tc) → Buf (Elt Ideal) ((c : Thread nD τ).loc b)) (c : Dev nD)

/-- The array after the call. -/
def arr_2 : Mat 4096 2048 := norm (V c main_arg0 : Mat 4096 2048) (V c main_arg1 : Mat 1 2048)

/-- What a point writes back is its block of that array. -/
theorem flushed_2 (t : Fin cfg2.N) : (dat2 V c).flushed 2 t = ((cfg2.win 2).blk t).view.read (Elt Ideal) (arr_2 V c) := by
  show (cfg2.win 2).cut (grid2.coords t) ((dat2 V c).after 2 t) = _
  rw [after2_2, out]
  funext y
  obtain ⟨i, j, rfl⟩ : ∃ (i : Fin 512) (j : Fin 2048), y = (ix2 i j : S512x2048.Idx) := ⟨y 0, y 1, eq_ix2 y⟩
  show (k2_pay1 (iblk2 V c 0 t) (iblk2 V c 1 t) : FVec Ideal S512x2048 .bf16) (ix2 i j) = arr_2 V c (((cfg2.win 2).blk t).view.emb (ix2 i j))
  rw [emb_2, pay]
  exact norm_block (X := (V c main_arg0 : Mat 4096 2048)) (g := (V c main_arg1 : Mat 1 2048)) (r := row t)
    (fun i l => congrArg (V c main_arg0 : Mat 4096 2048) (emb_0 t i l)) (fun l => by have h := congrArg (V c main_arg1 : Mat 1 2048) (emb_1 t 0 l); exact h) i j

/-- After the call output 2 holds it. -/
theorem final_2 : ((dat2 V c).arrAt 2 cfg2.N : FVec Ideal S4096x2048 .bf16) = arr_2 V c := by
  have hN : cfg2.N = 8 := N_2
  refine (dat2 V c).arrAt_eq_of_cover 2 (arr_2 V c) (fun t _ => flushed_2 V c t) fun y => ?_
  obtain ⟨r, s, rfl⟩ : ∃ (r : Fin 4096) (s : Fin 2048), y = (ix2 r s : S4096x2048.Idx) := ⟨y 0, y 1, eq_ix2 y⟩
  have ht : r.val / 512 < cfg2.N := by omega
  refine ⟨⟨r.val / 512, ht⟩, flush2_2 _, ?_⟩
  have hm := ((cfg2.win 2).blk ⟨r.val / 512, ht⟩).view.emb_mem_set (ix2 (⟨r.val % 512, by omega⟩ : Fin 512) s)
  rw [emb_2] at hm
  have e : (ix2 r s : S4096x2048.Idx) = ix2 (row ⟨r.val / 512, ht⟩ (⟨r.val % 512, by omega⟩ : Fin 512)) s := by
    funext a; apply Fin.ext
    match a with
    | ⟨0, _⟩ => show r.val = 512 * (r.val / 512) + r.val % 512; omega
    | ⟨1, _⟩ => rfl
  rw [e]; exact hm

end

end Cert.NormAttn
end
end
-- ==== Proof.InGradW.lean ====
/- The gradient of the input weight: what the result array holds after the call. -/
module

public import proofs.«01_k».proof.Proof.MatSpec
public import proofs.«01_k».proof.Proof.Gen.WeightsIdeal.Frame

@[expose] public section

set_option maxRecDepth 16384

noncomputable section

open Idealize.ShloMosaic Idealize.ShloMosaic.TcCoe Idealize.ShloMosaic.ValueIdx Cert.WeightsIdeal Cert.WeightsIdeal.Gen Cert.MatSpec
open scoped BigOperators

namespace Cert.InGradW

/-- The product of two blocks. -/
theorem pay_2 (a : Vec Ideal S4096x1024 .bf16) (b : Vec Ideal S4096x1024 .bf16) (i : Fin 1024) (j : Fin 1024) :
    (k3_pay1 a b : FVec Ideal S1024x1024 .bf16) (ix2 i j) = (tn a b (ix2 i j) : EReal) := by
  unfold k3_pay1
  rw [shapeCast_self]
  exact congrFun (matmul_tn (φ := .bf16) (ψ := .bf16) a b) (ix2 i j)

/-- What a grid point leaves in output window 2. -/
theorem out_2 (c : Dev nD) (i : grid3.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S8x128 .f32) (harg6 : arg6.IsWhole) (x0 : Vec Ideal S4096x1024 .bf16) (x1 : Vec Ideal S4096x1024 .bf16) :
    out3_A_2 (F := Ideal) c i arg3 harg3 arg4 harg4 arg5 harg5 arg6 harg6 x0 x1 = k3_pay1 x0 x1 := by
  unfold out3_A_2
  rw [View.read_writes_junk_eq_canon]
  exact (View.canon_cons_unit_lit (by decide) _ [] (by decide)).trans
    (congrArg₂ _ (readAt_whole arg3 harg3 x0 (by decide) (by decide)) (readAt_whole arg4 harg4 x1 (by decide) (by decide)))

/-- The row of the array that a row of the block of grid point `t` is. -/
def row (t : Fin cfg3.N) (i : Fin 1024) : Fin 2048 := ⟨1024 * (t.val / 3) + i.val, by
  have h : t.val < 6 := lt_of_lt_of_eq t.isLt (show cfg3.N = 6 from N_3); omega⟩
/-- The column of the array that a column of the block of grid point `t` is. -/
def col (t : Fin cfg3.N) (j : Fin 1024) : Fin 3072 := ⟨1024 * (t.val % 3) + j.val, by
  have h : t.val % 3 < 3 := Nat.mod_lt _ (by decide); omega⟩

/-! The block index of each window at each grid point. -/
/-- Window 0's. -/
theorem index_0 : ∀ t : Fin cfg3.N, win3_0.index t (0 : Fin 2) = 0 ∧ win3_0.index t (1 : Fin 2) = t.val / 3 :=
  (by decide +kernel : ∀ t : Fin grid3.N, _)
/-- Window 1's. -/
theorem index_1 : ∀ t : Fin cfg3.N, win3_1.index t (0 : Fin 2) = 0 ∧ win3_1.index t (1 : Fin 2) = t.val % 3 :=
  (by decide +kernel : ∀ t : Fin grid3.N, _)
/-- Window 2's. -/
theorem index_2 : ∀ t : Fin cfg3.N, win3_2.index t (0 : Fin 2) = t.val / 3 ∧ win3_2.index t (1 : Fin 2) = t.val % 3 :=
  (by decide +kernel : ∀ t : Fin grid3.N, _)

/-! Where an entry of each window's block lies in its array. -/
/-- Window 0's. -/
theorem emb_0 (t : Fin cfg3.N) (i : Fin 4096) (j : Fin 1024) : ((cfg3.win 0).blk t).view.emb (ix2 i j)
    = (ix2 i (row t j) : S4096x2048.Idx) := by
  obtain ⟨e0, e1⟩ := index_0 t
  funext a; apply Fin.ext
  match a with
  | ⟨0, _⟩ => show win3_0.index t (0 : Fin 2) * 4096 + 1 * i.val = i.val; omega
  | ⟨1, _⟩ => show win3_0.index t (1 : Fin 2) * 1024 + 1 * j.val = 1024 * (t.val / 3) + j.val; omega
/-- Window 1's. -/
theorem emb_1 (t : Fin cfg3.N) (i : Fin 4096) (j : Fin 1024) : ((cfg3.win 1).blk t).view.emb (ix2 i j)
    = (ix2 i (col t j) : S4096x3072.Idx) := by
  obtain ⟨e0, e1⟩ := index_1 t
  funext a; apply Fin.ext
  match a with
  | ⟨0, _⟩ => show win3_1.index t (0 : Fin 2) * 4096 + 1 * i.val = i.val; omega
  | ⟨1, _⟩ => show win3_1.index t (1 : Fin 2) * 1024 + 1 * j.val = 1024 * (t.val % 3) + j.val; omega
/-- Window 2's. -/
theorem emb_2 (t : Fin cfg3.N) (i : Fin 1024) (j : Fin 1024) : ((cfg3.win 2).blk t).view.emb (ix2 i j)
    = (ix2 (row t i) (col t j) : S2048x3072.Idx) := by
  obtain ⟨e0, e1⟩ := index_2 t
  funext a; apply Fin.ext
  match a with
  | ⟨0, _⟩ => show win3_2.index t (0 : Fin 2) * 1024 + 1 * i.val = 1024 * (t.val / 3) + i.val; omega
  | ⟨1, _⟩ => show win3_2.index t (1 : Fin 2) * 1024 + 1 * j.val = 1024 * (t.val % 3) + j.val; omega

section
variable (V : (c : Dev nD) → (b : Ref sig .tc) → Buf (Elt Ideal) ((c : Thread nD τ).loc b)) (c : Dev nD)

/-- The products of the two arrays the call reads. -/
abbrev prodAB : Mat 2048 3072 := tn (V c main_v3 : Mat 4096 2048) (V c main_arg3 : Mat 4096 3072)

/-- The product of a point's blocks is its block of the product of the arrays. -/
theorem prod_block (t : Fin cfg3.N) (i : Fin 1024) (j : Fin 1024) :
    tn (iblk3 V c 0 t : Mat 4096 1024) (iblk3 V c 1 t : Mat 4096 1024) (ix2 i j) = prodAB V c (ix2 (row t i) (col t j)) :=
  tn_block (A := (V c main_v3 : Mat 4096 2048)) (B := (V c main_arg3 : Mat 4096 3072)) (r := row t) (s := col t)
    (fun i l => congrArg (V c main_v3 : Mat 4096 2048) (emb_0 t i l)) (fun l j => congrArg (V c main_arg3 : Mat 4096 3072) (emb_1 t l j)) i j

/-- The array of output 2 after the call. -/
def arr_2 : Mat 2048 3072 := prodAB V c

/-- What a point writes back to output 2 is its block of that array. -/
theorem flushed_2 (t : Fin cfg3.N) : (dat3 V c).flushed 2 t = ((cfg3.win 2).blk t).view.read (Elt Ideal) (arr_2 V c) := by
  show (cfg3.win 2).cut (grid3.coords t) ((dat3 V c).after 2 t) = _
  rw [after3_2]
  unfold outsAt3
  try dsimp only
  rw [out_2]
  funext y
  obtain ⟨i, j, rfl⟩ : ∃ (i : Fin 1024) (j : Fin 1024), y = (ix2 i j : S1024x1024.Idx) := ⟨y 0, y 1, eq_ix2 y⟩
  show (k3_pay1 (iblk3 V c 0 t) (iblk3 V c 1 t) : FVec Ideal S1024x1024 .bf16) (ix2 i j) = arr_2 V c (((cfg3.win 2).blk t).view.emb (ix2 i j))
  rw [emb_2, pay_2, prod_block]
  skip
  rfl

/-- After the call output 2 holds it. -/
theorem final_2 : ((dat3 V c).arrAt 2 cfg3.N : FVec Ideal S2048x3072 .bf16) = arr_2 V c := by
  have hN : cfg3.N = 6 := N_3
  refine (dat3 V c).arrAt_eq_of_cover 2 (arr_2 V c) (fun t _ => flushed_2 V c t) fun y => ?_
  obtain ⟨r, s, rfl⟩ : ∃ (r : Fin 2048) (s : Fin 3072), y = (ix2 r s : S2048x3072.Idx) := ⟨y 0, y 1, eq_ix2 y⟩
  have ht : 3 * (r.val / 1024) + s.val / 1024 < cfg3.N := by omega
  refine ⟨⟨3 * (r.val / 1024) + s.val / 1024, ht⟩, flush3_2 _, ?_⟩
  have hm := ((cfg3.win 2).blk ⟨3 * (r.val / 1024) + s.val / 1024, ht⟩).view.emb_mem_set
    (ix2 (⟨r.val % 1024, by omega⟩ : Fin 1024) (⟨s.val % 1024, by omega⟩ : Fin 1024))
  rw [emb_2] at hm
  have e : (ix2 r s : S2048x3072.Idx) = ix2 (row ⟨3 * (r.val / 1024) + s.val / 1024, ht⟩ (⟨r.val % 1024, by omega⟩ : Fin 1024))
      (col ⟨3 * (r.val / 1024) + s.val / 1024, ht⟩ (⟨s.val % 1024, by omega⟩ : Fin 1024)) := by
    funext a; apply Fin.ext
    match a with
    | ⟨0, _⟩ => show r.val = 1024 * ((3 * (r.val / 1024) + s.val / 1024) / 3) + r.val % 1024; omega
    | ⟨1, _⟩ => show s.val = 1024 * ((3 * (r.val / 1024) + s.val / 1024) % 3) + s.val % 1024; omega
  rw [e]; exact hm

end

end Cert.InGradW
end
end
-- ==== Proof.GateNorm.lean ====
/- The norm before the gate: what the result array holds after the call. -/
module

public import proofs.«01_k».proof.Proof.NormSpec
public import proofs.«01_k».proof.Proof.Gen.WeightsIdeal.Frame

@[expose] public section

set_option maxRecDepth 16384

noncomputable section

open Idealize.ShloMosaic Idealize.ShloMosaic.TcCoe Idealize.ShloMosaic.ValueIdx Cert.WeightsIdeal Cert.WeightsIdeal.Gen Cert.MatSpec Cert.NormSpec
open scoped BigOperators

namespace Cert.GateNorm

/-- What a grid point computes of its blocks. -/
theorem pay (x : Vec Ideal S512x2048 .f32) (g : Vec Ideal S1x2048 .f32) (i : Fin 512) (j : Fin 2048) :
    (k4_pay1 x g : FVec Ideal S512x2048 .bf16) (ix2 i j) = norm (x : Mat 512 2048) (g : Mat 1 2048) (ix2 i j) :=
  normLines_apply reduces_S512x2048_S512 (.inl rfl) rfl shapeCasts_S512_S512x1 x g broadcasts_S512x1_S512x2048 broadcasts_S1x2048_S512x2048
    (by norm_num) (by norm_num) i j

/-- What a grid point leaves in the output window. -/
theorem out (x0 : Vec Ideal S512x2048 .f32) (x1 : Vec Ideal S1x2048 .f32) : out4_2 (F := Ideal) x0 x1 = k4_pay1 x0 x1 := by
  unfold out4_2
  exact (View.canon_cons_unit_lit (by decide) _ [] (by decide)).trans
    (congrArg₂ _ (View.ld_unit_lit (by decide) x0 (by decide)) (View.ld_unit_lit (by decide) x1 (by decide)))

/-- The row of the array that a row of the block of grid point `t` is. -/
def row (t : Fin cfg4.N) (i : Fin 512) : Fin 4096 := ⟨512 * t.val + i.val, by
  have h : t.val < 8 := lt_of_lt_of_eq t.isLt (show cfg4.N = 8 from N_4); omega⟩

/-- Where window 0's block lies at each grid point. -/
theorem index_0 : ∀ t : Fin cfg4.N, win4_0.index t (0 : Fin 2) = t.val ∧ win4_0.index t (1 : Fin 2) = 0 :=
  (by decide +kernel : ∀ t : Fin grid4.N, _)
/-- Where an entry of window 0's block lies in its array. -/
theorem emb_0 (t : Fin cfg4.N) (i : Fin 512) (j : Fin 2048) : ((cfg4.win 0).blk t).view.emb (ix2 i j)
    = (ix2 (row t i) j : S4096x2048.Idx) := by
  obtain ⟨e0, e1⟩ := index_0 t
  funext a; apply Fin.ext
  match a with
  | ⟨0, _⟩ => show win4_0.index t (0 : Fin 2) * 512 + 1 * i.val = 512 * t.val + i.val; omega
  | ⟨1, _⟩ => show win4_0.index t (1 : Fin 2) * 2048 + 1 * j.val = j.val; omega

/-- Where window 1's block lies at each grid point. -/
theorem index_1 : ∀ t : Fin cfg4.N, win4_1.index t (0 : Fin 2) = 0 ∧ win4_1.index t (1 : Fin 2) = 0 :=
  (by decide +kernel : ∀ t : Fin grid4.N, _)
/-- Where an entry of window 1's block lies in its array. -/
theorem emb_1 (t : Fin cfg4.N) (i : Fin 1) (j : Fin 2048) : ((cfg4.win 1).blk t).view.emb (ix2 i j)
    = (ix2 i j : S1x2048.Idx) := by
  obtain ⟨e0, e1⟩ := index_1 t
  funext a; apply Fin.ext
  match a with
  | ⟨0, _⟩ => show win4_1.index t (0 : Fin 2) * 1 + 1 * i.val = i.val; omega
  | ⟨1, _⟩ => show win4_1.index t (1 : Fin 2) * 2048 + 1 * j.val = j.val; omega

/-- Where window 2's block lies at each grid point. -/
theorem index_2 : ∀ t : Fin cfg4.N, win4_2.index t (0 : Fin 2) = t.val ∧ win4_2.index t (1 : Fin 2) = 0 :=
  (by decide +kernel : ∀ t : Fin grid4.N, _)
/-- Where an entry of window 2's block lies in its array. -/
theorem emb_2 (t : Fin cfg4.N) (i : Fin 512) (j : Fin 2048) : ((cfg4.win 2).blk t).view.emb (ix2 i j)
    = (ix2 (row t i) j : S4096x2048.Idx) := by
  obtain ⟨e0, e1⟩ := index_2 t
  funext a; apply Fin.ext
  match a with
  | ⟨0, _⟩ => show win4_2.index t (0 : Fin 2) * 512 + 1 * i.val = 512 * t.val + i.val; omega
  | ⟨1, _⟩ => show win4_2.index t (1 : Fin 2) * 2048 + 1 * j.val = j.val; omega

section
variable (V : (c : Dev nD) → (b : Ref sig .tc) → Buf (Elt Ideal) ((c : Thread nD τ).loc b)) (c : Dev nD)

/-- The array after the call. -/
def arr_2 : Mat 4096 2048 := norm (V c main_arg7 : Mat 4096 2048) (V c main_arg8 : Mat 1 2048)

/-- What a point writes back is its block of that array. -/
theorem flushed_2 (t : Fin cfg4.N) : (dat4 V c).flushed 2 t = ((cfg4.win 2).blk t).view.read (Elt Ideal) (arr_2 V c) := by
  show (cfg4.win 2).cut (grid4.coords t) ((dat4 V c).after 2 t) = _
  rw [after4_2, out]
  funext y
  obtain ⟨i, j, rfl⟩ : ∃ (i : Fin 512) (j : Fin 2048), y = (ix2 i j : S512x2048.Idx) := ⟨y 0, y 1, eq_ix2 y⟩
  show (k4_pay1 (iblk4 V c 0 t) (iblk4 V c 1 t) : FVec Ideal S512x2048 .bf16) (ix2 i j) = arr_2 V c (((cfg4.win 2).blk t).view.emb (ix2 i j))
  rw [emb_2, pay]
  exact norm_block (X := (V c main_arg7 : Mat 4096 2048)) (g := (V c main_arg8 : Mat 1 2048)) (r := row t)
    (fun i l => congrArg (V c main_arg7 : Mat 4096 2048) (emb_0 t i l)) (fun l => by have h := congrArg (V c main_arg8 : Mat 1 2048) (emb_1 t 0 l); exact h) i j

/-- After the call output 2 holds it. -/
theorem final_2 : ((dat4 V c).arrAt 2 cfg4.N : FVec Ideal S4096x2048 .bf16) = arr_2 V c := by
  have hN : cfg4.N = 8 := N_4
  refine (dat4 V c).arrAt_eq_of_cover 2 (arr_2 V c) (fun t _ => flushed_2 V c t) fun y => ?_
  obtain ⟨r, s, rfl⟩ : ∃ (r : Fin 4096) (s : Fin 2048), y = (ix2 r s : S4096x2048.Idx) := ⟨y 0, y 1, eq_ix2 y⟩
  have ht : r.val / 512 < cfg4.N := by omega
  refine ⟨⟨r.val / 512, ht⟩, flush4_2 _, ?_⟩
  have hm := ((cfg4.win 2).blk ⟨r.val / 512, ht⟩).view.emb_mem_set (ix2 (⟨r.val % 512, by omega⟩ : Fin 512) s)
  rw [emb_2] at hm
  have e : (ix2 r s : S4096x2048.Idx) = ix2 (row ⟨r.val / 512, ht⟩ (⟨r.val % 512, by omega⟩ : Fin 512)) s := by
    funext a; apply Fin.ext
    match a with
    | ⟨0, _⟩ => show r.val = 512 * (r.val / 512) + r.val % 512; omega
    | ⟨1, _⟩ => rfl
  rw [e]; exact hm

end

end Cert.GateNorm
end
end
-- ==== Proof.GateGradW.lean ====
/- The gradient of the gate weight: what the result array holds after the call. -/
module

public import proofs.«01_k».proof.Proof.MatSpec
public import proofs.«01_k».proof.Proof.Gen.WeightsIdeal.Frame

@[expose] public section

set_option maxRecDepth 16384

noncomputable section

open Idealize.ShloMosaic Idealize.ShloMosaic.TcCoe Idealize.ShloMosaic.ValueIdx Cert.WeightsIdeal Cert.WeightsIdeal.Gen Cert.MatSpec
open scoped BigOperators

namespace Cert.GateGradW

/-- The product of two blocks. -/
theorem pay_2 (a : Vec Ideal S4096x1024 .bf16) (b : Vec Ideal S4096x1024 .bf16) (i : Fin 1024) (j : Fin 1024) :
    (k5_pay1 a b : FVec Ideal S1024x1024 .bf16) (ix2 i j) = (tn a b (ix2 i j) : EReal) := by
  unfold k5_pay1
  rw [shapeCast_self]
  exact congrFun (matmul_tn (φ := .bf16) (ψ := .bf16) a b) (ix2 i j)

/-- What a grid point leaves in output window 2. -/
theorem out_2 (c : Dev nD) (i : grid5.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S8x128 .f32) (harg6 : arg6.IsWhole) (x0 : Vec Ideal S4096x1024 .bf16) (x1 : Vec Ideal S4096x1024 .bf16) :
    out5_A_2 (F := Ideal) c i arg3 harg3 arg4 harg4 arg5 harg5 arg6 harg6 x0 x1 = k5_pay1 x0 x1 := by
  unfold out5_A_2
  rw [View.read_writes_junk_eq_canon]
  exact (View.canon_cons_unit_lit (by decide) _ [] (by decide)).trans
    (congrArg₂ _ (readAt_whole arg3 harg3 x0 (by decide) (by decide)) (readAt_whole arg4 harg4 x1 (by decide) (by decide)))

/-- The row of the array that a row of the block of grid point `t` is. -/
def row (t : Fin cfg5.N) (i : Fin 1024) : Fin 2048 := ⟨1024 * (t.val / 2) + i.val, by
  have h : t.val < 4 := lt_of_lt_of_eq t.isLt (show cfg5.N = 4 from N_5); omega⟩
/-- The column of the array that a column of the block of grid point `t` is. -/
def col (t : Fin cfg5.N) (j : Fin 1024) : Fin 2048 := ⟨1024 * (t.val % 2) + j.val, by
  have h : t.val % 2 < 2 := Nat.mod_lt _ (by decide); omega⟩

/-! The block index of each window at each grid point. -/
/-- Window 0's. -/
theorem index_0 : ∀ t : Fin cfg5.N, win5_0.index t (0 : Fin 2) = 0 ∧ win5_0.index t (1 : Fin 2) = t.val / 2 :=
  (by decide +kernel : ∀ t : Fin grid5.N, _)
/-- Window 1's. -/
theorem index_1 : ∀ t : Fin cfg5.N, win5_1.index t (0 : Fin 2) = 0 ∧ win5_1.index t (1 : Fin 2) = t.val % 2 :=
  (by decide +kernel : ∀ t : Fin grid5.N, _)
/-- Window 2's. -/
theorem index_2 : ∀ t : Fin cfg5.N, win5_2.index t (0 : Fin 2) = t.val / 2 ∧ win5_2.index t (1 : Fin 2) = t.val % 2 :=
  (by decide +kernel : ∀ t : Fin grid5.N, _)

/-! Where an entry of each window's block lies in its array. -/
/-- Window 0's. -/
theorem emb_0 (t : Fin cfg5.N) (i : Fin 4096) (j : Fin 1024) : ((cfg5.win 0).blk t).view.emb (ix2 i j)
    = (ix2 i (row t j) : S4096x2048.Idx) := by
  obtain ⟨e0, e1⟩ := index_0 t
  funext a; apply Fin.ext
  match a with
  | ⟨0, _⟩ => show win5_0.index t (0 : Fin 2) * 4096 + 1 * i.val = i.val; omega
  | ⟨1, _⟩ => show win5_0.index t (1 : Fin 2) * 1024 + 1 * j.val = 1024 * (t.val / 2) + j.val; omega
/-- Window 1's. -/
theorem emb_1 (t : Fin cfg5.N) (i : Fin 4096) (j : Fin 1024) : ((cfg5.win 1).blk t).view.emb (ix2 i j)
    = (ix2 i (col t j) : S4096x2048.Idx) := by
  obtain ⟨e0, e1⟩ := index_1 t
  funext a; apply Fin.ext
  match a with
  | ⟨0, _⟩ => show win5_1.index t (0 : Fin 2) * 4096 + 1 * i.val = i.val; omega
  | ⟨1, _⟩ => show win5_1.index t (1 : Fin 2) * 1024 + 1 * j.val = 1024 * (t.val % 2) + j.val; omega
/-- Window 2's. -/
theorem emb_2 (t : Fin cfg5.N) (i : Fin 1024) (j : Fin 1024) : ((cfg5.win 2).blk t).view.emb (ix2 i j)
    = (ix2 (row t i) (col t j) : S2048x2048.Idx) := by
  obtain ⟨e0, e1⟩ := index_2 t
  funext a; apply Fin.ext
  match a with
  | ⟨0, _⟩ => show win5_2.index t (0 : Fin 2) * 1024 + 1 * i.val = 1024 * (t.val / 2) + i.val; omega
  | ⟨1, _⟩ => show win5_2.index t (1 : Fin 2) * 1024 + 1 * j.val = 1024 * (t.val % 2) + j.val; omega

section
variable (V : (c : Dev nD) → (b : Ref sig .tc) → Buf (Elt Ideal) ((c : Thread nD τ).loc b)) (c : Dev nD)

/-- The products of the two arrays the call reads. -/
abbrev prodAB : Mat 2048 2048 := tn (V c main_v5 : Mat 4096 2048) (V c main_arg10 : Mat 4096 2048)

/-- The product of a point's blocks is its block of the product of the arrays. -/
theorem prod_block (t : Fin cfg5.N) (i : Fin 1024) (j : Fin 1024) :
    tn (iblk5 V c 0 t : Mat 4096 1024) (iblk5 V c 1 t : Mat 4096 1024) (ix2 i j) = prodAB V c (ix2 (row t i) (col t j)) :=
  tn_block (A := (V c main_v5 : Mat 4096 2048)) (B := (V c main_arg10 : Mat 4096 2048)) (r := row t) (s := col t)
    (fun i l => congrArg (V c main_v5 : Mat 4096 2048) (emb_0 t i l)) (fun l j => congrArg (V c main_arg10 : Mat 4096 2048) (emb_1 t l j)) i j

/-- The array of output 2 after the call. -/
def arr_2 : Mat 2048 2048 := prodAB V c

/-- What a point writes back to output 2 is its block of that array. -/
theorem flushed_2 (t : Fin cfg5.N) : (dat5 V c).flushed 2 t = ((cfg5.win 2).blk t).view.read (Elt Ideal) (arr_2 V c) := by
  show (cfg5.win 2).cut (grid5.coords t) ((dat5 V c).after 2 t) = _
  rw [after5_2]
  unfold outsAt5
  try dsimp only
  rw [out_2]
  funext y
  obtain ⟨i, j, rfl⟩ : ∃ (i : Fin 1024) (j : Fin 1024), y = (ix2 i j : S1024x1024.Idx) := ⟨y 0, y 1, eq_ix2 y⟩
  show (k5_pay1 (iblk5 V c 0 t) (iblk5 V c 1 t) : FVec Ideal S1024x1024 .bf16) (ix2 i j) = arr_2 V c (((cfg5.win 2).blk t).view.emb (ix2 i j))
  rw [emb_2, pay_2, prod_block]
  skip
  rfl

/-- After the call output 2 holds it. -/
theorem final_2 : ((dat5 V c).arrAt 2 cfg5.N : FVec Ideal S2048x2048 .bf16) = arr_2 V c := by
  have hN : cfg5.N = 4 := N_5
  refine (dat5 V c).arrAt_eq_of_cover 2 (arr_2 V c) (fun t _ => flushed_2 V c t) fun y => ?_
  obtain ⟨r, s, rfl⟩ : ∃ (r : Fin 2048) (s : Fin 2048), y = (ix2 r s : S2048x2048.Idx) := ⟨y 0, y 1, eq_ix2 y⟩
  have ht : 2 * (r.val / 1024) + s.val / 1024 < cfg5.N := by omega
  refine ⟨⟨2 * (r.val / 1024) + s.val / 1024, ht⟩, flush5_2 _, ?_⟩
  have hm := ((cfg5.win 2).blk ⟨2 * (r.val / 1024) + s.val / 1024, ht⟩).view.emb_mem_set
    (ix2 (⟨r.val % 1024, by omega⟩ : Fin 1024) (⟨s.val % 1024, by omega⟩ : Fin 1024))
  rw [emb_2] at hm
  have e : (ix2 r s : S2048x2048.Idx) = ix2 (row ⟨2 * (r.val / 1024) + s.val / 1024, ht⟩ (⟨r.val % 1024, by omega⟩ : Fin 1024))
      (col ⟨2 * (r.val / 1024) + s.val / 1024, ht⟩ (⟨s.val % 1024, by omega⟩ : Fin 1024)) := by
    funext a; apply Fin.ext
    match a with
    | ⟨0, _⟩ => show r.val = 1024 * ((2 * (r.val / 1024) + s.val / 1024) / 2) + r.val % 1024; omega
    | ⟨1, _⟩ => show s.val = 1024 * ((2 * (r.val / 1024) + s.val / 1024) % 2) + s.val % 1024; omega
  rw [e]; exact hm

end

end Cert.GateGradW
end
end
-- ==== Proof.WeightsRun.lean ====
/- The run of the norms, the embeddings' product and the weights' gradients: what the result arrays hold at the end. -/
module

public import proofs.«01_k».proof.Proof.PleProj
public import proofs.«01_k».proof.Proof.PleGradW
public import proofs.«01_k».proof.Proof.NormAttn
public import proofs.«01_k».proof.Proof.InGradW
public import proofs.«01_k».proof.Proof.GateNorm
public import proofs.«01_k».proof.Proof.GateGradW

@[expose] public section

set_option maxRecDepth 16384

noncomputable section

namespace Cert.WeightsRun

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WeightsIdeal Cert.WeightsIdeal.Gen Cert.MatSpec Cert.NormSpec

section
variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every fair execution ends, and every buffer of the program then holds what the cast and the six calls leave in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)
end

section
variable (m : (ℓ : Loc nD τ sig) → Buf (Elt Ideal) ℓ) (ρ : Dev nD → PrngReg) (c : Dev nD)

/-- The stream before the attention. -/
abbrev aX : Mat 4096 2048 := m ((c : Thread nD τ).loc main_arg0)
/-- The gain of its norm. -/
abbrev aG : Mat 1 2048 := m ((c : Thread nD τ).loc main_arg1)
/-- The gradient of the input projection's result. -/
abbrev aD : Mat 4096 3072 := m ((c : Thread nD τ).loc main_arg3)
/-- The embeddings. -/
abbrev aE : Mat 4096 256 := m ((c : Thread nD τ).loc main_arg4)
/-- The embeddings' weight. -/
abbrev aP : Mat 256 2048 := m ((c : Thread nD τ).loc main_arg5)
/-- The gradient of the embeddings' product. -/
abbrev aQ : Mat 4096 2048 := m ((c : Thread nD τ).loc main_arg6)
/-- The stream before the gate. -/
abbrev aH : Mat 4096 2048 := m ((c : Thread nD τ).loc main_arg7)
/-- The gain of its norm. -/
abbrev aK : Mat 1 2048 := m ((c : Thread nD τ).loc main_arg8)
/-- The gradient of the gate's product. -/
abbrev aT : Mat 4096 2048 := m ((c : Thread nD τ).loc main_arg10)

/-- The embeddings as the first two calls read them. -/
theorem at1_e : (W1 m ρ c main_v0 : Mat 4096 256) = aE m c := by
  show StableHlo.after hostOps0 (W0 m ρ c) (Proc.devRef .tc main_v0) = _
  unfold hostOps0
  rw [StableHlo.after_cons, StableHlo.after_nil, StableHlo.unary_result]
  rfl
/-- The embeddings' product after the first call. -/
theorem at2_pe : (W2 m ρ c main_v1 : Mat 4096 2048) = nn (aE m c) (aP m c) := by
  refine (W2_arr m ρ c 2).trans ((PleProj.final_2 (V1 m ρ) c).trans ?_)
  show nn (W1 m ρ c main_v0 : Mat 4096 256) (W1 m ρ c main_arg5 : Mat 256 2048) = _
  rw [at1_e, W1_args m ρ c main_arg5 (by decide)]
/-- The gradient of their weight after the second call. -/
theorem at3_pw : (W3 m ρ c main_v2 : Mat 256 2048) = tn (aE m c) (aQ m c) := by
  refine (W3_arr m ρ c 2).trans ((PleGradW.final_2 (V2 m ρ) c).trans ?_)
  show tn (W2 m ρ c main_v0 : Mat 4096 256) (W2 m ρ c main_arg6 : Mat 4096 2048) = _
  rw [show (W2 m ρ c main_v0 : Mat 4096 256) = _ from (W2_of m ρ c main_v0 (by decide)).trans (at1_e m ρ c), W2_args m ρ c main_arg6 (by decide)]
/-- The norm before the attention after the third call. -/
theorem at4_u : (W4 m ρ c main_v3 : Mat 4096 2048) = norm (aX m c) (aG m c) := by
  refine (W4_arr m ρ c 2).trans ((NormAttn.final_2 (V3 m ρ) c).trans ?_)
  show norm (W3 m ρ c main_arg0 : Mat 4096 2048) (W3 m ρ c main_arg1 : Mat 1 2048) = _
  rw [W3_args m ρ c main_arg0 (by decide), W3_args m ρ c main_arg1 (by decide)]
/-- The gradient of the input weight after the fourth call. -/
theorem at5_w : (W5 m ρ c main_v4 : Mat 2048 3072) = tn (norm (aX m c) (aG m c)) (aD m c) := by
  refine (W5_arr m ρ c 2).trans ((InGradW.final_2 (V4 m ρ) c).trans ?_)
  show tn (W4 m ρ c main_v3 : Mat 4096 2048) (W4 m ρ c main_arg3 : Mat 4096 3072) = _
  rw [at4_u, W4_args m ρ c main_arg3 (by decide)]
/-- The norm before the gate after the fifth call. -/
theorem at6_n : (W6 m ρ c main_v5 : Mat 4096 2048) = norm (aH m c) (aK m c) := by
  refine (W6_arr m ρ c 2).trans ((GateNorm.final_2 (V5 m ρ) c).trans ?_)
  show norm (W5 m ρ c main_arg7 : Mat 4096 2048) (W5 m ρ c main_arg8 : Mat 1 2048) = _
  rw [W5_args m ρ c main_arg7 (by decide), W5_args m ρ c main_arg8 (by decide)]
/-- The gradient of the gate weight after the sixth call. -/
theorem at7_w : (W7 m ρ c main_v6 : Mat 2048 2048) = tn (norm (aH m c) (aK m c)) (aT m c) := by
  refine (W7_arr m ρ c 2).trans ((GateGradW.final_2 (V6 m ρ) c).trans ?_)
  show tn (W6 m ρ c main_v5 : Mat 4096 2048) (W6 m ρ c main_arg10 : Mat 4096 2048) = _
  rw [at6_n, W6_args m ρ c main_arg10 (by decide)]
/-- It is left alone by the later calls. -/
theorem end_pe : (W7 m ρ c main_v1 : Mat 4096 2048) = nn (aE m c) (aP m c) :=
  (W7_of m ρ c main_v1 (by decide)).trans ((W6_of m ρ c main_v1 (by decide)).trans ((W5_of m ρ c main_v1 (by decide)).trans ((W4_of m ρ c main_v1 (by decide)).trans ((W3_of m ρ c main_v1 (by decide)).trans (at2_pe m ρ c)))))
/-- It is left alone by the later calls. -/
theorem end_pw : (W7 m ρ c main_v2 : Mat 256 2048) = tn (aE m c) (aQ m c) :=
  (W7_of m ρ c main_v2 (by decide)).trans ((W6_of m ρ c main_v2 (by decide)).trans ((W5_of m ρ c main_v2 (by decide)).trans ((W4_of m ρ c main_v2 (by decide)).trans (at3_pw m ρ c))))
/-- It is left alone by the later calls. -/
theorem end_u : (W7 m ρ c main_v3 : Mat 4096 2048) = norm (aX m c) (aG m c) :=
  (W7_of m ρ c main_v3 (by decide)).trans ((W6_of m ρ c main_v3 (by decide)).trans ((W5_of m ρ c main_v3 (by decide)).trans (at4_u m ρ c)))
/-- It is left alone by the later calls. -/
theorem end_w : (W7 m ρ c main_v4 : Mat 2048 3072) = tn (norm (aX m c) (aG m c)) (aD m c) :=
  (W7_of m ρ c main_v4 (by decide)).trans ((W6_of m ρ c main_v4 (by decide)).trans (at5_w m ρ c))
/-- It is left alone by the later calls. -/
theorem end_n : (W7 m ρ c main_v5 : Mat 4096 2048) = norm (aH m c) (aK m c) :=
  (W7_of m ρ c main_v5 (by decide)).trans (at6_n m ρ c)
end

/-- Every fair execution ends with the results at what they should hold, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v1) = nn (aE m c) (aP m c)
      ∧ r.2.mem ((c : Thread nD τ).loc main_v2) = tn (aE m c) (aQ m c)
      ∧ r.2.mem ((c : Thread nD τ).loc main_v3) = norm (aX m c) (aG m c)
      ∧ r.2.mem ((c : Thread nD τ).loc main_v4) = tn (norm (aX m c) (aG m c)) (aD m c)
      ∧ r.2.mem ((c : Thread nD τ).loc main_v5) = norm (aH m c) (aK m c)
      ∧ r.2.mem ((c : Thread nD τ).loc main_v6) = tn (norm (aH m c) (aK m c)) (aT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c =>
    ⟨(h c _ (mem_uc main_v1 (by decide))).trans (end_pe m ρ c),
      (h c _ (mem_uc main_v2 (by decide))).trans (end_pw m ρ c),
      (h c _ (mem_uc main_v3 (by decide))).trans (end_u m ρ c),
      (h c _ (mem_uc main_v4 (by decide))).trans (end_w m ρ c),
      (h c _ (mem_uc main_v5 (by decide))).trans (end_n m ρ c),
      (h c _ (mem_uc main_v6 (by decide))).trans (at7_w m ρ c),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c)⟩)
    (run_all m ρ)

end Cert.WeightsRun
end
end
-- ==== Proof.WeightsRef.lean ====
/- What the reference of the norms, the embeddings and the weights' gradients computes. -/
module

public import proofs.«01_k».proof.Proof.NormSpec
public import proofs.«01_k».proof.Proof.Gen.WeightsReferenceIdeal.Read

@[expose] public section

set_option maxRecDepth 16384

noncomputable section

open Idealize.ShloMosaic Idealize.ShloMosaic.ValueIdx Cert.MatSpec Cert.NormSpec
open Cert.WeightsReferenceIdeal Cert.WeightsReferenceIdeal.Read
open scoped BigOperators

namespace Cert.WeightsRef

section
variable (X : FVec Ideal S4096x2048 .f32) (G : FVec Ideal S1x2048 .f32) (D : FVec Ideal S4096x3072 .bf16) (E : FVec Ideal S4096x256 .f32)
  (W : FVec Ideal S256x2048 .bf16) (T : FVec Ideal S4096x2048 .bf16)

/-- The product of the embeddings and their weight. -/
theorem out_pe : (val_main_v1 (F := Ideal) E W : FVec Ideal S4096x2048 .f32) = nn E W := by
  funext y
  obtain ⟨r, s, rfl⟩ : ∃ (r : Fin 4096) (s : Fin 2048), y = (ix2 r s : S4096x2048.Idx) := ⟨y 0, y 1, eq_ix2 y⟩
  rw [val_main_v1_apply]
  show _ = nn E W (ix2 r s)
  refine Finset.sum_congr (M := EReal) rfl fun l _ => ?_
  have e1 : lidx_main_v1 (ix2 r s) l = ix2 r l := by funext a; match a with | ⟨0, _⟩ => rfl | ⟨1, _⟩ => rfl
  have e2 : ridx_main_v1 (ix2 r s) l = ix2 l s := by funext a; match a with | ⟨0, _⟩ => rfl | ⟨1, _⟩ => rfl
  rw [e1, e2]; rfl

/-- The gradient of the embeddings' weight. -/
theorem out_ple : (val_main_v39 (F := Ideal) E T : FVec Ideal (⟨2, ![256, 2048]⟩ : Shape) .bf16) = tn E T := by
  funext y
  obtain ⟨r, s, rfl⟩ : ∃ (r : Fin 256) (s : Fin 2048), y = (ix2 r s : (⟨2, ![256, 2048]⟩ : Shape).Idx) := ⟨y 0, y 1, eq_ix2 y⟩
  rw [val_main_v39_apply, Ideal.truncf_def, val_main_v32_apply]
  have e0 : idx_main_v32 (ix2 r s) = ix2 s r := by funext a; match a with | ⟨0, _⟩ => rfl | ⟨1, _⟩ => rfl
  rw [e0, val_main_v31_apply]
  show _ = tn (E) (T) (ix2 r s)
  refine Finset.sum_congr (M := EReal) rfl fun l _ => ?_
  have e1 : lidx_main_v31 (ix2 s r) l = ix2 l s := by funext a; match a with | ⟨0, _⟩ => rfl | ⟨1, _⟩ => rfl
  have e2 : ridx_main_v31 (ix2 s r) l = ix2 l r := by funext a; match a with | ⟨0, _⟩ => rfl | ⟨1, _⟩ => rfl
  rw [e1, e2]
  exact mul_comm ((T : Mat _ _) (ix2 l s) : EReal) ((E : Mat _ _) (ix2 l r) : EReal)

/-- The norm before the attention: the factor of a row. -/
theorem v10_eq (r : Fin 4096) (j : Fin 1) : (val_main_v10 (F := Ideal) X : FVec Ideal S4096x1 .f32) (ix2 r j) = scale (X) r := by
  rw [val_main_v10_apply, val_main_v9_apply, val_main_v7_apply, val_main_v5_apply, val_main_v4_apply, val_main_v6_apply, val_main_v8_apply]
  show Ideal.rsqrt (Ideal.div (Ideal.ofBits .f32 0x00000000#32 + ∑ k : Fin 2048, (val_main_v3 (F := Ideal) X (idx_main_v4 (idx_main_v5 (ix2 r j)) k) : EReal)) cols + eps) = _
  rw [Ideal.ofBits_zero_f32, zero_add]
  refine congrArg (fun s => Ideal.rsqrt (Ideal.div s cols + eps)) (Finset.sum_congr (M := EReal) rfl fun l _ => ?_)
  have e : idx_main_v4 (idx_main_v5 (ix2 r j)) l = ix2 r l := by funext a; match a with | ⟨0, _⟩ => rfl | ⟨1, _⟩ => rfl
  rw [e, val_main_v3_apply]
  rfl
/-- The norm before the attention: the norm. -/
theorem v14_eq (r : Fin 4096) (s : Fin 2048) : (val_main_v14 (F := Ideal) X G : FVec Ideal S4096x2048 .f32) (ix2 r s) = norm (X) G (ix2 r s) := by
  rw [val_main_v14_apply, val_main_v12_apply, val_main_v11_apply, val_main_v13_apply]
  have e1 : idx_main_v11 (ix2 r s) = ix2 r (0 : Fin 1) := by funext a; match a with | ⟨0, _⟩ => rfl | ⟨1, _⟩ => rfl
  have e2 : idx_main_v13 (ix2 r s) = ix2 (0 : Fin 1) s := by funext a; match a with | ⟨0, _⟩ => rfl | ⟨1, _⟩ => rfl
  rw [e1, e2, v10_eq]
  rfl

/-- The norm before the attention, as the call leaves it. -/
theorem out_u : (val_main_v40 (F := Ideal) X G : FVec Ideal S4096x2048 .bf16) = norm X G := by
  funext y
  obtain ⟨r, s, rfl⟩ : ∃ (r : Fin 4096) (s : Fin 2048), y = (ix2 r s : S4096x2048.Idx) := ⟨y 0, y 1, eq_ix2 y⟩
  rw [val_main_v40_apply, Ideal.truncf_def]
  exact v14_eq X G r s

/-- The norm before the gate: the factor of a row. -/
theorem v24_eq (r : Fin 4096) (j : Fin 1) : (val_main_v24 (F := Ideal) X : FVec Ideal S4096x1 .f32) (ix2 r j) = scale (X) r := by
  rw [val_main_v24_apply, val_main_v23_apply, val_main_v21_apply, val_main_v19_apply, val_main_v18_apply, val_main_v20_apply, val_main_v22_apply]
  show Ideal.rsqrt (Ideal.div (Ideal.ofBits .f32 0x00000000#32 + ∑ k : Fin 2048, (val_main_v17 (F := Ideal) X (idx_main_v18 (idx_main_v19 (ix2 r j)) k) : EReal)) cols + eps) = _
  rw [Ideal.ofBits_zero_f32, zero_add]
  refine congrArg (fun s => Ideal.rsqrt (Ideal.div s cols + eps)) (Finset.sum_congr (M := EReal) rfl fun l _ => ?_)
  have e : idx_main_v18 (idx_main_v19 (ix2 r j)) l = ix2 r l := by funext a; match a with | ⟨0, _⟩ => rfl | ⟨1, _⟩ => rfl
  rw [e, val_main_v17_apply]
  rfl
/-- The norm before the gate: the norm. -/
theorem v28_eq (r : Fin 4096) (s : Fin 2048) : (val_main_v28 (F := Ideal) X G : FVec Ideal S4096x2048 .f32) (ix2 r s) = norm (X) G (ix2 r s) := by
  rw [val_main_v28_apply, val_main_v26_apply, val_main_v25_apply, val_main_v27_apply]
  have e1 : idx_main_v25 (ix2 r s) = ix2 r (0 : Fin 1) := by funext a; match a with | ⟨0, _⟩ => rfl | ⟨1, _⟩ => rfl
  have e2 : idx_main_v27 (ix2 r s) = ix2 (0 : Fin 1) s := by funext a; match a with | ⟨0, _⟩ => rfl | ⟨1, _⟩ => rfl
  rw [e1, e2, v24_eq]
  rfl

/-- The norm before the gate, as the call leaves it. -/
theorem out_n : (val_main_v42 (F := Ideal) X G : FVec Ideal S4096x2048 .bf16) = norm X G := by
  funext y
  obtain ⟨r, s, rfl⟩ : ∃ (r : Fin 4096) (s : Fin 2048), y = (ix2 r s : S4096x2048.Idx) := ⟨y 0, y 1, eq_ix2 y⟩
  rw [val_main_v42_apply, Ideal.truncf_def]
  exact v28_eq X G r s

/-- The gradient of the input weight. -/
theorem out_in : (val_main_v41 (F := Ideal) X G D : FVec Ideal (⟨2, ![2048, 3072]⟩ : Shape) .bf16) = tn (norm X G) D := by
  funext y
  obtain ⟨r, s, rfl⟩ : ∃ (r : Fin 2048) (s : Fin 3072), y = (ix2 r s : (⟨2, ![2048, 3072]⟩ : Shape).Idx) := ⟨y 0, y 1, eq_ix2 y⟩
  rw [val_main_v41_apply, Ideal.truncf_def, val_main_v35_apply]
  have e0 : idx_main_v35 (ix2 r s) = ix2 s r := by funext a; match a with | ⟨0, _⟩ => rfl | ⟨1, _⟩ => rfl
  rw [e0, val_main_v34_apply]
  show _ = tn (norm X G) (D) (ix2 r s)
  refine Finset.sum_congr (M := EReal) rfl fun l _ => ?_
  have e1 : lidx_main_v34 (ix2 s r) l = ix2 l s := by funext a; match a with | ⟨0, _⟩ => rfl | ⟨1, _⟩ => rfl
  have e2 : ridx_main_v34 (ix2 s r) l = ix2 l r := by funext a; match a with | ⟨0, _⟩ => rfl | ⟨1, _⟩ => rfl
  rw [e1, e2, v14_eq]
  exact mul_comm ((D : Mat _ _) (ix2 l s) : EReal) ((norm X G : Mat _ _) (ix2 l r) : EReal)

/-- The gradient of the gate weight. -/
theorem out_gate : (val_main_v43 (F := Ideal) X G T : FVec Ideal (⟨2, ![2048, 2048]⟩ : Shape) .bf16) = tn (norm X G) T := by
  funext y
  obtain ⟨r, s, rfl⟩ : ∃ (r : Fin 2048) (s : Fin 2048), y = (ix2 r s : (⟨2, ![2048, 2048]⟩ : Shape).Idx) := ⟨y 0, y 1, eq_ix2 y⟩
  rw [val_main_v43_apply, Ideal.truncf_def, val_main_v38_apply]
  have e0 : idx_main_v38 (ix2 r s) = ix2 s r := by funext a; match a with | ⟨0, _⟩ => rfl | ⟨1, _⟩ => rfl
  rw [e0, val_main_v37_apply]
  show _ = tn (norm X G) (T) (ix2 r s)
  refine Finset.sum_congr (M := EReal) rfl fun l _ => ?_
  have e1 : lidx_main_v37 (ix2 s r) l = ix2 l s := by funext a; match a with | ⟨0, _⟩ => rfl | ⟨1, _⟩ => rfl
  have e2 : ridx_main_v37 (ix2 s r) l = ix2 l r := by funext a; match a with | ⟨0, _⟩ => rfl | ⟨1, _⟩ => rfl
  rw [e1, e2, v28_eq]
  exact mul_comm ((T : Mat _ _) (ix2 l s) : EReal) ((norm X G : Mat _ _) (ix2 l r) : EReal)

end

end Cert.WeightsRef
end
end
-- ==== Proof.WeightsEquation.lean ====
/- The value claim of the norms, the embeddings' product and the weights' gradients: the calls and the reference leave the same six arrays. -/
module

public import proofs.«01_k».proof.Defs
public import proofs.«01_k».proof.Proof.WeightsRun
public import proofs.«01_k».proof.Proof.WeightsRef

@[expose] public section

set_option maxRecDepth 16384

noncomputable section

open Idealize.ShloMosaic Idealize.ShloMosaic.ValueIdx Idealize.SL.Sem Cert.MatSpec Cert.NormSpec Cert.WeightsRun

namespace Cert.WeightsEquation

/-- The value claim. -/
theorem algebraic : Cert.algebraic_WeightsIdeal_WeightsReferenceIdeal := by
  intro m g m' g' _ hm
  refine ⟨fun c => nn (aE m c) (aP m c),
    fun c => tn (aE m c) (aQ m c),
    fun c => norm (aX m c) (aG m c),
    fun c => tn (norm (aX m c) (aG m c)) (aD m c),
    fun c => norm (aH m c) (aK m c),
    fun c => tn (norm (aH m c) (aK m c)) (aT m c), run_value m g, ?_⟩
  refine (θ_run Cert.WeightsReferenceIdeal.defs _ _).mono (fun r h c => ?_) (Cert.WeightsReferenceIdeal.Value.run (F := Ideal) m' g')
  obtain ⟨h0, h1, h2, h3, h4, h5, h6⟩ := h c
  obtain ⟨e0, e1, e2, e3, e4, e5, e6, e7, e8, e9, e10⟩ := hm c
  rw [Cert.WeightsReferenceIdeal.Read.val_main_v1_eq, e4, e5, Cert.WeightsRef.out_pe] at h0
  rw [Cert.WeightsReferenceIdeal.Read.val_main_v39_eq, e4, e6, Cert.WeightsRef.out_ple] at h1
  rw [Cert.WeightsReferenceIdeal.Read.val_main_v40_eq, e0, e1, Cert.WeightsRef.out_u] at h2
  rw [Cert.WeightsReferenceIdeal.Read.val_main_v41_eq, e0, e1, e3, Cert.WeightsRef.out_in] at h3
  rw [Cert.WeightsReferenceIdeal.Read.val_main_v42_eq, e7, e8, Cert.WeightsRef.out_n] at h4
  rw [Cert.WeightsReferenceIdeal.Read.val_main_v43_eq, e7, e8, e10, Cert.WeightsRef.out_gate] at h5
  exact ⟨h0, h1, h2, h3, h4, h5, h6⟩

end Cert.WeightsEquation
end
end
-- ==== Proof.BackSpec.lean ====
/- The backward pass of the norm: the two ways of writing the gradient of its input agree, and the sum that gives the
   gradient of its gain may be taken in any order. -/
module

public import proofs.«01_k».proof.Proof.NormSpec

@[expose] public section

set_option maxRecDepth 16384

noncomputable section

open Idealize.ShloMosaic Idealize.ShloMosaic.ValueIdx Cert.MatSpec Cert.NormSpec Cert.RealOps
open scoped BigOperators

namespace Cert.BackSpec

/-- The word of the number of entries of a row. -/
theorem bits_cols : Ideal.ofBits .f32 0x45000000#32 = ((2048 : ℝ) : EReal) := by
  simp [Ideal.ofBits, Ideal.ieee, -EReal.coe_mul]; norm_num
/-- The word of minus one half. -/
theorem bits_neg_half : Ideal.ofBits .f32 0xBF000000#32 = ((-(1 / 2) : ℝ) : EReal) := by
  simp [Ideal.ofBits, Ideal.ieee, -EReal.coe_mul]; norm_num
/-- The word added to the mean square is a positive number. -/
theorem bits_eps : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

/-- A square is not negative. -/
theorem sq_nonneg' (x : EReal) : 0 ≤ x * x := by
  rcases le_total 0 x with h | h
  · exact mul_nonneg h h
  · have h' : 0 ≤ -x := EReal.neg_nonneg.mpr h
    have e : x * x = -x * -x := by rw [EReal.neg_mul, mul_neg, neg_neg]
    rw [e]; exact mul_nonneg h' h'

section
variable {n : ℕ}

/-- What the inverse root is taken of is positive. -/
theorem below_pos (w : Fin n → EReal) : 0 < mean (fun l => w l * w l) + eps := by
  obtain ⟨e, he, hb⟩ := bits_eps
  have h : 0 ≤ mean fun l => w l * w l := by
    unfold mean
    rw [show cols = ((2048 : ℝ) : EReal) from bits_cols, Ideal.div_coe (by norm_num)]
    exact mul_nonneg (Finset.sum_nonneg fun l _ => sq_nonneg' (w l)) (EReal.coe_nonneg.mpr (by norm_num))
  have h2 : (0 : EReal) < eps := by
    rw [show eps = (e : EReal) from hb]; exact EReal.coe_pos.mpr he
  exact lt_of_lt_of_le h2 (le_add_of_nonneg_left h)

/-- A factor that is a number and not negative may be taken out of a sum. -/
theorem sum_factor {ι : Type} (s : Finset ι) (f : ι → EReal) {q : ℝ} (hq : 0 ≤ q) : ∑ l ∈ s, f l * (q : EReal) = (∑ l ∈ s, f l) * (q : EReal) := by
  classical
  induction s using Finset.induction_on with
  | empty => simp
  | insert a s ha ih =>
    rw [Finset.sum_insert ha, Finset.sum_insert ha, ih,
      EReal.right_distrib_of_nonneg_of_ne_top (EReal.coe_nonneg.mpr hq) (EReal.coe_ne_top q)]

/-- The two ways of writing an entry of the gradient of the norm's input. -/
theorem back_entry (f X : Fin n → EReal) (v R a x : EReal) (hv : 0 < v) :
    R + Ideal.rsqrt v * (a - x * Ideal.rsqrt v * mean (fun l => f l * (X l * Ideal.rsqrt v)))
      = R + a * Ideal.rsqrt v + x * Ideal.div ((∑ l, X l * f l) * (Ideal.ofBits .f32 0xBF000000#32 * Ideal.div (Ideal.rsqrt v) v)) cols
        + Ideal.div ((∑ l, X l * f l) * (Ideal.ofBits .f32 0xBF000000#32 * Ideal.div (Ideal.rsqrt v) v)) cols * x := by
  unfold mean
  rw [show cols = ((2048 : ℝ) : EReal) from bits_cols, bits_neg_half, Ideal.div_coe (by norm_num), Ideal.div_coe (by norm_num)]
  induction v with
  | bot => exact absurd hv (by simp)
  | top =>
    have e : Ideal.div (0 : EReal) ⊤ = 0 := by rw [Ideal.div, if_neg (by simp), zero_mul]
    rw [show Ideal.rsqrt ⊤ = 0 from rfl, e]
    simp
  | coe r =>
    have hr : 0 < r := EReal.coe_pos.mp hv
    have hq : 0 < (Real.sqrt r)⁻¹ := inv_pos.mpr (Real.sqrt_pos.mpr hr)
    have hrs : Ideal.rsqrt ((r : ℝ) : EReal) = (((Real.sqrt r)⁻¹ : ℝ) : EReal) := by
      rw [Ideal.rsqrt_coe, if_neg (not_lt.mpr hr.le), if_neg hr.ne']
    rw [hrs, Ideal.div_coe hr.ne']
    have hqq : (Real.sqrt r)⁻¹ * (Real.sqrt r)⁻¹ = 1 / r := by
      rw [← mul_inv, Real.mul_self_sqrt hr.le, one_div]
    generalize (Real.sqrt r)⁻¹ = q at hq hqq
    have hS : (∑ l, f l * (X l * (q : EReal))) = (∑ l, X l * f l) * (q : EReal) := by
      rw [← sum_factor _ _ hq.le]
      exact Finset.sum_congr rfl fun l _ => by rw [← mul_assoc, mul_comm (f l) (X l)]
    rw [hS, ← hqq]
    generalize (∑ l, X l * f l) = S
    have e1 : (q : EReal) * (x * (q : EReal) * (S * (q : EReal) * ((1 / 2048 : ℝ) : EReal))) = x * S * ((q * (q * (q * (1 / 2048))) : ℝ) : EReal) := by
      rw [EReal.coe_mul, EReal.coe_mul, EReal.coe_mul]; ac_rfl
    have e2 : x * (S * (((-(1 / 2) : ℝ) : EReal) * ((q : EReal) * ((q * q : ℝ) : EReal))) * ((1 / 2048 : ℝ) : EReal))
        = -(x * S * ((1 / 2 * (q * (q * (q * (1 / 2048)))) : ℝ) : EReal)) := by
      have h : ((-(1 / 2) : ℝ) : EReal) = -((1 / 2 : ℝ) : EReal) := EReal.coe_neg _
      rw [h, EReal.neg_mul, mul_neg, EReal.neg_mul, mul_neg]
      congr 1
      rw [EReal.coe_mul, EReal.coe_mul, EReal.coe_mul, EReal.coe_mul, EReal.coe_mul]; ac_rfl
    have e3 : S * (((-(1 / 2) : ℝ) : EReal) * ((q : EReal) * ((q * q : ℝ) : EReal))) * ((1 / 2048 : ℝ) : EReal) * x
        = -(x * S * ((1 / 2 * (q * (q * (q * (1 / 2048)))) : ℝ) : EReal)) := by rw [mul_comm, e2]
    rw [e2, e3, sub_eq_add_neg, EReal.left_distrib_of_nonneg_of_ne_top (EReal.coe_nonneg.mpr hq.le) (EReal.coe_ne_top q), mul_neg, e1,
      add_assoc, add_assoc, mul_comm (q : EReal) a]
    congr 2
    generalize x * S = Y
    have hp : 0 ≤ 1 / 2 * (q * (q * (q * (1 / 2048)))) := by positivity
    have e4 : q * (q * (q * (1 / 2048))) = 1 / 2 * (q * (q * (q * (1 / 2048)))) + 1 / 2 * (q * (q * (q * (1 / 2048)))) := by ring
    generalize 1 / 2 * (q * (q * (q * (1 / 2048)))) = p at hp e4 ⊢
    rw [e4]
    rw [EReal.coe_add, ← EReal.neg_mul, ← EReal.neg_mul, mul_comm, EReal.right_distrib_of_nonneg (EReal.coe_nonneg.mpr hp) (EReal.coe_nonneg.mpr hp),
      mul_comm (p : EReal)]

/-- The gradient of the norm's input and what comes along the residual. -/
def back {m : ℕ} (D X R : Mat m n) (g : Mat 1 n) : Mat m n := fun y =>
  R y + scale X (y 0 : Fin m) * (D y * g (ix2 (0 : Fin 1) (y 1 : Fin n)) - X y * scale X (y 0 : Fin m)
    * mean (fun l => D (ix2 (y 0 : Fin m) l) * g (ix2 (0 : Fin 1) l) * (X (ix2 (y 0 : Fin m) l) * scale X (y 0 : Fin m))))
/-- A block of rows of it is that of the blocks. -/
theorem back_block {m M : ℕ} {D X R : Mat M n} {d x s : Mat m n} {g g' : Mat 1 n} {r : Fin m → Fin M} (hd : ∀ i l, d (ix2 i l) = D (ix2 (r i) l))
    (hx : ∀ i l, x (ix2 i l) = X (ix2 (r i) l)) (hs : ∀ i l, s (ix2 i l) = R (ix2 (r i) l)) (hg : ∀ l, g' (ix2 0 l) = g (ix2 0 l)) (i : Fin m)
    (j : Fin n) : back d x s g' (ix2 i j) = back D X R g (ix2 (r i) j) := by
  show s (ix2 i j) + scale x i * (d (ix2 i j) * g' (ix2 0 j) - x (ix2 i j) * scale x i
      * mean (fun l => d (ix2 i l) * g' (ix2 0 l) * (x (ix2 i l) * scale x i)))
    = R (ix2 (r i) j) + scale X (r i) * (D (ix2 (r i) j) * g (ix2 0 j) - X (ix2 (r i) j) * scale X (r i)
      * mean (fun l => D (ix2 (r i) l) * g (ix2 0 l) * (X (ix2 (r i) l) * scale X (r i))))
  have e : (fun l => d (ix2 i l) * g' (ix2 0 l) * (x (ix2 i l) * scale x i))
      = fun l => D (ix2 (r i) l) * g (ix2 0 l) * (X (ix2 (r i) l) * scale X (r i)) := funext fun l => by rw [hd, hg, hx, scale_block hx]
  rw [e, hs, hd, hg, hx, scale_block hx]
end

/-- What a row adds to the gradient of the gain. -/
def gain {m n : ℕ} (D X : Mat m n) : Mat m n := fun y => D y * (X y * scale X (y 0 : Fin m))
/-- The gradient of the gain. -/
def gradGain {n : ℕ} (D X : Mat 4096 n) : Mat 1 n := fun y => ∑ r : Fin 4096, gain D X (ix2 r (y 1 : Fin n))

section
variable {m n : ℕ} (hr : (⟨2, ![m, n]⟩ : Shape).Reduces [1] ⟨1, ![m]⟩) (hφ : FKind.Formats .f32) (ha : 0x00000000#32 = FKind.add.neutral .f32 hφ)
  (hc : (⟨1, ![m]⟩ : Shape).ShapeCasts ⟨2, ![m, 1]⟩) (hs : (⟨2, ![m, 1]⟩ : Shape).Broadcasts ⟨2, ![m, n]⟩)
  (hg : (⟨2, ![1, n]⟩ : Shape).Broadcasts ⟨2, ![m, n]⟩)

/-- A kernel's rows times their factor. -/
abbrev unitLines (x : FVec Ideal ⟨2, ![m, n]⟩ .f32) : FVec Ideal ⟨2, ![m, n]⟩ .f32 :=
  mulf x (broadcastTo (⟨2, ![m, n]⟩ : Shape) (scaleLines hr hφ ha hc x) hs)
/-- It is the rows times their factor. -/
theorem unitLines_apply (x : FVec Ideal ⟨2, ![m, n]⟩ .f32) (hm : m ≠ 1) (i : Fin m) (j : Fin n) :
    unitLines hr hφ ha hc hs x (ix2 i j) = (x (ix2 i j) : EReal) * scale (x : Mat m n) i := by
  show (x (ix2 i j) : EReal) * (broadcastTo (⟨2, ![m, n]⟩ : Shape) (scaleLines hr hφ ha hc x) hs : FVec Ideal _ .f32) (ix2 i j) = _
  rw [spread_apply _ _ hm, scaleLines_apply]
/-- A kernel's product with the gain. -/
abbrev gainedLines (d : FVec Ideal ⟨2, ![m, n]⟩ .f32) (g : FVec Ideal ⟨2, ![1, n]⟩ .f32) : FVec Ideal ⟨2, ![m, n]⟩ .f32 :=
  mulf d (broadcastTo (⟨2, ![m, n]⟩ : Shape) g hg)
/-- It is the product with the gain. -/
theorem gainedLines_apply (d : FVec Ideal ⟨2, ![m, n]⟩ .f32) (g : FVec Ideal ⟨2, ![1, n]⟩ .f32) (hn : n ≠ 1) (i : Fin m) (j : Fin n) :
    gainedLines hg d g (ix2 i j) = (d (ix2 i j) : EReal) * (g (ix2 0 j) : EReal) := by
  show (d (ix2 i j) : EReal) * (broadcastTo (⟨2, ![m, n]⟩ : Shape) g hg : FVec Ideal _ .f32) (ix2 i j) = _
  rw [spreadRow_apply _ _ hn]

/-- A kernel's gradient of the input is the gradient. -/
theorem backLines_apply (d x s : FVec Ideal ⟨2, ![m, n]⟩ .f32) (g : FVec Ideal ⟨2, ![1, n]⟩ .f32) (hm : m ≠ 1) (hn : n ≠ 1) (i : Fin m) (j : Fin n) :
    (addf s (mulf (broadcastTo (⟨2, ![m, n]⟩ : Shape) (scaleLines hr hφ ha hc x) hs) (subf (gainedLines hg d g)
      (mulf (unitLines hr hφ ha hc hs x) (broadcastTo (⟨2, ![m, n]⟩ : Shape) (meanLines hr hφ ha hc
        (mulf (gainedLines hg d g) (unitLines hr hφ ha hc hs x))) hs)))) : FVec Ideal _ .f32) (ix2 i j)
      = back (d : Mat m n) (x : Mat m n) (s : Mat m n) (g : Mat 1 n) (ix2 i j) := by
  show (s (ix2 i j) : EReal) + (broadcastTo (⟨2, ![m, n]⟩ : Shape) (scaleLines hr hφ ha hc x) hs : FVec Ideal _ .f32) (ix2 i j)
    * ((gainedLines hg d g (ix2 i j) : EReal) - (unitLines hr hφ ha hc hs x (ix2 i j) : EReal) * (broadcastTo (⟨2, ![m, n]⟩ : Shape)
      (meanLines hr hφ ha hc (mulf (gainedLines hg d g) (unitLines hr hφ ha hc hs x))) hs : FVec Ideal _ .f32) (ix2 i j)) = _
  rw [spread_apply _ _ hm, spread_apply _ _ hm, scaleLines_apply, gainedLines_apply hg d g hn, unitLines_apply hr hφ ha hc hs x hm, meanLines_apply]
  have e : (fun l : Fin n => ((mulf (gainedLines hg d g) (unitLines hr hφ ha hc hs x) : FVec Ideal _ .f32) (ix2 i l) : EReal))
      = fun l => (d (ix2 i l) : EReal) * (g (ix2 0 l) : EReal) * ((x (ix2 i l) : EReal) * scale (x : Mat m n) i) := funext fun l => by
    show (gainedLines hg d g (ix2 i l) : EReal) * (unitLines hr hφ ha hc hs x (ix2 i l) : EReal) = _
    rw [gainedLines_apply hg d g hn, unitLines_apply hr hφ ha hc hs x hm]
  rw [e]
  rfl
end

/-- A kernel's eight partial sums of the gradient of the gain. -/
theorem gainLines_apply {n : ℕ} (hr : (⟨2, ![512, n]⟩ : Shape).Reduces [1] ⟨1, ![512]⟩) (hφ : FKind.Formats .f32)
    (ha : 0x00000000#32 = FKind.add.neutral .f32 hφ) (hc : (⟨1, ![512]⟩ : Shape).ShapeCasts ⟨2, ![512, 1]⟩)
    (hs : (⟨2, ![512, 1]⟩ : Shape).Broadcasts ⟨2, ![512, n]⟩) (hk : (⟨2, ![512, n]⟩ : Shape).ShapeCasts ⟨3, ![64, 8, n]⟩)
    (h0 : (⟨3, ![64, 8, n]⟩ : Shape).Reduces [0] ⟨2, ![8, n]⟩) (d x : FVec Ideal ⟨2, ![512, n]⟩ .f32) (k : Fin 8) (j : Fin n) :
    (multiReduction .add [0] ⟨2, ![8, n]⟩ (shapeCast ⟨3, ![64, 8, n]⟩ (mulf d (unitLines hr hφ ha hc hs x)) hk) 0x00000000#32 h0 hφ ha
      : FVec Ideal _ .f32) (ix2 k j)
      = ∑ p : Fin 64, gain (d : Mat 512 n) (x : Mat 512 n) (ix2 (⟨8 * p.val + k.val, by omega⟩ : Fin 512) j) := by
  rw [Ideal.multiReduction_add_single]
  refine Finset.sum_congr (M := EReal) rfl fun (p : Fin 64) _ => ?_
  have e : h0.lift (ix2 k j) p = ix3 p k j := by
    funext q
    match q with
    | ⟨0, _⟩ => rfl
    | ⟨1, _⟩ => rfl
    | ⟨2, _⟩ => rfl
  refine (congrArg _ e).trans ((shapeCast_apply (mulf d (unitLines hr hφ ha hc hs x) : FVec Ideal _ .f32) hk (ix3 p k j)
    (ix2 (⟨8 * p.val + k.val, by omega⟩ : Fin 512) j) (by
      rw [Shape.rowMajor_val_two, Shape.rowMajor_val_three]
      show (8 * p.val + k.val) * n + j.val = (p.val * 8 + k.val) * n + j.val
      rw [Nat.mul_comm 8])).trans ?_)
  show (d (ix2 (⟨8 * p.val + k.val, by omega⟩ : Fin 512) j) : EReal) * (unitLines hr hφ ha hc hs x (ix2 (⟨8 * p.val + k.val, by omega⟩ : Fin 512) j) : EReal) = _
  rw [unitLines_apply hr hφ ha hc hs x (by norm_num)]
  rfl

/-- The row at a position, counted round. -/
def at' (k : ℕ) : Fin 4096 := ⟨k % 4096, Nat.mod_lt _ (by norm_num)⟩
/-- What the points up to `t` add to a row of the eight partial sums. -/
def part {n : ℕ} (P : Mat 4096 n) (t : ℕ) : Mat 8 n := fun y =>
  ∑ p ∈ Finset.range (t + 1), ∑ a : Fin 64, P (ix2 (at' (512 * p + 8 * a.val + (y 0).val)) (y 1 : Fin n))

/-- The eight partial sums add up to the sum of the rows. -/
theorem sum_parts {n : ℕ} (P : Mat 4096 n) (j : Fin n) : ∑ k : Fin 8, part P 7 (ix2 k j) = ∑ r : Fin 4096, P (ix2 r j) := by
  have h1 : ∑ r : Fin 4096, P (ix2 r j) = ∑ pk : Fin 512 × Fin 8, P (ix2 (at' (pk.2.val + 8 * pk.1.val)) j) :=
    (Fintype.sum_equiv (finProdFinEquiv (m := 512) (n := 8)) _ _ fun pk => by
      congr 2
      apply Fin.ext
      show (pk.2.val + 8 * pk.1.val) % 4096 = pk.2.val + 8 * pk.1.val
      omega).symm
  have h2 : ∀ k : Fin 8, ∑ p : Fin 512, P (ix2 (at' (k.val + 8 * p.val)) j)
      = ∑ ta : Fin 8 × Fin 64, P (ix2 (at' (k.val + 8 * (ta.2.val + 64 * ta.1.val))) j) := fun k =>
    (Fintype.sum_equiv (finProdFinEquiv (m := 8) (n := 64)) _ _ fun ta => rfl).symm
  rw [h1, Fintype.sum_prod_type_right]
  refine Finset.sum_congr rfl fun k _ => ?_
  rw [h2 k, Fintype.sum_prod_type]
  show ∑ p ∈ Finset.range 8, ∑ a : Fin 64, P (ix2 (at' (512 * p + 8 * a.val + k.val)) j) = _
  rw [Finset.sum_range]
  refine Finset.sum_congr rfl fun t _ => Finset.sum_congr rfl fun a _ => ?_
  show P (ix2 (at' (512 * t.val + 8 * a.val + k.val)) j) = P (ix2 (at' (k.val + 8 * (a.val + 64 * t.val))) j)
  congr 3
  omega

end Cert.BackSpec
end
end
-- ==== Proof.BackIn.lean ====
/- The backward pass of the norm before the attention: what the result arrays hold after the call. -/
module

public import proofs.«01_k».proof.Proof.BackSpec
public import proofs.«01_k».proof.Proof.Gen.NormInIdeal.Frame

@[expose] public section

set_option maxRecDepth 16384

noncomputable section

open Idealize.ShloMosaic Idealize.ShloMosaic.TcCoe Idealize.ShloMosaic.ValueIdx Cert.NormInIdeal Cert.NormInIdeal.Gen Cert.MatSpec Cert.NormSpec Cert.BackSpec
open scoped BigOperators

namespace Cert.BackIn

section
variable (a : Vec Ideal S512x3072 .bf16) (b : Vec Ideal S2048x3072 .bf16) (x : Vec Ideal S512x2048 .f32) (g : Vec Ideal S1x2048 .f32)
  (s : Vec Ideal S512x2048 .f32)

/-- The gradient of the norm's input and what comes along the residual. -/
theorem pay_back (i : Fin 512) (j : Fin 2048) : (k0_pay5 a b x g s : FVec Ideal S512x2048 .f32) (ix2 i j)
    = back (nt (a : Mat 512 3072) (b : Mat 2048 3072)) (x : Mat 512 2048) (s : Mat 512 2048) (g : Mat 1 2048) (ix2 i j) := by
  have e : (k0_pay2 a b : Mat 512 2048) = nt (a : Mat 512 3072) (b : Mat 2048 3072) := matmul_nt (φ := .bf16) (ψ := .bf16) a b
  rw [← e]
  exact backLines_apply reduces_S512x2048_S512 (.inl rfl) rfl shapeCasts_S512_S512x1 broadcasts_S512x1_S512x2048 broadcasts_S1x2048_S512x2048
    (k0_pay2 a b) x s g (by norm_num) (by norm_num) i j
/-- What the block adds to the eight partial sums. -/
theorem pay_gain (k : Fin 8) (j : Fin 2048) : (k0_pay6 a b x : FVec Ideal S8x2048 .f32) (ix2 k j)
    = ∑ p : Fin 64, gain (nt (a : Mat 512 3072) (b : Mat 2048 3072)) (x : Mat 512 2048) (ix2 (⟨8 * p.val + k.val, by omega⟩ : Fin 512) j) := by
  have e : (k0_pay2 a b : Mat 512 2048) = nt (a : Mat 512 3072) (b : Mat 2048 3072) := matmul_nt (φ := .bf16) (ψ := .bf16) a b
  rw [← e]
  exact gainLines_apply reduces_S512x2048_S512 (.inl rfl) rfl shapeCasts_S512_S512x1 broadcasts_S512x1_S512x2048 shapeCasts_S512x2048_S64x8x2048
    reduces_S64x8x2048_S8x2048 (k0_pay2 a b) x k j
end

/-- What a grid point leaves in output window 5, the first point. -/
theorem out_A_5 (c : Dev nD) (i : grid0.Coords) (arg3 : Memref sig .tc .vmem S512x3072 .bf16) (harg3 : arg3.IsWhole) (arg4 : Memref sig .tc .vmem S2048x3072 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S8x2048 .f32) (harg9 : arg9.IsWhole) (arg10 : Memref sig .tc .vmem S8x128 .f32) (harg10 : arg10.IsWhole) (hc0 : cond0_0 i) (hc1 : ¬cond0_1 i)
    (x0 : Vec Ideal S512x3072 .bf16) (x1 : Vec Ideal S2048x3072 .bf16) (x2 : Vec Ideal S512x2048 .f32) (x3 : Vec Ideal S512x2048 .f32) (x4 : Vec Ideal S1x2048 .f32) : out0_A_5 (F := Ideal) c i arg3 harg3 arg4 harg4 arg5 harg5 arg6 harg6 arg7 harg7 arg8 harg8 arg9 harg9 arg10 harg10 hc0 hc1 x0 x1 x2 x3 x4 = k0_pay5 x0 x1 x2 x4 x3 := by
  unfold out0_A_5
  rw [View.read_writes_junk_eq_canon]
  refine (View.canon_cons_unit_lit (by decide) _ [] (by decide)).trans ?_
  rw [(readAt_whole arg3 harg3 x0 (by decide) (by decide)), (readAt_whole arg4 harg4 x1 (by decide) (by decide)), (readAt_whole arg5 harg5 x2 (by decide) (by decide)), (readAt_whole arg7 harg7 x4 (by decide) (by decide)), (readAt_whole arg6 harg6 x3 (by decide) (by decide))]

/-- What a grid point leaves in output window 5, a later point. -/
theorem out_B_5 (c : Dev nD) (i : grid0.Coords) (arg3 : Memref sig .tc .vmem S512x3072 .bf16) (harg3 : arg3.IsWhole) (arg4 : Memref sig .tc .vmem S2048x3072 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S8x2048 .f32) (harg9 : arg9.IsWhole) (arg10 : Memref sig .tc .vmem S8x128 .f32) (harg10 : arg10.IsWhole) (hc0 : ¬cond0_0 i) (hc1 : cond0_1 i)
    (x0 : Vec Ideal S512x3072 .bf16) (x1 : Vec Ideal S2048x3072 .bf16) (x2 : Vec Ideal S512x2048 .f32) (x3 : Vec Ideal S512x2048 .f32) (x4 : Vec Ideal S1x2048 .f32) (xo6 : Vec Ideal S8x2048 .f32) : out0_B_5 (F := Ideal) c i arg3 harg3 arg4 harg4 arg5 harg5 arg6 harg6 arg7 harg7 arg8 harg8 arg9 harg9 arg10 harg10 hc0 hc1 x0 x1 x2 x3 x4 xo6 = k0_pay5 x0 x1 x2 x4 x3 := by
  unfold out0_B_5
  rw [View.read_writes_junk_eq_canon]
  refine (View.canon_cons_unit_lit (by decide) _ [] (by decide)).trans ?_
  rw [(readAt_whole arg3 harg3 x0 (by decide) (by decide)), (readAt_whole arg4 harg4 x1 (by decide) (by decide)), (readAt_whole arg5 harg5 x2 (by decide) (by decide)), (readAt_whole arg7 harg7 x4 (by decide) (by decide)), (readAt_whole arg6 harg6 x3 (by decide) (by decide))]

/-- What a grid point leaves in output window 6, the first point. -/
theorem out_A_6 (c : Dev nD) (i : grid0.Coords) (arg3 : Memref sig .tc .vmem S512x3072 .bf16) (harg3 : arg3.IsWhole) (arg4 : Memref sig .tc .vmem S2048x3072 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S8x2048 .f32) (harg9 : arg9.IsWhole) (arg10 : Memref sig .tc .vmem S8x128 .f32) (harg10 : arg10.IsWhole) (hc0 : cond0_0 i) (hc1 : ¬cond0_1 i)
    (x0 : Vec Ideal S512x3072 .bf16) (x1 : Vec Ideal S2048x3072 .bf16) (x2 : Vec Ideal S512x2048 .f32) (x3 : Vec Ideal S512x2048 .f32) (x4 : Vec Ideal S1x2048 .f32) : out0_A_6 (F := Ideal) c i arg3 harg3 arg4 harg4 arg5 harg5 arg6 harg6 arg7 harg7 arg8 harg8 arg9 harg9 arg10 harg10 hc0 hc1 x0 x1 x2 x3 x4 = k0_pay6 x0 x1 x2 := by
  unfold out0_A_6
  rw [View.read_writes_junk_eq_canon]
  refine (View.canon_cons_unit_lit (by decide) _ [] (by decide)).trans ?_
  unfold kernelRun0_A.sl.r
  rw [(readAt_whole arg3 harg3 x0 (by decide) (by decide)), (readAt_whole arg4 harg4 x1 (by decide) (by decide)), (readAt_whole arg5 harg5 x2 (by decide) (by decide))]

/-- What a grid point leaves in output window 6, a later point. -/
theorem out_B_6 (c : Dev nD) (i : grid0.Coords) (arg3 : Memref sig .tc .vmem S512x3072 .bf16) (harg3 : arg3.IsWhole) (arg4 : Memref sig .tc .vmem S2048x3072 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S8x2048 .f32) (harg9 : arg9.IsWhole) (arg10 : Memref sig .tc .vmem S8x128 .f32) (harg10 : arg10.IsWhole) (hc0 : ¬cond0_0 i) (hc1 : cond0_1 i)
    (x0 : Vec Ideal S512x3072 .bf16) (x1 : Vec Ideal S2048x3072 .bf16) (x2 : Vec Ideal S512x2048 .f32) (x3 : Vec Ideal S512x2048 .f32) (x4 : Vec Ideal S1x2048 .f32) (xo6 : Vec Ideal S8x2048 .f32) : out0_B_6 (F := Ideal) c i arg3 harg3 arg4 harg4 arg5 harg5 arg6 harg6 arg7 harg7 arg8 harg8 arg9 harg9 arg10 harg10 hc0 hc1 x0 x1 x2 x3 x4 xo6 = (fun y => (xo6 y : EReal) + ((k0_pay6 x0 x1 x2 : FVec Ideal S8x2048 .f32) y : EReal)) := by
  unfold out0_B_6
  rw [View.read_writes_junk_eq_canon]
  refine (View.canon_cons_unit_lit (by decide) _ [] (by decide)).trans ?_
  unfold kernelRun0_B.sl.r
  rw [(readAt_whole arg3 harg3 x0 (by decide) (by decide)), (readAt_whole arg4 harg4 x1 (by decide) (by decide)), (readAt_whole arg5 harg5 x2 (by decide) (by decide)), (readAt_whole arg9 harg9 xo6 (by decide) (by decide))]
  unfold k0_pay1
  rw [shapeCast_self]
  rfl

/-- The row of the array that a row of the block of grid point `t` is. -/
def row (t : Fin cfg0.N) (i : Fin 512) : Fin 4096 := ⟨512 * t.val + i.val, by
  have h : t.val < 8 := lt_of_lt_of_eq t.isLt (show cfg0.N = 8 from N_0); omega⟩

/-- Where window 0's block lies at each grid point. -/
theorem index_0 : ∀ t : Fin cfg0.N, win0_0.index t (0 : Fin 2) = t.val ∧ win0_0.index t (1 : Fin 2) = 0 :=
  (by decide +kernel : ∀ t : Fin grid0.N, _)
/-- Where an entry of window 0's block lies in its array. -/
theorem emb_0 (t : Fin cfg0.N) (i : Fin 512) (j : Fin 3072) : ((cfg0.win 0).blk t).view.emb (ix2 i j)
    = (ix2 (row t i) j : S4096x3072.Idx) := by
  obtain ⟨e0, e1⟩ := index_0 t
  funext a; apply Fin.ext
  match a with
  | ⟨0, _⟩ => show win0_0.index t (0 : Fin 2) * 512 + 1 * i.val = 512 * t.val + i.val; omega
  | ⟨1, _⟩ => show win0_0.index t (1 : Fin 2) * 3072 + 1 * j.val = j.val; omega

/-- Where window 1's block lies at each grid point. -/
theorem index_1 : ∀ t : Fin cfg0.N, win0_1.index t (0 : Fin 2) = 0 ∧ win0_1.index t (1 : Fin 2) = 0 :=
  (by decide +kernel : ∀ t : Fin grid0.N, _)
/-- Where an entry of window 1's block lies in its array. -/
theorem emb_1 (t : Fin cfg0.N) (i : Fin 2048) (j : Fin 3072) : ((cfg0.win 1).blk t).view.emb (ix2 i j)
    = (ix2 i j : S2048x3072.Idx) := by
  obtain ⟨e0, e1⟩ := index_1 t
  funext a; apply Fin.ext
  match a with
  | ⟨0, _⟩ => show win0_1.index t (0 : Fin 2) * 2048 + 1 * i.val = i.val; omega
  | ⟨1, _⟩ => show win0_1.index t (1 : Fin 2) * 3072 + 1 * j.val = j.val; omega

/-- Where window 2's block lies at each grid point. -/
theorem index_2 : ∀ t : Fin cfg0.N, win0_2.index t (0 : Fin 2) = t.val ∧ win0_2.index t (1 : Fin 2) = 0 :=
  (by decide +kernel : ∀ t : Fin grid0.N, _)
/-- Where an entry of window 2's block lies in its array. -/
theorem emb_2 (t : Fin cfg0.N) (i : Fin 512) (j : Fin 2048) : ((cfg0.win 2).blk t).view.emb (ix2 i j)
    = (ix2 (row t i) j : S4096x2048.Idx) := by
  obtain ⟨e0, e1⟩ := index_2 t
  funext a; apply Fin.ext
  match a with
  | ⟨0, _⟩ => show win0_2.index t (0 : Fin 2) * 512 + 1 * i.val = 512 * t.val + i.val; omega
  | ⟨1, _⟩ => show win0_2.index t (1 : Fin 2) * 2048 + 1 * j.val = j.val; omega

/-- Where window 3's block lies at each grid point. -/
theorem index_3 : ∀ t : Fin cfg0.N, win0_3.index t (0 : Fin 2) = t.val ∧ win0_3.index t (1 : Fin 2) = 0 :=
  (by decide +kernel : ∀ t : Fin grid0.N, _)
/-- Where an entry of window 3's block lies in its array. -/
theorem emb_3 (t : Fin cfg0.N) (i : Fin 512) (j : Fin 2048) : ((cfg0.win 3).blk t).view.emb (ix2 i j)
    = (ix2 (row t i) j : S4096x2048.Idx) := by
  obtain ⟨e0, e1⟩ := index_3 t
  funext a; apply Fin.ext
  match a with
  | ⟨0, _⟩ => show win0_3.index t (0 : Fin 2) * 512 + 1 * i.val = 512 * t.val + i.val; omega
  | ⟨1, _⟩ => show win0_3.index t (1 : Fin 2) * 2048 + 1 * j.val = j.val; omega

/-- Where window 4's block lies at each grid point. -/
theorem index_4 : ∀ t : Fin cfg0.N, win0_4.index t (0 : Fin 2) = 0 ∧ win0_4.index t (1 : Fin 2) = 0 :=
  (by decide +kernel : ∀ t : Fin grid0.N, _)
/-- Where an entry of window 4's block lies in its array. -/
theorem emb_4 (t : Fin cfg0.N) (i : Fin 1) (j : Fin 2048) : ((cfg0.win 4).blk t).view.emb (ix2 i j)
    = (ix2 i j : S1x2048.Idx) := by
  obtain ⟨e0, e1⟩ := index_4 t
  funext a; apply Fin.ext
  match a with
  | ⟨0, _⟩ => show win0_4.index t (0 : Fin 2) * 1 + 1 * i.val = i.val; omega
  | ⟨1, _⟩ => show win0_4.index t (1 : Fin 2) * 2048 + 1 * j.val = j.val; omega

/-- Where window 5's block lies at each grid point. -/
theorem index_5 : ∀ t : Fin cfg0.N, win0_5.index t (0 : Fin 2) = t.val ∧ win0_5.index t (1 : Fin 2) = 0 :=
  (by decide +kernel : ∀ t : Fin grid0.N, _)
/-- Where an entry of window 5's block lies in its array. -/
theorem emb_5 (t : Fin cfg0.N) (i : Fin 512) (j : Fin 2048) : ((cfg0.win 5).blk t).view.emb (ix2 i j)
    = (ix2 (row t i) j : S4096x2048.Idx) := by
  obtain ⟨e0, e1⟩ := index_5 t
  funext a; apply Fin.ext
  match a with
  | ⟨0, _⟩ => show win0_5.index t (0 : Fin 2) * 512 + 1 * i.val = 512 * t.val + i.val; omega
  | ⟨1, _⟩ => show win0_5.index t (1 : Fin 2) * 2048 + 1 * j.val = j.val; omega

/-- Where window 6's block lies at each grid point. -/
theorem index_6 : ∀ t : Fin cfg0.N, win0_6.index t (0 : Fin 2) = 0 ∧ win0_6.index t (1 : Fin 2) = 0 :=
  (by decide +kernel : ∀ t : Fin grid0.N, _)
/-- Where an entry of window 6's block lies in its array. -/
theorem emb_6 (t : Fin cfg0.N) (i : Fin 8) (j : Fin 2048) : ((cfg0.win 6).blk t).view.emb (ix2 i j)
    = (ix2 i j : S8x2048.Idx) := by
  obtain ⟨e0, e1⟩ := index_6 t
  funext a; apply Fin.ext
  match a with
  | ⟨0, _⟩ => show win0_6.index t (0 : Fin 2) * 8 + 1 * i.val = i.val; omega
  | ⟨1, _⟩ => show win0_6.index t (1 : Fin 2) * 2048 + 1 * j.val = j.val; omega

section
variable (m : (ℓ : Loc nD τ sig) → Buf (Elt Ideal) ℓ) (c : Dev nD)

/-- The gradient that comes into the norm. -/
def prodD : Mat 4096 2048 := nt (V m c main_arg3 : Mat 4096 3072) (V m c main_arg2 : Mat 2048 3072)
/-- The rows of the norm's input. -/
abbrev rowsX : Mat 4096 2048 := V m c main_arg0
/-- The array of the gradient of the input. -/
def arr_5 : Mat 4096 2048 := back (prodD m c) (rowsX m c) (V m c main_arg4 : Mat 4096 2048) (V m c main_arg1 : Mat 1 2048)
/-- The array of the eight partial sums of the gradient of the gain. -/
def arr_6 : Mat 8 2048 := part (gain (prodD m c) (rowsX m c)) 7

/-- The product of a point's blocks is its block of the product. -/
theorem prod_block (t : Fin cfg0.N) (i : Fin 512) (j : Fin 2048) :
    nt (iblk m c 0 t : Mat 512 3072) (iblk m c 1 t : Mat 2048 3072) (ix2 i j) = prodD m c (ix2 (row t i) j) :=
  nt_block (A := (V m c main_arg3 : Mat 4096 3072)) (B := (V m c main_arg2 : Mat 2048 3072)) (r := row t) (s := fun j => j)
    (fun i l => by have h := congrArg (V m c main_arg3 : Mat 4096 3072) (emb_0 t i l); exact h) (fun j l => by have h := congrArg (V m c main_arg2 : Mat 2048 3072) (emb_1 t j l); exact h) i j
/-- A point's rows of the input. -/
abbrev blkX (t : Fin cfg0.N) : Mat 512 2048 := iblk m c 2 t
/-- They are its rows of the array. -/
theorem rows_block (t : Fin cfg0.N) (i : Fin 512) (l : Fin 2048) : blkX m c t (ix2 i l) = rowsX m c (ix2 (row t i) l) := by have h := congrArg (V m c main_arg0 : Mat 4096 2048) (emb_2 t i l); exact h
/-- A point computes its block of the gradient of the input. -/
theorem back_point (t : Fin cfg0.N) (i : Fin 512) (j : Fin 2048) :
    (k0_pay5 (iblk m c 0 t) (iblk m c 1 t) (iblk m c 2 t) (iblk m c 4 t) (iblk m c 3 t) : FVec Ideal S512x2048 .f32) (ix2 i j)
      = arr_5 m c (ix2 (row t i) j) := by
  rw [pay_back]
  exact back_block (D := prodD m c) (X := rowsX m c) (R := (V m c main_arg4 : Mat 4096 2048)) (g := (V m c main_arg1 : Mat 1 2048)) (r := row t)
    (prod_block m c t) (rows_block m c t) (fun i l => by have h := congrArg (V m c main_arg4 : Mat 4096 2048) (emb_3 t i l); exact h) (fun l => by have h := congrArg (V m c main_arg1 : Mat 1 2048) (emb_4 t 0 l); exact h) i j
/-- What a point adds to the partial sums. -/
theorem gain_point (t : Fin cfg0.N) (k : Fin 8) (j : Fin 2048) :
    (k0_pay6 (iblk m c 0 t) (iblk m c 1 t) (iblk m c 2 t) : FVec Ideal S8x2048 .f32) (ix2 k j)
      = ∑ a : Fin 64, gain (prodD m c) (rowsX m c) (ix2 (at' (512 * t.val + 8 * a.val + k.val)) j) := by
  rw [pay_gain]
  refine Finset.sum_congr rfl fun a _ => ?_
  have e : row t (⟨8 * a.val + k.val, by omega⟩ : Fin 512) = at' (512 * t.val + 8 * a.val + k.val) := by
    apply Fin.ext
    have h : t.val < 8 := lt_of_lt_of_eq t.isLt (show cfg0.N = 8 from N_0)
    show 512 * t.val + (8 * a.val + k.val) = (512 * t.val + 8 * a.val + k.val) % 4096
    omega
  rw [← e]
  show nt (iblk m c 0 t : Mat 512 3072) (iblk m c 1 t : Mat 2048 3072) (ix2 _ j) * (blkX m c t (ix2 _ j) * scale (blkX m c t) _)
    = prodD m c (ix2 _ j) * (rowsX m c (ix2 _ j) * scale (rowsX m c) _)
  rw [prod_block, rows_block, scale_block (rows_block m c t)]

/-- What the first output's buffer holds after a point. -/
theorem outs_5 (t : Fin cfg0.N) : (outsAt0 m c t.val t.isLt).1 = k0_pay5 (iblk m c 0 t) (iblk m c 1 t) (iblk m c 2 t) (iblk m c 4 t) (iblk m c 3 t) := by
  by_cases h0 : t.val % 8 = 0
  · rw [outsAt0_A m c t h0 (by have h : t.val < 8 := lt_of_lt_of_eq t.isLt (show cfg0.N = 8 from N_0); omega)]
    dsimp only
    rw [out_A_5]
  · rw [outsAt0_B m c t h0 (by omega)]
    dsimp only
    rw [out_B_5]

/-- What the buffer of the partial sums holds after a point. -/
theorem outs_6 : ∀ (n : ℕ) (hn : n < cfg0.N), ((outsAt0 m c n hn).2 : Mat 8 2048) = part (gain (prodD m c) (rowsX m c)) n
  | 0, hn => by
    have h := congrArg (fun v => (v.2 : Mat 8 2048)) (outsAt0_A m c ⟨0, hn⟩ (Nat.zero_mod _) (by show ¬1 ≤ 0; omega))
    dsimp only at h
    rw [out_A_6] at h
    refine h.trans (funext fun y => ?_)
    obtain ⟨k, j, rfl⟩ : ∃ (k : Fin 8) (j : Fin 2048), y = (ix2 k j : S8x2048.Idx) := ⟨y 0, y 1, eq_ix2 y⟩
    rw [gain_point]
    show _ = ∑ p ∈ Finset.range (0 + 1), ∑ a : Fin 64, gain (prodD m c) (rowsX m c) (ix2 (at' (512 * p + 8 * a.val + k.val)) j)
    rw [Finset.sum_range_one]
  | n + 1, hn => by
    have h8 : n + 1 < 8 := lt_of_lt_of_eq hn (show cfg0.N = 8 from N_0)
    have h := congrArg (fun v => (v.2 : Mat 8 2048)) (outsAt0_B m c ⟨n + 1, hn⟩ (by show ¬(n + 1) % 8 = 0; omega) (by show 1 ≤ n + 1; omega))
    dsimp only at h
    rw [out_B_6] at h
    refine h.trans (funext fun y => ?_)
    obtain ⟨k, j, rfl⟩ : ∃ (k : Fin 8) (j : Fin 2048), y = (ix2 k j : S8x2048.Idx) := ⟨y 0, y 1, eq_ix2 y⟩
    rw [gain_point]
    have hp := congrFun (outs_6 n (Nat.lt_of_succ_lt hn)) (ix2 k j)
    show ((outsAt0 m c n _).2 (ix2 k j) : EReal) + _ = ∑ p ∈ Finset.range (n + 1 + 1), ∑ a : Fin 64, gain (prodD m c) (rowsX m c) (ix2 (at' (512 * p + 8 * a.val + k.val)) j)
    rw [Finset.sum_range_succ]
    exact congrArg (fun v : EReal => v + _) hp

/-- What a point writes back to output 5 is its block of that array. -/
theorem flushed_5 (t : Fin cfg0.N) : (dats m 0 c).flushed 5 t = ((cfg0.win 5).blk t).view.read (Elt Ideal) (arr_5 m c) := by
  show (cfg0.win 5).cut (grid0.coords t) ((dats m 0 c).after 5 t) = _
  rw [after0_5, outs_5]
  funext y
  obtain ⟨i, j, rfl⟩ : ∃ (i : Fin 512) (j : Fin 2048), y = (ix2 i j : S512x2048.Idx) := ⟨y 0, y 1, eq_ix2 y⟩
  show (k0_pay5 (iblk m c 0 t) (iblk m c 1 t) (iblk m c 2 t) (iblk m c 4 t) (iblk m c 3 t) : FVec Ideal S512x2048 .f32) (ix2 i j) = arr_5 m c (((cfg0.win 5).blk t).view.emb (ix2 i j))
  rw [emb_5]
  exact back_point m c t i j

/-- After the call output 5 holds it. -/
theorem final_5 : ((dats m 0 c).arrAt 5 cfg0.N : FVec Ideal S4096x2048 .f32) = arr_5 m c := by
  have hN : cfg0.N = 8 := N_0
  refine (dats m 0 c).arrAt_eq_of_cover 5 (arr_5 m c) (fun t _ => flushed_5 m c t) fun y => ?_
  obtain ⟨r, s, rfl⟩ : ∃ (r : Fin 4096) (s : Fin 2048), y = (ix2 r s : S4096x2048.Idx) := ⟨y 0, y 1, eq_ix2 y⟩
  have ht : r.val / 512 < cfg0.N := by omega
  refine ⟨⟨r.val / 512, ht⟩, flush0_5 _, ?_⟩
  have hm := ((cfg0.win 5).blk ⟨r.val / 512, ht⟩).view.emb_mem_set (ix2 (⟨r.val % 512, by omega⟩ : Fin 512) s)
  rw [emb_5] at hm
  have e : (ix2 r s : S4096x2048.Idx) = ix2 (row ⟨r.val / 512, ht⟩ (⟨r.val % 512, by omega⟩ : Fin 512)) s := by
    funext a; apply Fin.ext
    match a with
    | ⟨0, _⟩ => show r.val = 512 * (r.val / 512) + r.val % 512; omega
    | ⟨1, _⟩ => rfl
  rw [e]; exact hm

/-- What is written back to output 6. -/
theorem flushed_6 (t : Fin cfg0.N) (ht : (cfg0.win 6).flush t = true) : (dats m 0 c).flushed 6 t = ((cfg0.win 6).blk t).view.read (Elt Ideal) (arr_6 m c) := by
  have h7 : t.val = 7 := by
    have h := (flush0_6 t).mp ht
    have h8 : t.val < 8 := lt_of_lt_of_eq t.isLt (show cfg0.N = 8 from N_0)
    omega
  show (cfg0.win 6).cut (grid0.coords t) ((dats m 0 c).after 6 t) = _
  rw [after0_6]
  funext y
  obtain ⟨k, j, rfl⟩ : ∃ (k : Fin 8) (j : Fin 2048), y = (ix2 k j : S8x2048.Idx) := ⟨y 0, y 1, eq_ix2 y⟩
  show ((outsAt0 m c t.val t.isLt).2 : Mat 8 2048) (ix2 k j) = arr_6 m c (((cfg0.win 6).blk t).view.emb (ix2 k j))
  rw [emb_6, outs_6, h7]
  rfl
/-- After the call output 6 holds it. -/
theorem final_6 : ((dats m 0 c).arrAt 6 cfg0.N : FVec Ideal S8x2048 .f32) = arr_6 m c := by
  have hN : cfg0.N = 8 := N_0
  refine (dats m 0 c).arrAt_eq_of_cover 6 (arr_6 m c) (fun t ht => flushed_6 m c t ht) fun y => ?_
  obtain ⟨k, j, rfl⟩ : ∃ (k : Fin 8) (j : Fin 2048), y = (ix2 k j : S8x2048.Idx) := ⟨y 0, y 1, eq_ix2 y⟩
  have ht : 7 < cfg0.N := by omega
  refine ⟨⟨7, ht⟩, (flush0_6 _).mpr rfl, ?_⟩
  have hm := ((cfg0.win 6).blk ⟨7, ht⟩).view.emb_mem_set (ix2 k j)
  rw [emb_6] at hm
  exact hm

end

end Cert.BackIn
end
end
-- ==== Proof.BackInRun.lean ====
/- The backward pass of the norm before the attention: what the whole program leaves in its results. -/
module

public import proofs.«01_k».proof.Proof.BackIn

@[expose] public section

set_option maxRecDepth 16384

noncomputable section

open Idealize.ShloMosaic Idealize.ShloMosaic.TcCoe Idealize.ShloMosaic.ValueIdx Idealize.SL.Sem
open Cert.NormInIdeal Cert.NormInIdeal.Gen Cert.MatSpec Cert.NormSpec Cert.BackSpec Cert.BackIn
open scoped BigOperators

namespace Cert.BackInRun

/-- The eight rows of partial sums, added and laid out as one row. -/
theorem sum_rows (P : FVec Ideal S8x2048 .f32) (z : FVec Ideal S_ .f32) (hz : ∀ i, z i = (0 : EReal)) (s : Fin 2048) :
    (broadcastInDim S1x2048 ![1] bcast_S2048_S1x2048_1 (Host.reduceAdd P z reducesTo_S8x2048_S2048_d0 h_S_ : FVec Ideal S2048 .f32) : FVec Ideal S1x2048 .f32) (ix2 0 s)
      = ∑ k : Fin 8, (P : Mat _ _) (ix2 k s) := by
  have e : ∀ a : Fin S2048.rank, ((ix1 s : S2048.Idx) a).val = if S2048.size a = 1 then 0 else ((ix2 (0 : Fin 1) s : S1x2048.Idx) ((![1] : Fin 1 → Fin S1x2048.rank) a)).val :=
    fun a => match a with
    | ⟨0, _⟩ => by show s.val = if (2048 : ℕ) = 1 then 0 else s.val; rw [if_neg (by decide)]
  rw [broadcastInDim_apply _ bcast_S2048_S1x2048_1 _ (ix2 (0 : Fin 1) s) (ix1 s) e]
  simp only [Host.reduceAdd, Ideal.hostReduceAdd_def]
  rw [Ideal.hostReduceAdd_single reducesTo_S8x2048_S2048_d0 (by decide), hz, zero_add]
  exact Finset.sum_congr (M := EReal) rfl fun k _ => congrArg P (funext fun a => Fin.ext (by match a with | ⟨0, _⟩ => rfl | ⟨1, _⟩ => rfl))

section
variable (m : (ℓ : Loc nD τ sig) → Buf (Elt Ideal) ℓ) (c : Dev nD)

/-- What the lines after the call leave in the gradient of the gain. -/
theorem tail_dg : Pipeline.afterTail₀ cfgs (dats m) 0 (V0 m) [hostOps1] c main_v2 = gradGain (prodD m c) (rowsX m c) := by
  have e : (Pipeline.withArrays (cfgs 0).spec c (V0 m c) (fun w => (dats m 0 c).arrAt w (cfgs 0).N)) (Proc.devRef .tc main_v0_1) = arr_6 m c :=
    (Pipeline.withArrays_arr (cfgs 0).spec winFacts0.arr_inj c (V0 m c) (fun w => (dats m 0 c).arrAt w (cfgs 0).N) 6).trans (final_6 m c)
  show StableHlo.after hostOps1 (Pipeline.withArrays (cfgs 0).spec c (V0 m c) fun w => (dats m 0 c).arrAt w (cfgs 0).N) (Proc.devRef .tc main_v2) = _
  generalize Pipeline.withArrays (cfgs 0).spec c (V0 m c) (fun w => (dats m 0 c).arrAt w (cfgs 0).N) = F at e ⊢
  unfold hostOps1
  rw [StableHlo.after_cons, StableHlo.after_cons, StableHlo.after_cons, StableHlo.after_nil, StableHlo.unary_result, StableHlo.binary_result,
    StableHlo.nullary_result_ne _ _ _ _ (by decide), StableHlo.nullary_result, e]
  refine funext fun y => ?_
  obtain ⟨i, s, rfl⟩ : ∃ (i : Fin 1) (s : Fin 2048), y = (ix2 i s : S1x2048.Idx) := ⟨y 0, y 1, eq_ix2 y⟩
  obtain rfl : i = 0 := Subsingleton.elim _ _
  exact (sum_rows (arr_6 m c) (constant S_ .f32 0x00000000#32) (fun _ => Ideal.ofBits_zero_f32) s).trans (sum_parts (gain (prodD m c) (rowsX m c)) s)
end

/-- Every fair execution ends with the results at what they should hold, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = arr_5 m c
      ∧ r.2.mem ((c.tc : Thread nD τ).loc main_v2) = gradGain (prodD m c) (rowsX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).1 5).trans (final_5 m c),
      ((h c).2 main_v2 (Pipeline.mem_restRefs_of main_v2 rfl (by decide))).trans (tail_dg m c),
      ((h c).1 2).trans (((dats m 0 c).arrAt_in 2 rfl _).trans ((A_eq m c 2).trans (V_main_arg0 m c))),
      ((h c).1 4).trans (((dats m 0 c).arrAt_in 4 rfl _).trans ((A_eq m c 4).trans (V_main_arg1 m c))),
      ((h c).1 1).trans (((dats m 0 c).arrAt_in 1 rfl _).trans ((A_eq m c 1).trans (V_main_arg2 m c))),
      ((h c).1 0).trans (((dats m 0 c).arrAt_in 0 rfl _).trans ((A_eq m c 0).trans (V_main_arg3 m c))),
      ((h c).1 3).trans (((dats m 0 c).arrAt_in 3 rfl _).trans ((A_eq m c 3).trans (V_main_arg4 m c)))⟩)
    (run_main m ρ)

end Cert.BackInRun
end
-- ==== Proof.BackInRef.lean ====
/- What the reference of the gradient of the norm before the attention computes. -/
module

public import proofs.«01_k».proof.Proof.BackSpec
public import proofs.«01_k».proof.Proof.Gen.NormInReferenceIdeal.Read

@[expose] public section

set_option maxRecDepth 16384

noncomputable section

open Idealize.ShloMosaic Idealize.ShloMosaic.ValueIdx Cert.MatSpec Cert.NormSpec Cert.BackSpec
open Cert.NormInReferenceIdeal Cert.NormInReferenceIdeal.Read
open scoped BigOperators

namespace Cert.BackInRef

section
variable (X : FVec Ideal S4096x2048 .f32) (G : FVec Ideal S1x2048 .f32) (W : FVec Ideal S2048x3072 .bf16) (T : FVec Ideal S4096x3072 .bf16) (R : FVec Ideal S4096x2048 .f32)

/-- A row's mean square and the small constant below the root. -/
theorem v6_eq (r : Fin 4096) (j : Fin 1) :
    (val_main_v6 (F := Ideal) X : FVec Ideal S4096x1 .f32) (ix2 r j) = mean (fun l => X (ix2 r l) * X (ix2 r l)) + eps := by
  rw [val_main_v6_apply, val_main_v4_apply, val_main_v2_apply, val_main_v1_apply, val_main_v3_apply, val_main_v5_apply]
  show Ideal.div (Ideal.ofBits .f32 0x00000000#32 + ∑ k : Fin 2048, (val_main_v0 (F := Ideal) X (idx_main_v1 (idx_main_v2 (ix2 r j)) k) : EReal)) cols + eps = _
  rw [Ideal.ofBits_zero_f32, zero_add]
  refine congrArg (fun s => Ideal.div s cols + eps) (Finset.sum_congr (M := EReal) rfl fun l _ => ?_)
  have e : idx_main_v1 (idx_main_v2 (ix2 r j)) l = ix2 r l := by funext a; match a with | ⟨0, _⟩ => rfl | ⟨1, _⟩ => rfl
  rw [e, val_main_v0_apply]
  rfl

/-- The factor of a row. -/
theorem v7_eq (r : Fin 4096) (j : Fin 1) : (val_main_v7 (F := Ideal) X : FVec Ideal S4096x1 .f32) (ix2 r j) = scale X r := by
  rw [val_main_v7_apply, v6_eq]
  rfl

/-- The derivative of a row's factor in its mean square. -/
theorem v10_eq (r : Fin 4096) (j : Fin 1) : (val_main_v10 (F := Ideal) X : FVec Ideal S4096x1 .f32) (ix2 r j)
    = Ideal.ofBits .f32 0xBF000000#32 * Ideal.div (scale X r) (mean (fun l => X (ix2 r l) * X (ix2 r l)) + eps) := by
  rw [val_main_v10_apply, val_main_v9_apply, val_main_v8_apply, v7_eq, v6_eq]
  rfl

/-- The gradient of the norm's output. -/
theorem v18_eq (r : Fin 4096) (s : Fin 2048) : (val_main_v18 (F := Ideal) W T : FVec Ideal S4096x2048 .f32) (ix2 r s) = nt T W (ix2 r s) := by
  rw [val_main_v18_apply]
  refine Finset.sum_congr (M := EReal) rfl fun l _ => ?_
  have e1 : lidx_main_v18 (ix2 r s) l = ix2 r l := by funext a; match a with | ⟨0, _⟩ => rfl | ⟨1, _⟩ => rfl
  have e2 : ridx_main_v18 (ix2 r s) l = ix2 s l := by funext a; match a with | ⟨0, _⟩ => rfl | ⟨1, _⟩ => rfl
  rw [e1, e2]; rfl

/-- The gradient of the norm's gain. -/
theorem out_dg : (val_main_v21 (F := Ideal) X W T : FVec Ideal S1x2048 .f32) = gradGain (nt T W) X := by
  funext y
  obtain ⟨i, s, rfl⟩ : ∃ (i : Fin 1) (s : Fin 2048), y = (ix2 i s : S1x2048.Idx) := ⟨y 0, y 1, eq_ix2 y⟩
  rw [val_main_v21_apply, val_main_v20_apply]
  show Ideal.ofBits .f32 0x00000000#32 + ∑ k : Fin 4096, (val_main_v19 (F := Ideal) X W T (idx_main_v20 (idx_main_v21 (ix2 i s)) k) : EReal)
    = ∑ r : Fin 4096, gain (nt T W) X (ix2 r s)
  rw [Ideal.ofBits_zero_f32, zero_add]
  refine Finset.sum_congr (M := EReal) rfl fun l _ => ?_
  have e : idx_main_v20 (idx_main_v21 (ix2 i s)) l = ix2 l s := by
    funext a
    match a with
    | ⟨0, _⟩ => rfl
    | ⟨1, _⟩ => exact Fin.ext (by show i.val * 2048 + s.val = s.val; omega)
  have e1 : idx_main_v11 (ix2 l s) = ix2 l (0 : Fin 1) := by funext a; match a with | ⟨0, _⟩ => rfl | ⟨1, _⟩ => rfl
  rw [e, val_main_v19_apply, val_main_v12_apply, val_main_v11_apply, e1, v7_eq, v18_eq]
  exact mul_comm ((X : Mat _ _) (ix2 l s) * scale X l : EReal) (nt T W (ix2 l s))

/-- The gradient of the norm's output with the gain. -/
theorem v23_eq (r : Fin 4096) (s : Fin 2048) : (val_main_v23 (F := Ideal) G W T : FVec Ideal S4096x2048 .f32) (ix2 r s)
    = nt T W (ix2 r s) * (G : Mat _ _) (ix2 (0 : Fin 1) s) := by
  have e : idx_main_v22 (ix2 r s) = ix2 (0 : Fin 1) s := by funext a; match a with | ⟨0, _⟩ => rfl | ⟨1, _⟩ => rfl
  rw [val_main_v23_apply, v18_eq, val_main_v22_apply, e]
  rfl

/-- What a row's factor sends back to the row. -/
theorem v34_eq (r : Fin 4096) (s : Fin 2048) : (val_main_v34 (F := Ideal) X G W T : FVec Ideal S4096x2048 .f32) (ix2 r s)
    = Ideal.div ((∑ l : Fin 2048, (X : Mat _ _) (ix2 r l) * (nt T W (ix2 r l) * (G : Mat _ _) (ix2 (0 : Fin 1) l)))
      * (Ideal.ofBits .f32 0xBF000000#32 * Ideal.div (scale X r) (mean (fun l => X (ix2 r l) * X (ix2 r l)) + eps))) cols := by
  rw [val_main_v34_apply, val_main_v33_apply]
  show Ideal.ofBits .f32 0x00000000#32 + ∑ k : Fin 1, (val_main_v32 (F := Ideal) X G W T (idx_main_v33 (idx_main_v34 (ix2 r s)) k) : EReal) = _
  have e : idx_main_v33 (idx_main_v34 (ix2 r s)) 0 = ix2 r (0 : Fin 1) := by funext a; match a with | ⟨0, _⟩ => rfl | ⟨1, _⟩ => rfl
  rw [Ideal.ofBits_zero_f32, zero_add, Fin.sum_univ_one, e, val_main_v32_apply, val_main_v30_apply, val_main_v31_apply, v10_eq, val_main_v26_apply, val_main_v25_apply]
  show Ideal.div ((Ideal.ofBits .f32 0x00000000#32 + ∑ k : Fin 2048, (val_main_v24 (F := Ideal) X G W T (idx_main_v25 (idx_main_v26 (ix2 r (0 : Fin 1))) k) : EReal)) * _) cols = _
  rw [Ideal.ofBits_zero_f32, zero_add]
  refine congrArg (fun q => Ideal.div (q * _) cols) (Finset.sum_congr (M := EReal) rfl fun l _ => ?_)
  have e2 : idx_main_v25 (idx_main_v26 (ix2 r (0 : Fin 1))) l = ix2 r l := by
    funext a
    match a with
    | ⟨0, _⟩ => exact Fin.ext (by show r.val * 1 + 0 = r.val; omega)
    | ⟨1, _⟩ => rfl
  rw [e2, val_main_v24_apply, v23_eq]
  rfl

/-- The gradient of the norm's input, added to what arrives beside it. -/
theorem out_dx : (val_main_v38 (F := Ideal) X G W T R : FVec Ideal S4096x2048 .f32) = back (nt T W) X R G := by
  funext y
  obtain ⟨r, s, rfl⟩ : ∃ (r : Fin 4096) (s : Fin 2048), y = (ix2 r s : S4096x2048.Idx) := ⟨y 0, y 1, eq_ix2 y⟩
  have e : idx_main_v27 (ix2 r s) = ix2 r (0 : Fin 1) := by funext a; match a with | ⟨0, _⟩ => rfl | ⟨1, _⟩ => rfl
  rw [val_main_v38_apply, val_main_v36_apply, val_main_v35_apply, val_main_v37_apply, val_main_v29_apply, val_main_v28_apply, val_main_v27_apply,
    v34_eq, v23_eq, e, v7_eq]
  exact (back_entry (fun l => nt T W (ix2 r l) * (G : Mat _ _) (ix2 (0 : Fin 1) l)) (fun l => (X : Mat _ _) (ix2 r l))
    (mean (fun l => X (ix2 r l) * X (ix2 r l)) + eps) ((R : Mat _ _) (ix2 r s)) (nt T W (ix2 r s) * (G : Mat _ _) (ix2 (0 : Fin 1) s))
    ((X : Mat _ _) (ix2 r s)) (below_pos _)).symm

end

end Cert.BackInRef
end
-- ==== Proof.BackInEquation.lean ====
/- The value claim of the backward pass of the norm before the attention: the call and the reference leave the same arrays. -/
module

public import proofs.«01_k».proof.Defs
public import proofs.«01_k».proof.Proof.BackInRun
public import proofs.«01_k».proof.Proof.BackInRef

@[expose] public section

set_option maxRecDepth 16384

noncomputable section

open Idealize.ShloMosaic Idealize.ShloMosaic.ValueIdx Idealize.SL.Sem Cert.MatSpec Cert.NormSpec Cert.BackSpec Cert.BackIn Cert.BackInRun

namespace Cert.BackInEquation

/-- The value claim. -/
theorem algebraic : Cert.algebraic_NormInIdeal_NormInReferenceIdeal := by
  intro m g m' g' _ hm
  refine ⟨fun c => arr_5 m c, fun c => gradGain (prodD m c) (rowsX m c), run_value m g, ?_⟩
  refine (θ_run Cert.NormInReferenceIdeal.defs _ _).mono (fun r h c => ?_) (Cert.NormInReferenceIdeal.Value.run (F := Ideal) m' g')
  obtain ⟨h0, h1, h2⟩ := h c
  obtain ⟨e0, e1, e2, e3, e4⟩ := hm c
  rw [Cert.NormInReferenceIdeal.Read.val_main_v38_eq, e0, e1, e2, e3, e4, Cert.BackInRef.out_dx] at h0
  rw [Cert.NormInReferenceIdeal.Read.val_main_v21_eq, e0, e2, e3, Cert.BackInRef.out_dg] at h1
  exact ⟨h0, h1, h2⟩

end Cert.BackInEquation
end
-- ==== Proof.BackGate.lean ====
/- The backward pass of the norm before the gate: what the result arrays hold after the call. -/
module

public import proofs.«01_k».proof.Proof.BackSpec
public import proofs.«01_k».proof.Proof.Gen.NormGateIdeal.Frame

@[expose] public section

set_option maxRecDepth 16384

noncomputable section

open Idealize.ShloMosaic Idealize.ShloMosaic.TcCoe Idealize.ShloMosaic.ValueIdx Cert.NormGateIdeal Cert.NormGateIdeal.Gen Cert.MatSpec Cert.NormSpec Cert.BackSpec
open scoped BigOperators

namespace Cert.BackGate

section
variable (a : Vec Ideal S512x2048 .bf16) (b : Vec Ideal S2048x2048 .bf16) (x : Vec Ideal S512x2048 .f32) (g : Vec Ideal S1x2048 .f32)
  (s : Vec Ideal S512x2048 .f32)

/-- The gradient of the norm's input and what comes along the residual. -/
theorem pay_back (i : Fin 512) (j : Fin 2048) : (k0_pay6 a b x g s : FVec Ideal S512x2048 .f32) (ix2 i j)
    = back (nt (a : Mat 512 2048) (b : Mat 2048 2048)) (x : Mat 512 2048) (s : Mat 512 2048) (g : Mat 1 2048) (ix2 i j) := by
  have e : (k0_pay3 a b : Mat 512 2048) = nt (a : Mat 512 2048) (b : Mat 2048 2048) := matmul_nt (φ := .bf16) (ψ := .bf16) a b
  rw [← e]
  exact backLines_apply reduces_S512x2048_S512 (.inl rfl) rfl shapeCasts_S512_S512x1 broadcasts_S512x1_S512x2048 broadcasts_S1x2048_S512x2048
    (k0_pay3 a b) x s g (by norm_num) (by norm_num) i j
/-- What the block adds to the eight partial sums. -/
theorem pay_gain (k : Fin 8) (j : Fin 2048) : (k0_pay1 (k0_pay8 a b x) : FVec Ideal S8x2048 .f32) (ix2 k j)
    = ∑ p : Fin 64, gain (nt (a : Mat 512 2048) (b : Mat 2048 2048)) (x : Mat 512 2048) (ix2 (⟨8 * p.val + k.val, by omega⟩ : Fin 512) j) := by
  have e : (k0_pay3 a b : Mat 512 2048) = nt (a : Mat 512 2048) (b : Mat 2048 2048) := matmul_nt (φ := .bf16) (ψ := .bf16) a b
  rw [← e]
  exact gainLines_apply reduces_S512x2048_S512 (.inl rfl) rfl shapeCasts_S512_S512x1 broadcasts_S512x1_S512x2048 shapeCasts_S512x2048_S64x8x2048
    reduces_S64x8x2048_S8x2048 (k0_pay3 a b) x k j
end

/-- What a grid point leaves in output window 5, the first point. -/
theorem out_A_5 (c : Dev nD) (i : grid0.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S8x2048 .f32) (harg10 : arg10.IsWhole) (arg11 : Memref sig .tc .vmem S8x128 .f32) (harg11 : arg11.IsWhole) (hc0 : cond0_0 i) (hc1 : ¬cond0_1 i)
    (x0 : Vec Ideal S512x2048 .bf16) (x1 : Vec Ideal S2048x2048 .bf16) (x2 : Vec Ideal S512x2048 .f32) (x3 : Vec Ideal S512x2048 .f32) (x4 : Vec Ideal S1x2048 .f32) : out0_A_5 (F := Ideal) c i arg3 harg3 arg4 harg4 arg5 harg5 arg6 harg6 arg7 harg7 arg8 harg8 arg9 harg9 arg10 harg10 arg11 harg11 hc0 hc1 x0 x1 x2 x3 x4 = k0_pay6 x0 x1 x2 x4 x3 := by
  unfold out0_A_5
  rw [View.read_writes_junk_eq_canon]
  refine (View.canon_cons_unit_lit (by decide) _ [] (by decide)).trans ?_
  rw [(readAt_whole arg3 harg3 x0 (by decide) (by decide)), (readAt_whole arg4 harg4 x1 (by decide) (by decide)), (readAt_whole arg5 harg5 x2 (by decide) (by decide)), (readAt_whole arg7 harg7 x4 (by decide) (by decide)), (readAt_whole arg6 harg6 x3 (by decide) (by decide))]

/-- What a grid point leaves in output window 6, the first point. -/
theorem out_A_6 (c : Dev nD) (i : grid0.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S8x2048 .f32) (harg10 : arg10.IsWhole) (arg11 : Memref sig .tc .vmem S8x128 .f32) (harg11 : arg11.IsWhole) (hc0 : cond0_0 i) (hc1 : ¬cond0_1 i)
    (x0 : Vec Ideal S512x2048 .bf16) (x1 : Vec Ideal S2048x2048 .bf16) (x2 : Vec Ideal S512x2048 .f32) (x3 : Vec Ideal S512x2048 .f32) (x4 : Vec Ideal S1x2048 .f32) : out0_A_6 (F := Ideal) c i arg3 harg3 arg4 harg4 arg5 harg5 arg6 harg6 arg7 harg7 arg8 harg8 arg9 harg9 arg10 harg10 arg11 harg11 hc0 hc1 x0 x1 x2 x3 x4 = k0_pay7 x0 x1 x2 x4 x3 := by
  unfold out0_A_6
  rw [View.read_writes_junk_eq_canon]
  refine (View.canon_cons_unit_lit (by decide) _ [] (by decide)).trans ?_
  rw [(readAt_whole arg3 harg3 x0 (by decide) (by decide)), (readAt_whole arg4 harg4 x1 (by decide) (by decide)), (readAt_whole arg5 harg5 x2 (by decide) (by decide)), (readAt_whole arg7 harg7 x4 (by decide) (by decide)), (readAt_whole arg6 harg6 x3 (by decide) (by decide))]

/-- What a grid point leaves in output window 5, a later point. -/
theorem out_B_5 (c : Dev nD) (i : grid0.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S8x2048 .f32) (harg10 : arg10.IsWhole) (arg11 : Memref sig .tc .vmem S8x128 .f32) (harg11 : arg11.IsWhole) (hc0 : ¬cond0_0 i) (hc1 : cond0_1 i)
    (x0 : Vec Ideal S512x2048 .bf16) (x1 : Vec Ideal S2048x2048 .bf16) (x2 : Vec Ideal S512x2048 .f32) (x3 : Vec Ideal S512x2048 .f32) (x4 : Vec Ideal S1x2048 .f32) (xo7 : Vec Ideal S8x2048 .f32) : out0_B_5 (F := Ideal) c i arg3 harg3 arg4 harg4 arg5 harg5 arg6 harg6 arg7 harg7 arg8 harg8 arg9 harg9 arg10 harg10 arg11 harg11 hc0 hc1 x0 x1 x2 x3 x4 xo7 = k0_pay6 x0 x1 x2 x4 x3 := by
  unfold out0_B_5
  rw [View.read_writes_junk_eq_canon]
  refine (View.canon_cons_unit_lit (by decide) _ [] (by decide)).trans ?_
  rw [(readAt_whole arg3 harg3 x0 (by decide) (by decide)), (readAt_whole arg4 harg4 x1 (by decide) (by decide)), (readAt_whole arg5 harg5 x2 (by decide) (by decide)), (readAt_whole arg7 harg7 x4 (by decide) (by decide)), (readAt_whole arg6 harg6 x3 (by decide) (by decide))]

/-- What a grid point leaves in output window 6, a later point. -/
theorem out_B_6 (c : Dev nD) (i : grid0.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S8x2048 .f32) (harg10 : arg10.IsWhole) (arg11 : Memref sig .tc .vmem S8x128 .f32) (harg11 : arg11.IsWhole) (hc0 : ¬cond0_0 i) (hc1 : cond0_1 i)
    (x0 : Vec Ideal S512x2048 .bf16) (x1 : Vec Ideal S2048x2048 .bf16) (x2 : Vec Ideal S512x2048 .f32) (x3 : Vec Ideal S512x2048 .f32) (x4 : Vec Ideal S1x2048 .f32) (xo7 : Vec Ideal S8x2048 .f32) : out0_B_6 (F := Ideal) c i arg3 harg3 arg4 harg4 arg5 harg5 arg6 harg6 arg7 harg7 arg8 harg8 arg9 harg9 arg10 harg10 arg11 harg11 hc0 hc1 x0 x1 x2 x3 x4 xo7 = k0_pay7 x0 x1 x2 x4 x3 := by
  unfold out0_B_6
  rw [View.read_writes_junk_eq_canon]
  refine (View.canon_cons_unit_lit (by decide) _ [] (by decide)).trans ?_
  rw [(readAt_whole arg3 harg3 x0 (by decide) (by decide)), (readAt_whole arg4 harg4 x1 (by decide) (by decide)), (readAt_whole arg5 harg5 x2 (by decide) (by decide)), (readAt_whole arg7 harg7 x4 (by decide) (by decide)), (readAt_whole arg6 harg6 x3 (by decide) (by decide))]

/-- What a grid point leaves in output window 7, the first point. -/
theorem out_A_7 (c : Dev nD) (i : grid0.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S8x2048 .f32) (harg10 : arg10.IsWhole) (arg11 : Memref sig .tc .vmem S8x128 .f32) (harg11 : arg11.IsWhole) (hc0 : cond0_0 i) (hc1 : ¬cond0_1 i)
    (x0 : Vec Ideal S512x2048 .bf16) (x1 : Vec Ideal S2048x2048 .bf16) (x2 : Vec Ideal S512x2048 .f32) (x3 : Vec Ideal S512x2048 .f32) (x4 : Vec Ideal S1x2048 .f32) : out0_A_7 (F := Ideal) c i arg3 harg3 arg4 harg4 arg5 harg5 arg6 harg6 arg7 harg7 arg8 harg8 arg9 harg9 arg10 harg10 arg11 harg11 hc0 hc1 x0 x1 x2 x3 x4 = k0_pay1 (k0_pay8 x0 x1 x2) := by
  unfold out0_A_7
  rw [View.read_writes_junk_eq_canon]
  refine (View.canon_cons_unit_lit (by decide) _ [] (by decide)).trans ?_
  unfold kernelRun0_A.sl.r
  rw [(readAt_whole arg3 harg3 x0 (by decide) (by decide)), (readAt_whole arg4 harg4 x1 (by decide) (by decide)), (readAt_whole arg5 harg5 x2 (by decide) (by decide))]

/-- What a grid point leaves in output window 7, a later point. -/
theorem out_B_7 (c : Dev nD) (i : grid0.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S8x2048 .f32) (harg10 : arg10.IsWhole) (arg11 : Memref sig .tc .vmem S8x128 .f32) (harg11 : arg11.IsWhole) (hc0 : ¬cond0_0 i) (hc1 : cond0_1 i)
    (x0 : Vec Ideal S512x2048 .bf16) (x1 : Vec Ideal S2048x2048 .bf16) (x2 : Vec Ideal S512x2048 .f32) (x3 : Vec Ideal S512x2048 .f32) (x4 : Vec Ideal S1x2048 .f32) (xo7 : Vec Ideal S8x2048 .f32) : out0_B_7 (F := Ideal) c i arg3 harg3 arg4 harg4 arg5 harg5 arg6 harg6 arg7 harg7 arg8 harg8 arg9 harg9 arg10 harg10 arg11 harg11 hc0 hc1 x0 x1 x2 x3 x4 xo7 = (fun y => (xo7 y : EReal) + ((k0_pay1 (k0_pay8 x0 x1 x2) : FVec Ideal S8x2048 .f32) y : EReal)) := by
  unfold out0_B_7
  rw [View.read_writes_junk_eq_canon]
  refine (View.canon_cons_unit_lit (by decide) _ [] (by decide)).trans ?_
  unfold kernelRun0_B.sl.r
  rw [(readAt_whole arg3 harg3 x0 (by decide) (by decide)), (readAt_whole arg4 harg4 x1 (by decide) (by decide)), (readAt_whole arg5 harg5 x2 (by decide) (by decide)), (readAt_whole arg10 harg10 xo7 (by decide) (by decide))]
  unfold k0_pay2
  rw [shapeCast_self]
  rfl

/-- The row of the array that a row of the block of grid point `t` is. -/
def row (t : Fin cfg0.N) (i : Fin 512) : Fin 4096 := ⟨512 * t.val + i.val, by
  have h : t.val < 8 := lt_of_lt_of_eq t.isLt (show cfg0.N = 8 from N_0); omega⟩

/-- Where window 0's block lies at each grid point. -/
theorem index_0 : ∀ t : Fin cfg0.N, win0_0.index t (0 : Fin 2) = t.val ∧ win0_0.index t (1 : Fin 2) = 0 :=
  (by decide +kernel : ∀ t : Fin grid0.N, _)
/-- Where an entry of window 0's block lies in its array. -/
theorem emb_0 (t : Fin cfg0.N) (i : Fin 512) (j : Fin 2048) : ((cfg0.win 0).blk t).view.emb (ix2 i j)
    = (ix2 (row t i) j : S4096x2048.Idx) := by
  obtain ⟨e0, e1⟩ := index_0 t
  funext a; apply Fin.ext
  match a with
  | ⟨0, _⟩ => show win0_0.index t (0 : Fin 2) * 512 + 1 * i.val = 512 * t.val + i.val; omega
  | ⟨1, _⟩ => show win0_0.index t (1 : Fin 2) * 2048 + 1 * j.val = j.val; omega

/-- Where window 1's block lies at each grid point. -/
theorem index_1 : ∀ t : Fin cfg0.N, win0_1.index t (0 : Fin 2) = 0 ∧ win0_1.index t (1 : Fin 2) = 0 :=
  (by decide +kernel : ∀ t : Fin grid0.N, _)
/-- Where an entry of window 1's block lies in its array. -/
theorem emb_1 (t : Fin cfg0.N) (i : Fin 2048) (j : Fin 2048) : ((cfg0.win 1).blk t).view.emb (ix2 i j)
    = (ix2 i j : S2048x2048.Idx) := by
  obtain ⟨e0, e1⟩ := index_1 t
  funext a; apply Fin.ext
  match a with
  | ⟨0, _⟩ => show win0_1.index t (0 : Fin 2) * 2048 + 1 * i.val = i.val; omega
  | ⟨1, _⟩ => show win0_1.index t (1 : Fin 2) * 2048 + 1 * j.val = j.val; omega

/-- Where window 2's block lies at each grid point. -/
theorem index_2 : ∀ t : Fin cfg0.N, win0_2.index t (0 : Fin 2) = t.val ∧ win0_2.index t (1 : Fin 2) = 0 :=
  (by decide +kernel : ∀ t : Fin grid0.N, _)
/-- Where an entry of window 2's block lies in its array. -/
theorem emb_2 (t : Fin cfg0.N) (i : Fin 512) (j : Fin 2048) : ((cfg0.win 2).blk t).view.emb (ix2 i j)
    = (ix2 (row t i) j : S4096x2048.Idx) := by
  obtain ⟨e0, e1⟩ := index_2 t
  funext a; apply Fin.ext
  match a with
  | ⟨0, _⟩ => show win0_2.index t (0 : Fin 2) * 512 + 1 * i.val = 512 * t.val + i.val; omega
  | ⟨1, _⟩ => show win0_2.index t (1 : Fin 2) * 2048 + 1 * j.val = j.val; omega

/-- Where window 3's block lies at each grid point. -/
theorem index_3 : ∀ t : Fin cfg0.N, win0_3.index t (0 : Fin 2) = t.val ∧ win0_3.index t (1 : Fin 2) = 0 :=
  (by decide +kernel : ∀ t : Fin grid0.N, _)
/-- Where an entry of window 3's block lies in its array. -/
theorem emb_3 (t : Fin cfg0.N) (i : Fin 512) (j : Fin 2048) : ((cfg0.win 3).blk t).view.emb (ix2 i j)
    = (ix2 (row t i) j : S4096x2048.Idx) := by
  obtain ⟨e0, e1⟩ := index_3 t
  funext a; apply Fin.ext
  match a with
  | ⟨0, _⟩ => show win0_3.index t (0 : Fin 2) * 512 + 1 * i.val = 512 * t.val + i.val; omega
  | ⟨1, _⟩ => show win0_3.index t (1 : Fin 2) * 2048 + 1 * j.val = j.val; omega

/-- Where window 4's block lies at each grid point. -/
theorem index_4 : ∀ t : Fin cfg0.N, win0_4.index t (0 : Fin 2) = 0 ∧ win0_4.index t (1 : Fin 2) = 0 :=
  (by decide +kernel : ∀ t : Fin grid0.N, _)
/-- Where an entry of window 4's block lies in its array. -/
theorem emb_4 (t : Fin cfg0.N) (i : Fin 1) (j : Fin 2048) : ((cfg0.win 4).blk t).view.emb (ix2 i j)
    = (ix2 i j : S1x2048.Idx) := by
  obtain ⟨e0, e1⟩ := index_4 t
  funext a; apply Fin.ext
  match a with
  | ⟨0, _⟩ => show win0_4.index t (0 : Fin 2) * 1 + 1 * i.val = i.val; omega
  | ⟨1, _⟩ => show win0_4.index t (1 : Fin 2) * 2048 + 1 * j.val = j.val; omega

/-- Where window 5's block lies at each grid point. -/
theorem index_5 : ∀ t : Fin cfg0.N, win0_5.index t (0 : Fin 2) = t.val ∧ win0_5.index t (1 : Fin 2) = 0 :=
  (by decide +kernel : ∀ t : Fin grid0.N, _)
/-- Where an entry of window 5's block lies in its array. -/
theorem emb_5 (t : Fin cfg0.N) (i : Fin 512) (j : Fin 2048) : ((cfg0.win 5).blk t).view.emb (ix2 i j)
    = (ix2 (row t i) j : S4096x2048.Idx) := by
  obtain ⟨e0, e1⟩ := index_5 t
  funext a; apply Fin.ext
  match a with
  | ⟨0, _⟩ => show win0_5.index t (0 : Fin 2) * 512 + 1 * i.val = 512 * t.val + i.val; omega
  | ⟨1, _⟩ => show win0_5.index t (1 : Fin 2) * 2048 + 1 * j.val = j.val; omega

/-- Where window 6's block lies at each grid point. -/
theorem index_6 : ∀ t : Fin cfg0.N, win0_6.index t (0 : Fin 2) = t.val ∧ win0_6.index t (1 : Fin 2) = 0 :=
  (by decide +kernel : ∀ t : Fin grid0.N, _)
/-- Where an entry of window 6's block lies in its array. -/
theorem emb_6 (t : Fin cfg0.N) (i : Fin 512) (j : Fin 2048) : ((cfg0.win 6).blk t).view.emb (ix2 i j)
    = (ix2 (row t i) j : S4096x2048.Idx) := by
  obtain ⟨e0, e1⟩ := index_6 t
  funext a; apply Fin.ext
  match a with
  | ⟨0, _⟩ => show win0_6.index t (0 : Fin 2) * 512 + 1 * i.val = 512 * t.val + i.val; omega
  | ⟨1, _⟩ => show win0_6.index t (1 : Fin 2) * 2048 + 1 * j.val = j.val; omega

/-- Where window 7's block lies at each grid point. -/
theorem index_7 : ∀ t : Fin cfg0.N, win0_7.index t (0 : Fin 2) = 0 ∧ win0_7.index t (1 : Fin 2) = 0 :=
  (by decide +kernel : ∀ t : Fin grid0.N, _)
/-- Where an entry of window 7's block lies in its array. -/
theorem emb_7 (t : Fin cfg0.N) (i : Fin 8) (j : Fin 2048) : ((cfg0.win 7).blk t).view.emb (ix2 i j)
    = (ix2 i j : S8x2048.Idx) := by
  obtain ⟨e0, e1⟩ := index_7 t
  funext a; apply Fin.ext
  match a with
  | ⟨0, _⟩ => show win0_7.index t (0 : Fin 2) * 8 + 1 * i.val = i.val; omega
  | ⟨1, _⟩ => show win0_7.index t (1 : Fin 2) * 2048 + 1 * j.val = j.val; omega

section
variable (m : (ℓ : Loc nD τ sig) → Buf (Elt Ideal) ℓ) (c : Dev nD)

/-- The gradient that comes into the norm. -/
def prodD : Mat 4096 2048 := nt (V m c main_arg3 : Mat 4096 2048) (V m c main_arg2 : Mat 2048 2048)
/-- The rows of the norm's input. -/
abbrev rowsX : Mat 4096 2048 := V m c main_arg0
/-- The array of the gradient of the input. -/
def arr_5 : Mat 4096 2048 := back (prodD m c) (rowsX m c) (V m c main_arg4 : Mat 4096 2048) (V m c main_arg1 : Mat 1 2048)
/-- The array of the eight partial sums of the gradient of the gain. -/
def arr_7 : Mat 8 2048 := part (gain (prodD m c) (rowsX m c)) 7

/-- The product of a point's blocks is its block of the product. -/
theorem prod_block (t : Fin cfg0.N) (i : Fin 512) (j : Fin 2048) :
    nt (iblk m c 0 t : Mat 512 2048) (iblk m c 1 t : Mat 2048 2048) (ix2 i j) = prodD m c (ix2 (row t i) j) :=
  nt_block (A := (V m c main_arg3 : Mat 4096 2048)) (B := (V m c main_arg2 : Mat 2048 2048)) (r := row t) (s := fun j => j)
    (fun i l => by have h := congrArg (V m c main_arg3 : Mat 4096 2048) (emb_0 t i l); exact h) (fun j l => by have h := congrArg (V m c main_arg2 : Mat 2048 2048) (emb_1 t j l); exact h) i j
/-- A point's rows of the input. -/
abbrev blkX (t : Fin cfg0.N) : Mat 512 2048 := iblk m c 2 t
/-- They are its rows of the array. -/
theorem rows_block (t : Fin cfg0.N) (i : Fin 512) (l : Fin 2048) : blkX m c t (ix2 i l) = rowsX m c (ix2 (row t i) l) := by have h := congrArg (V m c main_arg0 : Mat 4096 2048) (emb_2 t i l); exact h
/-- A point computes its block of the gradient of the input. -/
theorem back_point (t : Fin cfg0.N) (i : Fin 512) (j : Fin 2048) :
    (k0_pay6 (iblk m c 0 t) (iblk m c 1 t) (iblk m c 2 t) (iblk m c 4 t) (iblk m c 3 t) : FVec Ideal S512x2048 .f32) (ix2 i j)
      = arr_5 m c (ix2 (row t i) j) := by
  rw [pay_back]
  exact back_block (D := prodD m c) (X := rowsX m c) (R := (V m c main_arg4 : Mat 4096 2048)) (g := (V m c main_arg1 : Mat 1 2048)) (r := row t)
    (prod_block m c t) (rows_block m c t) (fun i l => by have h := congrArg (V m c main_arg4 : Mat 4096 2048) (emb_3 t i l); exact h) (fun l => by have h := congrArg (V m c main_arg1 : Mat 1 2048) (emb_4 t 0 l); exact h) i j
/-- What a point adds to the partial sums. -/
theorem gain_point (t : Fin cfg0.N) (k : Fin 8) (j : Fin 2048) :
    (k0_pay1 (k0_pay8 (iblk m c 0 t) (iblk m c 1 t) (iblk m c 2 t)) : FVec Ideal S8x2048 .f32) (ix2 k j)
      = ∑ a : Fin 64, gain (prodD m c) (rowsX m c) (ix2 (at' (512 * t.val + 8 * a.val + k.val)) j) := by
  rw [pay_gain]
  refine Finset.sum_congr rfl fun a _ => ?_
  have e : row t (⟨8 * a.val + k.val, by omega⟩ : Fin 512) = at' (512 * t.val + 8 * a.val + k.val) := by
    apply Fin.ext
    have h : t.val < 8 := lt_of_lt_of_eq t.isLt (show cfg0.N = 8 from N_0)
    show 512 * t.val + (8 * a.val + k.val) = (512 * t.val + 8 * a.val + k.val) % 4096
    omega
  rw [← e]
  show nt (iblk m c 0 t : Mat 512 2048) (iblk m c 1 t : Mat 2048 2048) (ix2 _ j) * (blkX m c t (ix2 _ j) * scale (blkX m c t) _)
    = prodD m c (ix2 _ j) * (rowsX m c (ix2 _ j) * scale (rowsX m c) _)
  rw [prod_block, rows_block, scale_block (rows_block m c t)]

/-- What the first output's buffer holds after a point. -/
theorem outs_5 (t : Fin cfg0.N) : (outsAt0 m c t.val t.isLt).1 = k0_pay6 (iblk m c 0 t) (iblk m c 1 t) (iblk m c 2 t) (iblk m c 4 t) (iblk m c 3 t) := by
  by_cases h0 : t.val % 8 = 0
  · rw [outsAt0_A m c t h0 (by have h : t.val < 8 := lt_of_lt_of_eq t.isLt (show cfg0.N = 8 from N_0); omega)]
    dsimp only
    rw [out_A_5]
  · rw [outsAt0_B m c t h0 (by omega)]
    dsimp only
    rw [out_B_5]

/-- What the second output's buffer holds after a point. -/
theorem outs_6 (t : Fin cfg0.N) : (outsAt0 m c t.val t.isLt).2.1 = k0_pay7 (iblk m c 0 t) (iblk m c 1 t) (iblk m c 2 t) (iblk m c 4 t) (iblk m c 3 t) := by
  by_cases h0 : t.val % 8 = 0
  · rw [outsAt0_A m c t h0 (by have h : t.val < 8 := lt_of_lt_of_eq t.isLt (show cfg0.N = 8 from N_0); omega)]
    dsimp only
    rw [out_A_6]
  · rw [outsAt0_B m c t h0 (by omega)]
    dsimp only
    rw [out_B_6]

/-- What the buffer of the partial sums holds after a point. -/
theorem outs_7 : ∀ (n : ℕ) (hn : n < cfg0.N), ((outsAt0 m c n hn).2.2 : Mat 8 2048) = part (gain (prodD m c) (rowsX m c)) n
  | 0, hn => by
    have h := congrArg (fun v => (v.2.2 : Mat 8 2048)) (outsAt0_A m c ⟨0, hn⟩ (Nat.zero_mod _) (by show ¬1 ≤ 0; omega))
    dsimp only at h
    rw [out_A_7] at h
    refine h.trans (funext fun y => ?_)
    obtain ⟨k, j, rfl⟩ : ∃ (k : Fin 8) (j : Fin 2048), y = (ix2 k j : S8x2048.Idx) := ⟨y 0, y 1, eq_ix2 y⟩
    rw [gain_point]
    show _ = ∑ p ∈ Finset.range (0 + 1), ∑ a : Fin 64, gain (prodD m c) (rowsX m c) (ix2 (at' (512 * p + 8 * a.val + k.val)) j)
    rw [Finset.sum_range_one]
  | n + 1, hn => by
    have h8 : n + 1 < 8 := lt_of_lt_of_eq hn (show cfg0.N = 8 from N_0)
    have h := congrArg (fun v => (v.2.2 : Mat 8 2048)) (outsAt0_B m c ⟨n + 1, hn⟩ (by show ¬(n + 1) % 8 = 0; omega) (by show 1 ≤ n + 1; omega))
    dsimp only at h
    rw [out_B_7] at h
    refine h.trans (funext fun y => ?_)
    obtain ⟨k, j, rfl⟩ : ∃ (k : Fin 8) (j : Fin 2048), y = (ix2 k j : S8x2048.Idx) := ⟨y 0, y 1, eq_ix2 y⟩
    rw [gain_point]
    have hp := congrFun (outs_7 n (Nat.lt_of_succ_lt hn)) (ix2 k j)
    show ((outsAt0 m c n _).2.2 (ix2 k j) : EReal) + _ = ∑ p ∈ Finset.range (n + 1 + 1), ∑ a : Fin 64, gain (prodD m c) (rowsX m c) (ix2 (at' (512 * p + 8 * a.val + k.val)) j)
    rw [Finset.sum_range_succ]
    exact congrArg (fun v : EReal => v + _) hp

/-- What a point writes back to output 5 is its block of that array. -/
theorem flushed_5 (t : Fin cfg0.N) : (dats m 0 c).flushed 5 t = ((cfg0.win 5).blk t).view.read (Elt Ideal) (arr_5 m c) := by
  show (cfg0.win 5).cut (grid0.coords t) ((dats m 0 c).after 5 t) = _
  rw [after0_5, outs_5]
  funext y
  obtain ⟨i, j, rfl⟩ : ∃ (i : Fin 512) (j : Fin 2048), y = (ix2 i j : S512x2048.Idx) := ⟨y 0, y 1, eq_ix2 y⟩
  show (k0_pay6 (iblk m c 0 t) (iblk m c 1 t) (iblk m c 2 t) (iblk m c 4 t) (iblk m c 3 t) : FVec Ideal S512x2048 .f32) (ix2 i j) = arr_5 m c (((cfg0.win 5).blk t).view.emb (ix2 i j))
  rw [emb_5]
  exact back_point m c t i j

/-- After the call output 5 holds it. -/
theorem final_5 : ((dats m 0 c).arrAt 5 cfg0.N : FVec Ideal S4096x2048 .f32) = arr_5 m c := by
  have hN : cfg0.N = 8 := N_0
  refine (dats m 0 c).arrAt_eq_of_cover 5 (arr_5 m c) (fun t _ => flushed_5 m c t) fun y => ?_
  obtain ⟨r, s, rfl⟩ : ∃ (r : Fin 4096) (s : Fin 2048), y = (ix2 r s : S4096x2048.Idx) := ⟨y 0, y 1, eq_ix2 y⟩
  have ht : r.val / 512 < cfg0.N := by omega
  refine ⟨⟨r.val / 512, ht⟩, flush0_5 _, ?_⟩
  have hm := ((cfg0.win 5).blk ⟨r.val / 512, ht⟩).view.emb_mem_set (ix2 (⟨r.val % 512, by omega⟩ : Fin 512) s)
  rw [emb_5] at hm
  have e : (ix2 r s : S4096x2048.Idx) = ix2 (row ⟨r.val / 512, ht⟩ (⟨r.val % 512, by omega⟩ : Fin 512)) s := by
    funext a; apply Fin.ext
    match a with
    | ⟨0, _⟩ => show r.val = 512 * (r.val / 512) + r.val % 512; omega
    | ⟨1, _⟩ => rfl
  rw [e]; exact hm

/-- What a point writes back to output 6 is its block of that array. -/
theorem flushed_6 (t : Fin cfg0.N) : (dats m 0 c).flushed 6 t = ((cfg0.win 6).blk t).view.read (Elt Ideal) (arr_5 m c) := by
  show (cfg0.win 6).cut (grid0.coords t) ((dats m 0 c).after 6 t) = _
  rw [after0_6, outs_6]
  funext y
  obtain ⟨i, j, rfl⟩ : ∃ (i : Fin 512) (j : Fin 2048), y = (ix2 i j : S512x2048.Idx) := ⟨y 0, y 1, eq_ix2 y⟩
  show (k0_pay7 (iblk m c 0 t) (iblk m c 1 t) (iblk m c 2 t) (iblk m c 4 t) (iblk m c 3 t) : FVec Ideal S512x2048 .bf16) (ix2 i j) = arr_5 m c (((cfg0.win 6).blk t).view.emb (ix2 i j))
  rw [emb_6]
  exact back_point m c t i j

/-- After the call output 6 holds it. -/
theorem final_6 : ((dats m 0 c).arrAt 6 cfg0.N : FVec Ideal S4096x2048 .bf16) = arr_5 m c := by
  have hN : cfg0.N = 8 := N_0
  refine (dats m 0 c).arrAt_eq_of_cover 6 (arr_5 m c) (fun t _ => flushed_6 m c t) fun y => ?_
  obtain ⟨r, s, rfl⟩ : ∃ (r : Fin 4096) (s : Fin 2048), y = (ix2 r s : S4096x2048.Idx) := ⟨y 0, y 1, eq_ix2 y⟩
  have ht : r.val / 512 < cfg0.N := by omega
  refine ⟨⟨r.val / 512, ht⟩, flush0_6 _, ?_⟩
  have hm := ((cfg0.win 6).blk ⟨r.val / 512, ht⟩).view.emb_mem_set (ix2 (⟨r.val % 512, by omega⟩ : Fin 512) s)
  rw [emb_6] at hm
  have e : (ix2 r s : S4096x2048.Idx) = ix2 (row ⟨r.val / 512, ht⟩ (⟨r.val % 512, by omega⟩ : Fin 512)) s := by
    funext a; apply Fin.ext
    match a with
    | ⟨0, _⟩ => show r.val = 512 * (r.val / 512) + r.val % 512; omega
    | ⟨1, _⟩ => rfl
  rw [e]; exact hm

/-- What is written back to output 7. -/
theorem flushed_7 (t : Fin cfg0.N) (ht : (cfg0.win 7).flush t = true) : (dats m 0 c).flushed 7 t = ((cfg0.win 7).blk t).view.read (Elt Ideal) (arr_7 m c) := by
  have h7 : t.val = 7 := by
    have h := (flush0_7 t).mp ht
    have h8 : t.val < 8 := lt_of_lt_of_eq t.isLt (show cfg0.N = 8 from N_0)
    omega
  show (cfg0.win 7).cut (grid0.coords t) ((dats m 0 c).after 7 t) = _
  rw [after0_7]
  funext y
  obtain ⟨k, j, rfl⟩ : ∃ (k : Fin 8) (j : Fin 2048), y = (ix2 k j : S8x2048.Idx) := ⟨y 0, y 1, eq_ix2 y⟩
  show ((outsAt0 m c t.val t.isLt).2.2 : Mat 8 2048) (ix2 k j) = arr_7 m c (((cfg0.win 7).blk t).view.emb (ix2 k j))
  rw [emb_7, outs_7, h7]
  rfl
/-- After the call output 7 holds it. -/
theorem final_7 : ((dats m 0 c).arrAt 7 cfg0.N : FVec Ideal S8x2048 .f32) = arr_7 m c := by
  have hN : cfg0.N = 8 := N_0
  refine (dats m 0 c).arrAt_eq_of_cover 7 (arr_7 m c) (fun t ht => flushed_7 m c t ht) fun y => ?_
  obtain ⟨k, j, rfl⟩ : ∃ (k : Fin 8) (j : Fin 2048), y = (ix2 k j : S8x2048.Idx) := ⟨y 0, y 1, eq_ix2 y⟩
  have ht : 7 < cfg0.N := by omega
  refine ⟨⟨7, ht⟩, (flush0_7 _).mpr rfl, ?_⟩
  have hm := ((cfg0.win 7).blk ⟨7, ht⟩).view.emb_mem_set (ix2 k j)
  rw [emb_7] at hm
  exact hm

end

end Cert.BackGate
end
end
-- ==== Proof.BackGateRun.lean ====
/- The backward pass of the norm before the gate: what the whole program leaves in its results. -/
module

public import proofs.«01_k».proof.Proof.BackGate

@[expose] public section

set_option maxRecDepth 16384

noncomputable section

open Idealize.ShloMosaic Idealize.ShloMosaic.TcCoe Idealize.ShloMosaic.ValueIdx Idealize.SL.Sem
open Cert.NormGateIdeal Cert.NormGateIdeal.Gen Cert.MatSpec Cert.NormSpec Cert.BackSpec Cert.BackGate
open scoped BigOperators

namespace Cert.BackGateRun

/-- The eight rows of partial sums, added and laid out as one row. -/
theorem sum_rows (P : FVec Ideal S8x2048 .f32) (z : FVec Ideal S_ .f32) (hz : ∀ i, z i = (0 : EReal)) (s : Fin 2048) :
    (broadcastInDim S1x2048 ![1] bcast_S2048_S1x2048_1 (Host.reduceAdd P z reducesTo_S8x2048_S2048_d0 h_S_ : FVec Ideal S2048 .f32) : FVec Ideal S1x2048 .f32) (ix2 0 s)
      = ∑ k : Fin 8, (P : Mat _ _) (ix2 k s) := by
  have e : ∀ a : Fin S2048.rank, ((ix1 s : S2048.Idx) a).val = if S2048.size a = 1 then 0 else ((ix2 (0 : Fin 1) s : S1x2048.Idx) ((![1] : Fin 1 → Fin S1x2048.rank) a)).val :=
    fun a => match a with
    | ⟨0, _⟩ => by show s.val = if (2048 : ℕ) = 1 then 0 else s.val; rw [if_neg (by decide)]
  rw [broadcastInDim_apply _ bcast_S2048_S1x2048_1 _ (ix2 (0 : Fin 1) s) (ix1 s) e]
  simp only [Host.reduceAdd, Ideal.hostReduceAdd_def]
  rw [Ideal.hostReduceAdd_single reducesTo_S8x2048_S2048_d0 (by decide), hz, zero_add]
  exact Finset.sum_congr (M := EReal) rfl fun k _ => congrArg P (funext fun a => Fin.ext (by match a with | ⟨0, _⟩ => rfl | ⟨1, _⟩ => rfl))

section
variable (m : (ℓ : Loc nD τ sig) → Buf (Elt Ideal) ℓ) (c : Dev nD)

/-- What the lines after the call leave in the gradient of the gain. -/
theorem tail_dg : Pipeline.afterTail₀ cfgs (dats m) 0 (V0 m) [hostOps1] c main_v2 = gradGain (prodD m c) (rowsX m c) := by
  have e : (Pipeline.withArrays (cfgs 0).spec c (V0 m c) (fun w => (dats m 0 c).arrAt w (cfgs 0).N)) (Proc.devRef .tc main_v0_2) = arr_7 m c :=
    (Pipeline.withArrays_arr (cfgs 0).spec winFacts0.arr_inj c (V0 m c) (fun w => (dats m 0 c).arrAt w (cfgs 0).N) 7).trans (final_7 m c)
  show StableHlo.after hostOps1 (Pipeline.withArrays (cfgs 0).spec c (V0 m c) fun w => (dats m 0 c).arrAt w (cfgs 0).N) (Proc.devRef .tc main_v2) = _
  generalize Pipeline.withArrays (cfgs 0).spec c (V0 m c) (fun w => (dats m 0 c).arrAt w (cfgs 0).N) = F at e ⊢
  unfold hostOps1
  rw [StableHlo.after_cons, StableHlo.after_cons, StableHlo.after_cons, StableHlo.after_nil, StableHlo.unary_result, StableHlo.binary_result,
    StableHlo.nullary_result_ne _ _ _ _ (by decide), StableHlo.nullary_result, e]
  refine funext fun y => ?_
  obtain ⟨i, s, rfl⟩ : ∃ (i : Fin 1) (s : Fin 2048), y = (ix2 i s : S1x2048.Idx) := ⟨y 0, y 1, eq_ix2 y⟩
  obtain rfl : i = 0 := Subsingleton.elim _ _
  exact (sum_rows (arr_7 m c) (constant S_ .f32 0x00000000#32) (fun _ => Ideal.ofBits_zero_f32) s).trans (sum_parts (gain (prodD m c) (rowsX m c)) s)
end

/-- Every fair execution ends with the results at what they should hold, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = arr_5 m c
      ∧ r.2.mem ((c.tc : Thread nD τ).loc main_v0_1) = arr_5 m c
      ∧ r.2.mem ((c.tc : Thread nD τ).loc main_v2) = gradGain (prodD m c) (rowsX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).1 5).trans (final_5 m c),
      ((h c).1 6).trans (final_6 m c),
      ((h c).2 main_v2 (Pipeline.mem_restRefs_of main_v2 rfl (by decide))).trans (tail_dg m c),
      ((h c).1 2).trans (((dats m 0 c).arrAt_in 2 rfl _).trans ((A_eq m c 2).trans (V_main_arg0 m c))),
      ((h c).1 4).trans (((dats m 0 c).arrAt_in 4 rfl _).trans ((A_eq m c 4).trans (V_main_arg1 m c))),
      ((h c).1 1).trans (((dats m 0 c).arrAt_in 1 rfl _).trans ((A_eq m c 1).trans (V_main_arg2 m c))),
      ((h c).1 0).trans (((dats m 0 c).arrAt_in 0 rfl _).trans ((A_eq m c 0).trans (V_main_arg3 m c))),
      ((h c).1 3).trans (((dats m 0 c).arrAt_in 3 rfl _).trans ((A_eq m c 3).trans (V_main_arg4 m c)))⟩)
    (run_main m ρ)

end Cert.BackGateRun
end
-- ==== Proof.BackGateRef.lean ====
/- What the reference of the gradient of the norm before the gate computes. -/
module

public import proofs.«01_k».proof.Proof.BackSpec
public import proofs.«01_k».proof.Proof.Gen.NormGateReferenceIdeal.Read

@[expose] public section

set_option maxRecDepth 16384

noncomputable section

open Idealize.ShloMosaic Idealize.ShloMosaic.ValueIdx Cert.MatSpec Cert.NormSpec Cert.BackSpec
open Cert.NormGateReferenceIdeal Cert.NormGateReferenceIdeal.Read
open scoped BigOperators

namespace Cert.BackGateRef

section
variable (X : FVec Ideal S4096x2048 .f32) (G : FVec Ideal S1x2048 .f32) (W : FVec Ideal S2048x2048 .bf16) (T : FVec Ideal S4096x2048 .bf16) (R : FVec Ideal S4096x2048 .f32)

/-- A row's mean square and the small constant below the root. -/
theorem v6_eq (r : Fin 4096) (j : Fin 1) :
    (val_main_v6 (F := Ideal) X : FVec Ideal S4096x1 .f32) (ix2 r j) = mean (fun l => X (ix2 r l) * X (ix2 r l)) + eps := by
  rw [val_main_v6_apply, val_main_v4_apply, val_main_v2_apply, val_main_v1_apply, val_main_v3_apply, val_main_v5_apply]
  show Ideal.div (Ideal.ofBits .f32 0x00000000#32 + ∑ k : Fin 2048, (val_main_v0 (F := Ideal) X (idx_main_v1 (idx_main_v2 (ix2 r j)) k) : EReal)) cols + eps = _
  rw [Ideal.ofBits_zero_f32, zero_add]
  refine congrArg (fun s => Ideal.div s cols + eps) (Finset.sum_congr (M := EReal) rfl fun l _ => ?_)
  have e : idx_main_v1 (idx_main_v2 (ix2 r j)) l = ix2 r l := by funext a; match a with | ⟨0, _⟩ => rfl | ⟨1, _⟩ => rfl
  rw [e, val_main_v0_apply]
  rfl

/-- The factor of a row. -/
theorem v7_eq (r : Fin 4096) (j : Fin 1) : (val_main_v7 (F := Ideal) X : FVec Ideal S4096x1 .f32) (ix2 r j) = scale X r := by
  rw [val_main_v7_apply, v6_eq]
  rfl

/-- The derivative of a row's factor in its mean square. -/
theorem v10_eq (r : Fin 4096) (j : Fin 1) : (val_main_v10 (F := Ideal) X : FVec Ideal S4096x1 .f32) (ix2 r j)
    = Ideal.ofBits .f32 0xBF000000#32 * Ideal.div (scale X r) (mean (fun l => X (ix2 r l) * X (ix2 r l)) + eps) := by
  rw [val_main_v10_apply, val_main_v9_apply, val_main_v8_apply, v7_eq, v6_eq]
  rfl

/-- The gradient of the norm's output. -/
theorem v18_eq (r : Fin 4096) (s : Fin 2048) : (val_main_v18 (F := Ideal) W T : FVec Ideal S4096x2048 .f32) (ix2 r s) = nt T W (ix2 r s) := by
  rw [val_main_v18_apply]
  refine Finset.sum_congr (M := EReal) rfl fun l _ => ?_
  have e1 : lidx_main_v18 (ix2 r s) l = ix2 r l := by funext a; match a with | ⟨0, _⟩ => rfl | ⟨1, _⟩ => rfl
  have e2 : ridx_main_v18 (ix2 r s) l = ix2 s l := by funext a; match a with | ⟨0, _⟩ => rfl | ⟨1, _⟩ => rfl
  rw [e1, e2]; rfl

/-- The gradient of the norm's gain. -/
theorem out_dg : (val_main_v21 (F := Ideal) X W T : FVec Ideal S1x2048 .f32) = gradGain (nt T W) X := by
  funext y
  obtain ⟨i, s, rfl⟩ : ∃ (i : Fin 1) (s : Fin 2048), y = (ix2 i s : S1x2048.Idx) := ⟨y 0, y 1, eq_ix2 y⟩
  rw [val_main_v21_apply, val_main_v20_apply]
  show Ideal.ofBits .f32 0x00000000#32 + ∑ k : Fin 4096, (val_main_v19 (F := Ideal) X W T (idx_main_v20 (idx_main_v21 (ix2 i s)) k) : EReal)
    = ∑ r : Fin 4096, gain (nt T W) X (ix2 r s)
  rw [Ideal.ofBits_zero_f32, zero_add]
  refine Finset.sum_congr (M := EReal) rfl fun l _ => ?_
  have e : idx_main_v20 (idx_main_v21 (ix2 i s)) l = ix2 l s := by
    funext a
    match a with
    | ⟨0, _⟩ => rfl
    | ⟨1, _⟩ => exact Fin.ext (by show i.val * 2048 + s.val = s.val; omega)
  have e1 : idx_main_v11 (ix2 l s) = ix2 l (0 : Fin 1) := by funext a; match a with | ⟨0, _⟩ => rfl | ⟨1, _⟩ => rfl
  rw [e, val_main_v19_apply, val_main_v12_apply, val_main_v11_apply, e1, v7_eq, v18_eq]
  exact mul_comm ((X : Mat _ _) (ix2 l s) * scale X l : EReal) (nt T W (ix2 l s))

/-- The gradient of the norm's output with the gain. -/
theorem v23_eq (r : Fin 4096) (s : Fin 2048) : (val_main_v23 (F := Ideal) G W T : FVec Ideal S4096x2048 .f32) (ix2 r s)
    = nt T W (ix2 r s) * (G : Mat _ _) (ix2 (0 : Fin 1) s) := by
  have e : idx_main_v22 (ix2 r s) = ix2 (0 : Fin 1) s := by funext a; match a with | ⟨0, _⟩ => rfl | ⟨1, _⟩ => rfl
  rw [val_main_v23_apply, v18_eq, val_main_v22_apply, e]
  rfl

/-- What a row's factor sends back to the row. -/
theorem v34_eq (r : Fin 4096) (s : Fin 2048) : (val_main_v34 (F := Ideal) X G W T : FVec Ideal S4096x2048 .f32) (ix2 r s)
    = Ideal.div ((∑ l : Fin 2048, (X : Mat _ _) (ix2 r l) * (nt T W (ix2 r l) * (G : Mat _ _) (ix2 (0 : Fin 1) l)))
      * (Ideal.ofBits .f32 0xBF000000#32 * Ideal.div (scale X r) (mean (fun l => X (ix2 r l) * X (ix2 r l)) + eps))) cols := by
  rw [val_main_v34_apply, val_main_v33_apply]
  show Ideal.ofBits .f32 0x00000000#32 + ∑ k : Fin 1, (val_main_v32 (F := Ideal) X G W T (idx_main_v33 (idx_main_v34 (ix2 r s)) k) : EReal) = _
  have e : idx_main_v33 (idx_main_v34 (ix2 r s)) 0 = ix2 r (0 : Fin 1) := by funext a; match a with | ⟨0, _⟩ => rfl | ⟨1, _⟩ => rfl
  rw [Ideal.ofBits_zero_f32, zero_add, Fin.sum_univ_one, e, val_main_v32_apply, val_main_v30_apply, val_main_v31_apply, v10_eq, val_main_v26_apply, val_main_v25_apply]
  show Ideal.div ((Ideal.ofBits .f32 0x00000000#32 + ∑ k : Fin 2048, (val_main_v24 (F := Ideal) X G W T (idx_main_v25 (idx_main_v26 (ix2 r (0 : Fin 1))) k) : EReal)) * _) cols = _
  rw [Ideal.ofBits_zero_f32, zero_add]
  refine congrArg (fun q => Ideal.div (q * _) cols) (Finset.sum_congr (M := EReal) rfl fun l _ => ?_)
  have e2 : idx_main_v25 (idx_main_v26 (ix2 r (0 : Fin 1))) l = ix2 r l := by
    funext a
    match a with
    | ⟨0, _⟩ => exact Fin.ext (by show r.val * 1 + 0 = r.val; omega)
    | ⟨1, _⟩ => rfl
  rw [e2, val_main_v24_apply, v23_eq]
  rfl

/-- The gradient of the norm's input, added to what arrives beside it. -/
theorem out_dx : (val_main_v38 (F := Ideal) X G W T R : FVec Ideal S4096x2048 .f32) = back (nt T W) X R G := by
  funext y
  obtain ⟨r, s, rfl⟩ : ∃ (r : Fin 4096) (s : Fin 2048), y = (ix2 r s : S4096x2048.Idx) := ⟨y 0, y 1, eq_ix2 y⟩
  have e : idx_main_v27 (ix2 r s) = ix2 r (0 : Fin 1) := by funext a; match a with | ⟨0, _⟩ => rfl | ⟨1, _⟩ => rfl
  rw [val_main_v38_apply, val_main_v36_apply, val_main_v35_apply, val_main_v37_apply, val_main_v29_apply, val_main_v28_apply, val_main_v27_apply,
    v34_eq, v23_eq, e, v7_eq]
  exact (back_entry (fun l => nt T W (ix2 r l) * (G : Mat _ _) (ix2 (0 : Fin 1) l)) (fun l => (X : Mat _ _) (ix2 r l))
    (mean (fun l => X (ix2 r l) * X (ix2 r l)) + eps) ((R : Mat _ _) (ix2 r s)) (nt T W (ix2 r s) * (G : Mat _ _) (ix2 (0 : Fin 1) s))
    ((X : Mat _ _) (ix2 r s)) (below_pos _)).symm

/-- The same, as the short copy holds it. -/
theorem out_dxb : (val_main_v39 (F := Ideal) X G W T R : FVec Ideal S4096x2048 .bf16) = back (nt T W) X R G := by
  funext y
  rw [val_main_v39_apply, Ideal.truncf_def]
  exact congrFun (out_dx X G W T R) y

end

end Cert.BackGateRef
end
-- ==== Proof.BackGateEquation.lean ====
/- The value claim of the backward pass of the norm before the gate: the call and the reference leave the same arrays. -/
module

public import proofs.«01_k».proof.Defs
public import proofs.«01_k».proof.Proof.BackGateRun
public import proofs.«01_k».proof.Proof.BackGateRef

@[expose] public section

set_option maxRecDepth 16384

noncomputable section

open Idealize.ShloMosaic Idealize.ShloMosaic.ValueIdx Idealize.SL.Sem Cert.MatSpec Cert.NormSpec Cert.BackSpec Cert.BackGate Cert.BackGateRun

namespace Cert.BackGateEquation

/-- The value claim. -/
theorem algebraic : Cert.algebraic_NormGateIdeal_NormGateReferenceIdeal := by
  intro m g m' g' _ hm
  refine ⟨fun c => arr_5 m c, fun c => arr_5 m c, fun c => gradGain (prodD m c) (rowsX m c), run_value m g, ?_⟩
  refine (θ_run Cert.NormGateReferenceIdeal.defs _ _).mono (fun r h c => ?_) (Cert.NormGateReferenceIdeal.Value.run (F := Ideal) m' g')
  obtain ⟨h0, h1, h2, h3⟩ := h c
  obtain ⟨e0, e1, e2, e3, e4⟩ := hm c
  rw [Cert.NormGateReferenceIdeal.Read.val_main_v38_eq, e0, e1, e2, e3, e4, Cert.BackGateRef.out_dx] at h0
  rw [Cert.NormGateReferenceIdeal.Read.val_main_v39_eq, e0, e1, e2, e3, e4, Cert.BackGateRef.out_dxb] at h1
  rw [Cert.NormGateReferenceIdeal.Read.val_main_v21_eq, e0, e2, e3, Cert.BackGateRef.out_dg] at h2
  exact ⟨h0, h1, h2, h3⟩

end Cert.BackGateEquation
end
-- ==== Proof.BackMlp.lean ====
/- The backward pass of the norm before the MLP: what the result arrays hold after the call. -/
module

public import proofs.«01_k».proof.Proof.BackSpec
public import proofs.«01_k».proof.Proof.Gen.NormMlpIdeal.Frame

@[expose] public section

set_option maxRecDepth 16384

noncomputable section

open Idealize.ShloMosaic Idealize.ShloMosaic.TcCoe Idealize.ShloMosaic.ValueIdx Cert.NormMlpIdeal Cert.NormMlpIdeal.Gen Cert.MatSpec Cert.NormSpec Cert.BackSpec
open scoped BigOperators

namespace Cert.BackMlp

section
variable (d : Vec Ideal S512x2048 .bf16) (x : Vec Ideal S512x2048 .f32) (g : Vec Ideal S1x2048 .f32) (s : Vec Ideal S512x2048 .f32)

/-- The gradient of the norm's input and what comes along the residual. -/
theorem pay_back (i : Fin 512) (j : Fin 2048) : (k0_pay5 x d g s : FVec Ideal S512x2048 .f32) (ix2 i j)
    = back (d : Mat 512 2048) (x : Mat 512 2048) (s : Mat 512 2048) (g : Mat 1 2048) (ix2 i j) :=
  backLines_apply reduces_S512x2048_S512 (.inl rfl) rfl shapeCasts_S512_S512x1 broadcasts_S512x1_S512x2048 broadcasts_S1x2048_S512x2048
    (k0_pay4 d) x s g (by norm_num) (by norm_num) i j
/-- What the block adds to the eight partial sums. -/
theorem pay_gain (k : Fin 8) (j : Fin 2048) : (k0_pay7 x d : FVec Ideal S8x2048 .f32) (ix2 k j)
    = ∑ p : Fin 64, gain (d : Mat 512 2048) (x : Mat 512 2048) (ix2 (⟨8 * p.val + k.val, by omega⟩ : Fin 512) j) :=
  gainLines_apply reduces_S512x2048_S512 (.inl rfl) rfl shapeCasts_S512_S512x1 broadcasts_S512x1_S512x2048 shapeCasts_S512x2048_S64x8x2048
    reduces_S64x8x2048_S8x2048 (k0_pay4 d) x k j
end

/-- What a grid point leaves in output window 4, the first point. -/
theorem out_A_4 (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S8x2048 .f32) (harg7 : arg7.IsWhole) (hc0 : cond0_0 i) (hc1 : ¬cond0_1 i)
    (x0 : Vec Ideal S512x2048 .bf16) (x1 : Vec Ideal S512x2048 .f32) (x2 : Vec Ideal S1x2048 .f32) (x3 : Vec Ideal S512x2048 .f32) : out0_A_4 (F := Ideal) c i arg1 harg1 arg2 harg2 arg3 harg3 arg4 harg4 arg5 harg5 arg6 harg6 arg7 harg7 hc0 hc1 x0 x1 x2 x3 = k0_pay5 x1 x0 x2 x3 := by
  unfold out0_A_4
  rw [View.read_writes_junk_eq_canon]
  refine (View.canon_cons_unit_lit (by decide) _ [] (by decide)).trans ?_
  rw [(readAt_whole arg2 harg2 x1 (by decide) (by decide)), (readAt_whole arg1 harg1 x0 (by decide) (by decide)), (readAt_whole arg3 harg3 x2 (by decide) (by decide)), (readAt_whole arg4 harg4 x3 (by decide) (by decide))]

/-- What a grid point leaves in output window 5, the first point. -/
theorem out_A_5 (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S8x2048 .f32) (harg7 : arg7.IsWhole) (hc0 : cond0_0 i) (hc1 : ¬cond0_1 i)
    (x0 : Vec Ideal S512x2048 .bf16) (x1 : Vec Ideal S512x2048 .f32) (x2 : Vec Ideal S1x2048 .f32) (x3 : Vec Ideal S512x2048 .f32) : out0_A_5 (F := Ideal) c i arg1 harg1 arg2 harg2 arg3 harg3 arg4 harg4 arg5 harg5 arg6 harg6 arg7 harg7 hc0 hc1 x0 x1 x2 x3 = k0_pay6 x1 x0 x2 x3 := by
  unfold out0_A_5
  rw [View.read_writes_junk_eq_canon]
  refine (View.canon_cons_unit_lit (by decide) _ [] (by decide)).trans ?_
  rw [(readAt_whole arg2 harg2 x1 (by decide) (by decide)), (readAt_whole arg1 harg1 x0 (by decide) (by decide)), (readAt_whole arg3 harg3 x2 (by decide) (by decide)), (readAt_whole arg4 harg4 x3 (by decide) (by decide))]

/-- What a grid point leaves in output window 4, a later point. -/
theorem out_B_4 (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S8x2048 .f32) (harg7 : arg7.IsWhole) (hc0 : ¬cond0_0 i) (hc1 : cond0_1 i)
    (x0 : Vec Ideal S512x2048 .bf16) (x1 : Vec Ideal S512x2048 .f32) (x2 : Vec Ideal S1x2048 .f32) (x3 : Vec Ideal S512x2048 .f32) (xo6 : Vec Ideal S8x2048 .f32) : out0_B_4 (F := Ideal) c i arg1 harg1 arg2 harg2 arg3 harg3 arg4 harg4 arg5 harg5 arg6 harg6 arg7 harg7 hc0 hc1 x0 x1 x2 x3 xo6 = k0_pay5 x1 x0 x2 x3 := by
  unfold out0_B_4
  rw [View.read_writes_junk_eq_canon]
  refine (View.canon_cons_unit_lit (by decide) _ [] (by decide)).trans ?_
  rw [(readAt_whole arg2 harg2 x1 (by decide) (by decide)), (readAt_whole arg1 harg1 x0 (by decide) (by decide)), (readAt_whole arg3 harg3 x2 (by decide) (by decide)), (readAt_whole arg4 harg4 x3 (by decide) (by decide))]

/-- What a grid point leaves in output window 5, a later point. -/
theorem out_B_5 (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S8x2048 .f32) (harg7 : arg7.IsWhole) (hc0 : ¬cond0_0 i) (hc1 : cond0_1 i)
    (x0 : Vec Ideal S512x2048 .bf16) (x1 : Vec Ideal S512x2048 .f32) (x2 : Vec Ideal S1x2048 .f32) (x3 : Vec Ideal S512x2048 .f32) (xo6 : Vec Ideal S8x2048 .f32) : out0_B_5 (F := Ideal) c i arg1 harg1 arg2 harg2 arg3 harg3 arg4 harg4 arg5 harg5 arg6 harg6 arg7 harg7 hc0 hc1 x0 x1 x2 x3 xo6 = k0_pay6 x1 x0 x2 x3 := by
  unfold out0_B_5
  rw [View.read_writes_junk_eq_canon]
  refine (View.canon_cons_unit_lit (by decide) _ [] (by decide)).trans ?_
  rw [(readAt_whole arg2 harg2 x1 (by decide) (by decide)), (readAt_whole arg1 harg1 x0 (by decide) (by decide)), (readAt_whole arg3 harg3 x2 (by decide) (by decide)), (readAt_whole arg4 harg4 x3 (by decide) (by decide))]

/-- What a grid point leaves in output window 6, the first point. -/
theorem out_A_6 (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S8x2048 .f32) (harg7 : arg7.IsWhole) (hc0 : cond0_0 i) (hc1 : ¬cond0_1 i)
    (x0 : Vec Ideal S512x2048 .bf16) (x1 : Vec Ideal S512x2048 .f32) (x2 : Vec Ideal S1x2048 .f32) (x3 : Vec Ideal S512x2048 .f32) : out0_A_6 (F := Ideal) c i arg1 harg1 arg2 harg2 arg3 harg3 arg4 harg4 arg5 harg5 arg6 harg6 arg7 harg7 hc0 hc1 x0 x1 x2 x3 = k0_pay7 x1 x0 := by
  unfold out0_A_6
  rw [View.read_writes_junk_eq_canon]
  refine (View.canon_cons_unit_lit (by decide) _ [] (by decide)).trans ?_
  unfold kernelRun0_A.sl.r
  rw [(readAt_whole arg2 harg2 x1 (by decide) (by decide)), (readAt_whole arg1 harg1 x0 (by decide) (by decide))]

/-- What a grid point leaves in output window 6, a later point. -/
theorem out_B_6 (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S8x2048 .f32) (harg7 : arg7.IsWhole) (hc0 : ¬cond0_0 i) (hc1 : cond0_1 i)
    (x0 : Vec Ideal S512x2048 .bf16) (x1 : Vec Ideal S512x2048 .f32) (x2 : Vec Ideal S1x2048 .f32) (x3 : Vec Ideal S512x2048 .f32) (xo6 : Vec Ideal S8x2048 .f32) : out0_B_6 (F := Ideal) c i arg1 harg1 arg2 harg2 arg3 harg3 arg4 harg4 arg5 harg5 arg6 harg6 arg7 harg7 hc0 hc1 x0 x1 x2 x3 xo6 = (fun y => (xo6 y : EReal) + ((k0_pay7 x1 x0 : FVec Ideal S8x2048 .f32) y : EReal)) := by
  unfold out0_B_6
  rw [View.read_writes_junk_eq_canon]
  refine (View.canon_cons_unit_lit (by decide) _ [] (by decide)).trans ?_
  unfold kernelRun0_B.sl.r
  rw [(readAt_whole arg2 harg2 x1 (by decide) (by decide)), (readAt_whole arg1 harg1 x0 (by decide) (by decide)), (readAt_whole arg7 harg7 xo6 (by decide) (by decide))]
  unfold k0_pay1
  rw [shapeCast_self]
  rfl

/-- The row of the array that a row of the block of grid point `t` is. -/
def row (t : Fin cfg0.N) (i : Fin 512) : Fin 4096 := ⟨512 * t.val + i.val, by
  have h : t.val < 8 := lt_of_lt_of_eq t.isLt (show cfg0.N = 8 from N_0); omega⟩

/-- Where window 0's block lies at each grid point. -/
theorem index_0 : ∀ t : Fin cfg0.N, win0_0.index t (0 : Fin 2) = t.val ∧ win0_0.index t (1 : Fin 2) = 0 :=
  (by decide +kernel : ∀ t : Fin grid0.N, _)
/-- Where an entry of window 0's block lies in its array. -/
theorem emb_0 (t : Fin cfg0.N) (i : Fin 512) (j : Fin 2048) : ((cfg0.win 0).blk t).view.emb (ix2 i j)
    = (ix2 (row t i) j : S4096x2048.Idx) := by
  obtain ⟨e0, e1⟩ := index_0 t
  funext a; apply Fin.ext
  match a with
  | ⟨0, _⟩ => show win0_0.index t (0 : Fin 2) * 512 + 1 * i.val = 512 * t.val + i.val; omega
  | ⟨1, _⟩ => show win0_0.index t (1 : Fin 2) * 2048 + 1 * j.val = j.val; omega

/-- Where window 1's block lies at each grid point. -/
theorem index_1 : ∀ t : Fin cfg0.N, win0_1.index t (0 : Fin 2) = t.val ∧ win0_1.index t (1 : Fin 2) = 0 :=
  (by decide +kernel : ∀ t : Fin grid0.N, _)
/-- Where an entry of window 1's block lies in its array. -/
theorem emb_1 (t : Fin cfg0.N) (i : Fin 512) (j : Fin 2048) : ((cfg0.win 1).blk t).view.emb (ix2 i j)
    = (ix2 (row t i) j : S4096x2048.Idx) := by
  obtain ⟨e0, e1⟩ := index_1 t
  funext a; apply Fin.ext
  match a with
  | ⟨0, _⟩ => show win0_1.index t (0 : Fin 2) * 512 + 1 * i.val = 512 * t.val + i.val; omega
  | ⟨1, _⟩ => show win0_1.index t (1 : Fin 2) * 2048 + 1 * j.val = j.val; omega

/-- Where window 3's block lies at each grid point. -/
theorem index_3 : ∀ t : Fin cfg0.N, win0_3.index t (0 : Fin 2) = t.val ∧ win0_3.index t (1 : Fin 2) = 0 :=
  (by decide +kernel : ∀ t : Fin grid0.N, _)
/-- Where an entry of window 3's block lies in its array. -/
theorem emb_3 (t : Fin cfg0.N) (i : Fin 512) (j : Fin 2048) : ((cfg0.win 3).blk t).view.emb (ix2 i j)
    = (ix2 (row t i) j : S4096x2048.Idx) := by
  obtain ⟨e0, e1⟩ := index_3 t
  funext a; apply Fin.ext
  match a with
  | ⟨0, _⟩ => show win0_3.index t (0 : Fin 2) * 512 + 1 * i.val = 512 * t.val + i.val; omega
  | ⟨1, _⟩ => show win0_3.index t (1 : Fin 2) * 2048 + 1 * j.val = j.val; omega

/-- Where window 4's block lies at each grid point. -/
theorem index_4 : ∀ t : Fin cfg0.N, win0_4.index t (0 : Fin 2) = t.val ∧ win0_4.index t (1 : Fin 2) = 0 :=
  (by decide +kernel : ∀ t : Fin grid0.N, _)
/-- Where an entry of window 4's block lies in its array. -/
theorem emb_4 (t : Fin cfg0.N) (i : Fin 512) (j : Fin 2048) : ((cfg0.win 4).blk t).view.emb (ix2 i j)
    = (ix2 (row t i) j : S4096x2048.Idx) := by
  obtain ⟨e0, e1⟩ := index_4 t
  funext a; apply Fin.ext
  match a with
  | ⟨0, _⟩ => show win0_4.index t (0 : Fin 2) * 512 + 1 * i.val = 512 * t.val + i.val; omega
  | ⟨1, _⟩ => show win0_4.index t (1 : Fin 2) * 2048 + 1 * j.val = j.val; omega

/-- Where window 5's block lies at each grid point. -/
theorem index_5 : ∀ t : Fin cfg0.N, win0_5.index t (0 : Fin 2) = t.val ∧ win0_5.index t (1 : Fin 2) = 0 :=
  (by decide +kernel : ∀ t : Fin grid0.N, _)
/-- Where an entry of window 5's block lies in its array. -/
theorem emb_5 (t : Fin cfg0.N) (i : Fin 512) (j : Fin 2048) : ((cfg0.win 5).blk t).view.emb (ix2 i j)
    = (ix2 (row t i) j : S4096x2048.Idx) := by
  obtain ⟨e0, e1⟩ := index_5 t
  funext a; apply Fin.ext
  match a with
  | ⟨0, _⟩ => show win0_5.index t (0 : Fin 2) * 512 + 1 * i.val = 512 * t.val + i.val; omega
  | ⟨1, _⟩ => show win0_5.index t (1 : Fin 2) * 2048 + 1 * j.val = j.val; omega

/-- Where window 2's block lies at each grid point. -/
theorem index_2 : ∀ t : Fin cfg0.N, win0_2.index t (0 : Fin 2) = 0 ∧ win0_2.index t (1 : Fin 2) = 0 :=
  (by decide +kernel : ∀ t : Fin grid0.N, _)
/-- Where an entry of window 2's block lies in its array. -/
theorem emb_2 (t : Fin cfg0.N) (i : Fin 1) (j : Fin 2048) : ((cfg0.win 2).blk t).view.emb (ix2 i j)
    = (ix2 i j : S1x2048.Idx) := by
  obtain ⟨e0, e1⟩ := index_2 t
  funext a; apply Fin.ext
  match a with
  | ⟨0, _⟩ => show win0_2.index t (0 : Fin 2) * 1 + 1 * i.val = i.val; omega
  | ⟨1, _⟩ => show win0_2.index t (1 : Fin 2) * 2048 + 1 * j.val = j.val; omega

/-- Where window 6's block lies at each grid point. -/
theorem index_6 : ∀ t : Fin cfg0.N, win0_6.index t (0 : Fin 2) = 0 ∧ win0_6.index t (1 : Fin 2) = 0 :=
  (by decide +kernel : ∀ t : Fin grid0.N, _)
/-- Where an entry of window 6's block lies in its array. -/
theorem emb_6 (t : Fin cfg0.N) (i : Fin 8) (j : Fin 2048) : ((cfg0.win 6).blk t).view.emb (ix2 i j)
    = (ix2 i j : S8x2048.Idx) := by
  obtain ⟨e0, e1⟩ := index_6 t
  funext a; apply Fin.ext
  match a with
  | ⟨0, _⟩ => show win0_6.index t (0 : Fin 2) * 8 + 1 * i.val = i.val; omega
  | ⟨1, _⟩ => show win0_6.index t (1 : Fin 2) * 2048 + 1 * j.val = j.val; omega

section
variable (m : (ℓ : Loc nD τ sig) → Buf (Elt Ideal) ℓ) (c : Dev nD)

/-- The gradient that comes into the norm. -/
abbrev prodD : Mat 4096 2048 := V m c main_arg2
/-- The rows of the norm's input. -/
abbrev rowsX : Mat 4096 2048 := V m c main_arg0
/-- The array of the gradient of the input. -/
def arr_4 : Mat 4096 2048 := back (prodD m c) (rowsX m c) (V m c main_arg3 : Mat 4096 2048) (V m c main_arg1 : Mat 1 2048)
/-- The array of the eight partial sums of the gradient of the gain. -/
def arr_6 : Mat 8 2048 := part (gain (prodD m c) (rowsX m c)) 7

/-- A point's rows of the incoming gradient. -/
abbrev blkD (t : Fin cfg0.N) : Mat 512 2048 := iblk m c 0 t
/-- They are its rows of the array. -/
theorem prod_block (t : Fin cfg0.N) (i : Fin 512) (j : Fin 2048) : blkD m c t (ix2 i j) = prodD m c (ix2 (row t i) j) := by have h := congrArg (V m c main_arg2 : Mat 4096 2048) (emb_0 t i j); exact h
/-- A point's rows of the input. -/
abbrev blkX (t : Fin cfg0.N) : Mat 512 2048 := iblk m c 1 t
/-- They are its rows of the array. -/
theorem rows_block (t : Fin cfg0.N) (i : Fin 512) (l : Fin 2048) : blkX m c t (ix2 i l) = rowsX m c (ix2 (row t i) l) := by have h := congrArg (V m c main_arg0 : Mat 4096 2048) (emb_1 t i l); exact h
/-- A point computes its block of the gradient of the input. -/
theorem back_point (t : Fin cfg0.N) (i : Fin 512) (j : Fin 2048) :
    (k0_pay5 (iblk m c 1 t) (iblk m c 0 t) (iblk m c 2 t) (iblk m c 3 t) : FVec Ideal S512x2048 .f32) (ix2 i j) = arr_4 m c (ix2 (row t i) j) := by
  rw [pay_back]
  exact back_block (D := prodD m c) (X := rowsX m c) (R := (V m c main_arg3 : Mat 4096 2048)) (g := (V m c main_arg1 : Mat 1 2048)) (r := row t)
    (prod_block m c t) (rows_block m c t) (fun i l => by have h := congrArg (V m c main_arg3 : Mat 4096 2048) (emb_3 t i l); exact h) (fun l => by have h := congrArg (V m c main_arg1 : Mat 1 2048) (emb_2 t 0 l); exact h) i j
/-- What a point adds to the partial sums. -/
theorem gain_point (t : Fin cfg0.N) (k : Fin 8) (j : Fin 2048) :
    (k0_pay7 (iblk m c 1 t) (iblk m c 0 t) : FVec Ideal S8x2048 .f32) (ix2 k j)
      = ∑ a : Fin 64, gain (prodD m c) (rowsX m c) (ix2 (at' (512 * t.val + 8 * a.val + k.val)) j) := by
  rw [pay_gain]
  refine Finset.sum_congr rfl fun a _ => ?_
  have e : row t (⟨8 * a.val + k.val, by omega⟩ : Fin 512) = at' (512 * t.val + 8 * a.val + k.val) := by
    apply Fin.ext
    have h : t.val < 8 := lt_of_lt_of_eq t.isLt (show cfg0.N = 8 from N_0)
    show 512 * t.val + (8 * a.val + k.val) = (512 * t.val + 8 * a.val + k.val) % 4096
    omega
  rw [← e]
  show blkD m c t (ix2 _ j) * (blkX m c t (ix2 _ j) * scale (blkX m c t) _)
    = prodD m c (ix2 _ j) * (rowsX m c (ix2 _ j) * scale (rowsX m c) _)
  rw [prod_block, rows_block, scale_block (rows_block m c t)]

/-- What the buffer of output 4 holds after a point. -/
theorem outs_4 (t : Fin cfg0.N) : (outsAt0 m c t.val t.isLt).1 = k0_pay5 (iblk m c 1 t) (iblk m c 0 t) (iblk m c 2 t) (iblk m c 3 t) := by
  by_cases h0 : t.val % 8 = 0
  · rw [outsAt0_A m c t h0 (by have h : t.val < 8 := lt_of_lt_of_eq t.isLt (show cfg0.N = 8 from N_0); omega)]
    dsimp only
    rw [out_A_4]
  · rw [outsAt0_B m c t h0 (by omega)]
    dsimp only
    rw [out_B_4]

/-- What the buffer of output 5 holds after a point. -/
theorem outs_5 (t : Fin cfg0.N) : (outsAt0 m c t.val t.isLt).2.1 = k0_pay6 (iblk m c 1 t) (iblk m c 0 t) (iblk m c 2 t) (iblk m c 3 t) := by
  by_cases h0 : t.val % 8 = 0
  · rw [outsAt0_A m c t h0 (by have h : t.val < 8 := lt_of_lt_of_eq t.isLt (show cfg0.N = 8 from N_0); omega)]
    dsimp only
    rw [out_A_5]
  · rw [outsAt0_B m c t h0 (by omega)]
    dsimp only
    rw [out_B_5]

/-- What the buffer of the partial sums holds after a point. -/
theorem outs_6 : ∀ (n : ℕ) (hn : n < cfg0.N), ((outsAt0 m c n hn).2.2 : Mat 8 2048) = part (gain (prodD m c) (rowsX m c)) n
  | 0, hn => by
    have h := congrArg (fun v => (v.2.2 : Mat 8 2048)) (outsAt0_A m c ⟨0, hn⟩ (Nat.zero_mod _) (by show ¬1 ≤ 0; omega))
    dsimp only at h
    rw [out_A_6] at h
    refine h.trans (funext fun y => ?_)
    obtain ⟨k, j, rfl⟩ : ∃ (k : Fin 8) (j : Fin 2048), y = (ix2 k j : S8x2048.Idx) := ⟨y 0, y 1, eq_ix2 y⟩
    rw [gain_point]
    show _ = ∑ p ∈ Finset.range (0 + 1), ∑ a : Fin 64, gain (prodD m c) (rowsX m c) (ix2 (at' (512 * p + 8 * a.val + k.val)) j)
    rw [Finset.sum_range_one]
  | n + 1, hn => by
    have h8 : n + 1 < 8 := lt_of_lt_of_eq hn (show cfg0.N = 8 from N_0)
    have h := congrArg (fun v => (v.2.2 : Mat 8 2048)) (outsAt0_B m c ⟨n + 1, hn⟩ (by show ¬(n + 1) % 8 = 0; omega) (by show 1 ≤ n + 1; omega))
    dsimp only at h
    rw [out_B_6] at h
    refine h.trans (funext fun y => ?_)
    obtain ⟨k, j, rfl⟩ : ∃ (k : Fin 8) (j : Fin 2048), y = (ix2 k j : S8x2048.Idx) := ⟨y 0, y 1, eq_ix2 y⟩
    rw [gain_point]
    have hp := congrFun (outs_6 n (Nat.lt_of_succ_lt hn)) (ix2 k j)
    show ((outsAt0 m c n _).2.2 (ix2 k j) : EReal) + _ = ∑ p ∈ Finset.range (n + 1 + 1), ∑ a : Fin 64, gain (prodD m c) (rowsX m c) (ix2 (at' (512 * p + 8 * a.val + k.val)) j)
    rw [Finset.sum_range_succ]
    exact congrArg (fun v : EReal => v + _) hp

/-- What a point writes back to output 4 is its block of that array. -/
theorem flushed_4 (t : Fin cfg0.N) : (dats m 0 c).flushed 4 t = ((cfg0.win 4).blk t).view.read (Elt Ideal) (arr_4 m c) := by
  show (cfg0.win 4).cut (grid0.coords t) ((dats m 0 c).after 4 t) = _
  rw [after0_4, outs_4]
  funext y
  obtain ⟨i, j, rfl⟩ : ∃ (i : Fin 512) (j : Fin 2048), y = (ix2 i j : S512x2048.Idx) := ⟨y 0, y 1, eq_ix2 y⟩
  show (k0_pay5 (iblk m c 1 t) (iblk m c 0 t) (iblk m c 2 t) (iblk m c 3 t) : FVec Ideal S512x2048 .f32) (ix2 i j) = arr_4 m c (((cfg0.win 4).blk t).view.emb (ix2 i j))
  rw [emb_4]
  exact back_point m c t i j

/-- After the call output 4 holds it. -/
theorem final_4 : ((dats m 0 c).arrAt 4 cfg0.N : FVec Ideal S4096x2048 .f32) = arr_4 m c := by
  have hN : cfg0.N = 8 := N_0
  refine (dats m 0 c).arrAt_eq_of_cover 4 (arr_4 m c) (fun t _ => flushed_4 m c t) fun y => ?_
  obtain ⟨r, s, rfl⟩ : ∃ (r : Fin 4096) (s : Fin 2048), y = (ix2 r s : S4096x2048.Idx) := ⟨y 0, y 1, eq_ix2 y⟩
  have ht : r.val / 512 < cfg0.N := by omega
  refine ⟨⟨r.val / 512, ht⟩, flush0_4 _, ?_⟩
  have hm := ((cfg0.win 4).blk ⟨r.val / 512, ht⟩).view.emb_mem_set (ix2 (⟨r.val % 512, by omega⟩ : Fin 512) s)
  rw [emb_4] at hm
  have e : (ix2 r s : S4096x2048.Idx) = ix2 (row ⟨r.val / 512, ht⟩ (⟨r.val % 512, by omega⟩ : Fin 512)) s := by
    funext a; apply Fin.ext
    match a with
    | ⟨0, _⟩ => show r.val = 512 * (r.val / 512) + r.val % 512; omega
    | ⟨1, _⟩ => rfl
  rw [e]; exact hm

/-- What a point writes back to output 5 is its block of that array. -/
theorem flushed_5 (t : Fin cfg0.N) : (dats m 0 c).flushed 5 t = ((cfg0.win 5).blk t).view.read (Elt Ideal) (arr_4 m c) := by
  show (cfg0.win 5).cut (grid0.coords t) ((dats m 0 c).after 5 t) = _
  rw [after0_5, outs_5]
  funext y
  obtain ⟨i, j, rfl⟩ : ∃ (i : Fin 512) (j : Fin 2048), y = (ix2 i j : S512x2048.Idx) := ⟨y 0, y 1, eq_ix2 y⟩
  show (k0_pay6 (iblk m c 1 t) (iblk m c 0 t) (iblk m c 2 t) (iblk m c 3 t) : FVec Ideal S512x2048 .bf16) (ix2 i j) = arr_4 m c (((cfg0.win 5).blk t).view.emb (ix2 i j))
  rw [emb_5]
  exact back_point m c t i j

/-- After the call output 5 holds it. -/
theorem final_5 : ((dats m 0 c).arrAt 5 cfg0.N : FVec Ideal S4096x2048 .bf16) = arr_4 m c := by
  have hN : cfg0.N = 8 := N_0
  refine (dats m 0 c).arrAt_eq_of_cover 5 (arr_4 m c) (fun t _ => flushed_5 m c t) fun y => ?_
  obtain ⟨r, s, rfl⟩ : ∃ (r : Fin 4096) (s : Fin 2048), y = (ix2 r s : S4096x2048.Idx) := ⟨y 0, y 1, eq_ix2 y⟩
  have ht : r.val / 512 < cfg0.N := by omega
  refine ⟨⟨r.val / 512, ht⟩, flush0_5 _, ?_⟩
  have hm := ((cfg0.win 5).blk ⟨r.val / 512, ht⟩).view.emb_mem_set (ix2 (⟨r.val % 512, by omega⟩ : Fin 512) s)
  rw [emb_5] at hm
  have e : (ix2 r s : S4096x2048.Idx) = ix2 (row ⟨r.val / 512, ht⟩ (⟨r.val % 512, by omega⟩ : Fin 512)) s := by
    funext a; apply Fin.ext
    match a with
    | ⟨0, _⟩ => show r.val = 512 * (r.val / 512) + r.val % 512; omega
    | ⟨1, _⟩ => rfl
  rw [e]; exact hm

/-- What is written back to output 6. -/
theorem flushed_6 (t : Fin cfg0.N) (ht : (cfg0.win 6).flush t = true) : (dats m 0 c).flushed 6 t = ((cfg0.win 6).blk t).view.read (Elt Ideal) (arr_6 m c) := by
  have h7 : t.val = 7 := by
    have h := (flush0_6 t).mp ht
    have h8 : t.val < 8 := lt_of_lt_of_eq t.isLt (show cfg0.N = 8 from N_0)
    omega
  show (cfg0.win 6).cut (grid0.coords t) ((dats m 0 c).after 6 t) = _
  rw [after0_6]
  funext y
  obtain ⟨k, j, rfl⟩ : ∃ (k : Fin 8) (j : Fin 2048), y = (ix2 k j : S8x2048.Idx) := ⟨y 0, y 1, eq_ix2 y⟩
  show ((outsAt0 m c t.val t.isLt).2.2 : Mat 8 2048) (ix2 k j) = arr_6 m c (((cfg0.win 6).blk t).view.emb (ix2 k j))
  rw [emb_6, outs_6, h7]
  rfl
/-- After the call output 6 holds it. -/
theorem final_6 : ((dats m 0 c).arrAt 6 cfg0.N : FVec Ideal S8x2048 .f32) = arr_6 m c := by
  have hN : cfg0.N = 8 := N_0
  refine (dats m 0 c).arrAt_eq_of_cover 6 (arr_6 m c) (fun t ht => flushed_6 m c t ht) fun y => ?_
  obtain ⟨k, j, rfl⟩ : ∃ (k : Fin 8) (j : Fin 2048), y = (ix2 k j : S8x2048.Idx) := ⟨y 0, y 1, eq_ix2 y⟩
  have ht : 7 < cfg0.N := by omega
  refine ⟨⟨7, ht⟩, (flush0_6 _).mpr rfl, ?_⟩
  have hm := ((cfg0.win 6).blk ⟨7, ht⟩).view.emb_mem_set (ix2 k j)
  rw [emb_6] at hm
  exact hm

end

end Cert.BackMlp
end
end
-- ==== Proof.BackMlpRun.lean ====
/- The backward pass of the norm before the MLP: what the whole program leaves in its results. -/
module

public import proofs.«01_k».proof.Proof.BackMlp

@[expose] public section

set_option maxRecDepth 16384

noncomputable section

open Idealize.ShloMosaic Idealize.ShloMosaic.TcCoe Idealize.ShloMosaic.ValueIdx Idealize.SL.Sem
open Cert.NormMlpIdeal Cert.NormMlpIdeal.Gen Cert.MatSpec Cert.NormSpec Cert.BackSpec Cert.BackMlp
open scoped BigOperators

namespace Cert.BackMlpRun

/-- The eight rows of partial sums, added and laid out as one row. -/
theorem sum_rows (P : FVec Ideal S8x2048 .f32) (z : FVec Ideal S_ .f32) (hz : ∀ i, z i = (0 : EReal)) (s : Fin 2048) :
    (broadcastInDim S1x2048 ![1] bcast_S2048_S1x2048_1 (Host.reduceAdd P z reducesTo_S8x2048_S2048_d0 h_S_ : FVec Ideal S2048 .f32) : FVec Ideal S1x2048 .f32) (ix2 0 s)
      = ∑ k : Fin 8, (P : Mat _ _) (ix2 k s) := by
  have e : ∀ a : Fin S2048.rank, ((ix1 s : S2048.Idx) a).val = if S2048.size a = 1 then 0 else ((ix2 (0 : Fin 1) s : S1x2048.Idx) ((![1] : Fin 1 → Fin S1x2048.rank) a)).val :=
    fun a => match a with
    | ⟨0, _⟩ => by show s.val = if (2048 : ℕ) = 1 then 0 else s.val; rw [if_neg (by decide)]
  rw [broadcastInDim_apply _ bcast_S2048_S1x2048_1 _ (ix2 (0 : Fin 1) s) (ix1 s) e]
  simp only [Host.reduceAdd, Ideal.hostReduceAdd_def]
  rw [Ideal.hostReduceAdd_single reducesTo_S8x2048_S2048_d0 (by decide), hz, zero_add]
  exact Finset.sum_congr (M := EReal) rfl fun k _ => congrArg P (funext fun a => Fin.ext (by match a with | ⟨0, _⟩ => rfl | ⟨1, _⟩ => rfl))

section
variable (m : (ℓ : Loc nD τ sig) → Buf (Elt Ideal) ℓ) (c : Dev nD)

/-- What the lines after the call leave in the gradient of the gain. -/
theorem tail_dg : Pipeline.afterTail₀ cfgs (dats m) 0 (V0 m) [hostOps1] c main_v2 = gradGain (prodD m c) (rowsX m c) := by
  have e : (Pipeline.withArrays (cfgs 0).spec c (V0 m c) (fun w => (dats m 0 c).arrAt w (cfgs 0).N)) (Proc.devRef .tc main_v0_2) = arr_6 m c :=
    (Pipeline.withArrays_arr (cfgs 0).spec winFacts0.arr_inj c (V0 m c) (fun w => (dats m 0 c).arrAt w (cfgs 0).N) 6).trans (final_6 m c)
  show StableHlo.after hostOps1 (Pipeline.withArrays (cfgs 0).spec c (V0 m c) fun w => (dats m 0 c).arrAt w (cfgs 0).N) (Proc.devRef .tc main_v2) = _
  generalize Pipeline.withArrays (cfgs 0).spec c (V0 m c) (fun w => (dats m 0 c).arrAt w (cfgs 0).N) = F at e ⊢
  unfold hostOps1
  rw [StableHlo.after_cons, StableHlo.after_cons, StableHlo.after_cons, StableHlo.after_nil, StableHlo.unary_result, StableHlo.binary_result,
    StableHlo.nullary_result_ne _ _ _ _ (by decide), StableHlo.nullary_result, e]
  refine funext fun y => ?_
  obtain ⟨i, s, rfl⟩ : ∃ (i : Fin 1) (s : Fin 2048), y = (ix2 i s : S1x2048.Idx) := ⟨y 0, y 1, eq_ix2 y⟩
  obtain rfl : i = 0 := Subsingleton.elim _ _
  exact (sum_rows (arr_6 m c) (constant S_ .f32 0x00000000#32) (fun _ => Ideal.ofBits_zero_f32) s).trans (sum_parts (gain (prodD m c) (rowsX m c)) s)
end

/-- Every fair execution ends with the results at what they should hold, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = arr_4 m c
      ∧ r.2.mem ((c.tc : Thread nD τ).loc main_v0_1) = arr_4 m c
      ∧ r.2.mem ((c.tc : Thread nD τ).loc main_v2) = gradGain (prodD m c) (rowsX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 4).trans (final_4 m c),
      ((h c).1 5).trans (final_5 m c),
      ((h c).2 main_v2 (Pipeline.mem_restRefs_of main_v2 rfl (by decide))).trans (tail_dg m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c))),
      ((h c).1 3).trans (((dats m 0 c).arrAt_in 3 rfl _).trans ((A_eq m c 3).trans (V_main_arg3 m c)))⟩)
    (run_main m ρ)

end Cert.BackMlpRun
end
-- ==== Proof.BackMlpRef.lean ====
/- What the reference of the gradient of the norm before the MLP computes. -/
module

public import proofs.«01_k».proof.Proof.BackSpec
public import proofs.«01_k».proof.Proof.Gen.NormMlpReferenceIdeal.Read

@[expose] public section

set_option maxRecDepth 16384

noncomputable section

open Idealize.ShloMosaic Idealize.ShloMosaic.ValueIdx Cert.MatSpec Cert.NormSpec Cert.BackSpec
open Cert.NormMlpReferenceIdeal Cert.NormMlpReferenceIdeal.Read
open scoped BigOperators

namespace Cert.BackMlpRef

section
variable (X : FVec Ideal S4096x2048 .f32) (G : FVec Ideal S1x2048 .f32) (T : FVec Ideal S4096x2048 .bf16) (R : FVec Ideal S4096x2048 .f32)

/-- A row's mean square and the small constant below the root. -/
theorem v6_eq (r : Fin 4096) (j : Fin 1) :
    (val_main_v6 (F := Ideal) X : FVec Ideal S4096x1 .f32) (ix2 r j) = mean (fun l => X (ix2 r l) * X (ix2 r l)) + eps := by
  rw [val_main_v6_apply, val_main_v4_apply, val_main_v2_apply, val_main_v1_apply, val_main_v3_apply, val_main_v5_apply]
  show Ideal.div (Ideal.ofBits .f32 0x00000000#32 + ∑ k : Fin 2048, (val_main_v0 (F := Ideal) X (idx_main_v1 (idx_main_v2 (ix2 r j)) k) : EReal)) cols + eps = _
  rw [Ideal.ofBits_zero_f32, zero_add]
  refine congrArg (fun s => Ideal.div s cols + eps) (Finset.sum_congr (M := EReal) rfl fun l _ => ?_)
  have e : idx_main_v1 (idx_main_v2 (ix2 r j)) l = ix2 r l := by funext a; match a with | ⟨0, _⟩ => rfl | ⟨1, _⟩ => rfl
  rw [e, val_main_v0_apply]
  rfl

/-- The factor of a row. -/
theorem v7_eq (r : Fin 4096) (j : Fin 1) : (val_main_v7 (F := Ideal) X : FVec Ideal S4096x1 .f32) (ix2 r j) = scale X r := by
  rw [val_main_v7_apply, v6_eq]
  rfl

/-- The derivative of a row's factor in its mean square. -/
theorem v10_eq (r : Fin 4096) (j : Fin 1) : (val_main_v10 (F := Ideal) X : FVec Ideal S4096x1 .f32) (ix2 r j)
    = Ideal.ofBits .f32 0xBF000000#32 * Ideal.div (scale X r) (mean (fun l => X (ix2 r l) * X (ix2 r l)) + eps) := by
  rw [val_main_v10_apply, val_main_v9_apply, val_main_v8_apply, v7_eq, v6_eq]
  rfl

/-- The gradient of the norm's output. -/
theorem v15_eq (r : Fin 4096) (s : Fin 2048) : (val_main_v15 (F := Ideal) T : FVec Ideal S4096x2048 .f32) (ix2 r s) = (T : Mat _ _) (ix2 r s) := by
  rw [val_main_v15_apply]
  rfl

/-- The gradient of the norm's gain. -/
theorem out_dg : (val_main_v18 (F := Ideal) X T : FVec Ideal S1x2048 .f32) = gradGain T X := by
  funext y
  obtain ⟨i, s, rfl⟩ : ∃ (i : Fin 1) (s : Fin 2048), y = (ix2 i s : S1x2048.Idx) := ⟨y 0, y 1, eq_ix2 y⟩
  rw [val_main_v18_apply, val_main_v17_apply]
  show Ideal.ofBits .f32 0x00000000#32 + ∑ k : Fin 4096, (val_main_v16 (F := Ideal) X T (idx_main_v17 (idx_main_v18 (ix2 i s)) k) : EReal)
    = ∑ r : Fin 4096, gain T X (ix2 r s)
  rw [Ideal.ofBits_zero_f32, zero_add]
  refine Finset.sum_congr (M := EReal) rfl fun l _ => ?_
  have e : idx_main_v17 (idx_main_v18 (ix2 i s)) l = ix2 l s := by
    funext a
    match a with
    | ⟨0, _⟩ => rfl
    | ⟨1, _⟩ => exact Fin.ext (by show i.val * 2048 + s.val = s.val; omega)
  have e1 : idx_main_v11 (ix2 l s) = ix2 l (0 : Fin 1) := by funext a; match a with | ⟨0, _⟩ => rfl | ⟨1, _⟩ => rfl
  rw [e, val_main_v16_apply, val_main_v12_apply, val_main_v11_apply, e1, v7_eq, v15_eq]
  exact mul_comm ((X : Mat _ _) (ix2 l s) * scale X l : EReal) ((T : Mat _ _) (ix2 l s))

/-- The gradient of the norm's output with the gain. -/
theorem v20_eq (r : Fin 4096) (s : Fin 2048) : (val_main_v20 (F := Ideal) G T : FVec Ideal S4096x2048 .f32) (ix2 r s)
    = (T : Mat _ _) (ix2 r s) * (G : Mat _ _) (ix2 (0 : Fin 1) s) := by
  have e : idx_main_v19 (ix2 r s) = ix2 (0 : Fin 1) s := by funext a; match a with | ⟨0, _⟩ => rfl | ⟨1, _⟩ => rfl
  rw [val_main_v20_apply, v15_eq, val_main_v19_apply, e]
  rfl

/-- What a row's factor sends back to the row. -/
theorem v31_eq (r : Fin 4096) (s : Fin 2048) : (val_main_v31 (F := Ideal) X G T : FVec Ideal S4096x2048 .f32) (ix2 r s)
    = Ideal.div ((∑ l : Fin 2048, (X : Mat _ _) (ix2 r l) * ((T : Mat _ _) (ix2 r l) * (G : Mat _ _) (ix2 (0 : Fin 1) l)))
      * (Ideal.ofBits .f32 0xBF000000#32 * Ideal.div (scale X r) (mean (fun l => X (ix2 r l) * X (ix2 r l)) + eps))) cols := by
  rw [val_main_v31_apply, val_main_v30_apply]
  show Ideal.ofBits .f32 0x00000000#32 + ∑ k : Fin 1, (val_main_v29 (F := Ideal) X G T (idx_main_v30 (idx_main_v31 (ix2 r s)) k) : EReal) = _
  have e : idx_main_v30 (idx_main_v31 (ix2 r s)) 0 = ix2 r (0 : Fin 1) := by funext a; match a with | ⟨0, _⟩ => rfl | ⟨1, _⟩ => rfl
  rw [Ideal.ofBits_zero_f32, zero_add, Fin.sum_univ_one, e, val_main_v29_apply, val_main_v27_apply, val_main_v28_apply, v10_eq, val_main_v23_apply, val_main_v22_apply]
  show Ideal.div ((Ideal.ofBits .f32 0x00000000#32 + ∑ k : Fin 2048, (val_main_v21 (F := Ideal) X G T (idx_main_v22 (idx_main_v23 (ix2 r (0 : Fin 1))) k) : EReal)) * _) cols = _
  rw [Ideal.ofBits_zero_f32, zero_add]
  refine congrArg (fun q => Ideal.div (q * _) cols) (Finset.sum_congr (M := EReal) rfl fun l _ => ?_)
  have e2 : idx_main_v22 (idx_main_v23 (ix2 r (0 : Fin 1))) l = ix2 r l := by
    funext a
    match a with
    | ⟨0, _⟩ => exact Fin.ext (by show r.val * 1 + 0 = r.val; omega)
    | ⟨1, _⟩ => rfl
  rw [e2, val_main_v21_apply, v20_eq]
  rfl

/-- The gradient of the norm's input, added to what arrives beside it. -/
theorem out_dx : (val_main_v35 (F := Ideal) X G T R : FVec Ideal S4096x2048 .f32) = back T X R G := by
  funext y
  obtain ⟨r, s, rfl⟩ : ∃ (r : Fin 4096) (s : Fin 2048), y = (ix2 r s : S4096x2048.Idx) := ⟨y 0, y 1, eq_ix2 y⟩
  have e : idx_main_v24 (ix2 r s) = ix2 r (0 : Fin 1) := by funext a; match a with | ⟨0, _⟩ => rfl | ⟨1, _⟩ => rfl
  rw [val_main_v35_apply, val_main_v33_apply, val_main_v32_apply, val_main_v34_apply, val_main_v26_apply, val_main_v25_apply, val_main_v24_apply,
    v31_eq, v20_eq, e, v7_eq]
  exact (back_entry (fun l => (T : Mat _ _) (ix2 r l) * (G : Mat _ _) (ix2 (0 : Fin 1) l)) (fun l => (X : Mat _ _) (ix2 r l))
    (mean (fun l => X (ix2 r l) * X (ix2 r l)) + eps) ((R : Mat _ _) (ix2 r s)) ((T : Mat _ _) (ix2 r s) * (G : Mat _ _) (ix2 (0 : Fin 1) s))
    ((X : Mat _ _) (ix2 r s)) (below_pos _)).symm

/-- The same, as the short copy holds it. -/
theorem out_dxb : (val_main_v36 (F := Ideal) X G T R : FVec Ideal S4096x2048 .bf16) = back T X R G := by
  funext y
  rw [val_main_v36_apply, Ideal.truncf_def]
  exact congrFun (out_dx X G T R) y

end

end Cert.BackMlpRef
end
-- ==== Proof.BackMlpEquation.lean ====
/- The value claim of the backward pass of the norm before the MLP: the call and the reference leave the same arrays. -/
module

public import proofs.«01_k».proof.Defs
public import proofs.«01_k».proof.Proof.BackMlpRun
public import proofs.«01_k».proof.Proof.BackMlpRef

@[expose] public section

set_option maxRecDepth 16384

noncomputable section

open Idealize.ShloMosaic Idealize.ShloMosaic.ValueIdx Idealize.SL.Sem Cert.MatSpec Cert.NormSpec Cert.BackSpec Cert.BackMlp Cert.BackMlpRun

namespace Cert.BackMlpEquation

/-- The value claim. -/
theorem algebraic : Cert.algebraic_NormMlpIdeal_NormMlpReferenceIdeal := by
  intro m g m' g' _ hm
  refine ⟨fun c => arr_4 m c, fun c => arr_4 m c, fun c => gradGain (prodD m c) (rowsX m c), run_value m g, ?_⟩
  refine (θ_run Cert.NormMlpReferenceIdeal.defs _ _).mono (fun r h c => ?_) (Cert.NormMlpReferenceIdeal.Value.run (F := Ideal) m' g')
  obtain ⟨h0, h1, h2, h3⟩ := h c
  obtain ⟨e0, e1, e2, e3⟩ := hm c
  rw [Cert.NormMlpReferenceIdeal.Read.val_main_v35_eq, e0, e1, e2, e3, Cert.BackMlpRef.out_dx] at h0
  rw [Cert.NormMlpReferenceIdeal.Read.val_main_v36_eq, e0, e1, e2, e3, Cert.BackMlpRef.out_dxb] at h1
  rw [Cert.NormMlpReferenceIdeal.Read.val_main_v18_eq, e0, e2, Cert.BackMlpRef.out_dg] at h2
  exact ⟨h0, h1, h2, h3⟩

end Cert.BackMlpEquation
end
-- ==== Proof.HeadSpec.lean ====
/- A head of the projected rows: the norm of its entries, and the rotation of their pairs by two tables of factors. -/
module

public import proofs.«01_k».proof.Proof.NormSpec
public import Idealize.ShloMosaic.Lib.KernelVsHost
public import Idealize.ShloMosaic.Lib.Pipeline.Value

@[expose] public section

set_option maxRecDepth 16384

noncomputable section

open Idealize.ShloMosaic Idealize.ShloMosaic.ValueIdx Cert.MatSpec Cert.NormSpec Cert.RealOps
open scoped BigOperators

namespace Cert.HeadSpec

/-- The number of entries of a head, as the program writes it. -/
abbrev width : EReal := Ideal.ofBits .f32 0x43000000#32

/-- The factor the norm of a head multiplies its entries by. -/
def factor (w : Fin 128 → EReal) : EReal := Ideal.rsqrt (Ideal.div (∑ l, w l * w l) width + eps)
/-- A head after its norm, times the gain of each entry. -/
def normed (w g : Fin 128 → EReal) (l : Fin 128) : EReal := w l * factor w * g l
/-- The other entry of a pair: the pairs lie 32 entries apart, in each half of the head. -/
def partner (l : Fin 128) : Fin 128 := ⟨if l.val % 64 < 32 then l.val + 32 else l.val - 32, by split <;> omega⟩
/-- A head after its norm and the rotation of its pairs. -/
def turned (w g C S : Fin 128 → EReal) (l : Fin 128) : EReal := normed w g l * C l + normed w g (partner l) * S l

/-- The entry of the two tables that belongs to an entry of a head: the first for the first half, the second for the second. -/
def pick (A B : Mat 4096 32) (r : Fin 4096) (l : Fin 128) : EReal :=
  if l.val < 64 then A (ix2 r (⟨l.val % 32, by omega⟩ : Fin 32)) else B (ix2 r (⟨l.val % 32, by omega⟩ : Fin 32))
/-- The same, with the sign the first entry of a pair takes. -/
def pickSigned (A B : Mat 4096 32) (r : Fin 4096) (l : Fin 128) : EReal :=
  if l.val % 64 < 32 then -(pick A B r l) else pick A B r l

/-- Head `h` of a row. -/
abbrev head {m : ℕ} (P : Mat m 3072) (r : Fin m) (h : Fin 10) : Fin 128 → EReal := fun l => P (ix2 r (⟨128 * h.val + l.val, by omega⟩ : Fin 3072))
/-- The gain of head `h`: the first eight heads are queries, the last two keys. -/
abbrev gainOf (q k : Mat 1 128) (h : Fin 10) : Fin 128 → EReal := fun l => if h.val < 8 then q (ix2 (0 : Fin 1) l) else k (ix2 (0 : Fin 1) l)
/-- A row with its ten heads normed and turned. -/
def turnedRow {m : ℕ} (P : Mat m 3072) (q k : Mat 1 128) (C S : Fin m → Fin 128 → EReal) : Mat m 3072 := fun y =>
  if h : (y 1).val < 1280 then turned (head P (y 0 : Fin m) ⟨(y 1).val / 128, by omega⟩) (gainOf q k ⟨(y 1).val / 128, by omega⟩)
    (C (y 0 : Fin m)) (S (y 0 : Fin m)) ⟨(y 1).val % 128, by omega⟩
  else P y

/-- An entry of a head of such a row. -/
theorem turnedRow_head {m : ℕ} (P : Mat m 3072) (q k : Mat 1 128) (C S : Fin m → Fin 128 → EReal) (i : Fin m) (h : Fin 10) (l : Fin 128) :
    turnedRow P q k C S (ix2 i (⟨128 * h.val + l.val, by omega⟩ : Fin 3072)) = turned (head P i h) (gainOf q k h) (C i) (S i) l := by
  have e1 : (⟨(128 * h.val + l.val) / 128, by omega⟩ : Fin 10) = h := Fin.ext (by show (128 * h.val + l.val) / 128 = h.val; omega)
  have e2 : (⟨(128 * h.val + l.val) % 128, by omega⟩ : Fin 128) = l := Fin.ext (by show (128 * h.val + l.val) % 128 = l.val; omega)
  have hd : 128 * h.val + l.val < 1280 := by omega
  have e : turned (head P i ⟨(128 * h.val + l.val) / 128, by omega⟩) (gainOf q k ⟨(128 * h.val + l.val) / 128, by omega⟩) (C i) (S i)
      ⟨(128 * h.val + l.val) % 128, by omega⟩ = turned (head P i h) (gainOf q k h) (C i) (S i) l := by rw [e1, e2]
  exact (dif_pos hd).trans e
/-- An entry past the heads. -/
theorem turnedRow_rest {m : ℕ} (P : Mat m 3072) (q k : Mat 1 128) (C S : Fin m → Fin 128 → EReal) (i : Fin m) (j : Fin 3072) (hj : ¬j.val < 1280) :
    turnedRow P q k C S (ix2 i j) = P (ix2 i j) := by
  exact dif_neg hj

/-- A block of rows comes out as the same rows of the whole. -/
theorem turnedRow_block {m M : ℕ} {P : Mat M 3072} {p : Mat m 3072} {q k q' k' : Mat 1 128} {C S : Fin M → Fin 128 → EReal} {c s : Fin m → Fin 128 → EReal}
    {r : Fin m → Fin M} (hp : ∀ i l, p (ix2 i l) = P (ix2 (r i) l)) (hq : ∀ l, q' (ix2 0 l) = q (ix2 0 l)) (hk : ∀ l, k' (ix2 0 l) = k (ix2 0 l))
    (hc : ∀ i l, c i l = C (r i) l) (hs : ∀ i l, s i l = S (r i) l) (i : Fin m) (j : Fin 3072) :
    turnedRow p q' k' c s (ix2 i j) = turnedRow P q k C S (ix2 (r i) j) := by
  by_cases h : j.val < 1280
  · have hh : ∀ n, head p i n = head P (r i) n := fun n => funext fun l => hp i _
    have hg : ∀ n, gainOf q' k' n = gainOf q k n := fun n => funext fun l => by unfold gainOf; rw [hq, hk]
    have e : j = (⟨128 * (⟨j.val / 128, by omega⟩ : Fin 10).val + (⟨j.val % 128, by omega⟩ : Fin 128).val, by show 128 * (j.val / 128) + j.val % 128 < 3072; omega⟩ : Fin 3072) :=
      Fin.ext (by show j.val = 128 * (j.val / 128) + j.val % 128; omega)
    rw [e, turnedRow_head, turnedRow_head, hh, hg, funext (hc i), funext (hs i)]
  · rw [turnedRow_rest _ _ _ _ _ _ _ h, turnedRow_rest _ _ _ _ _ _ _ h, hp]

section
variable {m : ℕ} (hr : (⟨2, ![m, 128]⟩ : Shape).Reduces [1] ⟨1, ![m]⟩) (hφ : FKind.Formats .f32) (ha : 0x00000000#32 = FKind.add.neutral .f32 hφ)
  (hc : (⟨1, ![m]⟩ : Shape).ShapeCasts ⟨2, ![m, 1]⟩) (hs : (⟨2, ![m, 1]⟩ : Shape).Broadcasts ⟨2, ![m, 128]⟩)
  (hg : (⟨2, ![1, 128]⟩ : Shape).Broadcasts ⟨2, ![m, 128]⟩)

/-- A kernel's norm of a head. -/
abbrev normedLines (v : FVec Ideal ⟨2, ![m, 128]⟩ .f32) (g : FVec Ideal ⟨2, ![1, 128]⟩ .f32) : FVec Ideal ⟨2, ![m, 128]⟩ .f32 :=
  mulf (mulf v (broadcastTo (⟨2, ![m, 128]⟩ : Shape) (rsqrt (addf (divf (shapeCast ⟨2, ![m, 1]⟩ (multiReduction .add [1] ⟨1, ![m]⟩ (mulf v v) 0x00000000#32 hr hφ ha) hc)
    (broadcast ⟨2, ![m, 1]⟩ (Scalar.ofBits (F := Ideal) .f32 0x43000000#32))) (broadcast ⟨2, ![m, 1]⟩ (Scalar.ofBits (F := Ideal) .f32 0x358637BD#32)))) hs))
    (broadcastTo (⟨2, ![m, 128]⟩ : Shape) g hg)
/-- It is the norm of the head. -/
theorem normedLines_apply (v : FVec Ideal ⟨2, ![m, 128]⟩ .f32) (g : FVec Ideal ⟨2, ![1, 128]⟩ .f32) (hm : m ≠ 1) (i : Fin m) (j : Fin 128) :
    normedLines hr hφ ha hc hs hg v g (ix2 i j) = normed (fun l => v (ix2 i l)) (fun l => g (ix2 0 l)) j := by
  show (v (ix2 i j) : EReal) * (broadcastTo (⟨2, ![m, 128]⟩ : Shape) _ hs : FVec Ideal _ .f32) (ix2 i j)
    * (broadcastTo (⟨2, ![m, 128]⟩ : Shape) g hg : FVec Ideal _ .f32) (ix2 i j) = _
  rw [spread_apply _ _ hm, spreadRow_apply _ _ (by norm_num)]
  show (v (ix2 i j) : EReal) * Ideal.rsqrt (Ideal.div ((shapeCast ⟨2, ![m, 1]⟩ (multiReduction .add [1] ⟨1, ![m]⟩ (mulf v v) 0x00000000#32 hr hφ ha) hc
    : FVec Ideal _ .f32) (ix2 i 0)) width + eps) * (g (ix2 0 j) : EReal) = _
  rw [column_apply, Ideal.multiReduction_add_single]
  refine congrArg (fun s => (v (ix2 i j) : EReal) * Ideal.rsqrt (Ideal.div s width + eps) * (g (ix2 0 j) : EReal)) (Finset.sum_congr (M := EReal) rfl fun l _ => ?_)
  exact congrArg (mulf v v) (lift_row hr i l)

/-- A kernel's rotation of a normed head: the partner is brought by a cyclic shift by 32 entries one way or the other. -/
theorem turnedLines_apply (v C S : FVec Ideal ⟨2, ![m, 128]⟩ .f32) (g : FVec Ideal ⟨2, ![1, 128]⟩ .f32) (k : IVec ⟨2, ![m, 128]⟩ 1)
    (ht : (⟨2, ![m, 128]⟩ : Shape).Rotates 1 none) (hb : FTy.bits .bf16 < FTy.bits .f32) (hm : m ≠ 1)
    (hk : ∀ (i : Fin m) (j : Fin 128), k (ix2 i j) = if j.val % 64 < 32 then 1#1 else 0#1) (i : Fin m) (j : Fin 128) :
    (truncf .bf16 (addf (mulf (normedLines hr hφ ha hc hs hg v g) C) (mulf (select k (dynamicRotate 1 96#32 none (normedLines hr hφ ha hc hs hg v g) ht)
      (dynamicRotate 1 32#32 none (normedLines hr hφ ha hc hs hg v g) ht)) S)) hb : FVec Ideal _ .bf16) (ix2 i j)
      = turned (fun l => v (ix2 i l)) (fun l => g (ix2 0 l)) (fun l => C (ix2 i l)) (fun l => S (ix2 i l)) j := by
  generalize hU : normedLines hr hφ ha hc hs hg v g = U
  have hu : ∀ l, (U (ix2 i l) : EReal) = normed (fun l => v (ix2 i l)) (fun l => g (ix2 0 l)) l := fun l => by
    rw [← hU]; exact normedLines_apply hr hφ ha hc hs hg v g hm i l
  show (U (ix2 i j) : EReal) * (C (ix2 i j) : EReal) + (Scalar.select (k (ix2 i j)) (dynamicRotate 1 96#32 none U ht (ix2 i j))
    (dynamicRotate 1 32#32 none U ht (ix2 i j)) : EReal) * (S (ix2 i j) : EReal) = _
  rw [dynamicRotate_apply 1 96#32 U ht (ix2 i j) (ix2 i (⟨(j.val + 128 - 96) % 128, by omega⟩ : Fin 128)) (fun b => by
      match b with
      | ⟨0, _⟩ => rfl
      | ⟨1, _⟩ => rfl),
    dynamicRotate_apply 1 32#32 U ht (ix2 i j) (ix2 i (⟨(j.val + 128 - 32) % 128, by omega⟩ : Fin 128)) (fun b => by
      match b with
      | ⟨0, _⟩ => rfl
      | ⟨1, _⟩ => rfl), hk]
  unfold turned
  rw [hu j]
  by_cases h : j.val % 64 < 32
  · have e : (⟨(j.val + 128 - 96) % 128, by omega⟩ : Fin 128) = partner j := Fin.ext (by
      show (j.val + 128 - 96) % 128 = if j.val % 64 < 32 then j.val + 32 else j.val - 32
      rw [if_pos h]; omega)
    rw [if_pos h, e]
    show _ + (U (ix2 i (partner j)) : EReal) * _ = _
    rw [hu]
  · have e : (⟨(j.val + 128 - 32) % 128, by omega⟩ : Fin 128) = partner j := Fin.ext (by
      show (j.val + 128 - 32) % 128 = if j.val % 64 < 32 then j.val + 32 else j.val - 32
      rw [if_neg h]; omega)
    rw [if_neg h, e]
    show _ + (U (ix2 i (partner j)) : EReal) * _ = _
    rw [hu]
end

/-- The rotation of the first entry of a pair, as a difference. -/
theorem turned_first (w g : Fin 128 → EReal) (A B A' B' : Mat 4096 32) (r : Fin 4096) (l : Fin 128) (h : l.val % 64 < 32) :
    turned w g (pick A B r) (pickSigned A' B' r) l = normed w g l * pick A B r l - normed w g (partner l) * pick A' B' r l := by
  unfold turned pickSigned
  rw [if_pos h, mul_neg, sub_eq_add_neg]
/-- The rotation of the second entry of a pair. -/
theorem turned_second (w g : Fin 128 → EReal) (A B A' B' : Mat 4096 32) (r : Fin 4096) (l : Fin 128) (h : ¬l.val % 64 < 32) :
    turned w g (pick A B r) (pickSigned A' B' r) l = normed w g l * pick A B r l + normed w g (partner l) * pick A' B' r l := by
  unfold turned pickSigned
  rw [if_neg h]

end Cert.HeadSpec
end
end
-- ==== Proof.ProjPoint.lean ====
/- The projection of the rows and the norm and rotation of its heads: what a grid point computes. -/
module

public import proofs.«01_k».proof.Proof.HeadSpec
public import proofs.«01_k».proof.Proof.Gen.InProjIdeal.Frame

@[expose] public section

set_option maxRecDepth 16384

noncomputable section

open Idealize.ShloMosaic Idealize.ShloMosaic.TcCoe Idealize.ShloMosaic.ValueIdx Cert.InProjIdeal Cert.InProjIdeal.Gen Cert.MatSpec Cert.NormSpec Cert.HeadSpec
open scoped BigOperators

namespace Cert.ProjIn

/-- The sign-corrected remainder of an entry's number by 64, compared with 32, on words. -/
def word (a : BitVec 32) : BitVec 1 :=
  let d := Scalar.select (Scalar.cmpi .eq 64#32 0#32) 1#32 64#32
  let r := IntOp.remsi .vector a d
  IntOp.cmpi .slt (Scalar.select (IntOp.andi (IntOp.xori (IntOp.cmpi .slt r 0#32) (Scalar.cmpi .slt d 0#32)) (IntOp.cmpi .ne r 0#32)) (IntOp.addi r d) r) 32#32
/-- It tells the first entries of the pairs from the second. -/
theorem word_eq : ∀ j : Fin 128, word (BitVec.ofNat 32 j.val) = if j.val % 64 < 32 then 1#1 else 0#1 := by decide +kernel

/-- The kernel's mask: the first entries of the pairs. -/
def mask : IVec S512x128 1 :=
  let d : BitVec 32 := Scalar.select (Scalar.cmpi .eq 64#32 0#32) 1#32 64#32
  let r : IVec S512x128 32 := remsi (iota .tc S512x128 32 [1] iota_S512x128_d1_w32) (broadcast S512x128 d)
  cmpi .slt (select (andi (xori (cmpi .slt r (broadcast S512x128 0#32)) (broadcastTo S512x128 (broadcast S512x128 (Scalar.cmpi .slt d 0#32)) broadcasts_S512x128_S512x128))
    (cmpi .ne r (broadcast S512x128 0#32))) (addi r (broadcast S512x128 d)) r) (broadcast S512x128 32#32)
/-- Its entries. -/
theorem mask_apply (i : Fin 512) (j : Fin 128) : mask (ix2 i j) = if j.val % 64 < 32 then 1#1 else 0#1 := by
  have e : (0 * 128 + j.val) = j.val := by omega
  have h := word_eq j
  rw [← e] at h
  rw [e] at h
  refine Eq.trans ?_ h
  show word (BitVec.ofNat 32 (0 * 128 + j.val)) = _
  rw [e]

/-- The product of the blocks. -/
theorem pay_prod (x0 : Vec Ideal S512x2048 .bf16) (x1 : Vec Ideal S2048x3072 .bf16) : (k0_pay2 x0 x1 : Mat 512 3072) = nn (x0 : Mat 512 2048) (x1 : Mat 2048 3072) :=
  matmul_nn (φ := .bf16) (ψ := .bf16) x0 x1
/-- The tables pass unchanged. -/
theorem pay_cos (x : Vec Ideal S512x128 .f32) : k0_pay3 x = x := shapeCast_self _ _
/-- The tables pass unchanged. -/
theorem pay_sin (x : Vec Ideal S512x128 .f32) : k0_pay4 x = x := shapeCast_self _ _

/-- Where an entry of a slice of the product lies. -/
theorem slice_head (P : FVec Ideal S512x3072 .f32) (h : Fin 10) (hs : S512x3072.Slices ![0, 128 * h.val] S512x128) (i : Fin 512) :
    (fun l : Fin 128 => ((extractStridedSlice S512x128 ![0, 128 * h.val] P hs : FVec Ideal S512x128 .f32) (ix2 i l) : EReal)) = head (P : Mat 512 3072) i h := by
  funext l
  exact extractStridedSlice_apply _ P hs (ix2 i l) (ix2 i (⟨128 * h.val + l.val, by omega⟩ : Fin 3072)) (fun a => by
    match a with
    | ⟨0, _⟩ => exact (Nat.zero_add _).symm
    | ⟨1, _⟩ => rfl)

/-- The lines of a head. -/
def lines (P : FVec Ideal S512x3072 .f32) (C S : FVec Ideal S512x128 .f32) (g : FVec Ideal S1x128 .f32) (n : ℕ) (hs : S512x3072.Slices ![0, n] S512x128) : FVec Ideal S512x128 .bf16 :=
  let U := normedLines reduces_S512x128_S512 (.inl rfl) rfl shapeCasts_S512_S512x1 broadcasts_S512x1_S512x128 broadcasts_S1x128_S512x128
    (extractStridedSlice S512x128 ![0, n] P hs) g
  truncf .bf16 (addf (mulf U C) (mulf (select mask (dynamicRotate 1 96#32 none U rotates_S512x128_d1) (dynamicRotate 1 32#32 none U rotates_S512x128_d1)) S)) bitsLt_bf16_f32
/-- What they compute. -/
theorem lines_apply (P : FVec Ideal S512x3072 .f32) (C S : FVec Ideal S512x128 .f32) (g q k : FVec Ideal S1x128 .f32) (h : Fin 10)
    (hs : S512x3072.Slices ![0, 128 * h.val] S512x128) (hg : ∀ l : Fin 128, (g (ix2 (0 : Fin 1) l) : EReal) = gainOf (q : Mat 1 128) (k : Mat 1 128) h l) (i : Fin 512) (l : Fin 128) :
    (lines P C S g (128 * h.val) hs (ix2 i l) : EReal)
      = turnedRow (P : Mat 512 3072) (q : Mat 1 128) (k : Mat 1 128) (fun i l => C (ix2 i l)) (fun i l => S (ix2 i l)) (ix2 i (⟨128 * h.val + l.val, by omega⟩ : Fin 3072)) := by
  refine (turnedLines_apply reduces_S512x128_S512 (.inl rfl) rfl shapeCasts_S512_S512x1 broadcasts_S512x1_S512x128 broadcasts_S1x128_S512x128
    (extractStridedSlice S512x128 ![0, 128 * h.val] P hs) C S g mask rotates_S512x128_d1 bitsLt_bf16_f32 (by norm_num) mask_apply i l).trans ?_
  rw [turnedRow_head, slice_head, funext hg]

set_option maxHeartbeats 1000000 in
/-- What a grid point leaves in the second output: the rows with their heads normed and turned. -/
theorem out_7 (c : Dev nD) (i : grid0.Coords) (arg3 : Memref sig .tc .vmem S512x2048 .bf16) (harg3 : arg3.IsWhole) (arg4 : Memref sig .tc .vmem S2048x3072 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x1280 .f32) (harg9 : arg9.IsWhole) (arg10 : Memref sig .tc .vmem S512x3072 .bf16) (harg10 : arg10.IsWhole) (arg11 : Memref sig .tc .vmem S8x128 .f32) (harg11 : arg11.IsWhole)
    (x0 : Vec Ideal S512x2048 .bf16) (x1 : Vec Ideal S2048x3072 .bf16) (x2 : Vec Ideal S512x128 .f32) (x3 : Vec Ideal S512x128 .f32) (x4 : Vec Ideal S1x128 .f32) (x5 : Vec Ideal S1x128 .f32) : out0_A_7 (F := Ideal) c i arg3 harg3 arg4 harg4 arg5 harg5 arg6 harg6 arg7 harg7 arg8 harg8 arg9 harg9 arg10 harg10 arg11 harg11 x0 x1 x2 x3 x4 x5
      = turnedRow (nn (x0 : Mat 512 2048) (x1 : Mat 2048 3072)) (x4 : Mat 1 128) (x5 : Mat 1 128) (fun i l => x2 (ix2 i l)) (fun i l => x3 (ix2 i l)) := by
  unfold out0_A_7
  rw [View.read_writes_junk_eq_canon]
  funext y
  refine View.canon_apply_of_pieces _ _ ?_ y (cover0_A_7 (F := Ideal) c i arg3 harg3 arg4 harg4 arg5 harg5 arg6 harg6 arg7 harg7 arg8 harg8 arg9 harg9 arg10 harg10 arg11 harg11 x0 x1 x2 x3 x4 x5 y)
  have e0 : View.readAt (Elt Ideal) arg3.view (Rect.unit ![0, 0] ![512, 2048] inb_S512x2048_S512x2048_0_0).toLoadRect (harg3.unread x0) = x0 :=
    (readAt_whole arg3 harg3 x0 (by decide) (by decide))
  have e1 : View.readAt (Elt Ideal) arg4.view (Rect.unit ![0, 0] ![2048, 3072] inb_S2048x3072_S2048x3072_0_0).toLoadRect (harg4.unread x1) = x1 :=
    (readAt_whole arg4 harg4 x1 (by decide) (by decide))
  have e2 : View.readAt (Elt Ideal) arg5.view (Rect.unit ![0, 0] ![512, 128] inb_S512x128_S512x128_0_0).toLoadRect (harg5.unread x2) = x2 :=
    (readAt_whole arg5 harg5 x2 (by decide) (by decide))
  have e3 : View.readAt (Elt Ideal) arg6.view (Rect.unit ![0, 0] ![512, 128] inb_S512x128_S512x128_0_0).toLoadRect (harg6.unread x3) = x3 :=
    (readAt_whole arg6 harg6 x3 (by decide) (by decide))
  have e4 : View.readAt (Elt Ideal) arg7.view (Rect.unit ![0, 0] ![1, 128] inb_S1x128_S1x128_0_0).toLoadRect (harg7.unread x4) = x4 :=
    (readAt_whole arg7 harg7 x4 (by decide) (by decide))
  have e5 : View.readAt (Elt Ideal) arg8.view (Rect.unit ![0, 0] ![1, 128] inb_S1x128_S1x128_0_0).toLoadRect (harg8.unread x5) = x5 :=
    (readAt_whole arg8 harg8 x5 (by decide) (by decide))
  rw [← pay_prod x0 x1]
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun p hp => (List.not_mem_nil hp).elim⟩⟩⟩⟩⟩⟩⟩⟩⟩⟩⟩
  · simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r]
    rw [e0, e1]
    obtain ⟨i, j, rfl⟩ : ∃ (i : Fin 512) (j : Fin 1792), x = (ix2 i j : S512x1792.Idx) := ⟨x 0, x 1, eq_ix2 x⟩
    have eh : (Rect.unit ![0, 1280] ![512, 1792] inb_S512x3072_S512x1792_0_1280).emb (ix2 i j) = (ix2 i (⟨1280 + j.val, by omega⟩ : Fin 3072) : S512x3072.Idx) := by
      funext a; apply Fin.ext
      match a with
      | ⟨0, _⟩ => show 0 + 1 * i.val = i.val; omega
      | ⟨1, _⟩ => show 1280 + 1 * j.val = 1280 + j.val; omega
    refine Eq.trans ?_ ((turnedRow_rest _ _ _ _ _ i (⟨1280 + j.val, by omega⟩ : Fin 3072) (by show ¬1280 + j.val < 1280; omega)).symm.trans (congrArg _ eh.symm))
    exact extractStridedSlice_apply _ (k0_pay2 x0 x1) slices_S512x3072_o0_1280_S512x1792 (ix2 i j) (ix2 i (⟨1280 + j.val, by omega⟩ : Fin 3072)) (fun a => by
      match a with
      | ⟨0, _⟩ => exact (Nat.zero_add _).symm
      | ⟨1, _⟩ => rfl)
  · simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r]
    rw [e0, e1, e2, e3, e5, pay_cos, pay_sin]
    obtain ⟨i, l, rfl⟩ : ∃ (i : Fin 512) (l : Fin 128), x = (ix2 i l : S512x128.Idx) := ⟨x 0, x 1, eq_ix2 x⟩
    have e := lines_apply (k0_pay2 x0 x1) x2 x3 x5 x4 x5 (9 : Fin 10) slices_S512x3072_o0_1152_S512x128 (fun l => rfl) i l
    have eh : (Rect.unit ![0, 1152] ![512, 128] inb_S512x3072_S512x128_0_1152).emb (ix2 i l) = (ix2 i (⟨128 * (9 : Fin 10).val + l.val, by show 128 * 9 + l.val < 3072; omega⟩ : Fin 3072) : S512x3072.Idx) := by
      funext a; apply Fin.ext
      match a with
      | ⟨0, _⟩ => show 0 + 1 * i.val = i.val; omega
      | ⟨1, _⟩ => show 1152 + 1 * l.val = 128 * 9 + l.val; omega
    exact e.trans (congrArg _ eh.symm)
  · simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r]
    rw [e0, e1, e2, e3, e5, pay_cos, pay_sin]
    obtain ⟨i, l, rfl⟩ : ∃ (i : Fin 512) (l : Fin 128), x = (ix2 i l : S512x128.Idx) := ⟨x 0, x 1, eq_ix2 x⟩
    have e := lines_apply (k0_pay2 x0 x1) x2 x3 x5 x4 x5 (8 : Fin 10) slices_S512x3072_o0_1024_S512x128 (fun l => rfl) i l
    have eh : (Rect.unit ![0, 1024] ![512, 128] inb_S512x3072_S512x128_0_1024).emb (ix2 i l) = (ix2 i (⟨128 * (8 : Fin 10).val + l.val, by show 128 * 8 + l.val < 3072; omega⟩ : Fin 3072) : S512x3072.Idx) := by
      funext a; apply Fin.ext
      match a with
      | ⟨0, _⟩ => show 0 + 1 * i.val = i.val; omega
      | ⟨1, _⟩ => show 1024 + 1 * l.val = 128 * 8 + l.val; omega
    exact e.trans (congrArg _ eh.symm)
  · simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r]
    rw [e0, e1, e2, e3, e4, pay_cos, pay_sin]
    obtain ⟨i, l, rfl⟩ : ∃ (i : Fin 512) (l : Fin 128), x = (ix2 i l : S512x128.Idx) := ⟨x 0, x 1, eq_ix2 x⟩
    have e := lines_apply (k0_pay2 x0 x1) x2 x3 x4 x4 x5 (7 : Fin 10) slices_S512x3072_o0_896_S512x128 (fun l => rfl) i l
    have eh : (Rect.unit ![0, 896] ![512, 128] inb_S512x3072_S512x128_0_896).emb (ix2 i l) = (ix2 i (⟨128 * (7 : Fin 10).val + l.val, by show 128 * 7 + l.val < 3072; omega⟩ : Fin 3072) : S512x3072.Idx) := by
      funext a; apply Fin.ext
      match a with
      | ⟨0, _⟩ => show 0 + 1 * i.val = i.val; omega
      | ⟨1, _⟩ => show 896 + 1 * l.val = 128 * 7 + l.val; omega
    exact e.trans (congrArg _ eh.symm)
  · simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r]
    rw [e0, e1, e2, e3, e4, pay_cos, pay_sin]
    obtain ⟨i, l, rfl⟩ : ∃ (i : Fin 512) (l : Fin 128), x = (ix2 i l : S512x128.Idx) := ⟨x 0, x 1, eq_ix2 x⟩
    have e := lines_apply (k0_pay2 x0 x1) x2 x3 x4 x4 x5 (6 : Fin 10) slices_S512x3072_o0_768_S512x128 (fun l => rfl) i l
    have eh : (Rect.unit ![0, 768] ![512, 128] inb_S512x3072_S512x128_0_768).emb (ix2 i l) = (ix2 i (⟨128 * (6 : Fin 10).val + l.val, by show 128 * 6 + l.val < 3072; omega⟩ : Fin 3072) : S512x3072.Idx) := by
      funext a; apply Fin.ext
      match a with
      | ⟨0, _⟩ => show 0 + 1 * i.val = i.val; omega
      | ⟨1, _⟩ => show 768 + 1 * l.val = 128 * 6 + l.val; omega
    exact e.trans (congrArg _ eh.symm)
  · simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r]
    rw [e0, e1, e2, e3, e4, pay_cos, pay_sin]
    obtain ⟨i, l, rfl⟩ : ∃ (i : Fin 512) (l : Fin 128), x = (ix2 i l : S512x128.Idx) := ⟨x 0, x 1, eq_ix2 x⟩
    have e := lines_apply (k0_pay2 x0 x1) x2 x3 x4 x4 x5 (5 : Fin 10) slices_S512x3072_o0_640_S512x128 (fun l => rfl) i l
    have eh : (Rect.unit ![0, 640] ![512, 128] inb_S512x3072_S512x128_0_640).emb (ix2 i l) = (ix2 i (⟨128 * (5 : Fin 10).val + l.val, by show 128 * 5 + l.val < 3072; omega⟩ : Fin 3072) : S512x3072.Idx) := by
      funext a; apply Fin.ext
      match a with
      | ⟨0, _⟩ => show 0 + 1 * i.val = i.val; omega
      | ⟨1, _⟩ => show 640 + 1 * l.val = 128 * 5 + l.val; omega
    exact e.trans (congrArg _ eh.symm)
  · simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r]
    rw [e0, e1, e2, e3, e4, pay_cos, pay_sin]
    obtain ⟨i, l, rfl⟩ : ∃ (i : Fin 512) (l : Fin 128), x = (ix2 i l : S512x128.Idx) := ⟨x 0, x 1, eq_ix2 x⟩
    have e := lines_apply (k0_pay2 x0 x1) x2 x3 x4 x4 x5 (4 : Fin 10) slices_S512x3072_o0_512_S512x128 (fun l => rfl) i l
    have eh : (Rect.unit ![0, 512] ![512, 128] inb_S512x3072_S512x128_0_512).emb (ix2 i l) = (ix2 i (⟨128 * (4 : Fin 10).val + l.val, by show 128 * 4 + l.val < 3072; omega⟩ : Fin 3072) : S512x3072.Idx) := by
      funext a; apply Fin.ext
      match a with
      | ⟨0, _⟩ => show 0 + 1 * i.val = i.val; omega
      | ⟨1, _⟩ => show 512 + 1 * l.val = 128 * 4 + l.val; omega
    exact e.trans (congrArg _ eh.symm)
  · simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r]
    rw [e0, e1, e2, e3, e4, pay_cos, pay_sin]
    obtain ⟨i, l, rfl⟩ : ∃ (i : Fin 512) (l : Fin 128), x = (ix2 i l : S512x128.Idx) := ⟨x 0, x 1, eq_ix2 x⟩
    have e := lines_apply (k0_pay2 x0 x1) x2 x3 x4 x4 x5 (3 : Fin 10) slices_S512x3072_o0_384_S512x128 (fun l => rfl) i l
    have eh : (Rect.unit ![0, 384] ![512, 128] inb_S512x3072_S512x128_0_384).emb (ix2 i l) = (ix2 i (⟨128 * (3 : Fin 10).val + l.val, by show 128 * 3 + l.val < 3072; omega⟩ : Fin 3072) : S512x3072.Idx) := by
      funext a; apply Fin.ext
      match a with
      | ⟨0, _⟩ => show 0 + 1 * i.val = i.val; omega
      | ⟨1, _⟩ => show 384 + 1 * l.val = 128 * 3 + l.val; omega
    exact e.trans (congrArg _ eh.symm)
  · simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r]
    rw [e0, e1, e2, e3, e4, pay_cos, pay_sin]
    obtain ⟨i, l, rfl⟩ : ∃ (i : Fin 512) (l : Fin 128), x = (ix2 i l : S512x128.Idx) := ⟨x 0, x 1, eq_ix2 x⟩
    have e := lines_apply (k0_pay2 x0 x1) x2 x3 x4 x4 x5 (2 : Fin 10) slices_S512x3072_o0_256_S512x128 (fun l => rfl) i l
    have eh : (Rect.unit ![0, 256] ![512, 128] inb_S512x3072_S512x128_0_256).emb (ix2 i l) = (ix2 i (⟨128 * (2 : Fin 10).val + l.val, by show 128 * 2 + l.val < 3072; omega⟩ : Fin 3072) : S512x3072.Idx) := by
      funext a; apply Fin.ext
      match a with
      | ⟨0, _⟩ => show 0 + 1 * i.val = i.val; omega
      | ⟨1, _⟩ => show 256 + 1 * l.val = 128 * 2 + l.val; omega
    exact e.trans (congrArg _ eh.symm)
  · simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r]
    rw [e0, e1, e2, e3, e4, pay_cos, pay_sin]
    obtain ⟨i, l, rfl⟩ : ∃ (i : Fin 512) (l : Fin 128), x = (ix2 i l : S512x128.Idx) := ⟨x 0, x 1, eq_ix2 x⟩
    have e := lines_apply (k0_pay2 x0 x1) x2 x3 x4 x4 x5 (1 : Fin 10) slices_S512x3072_o0_128_S512x128 (fun l => rfl) i l
    have eh : (Rect.unit ![0, 128] ![512, 128] inb_S512x3072_S512x128_0_128).emb (ix2 i l) = (ix2 i (⟨128 * (1 : Fin 10).val + l.val, by show 128 * 1 + l.val < 3072; omega⟩ : Fin 3072) : S512x3072.Idx) := by
      funext a; apply Fin.ext
      match a with
      | ⟨0, _⟩ => show 0 + 1 * i.val = i.val; omega
      | ⟨1, _⟩ => show 128 + 1 * l.val = 128 * 1 + l.val; omega
    exact e.trans (congrArg _ eh.symm)
  · simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r, k0_pay7]
    rw [e0, e1, e2, e3, e4, pay_cos, pay_sin]
    obtain ⟨i, l, rfl⟩ : ∃ (i : Fin 512) (l : Fin 128), x = (ix2 i l : S512x128.Idx) := ⟨x 0, x 1, eq_ix2 x⟩
    have e := lines_apply (k0_pay2 x0 x1) x2 x3 x4 x4 x5 (0 : Fin 10) slices_S512x3072_o0_0_S512x128 (fun l => rfl) i l
    have eh : (Rect.unit ![0, 0] ![512, 128] inb_S512x3072_S512x128_0_0).emb (ix2 i l) = (ix2 i (⟨128 * (0 : Fin 10).val + l.val, by show 128 * 0 + l.val < 3072; omega⟩ : Fin 3072) : S512x3072.Idx) := by
      funext a; apply Fin.ext
      match a with
      | ⟨0, _⟩ => show 0 + 1 * i.val = i.val; omega
      | ⟨1, _⟩ => show 0 + 1 * l.val = 128 * 0 + l.val; omega
    exact e.trans (congrArg _ eh.symm)

/-- What a grid point leaves in the first output: the first 1280 columns of the product. -/
theorem out_6 (c : Dev nD) (i : grid0.Coords) (arg3 : Memref sig .tc .vmem S512x2048 .bf16) (harg3 : arg3.IsWhole) (arg4 : Memref sig .tc .vmem S2048x3072 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x1280 .f32) (harg9 : arg9.IsWhole) (arg10 : Memref sig .tc .vmem S512x3072 .bf16) (harg10 : arg10.IsWhole) (arg11 : Memref sig .tc .vmem S8x128 .f32) (harg11 : arg11.IsWhole)
    (x0 : Vec Ideal S512x2048 .bf16) (x1 : Vec Ideal S2048x3072 .bf16) (x2 : Vec Ideal S512x128 .f32) (x3 : Vec Ideal S512x128 .f32) (x4 : Vec Ideal S1x128 .f32) (x5 : Vec Ideal S1x128 .f32) (r : Fin 512) (j : Fin 1280) : (out0_A_6 (F := Ideal) c i arg3 harg3 arg4 harg4 arg5 harg5 arg6 harg6 arg7 harg7 arg8 harg8 arg9 harg9 arg10 harg10 arg11 harg11 x0 x1 x2 x3 x4 x5 : FVec Ideal S512x1280 .f32) (ix2 r j)
      = nn (x0 : Mat 512 2048) (x1 : Mat 2048 3072) (ix2 r (⟨j.val, by omega⟩ : Fin 3072)) := by
  have e : out0_A_6 (F := Ideal) c i arg3 harg3 arg4 harg4 arg5 harg5 arg6 harg6 arg7 harg7 arg8 harg8 arg9 harg9 arg10 harg10 arg11 harg11 x0 x1 x2 x3 x4 x5 = k0_pay5 x0 x1 := by
    unfold out0_A_6
    rw [View.read_writes_junk_eq_canon]
    refine (View.canon_cons_unit_lit (by decide) _ [] (by decide)).trans ?_
    rw [(readAt_whole arg3 harg3 x0 (by decide) (by decide)), (readAt_whole arg4 harg4 x1 (by decide) (by decide))]
  rw [e, ← pay_prod x0 x1]
  exact extractStridedSlice_apply _ (k0_pay2 x0 x1) slices_S512x3072_o0_0_S512x1280 (ix2 r j) (ix2 r (⟨j.val, by omega⟩ : Fin 3072)) (fun a => by
    match a with
    | ⟨0, _⟩ => exact (Nat.zero_add _).symm
    | ⟨1, _⟩ => exact (Nat.zero_add _).symm)

end Cert.ProjIn
end
end
-- ==== Proof.ProjArray.lean ====
/- The projection of the rows and the norm and rotation of its heads: what the result arrays hold after the call. -/
module

public import proofs.«01_k».proof.Proof.ProjPoint

@[expose] public section

set_option maxRecDepth 16384

noncomputable section

open Idealize.ShloMosaic Idealize.ShloMosaic.TcCoe Idealize.ShloMosaic.ValueIdx Cert.InProjIdeal Cert.InProjIdeal.Gen Cert.MatSpec Cert.NormSpec Cert.HeadSpec Cert.ProjIn
open scoped BigOperators

namespace Cert.ProjArray

/-- The row of the array that a row of the block of grid point `t` is. -/
def row (t : Fin cfg0.N) (i : Fin 512) : Fin 4096 := ⟨512 * t.val + i.val, by
  have h : t.val < 8 := lt_of_lt_of_eq t.isLt (show cfg0.N = 8 from N_0); omega⟩

/-- Where window 0's block lies at each grid point. -/
theorem index_0 : ∀ t : Fin cfg0.N, win0_0.index t (0 : Fin 2) = t.val ∧ win0_0.index t (1 : Fin 2) = 0 :=
  (by decide +kernel : ∀ t : Fin grid0.N, _)
/-- Where an entry of window 0's block lies in its array. -/
theorem emb_0 (t : Fin cfg0.N) (i : Fin 512) (j : Fin 2048) : ((cfg0.win 0).blk t).view.emb (ix2 i j)
    = (ix2 (row t i) j : S4096x2048.Idx) := by
  obtain ⟨e0, e1⟩ := index_0 t
  funext a; apply Fin.ext
  match a with
  | ⟨0, _⟩ => show win0_0.index t (0 : Fin 2) * 512 + 1 * i.val = 512 * t.val + i.val; omega
  | ⟨1, _⟩ => show win0_0.index t (1 : Fin 2) * 2048 + 1 * j.val = j.val; omega

/-- Where window 1's block lies at each grid point. -/
theorem index_1 : ∀ t : Fin cfg0.N, win0_1.index t (0 : Fin 2) = 0 ∧ win0_1.index t (1 : Fin 2) = 0 :=
  (by decide +kernel : ∀ t : Fin grid0.N, _)
/-- Where an entry of window 1's block lies in its array. -/
theorem emb_1 (t : Fin cfg0.N) (i : Fin 2048) (j : Fin 3072) : ((cfg0.win 1).blk t).view.emb (ix2 i j)
    = (ix2 i j : S2048x3072.Idx) := by
  obtain ⟨e0, e1⟩ := index_1 t
  funext a; apply Fin.ext
  match a with
  | ⟨0, _⟩ => show win0_1.index t (0 : Fin 2) * 2048 + 1 * i.val = i.val; omega
  | ⟨1, _⟩ => show win0_1.index t (1 : Fin 2) * 3072 + 1 * j.val = j.val; omega

/-- Where window 2's block lies at each grid point. -/
theorem index_2 : ∀ t : Fin cfg0.N, win0_2.index t (0 : Fin 2) = t.val ∧ win0_2.index t (1 : Fin 2) = 0 :=
  (by decide +kernel : ∀ t : Fin grid0.N, _)
/-- Where an entry of window 2's block lies in its array. -/
theorem emb_2 (t : Fin cfg0.N) (i : Fin 512) (j : Fin 128) : ((cfg0.win 2).blk t).view.emb (ix2 i j)
    = (ix2 (row t i) j : S4096x128.Idx) := by
  obtain ⟨e0, e1⟩ := index_2 t
  funext a; apply Fin.ext
  match a with
  | ⟨0, _⟩ => show win0_2.index t (0 : Fin 2) * 512 + 1 * i.val = 512 * t.val + i.val; omega
  | ⟨1, _⟩ => show win0_2.index t (1 : Fin 2) * 128 + 1 * j.val = j.val; omega

/-- Where window 3's block lies at each grid point. -/
theorem index_3 : ∀ t : Fin cfg0.N, win0_3.index t (0 : Fin 2) = t.val ∧ win0_3.index t (1 : Fin 2) = 0 :=
  (by decide +kernel : ∀ t : Fin grid0.N, _)
/-- Where an entry of window 3's block lies in its array. -/
theorem emb_3 (t : Fin cfg0.N) (i : Fin 512) (j : Fin 128) : ((cfg0.win 3).blk t).view.emb (ix2 i j)
    = (ix2 (row t i) j : S4096x128.Idx) := by
  obtain ⟨e0, e1⟩ := index_3 t
  funext a; apply Fin.ext
  match a with
  | ⟨0, _⟩ => show win0_3.index t (0 : Fin 2) * 512 + 1 * i.val = 512 * t.val + i.val; omega
  | ⟨1, _⟩ => show win0_3.index t (1 : Fin 2) * 128 + 1 * j.val = j.val; omega

/-- Where window 4's block lies at each grid point. -/
theorem index_4 : ∀ t : Fin cfg0.N, win0_4.index t (0 : Fin 2) = 0 ∧ win0_4.index t (1 : Fin 2) = 0 :=
  (by decide +kernel : ∀ t : Fin grid0.N, _)
/-- Where an entry of window 4's block lies in its array. -/
theorem emb_4 (t : Fin cfg0.N) (i : Fin 1) (j : Fin 128) : ((cfg0.win 4).blk t).view.emb (ix2 i j)
    = (ix2 i j : S1x128.Idx) := by
  obtain ⟨e0, e1⟩ := index_4 t
  funext a; apply Fin.ext
  match a with
  | ⟨0, _⟩ => show win0_4.index t (0 : Fin 2) * 1 + 1 * i.val = i.val; omega
  | ⟨1, _⟩ => show win0_4.index t (1 : Fin 2) * 128 + 1 * j.val = j.val; omega

/-- Where window 5's block lies at each grid point. -/
theorem index_5 : ∀ t : Fin cfg0.N, win0_5.index t (0 : Fin 2) = 0 ∧ win0_5.index t (1 : Fin 2) = 0 :=
  (by decide +kernel : ∀ t : Fin grid0.N, _)
/-- Where an entry of window 5's block lies in its array. -/
theorem emb_5 (t : Fin cfg0.N) (i : Fin 1) (j : Fin 128) : ((cfg0.win 5).blk t).view.emb (ix2 i j)
    = (ix2 i j : S1x128.Idx) := by
  obtain ⟨e0, e1⟩ := index_5 t
  funext a; apply Fin.ext
  match a with
  | ⟨0, _⟩ => show win0_5.index t (0 : Fin 2) * 1 + 1 * i.val = i.val; omega
  | ⟨1, _⟩ => show win0_5.index t (1 : Fin 2) * 128 + 1 * j.val = j.val; omega

/-- Where window 6's block lies at each grid point. -/
theorem index_6 : ∀ t : Fin cfg0.N, win0_6.index t (0 : Fin 2) = t.val ∧ win0_6.index t (1 : Fin 2) = 0 :=
  (by decide +kernel : ∀ t : Fin grid0.N, _)
/-- Where an entry of window 6's block lies in its array. -/
theorem emb_6 (t : Fin cfg0.N) (i : Fin 512) (j : Fin 1280) : ((cfg0.win 6).blk t).view.emb (ix2 i j)
    = (ix2 (row t i) j : S4096x1280.Idx) := by
  obtain ⟨e0, e1⟩ := index_6 t
  funext a; apply Fin.ext
  match a with
  | ⟨0, _⟩ => show win0_6.index t (0 : Fin 2) * 512 + 1 * i.val = 512 * t.val + i.val; omega
  | ⟨1, _⟩ => show win0_6.index t (1 : Fin 2) * 1280 + 1 * j.val = j.val; omega

/-- Where window 7's block lies at each grid point. -/
theorem index_7 : ∀ t : Fin cfg0.N, win0_7.index t (0 : Fin 2) = t.val ∧ win0_7.index t (1 : Fin 2) = 0 :=
  (by decide +kernel : ∀ t : Fin grid0.N, _)
/-- Where an entry of window 7's block lies in its array. -/
theorem emb_7 (t : Fin cfg0.N) (i : Fin 512) (j : Fin 3072) : ((cfg0.win 7).blk t).view.emb (ix2 i j)
    = (ix2 (row t i) j : S4096x3072.Idx) := by
  obtain ⟨e0, e1⟩ := index_7 t
  funext a; apply Fin.ext
  match a with
  | ⟨0, _⟩ => show win0_7.index t (0 : Fin 2) * 512 + 1 * i.val = 512 * t.val + i.val; omega
  | ⟨1, _⟩ => show win0_7.index t (1 : Fin 2) * 3072 + 1 * j.val = j.val; omega

section
variable (m : (ℓ : Loc nD τ sig) → Buf (Elt Ideal) ℓ) (c : Dev nD)

/-- The rows. -/
abbrev rowsU : Mat 4096 2048 := V m c main_arg0
/-- The weight. -/
abbrev weightW : Mat 2048 3072 := V m c main_arg1
/-- The rows times the weight. -/
abbrev prodP : Mat 4096 3072 := nn (rowsU m c) (weightW m c)
/-- The two tables the call is given. -/
abbrev tableC (r : Fin 4096) (l : Fin 128) : EReal := (V m c main_v0 : Mat 4096 128) (ix2 r l)
/-- The second of them, which carries the signs. -/
abbrev tableS (r : Fin 4096) (l : Fin 128) : EReal := (V m c main_v3 : Mat 4096 128) (ix2 r l)
/-- The array of the raw queries and keys. -/
def arr_6 : Mat 4096 1280 := fun y => prodP m c (ix2 (y 0 : Fin 4096) (⟨(y 1).val, lt_trans (y 1).isLt (by decide : 1280 < 3072)⟩ : Fin 3072))
/-- The array of the normed and turned heads, and of the values. -/
def arr_7 : Mat 4096 3072 := turnedRow (prodP m c) (V m c main_arg6 : Mat 1 128) (V m c main_arg7 : Mat 1 128) (tableC m c) (tableS m c)

/-- A point's rows. -/
abbrev blkU (t : Fin cfg0.N) : Mat 512 2048 := iblk m c 0 t
/-- The weight at a point. -/
abbrev blkW (t : Fin cfg0.N) : Mat 2048 3072 := iblk m c 1 t
/-- A point's product is its rows of the whole product. -/
theorem prod_block (t : Fin cfg0.N) (i : Fin 512) (j : Fin 3072) : nn (blkU m c t) (blkW m c t) (ix2 i j) = prodP m c (ix2 (row t i) j) := by
  have hu : ∀ l, blkU m c t (ix2 i l) = rowsU m c (ix2 (row t i) l) := fun l => by
    have h := congrArg (V m c main_arg0 : Mat 4096 2048) (emb_0 t i l); exact h
  have hw : ∀ l, blkW m c t (ix2 l j) = weightW m c (ix2 l j) := fun l => by
    have h := congrArg (V m c main_arg1 : Mat 2048 3072) (emb_1 t l j); exact h
  show (∑ l, blkU m c t (ix2 i l) * blkW m c t (ix2 l j) : EReal) = ∑ l, rowsU m c (ix2 (row t i) l) * weightW m c (ix2 l j)
  exact Finset.sum_congr (M := EReal) rfl fun l _ => by rw [hu, hw]
/-- A point's rows of the table of factors. -/
theorem cos_block (t : Fin cfg0.N) (i : Fin 512) (l : Fin 128) : ((iblk m c 2 t : Vec Ideal S512x128 .f32) (ix2 i l) : EReal) = tableC m c (row t i) l := by
  have h := congrArg (V m c main_v0 : Mat 4096 128) (emb_2 t i l); exact h
/-- A point's rows of the table that carries the signs. -/
theorem sin_block (t : Fin cfg0.N) (i : Fin 512) (l : Fin 128) : ((iblk m c 3 t : Vec Ideal S512x128 .f32) (ix2 i l) : EReal) = tableS m c (row t i) l := by
  have h := congrArg (V m c main_v3 : Mat 4096 128) (emb_3 t i l); exact h

/-- What a point writes back to output 6 is its block of that array. -/
theorem flushed_6 (t : Fin cfg0.N) : (dats m 0 c).flushed 6 t = ((cfg0.win 6).blk t).view.read (Elt Ideal) (arr_6 m c) := by
  show (cfg0.win 6).cut (grid0.coords t) ((dats m 0 c).after 6 t) = _
  rw [after0_6]
  unfold outsAt0
  dsimp only
  funext y
  obtain ⟨i, j, rfl⟩ : ∃ (i : Fin 512) (j : Fin 1280), y = (ix2 i j : S512x1280.Idx) := ⟨y 0, y 1, eq_ix2 y⟩
  refine (out_6 _ _ _ _ _ _ _ _ _ _ _ _ _ _ _ _ _ _ _ _ _ _ _ _ _ _ i j).trans ?_
  show _ = arr_6 m c (((cfg0.win 6).blk t).view.emb (ix2 i j))
  rw [emb_6]
  exact prod_block m c t i _

/-- What a point writes back to output 7 is its block of that array. -/
theorem flushed_7 (t : Fin cfg0.N) : (dats m 0 c).flushed 7 t = ((cfg0.win 7).blk t).view.read (Elt Ideal) (arr_7 m c) := by
  show (cfg0.win 7).cut (grid0.coords t) ((dats m 0 c).after 7 t) = _
  rw [after0_7]
  unfold outsAt0
  dsimp only
  rw [out_7]
  funext y
  obtain ⟨i, j, rfl⟩ : ∃ (i : Fin 512) (j : Fin 3072), y = (ix2 i j : S512x3072.Idx) := ⟨y 0, y 1, eq_ix2 y⟩
  show turnedRow (nn (blkU m c t) (blkW m c t)) (iblk m c 4 t : Mat 1 128) (iblk m c 5 t : Mat 1 128) _ _ (ix2 i j) = arr_7 m c (((cfg0.win 7).blk t).view.emb (ix2 i j))
  rw [emb_7]
  exact turnedRow_block (P := prodP m c) (q := (V m c main_arg6 : Mat 1 128)) (k := (V m c main_arg7 : Mat 1 128)) (C := tableC m c) (S := tableS m c) (r := row t)
    (prod_block m c t) (fun l => by have h := congrArg (V m c main_arg6 : Mat 1 128) (emb_4 t 0 l); exact h)
    (fun l => by have h := congrArg (V m c main_arg7 : Mat 1 128) (emb_5 t 0 l); exact h) (cos_block m c t) (sin_block m c t) i j

/-- After the call output 6 holds it. -/
theorem final_6 : ((dats m 0 c).arrAt 6 cfg0.N : FVec Ideal S4096x1280 .f32) = arr_6 m c := by
  have hN : cfg0.N = 8 := N_0
  refine (dats m 0 c).arrAt_eq_of_cover 6 (arr_6 m c) (fun t _ => flushed_6 m c t) fun y => ?_
  obtain ⟨r, s, rfl⟩ : ∃ (r : Fin 4096) (s : Fin 1280), y = (ix2 r s : S4096x1280.Idx) := ⟨y 0, y 1, eq_ix2 y⟩
  have ht : r.val / 512 < cfg0.N := by omega
  refine ⟨⟨r.val / 512, ht⟩, flush0_6 _, ?_⟩
  have hm := ((cfg0.win 6).blk ⟨r.val / 512, ht⟩).view.emb_mem_set (ix2 (⟨r.val % 512, by omega⟩ : Fin 512) s)
  rw [emb_6] at hm
  have e : (ix2 r s : S4096x1280.Idx) = ix2 (row ⟨r.val / 512, ht⟩ (⟨r.val % 512, by omega⟩ : Fin 512)) s := by
    funext a; apply Fin.ext
    match a with
    | ⟨0, _⟩ => show r.val = 512 * (r.val / 512) + r.val % 512; omega
    | ⟨1, _⟩ => rfl
  rw [e]; exact hm

/-- After the call output 7 holds it. -/
theorem final_7 : ((dats m 0 c).arrAt 7 cfg0.N : FVec Ideal S4096x3072 .bf16) = arr_7 m c := by
  have hN : cfg0.N = 8 := N_0
  refine (dats m 0 c).arrAt_eq_of_cover 7 (arr_7 m c) (fun t _ => flushed_7 m c t) fun y => ?_
  obtain ⟨r, s, rfl⟩ : ∃ (r : Fin 4096) (s : Fin 3072), y = (ix2 r s : S4096x3072.Idx) := ⟨y 0, y 1, eq_ix2 y⟩
  have ht : r.val / 512 < cfg0.N := by omega
  refine ⟨⟨r.val / 512, ht⟩, flush0_7 _, ?_⟩
  have hm := ((cfg0.win 7).blk ⟨r.val / 512, ht⟩).view.emb_mem_set (ix2 (⟨r.val % 512, by omega⟩ : Fin 512) s)
  rw [emb_7] at hm
  have e : (ix2 r s : S4096x3072.Idx) = ix2 (row ⟨r.val / 512, ht⟩ (⟨r.val % 512, by omega⟩ : Fin 512)) s := by
    funext a; apply Fin.ext
    match a with
    | ⟨0, _⟩ => show r.val = 512 * (r.val / 512) + r.val % 512; omega
    | ⟨1, _⟩ => rfl
  rw [e]; exact hm

end

end Cert.ProjArray
end
-- ==== Proof.ProjTables.lean ====
/- The two tables of factors: what the lines before the call put together. -/
module

public import proofs.«01_k».proof.Proof.ProjArray

@[expose] public section

set_option maxRecDepth 16384

noncomputable section

open Idealize.ShloMosaic Idealize.ShloMosaic.TcCoe Idealize.ShloMosaic.ValueIdx Cert.InProjIdeal Cert.InProjIdeal.Gen Cert.MatSpec Cert.NormSpec Cert.HeadSpec Cert.ProjArray
open scoped BigOperators

namespace Cert.ProjTables

/-- Four tables side by side. -/
def beside (a b d e : FVec Ideal S4096x32 .f32) (h : Shape.Concatenates [S4096x32, S4096x32, S4096x32, S4096x32] S4096x128 1) : FVec Ideal S4096x128 .f32 :=
  concatenate S4096x128 1 [⟨S4096x32, a⟩, ⟨S4096x32, b⟩, ⟨S4096x32, d⟩, ⟨S4096x32, e⟩] h

/-- Which of the four an entry comes from. -/
theorem beside_apply (a b d e : FVec Ideal S4096x32 .f32) (h : Shape.Concatenates [S4096x32, S4096x32, S4096x32, S4096x32] S4096x128 1) (r : Fin 4096) (l : Fin 128) :
    (beside a b d e h (ix2 r l) : EReal) = if l.val < 32 then a (ix2 r (⟨l.val % 32, by omega⟩ : Fin 32)) else if l.val < 64 then b (ix2 r (⟨l.val % 32, by omega⟩ : Fin 32))
      else if l.val < 96 then d (ix2 r (⟨l.val % 32, by omega⟩ : Fin 32)) else e (ix2 r (⟨l.val % 32, by omega⟩ : Fin 32)) := by
  have off : ∀ (j : Fin 32) (x : Fin S4096x32.rank), x.cast (rfl : S4096x32.rank = S4096x128.rank) ≠ 1 →
      ((ix2 r j : S4096x32.Idx) x).val = ((ix2 r l : S4096x128.Idx) (x.cast rfl)).val := fun j x hx => by
    match x with
    | ⟨0, _⟩ => rfl
    | ⟨1, _⟩ => exact absurd rfl hx
  unfold beside
  by_cases h1 : l.val < 32
  · rw [if_pos h1]
    exact concatenate_apply_piece (t := S4096x128) 1 [⟨S4096x32, a⟩, ⟨S4096x32, b⟩, ⟨S4096x32, d⟩, ⟨S4096x32, e⟩] h (ix2 r l) 0 (by show 0 < 4; omega) S4096x32 a rfl rfl 0 rfl (ix2 r (⟨l.val % 32, by omega⟩ : Fin 32)) (off _)
      (by show 0 + l.val % 32 = l.val; omega)
  rw [if_neg h1]
  by_cases h2 : l.val < 64
  · rw [if_pos h2]
    exact concatenate_apply_piece (t := S4096x128) 1 [⟨S4096x32, a⟩, ⟨S4096x32, b⟩, ⟨S4096x32, d⟩, ⟨S4096x32, e⟩] h (ix2 r l) 1 (by show 1 < 4; omega) S4096x32 b rfl rfl 32 rfl (ix2 r (⟨l.val % 32, by omega⟩ : Fin 32)) (off _)
      (by show 32 + l.val % 32 = l.val; omega)
  rw [if_neg h2]
  by_cases h3 : l.val < 96
  · rw [if_pos h3]
    exact concatenate_apply_piece (t := S4096x128) 1 [⟨S4096x32, a⟩, ⟨S4096x32, b⟩, ⟨S4096x32, d⟩, ⟨S4096x32, e⟩] h (ix2 r l) 2 (by show 2 < 4; omega) S4096x32 d rfl rfl 64 rfl (ix2 r (⟨l.val % 32, by omega⟩ : Fin 32)) (off _)
      (by show 64 + l.val % 32 = l.val; omega)
  rw [if_neg h3]
  exact concatenate_apply_piece (t := S4096x128) 1 [⟨S4096x32, a⟩, ⟨S4096x32, b⟩, ⟨S4096x32, d⟩, ⟨S4096x32, e⟩] h (ix2 r l) 3 (by show 3 < 4; omega) S4096x32 e rfl rfl 96 rfl (ix2 r (⟨l.val % 32, by omega⟩ : Fin 32)) (off _)
    (by show 96 + l.val % 32 = l.val; omega)

/-- The table of factors, entry by entry. -/
theorem beside_pick (A B : FVec Ideal S4096x32 .f32) (h : Shape.Concatenates [S4096x32, S4096x32, S4096x32, S4096x32] S4096x128 1) (r : Fin 4096) (l : Fin 128) : (beside A A B B h (ix2 r l) : EReal) = pick (A : Mat 4096 32) (B : Mat 4096 32) r l := by
  rw [beside_apply]
  unfold pick
  by_cases h1 : l.val < 32
  · rw [if_pos h1, if_pos (by omega : l.val < 64)]
  rw [if_neg h1]
  by_cases h2 : l.val < 64
  · rw [if_pos h2, if_pos h2]
  rw [if_neg h2, if_neg h2]
  by_cases h3 : l.val < 96
  · rw [if_pos h3]
  rw [if_neg h3]
/-- The table that carries the signs, entry by entry. -/
theorem beside_pickSigned (A B : FVec Ideal S4096x32 .f32) (h : Shape.Concatenates [S4096x32, S4096x32, S4096x32, S4096x32] S4096x128 1) (r : Fin 4096) (l : Fin 128) :
    (beside (Host.negf A) A (Host.negf B) B h (ix2 r l) : EReal) = pickSigned (A : Mat 4096 32) (B : Mat 4096 32) r l := by
  rw [beside_apply]
  unfold pickSigned pick
  by_cases h1 : l.val < 32
  · rw [if_pos h1, if_pos (by omega : l.val % 64 < 32), if_pos (by omega : l.val < 64)]
    rfl
  rw [if_neg h1]
  by_cases h2 : l.val < 64
  · rw [if_pos h2, if_pos h2, if_neg (by omega : ¬l.val % 64 < 32)]
  rw [if_neg h2, if_neg h2]
  by_cases h3 : l.val < 96
  · rw [if_pos h3, if_pos (by omega : l.val % 64 < 32)]
    rfl
  rw [if_neg h3, if_neg (by omega : ¬l.val % 64 < 32)]

section
variable (m : (ℓ : Loc nD τ sig) → Buf (Elt Ideal) ℓ) (c : Dev nD)

/-- The table of factors the call is given. -/
theorem table_cos (r : Fin 4096) (l : Fin 128) : tableC m c r l = pick (V m c main_arg2 : Mat 4096 32) (V m c main_arg4 : Mat 4096 32) r l := by
  have e : (V m c main_v0 : FVec Ideal S4096x128 .f32) = beside (V m c main_arg2) (V m c main_arg2) (V m c main_arg4) (V m c main_arg4)
      concatenates_S4096x32_S4096x32_S4096x32_S4096x32_S4096x128_d1 := by
    rw [V_main_arg2, V_main_arg4]
    show StableHlo.after hostOps0 _ (Proc.devRef .tc main_v0) = _
    unfold hostOps0
    rw [StableHlo.after_cons, StableHlo.after_cons, StableHlo.after_cons, StableHlo.after_cons, StableHlo.after_nil, StableHlo.nary_result_ne _ _ _ _ _ _ (by decide),
      StableHlo.unary_result_ne _ _ _ _ _ _ (by decide), StableHlo.unary_result_ne _ _ _ _ _ _ (by decide), StableHlo.nary_result]
    rfl
  have h := congrFun e (ix2 r l)
  exact h.trans (beside_pick _ _ _ r l)
/-- The table that carries the signs. -/
theorem table_sin (r : Fin 4096) (l : Fin 128) : tableS m c r l = pickSigned (V m c main_arg3 : Mat 4096 32) (V m c main_arg5 : Mat 4096 32) r l := by
  have e : (V m c main_v3 : FVec Ideal S4096x128 .f32) = beside (Host.negf (V m c main_arg3)) (V m c main_arg3) (Host.negf (V m c main_arg5)) (V m c main_arg5)
      concatenates_S4096x32_S4096x32_S4096x32_S4096x32_S4096x128_d1 := by
    rw [V_main_arg3, V_main_arg5]
    show StableHlo.after hostOps0 _ (Proc.devRef .tc main_v3) = _
    unfold hostOps0
    rw [StableHlo.after_cons, StableHlo.after_cons, StableHlo.after_cons, StableHlo.after_cons, StableHlo.after_nil, StableHlo.nary_result]
    rfl
  have h := congrFun e (ix2 r l)
  exact h.trans (beside_pickSigned _ _ _ r l)
end

end Cert.ProjTables
end
end
-- ==== Proof.ProjRun.lean ====
/- The projection of the rows and the norm and rotation of its heads: what the whole program leaves in its results. -/
module

public import proofs.«01_k».proof.Proof.ProjTables

@[expose] public section

set_option maxRecDepth 16384

noncomputable section

open Idealize.ShloMosaic Idealize.ShloMosaic.TcCoe Idealize.ShloMosaic.ValueIdx Idealize.SL.Sem
open Cert.InProjIdeal Cert.InProjIdeal.Gen Cert.MatSpec Cert.NormSpec Cert.HeadSpec Cert.ProjArray Cert.ProjTables
open scoped BigOperators

namespace Cert.ProjRun

section
variable (m : (ℓ : Loc nD τ sig) → Buf (Elt Ideal) ℓ) (c : Dev nD)

/-- The array of the normed and turned heads, with the tables written out. -/
def turnedArray : Mat 4096 3072 := turnedRow (prodP m c) (V m c main_arg6 : Mat 1 128) (V m c main_arg7 : Mat 1 128)
  (pick (V m c main_arg2 : Mat 4096 32) (V m c main_arg4 : Mat 4096 32)) (pickSigned (V m c main_arg3 : Mat 4096 32) (V m c main_arg5 : Mat 4096 32))
/-- It is what the call leaves. -/
theorem arr_7_eq : arr_7 m c = turnedArray m c := by
  have hc : tableC m c = pick (V m c main_arg2 : Mat 4096 32) (V m c main_arg4 : Mat 4096 32) := funext fun r => funext fun l => table_cos m c r l
  have hs : tableS m c = pickSigned (V m c main_arg3 : Mat 4096 32) (V m c main_arg5 : Mat 4096 32) := funext fun r => funext fun l => table_sin m c r l
  unfold arr_7 turnedArray
  rw [hc, hs]
end

/-- Every fair execution ends with the results at what they should hold, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4_0) = arr_6 m c
      ∧ r.2.mem ((c.tc : Thread nD τ).loc main_v4_1) = turnedArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).1 6).trans (final_6 m c),
      ((h c).1 7).trans ((final_7 m c).trans (arr_7_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c)))⟩)
    (run_main m ρ)

end Cert.ProjRun
end
-- ==== Proof.ProjRef.lean ====
/- The projection of the rows and the norm and rotation of its heads: what the reference computes. -/
module

public import proofs.«01_k».proof.Proof.HeadSpec
public import proofs.«01_k».proof.Proof.Gen.InProjReferenceIdeal.Read

@[expose] public section

set_option maxRecDepth 16384

noncomputable section

open Idealize.ShloMosaic Idealize.ShloMosaic.ValueIdx Cert.MatSpec Cert.NormSpec Cert.HeadSpec
open Cert.InProjReferenceIdeal Cert.InProjReferenceIdeal.Read
open scoped BigOperators

namespace Cert.ProjRef

/-- A table's entry in the first half of a head. -/
theorem pick_first (A B : Mat 4096 32) (r : Fin 4096) (l : Fin 128) (j : Fin 32) (h : l.val < 64) (hj : l.val % 32 = j.val) : pick A B r l = A (ix2 r j) := by
  have e : (⟨l.val % 32, by omega⟩ : Fin 32) = j := Fin.ext hj
  unfold pick
  rw [if_pos h, e]
/-- A table's entry in the second half of a head. -/
theorem pick_second (A B : Mat 4096 32) (r : Fin 4096) (l : Fin 128) (j : Fin 32) (h : ¬l.val < 64) (hj : l.val % 32 = j.val) : pick A B r l = B (ix2 r j) := by
  have e : (⟨l.val % 32, by omega⟩ : Fin 32) = j := Fin.ext hj
  unfold pick
  rw [if_neg h, e]
/-- The other entry of a first entry. -/
theorem partner_first (l k : Fin 128) (h : l.val % 64 < 32) (hk : k.val = l.val + 32) : partner l = k := Fin.ext (by
  show (if l.val % 64 < 32 then l.val + 32 else l.val - 32) = k.val
  rw [if_pos h]; omega)
/-- The other entry of a second entry. -/
theorem partner_second (l k : Fin 128) (h : ¬l.val % 64 < 32) (hk : k.val = l.val - 32) : partner l = k := Fin.ext (by
  show (if l.val % 64 < 32 then l.val + 32 else l.val - 32) = k.val
  rw [if_neg h]; omega)

section
variable (U : FVec Ideal S4096x2048 .bf16) (W : FVec Ideal S2048x3072 .bf16) (CR SR CC SC : FVec Ideal S4096x32 .f32) (GQ GK : FVec Ideal S1x128 .f32)

/-- The product. -/
abbrev prod : Mat 4096 3072 := nn (U : Mat 4096 2048) (W : Mat 2048 3072)

/-- The reference's product, entry by entry. -/
theorem prod_eq (r : Fin 4096) (j : Fin 3072) : (val_main_v2 (F := Ideal) U W : FVec Ideal S4096x3072 .f32) (ix2 r j) = prod U W (ix2 r j) := by
  rw [val_main_v2_apply]
  refine Finset.sum_congr (M := EReal) rfl fun l _ => ?_
  have e1 : lidx_main_v2 (ix2 r j) l = ix2 r l := by funext a; match a with | ⟨0, _⟩ => rfl | ⟨1, _⟩ => rfl
  have e2 : ridx_main_v2 (ix2 r j) l = ix2 l j := by funext a; match a with | ⟨0, _⟩ => rfl | ⟨1, _⟩ => rfl
  rw [e1, e2, val_main_v0_apply, val_main_v1_apply]
  rfl

/-- The entries of the queries. -/
theorem head_q (r : Fin 4096) (h : Fin 8) (l : Fin 128) : (val_main_v8 (F := Ideal) U W : FVec Ideal S4096x8x128 .f32) (ix3 r h l) = head (prod U W) r (⟨h.val, by omega⟩ : Fin 10) l := by
  have e : idx_main_v7 (idx_main_v8 (ix3 r h l)) = ix2 r (⟨128 * (h.val) + l.val, by omega⟩ : Fin 3072) := by
    funext a
    match a with
    | ⟨0, _⟩ => exact Fin.ext (by show ((r.val * 8 + h.val) * 128 + l.val) / 1024 = r.val; omega)
    | ⟨1, _⟩ => exact Fin.ext (by show ((r.val * 8 + h.val) * 128 + l.val) % 1024 = 128 * (h.val) + l.val; omega)
  rw [val_main_v8_apply, val_main_v7_apply, e, prod_eq]

/-- The factor of the norm of the queries. -/
theorem factor_q (r : Fin 4096) (h : Fin 8) (j : Fin 1) : (val_main_v16 (F := Ideal) U W : FVec Ideal S4096x8x1 .f32) (ix3 r h j) = factor (head (prod U W) r (⟨h.val, by omega⟩ : Fin 10)) := by
  rw [val_main_v16_apply, val_main_v15_apply, val_main_v13_apply, val_main_v11_apply, val_main_v10_apply, val_main_v12_apply, val_main_v14_apply]
  show Ideal.rsqrt (Ideal.div (Ideal.ofBits .f32 0x00000000#32 + ∑ k : Fin 128, (val_main_v9 (F := Ideal) U W (idx_main_v10 (idx_main_v11 (ix3 r h j)) k) : EReal)) width + eps) = _
  rw [Ideal.ofBits_zero_f32, zero_add]
  refine congrArg (fun s => Ideal.rsqrt (Ideal.div s width + eps)) (Finset.sum_congr (M := EReal) rfl fun l _ => ?_)
  have e : idx_main_v10 (idx_main_v11 (ix3 r h j)) l = ix3 r h l := by funext a; match a with | ⟨0, _⟩ => rfl | ⟨1, _⟩ => rfl | ⟨2, _⟩ => rfl
  rw [e, val_main_v9_apply, head_q]
  rfl

/-- The queries after the norm and the gain. -/
theorem normed_q (r : Fin 4096) (h : Fin 8) (l : Fin 128) : (val_main_v21 (F := Ideal) U W GQ : FVec Ideal S4096x8x128 .f32) (ix3 r h l)
    = normed (head (prod U W) r (⟨h.val, by omega⟩ : Fin 10)) (fun l => (GQ : Mat 1 128) (ix2 (0 : Fin 1) l)) l := by
  have e1 : idx_main_v17 (ix3 r h l) = ix3 r h (0 : Fin 1) := by funext a; match a with | ⟨0, _⟩ => rfl | ⟨1, _⟩ => rfl | ⟨2, _⟩ => rfl
  have e2 : idx_main_v19 (idx_main_v20 (ix3 r h l)) = ix2 (0 : Fin 1) l := by funext a; match a with | ⟨0, _⟩ => rfl | ⟨1, _⟩ => rfl
  rw [val_main_v21_apply, val_main_v18_apply, val_main_v17_apply, val_main_v20_apply, val_main_v19_apply, e1, e2, factor_q, head_q]
  rfl

/-- The queries after the norm and the rotation. -/
abbrev turned_q (r : Fin 4096) (h : Fin 8) : Fin 128 → EReal :=
  turned (head (prod U W) r (⟨h.val, by omega⟩ : Fin 10)) (fun l => (GQ : Mat 1 128) (ix2 (0 : Fin 1) l)) (pick (CR : Mat 4096 32) (CC : Mat 4096 32) r) (pickSigned (SR : Mat 4096 32) (SC : Mat 4096 32) r)

/-- The first entries of the pairs before the rotation. -/
theorem first_q_low (r : Fin 4096) (h : Fin 8) (j : Fin 32) : (val_main_v23 (F := Ideal) U W GQ : FVec Ideal S4096x8x32 .f32) (ix3 r h j)
    = normed (head (prod U W) r (⟨h.val, by omega⟩ : Fin 10)) (fun l => (GQ : Mat 1 128) (ix2 (0 : Fin 1) l)) (⟨j.val, by omega⟩ : Fin 128) := by
  have e : idx_main_v22 (idx_main_v23 (ix3 r h j)) = ix3 r h (⟨j.val, by omega⟩ : Fin 128) := by funext a; match a with | ⟨0, _⟩ => rfl | ⟨1, _⟩ => rfl | ⟨2, _⟩ => rfl
  rw [val_main_v23_apply, val_main_v22_apply, e, normed_q]
/-- The second entries of the pairs before the rotation. -/
theorem second_q_low (r : Fin 4096) (h : Fin 8) (j : Fin 32) : (val_main_v24 (F := Ideal) U W GQ : FVec Ideal S4096x8x32 .f32) (ix3 r h j)
    = normed (head (prod U W) r (⟨h.val, by omega⟩ : Fin 10)) (fun l => (GQ : Mat 1 128) (ix2 (0 : Fin 1) l)) (⟨32 + j.val, by omega⟩ : Fin 128) := by
  have e : idx_main_v22 (idx_main_v24 (ix3 r h j)) = ix3 r h (⟨32 + j.val, by omega⟩ : Fin 128) := by
    funext a
    match a with
    | ⟨0, _⟩ => rfl
    | ⟨1, _⟩ => rfl
    | ⟨2, _⟩ => exact Fin.ext (by show (32 + j.val) = 32 + j.val; omega)
  rw [val_main_v24_apply, val_main_v22_apply, e, normed_q]
/-- The first entries of the pairs after the rotation. -/
theorem out_first_q_low (r : Fin 4096) (h : Fin 8) (j : Fin 32) : (val_main_v29 (F := Ideal) U W CR SR GQ : FVec Ideal S4096x8x32 .f32) (ix3 r h j)
    = turned_q U W CR SR CC SC GQ r h (⟨j.val, by omega⟩ : Fin 128) := by
  have e1 : idx_main_v3 (idx_main_v25 (ix3 r h j)) = ix2 r j := by funext a; match a with | ⟨0, _⟩ => rfl | ⟨1, _⟩ => rfl
  have e2 : idx_main_v4 (idx_main_v27 (ix3 r h j)) = ix2 r j := by funext a; match a with | ⟨0, _⟩ => rfl | ⟨1, _⟩ => rfl
  have hl : ((⟨j.val, by omega⟩ : Fin 128)).val % 64 < 32 := by show (j.val) % 64 < 32; omega
  rw [val_main_v29_apply, val_main_v26_apply, val_main_v28_apply, val_main_v25_apply, val_main_v3_apply, val_main_v27_apply, val_main_v4_apply, e1, e2, first_q_low, second_q_low]
  unfold turned_q
  rw [turned_first _ _ _ _ _ _ _ _ hl, partner_first (⟨j.val, by omega⟩ : Fin 128) (⟨32 + j.val, by omega⟩ : Fin 128) hl (by show 32 + j.val = j.val + 32; omega),
    pick_first (CR : Mat 4096 32) (CC : Mat 4096 32) r _ j (by show j.val < 64; omega) (by show (j.val) % 32 = j.val; omega), pick_first (SR : Mat 4096 32) (SC : Mat 4096 32) r _ j (by show j.val < 64; omega) (by show (j.val) % 32 = j.val; omega)]
  rfl
/-- The second entries of the pairs after the rotation. -/
theorem out_second_q_low (r : Fin 4096) (h : Fin 8) (j : Fin 32) : (val_main_v34 (F := Ideal) U W CR SR GQ : FVec Ideal S4096x8x32 .f32) (ix3 r h j)
    = turned_q U W CR SR CC SC GQ r h (⟨32 + j.val, by omega⟩ : Fin 128) := by
  have e1 : idx_main_v3 (idx_main_v30 (ix3 r h j)) = ix2 r j := by funext a; match a with | ⟨0, _⟩ => rfl | ⟨1, _⟩ => rfl
  have e2 : idx_main_v4 (idx_main_v32 (ix3 r h j)) = ix2 r j := by funext a; match a with | ⟨0, _⟩ => rfl | ⟨1, _⟩ => rfl
  have hl : ¬((⟨32 + j.val, by omega⟩ : Fin 128)).val % 64 < 32 := by show ¬(32 + j.val) % 64 < 32; omega
  rw [val_main_v34_apply, val_main_v31_apply, val_main_v33_apply, val_main_v30_apply, val_main_v3_apply, val_main_v32_apply, val_main_v4_apply, e1, e2, first_q_low, second_q_low]
  unfold turned_q
  rw [turned_second _ _ _ _ _ _ _ _ hl, partner_second (⟨32 + j.val, by omega⟩ : Fin 128) (⟨j.val, by omega⟩ : Fin 128) hl (by show j.val = 32 + j.val - 32; omega),
    pick_first (CR : Mat 4096 32) (CC : Mat 4096 32) r _ j (by show 32 + j.val < 64; omega) (by show (32 + j.val) % 32 = j.val; omega), pick_first (SR : Mat 4096 32) (SC : Mat 4096 32) r _ j (by show 32 + j.val < 64; omega) (by show (32 + j.val) % 32 = j.val; omega)]
  rfl
/-- A half of the queries. -/
theorem half_q_low (r : Fin 4096) (h : Fin 8) (k : Fin 64) : (val_main_v35 (F := Ideal) U W CR SR GQ : FVec Ideal S4096x8x64 .f32) (ix3 r h k)
    = turned_q U W CR SR CC SC GQ r h (⟨k.val, by omega⟩ : Fin 128) := by
  unfold val_main_v35
  by_cases hk : k.val < 32
  · refine (concatenate_pair_apply_left (t := S4096x8x64) (s₁ := S4096x8x32) (s₂ := S4096x8x32) 2 _ _ _ (ix3 r h k) rfl (ix3 r h (⟨k.val, hk⟩ : Fin 32)) (fun x => by
      match x with
      | ⟨0, _⟩ => rfl
      | ⟨1, _⟩ => rfl
      | ⟨2, _⟩ => rfl)).trans ?_
    exact out_first_q_low U W CR SR CC SC GQ r h (⟨k.val, hk⟩ : Fin 32)
  · refine (concatenate_pair_apply_right (t := S4096x8x64) (s₁ := S4096x8x32) (s₂ := S4096x8x32) 2 _ _ _ (ix3 r h k) rfl rfl (ix3 r h (⟨k.val - 32, by omega⟩ : Fin 32)) (fun x hx => by
      match x with
      | ⟨0, _⟩ => rfl
      | ⟨1, _⟩ => rfl
      | ⟨2, _⟩ => exact absurd rfl hx) (by show k.val - 32 + 32 = k.val; omega)).trans ?_
    refine (out_second_q_low U W CR SR CC SC GQ r h (⟨k.val - 32, by omega⟩ : Fin 32)).trans ?_
    exact congrArg _ (Fin.ext (by show 32 + (k.val - 32) = k.val; omega))

/-- The first entries of the pairs before the rotation. -/
theorem first_q_high (r : Fin 4096) (h : Fin 8) (j : Fin 32) : (val_main_v37 (F := Ideal) U W GQ : FVec Ideal S4096x8x32 .f32) (ix3 r h j)
    = normed (head (prod U W) r (⟨h.val, by omega⟩ : Fin 10)) (fun l => (GQ : Mat 1 128) (ix2 (0 : Fin 1) l)) (⟨64 + j.val, by omega⟩ : Fin 128) := by
  have e : idx_main_v36 (idx_main_v37 (ix3 r h j)) = ix3 r h (⟨64 + j.val, by omega⟩ : Fin 128) := by funext a; match a with | ⟨0, _⟩ => rfl | ⟨1, _⟩ => rfl | ⟨2, _⟩ => rfl
  rw [val_main_v37_apply, val_main_v36_apply, e, normed_q]
/-- The second entries of the pairs before the rotation. -/
theorem second_q_high (r : Fin 4096) (h : Fin 8) (j : Fin 32) : (val_main_v38 (F := Ideal) U W GQ : FVec Ideal S4096x8x32 .f32) (ix3 r h j)
    = normed (head (prod U W) r (⟨h.val, by omega⟩ : Fin 10)) (fun l => (GQ : Mat 1 128) (ix2 (0 : Fin 1) l)) (⟨96 + j.val, by omega⟩ : Fin 128) := by
  have e : idx_main_v36 (idx_main_v38 (ix3 r h j)) = ix3 r h (⟨96 + j.val, by omega⟩ : Fin 128) := by
    funext a
    match a with
    | ⟨0, _⟩ => rfl
    | ⟨1, _⟩ => rfl
    | ⟨2, _⟩ => exact Fin.ext (by show 64 + (32 + j.val) = 96 + j.val; omega)
  rw [val_main_v38_apply, val_main_v36_apply, e, normed_q]
/-- The first entries of the pairs after the rotation. -/
theorem out_first_q_high (r : Fin 4096) (h : Fin 8) (j : Fin 32) : (val_main_v43 (F := Ideal) U W CC SC GQ : FVec Ideal S4096x8x32 .f32) (ix3 r h j)
    = turned_q U W CR SR CC SC GQ r h (⟨64 + j.val, by omega⟩ : Fin 128) := by
  have e1 : idx_main_v5 (idx_main_v39 (ix3 r h j)) = ix2 r j := by funext a; match a with | ⟨0, _⟩ => rfl | ⟨1, _⟩ => rfl
  have e2 : idx_main_v6 (idx_main_v41 (ix3 r h j)) = ix2 r j := by funext a; match a with | ⟨0, _⟩ => rfl | ⟨1, _⟩ => rfl
  have hl : ((⟨64 + j.val, by omega⟩ : Fin 128)).val % 64 < 32 := by show (64 + j.val) % 64 < 32; omega
  rw [val_main_v43_apply, val_main_v40_apply, val_main_v42_apply, val_main_v39_apply, val_main_v5_apply, val_main_v41_apply, val_main_v6_apply, e1, e2, first_q_high, second_q_high]
  unfold turned_q
  rw [turned_first _ _ _ _ _ _ _ _ hl, partner_first (⟨64 + j.val, by omega⟩ : Fin 128) (⟨96 + j.val, by omega⟩ : Fin 128) hl (by show 96 + j.val = 64 + j.val + 32; omega),
    pick_second (CR : Mat 4096 32) (CC : Mat 4096 32) r _ j (by show ¬64 + j.val < 64; omega) (by show (64 + j.val) % 32 = j.val; omega), pick_second (SR : Mat 4096 32) (SC : Mat 4096 32) r _ j (by show ¬64 + j.val < 64; omega) (by show (64 + j.val) % 32 = j.val; omega)]
  rfl
/-- The second entries of the pairs after the rotation. -/
theorem out_second_q_high (r : Fin 4096) (h : Fin 8) (j : Fin 32) : (val_main_v48 (F := Ideal) U W CC SC GQ : FVec Ideal S4096x8x32 .f32) (ix3 r h j)
    = turned_q U W CR SR CC SC GQ r h (⟨96 + j.val, by omega⟩ : Fin 128) := by
  have e1 : idx_main_v5 (idx_main_v44 (ix3 r h j)) = ix2 r j := by funext a; match a with | ⟨0, _⟩ => rfl | ⟨1, _⟩ => rfl
  have e2 : idx_main_v6 (idx_main_v46 (ix3 r h j)) = ix2 r j := by funext a; match a with | ⟨0, _⟩ => rfl | ⟨1, _⟩ => rfl
  have hl : ¬((⟨96 + j.val, by omega⟩ : Fin 128)).val % 64 < 32 := by show ¬(96 + j.val) % 64 < 32; omega
  rw [val_main_v48_apply, val_main_v45_apply, val_main_v47_apply, val_main_v44_apply, val_main_v5_apply, val_main_v46_apply, val_main_v6_apply, e1, e2, first_q_high, second_q_high]
  unfold turned_q
  rw [turned_second _ _ _ _ _ _ _ _ hl, partner_second (⟨96 + j.val, by omega⟩ : Fin 128) (⟨64 + j.val, by omega⟩ : Fin 128) hl (by show 64 + j.val = 96 + j.val - 32; omega),
    pick_second (CR : Mat 4096 32) (CC : Mat 4096 32) r _ j (by show ¬96 + j.val < 64; omega) (by show (96 + j.val) % 32 = j.val; omega), pick_second (SR : Mat 4096 32) (SC : Mat 4096 32) r _ j (by show ¬96 + j.val < 64; omega) (by show (96 + j.val) % 32 = j.val; omega)]
  rfl
/-- A half of the queries. -/
theorem half_q_high (r : Fin 4096) (h : Fin 8) (k : Fin 64) : (val_main_v49 (F := Ideal) U W CC SC GQ : FVec Ideal S4096x8x64 .f32) (ix3 r h k)
    = turned_q U W CR SR CC SC GQ r h (⟨64 + k.val, by omega⟩ : Fin 128) := by
  unfold val_main_v49
  by_cases hk : k.val < 32
  · refine (concatenate_pair_apply_left (t := S4096x8x64) (s₁ := S4096x8x32) (s₂ := S4096x8x32) 2 _ _ _ (ix3 r h k) rfl (ix3 r h (⟨k.val, hk⟩ : Fin 32)) (fun x => by
      match x with
      | ⟨0, _⟩ => rfl
      | ⟨1, _⟩ => rfl
      | ⟨2, _⟩ => rfl)).trans ?_
    exact out_first_q_high U W CR SR CC SC GQ r h (⟨k.val, hk⟩ : Fin 32)
  · refine (concatenate_pair_apply_right (t := S4096x8x64) (s₁ := S4096x8x32) (s₂ := S4096x8x32) 2 _ _ _ (ix3 r h k) rfl rfl (ix3 r h (⟨k.val - 32, by omega⟩ : Fin 32)) (fun x hx => by
      match x with
      | ⟨0, _⟩ => rfl
      | ⟨1, _⟩ => rfl
      | ⟨2, _⟩ => exact absurd rfl hx) (by show k.val - 32 + 32 = k.val; omega)).trans ?_
    refine (out_second_q_high U W CR SR CC SC GQ r h (⟨k.val - 32, by omega⟩ : Fin 32)).trans ?_
    exact congrArg _ (Fin.ext (by show 96 + (k.val - 32) = 64 + k.val; omega))

/-- The queries after the norm and the rotation, as the reference puts them together. -/
theorem whole_q (r : Fin 4096) (h : Fin 8) (l : Fin 128) : (val_main_v50 (F := Ideal) U W CR SR CC SC GQ : FVec Ideal S4096x8x128 .f32) (ix3 r h l)
    = turned_q U W CR SR CC SC GQ r h l := by
  unfold val_main_v50
  by_cases hk : l.val < 64
  · refine (concatenate_pair_apply_left (t := S4096x8x128) (s₁ := S4096x8x64) (s₂ := S4096x8x64) 2 _ _ _ (ix3 r h l) rfl (ix3 r h (⟨l.val, hk⟩ : Fin 64)) (fun x => by
      match x with
      | ⟨0, _⟩ => rfl
      | ⟨1, _⟩ => rfl
      | ⟨2, _⟩ => rfl)).trans ?_
    exact half_q_low U W CR SR CC SC GQ r h (⟨l.val, hk⟩ : Fin 64)
  · refine (concatenate_pair_apply_right (t := S4096x8x128) (s₁ := S4096x8x64) (s₂ := S4096x8x64) 2 _ _ _ (ix3 r h l) rfl rfl (ix3 r h (⟨l.val - 64, by omega⟩ : Fin 64)) (fun x hx => by
      match x with
      | ⟨0, _⟩ => rfl
      | ⟨1, _⟩ => rfl
      | ⟨2, _⟩ => exact absurd rfl hx) (by show l.val - 64 + 64 = l.val; omega)).trans ?_
    refine (half_q_high U W CR SR CC SC GQ r h (⟨l.val - 64, by omega⟩ : Fin 64)).trans ?_
    exact congrArg _ (Fin.ext (by show 64 + (l.val - 64) = l.val; omega))
/-- They lie side by side. -/
theorem flat_q (r : Fin 4096) (h : Fin 8) (l : Fin 128) : (val_main_v51 (F := Ideal) U W CR SR CC SC GQ : FVec Ideal S4096x1024 .f32) (ix2 r (⟨128 * h.val + l.val, by omega⟩ : Fin 1024))
    = turned_q U W CR SR CC SC GQ r h l := by
  have e : idx_main_v51 (ix2 r (⟨128 * h.val + l.val, by omega⟩ : Fin 1024)) = ix3 r h l := by
    funext a
    match a with
    | ⟨0, _⟩ => exact Fin.ext (by show (r.val * 1024 + (128 * h.val + l.val)) / 1024 = r.val; omega)
    | ⟨1, _⟩ => exact Fin.ext (by show (r.val * 1024 + (128 * h.val + l.val)) / 128 % 8 = h.val; omega)
    | ⟨2, _⟩ => exact Fin.ext (by show (r.val * 1024 + (128 * h.val + l.val)) % 128 = l.val; omega)
  rw [val_main_v51_apply, e, whole_q]

/-- The entries of the keys. -/
theorem head_k (r : Fin 4096) (h : Fin 2) (l : Fin 128) : (val_main_v53 (F := Ideal) U W : FVec Ideal S4096x2x128 .f32) (ix3 r h l) = head (prod U W) r (⟨8 + h.val, by omega⟩ : Fin 10) l := by
  have e : idx_main_v52 (idx_main_v53 (ix3 r h l)) = ix2 r (⟨128 * (8 + h.val) + l.val, by omega⟩ : Fin 3072) := by
    funext a
    match a with
    | ⟨0, _⟩ => exact Fin.ext (by show ((r.val * 2 + h.val) * 128 + l.val) / 256 = r.val; omega)
    | ⟨1, _⟩ => exact Fin.ext (by show 1024 + ((r.val * 2 + h.val) * 128 + l.val) % 256 = 128 * (8 + h.val) + l.val; omega)
  rw [val_main_v53_apply, val_main_v52_apply, e, prod_eq]

/-- The factor of the norm of the keys. -/
theorem factor_k (r : Fin 4096) (h : Fin 2) (j : Fin 1) : (val_main_v61 (F := Ideal) U W : FVec Ideal S4096x2x1 .f32) (ix3 r h j) = factor (head (prod U W) r (⟨8 + h.val, by omega⟩ : Fin 10)) := by
  rw [val_main_v61_apply, val_main_v60_apply, val_main_v58_apply, val_main_v56_apply, val_main_v55_apply, val_main_v57_apply, val_main_v59_apply]
  show Ideal.rsqrt (Ideal.div (Ideal.ofBits .f32 0x00000000#32 + ∑ k : Fin 128, (val_main_v54 (F := Ideal) U W (idx_main_v55 (idx_main_v56 (ix3 r h j)) k) : EReal)) width + eps) = _
  rw [Ideal.ofBits_zero_f32, zero_add]
  refine congrArg (fun s => Ideal.rsqrt (Ideal.div s width + eps)) (Finset.sum_congr (M := EReal) rfl fun l _ => ?_)
  have e : idx_main_v55 (idx_main_v56 (ix3 r h j)) l = ix3 r h l := by funext a; match a with | ⟨0, _⟩ => rfl | ⟨1, _⟩ => rfl | ⟨2, _⟩ => rfl
  rw [e, val_main_v54_apply, head_k]
  rfl

/-- The keys after the norm and the gain. -/
theorem normed_k (r : Fin 4096) (h : Fin 2) (l : Fin 128) : (val_main_v66 (F := Ideal) U W GK : FVec Ideal S4096x2x128 .f32) (ix3 r h l)
    = normed (head (prod U W) r (⟨8 + h.val, by omega⟩ : Fin 10)) (fun l => (GK : Mat 1 128) (ix2 (0 : Fin 1) l)) l := by
  have e1 : idx_main_v62 (ix3 r h l) = ix3 r h (0 : Fin 1) := by funext a; match a with | ⟨0, _⟩ => rfl | ⟨1, _⟩ => rfl | ⟨2, _⟩ => rfl
  have e2 : idx_main_v64 (idx_main_v65 (ix3 r h l)) = ix2 (0 : Fin 1) l := by funext a; match a with | ⟨0, _⟩ => rfl | ⟨1, _⟩ => rfl
  rw [val_main_v66_apply, val_main_v63_apply, val_main_v62_apply, val_main_v65_apply, val_main_v64_apply, e1, e2, factor_k, head_k]
  rfl

/-- The keys after the norm and the rotation. -/
abbrev turned_k (r : Fin 4096) (h : Fin 2) : Fin 128 → EReal :=
  turned (head (prod U W) r (⟨8 + h.val, by omega⟩ : Fin 10)) (fun l => (GK : Mat 1 128) (ix2 (0 : Fin 1) l)) (pick (CR : Mat 4096 32) (CC : Mat 4096 32) r) (pickSigned (SR : Mat 4096 32) (SC : Mat 4096 32) r)

/-- The first entries of the pairs before the rotation. -/
theorem first_k_low (r : Fin 4096) (h : Fin 2) (j : Fin 32) : (val_main_v68 (F := Ideal) U W GK : FVec Ideal S4096x2x32 .f32) (ix3 r h j)
    = normed (head (prod U W) r (⟨8 + h.val, by omega⟩ : Fin 10)) (fun l => (GK : Mat 1 128) (ix2 (0 : Fin 1) l)) (⟨j.val, by omega⟩ : Fin 128) := by
  have e : idx_main_v67 (idx_main_v68 (ix3 r h j)) = ix3 r h (⟨j.val, by omega⟩ : Fin 128) := by funext a; match a with | ⟨0, _⟩ => rfl | ⟨1, _⟩ => rfl | ⟨2, _⟩ => rfl
  rw [val_main_v68_apply, val_main_v67_apply, e, normed_k]
/-- The second entries of the pairs before the rotation. -/
theorem second_k_low (r : Fin 4096) (h : Fin 2) (j : Fin 32) : (val_main_v69 (F := Ideal) U W GK : FVec Ideal S4096x2x32 .f32) (ix3 r h j)
    = normed (head (prod U W) r (⟨8 + h.val, by omega⟩ : Fin 10)) (fun l => (GK : Mat 1 128) (ix2 (0 : Fin 1) l)) (⟨32 + j.val, by omega⟩ : Fin 128) := by
  have e : idx_main_v67 (idx_main_v69 (ix3 r h j)) = ix3 r h (⟨32 + j.val, by omega⟩ : Fin 128) := by
    funext a
    match a with
    | ⟨0, _⟩ => rfl
    | ⟨1, _⟩ => rfl
    | ⟨2, _⟩ => exact Fin.ext (by show (32 + j.val) = 32 + j.val; omega)
  rw [val_main_v69_apply, val_main_v67_apply, e, normed_k]
/-- The first entries of the pairs after the rotation. -/
theorem out_first_k_low (r : Fin 4096) (h : Fin 2) (j : Fin 32) : (val_main_v74 (F := Ideal) U W CR SR GK : FVec Ideal S4096x2x32 .f32) (ix3 r h j)
    = turned_k U W CR SR CC SC GK r h (⟨j.val, by omega⟩ : Fin 128) := by
  have e1 : idx_main_v3 (idx_main_v70 (ix3 r h j)) = ix2 r j := by funext a; match a with | ⟨0, _⟩ => rfl | ⟨1, _⟩ => rfl
  have e2 : idx_main_v4 (idx_main_v72 (ix3 r h j)) = ix2 r j := by funext a; match a with | ⟨0, _⟩ => rfl | ⟨1, _⟩ => rfl
  have hl : ((⟨j.val, by omega⟩ : Fin 128)).val % 64 < 32 := by show (j.val) % 64 < 32; omega
  rw [val_main_v74_apply, val_main_v71_apply, val_main_v73_apply, val_main_v70_apply, val_main_v3_apply, val_main_v72_apply, val_main_v4_apply, e1, e2, first_k_low, second_k_low]
  unfold turned_k
  rw [turned_first _ _ _ _ _ _ _ _ hl, partner_first (⟨j.val, by omega⟩ : Fin 128) (⟨32 + j.val, by omega⟩ : Fin 128) hl (by show 32 + j.val = j.val + 32; omega),
    pick_first (CR : Mat 4096 32) (CC : Mat 4096 32) r _ j (by show j.val < 64; omega) (by show (j.val) % 32 = j.val; omega), pick_first (SR : Mat 4096 32) (SC : Mat 4096 32) r _ j (by show j.val < 64; omega) (by show (j.val) % 32 = j.val; omega)]
  rfl
/-- The second entries of the pairs after the rotation. -/
theorem out_second_k_low (r : Fin 4096) (h : Fin 2) (j : Fin 32) : (val_main_v79 (F := Ideal) U W CR SR GK : FVec Ideal S4096x2x32 .f32) (ix3 r h j)
    = turned_k U W CR SR CC SC GK r h (⟨32 + j.val, by omega⟩ : Fin 128) := by
  have e1 : idx_main_v3 (idx_main_v75 (ix3 r h j)) = ix2 r j := by funext a; match a with | ⟨0, _⟩ => rfl | ⟨1, _⟩ => rfl
  have e2 : idx_main_v4 (idx_main_v77 (ix3 r h j)) = ix2 r j := by funext a; match a with | ⟨0, _⟩ => rfl | ⟨1, _⟩ => rfl
  have hl : ¬((⟨32 + j.val, by omega⟩ : Fin 128)).val % 64 < 32 := by show ¬(32 + j.val) % 64 < 32; omega
  rw [val_main_v79_apply, val_main_v76_apply, val_main_v78_apply, val_main_v75_apply, val_main_v3_apply, val_main_v77_apply, val_main_v4_apply, e1, e2, first_k_low, second_k_low]
  unfold turned_k
  rw [turned_second _ _ _ _ _ _ _ _ hl, partner_second (⟨32 + j.val, by omega⟩ : Fin 128) (⟨j.val, by omega⟩ : Fin 128) hl (by show j.val = 32 + j.val - 32; omega),
    pick_first (CR : Mat 4096 32) (CC : Mat 4096 32) r _ j (by show 32 + j.val < 64; omega) (by show (32 + j.val) % 32 = j.val; omega), pick_first (SR : Mat 4096 32) (SC : Mat 4096 32) r _ j (by show 32 + j.val < 64; omega) (by show (32 + j.val) % 32 = j.val; omega)]
  rfl
/-- A half of the keys. -/
theorem half_k_low (r : Fin 4096) (h : Fin 2) (k : Fin 64) : (val_main_v80 (F := Ideal) U W CR SR GK : FVec Ideal S4096x2x64 .f32) (ix3 r h k)
    = turned_k U W CR SR CC SC GK r h (⟨k.val, by omega⟩ : Fin 128) := by
  unfold val_main_v80
  by_cases hk : k.val < 32
  · refine (concatenate_pair_apply_left (t := S4096x2x64) (s₁ := S4096x2x32) (s₂ := S4096x2x32) 2 _ _ _ (ix3 r h k) rfl (ix3 r h (⟨k.val, hk⟩ : Fin 32)) (fun x => by
      match x with
      | ⟨0, _⟩ => rfl
      | ⟨1, _⟩ => rfl
      | ⟨2, _⟩ => rfl)).trans ?_
    exact out_first_k_low U W CR SR CC SC GK r h (⟨k.val, hk⟩ : Fin 32)
  · refine (concatenate_pair_apply_right (t := S4096x2x64) (s₁ := S4096x2x32) (s₂ := S4096x2x32) 2 _ _ _ (ix3 r h k) rfl rfl (ix3 r h (⟨k.val - 32, by omega⟩ : Fin 32)) (fun x hx => by
      match x with
      | ⟨0, _⟩ => rfl
      | ⟨1, _⟩ => rfl
      | ⟨2, _⟩ => exact absurd rfl hx) (by show k.val - 32 + 32 = k.val; omega)).trans ?_
    refine (out_second_k_low U W CR SR CC SC GK r h (⟨k.val - 32, by omega⟩ : Fin 32)).trans ?_
    exact congrArg _ (Fin.ext (by show 32 + (k.val - 32) = k.val; omega))

/-- The first entries of the pairs before the rotation. -/
theorem first_k_high (r : Fin 4096) (h : Fin 2) (j : Fin 32) : (val_main_v82 (F := Ideal) U W GK : FVec Ideal S4096x2x32 .f32) (ix3 r h j)
    = normed (head (prod U W) r (⟨8 + h.val, by omega⟩ : Fin 10)) (fun l => (GK : Mat 1 128) (ix2 (0 : Fin 1) l)) (⟨64 + j.val, by omega⟩ : Fin 128) := by
  have e : idx_main_v81 (idx_main_v82 (ix3 r h j)) = ix3 r h (⟨64 + j.val, by omega⟩ : Fin 128) := by funext a; match a with | ⟨0, _⟩ => rfl | ⟨1, _⟩ => rfl | ⟨2, _⟩ => rfl
  rw [val_main_v82_apply, val_main_v81_apply, e, normed_k]
/-- The second entries of the pairs before the rotation. -/
theorem second_k_high (r : Fin 4096) (h : Fin 2) (j : Fin 32) : (val_main_v83 (F := Ideal) U W GK : FVec Ideal S4096x2x32 .f32) (ix3 r h j)
    = normed (head (prod U W) r (⟨8 + h.val, by omega⟩ : Fin 10)) (fun l => (GK : Mat 1 128) (ix2 (0 : Fin 1) l)) (⟨96 + j.val, by omega⟩ : Fin 128) := by
  have e : idx_main_v81 (idx_main_v83 (ix3 r h j)) = ix3 r h (⟨96 + j.val, by omega⟩ : Fin 128) := by
    funext a
    match a with
    | ⟨0, _⟩ => rfl
    | ⟨1, _⟩ => rfl
    | ⟨2, _⟩ => exact Fin.ext (by show 64 + (32 + j.val) = 96 + j.val; omega)
  rw [val_main_v83_apply, val_main_v81_apply, e, normed_k]
/-- The first entries of the pairs after the rotation. -/
theorem out_first_k_high (r : Fin 4096) (h : Fin 2) (j : Fin 32) : (val_main_v88 (F := Ideal) U W CC SC GK : FVec Ideal S4096x2x32 .f32) (ix3 r h j)
    = turned_k U W CR SR CC SC GK r h (⟨64 + j.val, by omega⟩ : Fin 128) := by
  have e1 : idx_main_v5 (idx_main_v84 (ix3 r h j)) = ix2 r j := by funext a; match a with | ⟨0, _⟩ => rfl | ⟨1, _⟩ => rfl
  have e2 : idx_main_v6 (idx_main_v86 (ix3 r h j)) = ix2 r j := by funext a; match a with | ⟨0, _⟩ => rfl | ⟨1, _⟩ => rfl
  have hl : ((⟨64 + j.val, by omega⟩ : Fin 128)).val % 64 < 32 := by show (64 + j.val) % 64 < 32; omega
  rw [val_main_v88_apply, val_main_v85_apply, val_main_v87_apply, val_main_v84_apply, val_main_v5_apply, val_main_v86_apply, val_main_v6_apply, e1, e2, first_k_high, second_k_high]
  unfold turned_k
  rw [turned_first _ _ _ _ _ _ _ _ hl, partner_first (⟨64 + j.val, by omega⟩ : Fin 128) (⟨96 + j.val, by omega⟩ : Fin 128) hl (by show 96 + j.val = 64 + j.val + 32; omega),
    pick_second (CR : Mat 4096 32) (CC : Mat 4096 32) r _ j (by show ¬64 + j.val < 64; omega) (by show (64 + j.val) % 32 = j.val; omega), pick_second (SR : Mat 4096 32) (SC : Mat 4096 32) r _ j (by show ¬64 + j.val < 64; omega) (by show (64 + j.val) % 32 = j.val; omega)]
  rfl
/-- The second entries of the pairs after the rotation. -/
theorem out_second_k_high (r : Fin 4096) (h : Fin 2) (j : Fin 32) : (val_main_v93 (F := Ideal) U W CC SC GK : FVec Ideal S4096x2x32 .f32) (ix3 r h j)
    = turned_k U W CR SR CC SC GK r h (⟨96 + j.val, by omega⟩ : Fin 128) := by
  have e1 : idx_main_v5 (idx_main_v89 (ix3 r h j)) = ix2 r j := by funext a; match a with | ⟨0, _⟩ => rfl | ⟨1, _⟩ => rfl
  have e2 : idx_main_v6 (idx_main_v91 (ix3 r h j)) = ix2 r j := by funext a; match a with | ⟨0, _⟩ => rfl | ⟨1, _⟩ => rfl
  have hl : ¬((⟨96 + j.val, by omega⟩ : Fin 128)).val % 64 < 32 := by show ¬(96 + j.val) % 64 < 32; omega
  rw [val_main_v93_apply, val_main_v90_apply, val_main_v92_apply, val_main_v89_apply, val_main_v5_apply, val_main_v91_apply, val_main_v6_apply, e1, e2, first_k_high, second_k_high]
  unfold turned_k
  rw [turned_second _ _ _ _ _ _ _ _ hl, partner_second (⟨96 + j.val, by omega⟩ : Fin 128) (⟨64 + j.val, by omega⟩ : Fin 128) hl (by show 64 + j.val = 96 + j.val - 32; omega),
    pick_second (CR : Mat 4096 32) (CC : Mat 4096 32) r _ j (by show ¬96 + j.val < 64; omega) (by show (96 + j.val) % 32 = j.val; omega), pick_second (SR : Mat 4096 32) (SC : Mat 4096 32) r _ j (by show ¬96 + j.val < 64; omega) (by show (96 + j.val) % 32 = j.val; omega)]
  rfl
/-- A half of the keys. -/
theorem half_k_high (r : Fin 4096) (h : Fin 2) (k : Fin 64) : (val_main_v94 (F := Ideal) U W CC SC GK : FVec Ideal S4096x2x64 .f32) (ix3 r h k)
    = turned_k U W CR SR CC SC GK r h (⟨64 + k.val, by omega⟩ : Fin 128) := by
  unfold val_main_v94
  by_cases hk : k.val < 32
  · refine (concatenate_pair_apply_left (t := S4096x2x64) (s₁ := S4096x2x32) (s₂ := S4096x2x32) 2 _ _ _ (ix3 r h k) rfl (ix3 r h (⟨k.val, hk⟩ : Fin 32)) (fun x => by
      match x with
      | ⟨0, _⟩ => rfl
      | ⟨1, _⟩ => rfl
      | ⟨2, _⟩ => rfl)).trans ?_
    exact out_first_k_high U W CR SR CC SC GK r h (⟨k.val, hk⟩ : Fin 32)
  · refine (concatenate_pair_apply_right (t := S4096x2x64) (s₁ := S4096x2x32) (s₂ := S4096x2x32) 2 _ _ _ (ix3 r h k) rfl rfl (ix3 r h (⟨k.val - 32, by omega⟩ : Fin 32)) (fun x hx => by
      match x with
      | ⟨0, _⟩ => rfl
      | ⟨1, _⟩ => rfl
      | ⟨2, _⟩ => exact absurd rfl hx) (by show k.val - 32 + 32 = k.val; omega)).trans ?_
    refine (out_second_k_high U W CR SR CC SC GK r h (⟨k.val - 32, by omega⟩ : Fin 32)).trans ?_
    exact congrArg _ (Fin.ext (by show 96 + (k.val - 32) = 64 + k.val; omega))

/-- The keys after the norm and the rotation, as the reference puts them together. -/
theorem whole_k (r : Fin 4096) (h : Fin 2) (l : Fin 128) : (val_main_v95 (F := Ideal) U W CR SR CC SC GK : FVec Ideal S4096x2x128 .f32) (ix3 r h l)
    = turned_k U W CR SR CC SC GK r h l := by
  unfold val_main_v95
  by_cases hk : l.val < 64
  · refine (concatenate_pair_apply_left (t := S4096x2x128) (s₁ := S4096x2x64) (s₂ := S4096x2x64) 2 _ _ _ (ix3 r h l) rfl (ix3 r h (⟨l.val, hk⟩ : Fin 64)) (fun x => by
      match x with
      | ⟨0, _⟩ => rfl
      | ⟨1, _⟩ => rfl
      | ⟨2, _⟩ => rfl)).trans ?_
    exact half_k_low U W CR SR CC SC GK r h (⟨l.val, hk⟩ : Fin 64)
  · refine (concatenate_pair_apply_right (t := S4096x2x128) (s₁ := S4096x2x64) (s₂ := S4096x2x64) 2 _ _ _ (ix3 r h l) rfl rfl (ix3 r h (⟨l.val - 64, by omega⟩ : Fin 64)) (fun x hx => by
      match x with
      | ⟨0, _⟩ => rfl
      | ⟨1, _⟩ => rfl
      | ⟨2, _⟩ => exact absurd rfl hx) (by show l.val - 64 + 64 = l.val; omega)).trans ?_
    refine (half_k_high U W CR SR CC SC GK r h (⟨l.val - 64, by omega⟩ : Fin 64)).trans ?_
    exact congrArg _ (Fin.ext (by show 64 + (l.val - 64) = l.val; omega))
/-- They lie side by side. -/
theorem flat_k (r : Fin 4096) (h : Fin 2) (l : Fin 128) : (val_main_v96 (F := Ideal) U W CR SR CC SC GK : FVec Ideal S4096x256 .f32) (ix2 r (⟨128 * h.val + l.val, by omega⟩ : Fin 256))
    = turned_k U W CR SR CC SC GK r h l := by
  have e : idx_main_v96 (ix2 r (⟨128 * h.val + l.val, by omega⟩ : Fin 256)) = ix3 r h l := by
    funext a
    match a with
    | ⟨0, _⟩ => exact Fin.ext (by show (r.val * 256 + (128 * h.val + l.val)) / 256 = r.val; omega)
    | ⟨1, _⟩ => exact Fin.ext (by show (r.val * 256 + (128 * h.val + l.val)) / 128 % 2 = h.val; omega)
    | ⟨2, _⟩ => exact Fin.ext (by show (r.val * 256 + (128 * h.val + l.val)) % 128 = l.val; omega)
  rw [val_main_v96_apply, e, whole_k]

/-- The raw queries and keys. -/
theorem out_raw : (val_main_v97 (F := Ideal) U W : FVec Ideal S4096x1280 .f32) = fun y => prod U W (ix2 (y 0 : Fin 4096) (⟨(y 1).val, lt_trans (y 1).isLt (by decide : 1280 < 3072)⟩ : Fin 3072)) := by
  funext y
  obtain ⟨r, j, rfl⟩ : ∃ (r : Fin 4096) (j : Fin 1280), y = (ix2 r j : S4096x1280.Idx) := ⟨y 0, y 1, eq_ix2 y⟩
  have e : idx_main_v97 (ix2 r j) = ix2 r (⟨j.val, by omega⟩ : Fin 3072) := by funext a; match a with | ⟨0, _⟩ => rfl | ⟨1, _⟩ => rfl
  rw [val_main_v97_apply, e, prod_eq]

/-- The normed and turned heads, and the values. -/
theorem out_turned : (val_main_v100 (F := Ideal) U W CR SR CC SC GQ GK : FVec Ideal S4096x3072 .bf16)
    = turnedRow (prod U W) (GQ : Mat 1 128) (GK : Mat 1 128) (pick (CR : Mat 4096 32) (CC : Mat 4096 32)) (pickSigned (SR : Mat 4096 32) (SC : Mat 4096 32)) := by
  funext y
  obtain ⟨r, j, rfl⟩ : ∃ (r : Fin 4096) (j : Fin 3072), y = (ix2 r j : S4096x3072.Idx) := ⟨y 0, y 1, eq_ix2 y⟩
  rw [val_main_v100_apply]
  show (val_main_v99 (F := Ideal) U W CR SR CC SC GQ GK (ix2 r j) : EReal) = _
  unfold val_main_v99
  have off : ∀ {n : ℕ} (q : Fin n) (x : Fin 2), x ≠ 1 → ((ix2 r q : (⟨2, ![4096, n]⟩ : Shape).Idx) x).val = ((ix2 r j : S4096x3072.Idx) x).val := fun q x hx => by
    match x with
    | ⟨0, _⟩ => rfl
    | ⟨1, _⟩ => exact absurd rfl hx
  by_cases h1 : j.val < 1024
  · have e : j = (⟨128 * (⟨j.val / 128, by omega⟩ : Fin 10).val + (⟨j.val % 128, by omega⟩ : Fin 128).val, by show 128 * (j.val / 128) + j.val % 128 < 3072; omega⟩ : Fin 3072) :=
      Fin.ext (by show j.val = 128 * (j.val / 128) + j.val % 128; omega)
    have hg : gainOf (GQ : Mat 1 128) (GK : Mat 1 128) ⟨j.val / 128, by omega⟩ = fun l => (GQ : Mat 1 128) (ix2 (0 : Fin 1) l) := funext fun l => if_pos (by show j.val / 128 < 8; omega)
    have er : turnedRow (prod U W) (GQ : Mat 1 128) (GK : Mat 1 128) (pick (CR : Mat 4096 32) (CC : Mat 4096 32)) (pickSigned (SR : Mat 4096 32) (SC : Mat 4096 32)) (ix2 r j)
        = turned_q U W CR SR CC SC GQ r (⟨j.val / 128, by omega⟩ : Fin 8) (⟨j.val % 128, by omega⟩ : Fin 128) := by
      refine (congrArg (fun j => turnedRow _ _ _ _ _ (ix2 r j)) e).trans ((turnedRow_head _ _ _ _ _ _ _ _).trans ?_)
      rw [hg]
    refine Eq.trans ?_ er.symm
    refine (concatenate_apply_piece (t := S4096x3072) 1 _ _ (ix2 r j) 0 (by show 0 < 3; omega) S4096x1024 _ rfl rfl 0 rfl
      (ix2 r (⟨128 * (⟨j.val / 128, by omega⟩ : Fin 8).val + (⟨j.val % 128, by omega⟩ : Fin 128).val, by show 128 * (j.val / 128) + j.val % 128 < 1024; omega⟩ : Fin 1024)) (off _)
      (by show 0 + (128 * (j.val / 128) + j.val % 128) = j.val; omega)).trans ?_
    exact flat_q U W CR SR CC SC GQ r _ _
  by_cases h2 : j.val < 1280
  · have e : j = (⟨128 * (⟨j.val / 128, by omega⟩ : Fin 10).val + (⟨j.val % 128, by omega⟩ : Fin 128).val, by show 128 * (j.val / 128) + j.val % 128 < 3072; omega⟩ : Fin 3072) :=
      Fin.ext (by show j.val = 128 * (j.val / 128) + j.val % 128; omega)
    have hg : gainOf (GQ : Mat 1 128) (GK : Mat 1 128) ⟨j.val / 128, by omega⟩ = fun l => (GK : Mat 1 128) (ix2 (0 : Fin 1) l) := funext fun l => if_neg (by show ¬j.val / 128 < 8; omega)
    have ed : (⟨j.val / 128, by omega⟩ : Fin 10) = (⟨8 + (⟨j.val / 128 - 8, by omega⟩ : Fin 2).val, by show 8 + (j.val / 128 - 8) < 10; omega⟩ : Fin 10) :=
      Fin.ext (by show j.val / 128 = 8 + (j.val / 128 - 8); omega)
    have er : turnedRow (prod U W) (GQ : Mat 1 128) (GK : Mat 1 128) (pick (CR : Mat 4096 32) (CC : Mat 4096 32)) (pickSigned (SR : Mat 4096 32) (SC : Mat 4096 32)) (ix2 r j)
        = turned_k U W CR SR CC SC GK r (⟨j.val / 128 - 8, by omega⟩ : Fin 2) (⟨j.val % 128, by omega⟩ : Fin 128) := by
      refine (congrArg (fun j => turnedRow _ _ _ _ _ (ix2 r j)) e).trans ((turnedRow_head _ _ _ _ _ _ _ _).trans ?_)
      rw [hg]
      exact congrArg (fun d => turned (head (prod U W) r d) _ _ _ _) ed
    refine Eq.trans ?_ er.symm
    refine (concatenate_apply_piece (t := S4096x3072) 1 _ _ (ix2 r j) 1 (by show 1 < 3; omega) S4096x256 _ rfl rfl 1024 rfl
      (ix2 r (⟨128 * (⟨j.val / 128 - 8, by omega⟩ : Fin 2).val + (⟨j.val % 128, by omega⟩ : Fin 128).val, by show 128 * (j.val / 128 - 8) + j.val % 128 < 256; omega⟩ : Fin 256)) (off _)
      (by show 1024 + (128 * (j.val / 128 - 8) + j.val % 128) = j.val; omega)).trans ?_
    exact flat_k U W CR SR CC SC GK r _ _
  · rw [turnedRow_rest _ _ _ _ _ _ _ h2]
    refine (concatenate_apply_piece (t := S4096x3072) 1 _ _ (ix2 r j) 2 (by show 2 < 3; omega) S4096x1792 _ rfl rfl 1280 rfl
      (ix2 r (⟨j.val - 1280, by omega⟩ : Fin 1792)) (off _) (by show 1280 + (j.val - 1280) = j.val; omega)).trans ?_
    have e : idx_main_v98 (ix2 r (⟨j.val - 1280, by omega⟩ : Fin 1792)) = ix2 r j := by
      funext a
      match a with
      | ⟨0, _⟩ => rfl
      | ⟨1, _⟩ => exact Fin.ext (by show 1280 + (j.val - 1280) = j.val; omega)
    rw [val_main_v98_apply, e, prod_eq]

end

end Cert.ProjRef
end
end
-- ==== Proof.ProjEquation.lean ====
/- The value claim of the projection with the norm and rotation of its heads: the call and the reference leave the same arrays. -/
module

public import proofs.«01_k».proof.Defs
public import proofs.«01_k».proof.Proof.ProjRun
public import proofs.«01_k».proof.Proof.ProjRef

@[expose] public section

set_option maxRecDepth 16384

noncomputable section

open Idealize.ShloMosaic Idealize.ShloMosaic.ValueIdx Idealize.SL.Sem Cert.MatSpec Cert.NormSpec Cert.HeadSpec Cert.ProjArray Cert.ProjRun

namespace Cert.ProjEquation

/-- The value claim. -/
theorem algebraic : Cert.algebraic_InProjIdeal_InProjReferenceIdeal := by
  intro m g m' g' _ hm
  refine ⟨fun c => arr_6 m c, fun c => turnedArray m c, run_value m g, ?_⟩
  refine (θ_run Cert.InProjReferenceIdeal.defs _ _).mono (fun r h c => ?_) (Cert.InProjReferenceIdeal.Value.run (F := Ideal) m' g')
  obtain ⟨h0, h1, h2⟩ := h c
  obtain ⟨e0, e1, e2, e3, e4, e5, e6, e7⟩ := hm c
  rw [Cert.InProjReferenceIdeal.Read.val_main_v97_eq, e0, e1, Cert.ProjRef.out_raw] at h0
  rw [Cert.InProjReferenceIdeal.Read.val_main_v100_eq, e0, e1, e2, e3, e4, e5, e6, e7, Cert.ProjRef.out_turned] at h1
  exact ⟨h0, h1, h2⟩

end Cert.ProjEquation
end
-- ==== Proof.AdamRow.lean ====
/- The row of the small parameters: how it is packed, how a parameter is read back from it, and the step applied to it. -/
module

public import proofs.«01_k».proof.Defs
public import proofs.«01_k».proof.Proof.Gen.AdamIdeal.Frame
public import Idealize.ShloMosaic.Lib.Pipeline.ValueKit
public import Idealize.ShloMosaic.Lib.KernelVsHost

@[expose] public section

set_option maxRecDepth 16384

noncomputable section

open Idealize.ShloMosaic Idealize.ShloMosaic.TcCoe Idealize.ShloMosaic.ValueIdx Idealize.SL.Sem Cert.AdamIdeal Cert.AdamIdeal.Gen

namespace Cert.AdamRow

/-- The table of position biases as a piece of the row: transposed, each of its rows filled up with zeros. -/
def wide (x8 : FVec Ideal S32x8 .f32) : FVec Ideal S1x1024 .f32 :=
  shapeCast S1x1024 (pad S8x128 ![0, 0] ![0, 96] ![0, 0] (transpose S8x32 [1, 0] x8 transposes_S32x8_S8x32_1_0) (sitofp (F := Ideal) .f32 (constantI S_ 32 0#32)) pads_S8x32_S8x128_000_0960 h_S_) shapeCasts_S8x128_S1x1024

/-- Nine parameters (or one moment of each) laid side by side in one row. -/
def pack (x1 : FVec Ideal S1x2048 .f32) (x2 x3 : FVec Ideal S1x128 .f32) (x4 : FVec Ideal S1x8 .f32) (x5 x6 x7 : FVec Ideal S1x2048 .f32)
    (x8 : FVec Ideal S32x8 .f32) (x9 : FVec Ideal S2048 .f32) : FVec Ideal S1x11776 .f32 :=
  concatenate S1x11776 1 [⟨S1x2048, x1⟩, ⟨S1x2048, x5⟩, ⟨S1x2048, x6⟩, ⟨S1x2048, x7⟩, ⟨S1x2048, shapeCast S1x2048 x9 shapeCasts_S2048_S1x2048⟩, ⟨S1x128, x2⟩, ⟨S1x128, x3⟩,
    ⟨S1x1024, wide x8⟩,
    ⟨S1x128, pad S1x128 ![0, 0] ![0, 120] ![0, 0] x4 (sitofp (F := Ideal) .f32 (constantI S_ 32 0#32)) pads_S1x8_S1x128_000_01200 h_S_⟩,
    ⟨S1x128, broadcastInDim S1x128 ![] bcast_S_S1x128 (constant S_ .f32 0x00000000#32)⟩] concatenates_S1x2048_S1x2048_S1x2048_S1x2048_S1x2048_S1x128_S1x128_S1x1024_S1x128_S1x128_S1x11776_d1

/-- The new first moment: a running mean of the gradient. -/
def mean (s : Shape) (g m : FVec Ideal s .f32) : FVec Ideal s .f32 :=
  addf (mulf (broadcast s (Scalar.ofBits .f32 0x3F666666#32)) m) (mulf (broadcast s (Scalar.ofBits .f32 0x3DCCCCCD#32)) g)

/-- The new second moment: a running mean of the gradient's square. -/
def square (s : Shape) (g v : FVec Ideal s .f32) : FVec Ideal s .f32 :=
  addf (mulf (broadcast s (Scalar.ofBits .f32 0x3F7FBE77#32)) v) (mulf (broadcast s (Scalar.ofBits .f32 0x3A83126F#32)) (mulf g g))

/-- The update of the parameter. -/
def delta (s : Shape) (w g m v : FVec Ideal s .f32) : FVec Ideal s .f32 :=
  mulf (broadcast s (Scalar.ofBits .f32 0xBA83126F#32)) (addf (divf (divf (mean s g m) (broadcast s (Scalar.ofBits .f32 0x3F26BD02#32)))
    (addf (sqrt (divf (square s g v) (broadcast s (Scalar.ofBits .f32 0x3C231ACC#32)))) (broadcast s (Scalar.ofBits .f32 0x322BCC77#32))))
    (mulf (broadcast s (Scalar.ofBits .f32 0x3C23D70A#32)) w))

/-- What the body stores as the first moment. -/
theorem pay_1 (g m : FVec Ideal S1x11776 .f32) : k0_pay1 (F := Ideal) g m = mean S1x11776 g m := by
  unfold k0_pay1
  simp only [shapeCast_self]
  rfl

/-- What the body stores as the second moment. -/
theorem pay_2 (g v : FVec Ideal S1x11776 .f32) : k0_pay2 (F := Ideal) g v = square S1x11776 g v := by
  unfold k0_pay2
  simp only [shapeCast_self]
  rfl

/-- What the body stores as the update. -/
theorem pay_3 (w g m v : FVec Ideal S1x11776 .f32) : k0_pay3 (F := Ideal) w g m v = delta S1x11776 w g m v := by
  unfold k0_pay3
  simp only [pay_1, pay_2, shapeCast_self]
  rfl

/-- Of a row, the gain before attention. -/
def attn (r : FVec Ideal S1x11776 .f32) : FVec Ideal S1x2048 .f32 := extractStridedSlice S1x2048 ![0, 0] r slices_S1x11776_S1x2048_0_0

/-- Of a row, the gain of the queries. -/
def q (r : FVec Ideal S1x11776 .f32) : FVec Ideal S1x128 .f32 := extractStridedSlice S1x128 ![0, 10240] r slices_S1x11776_S1x128_0_10240

/-- Of a row, the gain of the keys. -/
def k (r : FVec Ideal S1x11776 .f32) : FVec Ideal S1x128 .f32 := extractStridedSlice S1x128 ![0, 10368] r slices_S1x11776_S1x128_0_10368

/-- Of a row, the sink logits. -/
def sink (r : FVec Ideal S1x11776 .f32) : FVec Ideal S1x8 .f32 := extractStridedSlice S1x8 ![0, 11520] r slices_S1x11776_S1x8_0_11520

/-- Of a row, the gain before the MLP. -/
def mlp (r : FVec Ideal S1x11776 .f32) : FVec Ideal S1x2048 .f32 := extractStridedSlice S1x2048 ![0, 2048] r slices_S1x11776_S1x2048_0_2048

/-- Of a row, the gain of the per-layer embedding. -/
def ple (r : FVec Ideal S1x11776 .f32) : FVec Ideal S1x2048 .f32 := extractStridedSlice S1x2048 ![0, 4096] r slices_S1x11776_S1x2048_0_4096

/-- Of a row, the gain before the gate. -/
def gate (r : FVec Ideal S1x11776 .f32) : FVec Ideal S1x2048 .f32 := extractStridedSlice S1x2048 ![0, 6144] r slices_S1x11776_S1x2048_0_6144

/-- Of a row, the table of position biases. -/
def table (r : FVec Ideal S1x11776 .f32) : FVec Ideal S32x8 .f32 := transpose S32x8 [1, 0] (extractStridedSlice S8x32 ![0, 0] (shapeCast S8x128 (extractStridedSlice S1x1024 ![0, 10496] r slices_S1x11776_S1x1024_0_10496) shapeCasts_S1x1024_S8x128) slices_S8x128_S8x32_0_0) transposes_S8x32_S32x8_1_0

/-- Of a row, the last gain. -/
def final (r : FVec Ideal S1x11776 .f32) : FVec Ideal S2048 .f32 := shapeCast S2048 (extractStridedSlice S1x2048 ![0, 8192] r slices_S1x11776_S1x2048_0_8192) shapeCasts_S1x2048_S2048

/-- One of the pieces laid side by side, read back. -/
theorem cut (n o k : Nat) (xs : List ((s : Shape) × (s.Idx → EReal))) (h : Shape.Concatenates (xs.map (·.1)) S1x11776 1) (x : (⟨2, ![1, n]⟩ : Shape).Idx → EReal)
    (hk : k < xs.length) (hx : xs[k] = ⟨⟨2, ![1, n]⟩, x⟩)
    (hp : (((xs.take k).map (·.1)).map fun s => if h : s.rank = S1x11776.rank then s.size ((1 : Fin S1x11776.rank).cast h.symm) else 0).sum = o)
    (hs : S1x11776.Slices ![0, o] ⟨2, ![1, n]⟩) : extractStridedSlice ⟨2, ![1, n]⟩ ![0, o] (concatenate S1x11776 1 xs h) hs = x :=
  funext fun y => concatenate_apply_piece (t := S1x11776) 1 xs h _ k hk ⟨2, ![1, n]⟩ x hx rfl o hp y (fun b hb => by
    match b with
    | ⟨0, _⟩ => exact (Nat.zero_add _).symm
    | ⟨1, _⟩ => exact absurd rfl hb) rfl

section
variable (x1 : FVec Ideal S1x2048 .f32) (x2 x3 : FVec Ideal S1x128 .f32) (x4 : FVec Ideal S1x8 .f32) (x5 x6 x7 : FVec Ideal S1x2048 .f32) (x8 : FVec Ideal S32x8 .f32) (x9 : FVec Ideal S2048 .f32)

/-- Packed and read back, the gain before attention is what it was. -/
theorem attn_pack  : attn (pack x1 x2 x3 x4 x5 x6 x7 x8 x9) = x1 := by
  unfold attn pack
  exact cut 2048 0 0 _ _ x1 (by show 0 < 10; omega) rfl rfl _

/-- Packed and read back, the gain of the queries is what it was. -/
theorem q_pack  : q (pack x1 x2 x3 x4 x5 x6 x7 x8 x9) = x2 := by
  unfold q pack
  exact cut 128 10240 5 _ _ x2 (by show 5 < 10; omega) rfl rfl _

/-- Packed and read back, the gain of the keys is what it was. -/
theorem k_pack  : k (pack x1 x2 x3 x4 x5 x6 x7 x8 x9) = x3 := by
  unfold k pack
  exact cut 128 10368 6 _ _ x3 (by show 6 < 10; omega) rfl rfl _

/-- Packed and read back, the sink logits is what it was. -/
theorem sink_pack  : sink (pack x1 x2 x3 x4 x5 x6 x7 x8 x9) = x4 := by
  unfold sink pack
  funext y
  refine (concatenate_apply_piece (t := S1x11776) 1 _ _ _ 8 (by show 8 < 10; omega) S1x128 _ rfl rfl 11520 rfl
    (ValueIdx.ix2 (y 0) (⟨(y 1).val, Nat.lt_of_lt_of_le (y 1).isLt (by decide)⟩ : Fin 128) : S1x128.Idx) (fun b hb => by
      match b with
      | ⟨0, _⟩ => exact (Nat.zero_add _).symm
      | ⟨1, _⟩ => exact absurd rfl hb) rfl).trans ?_
  refine pad_apply_of_inside _ _ _ _ _ _ _ _ y fun a => ?_
  match a with
  | ⟨0, _⟩ => show (y 0).val = 0 + (y 0).val * (0 + 1); omega
  | ⟨1, _⟩ => show (y 1).val = 0 + (y 1).val * (0 + 1); omega

/-- Packed and read back, the gain before the MLP is what it was. -/
theorem mlp_pack  : mlp (pack x1 x2 x3 x4 x5 x6 x7 x8 x9) = x5 := by
  unfold mlp pack
  exact cut 2048 2048 1 _ _ x5 (by show 1 < 10; omega) rfl rfl _

/-- Packed and read back, the gain of the per-layer embedding is what it was. -/
theorem ple_pack  : ple (pack x1 x2 x3 x4 x5 x6 x7 x8 x9) = x6 := by
  unfold ple pack
  exact cut 2048 4096 2 _ _ x6 (by show 2 < 10; omega) rfl rfl _

/-- Packed and read back, the gain before the gate is what it was. -/
theorem gate_pack  : gate (pack x1 x2 x3 x4 x5 x6 x7 x8 x9) = x7 := by
  unfold gate pack
  exact cut 2048 6144 3 _ _ x7 (by show 3 < 10; omega) rfl rfl _

/-- Packed and read back, the table of position biases is what it was. -/
theorem table_pack  : table (pack x1 x2 x3 x4 x5 x6 x7 x8 x9) = x8 := by
  have e : extractStridedSlice S1x1024 ![0, 10496] (pack x1 x2 x3 x4 x5 x6 x7 x8 x9) slices_S1x11776_S1x1024_0_10496 = (wide x8) := by
    unfold pack
    exact cut 1024 10496 7 _ _ _ (by show 7 < 10; omega) rfl rfl _
  unfold table
  rw [e, wide, shapeCast_shapeCast]
  funext y
  refine (transpose_apply _ _ _ y (ValueIdx.ix2 (y 1) (y 0) : S8x32.Idx) fun b => ?_).trans ?_
  · match b with
    | ⟨0, _⟩ => rfl
    | ⟨1, _⟩ => rfl
  refine (pad_apply_of_inside _ _ _ _ _ _ _ _ (ValueIdx.ix2 (y 1) (y 0) : S8x32.Idx) fun a => ?_).trans (transpose_apply _ _ _ _ y fun b => ?_)
  · match a with
    | ⟨0, _⟩ => show 0 + (y 1).val = 0 + (y 1).val * (0 + 1); omega
    | ⟨1, _⟩ => show 0 + (y 0).val = 0 + (y 0).val * (0 + 1); omega
  · match b with
    | ⟨0, _⟩ => rfl
    | ⟨1, _⟩ => rfl

/-- Packed and read back, the last gain is what it was. -/
theorem final_pack  : final (pack x1 x2 x3 x4 x5 x6 x7 x8 x9) = x9 := by
  have e : extractStridedSlice S1x2048 ![0, 8192] (pack x1 x2 x3 x4 x5 x6 x7 x8 x9) slices_S1x11776_S1x2048_0_8192 = (shapeCast S1x2048 x9 shapeCasts_S2048_S1x2048) := by
    unfold pack
    exact cut 2048 8192 4 _ _ (shapeCast S1x2048 x9 shapeCasts_S2048_S1x2048) (by show 4 < 10; omega) rfl rfl _
  unfold final
  rw [e, shapeCast_shapeCast]

end

/-- The step of the row, read at the gain before attention, is the step of it alone. -/
theorem attn_step (w g m v : FVec Ideal S1x11776 .f32) : attn (delta S1x11776 w g m v) = delta S1x2048 (attn w) (attn g) (attn m) (attn v)
    ∧ attn (mean S1x11776 g m) = mean S1x2048 (attn g) (attn m) ∧ attn (square S1x11776 g v) = square S1x2048 (attn g) (attn v) := ⟨rfl, rfl, rfl⟩

/-- The step of the row, read at the gain of the queries, is the step of it alone. -/
theorem q_step (w g m v : FVec Ideal S1x11776 .f32) : q (delta S1x11776 w g m v) = delta S1x128 (q w) (q g) (q m) (q v)
    ∧ q (mean S1x11776 g m) = mean S1x128 (q g) (q m) ∧ q (square S1x11776 g v) = square S1x128 (q g) (q v) := ⟨rfl, rfl, rfl⟩

/-- The step of the row, read at the gain of the keys, is the step of it alone. -/
theorem k_step (w g m v : FVec Ideal S1x11776 .f32) : k (delta S1x11776 w g m v) = delta S1x128 (k w) (k g) (k m) (k v)
    ∧ k (mean S1x11776 g m) = mean S1x128 (k g) (k m) ∧ k (square S1x11776 g v) = square S1x128 (k g) (k v) := ⟨rfl, rfl, rfl⟩

/-- The step of the row, read at the sink logits, is the step of it alone. -/
theorem sink_step (w g m v : FVec Ideal S1x11776 .f32) : sink (delta S1x11776 w g m v) = delta S1x8 (sink w) (sink g) (sink m) (sink v)
    ∧ sink (mean S1x11776 g m) = mean S1x8 (sink g) (sink m) ∧ sink (square S1x11776 g v) = square S1x8 (sink g) (sink v) := ⟨rfl, rfl, rfl⟩

/-- The step of the row, read at the gain before the MLP, is the step of it alone. -/
theorem mlp_step (w g m v : FVec Ideal S1x11776 .f32) : mlp (delta S1x11776 w g m v) = delta S1x2048 (mlp w) (mlp g) (mlp m) (mlp v)
    ∧ mlp (mean S1x11776 g m) = mean S1x2048 (mlp g) (mlp m) ∧ mlp (square S1x11776 g v) = square S1x2048 (mlp g) (mlp v) := ⟨rfl, rfl, rfl⟩

/-- The step of the row, read at the gain of the per-layer embedding, is the step of it alone. -/
theorem ple_step (w g m v : FVec Ideal S1x11776 .f32) : ple (delta S1x11776 w g m v) = delta S1x2048 (ple w) (ple g) (ple m) (ple v)
    ∧ ple (mean S1x11776 g m) = mean S1x2048 (ple g) (ple m) ∧ ple (square S1x11776 g v) = square S1x2048 (ple g) (ple v) := ⟨rfl, rfl, rfl⟩

/-- The step of the row, read at the gain before the gate, is the step of it alone. -/
theorem gate_step (w g m v : FVec Ideal S1x11776 .f32) : gate (delta S1x11776 w g m v) = delta S1x2048 (gate w) (gate g) (gate m) (gate v)
    ∧ gate (mean S1x11776 g m) = mean S1x2048 (gate g) (gate m) ∧ gate (square S1x11776 g v) = square S1x2048 (gate g) (gate v) := ⟨rfl, rfl, rfl⟩

/-- The step of the row, read at the table of position biases, is the step of it alone. -/
theorem table_step (w g m v : FVec Ideal S1x11776 .f32) : table (delta S1x11776 w g m v) = delta S32x8 (table w) (table g) (table m) (table v)
    ∧ table (mean S1x11776 g m) = mean S32x8 (table g) (table m) ∧ table (square S1x11776 g v) = square S32x8 (table g) (table v) := ⟨rfl, rfl, rfl⟩

/-- The step of the row, read at the last gain, is the step of it alone. -/
theorem final_step (w g m v : FVec Ideal S1x11776 .f32) : final (delta S1x11776 w g m v) = delta S2048 (final w) (final g) (final m) (final v)
    ∧ final (mean S1x11776 g m) = mean S2048 (final g) (final m) ∧ final (square S1x11776 g v) = square S2048 (final g) (final v) := ⟨rfl, rfl, rfl⟩

end Cert.AdamRow
end
-- ==== Proof.AdamEquation.lean ====
/- The value claim of the optimiser's step of the small parameters: the packing, the call and the reading back leave what the reference leaves. -/
module

public import proofs.«01_k».proof.Proof.AdamRow
public import proofs.«01_k».proof.Proof.Gen.AdamReferenceIdeal.Read

@[expose] public section

set_option maxRecDepth 16384

noncomputable section

open Idealize.ShloMosaic Idealize.ShloMosaic.TcCoe Idealize.ShloMosaic.ValueIdx Idealize.SL.Sem Cert.AdamIdeal Cert.AdamIdeal.Gen Cert.AdamRow

namespace Cert.AdamEquation

/-- What the body leaves in result 0's buffer. -/
theorem out_4 (x0 x1 x2 x3 : Vec Ideal S1x11776 .f32) : out0_4 x0 x1 x2 x3 = delta S1x11776 x0 x1 x2 x3 := by
  unfold out0_4
  refine (View.canon_cons_unit_lit (by decide) _ [] (by decide)).trans ?_
  simp only [r0_0, View.ld_unit_lit _ _ (by decide : ∀ a : Fin S1x11776.rank, (![0, 0] : Fin 2 → ℕ) a = 0), pay_1, pay_2, pay_3]

/-- What the body leaves in result 1's buffer. -/
theorem out_5 (x0 x1 x2 x3 : Vec Ideal S1x11776 .f32) : out0_5 x0 x1 x2 x3 = mean S1x11776 x1 x2 := by
  unfold out0_5
  refine (View.canon_cons_unit_lit (by decide) _ [] (by decide)).trans ?_
  simp only [r0_0, View.ld_unit_lit _ _ (by decide : ∀ a : Fin S1x11776.rank, (![0, 0] : Fin 2 → ℕ) a = 0), pay_1, pay_2, pay_3]

/-- What the body leaves in result 2's buffer. -/
theorem out_6 (x0 x1 x2 x3 : Vec Ideal S1x11776 .f32) : out0_6 x0 x1 x2 x3 = square S1x11776 x1 x3 := by
  unfold out0_6
  refine (View.canon_cons_unit_lit (by decide) _ [] (by decide)).trans ?_
  simp only [r0_0, View.ld_unit_lit _ _ (by decide : ∀ a : Fin S1x11776.rank, (![0, 0] : Fin 2 → ℕ) a = 0), pay_1, pay_2, pay_3]

section
variable (m : (ℓ : Loc nD τ sig) → Buf (Elt Ideal) ℓ) (c : Dev nD)

/-- What the program is given. -/
abbrev arg (b : Ref sig .tc) := m ((c.tc : Thread nD τ).loc b)

/-- The row of the parameters. -/
def row_w : FVec Ideal S1x11776 .f32 :=
  pack (arg m c main_arg1) (arg m c main_arg2) (arg m c main_arg3) (arg m c main_arg4) (arg m c main_arg5) (arg m c main_arg6) (arg m c main_arg7) (arg m c main_arg8) (arg m c main_arg9)

/-- The row of the first moments. -/
def row_m : FVec Ideal S1x11776 .f32 :=
  pack (arg m c main_arg10) (arg m c main_arg11) (arg m c main_arg12) (arg m c main_arg13) (arg m c main_arg14) (arg m c main_arg15) (arg m c main_arg16) (arg m c main_arg17) (arg m c main_arg18)

/-- The row of the second moments. -/
def row_v : FVec Ideal S1x11776 .f32 :=
  pack (arg m c main_arg19) (arg m c main_arg20) (arg m c main_arg21) (arg m c main_arg22) (arg m c main_arg23) (arg m c main_arg24) (arg m c main_arg25) (arg m c main_arg26) (arg m c main_arg27)

set_option maxHeartbeats 4000000 in
/-- The lines before the call pack the three rows. -/
theorem heads : (V m c main_v6 : FVec Ideal S1x11776 .f32) = row_w m c ∧ (V m c main_v13 : FVec Ideal S1x11776 .f32) = row_m m c ∧ (V m c main_v20 : FVec Ideal S1x11776 .f32) = row_v m c := by
  refine ⟨?_, ?_, ?_⟩ <;> (unfold V V0; simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]; after_results_simp; rfl)

/-- An index with the same coordinates. -/
theorem whole {z y : S1x11776.Idx} (h0 : (z 0).val = 0 * 1 + 1 * (y 0).val) (h1 : (z 1).val = 0 * 11776 + 1 * (y 1).val) : z = y := funext fun a => Fin.ext (by
  match a with
  | ⟨0, _⟩ => show (z 0).val = (y 0).val; omega
  | ⟨1, _⟩ => show (z 1).val = (y 1).val; omega)

/-- Window 0's block is its whole array. -/
theorem emb_0 (t : Fin cfg0.N) (y : S1x11776.Idx) : ((cfg0.win 0).blk t).view.emb y = y := whole rfl rfl

/-- Window 1's block is its whole array. -/
theorem emb_1 (t : Fin cfg0.N) (y : S1x11776.Idx) : ((cfg0.win 1).blk t).view.emb y = y := whole rfl rfl

/-- Window 2's block is its whole array. -/
theorem emb_2 (t : Fin cfg0.N) (y : S1x11776.Idx) : ((cfg0.win 2).blk t).view.emb y = y := whole rfl rfl

/-- Window 3's block is its whole array. -/
theorem emb_3 (t : Fin cfg0.N) (y : S1x11776.Idx) : ((cfg0.win 3).blk t).view.emb y = y := whole rfl rfl

/-- Window 4's block is its whole array. -/
theorem emb_4 (t : Fin cfg0.N) (y : S1x11776.Idx) : ((cfg0.win 4).blk t).view.emb y = y := whole rfl rfl

/-- Window 5's block is its whole array. -/
theorem emb_5 (t : Fin cfg0.N) (y : S1x11776.Idx) : ((cfg0.win 5).blk t).view.emb y = y := whole rfl rfl

/-- Window 6's block is its whole array. -/
theorem emb_6 (t : Fin cfg0.N) (y : S1x11776.Idx) : ((cfg0.win 6).blk t).view.emb y = y := whole rfl rfl

/-- What the call reads of its argument 0. -/
theorem block_0 (t : Fin cfg0.N) : (iblk m c 0 t : FVec Ideal S1x11776 .f32) = row_w m c :=
  (funext fun y => congrArg (V m c main_v6 : FVec Ideal S1x11776 .f32) (emb_0 t y)).trans ((heads m c).1)

/-- What the call reads of its argument 1. -/
theorem block_1 (t : Fin cfg0.N) : (iblk m c 1 t : FVec Ideal S1x11776 .f32) = arg m c main_arg0 :=
  (funext fun y => congrArg (V m c main_arg0 : FVec Ideal S1x11776 .f32) (emb_1 t y)).trans (V_main_arg0 m c)

/-- What the call reads of its argument 2. -/
theorem block_2 (t : Fin cfg0.N) : (iblk m c 2 t : FVec Ideal S1x11776 .f32) = row_m m c :=
  (funext fun y => congrArg (V m c main_v13 : FVec Ideal S1x11776 .f32) (emb_2 t y)).trans ((heads m c).2.1)

/-- What the call reads of its argument 3. -/
theorem block_3 (t : Fin cfg0.N) : (iblk m c 3 t : FVec Ideal S1x11776 .f32) = row_v m c :=
  (funext fun y => congrArg (V m c main_v20 : FVec Ideal S1x11776 .f32) (emb_3 t y)).trans ((heads m c).2.2)

/-- The row of the update. -/
def arr_4 : FVec Ideal S1x11776 .f32 := delta S1x11776 (row_w m c) (arg m c main_arg0) (row_m m c) (row_v m c)

/-- What the call writes to result 4. -/
theorem flushed_4 (t : Fin cfg0.N) : (dats m 0 c).flushed 4 t = ((cfg0.win 4).blk t).view.read (Elt Ideal) (arr_4 m c) := by
  show (cfg0.win 4).cut (grid0.coords t) ((dats m 0 c).after 4 t) = _
  rw [after0_4, block_0, block_1, block_2, block_3]
  funext y
  show (out0_4 (F := Ideal) _ _ _ _ : Vec Ideal S1x11776 .f32) y = arr_4 m c (((cfg0.win 4).blk t).view.emb y)
  rw [emb_4, out_4]
  rfl

/-- After the call result 4 holds it. -/
theorem final_4 : ((dats m 0 c).arrAt 4 cfg0.N : FVec Ideal S1x11776 .f32) = arr_4 m c := by
  refine (dats m 0 c).arrAt_eq_of_cover 4 (arr_4 m c) (fun t _ => flushed_4 m c t) fun y => ⟨⟨0, by decide⟩, flush0_4 _, ?_⟩
  have hm := ((cfg0.win 4).blk ⟨0, by decide⟩).view.emb_mem_set y
  rw [emb_4] at hm
  exact hm

/-- The lines after the call find it there. -/
theorem found_4 : (Pipeline.withArrays (cfgs 0).spec c (V0 m c) (fun w => (dats m 0 c).arrAt w (cfgs 0).N)) (Proc.devRef .tc main_v21_0) = arr_4 m c :=
  (Pipeline.withArrays_arr (cfgs 0).spec winFacts0.arr_inj c (V0 m c) (fun w => (dats m 0 c).arrAt w (cfgs 0).N) 4).trans (final_4 m c)

/-- The row of the new first moments. -/
def arr_5 : FVec Ideal S1x11776 .f32 := mean S1x11776 (arg m c main_arg0) (row_m m c)

/-- What the call writes to result 5. -/
theorem flushed_5 (t : Fin cfg0.N) : (dats m 0 c).flushed 5 t = ((cfg0.win 5).blk t).view.read (Elt Ideal) (arr_5 m c) := by
  show (cfg0.win 5).cut (grid0.coords t) ((dats m 0 c).after 5 t) = _
  rw [after0_5, block_0, block_1, block_2, block_3]
  funext y
  show (out0_5 (F := Ideal) _ _ _ _ : Vec Ideal S1x11776 .f32) y = arr_5 m c (((cfg0.win 5).blk t).view.emb y)
  rw [emb_5, out_5]
  rfl

/-- After the call result 5 holds it. -/
theorem final_5 : ((dats m 0 c).arrAt 5 cfg0.N : FVec Ideal S1x11776 .f32) = arr_5 m c := by
  refine (dats m 0 c).arrAt_eq_of_cover 5 (arr_5 m c) (fun t _ => flushed_5 m c t) fun y => ⟨⟨0, by decide⟩, flush0_5 _, ?_⟩
  have hm := ((cfg0.win 5).blk ⟨0, by decide⟩).view.emb_mem_set y
  rw [emb_5] at hm
  exact hm

/-- The lines after the call find it there. -/
theorem found_5 : (Pipeline.withArrays (cfgs 0).spec c (V0 m c) (fun w => (dats m 0 c).arrAt w (cfgs 0).N)) (Proc.devRef .tc main_v21_1) = arr_5 m c :=
  (Pipeline.withArrays_arr (cfgs 0).spec winFacts0.arr_inj c (V0 m c) (fun w => (dats m 0 c).arrAt w (cfgs 0).N) 5).trans (final_5 m c)

/-- The row of the new second moments. -/
def arr_6 : FVec Ideal S1x11776 .f32 := square S1x11776 (arg m c main_arg0) (row_v m c)

/-- What the call writes to result 6. -/
theorem flushed_6 (t : Fin cfg0.N) : (dats m 0 c).flushed 6 t = ((cfg0.win 6).blk t).view.read (Elt Ideal) (arr_6 m c) := by
  show (cfg0.win 6).cut (grid0.coords t) ((dats m 0 c).after 6 t) = _
  rw [after0_6, block_0, block_1, block_2, block_3]
  funext y
  show (out0_6 (F := Ideal) _ _ _ _ : Vec Ideal S1x11776 .f32) y = arr_6 m c (((cfg0.win 6).blk t).view.emb y)
  rw [emb_6, out_6]
  rfl

/-- After the call result 6 holds it. -/
theorem final_6 : ((dats m 0 c).arrAt 6 cfg0.N : FVec Ideal S1x11776 .f32) = arr_6 m c := by
  refine (dats m 0 c).arrAt_eq_of_cover 6 (arr_6 m c) (fun t _ => flushed_6 m c t) fun y => ⟨⟨0, by decide⟩, flush0_6 _, ?_⟩
  have hm := ((cfg0.win 6).blk ⟨0, by decide⟩).view.emb_mem_set y
  rw [emb_6] at hm
  exact hm

/-- The lines after the call find it there. -/
theorem found_6 : (Pipeline.withArrays (cfgs 0).spec c (V0 m c) (fun w => (dats m 0 c).arrAt w (cfgs 0).N)) (Proc.devRef .tc main_v21_2) = arr_6 m c :=
  (Pipeline.withArrays_arr (cfgs 0).spec winFacts0.arr_inj c (V0 m c) (fun w => (dats m 0 c).arrAt w (cfgs 0).N) 6).trans (final_6 m c)

/-- For each of the three rows, what the step gives one parameter. -/
abbrev step (s : Shape) (take : FVec Ideal S1x11776 .f32 → FVec Ideal s .f32) (w mo v : FVec Ideal s .f32) : Prop :=
  take (arr_4 m c) = delta s w (take (arg m c main_arg0)) mo v ∧ take (arr_5 m c) = mean s (take (arg m c main_arg0)) mo ∧ take (arr_6 m c) = square s (take (arg m c main_arg0)) v

/-- The step of the gain before attention. -/
theorem step_attn : step m c S1x2048 attn (arg m c main_arg1) (arg m c main_arg10) (arg m c main_arg19) := by
  have h := attn_step (row_w m c) (arg m c main_arg0) (row_m m c) (row_v m c)
  simp only [row_w, row_m, row_v, attn_pack] at h
  exact h

/-- The step of the gain of the queries. -/
theorem step_q : step m c S1x128 q (arg m c main_arg2) (arg m c main_arg11) (arg m c main_arg20) := by
  have h := q_step (row_w m c) (arg m c main_arg0) (row_m m c) (row_v m c)
  simp only [row_w, row_m, row_v, q_pack] at h
  exact h

/-- The step of the gain of the keys. -/
theorem step_k : step m c S1x128 k (arg m c main_arg3) (arg m c main_arg12) (arg m c main_arg21) := by
  have h := k_step (row_w m c) (arg m c main_arg0) (row_m m c) (row_v m c)
  simp only [row_w, row_m, row_v, k_pack] at h
  exact h

/-- The step of the sink logits. -/
theorem step_sink : step m c S1x8 sink (arg m c main_arg4) (arg m c main_arg13) (arg m c main_arg22) := by
  have h := sink_step (row_w m c) (arg m c main_arg0) (row_m m c) (row_v m c)
  simp only [row_w, row_m, row_v, sink_pack] at h
  exact h

/-- The step of the gain before the MLP. -/
theorem step_mlp : step m c S1x2048 mlp (arg m c main_arg5) (arg m c main_arg14) (arg m c main_arg23) := by
  have h := mlp_step (row_w m c) (arg m c main_arg0) (row_m m c) (row_v m c)
  simp only [row_w, row_m, row_v, mlp_pack] at h
  exact h

/-- The step of the gain of the per-layer embedding. -/
theorem step_ple : step m c S1x2048 ple (arg m c main_arg6) (arg m c main_arg15) (arg m c main_arg24) := by
  have h := ple_step (row_w m c) (arg m c main_arg0) (row_m m c) (row_v m c)
  simp only [row_w, row_m, row_v, ple_pack] at h
  exact h

/-- The step of the gain before the gate. -/
theorem step_gate : step m c S1x2048 gate (arg m c main_arg7) (arg m c main_arg16) (arg m c main_arg25) := by
  have h := gate_step (row_w m c) (arg m c main_arg0) (row_m m c) (row_v m c)
  simp only [row_w, row_m, row_v, gate_pack] at h
  exact h

/-- The step of the table of position biases. -/
theorem step_table : step m c S32x8 table (arg m c main_arg8) (arg m c main_arg17) (arg m c main_arg26) := by
  have h := table_step (row_w m c) (arg m c main_arg0) (row_m m c) (row_v m c)
  simp only [row_w, row_m, row_v, table_pack] at h
  exact h

/-- The step of the last gain. -/
theorem step_final : step m c S2048 final (arg m c main_arg9) (arg m c main_arg18) (arg m c main_arg27) := by
  have h := final_step (row_w m c) (arg m c main_arg0) (row_m m c) (row_v m c)
  simp only [row_w, row_m, row_v, final_pack] at h
  exact h

/-- What the lines after the call leave. -/
abbrev left (b : Ref sig .tc) := Pipeline.afterTail₀ cfgs (dats m) 0 (V0 m) [hostOps1] c b

set_option maxHeartbeats 4000000 in
/-- They read the parameters back from result 0. -/
theorem left_0 : left m c main_v22 = attn (arr_4 m c) ∧ left m c main_v28 = q (arr_4 m c) ∧ left m c main_v29 = k (arr_4 m c) ∧ left m c main_v34 = sink (arr_4 m c) ∧ left m c main_v23 = mlp (arr_4 m c) ∧ left m c main_v24 = ple (arr_4 m c) ∧ left m c main_v25 = gate (arr_4 m c) ∧ left m c main_v33 = table (arr_4 m c) ∧ left m c main_v27 = final (arr_4 m c) := by
  have e := found_4 m c
  unfold left Pipeline.afterTail₀
  generalize Pipeline.withArrays (cfgs 0).spec c (V0 m c) (fun w => (dats m 0 c).arrAt w (cfgs 0).N) = G at e ⊢
  rw [← e]
  simp only [hostOps1, List.flatten_cons, List.flatten_nil, List.append_nil]
  refine ⟨?_, ?_, ?_, ?_, ?_, ?_, ?_, ?_, ?_⟩ <;> (after_results_simp; rfl)

set_option maxHeartbeats 4000000 in
/-- They read the parameters back from result 1. -/
theorem left_1 : left m c main_v37 = attn (arr_5 m c) ∧ left m c main_v43 = q (arr_5 m c) ∧ left m c main_v44 = k (arr_5 m c) ∧ left m c main_v49 = sink (arr_5 m c) ∧ left m c main_v38 = mlp (arr_5 m c) ∧ left m c main_v39 = ple (arr_5 m c) ∧ left m c main_v40 = gate (arr_5 m c) ∧ left m c main_v48 = table (arr_5 m c) ∧ left m c main_v42 = final (arr_5 m c) := by
  have e := found_5 m c
  unfold left Pipeline.afterTail₀
  generalize Pipeline.withArrays (cfgs 0).spec c (V0 m c) (fun w => (dats m 0 c).arrAt w (cfgs 0).N) = G at e ⊢
  rw [← e]
  simp only [hostOps1, List.flatten_cons, List.flatten_nil, List.append_nil]
  refine ⟨?_, ?_, ?_, ?_, ?_, ?_, ?_, ?_, ?_⟩ <;> (after_results_simp; rfl)

set_option maxHeartbeats 4000000 in
/-- They read the parameters back from result 2. -/
theorem left_2 : left m c main_v52 = attn (arr_6 m c) ∧ left m c main_v58 = q (arr_6 m c) ∧ left m c main_v59 = k (arr_6 m c) ∧ left m c main_v64 = sink (arr_6 m c) ∧ left m c main_v53 = mlp (arr_6 m c) ∧ left m c main_v54 = ple (arr_6 m c) ∧ left m c main_v55 = gate (arr_6 m c) ∧ left m c main_v63 = table (arr_6 m c) ∧ left m c main_v57 = final (arr_6 m c) := by
  have e := found_6 m c
  unfold left Pipeline.afterTail₀
  generalize Pipeline.withArrays (cfgs 0).spec c (V0 m c) (fun w => (dats m 0 c).arrAt w (cfgs 0).N) = G at e ⊢
  rw [← e]
  simp only [hostOps1, List.flatten_cons, List.flatten_nil, List.append_nil]
  refine ⟨?_, ?_, ?_, ?_, ?_, ?_, ?_, ?_, ?_⟩ <;> (after_results_simp; rfl)
end

/-- Equal arguments give equal steps. -/
theorem same {s : Shape} {w g m v w' g' m' v' : FVec Ideal s .f32} (h : w = w') (h0 : g = g') (h1 : m = m') (h2 : v = v') :
    delta s w g m v = delta s w' g' m' v' ∧ mean s g m = mean s g' m' ∧ square s g v = square s g' v' := by
  subst h h0 h1 h2
  exact ⟨rfl, rfl, rfl⟩

set_option maxHeartbeats 8000000 in
/-- The value claim. -/
theorem algebraic : Cert.algebraic_AdamIdeal_AdamReferenceIdeal := by
  intro m g m' g' _ hm
  refine ⟨fun c => attn (arr_4 m c), fun c => q (arr_4 m c), fun c => k (arr_4 m c), fun c => sink (arr_4 m c), fun c => mlp (arr_4 m c), fun c => ple (arr_4 m c), fun c => gate (arr_4 m c), fun c => table (arr_4 m c), fun c => final (arr_4 m c), fun c => attn (arr_5 m c), fun c => q (arr_5 m c), fun c => k (arr_5 m c), fun c => sink (arr_5 m c), fun c => mlp (arr_5 m c), fun c => ple (arr_5 m c), fun c => gate (arr_5 m c), fun c => table (arr_5 m c), fun c => final (arr_5 m c), fun c => attn (arr_6 m c), fun c => q (arr_6 m c), fun c => k (arr_6 m c), fun c => sink (arr_6 m c), fun c => mlp (arr_6 m c), fun c => ple (arr_6 m c), fun c => gate (arr_6 m c), fun c => table (arr_6 m c), fun c => final (arr_6 m c), ?_, ?_⟩
  · refine (θ_run defs _ _).mono (fun r h c => ?_) (run_main m g)
    have held := fun b h1 h2 => (h c).2 b (Pipeline.mem_restRefs_of b h1 h2)
    exact ⟨(held main_v22 rfl (by decide)).trans (left_0 m c).1,
      (held main_v28 rfl (by decide)).trans (left_0 m c).2.1,
      (held main_v29 rfl (by decide)).trans (left_0 m c).2.2.1,
      (held main_v34 rfl (by decide)).trans (left_0 m c).2.2.2.1,
      (held main_v23 rfl (by decide)).trans (left_0 m c).2.2.2.2.1,
      (held main_v24 rfl (by decide)).trans (left_0 m c).2.2.2.2.2.1,
      (held main_v25 rfl (by decide)).trans (left_0 m c).2.2.2.2.2.2.1,
      (held main_v33 rfl (by decide)).trans (left_0 m c).2.2.2.2.2.2.2.1,
      (held main_v27 rfl (by decide)).trans (left_0 m c).2.2.2.2.2.2.2.2,
      (held main_v37 rfl (by decide)).trans (left_1 m c).1,
      (held main_v43 rfl (by decide)).trans (left_1 m c).2.1,
      (held main_v44 rfl (by decide)).trans (left_1 m c).2.2.1,
      (held main_v49 rfl (by decide)).trans (left_1 m c).2.2.2.1,
      (held main_v38 rfl (by decide)).trans (left_1 m c).2.2.2.2.1,
      (held main_v39 rfl (by decide)).trans (left_1 m c).2.2.2.2.2.1,
      (held main_v40 rfl (by decide)).trans (left_1 m c).2.2.2.2.2.2.1,
      (held main_v48 rfl (by decide)).trans (left_1 m c).2.2.2.2.2.2.2.1,
      (held main_v42 rfl (by decide)).trans (left_1 m c).2.2.2.2.2.2.2.2,
      (held main_v52 rfl (by decide)).trans (left_2 m c).1,
      (held main_v58 rfl (by decide)).trans (left_2 m c).2.1,
      (held main_v59 rfl (by decide)).trans (left_2 m c).2.2.1,
      (held main_v64 rfl (by decide)).trans (left_2 m c).2.2.2.1,
      (held main_v53 rfl (by decide)).trans (left_2 m c).2.2.2.2.1,
      (held main_v54 rfl (by decide)).trans (left_2 m c).2.2.2.2.2.1,
      (held main_v55 rfl (by decide)).trans (left_2 m c).2.2.2.2.2.2.1,
      (held main_v63 rfl (by decide)).trans (left_2 m c).2.2.2.2.2.2.2.1,
      (held main_v57 rfl (by decide)).trans (left_2 m c).2.2.2.2.2.2.2.2,
      ((h c).1 1).trans (((dats m 0 c).arrAt_in 1 rfl _).trans ((A_eq m c 1).trans (V_main_arg0 m c))), (held main_arg1 rfl (by decide)).trans (W_main_arg1 m (dats m) c),
      (held main_arg2 rfl (by decide)).trans (W_main_arg2 m (dats m) c),
      (held main_arg3 rfl (by decide)).trans (W_main_arg3 m (dats m) c),
      (held main_arg4 rfl (by decide)).trans (W_main_arg4 m (dats m) c),
      (held main_arg5 rfl (by decide)).trans (W_main_arg5 m (dats m) c),
      (held main_arg6 rfl (by decide)).trans (W_main_arg6 m (dats m) c),
      (held main_arg7 rfl (by decide)).trans (W_main_arg7 m (dats m) c),
      (held main_arg8 rfl (by decide)).trans (W_main_arg8 m (dats m) c),
      (held main_arg9 rfl (by decide)).trans (W_main_arg9 m (dats m) c),
      (held main_arg10 rfl (by decide)).trans (W_main_arg10 m (dats m) c),
      (held main_arg11 rfl (by decide)).trans (W_main_arg11 m (dats m) c),
      (held main_arg12 rfl (by decide)).trans (W_main_arg12 m (dats m) c),
      (held main_arg13 rfl (by decide)).trans (W_main_arg13 m (dats m) c),
      (held main_arg14 rfl (by decide)).trans (W_main_arg14 m (dats m) c),
      (held main_arg15 rfl (by decide)).trans (W_main_arg15 m (dats m) c),
      (held main_arg16 rfl (by decide)).trans (W_main_arg16 m (dats m) c),
      (held main_arg17 rfl (by decide)).trans (W_main_arg17 m (dats m) c),
      (held main_arg18 rfl (by decide)).trans (W_main_arg18 m (dats m) c),
      (held main_arg19 rfl (by decide)).trans (W_main_arg19 m (dats m) c),
      (held main_arg20 rfl (by decide)).trans (W_main_arg20 m (dats m) c),
      (held main_arg21 rfl (by decide)).trans (W_main_arg21 m (dats m) c),
      (held main_arg22 rfl (by decide)).trans (W_main_arg22 m (dats m) c),
      (held main_arg23 rfl (by decide)).trans (W_main_arg23 m (dats m) c),
      (held main_arg24 rfl (by decide)).trans (W_main_arg24 m (dats m) c),
      (held main_arg25 rfl (by decide)).trans (W_main_arg25 m (dats m) c),
      (held main_arg26 rfl (by decide)).trans (W_main_arg26 m (dats m) c),
      (held main_arg27 rfl (by decide)).trans (W_main_arg27 m (dats m) c)⟩
  refine (θ_run Cert.AdamReferenceIdeal.defs _ _).mono (fun r h c => ?_) (Cert.AdamReferenceIdeal.Value.run (F := Ideal) m' g')
  obtain ⟨h_0, h_1, h_2, h_3, h_4, h_5, h_6, h_7, h_8, h_9, h_10, h_11, h_12, h_13, h_14, h_15, h_16, h_17, h_18, h_19, h_20, h_21, h_22, h_23, h_24, h_25, h_26, rest⟩ := h c
  obtain ⟨e_0, e_1, e_2, e_3, e_4, e_5, e_6, e_7, e_8, e_9, e_10, e_11, e_12, e_13, e_14, e_15, e_16, e_17, e_18, e_19, e_20, e_21, e_22, e_23, e_24, e_25, e_26, e_27⟩ := hm c
  have s_attn := same e_1 (congrArg attn e_0) e_10 e_19
  have s_q := same e_2 (congrArg q e_0) e_11 e_20
  have s_k := same e_3 (congrArg k e_0) e_12 e_21
  have s_sink := same e_4 (congrArg sink e_0) e_13 e_22
  have s_mlp := same e_5 (congrArg mlp e_0) e_14 e_23
  have s_ple := same e_6 (congrArg ple e_0) e_15 e_24
  have s_gate := same e_7 (congrArg gate e_0) e_16 e_25
  have s_table := same e_8 (congrArg table e_0) e_17 e_26
  have s_final := same e_9 (congrArg final e_0) e_18 e_27
  exact ⟨h_0.trans (s_attn.1.trans (step_attn m c).1.symm),
    h_1.trans (s_q.1.trans (step_q m c).1.symm),
    h_2.trans (s_k.1.trans (step_k m c).1.symm),
    h_3.trans (s_sink.1.trans (step_sink m c).1.symm),
    h_4.trans (s_mlp.1.trans (step_mlp m c).1.symm),
    h_5.trans (s_ple.1.trans (step_ple m c).1.symm),
    h_6.trans (s_gate.1.trans (step_gate m c).1.symm),
    h_7.trans (s_table.1.trans (step_table m c).1.symm),
    h_8.trans (s_final.1.trans (step_final m c).1.symm),
    h_9.trans (s_attn.2.1.trans (step_attn m c).2.1.symm),
    h_10.trans (s_q.2.1.trans (step_q m c).2.1.symm),
    h_11.trans (s_k.2.1.trans (step_k m c).2.1.symm),
    h_12.trans (s_sink.2.1.trans (step_sink m c).2.1.symm),
    h_13.trans (s_mlp.2.1.trans (step_mlp m c).2.1.symm),
    h_14.trans (s_ple.2.1.trans (step_ple m c).2.1.symm),
    h_15.trans (s_gate.2.1.trans (step_gate m c).2.1.symm),
    h_16.trans (s_table.2.1.trans (step_table m c).2.1.symm),
    h_17.trans (s_final.2.1.trans (step_final m c).2.1.symm),
    h_18.trans (s_attn.2.2.trans (step_attn m c).2.2.symm),
    h_19.trans (s_q.2.2.trans (step_q m c).2.2.symm),
    h_20.trans (s_k.2.2.trans (step_k m c).2.2.symm),
    h_21.trans (s_sink.2.2.trans (step_sink m c).2.2.symm),
    h_22.trans (s_mlp.2.2.trans (step_mlp m c).2.2.symm),
    h_23.trans (s_ple.2.2.trans (step_ple m c).2.2.symm),
    h_24.trans (s_gate.2.2.trans (step_gate m c).2.2.symm),
    h_25.trans (s_table.2.2.trans (step_table m c).2.2.symm),
    h_26.trans (s_final.2.2.trans (step_final m c).2.2.symm), rest⟩

end Cert.AdamEquation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Read
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal.Read
public import proofs.«01_k».proof.Proof.Gen.Weights
public import proofs.«01_k».proof.Proof.Gen.Weights.Skeleton
public import proofs.«01_k».proof.Proof.Gen.Weights.Launch
public import proofs.«01_k».proof.Proof.Gen.Weights.Points
public import proofs.«01_k».proof.Proof.Gen.Weights.Frame
public import proofs.«01_k».proof.Proof.Gen.WeightsIdeal
public import proofs.«01_k».proof.Proof.Gen.WeightsIdeal.Skeleton
public import proofs.«01_k».proof.Proof.Gen.WeightsIdeal.Launch
public import proofs.«01_k».proof.Proof.Gen.WeightsIdeal.Points
public import proofs.«01_k».proof.Proof.Gen.WeightsIdeal.Frame
public import proofs.«01_k».proof.Proof.Gen.WeightsReferenceIdeal.Read
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInReferenceIdeal.Read
public import proofs.«01_k».proof.Proof.Gen.NormGate
public import proofs.«01_k».proof.Proof.Gen.NormGate.Skeleton
public import proofs.«01_k».proof.Proof.Gen.NormGate.Launch
public import proofs.«01_k».proof.Proof.Gen.NormGate.Points
public import proofs.«01_k».proof.Proof.Gen.NormGate.Frame
public import proofs.«01_k».proof.Proof.Gen.NormMlp.Frame
public import proofs.«01_k».proof.Proof.Gen.NormMlpIdeal.Frame
public import proofs.«01_k».proof.Proof.Gen.NormMlpReferenceIdeal.Read
public import proofs.«01_k».proof.Proof.Gen.InProj.Frame
public import proofs.«01_k».proof.Proof.Gen.InProjIdeal.Frame
public import proofs.«01_k».proof.Proof.Gen.InProjReferenceIdeal.Read
public import proofs.«01_k».proof.Proof.Gen.NormGateIdeal
public import proofs.«01_k».proof.Proof.Gen.NormGateIdeal.Skeleton
public import proofs.«01_k».proof.Proof.Gen.NormGateIdeal.Launch
public import proofs.«01_k».proof.Proof.Gen.NormGateIdeal.Points
public import proofs.«01_k».proof.Proof.Gen.NormGateIdeal.Frame
public import proofs.«01_k».proof.Proof.Gen.NormGateReferenceIdeal.Read
public import proofs.«01_k».proof.Proof.Equation
public import proofs.«01_k».proof.Proof.MlpEquation
public import proofs.«01_k».proof.Proof.OutEquation
public import proofs.«01_k».proof.Proof.WeightsEquation
public import proofs.«01_k».proof.Proof.BackInEquation
public import proofs.«01_k».proof.Proof.BackGateEquation
public import proofs.«01_k».proof.Proof.BackMlpEquation
public import proofs.«01_k».proof.Proof.ProjEquation
public import Idealize.ShloMosaic.Adequacy
public import Idealize.ShloMosaic.Init
public import proofs.«01_k».proof.Proof.Gen.Adam.Frame
public import proofs.«01_k».proof.Proof.Gen.AdamIdeal.Frame
public import proofs.«01_k».proof.Proof.Gen.AdamReferenceIdeal.Read
public import proofs.«01_k».proof.Proof.AdamEquation

@[expose] public section

noncomputable section

namespace Cert.Proof

open Idealize.ShloMosaic Idealize.SL.Sem

/-- The kernel runs and ends quiet. -/
theorem frame_k : Cert.quiescent_Kernel := fun m ρ _ => Cert.Kernel.Gen.frame m ρ

/-- So does its idealisation, -/
theorem frame_ki : Cert.quiescent_KernelIdeal := fun m ρ _ => Cert.KernelIdeal.Gen.frame m ρ

/-- and from arguments that meet the precondition. -/
theorem frame_ki_pre : Cert.quiescent_KernelIdeal_pre_finite (hPre_finite := Cert.Domain.facts_pre) :=
  fun m ρ _ => Cert.KernelIdeal.Gen.frame m ρ

/-- The reference runs and ends quiet, -/
theorem frame_ri : Cert.quiescent_ReferenceIdeal := fun m ρ _ =>
  (θ_run Cert.ReferenceIdeal.defs _ _).mono (fun r h => ⟨fun c => ⟨(h c).2.2.2.2.2.1, (h c).2.2.2.2.2.2⟩,
      Idealize.ShloMosaic.sem_eq_zero_of_no_sems (by decide) r.2⟩)
    (Cert.ReferenceIdeal.Value.run (F := Ideal) m ρ)

/-- and from arguments that meet the precondition. -/
theorem frame_ri_pre : Cert.quiescent_ReferenceIdeal_pre_finite (hPre_finite := Cert.Domain.facts_pre) :=
  fun m ρ _ => frame_ri m ρ trivial

/-- The named constants are the numbers their words round. -/
theorem preserves : Cert.preserves_Kernel_KernelIdeal :=
  ⟨IdealRules.named_const.statement Cert.KernelIdeal.κ "scale_log2e" .f32 0x3E0293EE#32 _ rfl,
    IdealRules.named_const.statement Cert.KernelIdeal.κ "log2e" .f32 0x3FB8AA3B#32 _ rfl⟩

/-- The layer's six calls run and end quiet. -/
theorem frame_mlp : Cert.quiescent_Mlp := fun m ρ _ => Cert.Mlp.Gen.frame m ρ

/-- So does their idealisation, -/
theorem frame_mlp_ideal : Cert.quiescent_MlpIdeal := fun m ρ _ => Cert.MlpIdeal.Gen.frame m ρ

/-- and so does the layer's reference. -/
theorem frame_mlp_ref : Cert.quiescent_MlpReferenceIdeal := fun m ρ _ =>
  (θ_run Cert.MlpReferenceIdeal.defs _ _).mono (fun r h => ⟨fun c => (h c).2.2.2.2,
      Idealize.ShloMosaic.sem_eq_zero_of_no_sems (by decide) r.2⟩)
    (Cert.MlpReferenceIdeal.Value.run (F := Ideal) m ρ)

/-- The layer's idealisation rewrites nothing. -/
theorem preserves_mlp : Cert.preserves_Mlp_MlpIdeal := trivial

/-- The calls around the output projection run and end quiet. -/
theorem frame_out : Cert.quiescent_Out := fun m ρ _ => Cert.Out.Gen.frame m ρ

/-- So does their idealisation, -/
theorem frame_out_ideal : Cert.quiescent_OutIdeal := fun m ρ _ => Cert.OutIdeal.Gen.frame m ρ

/-- and so does their reference. -/
theorem frame_out_ref : Cert.quiescent_OutReferenceIdeal := fun m ρ _ =>
  (θ_run Cert.OutReferenceIdeal.defs _ _).mono (fun r h => ⟨fun c => (h c).2.2.2.2,
      Idealize.ShloMosaic.sem_eq_zero_of_no_sems (by decide) r.2⟩)
    (Cert.OutReferenceIdeal.Value.run (F := Ideal) m ρ)

/-- Their idealisation rewrites nothing. -/
theorem preserves_out : Cert.preserves_Out_OutIdeal := trivial

/-- The calls of the norms, the embeddings and the weights' gradients run and end quiet. -/
theorem frame_weights : Cert.quiescent_Weights := fun m ρ _ => Cert.Weights.Gen.frame m ρ

/-- So does their idealisation, -/
theorem frame_weights_ideal : Cert.quiescent_WeightsIdeal := fun m ρ _ => Cert.WeightsIdeal.Gen.frame m ρ

/-- and so does their reference. -/
theorem frame_weights_ref : Cert.quiescent_WeightsReferenceIdeal := fun m ρ _ =>
  (θ_run Cert.WeightsReferenceIdeal.defs _ _).mono (fun r h => ⟨fun c => (h c).2.2.2.2.2.2,
      Idealize.ShloMosaic.sem_eq_zero_of_no_sems (by decide) r.2⟩)
    (Cert.WeightsReferenceIdeal.Value.run (F := Ideal) m ρ)

/-- Their idealisation rewrites nothing. -/
theorem preserves_weights : Cert.preserves_Weights_WeightsIdeal := trivial

/-- The call of the backward pass of the norm before the attention runs and ends quiet. -/
theorem frame_norm_in : Cert.quiescent_NormIn := fun m ρ _ => Cert.NormIn.Gen.frame m ρ

/-- So does its idealisation, -/
theorem frame_norm_in_ideal : Cert.quiescent_NormInIdeal := fun m ρ _ => Cert.NormInIdeal.Gen.frame m ρ

/-- and so does its reference. -/
theorem frame_norm_in_ref : Cert.quiescent_NormInReferenceIdeal := fun m ρ _ =>
  (θ_run Cert.NormInReferenceIdeal.defs _ _).mono (fun r h => ⟨fun c => (h c).2.2,
      Idealize.ShloMosaic.sem_eq_zero_of_no_sems (by decide) r.2⟩)
    (Cert.NormInReferenceIdeal.Value.run (F := Ideal) m ρ)

/-- Its idealisation rewrites nothing. -/
theorem preserves_norm_in : Cert.preserves_NormIn_NormInIdeal := trivial

/-- The call of the backward pass of the norm before the gate runs and ends quiet. -/
theorem frame_norm_gate : Cert.quiescent_NormGate := fun m ρ _ => Cert.NormGate.Gen.frame m ρ

/-- So does its idealisation, -/
theorem frame_norm_gate_ideal : Cert.quiescent_NormGateIdeal := fun m ρ _ => Cert.NormGateIdeal.Gen.frame m ρ

/-- and so does its reference. -/
theorem frame_norm_gate_ref : Cert.quiescent_NormGateReferenceIdeal := fun m ρ _ =>
  (θ_run Cert.NormGateReferenceIdeal.defs _ _).mono (fun r h => ⟨fun c => (h c).2.2.2,
      Idealize.ShloMosaic.sem_eq_zero_of_no_sems (by decide) r.2⟩)
    (Cert.NormGateReferenceIdeal.Value.run (F := Ideal) m ρ)

/-- Its idealisation rewrites nothing. -/
theorem preserves_norm_gate : Cert.preserves_NormGate_NormGateIdeal := trivial

/-- The call of the backward pass of the norm before the squared-relu layer runs and ends quiet. -/
theorem frame_norm_mlp : Cert.quiescent_NormMlp := fun m ρ _ => Cert.NormMlp.Gen.frame m ρ

/-- So does its idealisation, -/
theorem frame_norm_mlp_ideal : Cert.quiescent_NormMlpIdeal := fun m ρ _ => Cert.NormMlpIdeal.Gen.frame m ρ

/-- and so does its reference. -/
theorem frame_norm_mlp_ref : Cert.quiescent_NormMlpReferenceIdeal := fun m ρ _ =>
  (θ_run Cert.NormMlpReferenceIdeal.defs _ _).mono (fun r h => ⟨fun c => (h c).2.2.2,
      Idealize.ShloMosaic.sem_eq_zero_of_no_sems (by decide) r.2⟩)
    (Cert.NormMlpReferenceIdeal.Value.run (F := Ideal) m ρ)

/-- Its idealisation rewrites nothing. -/
theorem preserves_norm_mlp : Cert.preserves_NormMlp_NormMlpIdeal := trivial

/-- The call of the input projection with the norm and rotation of its heads runs and ends quiet. -/
theorem frame_in_proj : Cert.quiescent_InProj := fun m ρ _ => Cert.InProj.Gen.frame m ρ

/-- So does its idealisation, -/
theorem frame_in_proj_ideal : Cert.quiescent_InProjIdeal := fun m ρ _ => Cert.InProjIdeal.Gen.frame m ρ

/-- and so does its reference. -/
theorem frame_in_proj_ref : Cert.quiescent_InProjReferenceIdeal := fun m ρ _ =>
  (θ_run Cert.InProjReferenceIdeal.defs _ _).mono (fun r h => ⟨fun c => (h c).2.2,
      Idealize.ShloMosaic.sem_eq_zero_of_no_sems (by decide) r.2⟩)
    (Cert.InProjReferenceIdeal.Value.run (F := Ideal) m ρ)

/-- Its idealisation rewrites nothing. -/
theorem preserves_in_proj : Cert.preserves_InProj_InProjIdeal := trivial

/-- The call of the optimiser's step of the small parameters runs and ends quiet. -/
theorem frame_adam : Cert.quiescent_Adam := fun m ρ _ => Cert.Adam.Gen.frame m ρ

/-- So does its idealisation, -/
theorem frame_adam_ideal : Cert.quiescent_AdamIdeal := fun m ρ _ => Cert.AdamIdeal.Gen.frame m ρ

/-- and so does its reference. -/
theorem frame_adam_ref : Cert.quiescent_AdamReferenceIdeal := fun m ρ _ =>
  (θ_run Cert.AdamReferenceIdeal.defs _ _).mono (fun r h => ⟨fun c => (h c).2.2.2.2.2.2.2.2.2.2.2.2.2.2.2.2.2.2.2.2.2.2.2.2.2.2.2,
      Idealize.ShloMosaic.sem_eq_zero_of_no_sems (by decide) r.2⟩)
    (Cert.AdamReferenceIdeal.Value.run (F := Ideal) m ρ)

/-- Its idealisation rewrites nothing. -/
theorem preserves_adam : Cert.preserves_Adam_AdamIdeal := trivial

/-- All that is claimed. -/
theorem claim : Cert.Claim :=
  ⟨Cert.Kernel.Gen.facts, Cert.KernelIdeal.Gen.facts, Cert.ReferenceIdeal.Gen.facts, Cert.Mlp.Gen.facts, Cert.MlpIdeal.Gen.facts,
    Cert.MlpReferenceIdeal.Gen.facts, Cert.Out.Gen.facts, Cert.OutIdeal.Gen.facts, Cert.OutReferenceIdeal.Gen.facts,
    Cert.Weights.Gen.facts, Cert.WeightsIdeal.Gen.facts, Cert.WeightsReferenceIdeal.Gen.facts,
    Cert.NormIn.Gen.facts, Cert.NormInIdeal.Gen.facts, Cert.NormInReferenceIdeal.Gen.facts,
    Cert.NormGate.Gen.facts, Cert.NormGateIdeal.Gen.facts, Cert.NormGateReferenceIdeal.Gen.facts,
    Cert.NormMlp.Gen.facts, Cert.NormMlpIdeal.Gen.facts, Cert.NormMlpReferenceIdeal.Gen.facts,
    Cert.InProj.Gen.facts, Cert.InProjIdeal.Gen.facts, Cert.InProjReferenceIdeal.Gen.facts,
    Cert.Adam.Gen.facts, Cert.AdamIdeal.Gen.facts, Cert.AdamReferenceIdeal.Gen.facts,
    Cert.Domain.facts_pre, Cert.Domain.facts_on,
    frame_k, frame_ki, frame_ki_pre, frame_ri, frame_ri_pre, frame_mlp, frame_mlp_ideal, frame_mlp_ref,
    frame_out, frame_out_ideal, frame_out_ref, frame_weights, frame_weights_ideal, frame_weights_ref,
    frame_norm_in, frame_norm_in_ideal, frame_norm_in_ref, frame_norm_gate, frame_norm_gate_ideal, frame_norm_gate_ref,
    frame_norm_mlp, frame_norm_mlp_ideal, frame_norm_mlp_ref, frame_in_proj, frame_in_proj_ideal, frame_in_proj_ref,
    frame_adam, frame_adam_ideal, frame_adam_ref,
    preserves, Cert.Equation.algebraic, preserves_mlp, Cert.MlpEquation.algebraic, preserves_out, Cert.OutEquation.algebraic,
    preserves_weights, Cert.WeightsEquation.algebraic, preserves_norm_in, Cert.BackInEquation.algebraic,
    preserves_norm_gate, Cert.BackGateEquation.algebraic,
    preserves_norm_mlp, Cert.BackMlpEquation.algebraic, preserves_in_proj, Cert.ProjEquation.algebraic, preserves_adam, Cert.AdamEquation.algebraic⟩

end Cert.Proof

end
